-- ==== Defs.lean ====
def Pre_Kernel (m : (ℓ : Loc Cert.Kernel.nD Cert.Kernel.τ Cert.Kernel.sig) → Buf (Elt Bits) ℓ) : Prop :=
  True

def Pre_Kernel_blank_memory [hPre_blank_memory : Cert.Pre_blank_memory.Facts] (m : (ℓ : Loc Cert.Kernel.nD Cert.Kernel.τ Cert.Kernel.sig) → Buf (Elt Bits) ℓ) : Prop :=
  ∀ c : Dev Cert.Kernel.nD,
    (Cert.Pre_blank_memory.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).1 = (fun _ => 1#1)
    ∧ (Cert.Pre_blank_memory.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.1 = (fun _ => 1#1)
    ∧ (Cert.Pre_blank_memory.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.1 = (fun _ => 1#1)
    ∧ (Cert.Pre_blank_memory.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))).2.2.2 = (fun _ => 1#1)

def Pre_KernelIdeal (m : (ℓ : Loc Cert.KernelIdeal.nD Cert.KernelIdeal.τ Cert.KernelIdeal.sig) → Buf (Elt Ideal) ℓ) : Prop :=
  True

def Pre_KernelIdeal_empty_memory [hPre_empty_memory : Cert.Pre_empty_memory.Facts] (m : (ℓ : Loc Cert.KernelIdeal.nD Cert.KernelIdeal.τ Cert.KernelIdeal.sig) → Buf (Elt Ideal) ℓ) : Prop :=
  ∀ c : Dev Cert.KernelIdeal.nD,
    (Cert.Pre_empty_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_empty_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_empty_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_empty_memory.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_empty_memory [hPre_empty_memory : Cert.Pre_empty_memory.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_empty_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_empty_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_empty_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_empty_memory.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_Reference [hPre_blank_memory : Cert.Pre_blank_memory.Facts] (m : (ℓ : Loc Cert.Reference.nD Cert.Reference.τ Cert.Reference.sig) → Buf (Elt Bits) ℓ) : Prop :=
  ∀ c : Dev Cert.Reference.nD,
    (Cert.Pre_blank_memory.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).1 = (fun _ => 1#1)
    ∧ (Cert.Pre_blank_memory.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.1 = (fun _ => 1#1)
    ∧ (Cert.Pre_blank_memory.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.2.1 = (fun _ => 1#1)
    ∧ (Cert.Pre_blank_memory.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4)) (m ((c.tc : Thread Cert.Reference.nD Cert.Reference.τ).loc Cert.Reference.main_arg5)) (m ((c.tc : Thread Cert.Reference.nD Cert.Reference.τ).loc Cert.Reference.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel_pre_blank_memory [hKernel : Cert.Kernel.Facts] [hPre_blank_memory : Cert.Pre_blank_memory.Facts] : Prop :=
  ∀ (m : (ℓ : Loc Cert.Kernel.nD Cert.Kernel.τ Cert.Kernel.sig) → Buf (Elt Bits) ℓ) (g : Dev Cert.Kernel.nD → PrngReg), Pre_Kernel_blank_memory m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_empty_memory [hKernelIdeal : Cert.KernelIdeal.Facts] [hPre_empty_memory : Cert.Pre_empty_memory.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_empty_memory m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_empty_memory [hReferenceIdeal : Cert.ReferenceIdeal.Facts] [hPre_empty_memory : Cert.Pre_empty_memory.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_empty_memory m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] [hPre_blank_memory : Cert.Pre_blank_memory.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def preserves_Kernel_KernelIdeal : Prop :=
  True

def algebraic_KernelIdeal_ReferenceIdeal_pre_empty_memory [hKernelIdeal : Cert.KernelIdeal.Facts] [hReferenceIdeal : Cert.ReferenceIdeal.Facts] [hPre_empty_memory : Cert.Pre_empty_memory.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_empty_memory m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_8) = v0 c
          ∧ r.2.mem ((c.tc : Thread Cert.ReferenceIdeal.nD Cert.ReferenceIdeal.τ).loc Cert.ReferenceIdeal.main_v5_9) = v1 c
          ∧ r.2.mem ((c.tc : Thread Cert.ReferenceIdeal.nD Cert.ReferenceIdeal.τ).loc Cert.ReferenceIdeal.main_v5_10) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def bitexact_Kernel_Reference_pre_blank_memory [hKernel : Cert.Kernel.Facts] [hReference : Cert.Reference.Facts] [hPre_blank_memory : Cert.Pre_blank_memory.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_blank_memory m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)
      ∧ m' ((c.tc : Thread Cert.Reference.nD Cert.Reference.τ).loc Cert.Reference.main_arg6) = m ((c.tc : Thread Cert.Kernel.nD Cert.Kernel.τ).loc Cert.Kernel.main_arg6)) →
    ∃ (v0 : (c : Dev Cert.Kernel.nD) → Buf (Elt Bits) ((c.tc : Thread Cert.Kernel.nD Cert.Kernel.τ).loc Cert.Kernel.main_v9)) (v1 : (c : Dev Cert.Kernel.nD) → Buf (Elt Bits) ((c.tc : Thread Cert.Kernel.nD Cert.Kernel.τ).loc Cert.Kernel.main_v8)) (v2 : (c : Dev Cert.Kernel.nD) → Buf (Elt Bits) ((c.tc : Thread Cert.Kernel.nD Cert.Kernel.τ).loc Cert.Kernel.main_v12)) (v3 : (c : Dev Cert.Kernel.nD) → Buf (Elt Bits) ((c.tc : Thread Cert.Kernel.nD Cert.Kernel.τ).loc Cert.Kernel.main_v5_2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v9) = v0 c
          ∧ r.2.mem ((c.tc : Thread Cert.Kernel.nD Cert.Kernel.τ).loc Cert.Kernel.main_v8) = v1 c
          ∧ r.2.mem ((c.tc : Thread Cert.Kernel.nD Cert.Kernel.τ).loc Cert.Kernel.main_v12) = v2 c
          ∧ r.2.mem ((c.tc : Thread Cert.Kernel.nD Cert.Kernel.τ).loc Cert.Kernel.main_v5_2) = v3 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5)
          ∧ r.2.mem ((c.tc : Thread Cert.Kernel.nD Cert.Kernel.τ).loc Cert.Kernel.main_arg6) = m ((c.tc : Thread Cert.Kernel.nD Cert.Kernel.τ).loc Cert.Kernel.main_arg6))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5_8) = v0 c
          ∧ r.2.mem ((c.tc : Thread Cert.Reference.nD Cert.Reference.τ).loc Cert.Reference.main_v5_9) = v1 c
          ∧ r.2.mem ((c.tc : Thread Cert.Reference.nD Cert.Reference.τ).loc Cert.Reference.main_v5_10) = v2 c
          ∧ r.2.mem ((c.tc : Thread Cert.Reference.nD Cert.Reference.τ).loc Cert.Reference.main_v6) = v3 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5)
          ∧ r.2.mem ((c.tc : Thread Cert.Reference.nD Cert.Reference.τ).loc Cert.Reference.main_arg6) = m' ((c.tc : Thread Cert.Reference.nD Cert.Reference.τ).loc Cert.Reference.main_arg6))

def Claim : Prop :=
  ∃ (hKernel : Cert.Kernel.Facts) (hKernelIdeal : Cert.KernelIdeal.Facts) (hReferenceIdeal : Cert.ReferenceIdeal.Facts) (hReference : Cert.Reference.Facts) (hPre_blank_memory : Cert.Pre_blank_memory.Facts) (hPre_empty_memory : Cert.Pre_empty_memory.Facts),
    quiescent_Kernel (hKernel := hKernel)
    ∧ quiescent_Kernel_pre_blank_memory (hKernel := hKernel) (hPre_blank_memory := hPre_blank_memory)
    ∧ quiescent_KernelIdeal (hKernelIdeal := hKernelIdeal)
    ∧ quiescent_KernelIdeal_pre_empty_memory (hKernelIdeal := hKernelIdeal) (hPre_empty_memory := hPre_empty_memory)
    ∧ quiescent_ReferenceIdeal (hReferenceIdeal := hReferenceIdeal)
    ∧ quiescent_ReferenceIdeal_pre_empty_memory (hReferenceIdeal := hReferenceIdeal) (hPre_empty_memory := hPre_empty_memory)
    ∧ quiescent_Reference (hReference := hReference) (hPre_blank_memory := hPre_blank_memory)
    ∧ preserves_Kernel_KernelIdeal
    ∧ algebraic_KernelIdeal_ReferenceIdeal_pre_empty_memory (hKernelIdeal := hKernelIdeal) (hReferenceIdeal := hReferenceIdeal) (hPre_empty_memory := hPre_empty_memory)
    ∧ bitexact_Kernel_Reference_pre_blank_memory (hKernel := hKernel) (hReference := hReference) (hPre_blank_memory := hPre_blank_memory)
-- ==== Pre_blank_memory.lean ====
abbrev S4x16x640 : Shape := ⟨3, ![4, 16, 640]⟩
abbrev S4x16x640x16x16 : Shape := ⟨5, ![4, 16, 640, 16, 16]⟩
abbrev S4x16 : Shape := ⟨2, ![4, 16]⟩
abbrev S4x32x640 : Shape := ⟨3, ![4, 32, 640]⟩
abbrev S4x32x640x16x16 : Shape := ⟨5, ![4, 32, 640, 16, 16]⟩
abbrev S4x32 : Shape := ⟨2, ![4, 32]⟩
abbrev S4 : Shape := ⟨1, ![4]⟩
abbrev S_ : Shape := ⟨0, ![]⟩

class Facts : Prop where
  bcast_S_S4x32x640 : S_.BroadcastsInDim S4x32x640 (![] : Fin 0 → Fin S4x32x640.rank)
  bcast_S_S4x32x640x16x16 : S_.BroadcastsInDim S4x32x640x16x16 (![] : Fin 0 → Fin S4x32x640x16x16.rank)
  bcast_S_S4 : S_.BroadcastsInDim S4 (![] : Fin 0 → Fin S4.rank)

variable [Facts]

def fn {F : FTy → Type} [BitOps F] (main_arg0 : FVec F S4x16x640 .f32) (main_arg1 : FVec F S4x16x640x16x16 .f32) (main_arg2 : IVec S4x16 1) (main_arg3 : FVec F S4x32x640 .f32) (main_arg4 : FVec F S4x32x640x16x16 .f32) (main_arg5 : IVec S4x32 1) (main_arg6 : IVec S4 32) : IVec S4x32x640 1 × IVec S4x32x640x16x16 1 × IVec S4x32 1 × IVec S4 1 :=
  let main_v0 : IVec S4x32x640 32 := bitcastToInt main_arg3
  let main_c : IVec S_ 32 := constantI S_ 32 0#32
  let main_v1 : IVec S4x32x640 32 := broadcastInDim S4x32x640 ![] bcast_S_S4x32x640 main_c
  let main_v2 : IVec S4x32x640 1 := cmpi .eq main_v0 main_v1
  let main_v3 : IVec S4x32x640x16x16 32 := bitcastToInt main_arg4
  let main_c_0 : IVec S_ 32 := constantI S_ 32 0#32
  let main_v4 : IVec S4x32x640x16x16 32 := broadcastInDim S4x32x640x16x16 ![] bcast_S_S4x32x640x16x16 main_c_0
  let main_v5 : IVec S4x32x640x16x16 1 := cmpi .eq main_v3 main_v4
  let main_v6 : IVec S4x32 1 := noti main_arg5
  let main_c_1 : IVec S_ 32 := constantI S_ 32 0#32
  let main_v7 : IVec S4 32 := broadcastInDim S4 ![] bcast_S_S4 main_c_1
  let main_v8 : IVec S4 1 := cmpi .eq main_arg6 main_v7
  (main_v2, main_v5, main_v6, main_v8)
-- ==== Pre_empty_memory.lean ====
abbrev S4x16x640 : Shape := ⟨3, ![4, 16, 640]⟩
abbrev S4x16x640x16x16 : Shape := ⟨5, ![4, 16, 640, 16, 16]⟩
abbrev S4x16 : Shape := ⟨2, ![4, 16]⟩
abbrev S4x32x640 : Shape := ⟨3, ![4, 32, 640]⟩
abbrev S4x32x640x16x16 : Shape := ⟨5, ![4, 32, 640, 16, 16]⟩
abbrev S4x32 : Shape := ⟨2, ![4, 32]⟩
abbrev S4 : Shape := ⟨1, ![4]⟩
abbrev S_ : Shape := ⟨0, ![]⟩

class Facts : Prop where
  bcast_S_S4x32x640 : S_.BroadcastsInDim S4x32x640 (![] : Fin 0 → Fin S4x32x640.rank)
  bcast_S_S4x32x640x16x16 : S_.BroadcastsInDim S4x32x640x16x16 (![] : Fin 0 → Fin S4x32x640x16x16.rank)
  bcast_S_S4 : S_.BroadcastsInDim S4 (![] : Fin 0 → Fin S4.rank)

variable [Facts]

def fn {F : FTy → Type} [FloatOps F] (main_arg0 : FVec F S4x16x640 .f32) (main_arg1 : FVec F S4x16x640x16x16 .f32) (main_arg2 : IVec S4x16 1) (main_arg3 : FVec F S4x32x640 .f32) (main_arg4 : FVec F S4x32x640x16x16 .f32) (main_arg5 : IVec S4x32 1) (main_arg6 : IVec S4 32) : IVec S4x32x640 1 × IVec S4x32x640x16x16 1 × IVec S4x32 1 × IVec S4 1 :=
  let main_cst : FVec F S_ .f32 := constant S_ .f32 0x00000000#32
  let main_v0 : FVec F S4x32x640 .f32 := broadcastInDim S4x32x640 ![] bcast_S_S4x32x640 main_cst
  let main_v1 : IVec S4x32x640 1 := cmpf .oeq main_arg3 main_v0
  let main_cst_0 : FVec F S_ .f32 := constant S_ .f32 0x00000000#32
  let main_v2 : FVec F S4x32x640x16x16 .f32 := broadcastInDim S4x32x640x16x16 ![] bcast_S_S4x32x640x16x16 main_cst_0
  let main_v3 : IVec S4x32x640x16x16 1 := cmpf .oeq main_arg4 main_v2
  let main_v4 : IVec S4x32 1 := noti main_arg5
  let main_c : IVec S_ 32 := constantI S_ 32 0#32
  let main_v5 : IVec S4 32 := broadcastInDim S4 ![] bcast_S_S4 main_c
  let main_v6 : IVec S4 1 := cmpi .eq main_arg6 main_v5
  (main_v1, main_v3, main_v4, main_v6)
-- ==== Kernel.lean ====
abbrev S4x16x640 : Shape := ⟨3, ![4, 16, 640]⟩
abbrev S4x16x640x16x16 : Shape := ⟨5, ![4, 16, 640, 16, 16]⟩
abbrev S4x16 : Shape := ⟨2, ![4, 16]⟩
abbrev S4x32x640 : Shape := ⟨3, ![4, 32, 640]⟩
abbrev S4x32x640x16x16 : Shape := ⟨5, ![4, 32, 640, 16, 16]⟩
abbrev S4x32 : Shape := ⟨2, ![4, 32]⟩
abbrev S4 : Shape := ⟨1, ![4]⟩
abbrev S4x10240 : Shape := ⟨2, ![4, 10240]⟩
abbrev S_ : Shape := ⟨0, ![]⟩
abbrev S640 : Shape := ⟨1, ![640]⟩
abbrev S4x16x16x16x640 : Shape := ⟨5, ![4, 16, 16, 16, 640]⟩
abbrev S4x16x256x640 : Shape := ⟨4, ![4, 16, 256, 640]⟩
abbrev S4x32x256x640 : Shape := ⟨4, ![4, 32, 256, 640]⟩
abbrev S5x256x640 : Shape := ⟨3, ![5, 256, 640]⟩
abbrev S1x1 : Shape := ⟨2, ![1, 1]⟩
abbrev S1 : Shape := ⟨1, ![1]⟩
abbrev S1x256x640 : Shape := ⟨3, ![1, 256, 640]⟩
abbrev S256x640 : Shape := ⟨2, ![256, 640]⟩
abbrev S1x1x256x640 : Shape := ⟨4, ![1, 1, 256, 640]⟩
abbrev S4x20480 : Shape := ⟨2, ![4, 20480]⟩
abbrev S1x640 : Shape := ⟨2, ![1, 640]⟩
abbrev S4x32x16x16x640 : Shape := ⟨5, ![4, 32, 16, 16, 640]⟩

abbrev nBuf : Table → Nat
  | .hbm => 24
  | .local .tc .vmem => 1
  | .local .tc .smem => 3
  | .local .scScalar .smem => 1
  | _ => 0

abbrev bufTy : (tb : Table) → Fin (nBuf tb) → BufTy
  | .hbm, ⟨0, _⟩ => ⟨S4x16x640, .f32⟩
  | .hbm, ⟨1, _⟩ => ⟨S4x16x640x16x16, .f32⟩
  | .hbm, ⟨2, _⟩ => ⟨S4x16, .i1⟩
  | .hbm, ⟨3, _⟩ => ⟨S4x32x640, .f32⟩
  | .hbm, ⟨4, _⟩ => ⟨S4x32x640x16x16, .f32⟩
  | .hbm, ⟨5, _⟩ => ⟨S4x32, .i1⟩
  | .hbm, ⟨6, _⟩ => ⟨S4, .i32⟩
  | .hbm, ⟨7, _⟩ => ⟨S4x16, .i32⟩
  | .hbm, ⟨8, _⟩ => ⟨S4x10240, .f32⟩
  | .hbm, ⟨9, _⟩ => ⟨S_, .f32⟩
  | .hbm, ⟨10, _⟩ => ⟨S640, .f32⟩
  | .hbm, ⟨11, _⟩ => ⟨S4x16x16x16x640, .f32⟩
  | .hbm, ⟨12, _⟩ => ⟨S4x16x256x640, .f32⟩
  | .hbm, ⟨13, _⟩ => ⟨S4x32x256x640, .f32⟩
  | .hbm, ⟨14, _⟩ => ⟨S4x32, .i32⟩
  | .hbm, ⟨15, _⟩ => ⟨S4, .i32⟩
  | .hbm, ⟨16, _⟩ => ⟨S4x20480, .f32⟩
  | .hbm, ⟨17, _⟩ => ⟨S4x32x16x16x640, .f32⟩
  | .hbm, ⟨18, _⟩ => ⟨S4x32x640x16x16, .f32⟩
  | .hbm, ⟨19, _⟩ => ⟨S4x32x640, .f32⟩
  | .hbm, ⟨20, _⟩ => ⟨S_, .i32⟩
  | .hbm, ⟨21, _⟩ => ⟨S4x32, .i32⟩
  | .hbm, ⟨22, _⟩ => ⟨S4x32, .i1⟩
  | .hbm, ⟨23, _⟩ => ⟨S4x32, .i1⟩
  | .local .tc .vmem, ⟨0, _⟩ => ⟨S5x256x640, .f32⟩
  | .local .tc .smem, ⟨0, _⟩ => ⟨S4x16, .i32⟩
  | .local .tc .smem, ⟨1, _⟩ => ⟨S4x32, .i32⟩
  | .local .tc .smem, ⟨2, _⟩ => ⟨S4, .i32⟩
  | .local .scScalar .smem, ⟨0, _⟩ => ⟨S4x16, .i32⟩
  | _, _ => ⟨S4x16x640, .f32⟩

abbrev bufScoped : (cs : CoreSpace) → Fin (nBuf (.local .tc cs)) → Bool
  | .vmem, ⟨0, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v1_scs : Ref sig .scScalar := ⟨.hbm, 8, rfl⟩
abbrev main_v0_scs : Ref sig .scScalar := ⟨.hbm, 7, rfl⟩
abbrev main_v2_scs : Ref sig .scScalar := ⟨.hbm, 10, rfl⟩
abbrev main_v6_scs : Ref sig .scScalar := ⟨.hbm, 16, rfl⟩
abbrev cc0_scratch0 : Ref sig .tc := ⟨.vmem, 0, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc1_scratch0 : Ref sig .scScalar := ⟨.smem, 0, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

def k0_off1 (v31 : BitVec 32) (v34 : BitVec 32) (v37 : BitVec 32) (v40 : BitVec 32) (v43 : BitVec 32) (v46 : BitVec 32) (v49 : BitVec 32) (v52 : BitVec 32) (v55 : BitVec 32) (v58 : BitVec 32) (v61 : BitVec 32) (v64 : BitVec 32) (v67 : BitVec 32) (v70 : BitVec 32) (v73 : BitVec 32) (v76 : BitVec 32) : Fin 4 → Nat :=
  let c0_i32_194 : BitVec 32 := 0#32
  let c0_i32_63 : BitVec 32 := 0#32
  let v77 : BitVec 1 := Scalar.cmpi .sgt v76 c0_i32_63
  let c0_i32_64 : BitVec 32 := 0#32
  let c0_i32_60 : BitVec 32 := 0#32
  let v74 : BitVec 1 := Scalar.cmpi .sgt v73 c0_i32_60
  let c1_i32 : BitVec 32 := 1#32
  let c0_i32_57 : BitVec 32 := 0#32
  let v71 : BitVec 1 := Scalar.cmpi .sgt v70 c0_i32_57
  let c2_i32 : BitVec 32 := 2#32
  let c0_i32_54 : BitVec 32 := 0#32
  let v68 : BitVec 1 := Scalar.cmpi .sgt v67 c0_i32_54
  let c3_i32 : BitVec 32 := 3#32
  let c0_i32_51 : BitVec 32 := 0#32
  let v65 : BitVec 1 := Scalar.cmpi .sgt v64 c0_i32_51
  let c4_i32 : BitVec 32 := 4#32
  let c0_i32_48 : BitVec 32 := 0#32
  let v62 : BitVec 1 := Scalar.cmpi .sgt v61 c0_i32_48
  let c5_i32 : BitVec 32 := 5#32
  let c0_i32_45 : BitVec 32 := 0#32
  let v59 : BitVec 1 := Scalar.cmpi .sgt v58 c0_i32_45
  let c6_i32 : BitVec 32 := 6#32
  let c0_i32_42 : BitVec 32 := 0#32
  let v56 : BitVec 1 := Scalar.cmpi .sgt v55 c0_i32_42
  let c7_i32 : BitVec 32 := 7#32
  let c0_i32_39 : BitVec 32 := 0#32
  let v53 : BitVec 1 := Scalar.cmpi .sgt v52 c0_i32_39
  let c8_i32 : BitVec 32 := 8#32
  let c0_i32_36 : BitVec 32 := 0#32
  let v50 : BitVec 1 := Scalar.cmpi .sgt v49 c0_i32_36
  let c9_i32 : BitVec 32 := 9#32
  let c0_i32_33 : BitVec 32 := 0#32
  let v47 : BitVec 1 := Scalar.cmpi .sgt v46 c0_i32_33
  let c10_i32 : BitVec 32 := 10#32
  let c0_i32_30 : BitVec 32 := 0#32
  let v44 : BitVec 1 := Scalar.cmpi .sgt v43 c0_i32_30
  let c11_i32 : BitVec 32 := 11#32
  let c0_i32_27 : BitVec 32 := 0#32
  let v41 : BitVec 1 := Scalar.cmpi .sgt v40 c0_i32_27
  let c12_i32 : BitVec 32 := 12#32
  let c0_i32_24 : BitVec 32 := 0#32
  let v38 : BitVec 1 := Scalar.cmpi .sgt v37 c0_i32_24
  let c13_i32 : BitVec 32 := 13#32
  let c0_i32_21 : BitVec 32 := 0#32
  let v35 : BitVec 1 := Scalar.cmpi .sgt v34 c0_i32_21
  let c14_i32 : BitVec 32 := 14#32
  let c0_i32 : BitVec 32 := 0#32
  let v32 : BitVec 1 := Scalar.cmpi .sgt v31 c0_i32
  let c15_i32 : BitVec 32 := 15#32
  let c0_i32_18 : BitVec 32 := 0#32
  let v33 : BitVec 32 := Scalar.select v32 c15_i32 c0_i32_18
  let v36 : BitVec 32 := Scalar.select v35 c14_i32 v33
  let v39 : BitVec 32 := Scalar.select v38 c13_i32 v36
  let v42 : BitVec 32 := Scalar.select v41 c12_i32 v39
  let v45 : BitVec 32 := Scalar.select v44 c11_i32 v42
  let v48 : BitVec 32 := Scalar.select v47 c10_i32 v45
  let v51 : BitVec 32 := Scalar.select v50 c9_i32 v48
  let v54 : BitVec 32 := Scalar.select v53 c8_i32 v51
  let v57 : BitVec 32 := Scalar.select v56 c7_i32 v54
  let v60 : BitVec 32 := Scalar.select v59 c6_i32 v57
  let v63 : BitVec 32 := Scalar.select v62 c5_i32 v60
  let v66 : BitVec 32 := Scalar.select v65 c4_i32 v63
  let v69 : BitVec 32 := Scalar.select v68 c3_i32 v66
  let v72 : BitVec 32 := Scalar.select v71 c2_i32 v69
  let v75 : BitVec 32 := Scalar.select v74 c1_i32 v72
  let v78 : BitVec 32 := Scalar.select v77 c0_i32_64 v75
  let c0_i32_198 : BitVec 32 := 0#32
  let c0_i32_199 : BitVec 32 := 0#32
  ![0, v78.toNat, 0, 0]

def k0_chk1 (v31 : BitVec 32) (v34 : BitVec 32) (v37 : BitVec 32) (v40 : BitVec 32) (v43 : BitVec 32) (v46 : BitVec 32) (v49 : BitVec 32) (v52 : BitVec 32) (v55 : BitVec 32) (v58 : BitVec 32) (v61 : BitVec 32) (v64 : BitVec 32) (v67 : BitVec 32) (v70 : BitVec 32) (v73 : BitVec 32) (v76 : BitVec 32) : Prop :=
  (∀ a, (k0_off1 v31 v34 v37 v40 v43 v46 v49 v52 v55 v58 v61 v64 v67 v70 v73 v76) a + S1x1x256x640.size a ≤ S4x16x256x640.size a)
theorem k0_off1_inb : ∀ (v31 : BitVec 32) (v34 : BitVec 32) (v37 : BitVec 32) (v40 : BitVec 32) (v43 : BitVec 32) (v46 : BitVec 32) (v49 : BitVec 32) (v52 : BitVec 32) (v55 : BitVec 32) (v58 : BitVec 32) (v61 : BitVec 32) (v64 : BitVec 32) (v67 : BitVec 32) (v70 : BitVec 32) (v73 : BitVec 32) (v76 : BitVec 32) (k0_hw1 : k0_chk1 v31 v34 v37 v40 v43 v46 v49 v52 v55 v58 v61 v64 v67 v70 v73 v76), ∀ a, (k0_off1 v31 v34 v37 v40 v43 v46 v49 v52 v55 v58 v61 v64 v67 v70 v73 v76) a + S1x1x256x640.size a ≤ S4x16x256x640.size a := fun v31 v34 v37 v40 v43 v46 v49 v52 v55 v58 v61 v64 v67 v70 v73 v76 k0_hw1 => k0_hw1

def k0_off2 (v211 : BitVec 32) (v214 : BitVec 32) (v217 : BitVec 32) (v220 : BitVec 32) (v223 : BitVec 32) (v226 : BitVec 32) (v229 : BitVec 32) (v232 : BitVec 32) (v235 : BitVec 32) (v238 : BitVec 32) (v241 : BitVec 32) (v244 : BitVec 32) (v247 : BitVec 32) (v250 : BitVec 32) (v253 : BitVec 32) (v256 : BitVec 32) : Fin 4 → Nat :=
  let c1_i32_458 : BitVec 32 := 1#32
  let c0_i32_295 : BitVec 32 := 0#32
  let v257 : BitVec 1 := Scalar.cmpi .sgt v256 c0_i32_295
  let c0_i32_296 : BitVec 32 := 0#32
  let c0_i32_291 : BitVec 32 := 0#32
  let v254 : BitVec 1 := Scalar.cmpi .sgt v253 c0_i32_291
  let c1_i32_292 : BitVec 32 := 1#32
  let c0_i32_287 : BitVec 32 := 0#32
  let v251 : BitVec 1 := Scalar.cmpi .sgt v250 c0_i32_287
  let c2_i32_288 : BitVec 32 := 2#32
  let c0_i32_283 : BitVec 32 := 0#32
  let v248 : BitVec 1 := Scalar.cmpi .sgt v247 c0_i32_283
  let c3_i32_284 : BitVec 32 := 3#32
  let c0_i32_279 : BitVec 32 := 0#32
  let v245 : BitVec 1 := Scalar.cmpi .sgt v244 c0_i32_279
  let c4_i32_280 : BitVec 32 := 4#32
  let c0_i32_275 : BitVec 32 := 0#32
  let v242 : BitVec 1 := Scalar.cmpi .sgt v241 c0_i32_275
  let c5_i32_276 : BitVec 32 := 5#32
  let c0_i32_271 : BitVec 32 := 0#32
  let v239 : BitVec 1 := Scalar.cmpi .sgt v238 c0_i32_271
  let c6_i32_272 : BitVec 32 := 6#32
  let c0_i32_267 : BitVec 32 := 0#32
  let v236 : BitVec 1 := Scalar.cmpi .sgt v235 c0_i32_267
  let c7_i32_268 : BitVec 32 := 7#32
  let c0_i32_263 : BitVec 32 := 0#32
  let v233 : BitVec 1 := Scalar.cmpi .sgt v232 c0_i32_263
  let c8_i32_264 : BitVec 32 := 8#32
  let c0_i32_259 : BitVec 32 := 0#32
  let v230 : BitVec 1 := Scalar.cmpi .sgt v229 c0_i32_259
  let c9_i32_260 : BitVec 32 := 9#32
  let c0_i32_255 : BitVec 32 := 0#32
  let v227 : BitVec 1 := Scalar.cmpi .sgt v226 c0_i32_255
  let c10_i32_256 : BitVec 32 := 10#32
  let c0_i32_251 : BitVec 32 := 0#32
  let v224 : BitVec 1 := Scalar.cmpi .sgt v223 c0_i32_251
  let c11_i32_252 : BitVec 32 := 11#32
  let c0_i32_247 : BitVec 32 := 0#32
  let v221 : BitVec 1 := Scalar.cmpi .sgt v220 c0_i32_247
  let c12_i32_248 : BitVec 32 := 12#32
  let c0_i32_243 : BitVec 32 := 0#32
  let v218 : BitVec 1 := Scalar.cmpi .sgt v217 c0_i32_243
  let c13_i32_244 : BitVec 32 := 13#32
  let c0_i32_239 : BitVec 32 := 0#32
  let v215 : BitVec 1 := Scalar.cmpi .sgt v214 c0_i32_239
  let c14_i32_240 : BitVec 32 := 14#32
  let c0_i32_234 : BitVec 32 := 0#32
  let v212 : BitVec 1 := Scalar.cmpi .sgt v211 c0_i32_234
  let c15_i32_235 : BitVec 32 := 15#32
  let c0_i32_236 : BitVec 32 := 0#32
  let v213 : BitVec 32 := Scalar.select v212 c15_i32_235 c0_i32_236
  let v216 : BitVec 32 := Scalar.select v215 c14_i32_240 v213
  let v219 : BitVec 32 := Scalar.select v218 c13_i32_244 v216
  let v222 : BitVec 32 := Scalar.select v221 c12_i32_248 v219
  let v225 : BitVec 32 := Scalar.select v224 c11_i32_252 v222
  let v228 : BitVec 32 := Scalar.select v227 c10_i32_256 v225
  let v231 : BitVec 32 := Scalar.select v230 c9_i32_260 v228
  let v234 : BitVec 32 := Scalar.select v233 c8_i32_264 v231
  let v237 : BitVec 32 := Scalar.select v236 c7_i32_268 v234
  let v240 : BitVec 32 := Scalar.select v239 c6_i32_272 v237
  let v243 : BitVec 32 := Scalar.select v242 c5_i32_276 v240
  let v246 : BitVec 32 := Scalar.select v245 c4_i32_280 v243
  let v249 : BitVec 32 := Scalar.select v248 c3_i32_284 v246
  let v252 : BitVec 32 := Scalar.select v251 c2_i32_288 v249
  let v255 : BitVec 32 := Scalar.select v254 c1_i32_292 v252
  let v258 : BitVec 32 := Scalar.select v257 c0_i32_296 v255
  let c0_i32_462 : BitVec 32 := 0#32
  let c0_i32_463 : BitVec 32 := 0#32
  ![1, v258.toNat, 0, 0]

def k0_chk2 (v211 : BitVec 32) (v214 : BitVec 32) (v217 : BitVec 32) (v220 : BitVec 32) (v223 : BitVec 32) (v226 : BitVec 32) (v229 : BitVec 32) (v232 : BitVec 32) (v235 : BitVec 32) (v238 : BitVec 32) (v241 : BitVec 32) (v244 : BitVec 32) (v247 : BitVec 32) (v250 : BitVec 32) (v253 : BitVec 32) (v256 : BitVec 32) : Prop :=
  (∀ a, (k0_off2 v211 v214 v217 v220 v223 v226 v229 v232 v235 v238 v241 v244 v247 v250 v253 v256) a + S1x1x256x640.size a ≤ S4x16x256x640.size a)
theorem k0_off2_inb : ∀ (v211 : BitVec 32) (v214 : BitVec 32) (v217 : BitVec 32) (v220 : BitVec 32) (v223 : BitVec 32) (v226 : BitVec 32) (v229 : BitVec 32) (v232 : BitVec 32) (v235 : BitVec 32) (v238 : BitVec 32) (v241 : BitVec 32) (v244 : BitVec 32) (v247 : BitVec 32) (v250 : BitVec 32) (v253 : BitVec 32) (v256 : BitVec 32) (k0_hw2 : k0_chk2 v211 v214 v217 v220 v223 v226 v229 v232 v235 v238 v241 v244 v247 v250 v253 v256), ∀ a, (k0_off2 v211 v214 v217 v220 v223 v226 v229 v232 v235 v238 v241 v244 v247 v250 v253 v256) a + S1x1x256x640.size a ≤ S4x16x256x640.size a := fun v211 v214 v217 v220 v223 v226 v229 v232 v235 v238 v241 v244 v247 v250 v253 v256 k0_hw2 => k0_hw2

def k0_off3 (v391 : BitVec 32) (v394 : BitVec 32) (v397 : BitVec 32) (v400 : BitVec 32) (v403 : BitVec 32) (v406 : BitVec 32) (v409 : BitVec 32) (v412 : BitVec 32) (v415 : BitVec 32) (v418 : BitVec 32) (v421 : BitVec 32) (v424 : BitVec 32) (v427 : BitVec 32) (v430 : BitVec 32) (v433 : BitVec 32) (v436 : BitVec 32) : Fin 4 → Nat :=
  let c2_i32_722 : BitVec 32 := 2#32
  let c0_i32_559 : BitVec 32 := 0#32
  let v437 : BitVec 1 := Scalar.cmpi .sgt v436 c0_i32_559
  let c0_i32_560 : BitVec 32 := 0#32
  let c0_i32_555 : BitVec 32 := 0#32
  let v434 : BitVec 1 := Scalar.cmpi .sgt v433 c0_i32_555
  let c1_i32_556 : BitVec 32 := 1#32
  let c0_i32_551 : BitVec 32 := 0#32
  let v431 : BitVec 1 := Scalar.cmpi .sgt v430 c0_i32_551
  let c2_i32_552 : BitVec 32 := 2#32
  let c0_i32_547 : BitVec 32 := 0#32
  let v428 : BitVec 1 := Scalar.cmpi .sgt v427 c0_i32_547
  let c3_i32_548 : BitVec 32 := 3#32
  let c0_i32_543 : BitVec 32 := 0#32
  let v425 : BitVec 1 := Scalar.cmpi .sgt v424 c0_i32_543
  let c4_i32_544 : BitVec 32 := 4#32
  let c0_i32_539 : BitVec 32 := 0#32
  let v422 : BitVec 1 := Scalar.cmpi .sgt v421 c0_i32_539
  let c5_i32_540 : BitVec 32 := 5#32
  let c0_i32_535 : BitVec 32 := 0#32
  let v419 : BitVec 1 := Scalar.cmpi .sgt v418 c0_i32_535
  let c6_i32_536 : BitVec 32 := 6#32
  let c0_i32_531 : BitVec 32 := 0#32
  let v416 : BitVec 1 := Scalar.cmpi .sgt v415 c0_i32_531
  let c7_i32_532 : BitVec 32 := 7#32
  let c0_i32_527 : BitVec 32 := 0#32
  let v413 : BitVec 1 := Scalar.cmpi .sgt v412 c0_i32_527
  let c8_i32_528 : BitVec 32 := 8#32
  let c0_i32_523 : BitVec 32 := 0#32
  let v410 : BitVec 1 := Scalar.cmpi .sgt v409 c0_i32_523
  let c9_i32_524 : BitVec 32 := 9#32
  let c0_i32_519 : BitVec 32 := 0#32
  let v407 : BitVec 1 := Scalar.cmpi .sgt v406 c0_i32_519
  let c10_i32_520 : BitVec 32 := 10#32
  let c0_i32_515 : BitVec 32 := 0#32
  let v404 : BitVec 1 := Scalar.cmpi .sgt v403 c0_i32_515
  let c11_i32_516 : BitVec 32 := 11#32
  let c0_i32_511 : BitVec 32 := 0#32
  let v401 : BitVec 1 := Scalar.cmpi .sgt v400 c0_i32_511
  let c12_i32_512 : BitVec 32 := 12#32
  let c0_i32_507 : BitVec 32 := 0#32
  let v398 : BitVec 1 := Scalar.cmpi .sgt v397 c0_i32_507
  let c13_i32_508 : BitVec 32 := 13#32
  let c0_i32_503 : BitVec 32 := 0#32
  let v395 : BitVec 1 := Scalar.cmpi .sgt v394 c0_i32_503
  let c14_i32_504 : BitVec 32 := 14#32
  let c0_i32_498 : BitVec 32 := 0#32
  let v392 : BitVec 1 := Scalar.cmpi .sgt v391 c0_i32_498
  let c15_i32_499 : BitVec 32 := 15#32
  let c0_i32_500 : BitVec 32 := 0#32
  let v393 : BitVec 32 := Scalar.select v392 c15_i32_499 c0_i32_500
  let v396 : BitVec 32 := Scalar.select v395 c14_i32_504 v393
  let v399 : BitVec 32 := Scalar.select v398 c13_i32_508 v396
  let v402 : BitVec 32 := Scalar.select v401 c12_i32_512 v399
  let v405 : BitVec 32 := Scalar.select v404 c11_i32_516 v402
  let v408 : BitVec 32 := Scalar.select v407 c10_i32_520 v405
  let v411 : BitVec 32 := Scalar.select v410 c9_i32_524 v408
  let v414 : BitVec 32 := Scalar.select v413 c8_i32_528 v411
  let v417 : BitVec 32 := Scalar.select v416 c7_i32_532 v414
  let v420 : BitVec 32 := Scalar.select v419 c6_i32_536 v417
  let v423 : BitVec 32 := Scalar.select v422 c5_i32_540 v420
  let v426 : BitVec 32 := Scalar.select v425 c4_i32_544 v423
  let v429 : BitVec 32 := Scalar.select v428 c3_i32_548 v426
  let v432 : BitVec 32 := Scalar.select v431 c2_i32_552 v429
  let v435 : BitVec 32 := Scalar.select v434 c1_i32_556 v432
  let v438 : BitVec 32 := Scalar.select v437 c0_i32_560 v435
  let c0_i32_726 : BitVec 32 := 0#32
  let c0_i32_727 : BitVec 32 := 0#32
  ![2, v438.toNat, 0, 0]

def k0_chk3 (v391 : BitVec 32) (v394 : BitVec 32) (v397 : BitVec 32) (v400 : BitVec 32) (v403 : BitVec 32) (v406 : BitVec 32) (v409 : BitVec 32) (v412 : BitVec 32) (v415 : BitVec 32) (v418 : BitVec 32) (v421 : BitVec 32) (v424 : BitVec 32) (v427 : BitVec 32) (v430 : BitVec 32) (v433 : BitVec 32) (v436 : BitVec 32) : Prop :=
  (∀ a, (k0_off3 v391 v394 v397 v400 v403 v406 v409 v412 v415 v418 v421 v424 v427 v430 v433 v436) a + S1x1x256x640.size a ≤ S4x16x256x640.size a)
theorem k0_off3_inb : ∀ (v391 : BitVec 32) (v394 : BitVec 32) (v397 : BitVec 32) (v400 : BitVec 32) (v403 : BitVec 32) (v406 : BitVec 32) (v409 : BitVec 32) (v412 : BitVec 32) (v415 : BitVec 32) (v418 : BitVec 32) (v421 : BitVec 32) (v424 : BitVec 32) (v427 : BitVec 32) (v430 : BitVec 32) (v433 : BitVec 32) (v436 : BitVec 32) (k0_hw3 : k0_chk3 v391 v394 v397 v400 v403 v406 v409 v412 v415 v418 v421 v424 v427 v430 v433 v436), ∀ a, (k0_off3 v391 v394 v397 v400 v403 v406 v409 v412 v415 v418 v421 v424 v427 v430 v433 v436) a + S1x1x256x640.size a ≤ S4x16x256x640.size a := fun v391 v394 v397 v400 v403 v406 v409 v412 v415 v418 v421 v424 v427 v430 v433 v436 k0_hw3 => k0_hw3

def k0_off4 (v571 : BitVec 32) (v574 : BitVec 32) (v577 : BitVec 32) (v580 : BitVec 32) (v583 : BitVec 32) (v586 : BitVec 32) (v589 : BitVec 32) (v592 : BitVec 32) (v595 : BitVec 32) (v598 : BitVec 32) (v601 : BitVec 32) (v604 : BitVec 32) (v607 : BitVec 32) (v610 : BitVec 32) (v613 : BitVec 32) (v616 : BitVec 32) : Fin 4 → Nat :=
  let c3_i32_986 : BitVec 32 := 3#32
  let c0_i32_823 : BitVec 32 := 0#32
  let v617 : BitVec 1 := Scalar.cmpi .sgt v616 c0_i32_823
  let c0_i32_824 : BitVec 32 := 0#32
  let c0_i32_819 : BitVec 32 := 0#32
  let v614 : BitVec 1 := Scalar.cmpi .sgt v613 c0_i32_819
  let c1_i32_820 : BitVec 32 := 1#32
  let c0_i32_815 : BitVec 32 := 0#32
  let v611 : BitVec 1 := Scalar.cmpi .sgt v610 c0_i32_815
  let c2_i32_816 : BitVec 32 := 2#32
  let c0_i32_811 : BitVec 32 := 0#32
  let v608 : BitVec 1 := Scalar.cmpi .sgt v607 c0_i32_811
  let c3_i32_812 : BitVec 32 := 3#32
  let c0_i32_807 : BitVec 32 := 0#32
  let v605 : BitVec 1 := Scalar.cmpi .sgt v604 c0_i32_807
  let c4_i32_808 : BitVec 32 := 4#32
  let c0_i32_803 : BitVec 32 := 0#32
  let v602 : BitVec 1 := Scalar.cmpi .sgt v601 c0_i32_803
  let c5_i32_804 : BitVec 32 := 5#32
  let c0_i32_799 : BitVec 32 := 0#32
  let v599 : BitVec 1 := Scalar.cmpi .sgt v598 c0_i32_799
  let c6_i32_800 : BitVec 32 := 6#32
  let c0_i32_795 : BitVec 32 := 0#32
  let v596 : BitVec 1 := Scalar.cmpi .sgt v595 c0_i32_795
  let c7_i32_796 : BitVec 32 := 7#32
  let c0_i32_791 : BitVec 32 := 0#32
  let v593 : BitVec 1 := Scalar.cmpi .sgt v592 c0_i32_791
  let c8_i32_792 : BitVec 32 := 8#32
  let c0_i32_787 : BitVec 32 := 0#32
  let v590 : BitVec 1 := Scalar.cmpi .sgt v589 c0_i32_787
  let c9_i32_788 : BitVec 32 := 9#32
  let c0_i32_783 : BitVec 32 := 0#32
  let v587 : BitVec 1 := Scalar.cmpi .sgt v586 c0_i32_783
  let c10_i32_784 : BitVec 32 := 10#32
  let c0_i32_779 : BitVec 32 := 0#32
  let v584 : BitVec 1 := Scalar.cmpi .sgt v583 c0_i32_779
  let c11_i32_780 : BitVec 32 := 11#32
  let c0_i32_775 : BitVec 32 := 0#32
  let v581 : BitVec 1 := Scalar.cmpi .sgt v580 c0_i32_775
  let c12_i32_776 : BitVec 32 := 12#32
  let c0_i32_771 : BitVec 32 := 0#32
  let v578 : BitVec 1 := Scalar.cmpi .sgt v577 c0_i32_771
  let c13_i32_772 : BitVec 32 := 13#32
  let c0_i32_767 : BitVec 32 := 0#32
  let v575 : BitVec 1 := Scalar.cmpi .sgt v574 c0_i32_767
  let c14_i32_768 : BitVec 32 := 14#32
  let c0_i32_762 : BitVec 32 := 0#32
  let v572 : BitVec 1 := Scalar.cmpi .sgt v571 c0_i32_762
  let c15_i32_763 : BitVec 32 := 15#32
  let c0_i32_764 : BitVec 32 := 0#32
  let v573 : BitVec 32 := Scalar.select v572 c15_i32_763 c0_i32_764
  let v576 : BitVec 32 := Scalar.select v575 c14_i32_768 v573
  let v579 : BitVec 32 := Scalar.select v578 c13_i32_772 v576
  let v582 : BitVec 32 := Scalar.select v581 c12_i32_776 v579
  let v585 : BitVec 32 := Scalar.select v584 c11_i32_780 v582
  let v588 : BitVec 32 := Scalar.select v587 c10_i32_784 v585
  let v591 : BitVec 32 := Scalar.select v590 c9_i32_788 v588
  let v594 : BitVec 32 := Scalar.select v593 c8_i32_792 v591
  let v597 : BitVec 32 := Scalar.select v596 c7_i32_796 v594
  let v600 : BitVec 32 := Scalar.select v599 c6_i32_800 v597
  let v603 : BitVec 32 := Scalar.select v602 c5_i32_804 v600
  let v606 : BitVec 32 := Scalar.select v605 c4_i32_808 v603
  let v609 : BitVec 32 := Scalar.select v608 c3_i32_812 v606
  let v612 : BitVec 32 := Scalar.select v611 c2_i32_816 v609
  let v615 : BitVec 32 := Scalar.select v614 c1_i32_820 v612
  let v618 : BitVec 32 := Scalar.select v617 c0_i32_824 v615
  let c0_i32_990 : BitVec 32 := 0#32
  let c0_i32_991 : BitVec 32 := 0#32
  ![3, v618.toNat, 0, 0]

def k0_chk4 (v571 : BitVec 32) (v574 : BitVec 32) (v577 : BitVec 32) (v580 : BitVec 32) (v583 : BitVec 32) (v586 : BitVec 32) (v589 : BitVec 32) (v592 : BitVec 32) (v595 : BitVec 32) (v598 : BitVec 32) (v601 : BitVec 32) (v604 : BitVec 32) (v607 : BitVec 32) (v610 : BitVec 32) (v613 : BitVec 32) (v616 : BitVec 32) : Prop :=
  (∀ a, (k0_off4 v571 v574 v577 v580 v583 v586 v589 v592 v595 v598 v601 v604 v607 v610 v613 v616) a + S1x1x256x640.size a ≤ S4x16x256x640.size a)
theorem k0_off4_inb : ∀ (v571 : BitVec 32) (v574 : BitVec 32) (v577 : BitVec 32) (v580 : BitVec 32) (v583 : BitVec 32) (v586 : BitVec 32) (v589 : BitVec 32) (v592 : BitVec 32) (v595 : BitVec 32) (v598 : BitVec 32) (v601 : BitVec 32) (v604 : BitVec 32) (v607 : BitVec 32) (v610 : BitVec 32) (v613 : BitVec 32) (v616 : BitVec 32) (k0_hw4 : k0_chk4 v571 v574 v577 v580 v583 v586 v589 v592 v595 v598 v601 v604 v607 v610 v613 v616), ∀ a, (k0_off4 v571 v574 v577 v580 v583 v586 v589 v592 v595 v598 v601 v604 v607 v610 v613 v616) a + S1x1x256x640.size a ≤ S4x16x256x640.size a := fun v571 v574 v577 v580 v583 v586 v589 v592 v595 v598 v601 v604 v607 v610 v613 v616 k0_hw4 => k0_hw4

def k0_off5 (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (c0_i32_1023 : BitVec 32) : Fin 3 → Nat :=
  let v2 : BitVec 32 := Scalar.addi v0 v1
  let v4 : BitVec 32 := Scalar.addi v2 v3
  let v6 : BitVec 32 := Scalar.addi v4 v5
  let v8 : BitVec 32 := Scalar.addi v6 v7
  let v10 : BitVec 32 := Scalar.addi v8 v9
  let v12 : BitVec 32 := Scalar.addi v10 v11
  let v14 : BitVec 32 := Scalar.addi v12 v13
  let v16 : BitVec 32 := Scalar.addi v14 v15
  let v18 : BitVec 32 := Scalar.addi v16 v17
  let v20 : BitVec 32 := Scalar.addi v18 v19
  let v22 : BitVec 32 := Scalar.addi v20 v21
  let v24 : BitVec 32 := Scalar.addi v22 v23
  let v26 : BitVec 32 := Scalar.addi v24 v25
  let v28 : BitVec 32 := Scalar.addi v26 v27
  let v30 : BitVec 32 := Scalar.addi v28 v29
  let v740 : BitVec 1 := Scalar.cmpi .sgt v30 c0_i32_1023
  let c0_i32_1024 : BitVec 32 := 0#32
  let c4_i32_1025 : BitVec 32 := 4#32
  let v741 : BitVec 32 := Scalar.select v740 c0_i32_1024 c4_i32_1025
  let c0_i32_1030 : BitVec 32 := 0#32
  let c0_i32_1031 : BitVec 32 := 0#32
  ![v741.toNat, 0, 0]

def k0_chk5 (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) : Prop :=
  (∀ (r : Fin 32), ∀ a, (k0_off5 v0 v1 v3 v5 v7 v9 v11 v13 v15 v17 v19 v21 v23 v25 v27 v29 (BitVec.ofNat 32 r.val)) a + S1x256x640.size a ≤ S5x256x640.size a)
theorem k0_off5_inb : ∀ (v0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (k0_hw5 : k0_chk5 v0 v1 v3 v5 v7 v9 v11 v13 v15 v17 v19 v21 v23 v25 v27 v29), ∀ (r : Fin 32), ∀ a, (k0_off5 v0 v1 v3 v5 v7 v9 v11 v13 v15 v17 v19 v21 v23 v25 v27 v29 (BitVec.ofNat 32 r.val)) a + S1x256x640.size a ≤ S5x256x640.size a := fun v0 v1 v3 v5 v7 v9 v11 v13 v15 v17 v19 v21 v23 v25 v27 v29 k0_hw5 r => k0_hw5 r

def k0_off6 (v180 : BitVec 32) (v181 : BitVec 32) (v183 : BitVec 32) (v185 : BitVec 32) (v187 : BitVec 32) (v189 : BitVec 32) (v191 : BitVec 32) (v193 : BitVec 32) (v195 : BitVec 32) (v197 : BitVec 32) (v199 : BitVec 32) (v201 : BitVec 32) (v203 : BitVec 32) (v205 : BitVec 32) (v207 : BitVec 32) (v209 : BitVec 32) (c0_i32_1311 : BitVec 32) : Fin 3 → Nat :=
  let v182 : BitVec 32 := Scalar.addi v180 v181
  let v184 : BitVec 32 := Scalar.addi v182 v183
  let v186 : BitVec 32 := Scalar.addi v184 v185
  let v188 : BitVec 32 := Scalar.addi v186 v187
  let v190 : BitVec 32 := Scalar.addi v188 v189
  let v192 : BitVec 32 := Scalar.addi v190 v191
  let v194 : BitVec 32 := Scalar.addi v192 v193
  let v196 : BitVec 32 := Scalar.addi v194 v195
  let v198 : BitVec 32 := Scalar.addi v196 v197
  let v200 : BitVec 32 := Scalar.addi v198 v199
  let v202 : BitVec 32 := Scalar.addi v200 v201
  let v204 : BitVec 32 := Scalar.addi v202 v203
  let v206 : BitVec 32 := Scalar.addi v204 v205
  let v208 : BitVec 32 := Scalar.addi v206 v207
  let v210 : BitVec 32 := Scalar.addi v208 v209
  let v932 : BitVec 1 := Scalar.cmpi .sgt v210 c0_i32_1311
  let c1_i32_1312 : BitVec 32 := 1#32
  let c4_i32_1313 : BitVec 32 := 4#32
  let v933 : BitVec 32 := Scalar.select v932 c1_i32_1312 c4_i32_1313
  let c0_i32_1318 : BitVec 32 := 0#32
  let c0_i32_1319 : BitVec 32 := 0#32
  ![v933.toNat, 0, 0]

def k0_chk6 (v180 : BitVec 32) (v181 : BitVec 32) (v183 : BitVec 32) (v185 : BitVec 32) (v187 : BitVec 32) (v189 : BitVec 32) (v191 : BitVec 32) (v193 : BitVec 32) (v195 : BitVec 32) (v197 : BitVec 32) (v199 : BitVec 32) (v201 : BitVec 32) (v203 : BitVec 32) (v205 : BitVec 32) (v207 : BitVec 32) (v209 : BitVec 32) : Prop :=
  (∀ (r : Fin 32), ∀ a, (k0_off6 v180 v181 v183 v185 v187 v189 v191 v193 v195 v197 v199 v201 v203 v205 v207 v209 (BitVec.ofNat 32 r.val)) a + S1x256x640.size a ≤ S5x256x640.size a)
theorem k0_off6_inb : ∀ (v180 : BitVec 32) (v181 : BitVec 32) (v183 : BitVec 32) (v185 : BitVec 32) (v187 : BitVec 32) (v189 : BitVec 32) (v191 : BitVec 32) (v193 : BitVec 32) (v195 : BitVec 32) (v197 : BitVec 32) (v199 : BitVec 32) (v201 : BitVec 32) (v203 : BitVec 32) (v205 : BitVec 32) (v207 : BitVec 32) (v209 : BitVec 32) (k0_hw6 : k0_chk6 v180 v181 v183 v185 v187 v189 v191 v193 v195 v197 v199 v201 v203 v205 v207 v209), ∀ (r : Fin 32), ∀ a, (k0_off6 v180 v181 v183 v185 v187 v189 v191 v193 v195 v197 v199 v201 v203 v205 v207 v209 (BitVec.ofNat 32 r.val)) a + S1x256x640.size a ≤ S5x256x640.size a := fun v180 v181 v183 v185 v187 v189 v191 v193 v195 v197 v199 v201 v203 v205 v207 v209 k0_hw6 r => k0_hw6 r

def k0_off7 (v360 : BitVec 32) (v361 : BitVec 32) (v363 : BitVec 32) (v365 : BitVec 32) (v367 : BitVec 32) (v369 : BitVec 32) (v371 : BitVec 32) (v373 : BitVec 32) (v375 : BitVec 32) (v377 : BitVec 32) (v379 : BitVec 32) (v381 : BitVec 32) (v383 : BitVec 32) (v385 : BitVec 32) (v387 : BitVec 32) (v389 : BitVec 32) (c0_i32_1599 : BitVec 32) : Fin 3 → Nat :=
  let v362 : BitVec 32 := Scalar.addi v360 v361
  let v364 : BitVec 32 := Scalar.addi v362 v363
  let v366 : BitVec 32 := Scalar.addi v364 v365
  let v368 : BitVec 32 := Scalar.addi v366 v367
  let v370 : BitVec 32 := Scalar.addi v368 v369
  let v372 : BitVec 32 := Scalar.addi v370 v371
  let v374 : BitVec 32 := Scalar.addi v372 v373
  let v376 : BitVec 32 := Scalar.addi v374 v375
  let v378 : BitVec 32 := Scalar.addi v376 v377
  let v380 : BitVec 32 := Scalar.addi v378 v379
  let v382 : BitVec 32 := Scalar.addi v380 v381
  let v384 : BitVec 32 := Scalar.addi v382 v383
  let v386 : BitVec 32 := Scalar.addi v384 v385
  let v388 : BitVec 32 := Scalar.addi v386 v387
  let v390 : BitVec 32 := Scalar.addi v388 v389
  let v1124 : BitVec 1 := Scalar.cmpi .sgt v390 c0_i32_1599
  let c2_i32_1600 : BitVec 32 := 2#32
  let c4_i32_1601 : BitVec 32 := 4#32
  let v1125 : BitVec 32 := Scalar.select v1124 c2_i32_1600 c4_i32_1601
  let c0_i32_1606 : BitVec 32 := 0#32
  let c0_i32_1607 : BitVec 32 := 0#32
  ![v1125.toNat, 0, 0]

def k0_chk7 (v360 : BitVec 32) (v361 : BitVec 32) (v363 : BitVec 32) (v365 : BitVec 32) (v367 : BitVec 32) (v369 : BitVec 32) (v371 : BitVec 32) (v373 : BitVec 32) (v375 : BitVec 32) (v377 : BitVec 32) (v379 : BitVec 32) (v381 : BitVec 32) (v383 : BitVec 32) (v385 : BitVec 32) (v387 : BitVec 32) (v389 : BitVec 32) : Prop :=
  (∀ (r : Fin 32), ∀ a, (k0_off7 v360 v361 v363 v365 v367 v369 v371 v373 v375 v377 v379 v381 v383 v385 v387 v389 (BitVec.ofNat 32 r.val)) a + S1x256x640.size a ≤ S5x256x640.size a)
theorem k0_off7_inb : ∀ (v360 : BitVec 32) (v361 : BitVec 32) (v363 : BitVec 32) (v365 : BitVec 32) (v367 : BitVec 32) (v369 : BitVec 32) (v371 : BitVec 32) (v373 : BitVec 32) (v375 : BitVec 32) (v377 : BitVec 32) (v379 : BitVec 32) (v381 : BitVec 32) (v383 : BitVec 32) (v385 : BitVec 32) (v387 : BitVec 32) (v389 : BitVec 32) (k0_hw7 : k0_chk7 v360 v361 v363 v365 v367 v369 v371 v373 v375 v377 v379 v381 v383 v385 v387 v389), ∀ (r : Fin 32), ∀ a, (k0_off7 v360 v361 v363 v365 v367 v369 v371 v373 v375 v377 v379 v381 v383 v385 v387 v389 (BitVec.ofNat 32 r.val)) a + S1x256x640.size a ≤ S5x256x640.size a := fun v360 v361 v363 v365 v367 v369 v371 v373 v375 v377 v379 v381 v383 v385 v387 v389 k0_hw7 r => k0_hw7 r

def k0_off8 (v540 : BitVec 32) (v541 : BitVec 32) (v543 : BitVec 32) (v545 : BitVec 32) (v547 : BitVec 32) (v549 : BitVec 32) (v551 : BitVec 32) (v553 : BitVec 32) (v555 : BitVec 32) (v557 : BitVec 32) (v559 : BitVec 32) (v561 : BitVec 32) (v563 : BitVec 32) (v565 : BitVec 32) (v567 : BitVec 32) (v569 : BitVec 32) (c0_i32_1887 : BitVec 32) : Fin 3 → Nat :=
  let v542 : BitVec 32 := Scalar.addi v540 v541
  let v544 : BitVec 32 := Scalar.addi v542 v543
  let v546 : BitVec 32 := Scalar.addi v544 v545
  let v548 : BitVec 32 := Scalar.addi v546 v547
  let v550 : BitVec 32 := Scalar.addi v548 v549
  let v552 : BitVec 32 := Scalar.addi v550 v551
  let v554 : BitVec 32 := Scalar.addi v552 v553
  let v556 : BitVec 32 := Scalar.addi v554 v555
  let v558 : BitVec 32 := Scalar.addi v556 v557
  let v560 : BitVec 32 := Scalar.addi v558 v559
  let v562 : BitVec 32 := Scalar.addi v560 v561
  let v564 : BitVec 32 := Scalar.addi v562 v563
  let v566 : BitVec 32 := Scalar.addi v564 v565
  let v568 : BitVec 32 := Scalar.addi v566 v567
  let v570 : BitVec 32 := Scalar.addi v568 v569
  let v1316 : BitVec 1 := Scalar.cmpi .sgt v570 c0_i32_1887
  let c3_i32_1888 : BitVec 32 := 3#32
  let c4_i32_1889 : BitVec 32 := 4#32
  let v1317 : BitVec 32 := Scalar.select v1316 c3_i32_1888 c4_i32_1889
  let c0_i32_1894 : BitVec 32 := 0#32
  let c0_i32_1895 : BitVec 32 := 0#32
  ![v1317.toNat, 0, 0]

def k0_chk8 (v540 : BitVec 32) (v541 : BitVec 32) (v543 : BitVec 32) (v545 : BitVec 32) (v547 : BitVec 32) (v549 : BitVec 32) (v551 : BitVec 32) (v553 : BitVec 32) (v555 : BitVec 32) (v557 : BitVec 32) (v559 : BitVec 32) (v561 : BitVec 32) (v563 : BitVec 32) (v565 : BitVec 32) (v567 : BitVec 32) (v569 : BitVec 32) : Prop :=
  (∀ (r : Fin 32), ∀ a, (k0_off8 v540 v541 v543 v545 v547 v549 v551 v553 v555 v557 v559 v561 v563 v565 v567 v569 (BitVec.ofNat 32 r.val)) a + S1x256x640.size a ≤ S5x256x640.size a)
theorem k0_off8_inb : ∀ (v540 : BitVec 32) (v541 : BitVec 32) (v543 : BitVec 32) (v545 : BitVec 32) (v547 : BitVec 32) (v549 : BitVec 32) (v551 : BitVec 32) (v553 : BitVec 32) (v555 : BitVec 32) (v557 : BitVec 32) (v559 : BitVec 32) (v561 : BitVec 32) (v563 : BitVec 32) (v565 : BitVec 32) (v567 : BitVec 32) (v569 : BitVec 32) (k0_hw8 : k0_chk8 v540 v541 v543 v545 v547 v549 v551 v553 v555 v557 v559 v561 v563 v565 v567 v569), ∀ (r : Fin 32), ∀ a, (k0_off8 v540 v541 v543 v545 v547 v549 v551 v553 v555 v557 v559 v561 v563 v565 v567 v569 (BitVec.ofNat 32 r.val)) a + S1x256x640.size a ≤ S5x256x640.size a := fun v540 v541 v543 v545 v547 v549 v551 v553 v555 v557 v559 v561 v563 v565 v567 v569 k0_hw8 r => k0_hw8 r

abbrev stage0_0 : Fin 1 → Memref sig .tc .smem S4x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4x32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S4 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![2], ![false]⟩

def k1_off1 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  let c0_i32_0 : BitVec 32 := 0#32
  let v3 : Index := Scalar.indexCast c0_i32_0
  ![v2.toNat, 0]
def k1_off2 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v5 : Index := Scalar.indexCast v1
  let c1_i32 : BitVec 32 := 1#32
  let v6 : Index := Scalar.indexCast c1_i32
  ![v5.toNat, 1]
def k1_off3 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v8 : Index := Scalar.indexCast v1
  let c2_i32_1 : BitVec 32 := 2#32
  let v9 : Index := Scalar.indexCast c2_i32_1
  ![v8.toNat, 2]
def k1_off4 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v11 : Index := Scalar.indexCast v1
  let c3_i32 : BitVec 32 := 3#32
  let v12 : Index := Scalar.indexCast c3_i32
  ![v11.toNat, 3]
def k1_off5 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v14 : Index := Scalar.indexCast v1
  let c4_i32 : BitVec 32 := 4#32
  let v15 : Index := Scalar.indexCast c4_i32
  ![v14.toNat, 4]
def k1_off6 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v17 : Index := Scalar.indexCast v1
  let c5_i32 : BitVec 32 := 5#32
  let v18 : Index := Scalar.indexCast c5_i32
  ![v17.toNat, 5]
def k1_off7 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v20 : Index := Scalar.indexCast v1
  let c6_i32 : BitVec 32 := 6#32
  let v21 : Index := Scalar.indexCast c6_i32
  ![v20.toNat, 6]
def k1_off8 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v23 : Index := Scalar.indexCast v1
  let c7_i32 : BitVec 32 := 7#32
  let v24 : Index := Scalar.indexCast c7_i32
  ![v23.toNat, 7]
def k1_off9 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v26 : Index := Scalar.indexCast v1
  let c8_i32 : BitVec 32 := 8#32
  let v27 : Index := Scalar.indexCast c8_i32
  ![v26.toNat, 8]
def k1_off10 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v29 : Index := Scalar.indexCast v1
  let c9_i32 : BitVec 32 := 9#32
  let v30 : Index := Scalar.indexCast c9_i32
  ![v29.toNat, 9]
def k1_off11 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v32 : Index := Scalar.indexCast v1
  let c10_i32 : BitVec 32 := 10#32
  let v33 : Index := Scalar.indexCast c10_i32
  ![v32.toNat, 10]
def k1_off12 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v35 : Index := Scalar.indexCast v1
  let c11_i32 : BitVec 32 := 11#32
  let v36 : Index := Scalar.indexCast c11_i32
  ![v35.toNat, 11]
def k1_off13 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v38 : Index := Scalar.indexCast v1
  let c12_i32 : BitVec 32 := 12#32
  let v39 : Index := Scalar.indexCast c12_i32
  ![v38.toNat, 12]
def k1_off14 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v41 : Index := Scalar.indexCast v1
  let c13_i32 : BitVec 32 := 13#32
  let v42 : Index := Scalar.indexCast c13_i32
  ![v41.toNat, 13]
def k1_off15 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v44 : Index := Scalar.indexCast v1
  let c14_i32 : BitVec 32 := 14#32
  let v45 : Index := Scalar.indexCast c14_i32
  ![v44.toNat, 14]
def k1_off16 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v47 : Index := Scalar.indexCast v1
  let c15_i32 : BitVec 32 := 15#32
  let v48 : Index := Scalar.indexCast c15_i32
  ![v47.toNat, 15]
def k1_off17 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off18 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_6 : BitVec 32 := 0#32
  let c0_i32_3 : BitVec 32 := 0#32
  let v66 : BitVec 1 := Scalar.cmpi .sgt v4 c0_i32_3
  let v_true : BitVec 1 := 1#1
  let v67 : BitVec 1 := Scalar.andi v66 v_true
  let c0_i32_4 : BitVec 32 := 0#32
  let c0_i32_5 : BitVec 32 := 0#32
  let v68 : BitVec 32 := Scalar.select v67 c0_i32_4 c0_i32_5
  let v69 : BitVec 32 := Scalar.addi c0_i32_6 v68
  let c0_i32_7 : BitVec 32 := 0#32
  let v70 : BitVec 1 := Scalar.cmpi .sgt v7 c0_i32_7
  let c0_i32_2 : BitVec 32 := 0#32
  let v50 : BitVec 32 := Scalar.addi c0_i32_2 v4
  let c0_i32_8 : BitVec 32 := 0#32
  let v71 : BitVec 1 := Scalar.cmpi .eq v50 c0_i32_8
  let v72 : BitVec 1 := Scalar.andi v70 v71
  let c1_i32_9 : BitVec 32 := 1#32
  let c0_i32_10 : BitVec 32 := 0#32
  let v73 : BitVec 32 := Scalar.select v72 c1_i32_9 c0_i32_10
  let v74 : BitVec 32 := Scalar.addi v69 v73
  let c0_i32_11 : BitVec 32 := 0#32
  let v75 : BitVec 1 := Scalar.cmpi .sgt v10 c0_i32_11
  let v51 : BitVec 32 := Scalar.addi v50 v7
  let c0_i32_12 : BitVec 32 := 0#32
  let v76 : BitVec 1 := Scalar.cmpi .eq v51 c0_i32_12
  let v77 : BitVec 1 := Scalar.andi v75 v76
  let c2_i32_13 : BitVec 32 := 2#32
  let c0_i32_14 : BitVec 32 := 0#32
  let v78 : BitVec 32 := Scalar.select v77 c2_i32_13 c0_i32_14
  let v79 : BitVec 32 := Scalar.addi v74 v78
  let c0_i32_15 : BitVec 32 := 0#32
  let v80 : BitVec 1 := Scalar.cmpi .sgt v13 c0_i32_15
  let v52 : BitVec 32 := Scalar.addi v51 v10
  let c0_i32_16 : BitVec 32 := 0#32
  let v81 : BitVec 1 := Scalar.cmpi .eq v52 c0_i32_16
  let v82 : BitVec 1 := Scalar.andi v80 v81
  let c3_i32_17 : BitVec 32 := 3#32
  let c0_i32_18 : BitVec 32 := 0#32
  let v83 : BitVec 32 := Scalar.select v82 c3_i32_17 c0_i32_18
  let v84 : BitVec 32 := Scalar.addi v79 v83
  let c0_i32_19 : BitVec 32 := 0#32
  let v85 : BitVec 1 := Scalar.cmpi .sgt v16 c0_i32_19
  let v53 : BitVec 32 := Scalar.addi v52 v13
  let c0_i32_20 : BitVec 32 := 0#32
  let v86 : BitVec 1 := Scalar.cmpi .eq v53 c0_i32_20
  let v87 : BitVec 1 := Scalar.andi v85 v86
  let c4_i32_21 : BitVec 32 := 4#32
  let c0_i32_22 : BitVec 32 := 0#32
  let v88 : BitVec 32 := Scalar.select v87 c4_i32_21 c0_i32_22
  let v89 : BitVec 32 := Scalar.addi v84 v88
  let c0_i32_23 : BitVec 32 := 0#32
  let v90 : BitVec 1 := Scalar.cmpi .sgt v19 c0_i32_23
  let v54 : BitVec 32 := Scalar.addi v53 v16
  let c0_i32_24 : BitVec 32 := 0#32
  let v91 : BitVec 1 := Scalar.cmpi .eq v54 c0_i32_24
  let v92 : BitVec 1 := Scalar.andi v90 v91
  let c5_i32_25 : BitVec 32 := 5#32
  let c0_i32_26 : BitVec 32 := 0#32
  let v93 : BitVec 32 := Scalar.select v92 c5_i32_25 c0_i32_26
  let v94 : BitVec 32 := Scalar.addi v89 v93
  let c0_i32_27 : BitVec 32 := 0#32
  let v95 : BitVec 1 := Scalar.cmpi .sgt v22 c0_i32_27
  let v55 : BitVec 32 := Scalar.addi v54 v19
  let c0_i32_28 : BitVec 32 := 0#32
  let v96 : BitVec 1 := Scalar.cmpi .eq v55 c0_i32_28
  let v97 : BitVec 1 := Scalar.andi v95 v96
  let c6_i32_29 : BitVec 32 := 6#32
  let c0_i32_30 : BitVec 32 := 0#32
  let v98 : BitVec 32 := Scalar.select v97 c6_i32_29 c0_i32_30
  let v99 : BitVec 32 := Scalar.addi v94 v98
  let c0_i32_31 : BitVec 32 := 0#32
  let v100 : BitVec 1 := Scalar.cmpi .sgt v25 c0_i32_31
  let v56 : BitVec 32 := Scalar.addi v55 v22
  let c0_i32_32 : BitVec 32 := 0#32
  let v101 : BitVec 1 := Scalar.cmpi .eq v56 c0_i32_32
  let v102 : BitVec 1 := Scalar.andi v100 v101
  let c7_i32_33 : BitVec 32 := 7#32
  let c0_i32_34 : BitVec 32 := 0#32
  let v103 : BitVec 32 := Scalar.select v102 c7_i32_33 c0_i32_34
  let v104 : BitVec 32 := Scalar.addi v99 v103
  let c0_i32_35 : BitVec 32 := 0#32
  let v105 : BitVec 1 := Scalar.cmpi .sgt v28 c0_i32_35
  let v57 : BitVec 32 := Scalar.addi v56 v25
  let c0_i32_36 : BitVec 32 := 0#32
  let v106 : BitVec 1 := Scalar.cmpi .eq v57 c0_i32_36
  let v107 : BitVec 1 := Scalar.andi v105 v106
  let c8_i32_37 : BitVec 32 := 8#32
  let c0_i32_38 : BitVec 32 := 0#32
  let v108 : BitVec 32 := Scalar.select v107 c8_i32_37 c0_i32_38
  let v109 : BitVec 32 := Scalar.addi v104 v108
  let c0_i32_39 : BitVec 32 := 0#32
  let v110 : BitVec 1 := Scalar.cmpi .sgt v31 c0_i32_39
  let v58 : BitVec 32 := Scalar.addi v57 v28
  let c0_i32_40 : BitVec 32 := 0#32
  let v111 : BitVec 1 := Scalar.cmpi .eq v58 c0_i32_40
  let v112 : BitVec 1 := Scalar.andi v110 v111
  let c9_i32_41 : BitVec 32 := 9#32
  let c0_i32_42 : BitVec 32 := 0#32
  let v113 : BitVec 32 := Scalar.select v112 c9_i32_41 c0_i32_42
  let v114 : BitVec 32 := Scalar.addi v109 v113
  let c0_i32_43 : BitVec 32 := 0#32
  let v115 : BitVec 1 := Scalar.cmpi .sgt v34 c0_i32_43
  let v59 : BitVec 32 := Scalar.addi v58 v31
  let c0_i32_44 : BitVec 32 := 0#32
  let v116 : BitVec 1 := Scalar.cmpi .eq v59 c0_i32_44
  let v117 : BitVec 1 := Scalar.andi v115 v116
  let c10_i32_45 : BitVec 32 := 10#32
  let c0_i32_46 : BitVec 32 := 0#32
  let v118 : BitVec 32 := Scalar.select v117 c10_i32_45 c0_i32_46
  let v119 : BitVec 32 := Scalar.addi v114 v118
  let c0_i32_47 : BitVec 32 := 0#32
  let v120 : BitVec 1 := Scalar.cmpi .sgt v37 c0_i32_47
  let v60 : BitVec 32 := Scalar.addi v59 v34
  let c0_i32_48 : BitVec 32 := 0#32
  let v121 : BitVec 1 := Scalar.cmpi .eq v60 c0_i32_48
  let v122 : BitVec 1 := Scalar.andi v120 v121
  let c11_i32_49 : BitVec 32 := 11#32
  let c0_i32_50 : BitVec 32 := 0#32
  let v123 : BitVec 32 := Scalar.select v122 c11_i32_49 c0_i32_50
  let v124 : BitVec 32 := Scalar.addi v119 v123
  let c0_i32_51 : BitVec 32 := 0#32
  let v125 : BitVec 1 := Scalar.cmpi .sgt v40 c0_i32_51
  let v61 : BitVec 32 := Scalar.addi v60 v37
  let c0_i32_52 : BitVec 32 := 0#32
  let v126 : BitVec 1 := Scalar.cmpi .eq v61 c0_i32_52
  let v127 : BitVec 1 := Scalar.andi v125 v126
  let c12_i32_53 : BitVec 32 := 12#32
  let c0_i32_54 : BitVec 32 := 0#32
  let v128 : BitVec 32 := Scalar.select v127 c12_i32_53 c0_i32_54
  let v129 : BitVec 32 := Scalar.addi v124 v128
  let c0_i32_55 : BitVec 32 := 0#32
  let v130 : BitVec 1 := Scalar.cmpi .sgt v43 c0_i32_55
  let v62 : BitVec 32 := Scalar.addi v61 v40
  let c0_i32_56 : BitVec 32 := 0#32
  let v131 : BitVec 1 := Scalar.cmpi .eq v62 c0_i32_56
  let v132 : BitVec 1 := Scalar.andi v130 v131
  let c13_i32_57 : BitVec 32 := 13#32
  let c0_i32_58 : BitVec 32 := 0#32
  let v133 : BitVec 32 := Scalar.select v132 c13_i32_57 c0_i32_58
  let v134 : BitVec 32 := Scalar.addi v129 v133
  let c0_i32_59 : BitVec 32 := 0#32
  let v135 : BitVec 1 := Scalar.cmpi .sgt v46 c0_i32_59
  let v63 : BitVec 32 := Scalar.addi v62 v43
  let c0_i32_60 : BitVec 32 := 0#32
  let v136 : BitVec 1 := Scalar.cmpi .eq v63 c0_i32_60
  let v137 : BitVec 1 := Scalar.andi v135 v136
  let c14_i32_61 : BitVec 32 := 14#32
  let c0_i32_62 : BitVec 32 := 0#32
  let v138 : BitVec 32 := Scalar.select v137 c14_i32_61 c0_i32_62
  let v139 : BitVec 32 := Scalar.addi v134 v138
  let c0_i32_63 : BitVec 32 := 0#32
  let v140 : BitVec 1 := Scalar.cmpi .sgt v49 c0_i32_63
  let v64 : BitVec 32 := Scalar.addi v63 v46
  let c0_i32_64 : BitVec 32 := 0#32
  let v141 : BitVec 1 := Scalar.cmpi .eq v64 c0_i32_64
  let v142 : BitVec 1 := Scalar.andi v140 v141
  let c15_i32_65 : BitVec 32 := 15#32
  let c0_i32_66 : BitVec 32 := 0#32
  let v143 : BitVec 32 := Scalar.select v142 c15_i32_65 c0_i32_66
  let v144 : BitVec 32 := Scalar.addi v139 v143
  let c640_i32_2377 : BitVec 32 := 640#32
  let v3176 : BitVec 32 := Scalar.muli v144 c640_i32_2377
  ![v1.toNat, v3176.toNat]
def k1_cond1 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c0_i32_67 : BitVec 32 := 0#32
  let v145 : BitVec 1 := Scalar.cmpi .sgt v65 c0_i32_67
  let v146 : BitVec 32 := Scalar.extui v145
  let c0_i32_68 : BitVec 32 := 0#32
  let v147 : BitVec 1 := Scalar.cmpi .ne v146 c0_i32_68
  v147

def k1_off19 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2377 : BitVec 32 := 0#32
  ![v1.toNat, 0]
def k1_off20 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c640_i32_2378 : BitVec 32 := 640#32
  ![v1.toNat, 640]
def k1_off21 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_74 : BitVec 32 := 0#32
  let c0_i32_71 : BitVec 32 := 0#32
  let v151 : BitVec 1 := Scalar.cmpi .sgt v4 c0_i32_71
  let v_false : BitVec 1 := 0#1
  let v152 : BitVec 1 := Scalar.andi v151 v_false
  let c0_i32_72 : BitVec 32 := 0#32
  let c0_i32_73 : BitVec 32 := 0#32
  let v153 : BitVec 32 := Scalar.select v152 c0_i32_72 c0_i32_73
  let v154 : BitVec 32 := Scalar.addi c0_i32_74 v153
  let c0_i32_75 : BitVec 32 := 0#32
  let v155 : BitVec 1 := Scalar.cmpi .sgt v7 c0_i32_75
  let c0_i32_2 : BitVec 32 := 0#32
  let v50 : BitVec 32 := Scalar.addi c0_i32_2 v4
  let c1_i32_76 : BitVec 32 := 1#32
  let v156 : BitVec 1 := Scalar.cmpi .eq v50 c1_i32_76
  let v157 : BitVec 1 := Scalar.andi v155 v156
  let c1_i32_77 : BitVec 32 := 1#32
  let c0_i32_78 : BitVec 32 := 0#32
  let v158 : BitVec 32 := Scalar.select v157 c1_i32_77 c0_i32_78
  let v159 : BitVec 32 := Scalar.addi v154 v158
  let c0_i32_79 : BitVec 32 := 0#32
  let v160 : BitVec 1 := Scalar.cmpi .sgt v10 c0_i32_79
  let v51 : BitVec 32 := Scalar.addi v50 v7
  let c1_i32_80 : BitVec 32 := 1#32
  let v161 : BitVec 1 := Scalar.cmpi .eq v51 c1_i32_80
  let v162 : BitVec 1 := Scalar.andi v160 v161
  let c2_i32_81 : BitVec 32 := 2#32
  let c0_i32_82 : BitVec 32 := 0#32
  let v163 : BitVec 32 := Scalar.select v162 c2_i32_81 c0_i32_82
  let v164 : BitVec 32 := Scalar.addi v159 v163
  let c0_i32_83 : BitVec 32 := 0#32
  let v165 : BitVec 1 := Scalar.cmpi .sgt v13 c0_i32_83
  let v52 : BitVec 32 := Scalar.addi v51 v10
  let c1_i32_84 : BitVec 32 := 1#32
  let v166 : BitVec 1 := Scalar.cmpi .eq v52 c1_i32_84
  let v167 : BitVec 1 := Scalar.andi v165 v166
  let c3_i32_85 : BitVec 32 := 3#32
  let c0_i32_86 : BitVec 32 := 0#32
  let v168 : BitVec 32 := Scalar.select v167 c3_i32_85 c0_i32_86
  let v169 : BitVec 32 := Scalar.addi v164 v168
  let c0_i32_87 : BitVec 32 := 0#32
  let v170 : BitVec 1 := Scalar.cmpi .sgt v16 c0_i32_87
  let v53 : BitVec 32 := Scalar.addi v52 v13
  let c1_i32_88 : BitVec 32 := 1#32
  let v171 : BitVec 1 := Scalar.cmpi .eq v53 c1_i32_88
  let v172 : BitVec 1 := Scalar.andi v170 v171
  let c4_i32_89 : BitVec 32 := 4#32
  let c0_i32_90 : BitVec 32 := 0#32
  let v173 : BitVec 32 := Scalar.select v172 c4_i32_89 c0_i32_90
  let v174 : BitVec 32 := Scalar.addi v169 v173
  let c0_i32_91 : BitVec 32 := 0#32
  let v175 : BitVec 1 := Scalar.cmpi .sgt v19 c0_i32_91
  let v54 : BitVec 32 := Scalar.addi v53 v16
  let c1_i32_92 : BitVec 32 := 1#32
  let v176 : BitVec 1 := Scalar.cmpi .eq v54 c1_i32_92
  let v177 : BitVec 1 := Scalar.andi v175 v176
  let c5_i32_93 : BitVec 32 := 5#32
  let c0_i32_94 : BitVec 32 := 0#32
  let v178 : BitVec 32 := Scalar.select v177 c5_i32_93 c0_i32_94
  let v179 : BitVec 32 := Scalar.addi v174 v178
  let c0_i32_95 : BitVec 32 := 0#32
  let v180 : BitVec 1 := Scalar.cmpi .sgt v22 c0_i32_95
  let v55 : BitVec 32 := Scalar.addi v54 v19
  let c1_i32_96 : BitVec 32 := 1#32
  let v181 : BitVec 1 := Scalar.cmpi .eq v55 c1_i32_96
  let v182 : BitVec 1 := Scalar.andi v180 v181
  let c6_i32_97 : BitVec 32 := 6#32
  let c0_i32_98 : BitVec 32 := 0#32
  let v183 : BitVec 32 := Scalar.select v182 c6_i32_97 c0_i32_98
  let v184 : BitVec 32 := Scalar.addi v179 v183
  let c0_i32_99 : BitVec 32 := 0#32
  let v185 : BitVec 1 := Scalar.cmpi .sgt v25 c0_i32_99
  let v56 : BitVec 32 := Scalar.addi v55 v22
  let c1_i32_100 : BitVec 32 := 1#32
  let v186 : BitVec 1 := Scalar.cmpi .eq v56 c1_i32_100
  let v187 : BitVec 1 := Scalar.andi v185 v186
  let c7_i32_101 : BitVec 32 := 7#32
  let c0_i32_102 : BitVec 32 := 0#32
  let v188 : BitVec 32 := Scalar.select v187 c7_i32_101 c0_i32_102
  let v189 : BitVec 32 := Scalar.addi v184 v188
  let c0_i32_103 : BitVec 32 := 0#32
  let v190 : BitVec 1 := Scalar.cmpi .sgt v28 c0_i32_103
  let v57 : BitVec 32 := Scalar.addi v56 v25
  let c1_i32_104 : BitVec 32 := 1#32
  let v191 : BitVec 1 := Scalar.cmpi .eq v57 c1_i32_104
  let v192 : BitVec 1 := Scalar.andi v190 v191
  let c8_i32_105 : BitVec 32 := 8#32
  let c0_i32_106 : BitVec 32 := 0#32
  let v193 : BitVec 32 := Scalar.select v192 c8_i32_105 c0_i32_106
  let v194 : BitVec 32 := Scalar.addi v189 v193
  let c0_i32_107 : BitVec 32 := 0#32
  let v195 : BitVec 1 := Scalar.cmpi .sgt v31 c0_i32_107
  let v58 : BitVec 32 := Scalar.addi v57 v28
  let c1_i32_108 : BitVec 32 := 1#32
  let v196 : BitVec 1 := Scalar.cmpi .eq v58 c1_i32_108
  let v197 : BitVec 1 := Scalar.andi v195 v196
  let c9_i32_109 : BitVec 32 := 9#32
  let c0_i32_110 : BitVec 32 := 0#32
  let v198 : BitVec 32 := Scalar.select v197 c9_i32_109 c0_i32_110
  let v199 : BitVec 32 := Scalar.addi v194 v198
  let c0_i32_111 : BitVec 32 := 0#32
  let v200 : BitVec 1 := Scalar.cmpi .sgt v34 c0_i32_111
  let v59 : BitVec 32 := Scalar.addi v58 v31
  let c1_i32_112 : BitVec 32 := 1#32
  let v201 : BitVec 1 := Scalar.cmpi .eq v59 c1_i32_112
  let v202 : BitVec 1 := Scalar.andi v200 v201
  let c10_i32_113 : BitVec 32 := 10#32
  let c0_i32_114 : BitVec 32 := 0#32
  let v203 : BitVec 32 := Scalar.select v202 c10_i32_113 c0_i32_114
  let v204 : BitVec 32 := Scalar.addi v199 v203
  let c0_i32_115 : BitVec 32 := 0#32
  let v205 : BitVec 1 := Scalar.cmpi .sgt v37 c0_i32_115
  let v60 : BitVec 32 := Scalar.addi v59 v34
  let c1_i32_116 : BitVec 32 := 1#32
  let v206 : BitVec 1 := Scalar.cmpi .eq v60 c1_i32_116
  let v207 : BitVec 1 := Scalar.andi v205 v206
  let c11_i32_117 : BitVec 32 := 11#32
  let c0_i32_118 : BitVec 32 := 0#32
  let v208 : BitVec 32 := Scalar.select v207 c11_i32_117 c0_i32_118
  let v209 : BitVec 32 := Scalar.addi v204 v208
  let c0_i32_119 : BitVec 32 := 0#32
  let v210 : BitVec 1 := Scalar.cmpi .sgt v40 c0_i32_119
  let v61 : BitVec 32 := Scalar.addi v60 v37
  let c1_i32_120 : BitVec 32 := 1#32
  let v211 : BitVec 1 := Scalar.cmpi .eq v61 c1_i32_120
  let v212 : BitVec 1 := Scalar.andi v210 v211
  let c12_i32_121 : BitVec 32 := 12#32
  let c0_i32_122 : BitVec 32 := 0#32
  let v213 : BitVec 32 := Scalar.select v212 c12_i32_121 c0_i32_122
  let v214 : BitVec 32 := Scalar.addi v209 v213
  let c0_i32_123 : BitVec 32 := 0#32
  let v215 : BitVec 1 := Scalar.cmpi .sgt v43 c0_i32_123
  let v62 : BitVec 32 := Scalar.addi v61 v40
  let c1_i32_124 : BitVec 32 := 1#32
  let v216 : BitVec 1 := Scalar.cmpi .eq v62 c1_i32_124
  let v217 : BitVec 1 := Scalar.andi v215 v216
  let c13_i32_125 : BitVec 32 := 13#32
  let c0_i32_126 : BitVec 32 := 0#32
  let v218 : BitVec 32 := Scalar.select v217 c13_i32_125 c0_i32_126
  let v219 : BitVec 32 := Scalar.addi v214 v218
  let c0_i32_127 : BitVec 32 := 0#32
  let v220 : BitVec 1 := Scalar.cmpi .sgt v46 c0_i32_127
  let v63 : BitVec 32 := Scalar.addi v62 v43
  let c1_i32_128 : BitVec 32 := 1#32
  let v221 : BitVec 1 := Scalar.cmpi .eq v63 c1_i32_128
  let v222 : BitVec 1 := Scalar.andi v220 v221
  let c14_i32_129 : BitVec 32 := 14#32
  let c0_i32_130 : BitVec 32 := 0#32
  let v223 : BitVec 32 := Scalar.select v222 c14_i32_129 c0_i32_130
  let v224 : BitVec 32 := Scalar.addi v219 v223
  let c0_i32_131 : BitVec 32 := 0#32
  let v225 : BitVec 1 := Scalar.cmpi .sgt v49 c0_i32_131
  let v64 : BitVec 32 := Scalar.addi v63 v46
  let c1_i32_132 : BitVec 32 := 1#32
  let v226 : BitVec 1 := Scalar.cmpi .eq v64 c1_i32_132
  let v227 : BitVec 1 := Scalar.andi v225 v226
  let c15_i32_133 : BitVec 32 := 15#32
  let c0_i32_134 : BitVec 32 := 0#32
  let v228 : BitVec 32 := Scalar.select v227 c15_i32_133 c0_i32_134
  let v229 : BitVec 32 := Scalar.addi v224 v228
  let c640_i32_2377 : BitVec 32 := 640#32
  let v3176 : BitVec 32 := Scalar.muli v229 c640_i32_2377
  ![v1.toNat, v3176.toNat]
def k1_cond3 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c1_i32_135 : BitVec 32 := 1#32
  let v230 : BitVec 1 := Scalar.cmpi .sgt v65 c1_i32_135
  let v231 : BitVec 32 := Scalar.extui v230
  let c0_i32_136 : BitVec 32 := 0#32
  let v232 : BitVec 1 := Scalar.cmpi .ne v231 c0_i32_136
  v232

def k1_off22 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c640_i32_2377 : BitVec 32 := 640#32
  ![v1.toNat, 640]
def k1_off23 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1280_i32_2378 : BitVec 32 := 1280#32
  ![v1.toNat, 1280]
def k1_off24 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_143 : BitVec 32 := 0#32
  let c0_i32_139 : BitVec 32 := 0#32
  let v236 : BitVec 1 := Scalar.cmpi .sgt v4 c0_i32_139
  let false_140 : BitVec 1 := 0#1
  let v237 : BitVec 1 := Scalar.andi v236 false_140
  let c0_i32_141 : BitVec 32 := 0#32
  let c0_i32_142 : BitVec 32 := 0#32
  let v238 : BitVec 32 := Scalar.select v237 c0_i32_141 c0_i32_142
  let v239 : BitVec 32 := Scalar.addi c0_i32_143 v238
  let c0_i32_144 : BitVec 32 := 0#32
  let v240 : BitVec 1 := Scalar.cmpi .sgt v7 c0_i32_144
  let c0_i32_2 : BitVec 32 := 0#32
  let v50 : BitVec 32 := Scalar.addi c0_i32_2 v4
  let c2_i32_145 : BitVec 32 := 2#32
  let v241 : BitVec 1 := Scalar.cmpi .eq v50 c2_i32_145
  let v242 : BitVec 1 := Scalar.andi v240 v241
  let c1_i32_146 : BitVec 32 := 1#32
  let c0_i32_147 : BitVec 32 := 0#32
  let v243 : BitVec 32 := Scalar.select v242 c1_i32_146 c0_i32_147
  let v244 : BitVec 32 := Scalar.addi v239 v243
  let c0_i32_148 : BitVec 32 := 0#32
  let v245 : BitVec 1 := Scalar.cmpi .sgt v10 c0_i32_148
  let v51 : BitVec 32 := Scalar.addi v50 v7
  let c2_i32_149 : BitVec 32 := 2#32
  let v246 : BitVec 1 := Scalar.cmpi .eq v51 c2_i32_149
  let v247 : BitVec 1 := Scalar.andi v245 v246
  let c2_i32_150 : BitVec 32 := 2#32
  let c0_i32_151 : BitVec 32 := 0#32
  let v248 : BitVec 32 := Scalar.select v247 c2_i32_150 c0_i32_151
  let v249 : BitVec 32 := Scalar.addi v244 v248
  let c0_i32_152 : BitVec 32 := 0#32
  let v250 : BitVec 1 := Scalar.cmpi .sgt v13 c0_i32_152
  let v52 : BitVec 32 := Scalar.addi v51 v10
  let c2_i32_153 : BitVec 32 := 2#32
  let v251 : BitVec 1 := Scalar.cmpi .eq v52 c2_i32_153
  let v252 : BitVec 1 := Scalar.andi v250 v251
  let c3_i32_154 : BitVec 32 := 3#32
  let c0_i32_155 : BitVec 32 := 0#32
  let v253 : BitVec 32 := Scalar.select v252 c3_i32_154 c0_i32_155
  let v254 : BitVec 32 := Scalar.addi v249 v253
  let c0_i32_156 : BitVec 32 := 0#32
  let v255 : BitVec 1 := Scalar.cmpi .sgt v16 c0_i32_156
  let v53 : BitVec 32 := Scalar.addi v52 v13
  let c2_i32_157 : BitVec 32 := 2#32
  let v256 : BitVec 1 := Scalar.cmpi .eq v53 c2_i32_157
  let v257 : BitVec 1 := Scalar.andi v255 v256
  let c4_i32_158 : BitVec 32 := 4#32
  let c0_i32_159 : BitVec 32 := 0#32
  let v258 : BitVec 32 := Scalar.select v257 c4_i32_158 c0_i32_159
  let v259 : BitVec 32 := Scalar.addi v254 v258
  let c0_i32_160 : BitVec 32 := 0#32
  let v260 : BitVec 1 := Scalar.cmpi .sgt v19 c0_i32_160
  let v54 : BitVec 32 := Scalar.addi v53 v16
  let c2_i32_161 : BitVec 32 := 2#32
  let v261 : BitVec 1 := Scalar.cmpi .eq v54 c2_i32_161
  let v262 : BitVec 1 := Scalar.andi v260 v261
  let c5_i32_162 : BitVec 32 := 5#32
  let c0_i32_163 : BitVec 32 := 0#32
  let v263 : BitVec 32 := Scalar.select v262 c5_i32_162 c0_i32_163
  let v264 : BitVec 32 := Scalar.addi v259 v263
  let c0_i32_164 : BitVec 32 := 0#32
  let v265 : BitVec 1 := Scalar.cmpi .sgt v22 c0_i32_164
  let v55 : BitVec 32 := Scalar.addi v54 v19
  let c2_i32_165 : BitVec 32 := 2#32
  let v266 : BitVec 1 := Scalar.cmpi .eq v55 c2_i32_165
  let v267 : BitVec 1 := Scalar.andi v265 v266
  let c6_i32_166 : BitVec 32 := 6#32
  let c0_i32_167 : BitVec 32 := 0#32
  let v268 : BitVec 32 := Scalar.select v267 c6_i32_166 c0_i32_167
  let v269 : BitVec 32 := Scalar.addi v264 v268
  let c0_i32_168 : BitVec 32 := 0#32
  let v270 : BitVec 1 := Scalar.cmpi .sgt v25 c0_i32_168
  let v56 : BitVec 32 := Scalar.addi v55 v22
  let c2_i32_169 : BitVec 32 := 2#32
  let v271 : BitVec 1 := Scalar.cmpi .eq v56 c2_i32_169
  let v272 : BitVec 1 := Scalar.andi v270 v271
  let c7_i32_170 : BitVec 32 := 7#32
  let c0_i32_171 : BitVec 32 := 0#32
  let v273 : BitVec 32 := Scalar.select v272 c7_i32_170 c0_i32_171
  let v274 : BitVec 32 := Scalar.addi v269 v273
  let c0_i32_172 : BitVec 32 := 0#32
  let v275 : BitVec 1 := Scalar.cmpi .sgt v28 c0_i32_172
  let v57 : BitVec 32 := Scalar.addi v56 v25
  let c2_i32_173 : BitVec 32 := 2#32
  let v276 : BitVec 1 := Scalar.cmpi .eq v57 c2_i32_173
  let v277 : BitVec 1 := Scalar.andi v275 v276
  let c8_i32_174 : BitVec 32 := 8#32
  let c0_i32_175 : BitVec 32 := 0#32
  let v278 : BitVec 32 := Scalar.select v277 c8_i32_174 c0_i32_175
  let v279 : BitVec 32 := Scalar.addi v274 v278
  let c0_i32_176 : BitVec 32 := 0#32
  let v280 : BitVec 1 := Scalar.cmpi .sgt v31 c0_i32_176
  let v58 : BitVec 32 := Scalar.addi v57 v28
  let c2_i32_177 : BitVec 32 := 2#32
  let v281 : BitVec 1 := Scalar.cmpi .eq v58 c2_i32_177
  let v282 : BitVec 1 := Scalar.andi v280 v281
  let c9_i32_178 : BitVec 32 := 9#32
  let c0_i32_179 : BitVec 32 := 0#32
  let v283 : BitVec 32 := Scalar.select v282 c9_i32_178 c0_i32_179
  let v284 : BitVec 32 := Scalar.addi v279 v283
  let c0_i32_180 : BitVec 32 := 0#32
  let v285 : BitVec 1 := Scalar.cmpi .sgt v34 c0_i32_180
  let v59 : BitVec 32 := Scalar.addi v58 v31
  let c2_i32_181 : BitVec 32 := 2#32
  let v286 : BitVec 1 := Scalar.cmpi .eq v59 c2_i32_181
  let v287 : BitVec 1 := Scalar.andi v285 v286
  let c10_i32_182 : BitVec 32 := 10#32
  let c0_i32_183 : BitVec 32 := 0#32
  let v288 : BitVec 32 := Scalar.select v287 c10_i32_182 c0_i32_183
  let v289 : BitVec 32 := Scalar.addi v284 v288
  let c0_i32_184 : BitVec 32 := 0#32
  let v290 : BitVec 1 := Scalar.cmpi .sgt v37 c0_i32_184
  let v60 : BitVec 32 := Scalar.addi v59 v34
  let c2_i32_185 : BitVec 32 := 2#32
  let v291 : BitVec 1 := Scalar.cmpi .eq v60 c2_i32_185
  let v292 : BitVec 1 := Scalar.andi v290 v291
  let c11_i32_186 : BitVec 32 := 11#32
  let c0_i32_187 : BitVec 32 := 0#32
  let v293 : BitVec 32 := Scalar.select v292 c11_i32_186 c0_i32_187
  let v294 : BitVec 32 := Scalar.addi v289 v293
  let c0_i32_188 : BitVec 32 := 0#32
  let v295 : BitVec 1 := Scalar.cmpi .sgt v40 c0_i32_188
  let v61 : BitVec 32 := Scalar.addi v60 v37
  let c2_i32_189 : BitVec 32 := 2#32
  let v296 : BitVec 1 := Scalar.cmpi .eq v61 c2_i32_189
  let v297 : BitVec 1 := Scalar.andi v295 v296
  let c12_i32_190 : BitVec 32 := 12#32
  let c0_i32_191 : BitVec 32 := 0#32
  let v298 : BitVec 32 := Scalar.select v297 c12_i32_190 c0_i32_191
  let v299 : BitVec 32 := Scalar.addi v294 v298
  let c0_i32_192 : BitVec 32 := 0#32
  let v300 : BitVec 1 := Scalar.cmpi .sgt v43 c0_i32_192
  let v62 : BitVec 32 := Scalar.addi v61 v40
  let c2_i32_193 : BitVec 32 := 2#32
  let v301 : BitVec 1 := Scalar.cmpi .eq v62 c2_i32_193
  let v302 : BitVec 1 := Scalar.andi v300 v301
  let c13_i32_194 : BitVec 32 := 13#32
  let c0_i32_195 : BitVec 32 := 0#32
  let v303 : BitVec 32 := Scalar.select v302 c13_i32_194 c0_i32_195
  let v304 : BitVec 32 := Scalar.addi v299 v303
  let c0_i32_196 : BitVec 32 := 0#32
  let v305 : BitVec 1 := Scalar.cmpi .sgt v46 c0_i32_196
  let v63 : BitVec 32 := Scalar.addi v62 v43
  let c2_i32_197 : BitVec 32 := 2#32
  let v306 : BitVec 1 := Scalar.cmpi .eq v63 c2_i32_197
  let v307 : BitVec 1 := Scalar.andi v305 v306
  let c14_i32_198 : BitVec 32 := 14#32
  let c0_i32_199 : BitVec 32 := 0#32
  let v308 : BitVec 32 := Scalar.select v307 c14_i32_198 c0_i32_199
  let v309 : BitVec 32 := Scalar.addi v304 v308
  let c0_i32_200 : BitVec 32 := 0#32
  let v310 : BitVec 1 := Scalar.cmpi .sgt v49 c0_i32_200
  let v64 : BitVec 32 := Scalar.addi v63 v46
  let c2_i32_201 : BitVec 32 := 2#32
  let v311 : BitVec 1 := Scalar.cmpi .eq v64 c2_i32_201
  let v312 : BitVec 1 := Scalar.andi v310 v311
  let c15_i32_202 : BitVec 32 := 15#32
  let c0_i32_203 : BitVec 32 := 0#32
  let v313 : BitVec 32 := Scalar.select v312 c15_i32_202 c0_i32_203
  let v314 : BitVec 32 := Scalar.addi v309 v313
  let c640_i32_2377 : BitVec 32 := 640#32
  let v3176 : BitVec 32 := Scalar.muli v314 c640_i32_2377
  ![v1.toNat, v3176.toNat]
def k1_cond5 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c2_i32_204 : BitVec 32 := 2#32
  let v315 : BitVec 1 := Scalar.cmpi .sgt v65 c2_i32_204
  let v316 : BitVec 32 := Scalar.extui v315
  let c0_i32_205 : BitVec 32 := 0#32
  let v317 : BitVec 1 := Scalar.cmpi .ne v316 c0_i32_205
  v317

def k1_off25 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1280_i32_2377 : BitVec 32 := 1280#32
  ![v1.toNat, 1280]
def k1_off26 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1920_i32_2378 : BitVec 32 := 1920#32
  ![v1.toNat, 1920]
def k1_off27 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_212 : BitVec 32 := 0#32
  let c0_i32_208 : BitVec 32 := 0#32
  let v321 : BitVec 1 := Scalar.cmpi .sgt v4 c0_i32_208
  let false_209 : BitVec 1 := 0#1
  let v322 : BitVec 1 := Scalar.andi v321 false_209
  let c0_i32_210 : BitVec 32 := 0#32
  let c0_i32_211 : BitVec 32 := 0#32
  let v323 : BitVec 32 := Scalar.select v322 c0_i32_210 c0_i32_211
  let v324 : BitVec 32 := Scalar.addi c0_i32_212 v323
  let c0_i32_213 : BitVec 32 := 0#32
  let v325 : BitVec 1 := Scalar.cmpi .sgt v7 c0_i32_213
  let c0_i32_2 : BitVec 32 := 0#32
  let v50 : BitVec 32 := Scalar.addi c0_i32_2 v4
  let c3_i32_214 : BitVec 32 := 3#32
  let v326 : BitVec 1 := Scalar.cmpi .eq v50 c3_i32_214
  let v327 : BitVec 1 := Scalar.andi v325 v326
  let c1_i32_215 : BitVec 32 := 1#32
  let c0_i32_216 : BitVec 32 := 0#32
  let v328 : BitVec 32 := Scalar.select v327 c1_i32_215 c0_i32_216
  let v329 : BitVec 32 := Scalar.addi v324 v328
  let c0_i32_217 : BitVec 32 := 0#32
  let v330 : BitVec 1 := Scalar.cmpi .sgt v10 c0_i32_217
  let v51 : BitVec 32 := Scalar.addi v50 v7
  let c3_i32_218 : BitVec 32 := 3#32
  let v331 : BitVec 1 := Scalar.cmpi .eq v51 c3_i32_218
  let v332 : BitVec 1 := Scalar.andi v330 v331
  let c2_i32_219 : BitVec 32 := 2#32
  let c0_i32_220 : BitVec 32 := 0#32
  let v333 : BitVec 32 := Scalar.select v332 c2_i32_219 c0_i32_220
  let v334 : BitVec 32 := Scalar.addi v329 v333
  let c0_i32_221 : BitVec 32 := 0#32
  let v335 : BitVec 1 := Scalar.cmpi .sgt v13 c0_i32_221
  let v52 : BitVec 32 := Scalar.addi v51 v10
  let c3_i32_222 : BitVec 32 := 3#32
  let v336 : BitVec 1 := Scalar.cmpi .eq v52 c3_i32_222
  let v337 : BitVec 1 := Scalar.andi v335 v336
  let c3_i32_223 : BitVec 32 := 3#32
  let c0_i32_224 : BitVec 32 := 0#32
  let v338 : BitVec 32 := Scalar.select v337 c3_i32_223 c0_i32_224
  let v339 : BitVec 32 := Scalar.addi v334 v338
  let c0_i32_225 : BitVec 32 := 0#32
  let v340 : BitVec 1 := Scalar.cmpi .sgt v16 c0_i32_225
  let v53 : BitVec 32 := Scalar.addi v52 v13
  let c3_i32_226 : BitVec 32 := 3#32
  let v341 : BitVec 1 := Scalar.cmpi .eq v53 c3_i32_226
  let v342 : BitVec 1 := Scalar.andi v340 v341
  let c4_i32_227 : BitVec 32 := 4#32
  let c0_i32_228 : BitVec 32 := 0#32
  let v343 : BitVec 32 := Scalar.select v342 c4_i32_227 c0_i32_228
  let v344 : BitVec 32 := Scalar.addi v339 v343
  let c0_i32_229 : BitVec 32 := 0#32
  let v345 : BitVec 1 := Scalar.cmpi .sgt v19 c0_i32_229
  let v54 : BitVec 32 := Scalar.addi v53 v16
  let c3_i32_230 : BitVec 32 := 3#32
  let v346 : BitVec 1 := Scalar.cmpi .eq v54 c3_i32_230
  let v347 : BitVec 1 := Scalar.andi v345 v346
  let c5_i32_231 : BitVec 32 := 5#32
  let c0_i32_232 : BitVec 32 := 0#32
  let v348 : BitVec 32 := Scalar.select v347 c5_i32_231 c0_i32_232
  let v349 : BitVec 32 := Scalar.addi v344 v348
  let c0_i32_233 : BitVec 32 := 0#32
  let v350 : BitVec 1 := Scalar.cmpi .sgt v22 c0_i32_233
  let v55 : BitVec 32 := Scalar.addi v54 v19
  let c3_i32_234 : BitVec 32 := 3#32
  let v351 : BitVec 1 := Scalar.cmpi .eq v55 c3_i32_234
  let v352 : BitVec 1 := Scalar.andi v350 v351
  let c6_i32_235 : BitVec 32 := 6#32
  let c0_i32_236 : BitVec 32 := 0#32
  let v353 : BitVec 32 := Scalar.select v352 c6_i32_235 c0_i32_236
  let v354 : BitVec 32 := Scalar.addi v349 v353
  let c0_i32_237 : BitVec 32 := 0#32
  let v355 : BitVec 1 := Scalar.cmpi .sgt v25 c0_i32_237
  let v56 : BitVec 32 := Scalar.addi v55 v22
  let c3_i32_238 : BitVec 32 := 3#32
  let v356 : BitVec 1 := Scalar.cmpi .eq v56 c3_i32_238
  let v357 : BitVec 1 := Scalar.andi v355 v356
  let c7_i32_239 : BitVec 32 := 7#32
  let c0_i32_240 : BitVec 32 := 0#32
  let v358 : BitVec 32 := Scalar.select v357 c7_i32_239 c0_i32_240
  let v359 : BitVec 32 := Scalar.addi v354 v358
  let c0_i32_241 : BitVec 32 := 0#32
  let v360 : BitVec 1 := Scalar.cmpi .sgt v28 c0_i32_241
  let v57 : BitVec 32 := Scalar.addi v56 v25
  let c3_i32_242 : BitVec 32 := 3#32
  let v361 : BitVec 1 := Scalar.cmpi .eq v57 c3_i32_242
  let v362 : BitVec 1 := Scalar.andi v360 v361
  let c8_i32_243 : BitVec 32 := 8#32
  let c0_i32_244 : BitVec 32 := 0#32
  let v363 : BitVec 32 := Scalar.select v362 c8_i32_243 c0_i32_244
  let v364 : BitVec 32 := Scalar.addi v359 v363
  let c0_i32_245 : BitVec 32 := 0#32
  let v365 : BitVec 1 := Scalar.cmpi .sgt v31 c0_i32_245
  let v58 : BitVec 32 := Scalar.addi v57 v28
  let c3_i32_246 : BitVec 32 := 3#32
  let v366 : BitVec 1 := Scalar.cmpi .eq v58 c3_i32_246
  let v367 : BitVec 1 := Scalar.andi v365 v366
  let c9_i32_247 : BitVec 32 := 9#32
  let c0_i32_248 : BitVec 32 := 0#32
  let v368 : BitVec 32 := Scalar.select v367 c9_i32_247 c0_i32_248
  let v369 : BitVec 32 := Scalar.addi v364 v368
  let c0_i32_249 : BitVec 32 := 0#32
  let v370 : BitVec 1 := Scalar.cmpi .sgt v34 c0_i32_249
  let v59 : BitVec 32 := Scalar.addi v58 v31
  let c3_i32_250 : BitVec 32 := 3#32
  let v371 : BitVec 1 := Scalar.cmpi .eq v59 c3_i32_250
  let v372 : BitVec 1 := Scalar.andi v370 v371
  let c10_i32_251 : BitVec 32 := 10#32
  let c0_i32_252 : BitVec 32 := 0#32
  let v373 : BitVec 32 := Scalar.select v372 c10_i32_251 c0_i32_252
  let v374 : BitVec 32 := Scalar.addi v369 v373
  let c0_i32_253 : BitVec 32 := 0#32
  let v375 : BitVec 1 := Scalar.cmpi .sgt v37 c0_i32_253
  let v60 : BitVec 32 := Scalar.addi v59 v34
  let c3_i32_254 : BitVec 32 := 3#32
  let v376 : BitVec 1 := Scalar.cmpi .eq v60 c3_i32_254
  let v377 : BitVec 1 := Scalar.andi v375 v376
  let c11_i32_255 : BitVec 32 := 11#32
  let c0_i32_256 : BitVec 32 := 0#32
  let v378 : BitVec 32 := Scalar.select v377 c11_i32_255 c0_i32_256
  let v379 : BitVec 32 := Scalar.addi v374 v378
  let c0_i32_257 : BitVec 32 := 0#32
  let v380 : BitVec 1 := Scalar.cmpi .sgt v40 c0_i32_257
  let v61 : BitVec 32 := Scalar.addi v60 v37
  let c3_i32_258 : BitVec 32 := 3#32
  let v381 : BitVec 1 := Scalar.cmpi .eq v61 c3_i32_258
  let v382 : BitVec 1 := Scalar.andi v380 v381
  let c12_i32_259 : BitVec 32 := 12#32
  let c0_i32_260 : BitVec 32 := 0#32
  let v383 : BitVec 32 := Scalar.select v382 c12_i32_259 c0_i32_260
  let v384 : BitVec 32 := Scalar.addi v379 v383
  let c0_i32_261 : BitVec 32 := 0#32
  let v385 : BitVec 1 := Scalar.cmpi .sgt v43 c0_i32_261
  let v62 : BitVec 32 := Scalar.addi v61 v40
  let c3_i32_262 : BitVec 32 := 3#32
  let v386 : BitVec 1 := Scalar.cmpi .eq v62 c3_i32_262
  let v387 : BitVec 1 := Scalar.andi v385 v386
  let c13_i32_263 : BitVec 32 := 13#32
  let c0_i32_264 : BitVec 32 := 0#32
  let v388 : BitVec 32 := Scalar.select v387 c13_i32_263 c0_i32_264
  let v389 : BitVec 32 := Scalar.addi v384 v388
  let c0_i32_265 : BitVec 32 := 0#32
  let v390 : BitVec 1 := Scalar.cmpi .sgt v46 c0_i32_265
  let v63 : BitVec 32 := Scalar.addi v62 v43
  let c3_i32_266 : BitVec 32 := 3#32
  let v391 : BitVec 1 := Scalar.cmpi .eq v63 c3_i32_266
  let v392 : BitVec 1 := Scalar.andi v390 v391
  let c14_i32_267 : BitVec 32 := 14#32
  let c0_i32_268 : BitVec 32 := 0#32
  let v393 : BitVec 32 := Scalar.select v392 c14_i32_267 c0_i32_268
  let v394 : BitVec 32 := Scalar.addi v389 v393
  let c0_i32_269 : BitVec 32 := 0#32
  let v395 : BitVec 1 := Scalar.cmpi .sgt v49 c0_i32_269
  let v64 : BitVec 32 := Scalar.addi v63 v46
  let c3_i32_270 : BitVec 32 := 3#32
  let v396 : BitVec 1 := Scalar.cmpi .eq v64 c3_i32_270
  let v397 : BitVec 1 := Scalar.andi v395 v396
  let c15_i32_271 : BitVec 32 := 15#32
  let c0_i32_272 : BitVec 32 := 0#32
  let v398 : BitVec 32 := Scalar.select v397 c15_i32_271 c0_i32_272
  let v399 : BitVec 32 := Scalar.addi v394 v398
  let c640_i32_2377 : BitVec 32 := 640#32
  let v3176 : BitVec 32 := Scalar.muli v399 c640_i32_2377
  ![v1.toNat, v3176.toNat]
def k1_cond7 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c3_i32_273 : BitVec 32 := 3#32
  let v400 : BitVec 1 := Scalar.cmpi .sgt v65 c3_i32_273
  let v401 : BitVec 32 := Scalar.extui v400
  let c0_i32_274 : BitVec 32 := 0#32
  let v402 : BitVec 1 := Scalar.cmpi .ne v401 c0_i32_274
  v402

def k1_off28 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1920_i32_2377 : BitVec 32 := 1920#32
  ![v1.toNat, 1920]
def k1_off29 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c2560_i32_2378 : BitVec 32 := 2560#32
  ![v1.toNat, 2560]
def k1_off30 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_281 : BitVec 32 := 0#32
  let c0_i32_277 : BitVec 32 := 0#32
  let v406 : BitVec 1 := Scalar.cmpi .sgt v4 c0_i32_277
  let false_278 : BitVec 1 := 0#1
  let v407 : BitVec 1 := Scalar.andi v406 false_278
  let c0_i32_279 : BitVec 32 := 0#32
  let c0_i32_280 : BitVec 32 := 0#32
  let v408 : BitVec 32 := Scalar.select v407 c0_i32_279 c0_i32_280
  let v409 : BitVec 32 := Scalar.addi c0_i32_281 v408
  let c0_i32_282 : BitVec 32 := 0#32
  let v410 : BitVec 1 := Scalar.cmpi .sgt v7 c0_i32_282
  let c0_i32_2 : BitVec 32 := 0#32
  let v50 : BitVec 32 := Scalar.addi c0_i32_2 v4
  let c4_i32_283 : BitVec 32 := 4#32
  let v411 : BitVec 1 := Scalar.cmpi .eq v50 c4_i32_283
  let v412 : BitVec 1 := Scalar.andi v410 v411
  let c1_i32_284 : BitVec 32 := 1#32
  let c0_i32_285 : BitVec 32 := 0#32
  let v413 : BitVec 32 := Scalar.select v412 c1_i32_284 c0_i32_285
  let v414 : BitVec 32 := Scalar.addi v409 v413
  let c0_i32_286 : BitVec 32 := 0#32
  let v415 : BitVec 1 := Scalar.cmpi .sgt v10 c0_i32_286
  let v51 : BitVec 32 := Scalar.addi v50 v7
  let c4_i32_287 : BitVec 32 := 4#32
  let v416 : BitVec 1 := Scalar.cmpi .eq v51 c4_i32_287
  let v417 : BitVec 1 := Scalar.andi v415 v416
  let c2_i32_288 : BitVec 32 := 2#32
  let c0_i32_289 : BitVec 32 := 0#32
  let v418 : BitVec 32 := Scalar.select v417 c2_i32_288 c0_i32_289
  let v419 : BitVec 32 := Scalar.addi v414 v418
  let c0_i32_290 : BitVec 32 := 0#32
  let v420 : BitVec 1 := Scalar.cmpi .sgt v13 c0_i32_290
  let v52 : BitVec 32 := Scalar.addi v51 v10
  let c4_i32_291 : BitVec 32 := 4#32
  let v421 : BitVec 1 := Scalar.cmpi .eq v52 c4_i32_291
  let v422 : BitVec 1 := Scalar.andi v420 v421
  let c3_i32_292 : BitVec 32 := 3#32
  let c0_i32_293 : BitVec 32 := 0#32
  let v423 : BitVec 32 := Scalar.select v422 c3_i32_292 c0_i32_293
  let v424 : BitVec 32 := Scalar.addi v419 v423
  let c0_i32_294 : BitVec 32 := 0#32
  let v425 : BitVec 1 := Scalar.cmpi .sgt v16 c0_i32_294
  let v53 : BitVec 32 := Scalar.addi v52 v13
  let c4_i32_295 : BitVec 32 := 4#32
  let v426 : BitVec 1 := Scalar.cmpi .eq v53 c4_i32_295
  let v427 : BitVec 1 := Scalar.andi v425 v426
  let c4_i32_296 : BitVec 32 := 4#32
  let c0_i32_297 : BitVec 32 := 0#32
  let v428 : BitVec 32 := Scalar.select v427 c4_i32_296 c0_i32_297
  let v429 : BitVec 32 := Scalar.addi v424 v428
  let c0_i32_298 : BitVec 32 := 0#32
  let v430 : BitVec 1 := Scalar.cmpi .sgt v19 c0_i32_298
  let v54 : BitVec 32 := Scalar.addi v53 v16
  let c4_i32_299 : BitVec 32 := 4#32
  let v431 : BitVec 1 := Scalar.cmpi .eq v54 c4_i32_299
  let v432 : BitVec 1 := Scalar.andi v430 v431
  let c5_i32_300 : BitVec 32 := 5#32
  let c0_i32_301 : BitVec 32 := 0#32
  let v433 : BitVec 32 := Scalar.select v432 c5_i32_300 c0_i32_301
  let v434 : BitVec 32 := Scalar.addi v429 v433
  let c0_i32_302 : BitVec 32 := 0#32
  let v435 : BitVec 1 := Scalar.cmpi .sgt v22 c0_i32_302
  let v55 : BitVec 32 := Scalar.addi v54 v19
  let c4_i32_303 : BitVec 32 := 4#32
  let v436 : BitVec 1 := Scalar.cmpi .eq v55 c4_i32_303
  let v437 : BitVec 1 := Scalar.andi v435 v436
  let c6_i32_304 : BitVec 32 := 6#32
  let c0_i32_305 : BitVec 32 := 0#32
  let v438 : BitVec 32 := Scalar.select v437 c6_i32_304 c0_i32_305
  let v439 : BitVec 32 := Scalar.addi v434 v438
  let c0_i32_306 : BitVec 32 := 0#32
  let v440 : BitVec 1 := Scalar.cmpi .sgt v25 c0_i32_306
  let v56 : BitVec 32 := Scalar.addi v55 v22
  let c4_i32_307 : BitVec 32 := 4#32
  let v441 : BitVec 1 := Scalar.cmpi .eq v56 c4_i32_307
  let v442 : BitVec 1 := Scalar.andi v440 v441
  let c7_i32_308 : BitVec 32 := 7#32
  let c0_i32_309 : BitVec 32 := 0#32
  let v443 : BitVec 32 := Scalar.select v442 c7_i32_308 c0_i32_309
  let v444 : BitVec 32 := Scalar.addi v439 v443
  let c0_i32_310 : BitVec 32 := 0#32
  let v445 : BitVec 1 := Scalar.cmpi .sgt v28 c0_i32_310
  let v57 : BitVec 32 := Scalar.addi v56 v25
  let c4_i32_311 : BitVec 32 := 4#32
  let v446 : BitVec 1 := Scalar.cmpi .eq v57 c4_i32_311
  let v447 : BitVec 1 := Scalar.andi v445 v446
  let c8_i32_312 : BitVec 32 := 8#32
  let c0_i32_313 : BitVec 32 := 0#32
  let v448 : BitVec 32 := Scalar.select v447 c8_i32_312 c0_i32_313
  let v449 : BitVec 32 := Scalar.addi v444 v448
  let c0_i32_314 : BitVec 32 := 0#32
  let v450 : BitVec 1 := Scalar.cmpi .sgt v31 c0_i32_314
  let v58 : BitVec 32 := Scalar.addi v57 v28
  let c4_i32_315 : BitVec 32 := 4#32
  let v451 : BitVec 1 := Scalar.cmpi .eq v58 c4_i32_315
  let v452 : BitVec 1 := Scalar.andi v450 v451
  let c9_i32_316 : BitVec 32 := 9#32
  let c0_i32_317 : BitVec 32 := 0#32
  let v453 : BitVec 32 := Scalar.select v452 c9_i32_316 c0_i32_317
  let v454 : BitVec 32 := Scalar.addi v449 v453
  let c0_i32_318 : BitVec 32 := 0#32
  let v455 : BitVec 1 := Scalar.cmpi .sgt v34 c0_i32_318
  let v59 : BitVec 32 := Scalar.addi v58 v31
  let c4_i32_319 : BitVec 32 := 4#32
  let v456 : BitVec 1 := Scalar.cmpi .eq v59 c4_i32_319
  let v457 : BitVec 1 := Scalar.andi v455 v456
  let c10_i32_320 : BitVec 32 := 10#32
  let c0_i32_321 : BitVec 32 := 0#32
  let v458 : BitVec 32 := Scalar.select v457 c10_i32_320 c0_i32_321
  let v459 : BitVec 32 := Scalar.addi v454 v458
  let c0_i32_322 : BitVec 32 := 0#32
  let v460 : BitVec 1 := Scalar.cmpi .sgt v37 c0_i32_322
  let v60 : BitVec 32 := Scalar.addi v59 v34
  let c4_i32_323 : BitVec 32 := 4#32
  let v461 : BitVec 1 := Scalar.cmpi .eq v60 c4_i32_323
  let v462 : BitVec 1 := Scalar.andi v460 v461
  let c11_i32_324 : BitVec 32 := 11#32
  let c0_i32_325 : BitVec 32 := 0#32
  let v463 : BitVec 32 := Scalar.select v462 c11_i32_324 c0_i32_325
  let v464 : BitVec 32 := Scalar.addi v459 v463
  let c0_i32_326 : BitVec 32 := 0#32
  let v465 : BitVec 1 := Scalar.cmpi .sgt v40 c0_i32_326
  let v61 : BitVec 32 := Scalar.addi v60 v37
  let c4_i32_327 : BitVec 32 := 4#32
  let v466 : BitVec 1 := Scalar.cmpi .eq v61 c4_i32_327
  let v467 : BitVec 1 := Scalar.andi v465 v466
  let c12_i32_328 : BitVec 32 := 12#32
  let c0_i32_329 : BitVec 32 := 0#32
  let v468 : BitVec 32 := Scalar.select v467 c12_i32_328 c0_i32_329
  let v469 : BitVec 32 := Scalar.addi v464 v468
  let c0_i32_330 : BitVec 32 := 0#32
  let v470 : BitVec 1 := Scalar.cmpi .sgt v43 c0_i32_330
  let v62 : BitVec 32 := Scalar.addi v61 v40
  let c4_i32_331 : BitVec 32 := 4#32
  let v471 : BitVec 1 := Scalar.cmpi .eq v62 c4_i32_331
  let v472 : BitVec 1 := Scalar.andi v470 v471
  let c13_i32_332 : BitVec 32 := 13#32
  let c0_i32_333 : BitVec 32 := 0#32
  let v473 : BitVec 32 := Scalar.select v472 c13_i32_332 c0_i32_333
  let v474 : BitVec 32 := Scalar.addi v469 v473
  let c0_i32_334 : BitVec 32 := 0#32
  let v475 : BitVec 1 := Scalar.cmpi .sgt v46 c0_i32_334
  let v63 : BitVec 32 := Scalar.addi v62 v43
  let c4_i32_335 : BitVec 32 := 4#32
  let v476 : BitVec 1 := Scalar.cmpi .eq v63 c4_i32_335
  let v477 : BitVec 1 := Scalar.andi v475 v476
  let c14_i32_336 : BitVec 32 := 14#32
  let c0_i32_337 : BitVec 32 := 0#32
  let v478 : BitVec 32 := Scalar.select v477 c14_i32_336 c0_i32_337
  let v479 : BitVec 32 := Scalar.addi v474 v478
  let c0_i32_338 : BitVec 32 := 0#32
  let v480 : BitVec 1 := Scalar.cmpi .sgt v49 c0_i32_338
  let v64 : BitVec 32 := Scalar.addi v63 v46
  let c4_i32_339 : BitVec 32 := 4#32
  let v481 : BitVec 1 := Scalar.cmpi .eq v64 c4_i32_339
  let v482 : BitVec 1 := Scalar.andi v480 v481
  let c15_i32_340 : BitVec 32 := 15#32
  let c0_i32_341 : BitVec 32 := 0#32
  let v483 : BitVec 32 := Scalar.select v482 c15_i32_340 c0_i32_341
  let v484 : BitVec 32 := Scalar.addi v479 v483
  let c640_i32_2377 : BitVec 32 := 640#32
  let v3176 : BitVec 32 := Scalar.muli v484 c640_i32_2377
  ![v1.toNat, v3176.toNat]
def k1_cond9 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c4_i32_342 : BitVec 32 := 4#32
  let v485 : BitVec 1 := Scalar.cmpi .sgt v65 c4_i32_342
  let v486 : BitVec 32 := Scalar.extui v485
  let c0_i32_343 : BitVec 32 := 0#32
  let v487 : BitVec 1 := Scalar.cmpi .ne v486 c0_i32_343
  v487

def k1_off31 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c2560_i32_2377 : BitVec 32 := 2560#32
  ![v1.toNat, 2560]
def k1_off32 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c3200_i32_2378 : BitVec 32 := 3200#32
  ![v1.toNat, 3200]
def k1_off33 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_350 : BitVec 32 := 0#32
  let c0_i32_346 : BitVec 32 := 0#32
  let v491 : BitVec 1 := Scalar.cmpi .sgt v4 c0_i32_346
  let false_347 : BitVec 1 := 0#1
  let v492 : BitVec 1 := Scalar.andi v491 false_347
  let c0_i32_348 : BitVec 32 := 0#32
  let c0_i32_349 : BitVec 32 := 0#32
  let v493 : BitVec 32 := Scalar.select v492 c0_i32_348 c0_i32_349
  let v494 : BitVec 32 := Scalar.addi c0_i32_350 v493
  let c0_i32_351 : BitVec 32 := 0#32
  let v495 : BitVec 1 := Scalar.cmpi .sgt v7 c0_i32_351
  let c0_i32_2 : BitVec 32 := 0#32
  let v50 : BitVec 32 := Scalar.addi c0_i32_2 v4
  let c5_i32_352 : BitVec 32 := 5#32
  let v496 : BitVec 1 := Scalar.cmpi .eq v50 c5_i32_352
  let v497 : BitVec 1 := Scalar.andi v495 v496
  let c1_i32_353 : BitVec 32 := 1#32
  let c0_i32_354 : BitVec 32 := 0#32
  let v498 : BitVec 32 := Scalar.select v497 c1_i32_353 c0_i32_354
  let v499 : BitVec 32 := Scalar.addi v494 v498
  let c0_i32_355 : BitVec 32 := 0#32
  let v500 : BitVec 1 := Scalar.cmpi .sgt v10 c0_i32_355
  let v51 : BitVec 32 := Scalar.addi v50 v7
  let c5_i32_356 : BitVec 32 := 5#32
  let v501 : BitVec 1 := Scalar.cmpi .eq v51 c5_i32_356
  let v502 : BitVec 1 := Scalar.andi v500 v501
  let c2_i32_357 : BitVec 32 := 2#32
  let c0_i32_358 : BitVec 32 := 0#32
  let v503 : BitVec 32 := Scalar.select v502 c2_i32_357 c0_i32_358
  let v504 : BitVec 32 := Scalar.addi v499 v503
  let c0_i32_359 : BitVec 32 := 0#32
  let v505 : BitVec 1 := Scalar.cmpi .sgt v13 c0_i32_359
  let v52 : BitVec 32 := Scalar.addi v51 v10
  let c5_i32_360 : BitVec 32 := 5#32
  let v506 : BitVec 1 := Scalar.cmpi .eq v52 c5_i32_360
  let v507 : BitVec 1 := Scalar.andi v505 v506
  let c3_i32_361 : BitVec 32 := 3#32
  let c0_i32_362 : BitVec 32 := 0#32
  let v508 : BitVec 32 := Scalar.select v507 c3_i32_361 c0_i32_362
  let v509 : BitVec 32 := Scalar.addi v504 v508
  let c0_i32_363 : BitVec 32 := 0#32
  let v510 : BitVec 1 := Scalar.cmpi .sgt v16 c0_i32_363
  let v53 : BitVec 32 := Scalar.addi v52 v13
  let c5_i32_364 : BitVec 32 := 5#32
  let v511 : BitVec 1 := Scalar.cmpi .eq v53 c5_i32_364
  let v512 : BitVec 1 := Scalar.andi v510 v511
  let c4_i32_365 : BitVec 32 := 4#32
  let c0_i32_366 : BitVec 32 := 0#32
  let v513 : BitVec 32 := Scalar.select v512 c4_i32_365 c0_i32_366
  let v514 : BitVec 32 := Scalar.addi v509 v513
  let c0_i32_367 : BitVec 32 := 0#32
  let v515 : BitVec 1 := Scalar.cmpi .sgt v19 c0_i32_367
  let v54 : BitVec 32 := Scalar.addi v53 v16
  let c5_i32_368 : BitVec 32 := 5#32
  let v516 : BitVec 1 := Scalar.cmpi .eq v54 c5_i32_368
  let v517 : BitVec 1 := Scalar.andi v515 v516
  let c5_i32_369 : BitVec 32 := 5#32
  let c0_i32_370 : BitVec 32 := 0#32
  let v518 : BitVec 32 := Scalar.select v517 c5_i32_369 c0_i32_370
  let v519 : BitVec 32 := Scalar.addi v514 v518
  let c0_i32_371 : BitVec 32 := 0#32
  let v520 : BitVec 1 := Scalar.cmpi .sgt v22 c0_i32_371
  let v55 : BitVec 32 := Scalar.addi v54 v19
  let c5_i32_372 : BitVec 32 := 5#32
  let v521 : BitVec 1 := Scalar.cmpi .eq v55 c5_i32_372
  let v522 : BitVec 1 := Scalar.andi v520 v521
  let c6_i32_373 : BitVec 32 := 6#32
  let c0_i32_374 : BitVec 32 := 0#32
  let v523 : BitVec 32 := Scalar.select v522 c6_i32_373 c0_i32_374
  let v524 : BitVec 32 := Scalar.addi v519 v523
  let c0_i32_375 : BitVec 32 := 0#32
  let v525 : BitVec 1 := Scalar.cmpi .sgt v25 c0_i32_375
  let v56 : BitVec 32 := Scalar.addi v55 v22
  let c5_i32_376 : BitVec 32 := 5#32
  let v526 : BitVec 1 := Scalar.cmpi .eq v56 c5_i32_376
  let v527 : BitVec 1 := Scalar.andi v525 v526
  let c7_i32_377 : BitVec 32 := 7#32
  let c0_i32_378 : BitVec 32 := 0#32
  let v528 : BitVec 32 := Scalar.select v527 c7_i32_377 c0_i32_378
  let v529 : BitVec 32 := Scalar.addi v524 v528
  let c0_i32_379 : BitVec 32 := 0#32
  let v530 : BitVec 1 := Scalar.cmpi .sgt v28 c0_i32_379
  let v57 : BitVec 32 := Scalar.addi v56 v25
  let c5_i32_380 : BitVec 32 := 5#32
  let v531 : BitVec 1 := Scalar.cmpi .eq v57 c5_i32_380
  let v532 : BitVec 1 := Scalar.andi v530 v531
  let c8_i32_381 : BitVec 32 := 8#32
  let c0_i32_382 : BitVec 32 := 0#32
  let v533 : BitVec 32 := Scalar.select v532 c8_i32_381 c0_i32_382
  let v534 : BitVec 32 := Scalar.addi v529 v533
  let c0_i32_383 : BitVec 32 := 0#32
  let v535 : BitVec 1 := Scalar.cmpi .sgt v31 c0_i32_383
  let v58 : BitVec 32 := Scalar.addi v57 v28
  let c5_i32_384 : BitVec 32 := 5#32
  let v536 : BitVec 1 := Scalar.cmpi .eq v58 c5_i32_384
  let v537 : BitVec 1 := Scalar.andi v535 v536
  let c9_i32_385 : BitVec 32 := 9#32
  let c0_i32_386 : BitVec 32 := 0#32
  let v538 : BitVec 32 := Scalar.select v537 c9_i32_385 c0_i32_386
  let v539 : BitVec 32 := Scalar.addi v534 v538
  let c0_i32_387 : BitVec 32 := 0#32
  let v540 : BitVec 1 := Scalar.cmpi .sgt v34 c0_i32_387
  let v59 : BitVec 32 := Scalar.addi v58 v31
  let c5_i32_388 : BitVec 32 := 5#32
  let v541 : BitVec 1 := Scalar.cmpi .eq v59 c5_i32_388
  let v542 : BitVec 1 := Scalar.andi v540 v541
  let c10_i32_389 : BitVec 32 := 10#32
  let c0_i32_390 : BitVec 32 := 0#32
  let v543 : BitVec 32 := Scalar.select v542 c10_i32_389 c0_i32_390
  let v544 : BitVec 32 := Scalar.addi v539 v543
  let c0_i32_391 : BitVec 32 := 0#32
  let v545 : BitVec 1 := Scalar.cmpi .sgt v37 c0_i32_391
  let v60 : BitVec 32 := Scalar.addi v59 v34
  let c5_i32_392 : BitVec 32 := 5#32
  let v546 : BitVec 1 := Scalar.cmpi .eq v60 c5_i32_392
  let v547 : BitVec 1 := Scalar.andi v545 v546
  let c11_i32_393 : BitVec 32 := 11#32
  let c0_i32_394 : BitVec 32 := 0#32
  let v548 : BitVec 32 := Scalar.select v547 c11_i32_393 c0_i32_394
  let v549 : BitVec 32 := Scalar.addi v544 v548
  let c0_i32_395 : BitVec 32 := 0#32
  let v550 : BitVec 1 := Scalar.cmpi .sgt v40 c0_i32_395
  let v61 : BitVec 32 := Scalar.addi v60 v37
  let c5_i32_396 : BitVec 32 := 5#32
  let v551 : BitVec 1 := Scalar.cmpi .eq v61 c5_i32_396
  let v552 : BitVec 1 := Scalar.andi v550 v551
  let c12_i32_397 : BitVec 32 := 12#32
  let c0_i32_398 : BitVec 32 := 0#32
  let v553 : BitVec 32 := Scalar.select v552 c12_i32_397 c0_i32_398
  let v554 : BitVec 32 := Scalar.addi v549 v553
  let c0_i32_399 : BitVec 32 := 0#32
  let v555 : BitVec 1 := Scalar.cmpi .sgt v43 c0_i32_399
  let v62 : BitVec 32 := Scalar.addi v61 v40
  let c5_i32_400 : BitVec 32 := 5#32
  let v556 : BitVec 1 := Scalar.cmpi .eq v62 c5_i32_400
  let v557 : BitVec 1 := Scalar.andi v555 v556
  let c13_i32_401 : BitVec 32 := 13#32
  let c0_i32_402 : BitVec 32 := 0#32
  let v558 : BitVec 32 := Scalar.select v557 c13_i32_401 c0_i32_402
  let v559 : BitVec 32 := Scalar.addi v554 v558
  let c0_i32_403 : BitVec 32 := 0#32
  let v560 : BitVec 1 := Scalar.cmpi .sgt v46 c0_i32_403
  let v63 : BitVec 32 := Scalar.addi v62 v43
  let c5_i32_404 : BitVec 32 := 5#32
  let v561 : BitVec 1 := Scalar.cmpi .eq v63 c5_i32_404
  let v562 : BitVec 1 := Scalar.andi v560 v561
  let c14_i32_405 : BitVec 32 := 14#32
  let c0_i32_406 : BitVec 32 := 0#32
  let v563 : BitVec 32 := Scalar.select v562 c14_i32_405 c0_i32_406
  let v564 : BitVec 32 := Scalar.addi v559 v563
  let c0_i32_407 : BitVec 32 := 0#32
  let v565 : BitVec 1 := Scalar.cmpi .sgt v49 c0_i32_407
  let v64 : BitVec 32 := Scalar.addi v63 v46
  let c5_i32_408 : BitVec 32 := 5#32
  let v566 : BitVec 1 := Scalar.cmpi .eq v64 c5_i32_408
  let v567 : BitVec 1 := Scalar.andi v565 v566
  let c15_i32_409 : BitVec 32 := 15#32
  let c0_i32_410 : BitVec 32 := 0#32
  let v568 : BitVec 32 := Scalar.select v567 c15_i32_409 c0_i32_410
  let v569 : BitVec 32 := Scalar.addi v564 v568
  let c640_i32_2377 : BitVec 32 := 640#32
  let v3176 : BitVec 32 := Scalar.muli v569 c640_i32_2377
  ![v1.toNat, v3176.toNat]
def k1_cond11 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c5_i32_411 : BitVec 32 := 5#32
  let v570 : BitVec 1 := Scalar.cmpi .sgt v65 c5_i32_411
  let v571 : BitVec 32 := Scalar.extui v570
  let c0_i32_412 : BitVec 32 := 0#32
  let v572 : BitVec 1 := Scalar.cmpi .ne v571 c0_i32_412
  v572

def k1_off34 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c3200_i32_2377 : BitVec 32 := 3200#32
  ![v1.toNat, 3200]
def k1_off35 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c3840_i32_2378 : BitVec 32 := 3840#32
  ![v1.toNat, 3840]
def k1_off36 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_419 : BitVec 32 := 0#32
  let c0_i32_415 : BitVec 32 := 0#32
  let v576 : BitVec 1 := Scalar.cmpi .sgt v4 c0_i32_415
  let false_416 : BitVec 1 := 0#1
  let v577 : BitVec 1 := Scalar.andi v576 false_416
  let c0_i32_417 : BitVec 32 := 0#32
  let c0_i32_418 : BitVec 32 := 0#32
  let v578 : BitVec 32 := Scalar.select v577 c0_i32_417 c0_i32_418
  let v579 : BitVec 32 := Scalar.addi c0_i32_419 v578
  let c0_i32_420 : BitVec 32 := 0#32
  let v580 : BitVec 1 := Scalar.cmpi .sgt v7 c0_i32_420
  let c0_i32_2 : BitVec 32 := 0#32
  let v50 : BitVec 32 := Scalar.addi c0_i32_2 v4
  let c6_i32_421 : BitVec 32 := 6#32
  let v581 : BitVec 1 := Scalar.cmpi .eq v50 c6_i32_421
  let v582 : BitVec 1 := Scalar.andi v580 v581
  let c1_i32_422 : BitVec 32 := 1#32
  let c0_i32_423 : BitVec 32 := 0#32
  let v583 : BitVec 32 := Scalar.select v582 c1_i32_422 c0_i32_423
  let v584 : BitVec 32 := Scalar.addi v579 v583
  let c0_i32_424 : BitVec 32 := 0#32
  let v585 : BitVec 1 := Scalar.cmpi .sgt v10 c0_i32_424
  let v51 : BitVec 32 := Scalar.addi v50 v7
  let c6_i32_425 : BitVec 32 := 6#32
  let v586 : BitVec 1 := Scalar.cmpi .eq v51 c6_i32_425
  let v587 : BitVec 1 := Scalar.andi v585 v586
  let c2_i32_426 : BitVec 32 := 2#32
  let c0_i32_427 : BitVec 32 := 0#32
  let v588 : BitVec 32 := Scalar.select v587 c2_i32_426 c0_i32_427
  let v589 : BitVec 32 := Scalar.addi v584 v588
  let c0_i32_428 : BitVec 32 := 0#32
  let v590 : BitVec 1 := Scalar.cmpi .sgt v13 c0_i32_428
  let v52 : BitVec 32 := Scalar.addi v51 v10
  let c6_i32_429 : BitVec 32 := 6#32
  let v591 : BitVec 1 := Scalar.cmpi .eq v52 c6_i32_429
  let v592 : BitVec 1 := Scalar.andi v590 v591
  let c3_i32_430 : BitVec 32 := 3#32
  let c0_i32_431 : BitVec 32 := 0#32
  let v593 : BitVec 32 := Scalar.select v592 c3_i32_430 c0_i32_431
  let v594 : BitVec 32 := Scalar.addi v589 v593
  let c0_i32_432 : BitVec 32 := 0#32
  let v595 : BitVec 1 := Scalar.cmpi .sgt v16 c0_i32_432
  let v53 : BitVec 32 := Scalar.addi v52 v13
  let c6_i32_433 : BitVec 32 := 6#32
  let v596 : BitVec 1 := Scalar.cmpi .eq v53 c6_i32_433
  let v597 : BitVec 1 := Scalar.andi v595 v596
  let c4_i32_434 : BitVec 32 := 4#32
  let c0_i32_435 : BitVec 32 := 0#32
  let v598 : BitVec 32 := Scalar.select v597 c4_i32_434 c0_i32_435
  let v599 : BitVec 32 := Scalar.addi v594 v598
  let c0_i32_436 : BitVec 32 := 0#32
  let v600 : BitVec 1 := Scalar.cmpi .sgt v19 c0_i32_436
  let v54 : BitVec 32 := Scalar.addi v53 v16
  let c6_i32_437 : BitVec 32 := 6#32
  let v601 : BitVec 1 := Scalar.cmpi .eq v54 c6_i32_437
  let v602 : BitVec 1 := Scalar.andi v600 v601
  let c5_i32_438 : BitVec 32 := 5#32
  let c0_i32_439 : BitVec 32 := 0#32
  let v603 : BitVec 32 := Scalar.select v602 c5_i32_438 c0_i32_439
  let v604 : BitVec 32 := Scalar.addi v599 v603
  let c0_i32_440 : BitVec 32 := 0#32
  let v605 : BitVec 1 := Scalar.cmpi .sgt v22 c0_i32_440
  let v55 : BitVec 32 := Scalar.addi v54 v19
  let c6_i32_441 : BitVec 32 := 6#32
  let v606 : BitVec 1 := Scalar.cmpi .eq v55 c6_i32_441
  let v607 : BitVec 1 := Scalar.andi v605 v606
  let c6_i32_442 : BitVec 32 := 6#32
  let c0_i32_443 : BitVec 32 := 0#32
  let v608 : BitVec 32 := Scalar.select v607 c6_i32_442 c0_i32_443
  let v609 : BitVec 32 := Scalar.addi v604 v608
  let c0_i32_444 : BitVec 32 := 0#32
  let v610 : BitVec 1 := Scalar.cmpi .sgt v25 c0_i32_444
  let v56 : BitVec 32 := Scalar.addi v55 v22
  let c6_i32_445 : BitVec 32 := 6#32
  let v611 : BitVec 1 := Scalar.cmpi .eq v56 c6_i32_445
  let v612 : BitVec 1 := Scalar.andi v610 v611
  let c7_i32_446 : BitVec 32 := 7#32
  let c0_i32_447 : BitVec 32 := 0#32
  let v613 : BitVec 32 := Scalar.select v612 c7_i32_446 c0_i32_447
  let v614 : BitVec 32 := Scalar.addi v609 v613
  let c0_i32_448 : BitVec 32 := 0#32
  let v615 : BitVec 1 := Scalar.cmpi .sgt v28 c0_i32_448
  let v57 : BitVec 32 := Scalar.addi v56 v25
  let c6_i32_449 : BitVec 32 := 6#32
  let v616 : BitVec 1 := Scalar.cmpi .eq v57 c6_i32_449
  let v617 : BitVec 1 := Scalar.andi v615 v616
  let c8_i32_450 : BitVec 32 := 8#32
  let c0_i32_451 : BitVec 32 := 0#32
  let v618 : BitVec 32 := Scalar.select v617 c8_i32_450 c0_i32_451
  let v619 : BitVec 32 := Scalar.addi v614 v618
  let c0_i32_452 : BitVec 32 := 0#32
  let v620 : BitVec 1 := Scalar.cmpi .sgt v31 c0_i32_452
  let v58 : BitVec 32 := Scalar.addi v57 v28
  let c6_i32_453 : BitVec 32 := 6#32
  let v621 : BitVec 1 := Scalar.cmpi .eq v58 c6_i32_453
  let v622 : BitVec 1 := Scalar.andi v620 v621
  let c9_i32_454 : BitVec 32 := 9#32
  let c0_i32_455 : BitVec 32 := 0#32
  let v623 : BitVec 32 := Scalar.select v622 c9_i32_454 c0_i32_455
  let v624 : BitVec 32 := Scalar.addi v619 v623
  let c0_i32_456 : BitVec 32 := 0#32
  let v625 : BitVec 1 := Scalar.cmpi .sgt v34 c0_i32_456
  let v59 : BitVec 32 := Scalar.addi v58 v31
  let c6_i32_457 : BitVec 32 := 6#32
  let v626 : BitVec 1 := Scalar.cmpi .eq v59 c6_i32_457
  let v627 : BitVec 1 := Scalar.andi v625 v626
  let c10_i32_458 : BitVec 32 := 10#32
  let c0_i32_459 : BitVec 32 := 0#32
  let v628 : BitVec 32 := Scalar.select v627 c10_i32_458 c0_i32_459
  let v629 : BitVec 32 := Scalar.addi v624 v628
  let c0_i32_460 : BitVec 32 := 0#32
  let v630 : BitVec 1 := Scalar.cmpi .sgt v37 c0_i32_460
  let v60 : BitVec 32 := Scalar.addi v59 v34
  let c6_i32_461 : BitVec 32 := 6#32
  let v631 : BitVec 1 := Scalar.cmpi .eq v60 c6_i32_461
  let v632 : BitVec 1 := Scalar.andi v630 v631
  let c11_i32_462 : BitVec 32 := 11#32
  let c0_i32_463 : BitVec 32 := 0#32
  let v633 : BitVec 32 := Scalar.select v632 c11_i32_462 c0_i32_463
  let v634 : BitVec 32 := Scalar.addi v629 v633
  let c0_i32_464 : BitVec 32 := 0#32
  let v635 : BitVec 1 := Scalar.cmpi .sgt v40 c0_i32_464
  let v61 : BitVec 32 := Scalar.addi v60 v37
  let c6_i32_465 : BitVec 32 := 6#32
  let v636 : BitVec 1 := Scalar.cmpi .eq v61 c6_i32_465
  let v637 : BitVec 1 := Scalar.andi v635 v636
  let c12_i32_466 : BitVec 32 := 12#32
  let c0_i32_467 : BitVec 32 := 0#32
  let v638 : BitVec 32 := Scalar.select v637 c12_i32_466 c0_i32_467
  let v639 : BitVec 32 := Scalar.addi v634 v638
  let c0_i32_468 : BitVec 32 := 0#32
  let v640 : BitVec 1 := Scalar.cmpi .sgt v43 c0_i32_468
  let v62 : BitVec 32 := Scalar.addi v61 v40
  let c6_i32_469 : BitVec 32 := 6#32
  let v641 : BitVec 1 := Scalar.cmpi .eq v62 c6_i32_469
  let v642 : BitVec 1 := Scalar.andi v640 v641
  let c13_i32_470 : BitVec 32 := 13#32
  let c0_i32_471 : BitVec 32 := 0#32
  let v643 : BitVec 32 := Scalar.select v642 c13_i32_470 c0_i32_471
  let v644 : BitVec 32 := Scalar.addi v639 v643
  let c0_i32_472 : BitVec 32 := 0#32
  let v645 : BitVec 1 := Scalar.cmpi .sgt v46 c0_i32_472
  let v63 : BitVec 32 := Scalar.addi v62 v43
  let c6_i32_473 : BitVec 32 := 6#32
  let v646 : BitVec 1 := Scalar.cmpi .eq v63 c6_i32_473
  let v647 : BitVec 1 := Scalar.andi v645 v646
  let c14_i32_474 : BitVec 32 := 14#32
  let c0_i32_475 : BitVec 32 := 0#32
  let v648 : BitVec 32 := Scalar.select v647 c14_i32_474 c0_i32_475
  let v649 : BitVec 32 := Scalar.addi v644 v648
  let c0_i32_476 : BitVec 32 := 0#32
  let v650 : BitVec 1 := Scalar.cmpi .sgt v49 c0_i32_476
  let v64 : BitVec 32 := Scalar.addi v63 v46
  let c6_i32_477 : BitVec 32 := 6#32
  let v651 : BitVec 1 := Scalar.cmpi .eq v64 c6_i32_477
  let v652 : BitVec 1 := Scalar.andi v650 v651
  let c15_i32_478 : BitVec 32 := 15#32
  let c0_i32_479 : BitVec 32 := 0#32
  let v653 : BitVec 32 := Scalar.select v652 c15_i32_478 c0_i32_479
  let v654 : BitVec 32 := Scalar.addi v649 v653
  let c640_i32_2377 : BitVec 32 := 640#32
  let v3176 : BitVec 32 := Scalar.muli v654 c640_i32_2377
  ![v1.toNat, v3176.toNat]
def k1_cond13 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c6_i32_480 : BitVec 32 := 6#32
  let v655 : BitVec 1 := Scalar.cmpi .sgt v65 c6_i32_480
  let v656 : BitVec 32 := Scalar.extui v655
  let c0_i32_481 : BitVec 32 := 0#32
  let v657 : BitVec 1 := Scalar.cmpi .ne v656 c0_i32_481
  v657

def k1_off37 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c3840_i32_2377 : BitVec 32 := 3840#32
  ![v1.toNat, 3840]
def k1_off38 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c4480_i32_2378 : BitVec 32 := 4480#32
  ![v1.toNat, 4480]
def k1_off39 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_488 : BitVec 32 := 0#32
  let c0_i32_484 : BitVec 32 := 0#32
  let v661 : BitVec 1 := Scalar.cmpi .sgt v4 c0_i32_484
  let false_485 : BitVec 1 := 0#1
  let v662 : BitVec 1 := Scalar.andi v661 false_485
  let c0_i32_486 : BitVec 32 := 0#32
  let c0_i32_487 : BitVec 32 := 0#32
  let v663 : BitVec 32 := Scalar.select v662 c0_i32_486 c0_i32_487
  let v664 : BitVec 32 := Scalar.addi c0_i32_488 v663
  let c0_i32_489 : BitVec 32 := 0#32
  let v665 : BitVec 1 := Scalar.cmpi .sgt v7 c0_i32_489
  let c0_i32_2 : BitVec 32 := 0#32
  let v50 : BitVec 32 := Scalar.addi c0_i32_2 v4
  let c7_i32_490 : BitVec 32 := 7#32
  let v666 : BitVec 1 := Scalar.cmpi .eq v50 c7_i32_490
  let v667 : BitVec 1 := Scalar.andi v665 v666
  let c1_i32_491 : BitVec 32 := 1#32
  let c0_i32_492 : BitVec 32 := 0#32
  let v668 : BitVec 32 := Scalar.select v667 c1_i32_491 c0_i32_492
  let v669 : BitVec 32 := Scalar.addi v664 v668
  let c0_i32_493 : BitVec 32 := 0#32
  let v670 : BitVec 1 := Scalar.cmpi .sgt v10 c0_i32_493
  let v51 : BitVec 32 := Scalar.addi v50 v7
  let c7_i32_494 : BitVec 32 := 7#32
  let v671 : BitVec 1 := Scalar.cmpi .eq v51 c7_i32_494
  let v672 : BitVec 1 := Scalar.andi v670 v671
  let c2_i32_495 : BitVec 32 := 2#32
  let c0_i32_496 : BitVec 32 := 0#32
  let v673 : BitVec 32 := Scalar.select v672 c2_i32_495 c0_i32_496
  let v674 : BitVec 32 := Scalar.addi v669 v673
  let c0_i32_497 : BitVec 32 := 0#32
  let v675 : BitVec 1 := Scalar.cmpi .sgt v13 c0_i32_497
  let v52 : BitVec 32 := Scalar.addi v51 v10
  let c7_i32_498 : BitVec 32 := 7#32
  let v676 : BitVec 1 := Scalar.cmpi .eq v52 c7_i32_498
  let v677 : BitVec 1 := Scalar.andi v675 v676
  let c3_i32_499 : BitVec 32 := 3#32
  let c0_i32_500 : BitVec 32 := 0#32
  let v678 : BitVec 32 := Scalar.select v677 c3_i32_499 c0_i32_500
  let v679 : BitVec 32 := Scalar.addi v674 v678
  let c0_i32_501 : BitVec 32 := 0#32
  let v680 : BitVec 1 := Scalar.cmpi .sgt v16 c0_i32_501
  let v53 : BitVec 32 := Scalar.addi v52 v13
  let c7_i32_502 : BitVec 32 := 7#32
  let v681 : BitVec 1 := Scalar.cmpi .eq v53 c7_i32_502
  let v682 : BitVec 1 := Scalar.andi v680 v681
  let c4_i32_503 : BitVec 32 := 4#32
  let c0_i32_504 : BitVec 32 := 0#32
  let v683 : BitVec 32 := Scalar.select v682 c4_i32_503 c0_i32_504
  let v684 : BitVec 32 := Scalar.addi v679 v683
  let c0_i32_505 : BitVec 32 := 0#32
  let v685 : BitVec 1 := Scalar.cmpi .sgt v19 c0_i32_505
  let v54 : BitVec 32 := Scalar.addi v53 v16
  let c7_i32_506 : BitVec 32 := 7#32
  let v686 : BitVec 1 := Scalar.cmpi .eq v54 c7_i32_506
  let v687 : BitVec 1 := Scalar.andi v685 v686
  let c5_i32_507 : BitVec 32 := 5#32
  let c0_i32_508 : BitVec 32 := 0#32
  let v688 : BitVec 32 := Scalar.select v687 c5_i32_507 c0_i32_508
  let v689 : BitVec 32 := Scalar.addi v684 v688
  let c0_i32_509 : BitVec 32 := 0#32
  let v690 : BitVec 1 := Scalar.cmpi .sgt v22 c0_i32_509
  let v55 : BitVec 32 := Scalar.addi v54 v19
  let c7_i32_510 : BitVec 32 := 7#32
  let v691 : BitVec 1 := Scalar.cmpi .eq v55 c7_i32_510
  let v692 : BitVec 1 := Scalar.andi v690 v691
  let c6_i32_511 : BitVec 32 := 6#32
  let c0_i32_512 : BitVec 32 := 0#32
  let v693 : BitVec 32 := Scalar.select v692 c6_i32_511 c0_i32_512
  let v694 : BitVec 32 := Scalar.addi v689 v693
  let c0_i32_513 : BitVec 32 := 0#32
  let v695 : BitVec 1 := Scalar.cmpi .sgt v25 c0_i32_513
  let v56 : BitVec 32 := Scalar.addi v55 v22
  let c7_i32_514 : BitVec 32 := 7#32
  let v696 : BitVec 1 := Scalar.cmpi .eq v56 c7_i32_514
  let v697 : BitVec 1 := Scalar.andi v695 v696
  let c7_i32_515 : BitVec 32 := 7#32
  let c0_i32_516 : BitVec 32 := 0#32
  let v698 : BitVec 32 := Scalar.select v697 c7_i32_515 c0_i32_516
  let v699 : BitVec 32 := Scalar.addi v694 v698
  let c0_i32_517 : BitVec 32 := 0#32
  let v700 : BitVec 1 := Scalar.cmpi .sgt v28 c0_i32_517
  let v57 : BitVec 32 := Scalar.addi v56 v25
  let c7_i32_518 : BitVec 32 := 7#32
  let v701 : BitVec 1 := Scalar.cmpi .eq v57 c7_i32_518
  let v702 : BitVec 1 := Scalar.andi v700 v701
  let c8_i32_519 : BitVec 32 := 8#32
  let c0_i32_520 : BitVec 32 := 0#32
  let v703 : BitVec 32 := Scalar.select v702 c8_i32_519 c0_i32_520
  let v704 : BitVec 32 := Scalar.addi v699 v703
  let c0_i32_521 : BitVec 32 := 0#32
  let v705 : BitVec 1 := Scalar.cmpi .sgt v31 c0_i32_521
  let v58 : BitVec 32 := Scalar.addi v57 v28
  let c7_i32_522 : BitVec 32 := 7#32
  let v706 : BitVec 1 := Scalar.cmpi .eq v58 c7_i32_522
  let v707 : BitVec 1 := Scalar.andi v705 v706
  let c9_i32_523 : BitVec 32 := 9#32
  let c0_i32_524 : BitVec 32 := 0#32
  let v708 : BitVec 32 := Scalar.select v707 c9_i32_523 c0_i32_524
  let v709 : BitVec 32 := Scalar.addi v704 v708
  let c0_i32_525 : BitVec 32 := 0#32
  let v710 : BitVec 1 := Scalar.cmpi .sgt v34 c0_i32_525
  let v59 : BitVec 32 := Scalar.addi v58 v31
  let c7_i32_526 : BitVec 32 := 7#32
  let v711 : BitVec 1 := Scalar.cmpi .eq v59 c7_i32_526
  let v712 : BitVec 1 := Scalar.andi v710 v711
  let c10_i32_527 : BitVec 32 := 10#32
  let c0_i32_528 : BitVec 32 := 0#32
  let v713 : BitVec 32 := Scalar.select v712 c10_i32_527 c0_i32_528
  let v714 : BitVec 32 := Scalar.addi v709 v713
  let c0_i32_529 : BitVec 32 := 0#32
  let v715 : BitVec 1 := Scalar.cmpi .sgt v37 c0_i32_529
  let v60 : BitVec 32 := Scalar.addi v59 v34
  let c7_i32_530 : BitVec 32 := 7#32
  let v716 : BitVec 1 := Scalar.cmpi .eq v60 c7_i32_530
  let v717 : BitVec 1 := Scalar.andi v715 v716
  let c11_i32_531 : BitVec 32 := 11#32
  let c0_i32_532 : BitVec 32 := 0#32
  let v718 : BitVec 32 := Scalar.select v717 c11_i32_531 c0_i32_532
  let v719 : BitVec 32 := Scalar.addi v714 v718
  let c0_i32_533 : BitVec 32 := 0#32
  let v720 : BitVec 1 := Scalar.cmpi .sgt v40 c0_i32_533
  let v61 : BitVec 32 := Scalar.addi v60 v37
  let c7_i32_534 : BitVec 32 := 7#32
  let v721 : BitVec 1 := Scalar.cmpi .eq v61 c7_i32_534
  let v722 : BitVec 1 := Scalar.andi v720 v721
  let c12_i32_535 : BitVec 32 := 12#32
  let c0_i32_536 : BitVec 32 := 0#32
  let v723 : BitVec 32 := Scalar.select v722 c12_i32_535 c0_i32_536
  let v724 : BitVec 32 := Scalar.addi v719 v723
  let c0_i32_537 : BitVec 32 := 0#32
  let v725 : BitVec 1 := Scalar.cmpi .sgt v43 c0_i32_537
  let v62 : BitVec 32 := Scalar.addi v61 v40
  let c7_i32_538 : BitVec 32 := 7#32
  let v726 : BitVec 1 := Scalar.cmpi .eq v62 c7_i32_538
  let v727 : BitVec 1 := Scalar.andi v725 v726
  let c13_i32_539 : BitVec 32 := 13#32
  let c0_i32_540 : BitVec 32 := 0#32
  let v728 : BitVec 32 := Scalar.select v727 c13_i32_539 c0_i32_540
  let v729 : BitVec 32 := Scalar.addi v724 v728
  let c0_i32_541 : BitVec 32 := 0#32
  let v730 : BitVec 1 := Scalar.cmpi .sgt v46 c0_i32_541
  let v63 : BitVec 32 := Scalar.addi v62 v43
  let c7_i32_542 : BitVec 32 := 7#32
  let v731 : BitVec 1 := Scalar.cmpi .eq v63 c7_i32_542
  let v732 : BitVec 1 := Scalar.andi v730 v731
  let c14_i32_543 : BitVec 32 := 14#32
  let c0_i32_544 : BitVec 32 := 0#32
  let v733 : BitVec 32 := Scalar.select v732 c14_i32_543 c0_i32_544
  let v734 : BitVec 32 := Scalar.addi v729 v733
  let c0_i32_545 : BitVec 32 := 0#32
  let v735 : BitVec 1 := Scalar.cmpi .sgt v49 c0_i32_545
  let v64 : BitVec 32 := Scalar.addi v63 v46
  let c7_i32_546 : BitVec 32 := 7#32
  let v736 : BitVec 1 := Scalar.cmpi .eq v64 c7_i32_546
  let v737 : BitVec 1 := Scalar.andi v735 v736
  let c15_i32_547 : BitVec 32 := 15#32
  let c0_i32_548 : BitVec 32 := 0#32
  let v738 : BitVec 32 := Scalar.select v737 c15_i32_547 c0_i32_548
  let v739 : BitVec 32 := Scalar.addi v734 v738
  let c640_i32_2377 : BitVec 32 := 640#32
  let v3176 : BitVec 32 := Scalar.muli v739 c640_i32_2377
  ![v1.toNat, v3176.toNat]
def k1_cond15 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c7_i32_549 : BitVec 32 := 7#32
  let v740 : BitVec 1 := Scalar.cmpi .sgt v65 c7_i32_549
  let v741 : BitVec 32 := Scalar.extui v740
  let c0_i32_550 : BitVec 32 := 0#32
  let v742 : BitVec 1 := Scalar.cmpi .ne v741 c0_i32_550
  v742

def k1_off40 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c4480_i32_2377 : BitVec 32 := 4480#32
  ![v1.toNat, 4480]
def k1_off41 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c5120_i32_2378 : BitVec 32 := 5120#32
  ![v1.toNat, 5120]
def k1_off42 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_557 : BitVec 32 := 0#32
  let c0_i32_553 : BitVec 32 := 0#32
  let v746 : BitVec 1 := Scalar.cmpi .sgt v4 c0_i32_553
  let false_554 : BitVec 1 := 0#1
  let v747 : BitVec 1 := Scalar.andi v746 false_554
  let c0_i32_555 : BitVec 32 := 0#32
  let c0_i32_556 : BitVec 32 := 0#32
  let v748 : BitVec 32 := Scalar.select v747 c0_i32_555 c0_i32_556
  let v749 : BitVec 32 := Scalar.addi c0_i32_557 v748
  let c0_i32_558 : BitVec 32 := 0#32
  let v750 : BitVec 1 := Scalar.cmpi .sgt v7 c0_i32_558
  let c0_i32_2 : BitVec 32 := 0#32
  let v50 : BitVec 32 := Scalar.addi c0_i32_2 v4
  let c8_i32_559 : BitVec 32 := 8#32
  let v751 : BitVec 1 := Scalar.cmpi .eq v50 c8_i32_559
  let v752 : BitVec 1 := Scalar.andi v750 v751
  let c1_i32_560 : BitVec 32 := 1#32
  let c0_i32_561 : BitVec 32 := 0#32
  let v753 : BitVec 32 := Scalar.select v752 c1_i32_560 c0_i32_561
  let v754 : BitVec 32 := Scalar.addi v749 v753
  let c0_i32_562 : BitVec 32 := 0#32
  let v755 : BitVec 1 := Scalar.cmpi .sgt v10 c0_i32_562
  let v51 : BitVec 32 := Scalar.addi v50 v7
  let c8_i32_563 : BitVec 32 := 8#32
  let v756 : BitVec 1 := Scalar.cmpi .eq v51 c8_i32_563
  let v757 : BitVec 1 := Scalar.andi v755 v756
  let c2_i32_564 : BitVec 32 := 2#32
  let c0_i32_565 : BitVec 32 := 0#32
  let v758 : BitVec 32 := Scalar.select v757 c2_i32_564 c0_i32_565
  let v759 : BitVec 32 := Scalar.addi v754 v758
  let c0_i32_566 : BitVec 32 := 0#32
  let v760 : BitVec 1 := Scalar.cmpi .sgt v13 c0_i32_566
  let v52 : BitVec 32 := Scalar.addi v51 v10
  let c8_i32_567 : BitVec 32 := 8#32
  let v761 : BitVec 1 := Scalar.cmpi .eq v52 c8_i32_567
  let v762 : BitVec 1 := Scalar.andi v760 v761
  let c3_i32_568 : BitVec 32 := 3#32
  let c0_i32_569 : BitVec 32 := 0#32
  let v763 : BitVec 32 := Scalar.select v762 c3_i32_568 c0_i32_569
  let v764 : BitVec 32 := Scalar.addi v759 v763
  let c0_i32_570 : BitVec 32 := 0#32
  let v765 : BitVec 1 := Scalar.cmpi .sgt v16 c0_i32_570
  let v53 : BitVec 32 := Scalar.addi v52 v13
  let c8_i32_571 : BitVec 32 := 8#32
  let v766 : BitVec 1 := Scalar.cmpi .eq v53 c8_i32_571
  let v767 : BitVec 1 := Scalar.andi v765 v766
  let c4_i32_572 : BitVec 32 := 4#32
  let c0_i32_573 : BitVec 32 := 0#32
  let v768 : BitVec 32 := Scalar.select v767 c4_i32_572 c0_i32_573
  let v769 : BitVec 32 := Scalar.addi v764 v768
  let c0_i32_574 : BitVec 32 := 0#32
  let v770 : BitVec 1 := Scalar.cmpi .sgt v19 c0_i32_574
  let v54 : BitVec 32 := Scalar.addi v53 v16
  let c8_i32_575 : BitVec 32 := 8#32
  let v771 : BitVec 1 := Scalar.cmpi .eq v54 c8_i32_575
  let v772 : BitVec 1 := Scalar.andi v770 v771
  let c5_i32_576 : BitVec 32 := 5#32
  let c0_i32_577 : BitVec 32 := 0#32
  let v773 : BitVec 32 := Scalar.select v772 c5_i32_576 c0_i32_577
  let v774 : BitVec 32 := Scalar.addi v769 v773
  let c0_i32_578 : BitVec 32 := 0#32
  let v775 : BitVec 1 := Scalar.cmpi .sgt v22 c0_i32_578
  let v55 : BitVec 32 := Scalar.addi v54 v19
  let c8_i32_579 : BitVec 32 := 8#32
  let v776 : BitVec 1 := Scalar.cmpi .eq v55 c8_i32_579
  let v777 : BitVec 1 := Scalar.andi v775 v776
  let c6_i32_580 : BitVec 32 := 6#32
  let c0_i32_581 : BitVec 32 := 0#32
  let v778 : BitVec 32 := Scalar.select v777 c6_i32_580 c0_i32_581
  let v779 : BitVec 32 := Scalar.addi v774 v778
  let c0_i32_582 : BitVec 32 := 0#32
  let v780 : BitVec 1 := Scalar.cmpi .sgt v25 c0_i32_582
  let v56 : BitVec 32 := Scalar.addi v55 v22
  let c8_i32_583 : BitVec 32 := 8#32
  let v781 : BitVec 1 := Scalar.cmpi .eq v56 c8_i32_583
  let v782 : BitVec 1 := Scalar.andi v780 v781
  let c7_i32_584 : BitVec 32 := 7#32
  let c0_i32_585 : BitVec 32 := 0#32
  let v783 : BitVec 32 := Scalar.select v782 c7_i32_584 c0_i32_585
  let v784 : BitVec 32 := Scalar.addi v779 v783
  let c0_i32_586 : BitVec 32 := 0#32
  let v785 : BitVec 1 := Scalar.cmpi .sgt v28 c0_i32_586
  let v57 : BitVec 32 := Scalar.addi v56 v25
  let c8_i32_587 : BitVec 32 := 8#32
  let v786 : BitVec 1 := Scalar.cmpi .eq v57 c8_i32_587
  let v787 : BitVec 1 := Scalar.andi v785 v786
  let c8_i32_588 : BitVec 32 := 8#32
  let c0_i32_589 : BitVec 32 := 0#32
  let v788 : BitVec 32 := Scalar.select v787 c8_i32_588 c0_i32_589
  let v789 : BitVec 32 := Scalar.addi v784 v788
  let c0_i32_590 : BitVec 32 := 0#32
  let v790 : BitVec 1 := Scalar.cmpi .sgt v31 c0_i32_590
  let v58 : BitVec 32 := Scalar.addi v57 v28
  let c8_i32_591 : BitVec 32 := 8#32
  let v791 : BitVec 1 := Scalar.cmpi .eq v58 c8_i32_591
  let v792 : BitVec 1 := Scalar.andi v790 v791
  let c9_i32_592 : BitVec 32 := 9#32
  let c0_i32_593 : BitVec 32 := 0#32
  let v793 : BitVec 32 := Scalar.select v792 c9_i32_592 c0_i32_593
  let v794 : BitVec 32 := Scalar.addi v789 v793
  let c0_i32_594 : BitVec 32 := 0#32
  let v795 : BitVec 1 := Scalar.cmpi .sgt v34 c0_i32_594
  let v59 : BitVec 32 := Scalar.addi v58 v31
  let c8_i32_595 : BitVec 32 := 8#32
  let v796 : BitVec 1 := Scalar.cmpi .eq v59 c8_i32_595
  let v797 : BitVec 1 := Scalar.andi v795 v796
  let c10_i32_596 : BitVec 32 := 10#32
  let c0_i32_597 : BitVec 32 := 0#32
  let v798 : BitVec 32 := Scalar.select v797 c10_i32_596 c0_i32_597
  let v799 : BitVec 32 := Scalar.addi v794 v798
  let c0_i32_598 : BitVec 32 := 0#32
  let v800 : BitVec 1 := Scalar.cmpi .sgt v37 c0_i32_598
  let v60 : BitVec 32 := Scalar.addi v59 v34
  let c8_i32_599 : BitVec 32 := 8#32
  let v801 : BitVec 1 := Scalar.cmpi .eq v60 c8_i32_599
  let v802 : BitVec 1 := Scalar.andi v800 v801
  let c11_i32_600 : BitVec 32 := 11#32
  let c0_i32_601 : BitVec 32 := 0#32
  let v803 : BitVec 32 := Scalar.select v802 c11_i32_600 c0_i32_601
  let v804 : BitVec 32 := Scalar.addi v799 v803
  let c0_i32_602 : BitVec 32 := 0#32
  let v805 : BitVec 1 := Scalar.cmpi .sgt v40 c0_i32_602
  let v61 : BitVec 32 := Scalar.addi v60 v37
  let c8_i32_603 : BitVec 32 := 8#32
  let v806 : BitVec 1 := Scalar.cmpi .eq v61 c8_i32_603
  let v807 : BitVec 1 := Scalar.andi v805 v806
  let c12_i32_604 : BitVec 32 := 12#32
  let c0_i32_605 : BitVec 32 := 0#32
  let v808 : BitVec 32 := Scalar.select v807 c12_i32_604 c0_i32_605
  let v809 : BitVec 32 := Scalar.addi v804 v808
  let c0_i32_606 : BitVec 32 := 0#32
  let v810 : BitVec 1 := Scalar.cmpi .sgt v43 c0_i32_606
  let v62 : BitVec 32 := Scalar.addi v61 v40
  let c8_i32_607 : BitVec 32 := 8#32
  let v811 : BitVec 1 := Scalar.cmpi .eq v62 c8_i32_607
  let v812 : BitVec 1 := Scalar.andi v810 v811
  let c13_i32_608 : BitVec 32 := 13#32
  let c0_i32_609 : BitVec 32 := 0#32
  let v813 : BitVec 32 := Scalar.select v812 c13_i32_608 c0_i32_609
  let v814 : BitVec 32 := Scalar.addi v809 v813
  let c0_i32_610 : BitVec 32 := 0#32
  let v815 : BitVec 1 := Scalar.cmpi .sgt v46 c0_i32_610
  let v63 : BitVec 32 := Scalar.addi v62 v43
  let c8_i32_611 : BitVec 32 := 8#32
  let v816 : BitVec 1 := Scalar.cmpi .eq v63 c8_i32_611
  let v817 : BitVec 1 := Scalar.andi v815 v816
  let c14_i32_612 : BitVec 32 := 14#32
  let c0_i32_613 : BitVec 32 := 0#32
  let v818 : BitVec 32 := Scalar.select v817 c14_i32_612 c0_i32_613
  let v819 : BitVec 32 := Scalar.addi v814 v818
  let c0_i32_614 : BitVec 32 := 0#32
  let v820 : BitVec 1 := Scalar.cmpi .sgt v49 c0_i32_614
  let v64 : BitVec 32 := Scalar.addi v63 v46
  let c8_i32_615 : BitVec 32 := 8#32
  let v821 : BitVec 1 := Scalar.cmpi .eq v64 c8_i32_615
  let v822 : BitVec 1 := Scalar.andi v820 v821
  let c15_i32_616 : BitVec 32 := 15#32
  let c0_i32_617 : BitVec 32 := 0#32
  let v823 : BitVec 32 := Scalar.select v822 c15_i32_616 c0_i32_617
  let v824 : BitVec 32 := Scalar.addi v819 v823
  let c640_i32_2377 : BitVec 32 := 640#32
  let v3176 : BitVec 32 := Scalar.muli v824 c640_i32_2377
  ![v1.toNat, v3176.toNat]
def k1_cond17 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c8_i32_618 : BitVec 32 := 8#32
  let v825 : BitVec 1 := Scalar.cmpi .sgt v65 c8_i32_618
  let v826 : BitVec 32 := Scalar.extui v825
  let c0_i32_619 : BitVec 32 := 0#32
  let v827 : BitVec 1 := Scalar.cmpi .ne v826 c0_i32_619
  v827

def k1_off43 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c5120_i32_2377 : BitVec 32 := 5120#32
  ![v1.toNat, 5120]
def k1_off44 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c5760_i32_2378 : BitVec 32 := 5760#32
  ![v1.toNat, 5760]
def k1_off45 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_626 : BitVec 32 := 0#32
  let c0_i32_622 : BitVec 32 := 0#32
  let v831 : BitVec 1 := Scalar.cmpi .sgt v4 c0_i32_622
  let false_623 : BitVec 1 := 0#1
  let v832 : BitVec 1 := Scalar.andi v831 false_623
  let c0_i32_624 : BitVec 32 := 0#32
  let c0_i32_625 : BitVec 32 := 0#32
  let v833 : BitVec 32 := Scalar.select v832 c0_i32_624 c0_i32_625
  let v834 : BitVec 32 := Scalar.addi c0_i32_626 v833
  let c0_i32_627 : BitVec 32 := 0#32
  let v835 : BitVec 1 := Scalar.cmpi .sgt v7 c0_i32_627
  let c0_i32_2 : BitVec 32 := 0#32
  let v50 : BitVec 32 := Scalar.addi c0_i32_2 v4
  let c9_i32_628 : BitVec 32 := 9#32
  let v836 : BitVec 1 := Scalar.cmpi .eq v50 c9_i32_628
  let v837 : BitVec 1 := Scalar.andi v835 v836
  let c1_i32_629 : BitVec 32 := 1#32
  let c0_i32_630 : BitVec 32 := 0#32
  let v838 : BitVec 32 := Scalar.select v837 c1_i32_629 c0_i32_630
  let v839 : BitVec 32 := Scalar.addi v834 v838
  let c0_i32_631 : BitVec 32 := 0#32
  let v840 : BitVec 1 := Scalar.cmpi .sgt v10 c0_i32_631
  let v51 : BitVec 32 := Scalar.addi v50 v7
  let c9_i32_632 : BitVec 32 := 9#32
  let v841 : BitVec 1 := Scalar.cmpi .eq v51 c9_i32_632
  let v842 : BitVec 1 := Scalar.andi v840 v841
  let c2_i32_633 : BitVec 32 := 2#32
  let c0_i32_634 : BitVec 32 := 0#32
  let v843 : BitVec 32 := Scalar.select v842 c2_i32_633 c0_i32_634
  let v844 : BitVec 32 := Scalar.addi v839 v843
  let c0_i32_635 : BitVec 32 := 0#32
  let v845 : BitVec 1 := Scalar.cmpi .sgt v13 c0_i32_635
  let v52 : BitVec 32 := Scalar.addi v51 v10
  let c9_i32_636 : BitVec 32 := 9#32
  let v846 : BitVec 1 := Scalar.cmpi .eq v52 c9_i32_636
  let v847 : BitVec 1 := Scalar.andi v845 v846
  let c3_i32_637 : BitVec 32 := 3#32
  let c0_i32_638 : BitVec 32 := 0#32
  let v848 : BitVec 32 := Scalar.select v847 c3_i32_637 c0_i32_638
  let v849 : BitVec 32 := Scalar.addi v844 v848
  let c0_i32_639 : BitVec 32 := 0#32
  let v850 : BitVec 1 := Scalar.cmpi .sgt v16 c0_i32_639
  let v53 : BitVec 32 := Scalar.addi v52 v13
  let c9_i32_640 : BitVec 32 := 9#32
  let v851 : BitVec 1 := Scalar.cmpi .eq v53 c9_i32_640
  let v852 : BitVec 1 := Scalar.andi v850 v851
  let c4_i32_641 : BitVec 32 := 4#32
  let c0_i32_642 : BitVec 32 := 0#32
  let v853 : BitVec 32 := Scalar.select v852 c4_i32_641 c0_i32_642
  let v854 : BitVec 32 := Scalar.addi v849 v853
  let c0_i32_643 : BitVec 32 := 0#32
  let v855 : BitVec 1 := Scalar.cmpi .sgt v19 c0_i32_643
  let v54 : BitVec 32 := Scalar.addi v53 v16
  let c9_i32_644 : BitVec 32 := 9#32
  let v856 : BitVec 1 := Scalar.cmpi .eq v54 c9_i32_644
  let v857 : BitVec 1 := Scalar.andi v855 v856
  let c5_i32_645 : BitVec 32 := 5#32
  let c0_i32_646 : BitVec 32 := 0#32
  let v858 : BitVec 32 := Scalar.select v857 c5_i32_645 c0_i32_646
  let v859 : BitVec 32 := Scalar.addi v854 v858
  let c0_i32_647 : BitVec 32 := 0#32
  let v860 : BitVec 1 := Scalar.cmpi .sgt v22 c0_i32_647
  let v55 : BitVec 32 := Scalar.addi v54 v19
  let c9_i32_648 : BitVec 32 := 9#32
  let v861 : BitVec 1 := Scalar.cmpi .eq v55 c9_i32_648
  let v862 : BitVec 1 := Scalar.andi v860 v861
  let c6_i32_649 : BitVec 32 := 6#32
  let c0_i32_650 : BitVec 32 := 0#32
  let v863 : BitVec 32 := Scalar.select v862 c6_i32_649 c0_i32_650
  let v864 : BitVec 32 := Scalar.addi v859 v863
  let c0_i32_651 : BitVec 32 := 0#32
  let v865 : BitVec 1 := Scalar.cmpi .sgt v25 c0_i32_651
  let v56 : BitVec 32 := Scalar.addi v55 v22
  let c9_i32_652 : BitVec 32 := 9#32
  let v866 : BitVec 1 := Scalar.cmpi .eq v56 c9_i32_652
  let v867 : BitVec 1 := Scalar.andi v865 v866
  let c7_i32_653 : BitVec 32 := 7#32
  let c0_i32_654 : BitVec 32 := 0#32
  let v868 : BitVec 32 := Scalar.select v867 c7_i32_653 c0_i32_654
  let v869 : BitVec 32 := Scalar.addi v864 v868
  let c0_i32_655 : BitVec 32 := 0#32
  let v870 : BitVec 1 := Scalar.cmpi .sgt v28 c0_i32_655
  let v57 : BitVec 32 := Scalar.addi v56 v25
  let c9_i32_656 : BitVec 32 := 9#32
  let v871 : BitVec 1 := Scalar.cmpi .eq v57 c9_i32_656
  let v872 : BitVec 1 := Scalar.andi v870 v871
  let c8_i32_657 : BitVec 32 := 8#32
  let c0_i32_658 : BitVec 32 := 0#32
  let v873 : BitVec 32 := Scalar.select v872 c8_i32_657 c0_i32_658
  let v874 : BitVec 32 := Scalar.addi v869 v873
  let c0_i32_659 : BitVec 32 := 0#32
  let v875 : BitVec 1 := Scalar.cmpi .sgt v31 c0_i32_659
  let v58 : BitVec 32 := Scalar.addi v57 v28
  let c9_i32_660 : BitVec 32 := 9#32
  let v876 : BitVec 1 := Scalar.cmpi .eq v58 c9_i32_660
  let v877 : BitVec 1 := Scalar.andi v875 v876
  let c9_i32_661 : BitVec 32 := 9#32
  let c0_i32_662 : BitVec 32 := 0#32
  let v878 : BitVec 32 := Scalar.select v877 c9_i32_661 c0_i32_662
  let v879 : BitVec 32 := Scalar.addi v874 v878
  let c0_i32_663 : BitVec 32 := 0#32
  let v880 : BitVec 1 := Scalar.cmpi .sgt v34 c0_i32_663
  let v59 : BitVec 32 := Scalar.addi v58 v31
  let c9_i32_664 : BitVec 32 := 9#32
  let v881 : BitVec 1 := Scalar.cmpi .eq v59 c9_i32_664
  let v882 : BitVec 1 := Scalar.andi v880 v881
  let c10_i32_665 : BitVec 32 := 10#32
  let c0_i32_666 : BitVec 32 := 0#32
  let v883 : BitVec 32 := Scalar.select v882 c10_i32_665 c0_i32_666
  let v884 : BitVec 32 := Scalar.addi v879 v883
  let c0_i32_667 : BitVec 32 := 0#32
  let v885 : BitVec 1 := Scalar.cmpi .sgt v37 c0_i32_667
  let v60 : BitVec 32 := Scalar.addi v59 v34
  let c9_i32_668 : BitVec 32 := 9#32
  let v886 : BitVec 1 := Scalar.cmpi .eq v60 c9_i32_668
  let v887 : BitVec 1 := Scalar.andi v885 v886
  let c11_i32_669 : BitVec 32 := 11#32
  let c0_i32_670 : BitVec 32 := 0#32
  let v888 : BitVec 32 := Scalar.select v887 c11_i32_669 c0_i32_670
  let v889 : BitVec 32 := Scalar.addi v884 v888
  let c0_i32_671 : BitVec 32 := 0#32
  let v890 : BitVec 1 := Scalar.cmpi .sgt v40 c0_i32_671
  let v61 : BitVec 32 := Scalar.addi v60 v37
  let c9_i32_672 : BitVec 32 := 9#32
  let v891 : BitVec 1 := Scalar.cmpi .eq v61 c9_i32_672
  let v892 : BitVec 1 := Scalar.andi v890 v891
  let c12_i32_673 : BitVec 32 := 12#32
  let c0_i32_674 : BitVec 32 := 0#32
  let v893 : BitVec 32 := Scalar.select v892 c12_i32_673 c0_i32_674
  let v894 : BitVec 32 := Scalar.addi v889 v893
  let c0_i32_675 : BitVec 32 := 0#32
  let v895 : BitVec 1 := Scalar.cmpi .sgt v43 c0_i32_675
  let v62 : BitVec 32 := Scalar.addi v61 v40
  let c9_i32_676 : BitVec 32 := 9#32
  let v896 : BitVec 1 := Scalar.cmpi .eq v62 c9_i32_676
  let v897 : BitVec 1 := Scalar.andi v895 v896
  let c13_i32_677 : BitVec 32 := 13#32
  let c0_i32_678 : BitVec 32 := 0#32
  let v898 : BitVec 32 := Scalar.select v897 c13_i32_677 c0_i32_678
  let v899 : BitVec 32 := Scalar.addi v894 v898
  let c0_i32_679 : BitVec 32 := 0#32
  let v900 : BitVec 1 := Scalar.cmpi .sgt v46 c0_i32_679
  let v63 : BitVec 32 := Scalar.addi v62 v43
  let c9_i32_680 : BitVec 32 := 9#32
  let v901 : BitVec 1 := Scalar.cmpi .eq v63 c9_i32_680
  let v902 : BitVec 1 := Scalar.andi v900 v901
  let c14_i32_681 : BitVec 32 := 14#32
  let c0_i32_682 : BitVec 32 := 0#32
  let v903 : BitVec 32 := Scalar.select v902 c14_i32_681 c0_i32_682
  let v904 : BitVec 32 := Scalar.addi v899 v903
  let c0_i32_683 : BitVec 32 := 0#32
  let v905 : BitVec 1 := Scalar.cmpi .sgt v49 c0_i32_683
  let v64 : BitVec 32 := Scalar.addi v63 v46
  let c9_i32_684 : BitVec 32 := 9#32
  let v906 : BitVec 1 := Scalar.cmpi .eq v64 c9_i32_684
  let v907 : BitVec 1 := Scalar.andi v905 v906
  let c15_i32_685 : BitVec 32 := 15#32
  let c0_i32_686 : BitVec 32 := 0#32
  let v908 : BitVec 32 := Scalar.select v907 c15_i32_685 c0_i32_686
  let v909 : BitVec 32 := Scalar.addi v904 v908
  let c640_i32_2377 : BitVec 32 := 640#32
  let v3176 : BitVec 32 := Scalar.muli v909 c640_i32_2377
  ![v1.toNat, v3176.toNat]
def k1_cond19 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c9_i32_687 : BitVec 32 := 9#32
  let v910 : BitVec 1 := Scalar.cmpi .sgt v65 c9_i32_687
  let v911 : BitVec 32 := Scalar.extui v910
  let c0_i32_688 : BitVec 32 := 0#32
  let v912 : BitVec 1 := Scalar.cmpi .ne v911 c0_i32_688
  v912

def k1_off46 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c5760_i32_2377 : BitVec 32 := 5760#32
  ![v1.toNat, 5760]
def k1_off47 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c6400_i32_2378 : BitVec 32 := 6400#32
  ![v1.toNat, 6400]
def k1_off48 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_695 : BitVec 32 := 0#32
  let c0_i32_691 : BitVec 32 := 0#32
  let v916 : BitVec 1 := Scalar.cmpi .sgt v4 c0_i32_691
  let false_692 : BitVec 1 := 0#1
  let v917 : BitVec 1 := Scalar.andi v916 false_692
  let c0_i32_693 : BitVec 32 := 0#32
  let c0_i32_694 : BitVec 32 := 0#32
  let v918 : BitVec 32 := Scalar.select v917 c0_i32_693 c0_i32_694
  let v919 : BitVec 32 := Scalar.addi c0_i32_695 v918
  let c0_i32_696 : BitVec 32 := 0#32
  let v920 : BitVec 1 := Scalar.cmpi .sgt v7 c0_i32_696
  let c0_i32_2 : BitVec 32 := 0#32
  let v50 : BitVec 32 := Scalar.addi c0_i32_2 v4
  let c10_i32_697 : BitVec 32 := 10#32
  let v921 : BitVec 1 := Scalar.cmpi .eq v50 c10_i32_697
  let v922 : BitVec 1 := Scalar.andi v920 v921
  let c1_i32_698 : BitVec 32 := 1#32
  let c0_i32_699 : BitVec 32 := 0#32
  let v923 : BitVec 32 := Scalar.select v922 c1_i32_698 c0_i32_699
  let v924 : BitVec 32 := Scalar.addi v919 v923
  let c0_i32_700 : BitVec 32 := 0#32
  let v925 : BitVec 1 := Scalar.cmpi .sgt v10 c0_i32_700
  let v51 : BitVec 32 := Scalar.addi v50 v7
  let c10_i32_701 : BitVec 32 := 10#32
  let v926 : BitVec 1 := Scalar.cmpi .eq v51 c10_i32_701
  let v927 : BitVec 1 := Scalar.andi v925 v926
  let c2_i32_702 : BitVec 32 := 2#32
  let c0_i32_703 : BitVec 32 := 0#32
  let v928 : BitVec 32 := Scalar.select v927 c2_i32_702 c0_i32_703
  let v929 : BitVec 32 := Scalar.addi v924 v928
  let c0_i32_704 : BitVec 32 := 0#32
  let v930 : BitVec 1 := Scalar.cmpi .sgt v13 c0_i32_704
  let v52 : BitVec 32 := Scalar.addi v51 v10
  let c10_i32_705 : BitVec 32 := 10#32
  let v931 : BitVec 1 := Scalar.cmpi .eq v52 c10_i32_705
  let v932 : BitVec 1 := Scalar.andi v930 v931
  let c3_i32_706 : BitVec 32 := 3#32
  let c0_i32_707 : BitVec 32 := 0#32
  let v933 : BitVec 32 := Scalar.select v932 c3_i32_706 c0_i32_707
  let v934 : BitVec 32 := Scalar.addi v929 v933
  let c0_i32_708 : BitVec 32 := 0#32
  let v935 : BitVec 1 := Scalar.cmpi .sgt v16 c0_i32_708
  let v53 : BitVec 32 := Scalar.addi v52 v13
  let c10_i32_709 : BitVec 32 := 10#32
  let v936 : BitVec 1 := Scalar.cmpi .eq v53 c10_i32_709
  let v937 : BitVec 1 := Scalar.andi v935 v936
  let c4_i32_710 : BitVec 32 := 4#32
  let c0_i32_711 : BitVec 32 := 0#32
  let v938 : BitVec 32 := Scalar.select v937 c4_i32_710 c0_i32_711
  let v939 : BitVec 32 := Scalar.addi v934 v938
  let c0_i32_712 : BitVec 32 := 0#32
  let v940 : BitVec 1 := Scalar.cmpi .sgt v19 c0_i32_712
  let v54 : BitVec 32 := Scalar.addi v53 v16
  let c10_i32_713 : BitVec 32 := 10#32
  let v941 : BitVec 1 := Scalar.cmpi .eq v54 c10_i32_713
  let v942 : BitVec 1 := Scalar.andi v940 v941
  let c5_i32_714 : BitVec 32 := 5#32
  let c0_i32_715 : BitVec 32 := 0#32
  let v943 : BitVec 32 := Scalar.select v942 c5_i32_714 c0_i32_715
  let v944 : BitVec 32 := Scalar.addi v939 v943
  let c0_i32_716 : BitVec 32 := 0#32
  let v945 : BitVec 1 := Scalar.cmpi .sgt v22 c0_i32_716
  let v55 : BitVec 32 := Scalar.addi v54 v19
  let c10_i32_717 : BitVec 32 := 10#32
  let v946 : BitVec 1 := Scalar.cmpi .eq v55 c10_i32_717
  let v947 : BitVec 1 := Scalar.andi v945 v946
  let c6_i32_718 : BitVec 32 := 6#32
  let c0_i32_719 : BitVec 32 := 0#32
  let v948 : BitVec 32 := Scalar.select v947 c6_i32_718 c0_i32_719
  let v949 : BitVec 32 := Scalar.addi v944 v948
  let c0_i32_720 : BitVec 32 := 0#32
  let v950 : BitVec 1 := Scalar.cmpi .sgt v25 c0_i32_720
  let v56 : BitVec 32 := Scalar.addi v55 v22
  let c10_i32_721 : BitVec 32 := 10#32
  let v951 : BitVec 1 := Scalar.cmpi .eq v56 c10_i32_721
  let v952 : BitVec 1 := Scalar.andi v950 v951
  let c7_i32_722 : BitVec 32 := 7#32
  let c0_i32_723 : BitVec 32 := 0#32
  let v953 : BitVec 32 := Scalar.select v952 c7_i32_722 c0_i32_723
  let v954 : BitVec 32 := Scalar.addi v949 v953
  let c0_i32_724 : BitVec 32 := 0#32
  let v955 : BitVec 1 := Scalar.cmpi .sgt v28 c0_i32_724
  let v57 : BitVec 32 := Scalar.addi v56 v25
  let c10_i32_725 : BitVec 32 := 10#32
  let v956 : BitVec 1 := Scalar.cmpi .eq v57 c10_i32_725
  let v957 : BitVec 1 := Scalar.andi v955 v956
  let c8_i32_726 : BitVec 32 := 8#32
  let c0_i32_727 : BitVec 32 := 0#32
  let v958 : BitVec 32 := Scalar.select v957 c8_i32_726 c0_i32_727
  let v959 : BitVec 32 := Scalar.addi v954 v958
  let c0_i32_728 : BitVec 32 := 0#32
  let v960 : BitVec 1 := Scalar.cmpi .sgt v31 c0_i32_728
  let v58 : BitVec 32 := Scalar.addi v57 v28
  let c10_i32_729 : BitVec 32 := 10#32
  let v961 : BitVec 1 := Scalar.cmpi .eq v58 c10_i32_729
  let v962 : BitVec 1 := Scalar.andi v960 v961
  let c9_i32_730 : BitVec 32 := 9#32
  let c0_i32_731 : BitVec 32 := 0#32
  let v963 : BitVec 32 := Scalar.select v962 c9_i32_730 c0_i32_731
  let v964 : BitVec 32 := Scalar.addi v959 v963
  let c0_i32_732 : BitVec 32 := 0#32
  let v965 : BitVec 1 := Scalar.cmpi .sgt v34 c0_i32_732
  let v59 : BitVec 32 := Scalar.addi v58 v31
  let c10_i32_733 : BitVec 32 := 10#32
  let v966 : BitVec 1 := Scalar.cmpi .eq v59 c10_i32_733
  let v967 : BitVec 1 := Scalar.andi v965 v966
  let c10_i32_734 : BitVec 32 := 10#32
  let c0_i32_735 : BitVec 32 := 0#32
  let v968 : BitVec 32 := Scalar.select v967 c10_i32_734 c0_i32_735
  let v969 : BitVec 32 := Scalar.addi v964 v968
  let c0_i32_736 : BitVec 32 := 0#32
  let v970 : BitVec 1 := Scalar.cmpi .sgt v37 c0_i32_736
  let v60 : BitVec 32 := Scalar.addi v59 v34
  let c10_i32_737 : BitVec 32 := 10#32
  let v971 : BitVec 1 := Scalar.cmpi .eq v60 c10_i32_737
  let v972 : BitVec 1 := Scalar.andi v970 v971
  let c11_i32_738 : BitVec 32 := 11#32
  let c0_i32_739 : BitVec 32 := 0#32
  let v973 : BitVec 32 := Scalar.select v972 c11_i32_738 c0_i32_739
  let v974 : BitVec 32 := Scalar.addi v969 v973
  let c0_i32_740 : BitVec 32 := 0#32
  let v975 : BitVec 1 := Scalar.cmpi .sgt v40 c0_i32_740
  let v61 : BitVec 32 := Scalar.addi v60 v37
  let c10_i32_741 : BitVec 32 := 10#32
  let v976 : BitVec 1 := Scalar.cmpi .eq v61 c10_i32_741
  let v977 : BitVec 1 := Scalar.andi v975 v976
  let c12_i32_742 : BitVec 32 := 12#32
  let c0_i32_743 : BitVec 32 := 0#32
  let v978 : BitVec 32 := Scalar.select v977 c12_i32_742 c0_i32_743
  let v979 : BitVec 32 := Scalar.addi v974 v978
  let c0_i32_744 : BitVec 32 := 0#32
  let v980 : BitVec 1 := Scalar.cmpi .sgt v43 c0_i32_744
  let v62 : BitVec 32 := Scalar.addi v61 v40
  let c10_i32_745 : BitVec 32 := 10#32
  let v981 : BitVec 1 := Scalar.cmpi .eq v62 c10_i32_745
  let v982 : BitVec 1 := Scalar.andi v980 v981
  let c13_i32_746 : BitVec 32 := 13#32
  let c0_i32_747 : BitVec 32 := 0#32
  let v983 : BitVec 32 := Scalar.select v982 c13_i32_746 c0_i32_747
  let v984 : BitVec 32 := Scalar.addi v979 v983
  let c0_i32_748 : BitVec 32 := 0#32
  let v985 : BitVec 1 := Scalar.cmpi .sgt v46 c0_i32_748
  let v63 : BitVec 32 := Scalar.addi v62 v43
  let c10_i32_749 : BitVec 32 := 10#32
  let v986 : BitVec 1 := Scalar.cmpi .eq v63 c10_i32_749
  let v987 : BitVec 1 := Scalar.andi v985 v986
  let c14_i32_750 : BitVec 32 := 14#32
  let c0_i32_751 : BitVec 32 := 0#32
  let v988 : BitVec 32 := Scalar.select v987 c14_i32_750 c0_i32_751
  let v989 : BitVec 32 := Scalar.addi v984 v988
  let c0_i32_752 : BitVec 32 := 0#32
  let v990 : BitVec 1 := Scalar.cmpi .sgt v49 c0_i32_752
  let v64 : BitVec 32 := Scalar.addi v63 v46
  let c10_i32_753 : BitVec 32 := 10#32
  let v991 : BitVec 1 := Scalar.cmpi .eq v64 c10_i32_753
  let v992 : BitVec 1 := Scalar.andi v990 v991
  let c15_i32_754 : BitVec 32 := 15#32
  let c0_i32_755 : BitVec 32 := 0#32
  let v993 : BitVec 32 := Scalar.select v992 c15_i32_754 c0_i32_755
  let v994 : BitVec 32 := Scalar.addi v989 v993
  let c640_i32_2377 : BitVec 32 := 640#32
  let v3176 : BitVec 32 := Scalar.muli v994 c640_i32_2377
  ![v1.toNat, v3176.toNat]
def k1_cond21 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c10_i32_756 : BitVec 32 := 10#32
  let v995 : BitVec 1 := Scalar.cmpi .sgt v65 c10_i32_756
  let v996 : BitVec 32 := Scalar.extui v995
  let c0_i32_757 : BitVec 32 := 0#32
  let v997 : BitVec 1 := Scalar.cmpi .ne v996 c0_i32_757
  v997

def k1_off49 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c6400_i32_2377 : BitVec 32 := 6400#32
  ![v1.toNat, 6400]
def k1_off50 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c7040_i32_2378 : BitVec 32 := 7040#32
  ![v1.toNat, 7040]
def k1_off51 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_764 : BitVec 32 := 0#32
  let c0_i32_760 : BitVec 32 := 0#32
  let v1001 : BitVec 1 := Scalar.cmpi .sgt v4 c0_i32_760
  let false_761 : BitVec 1 := 0#1
  let v1002 : BitVec 1 := Scalar.andi v1001 false_761
  let c0_i32_762 : BitVec 32 := 0#32
  let c0_i32_763 : BitVec 32 := 0#32
  let v1003 : BitVec 32 := Scalar.select v1002 c0_i32_762 c0_i32_763
  let v1004 : BitVec 32 := Scalar.addi c0_i32_764 v1003
  let c0_i32_765 : BitVec 32 := 0#32
  let v1005 : BitVec 1 := Scalar.cmpi .sgt v7 c0_i32_765
  let c0_i32_2 : BitVec 32 := 0#32
  let v50 : BitVec 32 := Scalar.addi c0_i32_2 v4
  let c11_i32_766 : BitVec 32 := 11#32
  let v1006 : BitVec 1 := Scalar.cmpi .eq v50 c11_i32_766
  let v1007 : BitVec 1 := Scalar.andi v1005 v1006
  let c1_i32_767 : BitVec 32 := 1#32
  let c0_i32_768 : BitVec 32 := 0#32
  let v1008 : BitVec 32 := Scalar.select v1007 c1_i32_767 c0_i32_768
  let v1009 : BitVec 32 := Scalar.addi v1004 v1008
  let c0_i32_769 : BitVec 32 := 0#32
  let v1010 : BitVec 1 := Scalar.cmpi .sgt v10 c0_i32_769
  let v51 : BitVec 32 := Scalar.addi v50 v7
  let c11_i32_770 : BitVec 32 := 11#32
  let v1011 : BitVec 1 := Scalar.cmpi .eq v51 c11_i32_770
  let v1012 : BitVec 1 := Scalar.andi v1010 v1011
  let c2_i32_771 : BitVec 32 := 2#32
  let c0_i32_772 : BitVec 32 := 0#32
  let v1013 : BitVec 32 := Scalar.select v1012 c2_i32_771 c0_i32_772
  let v1014 : BitVec 32 := Scalar.addi v1009 v1013
  let c0_i32_773 : BitVec 32 := 0#32
  let v1015 : BitVec 1 := Scalar.cmpi .sgt v13 c0_i32_773
  let v52 : BitVec 32 := Scalar.addi v51 v10
  let c11_i32_774 : BitVec 32 := 11#32
  let v1016 : BitVec 1 := Scalar.cmpi .eq v52 c11_i32_774
  let v1017 : BitVec 1 := Scalar.andi v1015 v1016
  let c3_i32_775 : BitVec 32 := 3#32
  let c0_i32_776 : BitVec 32 := 0#32
  let v1018 : BitVec 32 := Scalar.select v1017 c3_i32_775 c0_i32_776
  let v1019 : BitVec 32 := Scalar.addi v1014 v1018
  let c0_i32_777 : BitVec 32 := 0#32
  let v1020 : BitVec 1 := Scalar.cmpi .sgt v16 c0_i32_777
  let v53 : BitVec 32 := Scalar.addi v52 v13
  let c11_i32_778 : BitVec 32 := 11#32
  let v1021 : BitVec 1 := Scalar.cmpi .eq v53 c11_i32_778
  let v1022 : BitVec 1 := Scalar.andi v1020 v1021
  let c4_i32_779 : BitVec 32 := 4#32
  let c0_i32_780 : BitVec 32 := 0#32
  let v1023 : BitVec 32 := Scalar.select v1022 c4_i32_779 c0_i32_780
  let v1024 : BitVec 32 := Scalar.addi v1019 v1023
  let c0_i32_781 : BitVec 32 := 0#32
  let v1025 : BitVec 1 := Scalar.cmpi .sgt v19 c0_i32_781
  let v54 : BitVec 32 := Scalar.addi v53 v16
  let c11_i32_782 : BitVec 32 := 11#32
  let v1026 : BitVec 1 := Scalar.cmpi .eq v54 c11_i32_782
  let v1027 : BitVec 1 := Scalar.andi v1025 v1026
  let c5_i32_783 : BitVec 32 := 5#32
  let c0_i32_784 : BitVec 32 := 0#32
  let v1028 : BitVec 32 := Scalar.select v1027 c5_i32_783 c0_i32_784
  let v1029 : BitVec 32 := Scalar.addi v1024 v1028
  let c0_i32_785 : BitVec 32 := 0#32
  let v1030 : BitVec 1 := Scalar.cmpi .sgt v22 c0_i32_785
  let v55 : BitVec 32 := Scalar.addi v54 v19
  let c11_i32_786 : BitVec 32 := 11#32
  let v1031 : BitVec 1 := Scalar.cmpi .eq v55 c11_i32_786
  let v1032 : BitVec 1 := Scalar.andi v1030 v1031
  let c6_i32_787 : BitVec 32 := 6#32
  let c0_i32_788 : BitVec 32 := 0#32
  let v1033 : BitVec 32 := Scalar.select v1032 c6_i32_787 c0_i32_788
  let v1034 : BitVec 32 := Scalar.addi v1029 v1033
  let c0_i32_789 : BitVec 32 := 0#32
  let v1035 : BitVec 1 := Scalar.cmpi .sgt v25 c0_i32_789
  let v56 : BitVec 32 := Scalar.addi v55 v22
  let c11_i32_790 : BitVec 32 := 11#32
  let v1036 : BitVec 1 := Scalar.cmpi .eq v56 c11_i32_790
  let v1037 : BitVec 1 := Scalar.andi v1035 v1036
  let c7_i32_791 : BitVec 32 := 7#32
  let c0_i32_792 : BitVec 32 := 0#32
  let v1038 : BitVec 32 := Scalar.select v1037 c7_i32_791 c0_i32_792
  let v1039 : BitVec 32 := Scalar.addi v1034 v1038
  let c0_i32_793 : BitVec 32 := 0#32
  let v1040 : BitVec 1 := Scalar.cmpi .sgt v28 c0_i32_793
  let v57 : BitVec 32 := Scalar.addi v56 v25
  let c11_i32_794 : BitVec 32 := 11#32
  let v1041 : BitVec 1 := Scalar.cmpi .eq v57 c11_i32_794
  let v1042 : BitVec 1 := Scalar.andi v1040 v1041
  let c8_i32_795 : BitVec 32 := 8#32
  let c0_i32_796 : BitVec 32 := 0#32
  let v1043 : BitVec 32 := Scalar.select v1042 c8_i32_795 c0_i32_796
  let v1044 : BitVec 32 := Scalar.addi v1039 v1043
  let c0_i32_797 : BitVec 32 := 0#32
  let v1045 : BitVec 1 := Scalar.cmpi .sgt v31 c0_i32_797
  let v58 : BitVec 32 := Scalar.addi v57 v28
  let c11_i32_798 : BitVec 32 := 11#32
  let v1046 : BitVec 1 := Scalar.cmpi .eq v58 c11_i32_798
  let v1047 : BitVec 1 := Scalar.andi v1045 v1046
  let c9_i32_799 : BitVec 32 := 9#32
  let c0_i32_800 : BitVec 32 := 0#32
  let v1048 : BitVec 32 := Scalar.select v1047 c9_i32_799 c0_i32_800
  let v1049 : BitVec 32 := Scalar.addi v1044 v1048
  let c0_i32_801 : BitVec 32 := 0#32
  let v1050 : BitVec 1 := Scalar.cmpi .sgt v34 c0_i32_801
  let v59 : BitVec 32 := Scalar.addi v58 v31
  let c11_i32_802 : BitVec 32 := 11#32
  let v1051 : BitVec 1 := Scalar.cmpi .eq v59 c11_i32_802
  let v1052 : BitVec 1 := Scalar.andi v1050 v1051
  let c10_i32_803 : BitVec 32 := 10#32
  let c0_i32_804 : BitVec 32 := 0#32
  let v1053 : BitVec 32 := Scalar.select v1052 c10_i32_803 c0_i32_804
  let v1054 : BitVec 32 := Scalar.addi v1049 v1053
  let c0_i32_805 : BitVec 32 := 0#32
  let v1055 : BitVec 1 := Scalar.cmpi .sgt v37 c0_i32_805
  let v60 : BitVec 32 := Scalar.addi v59 v34
  let c11_i32_806 : BitVec 32 := 11#32
  let v1056 : BitVec 1 := Scalar.cmpi .eq v60 c11_i32_806
  let v1057 : BitVec 1 := Scalar.andi v1055 v1056
  let c11_i32_807 : BitVec 32 := 11#32
  let c0_i32_808 : BitVec 32 := 0#32
  let v1058 : BitVec 32 := Scalar.select v1057 c11_i32_807 c0_i32_808
  let v1059 : BitVec 32 := Scalar.addi v1054 v1058
  let c0_i32_809 : BitVec 32 := 0#32
  let v1060 : BitVec 1 := Scalar.cmpi .sgt v40 c0_i32_809
  let v61 : BitVec 32 := Scalar.addi v60 v37
  let c11_i32_810 : BitVec 32 := 11#32
  let v1061 : BitVec 1 := Scalar.cmpi .eq v61 c11_i32_810
  let v1062 : BitVec 1 := Scalar.andi v1060 v1061
  let c12_i32_811 : BitVec 32 := 12#32
  let c0_i32_812 : BitVec 32 := 0#32
  let v1063 : BitVec 32 := Scalar.select v1062 c12_i32_811 c0_i32_812
  let v1064 : BitVec 32 := Scalar.addi v1059 v1063
  let c0_i32_813 : BitVec 32 := 0#32
  let v1065 : BitVec 1 := Scalar.cmpi .sgt v43 c0_i32_813
  let v62 : BitVec 32 := Scalar.addi v61 v40
  let c11_i32_814 : BitVec 32 := 11#32
  let v1066 : BitVec 1 := Scalar.cmpi .eq v62 c11_i32_814
  let v1067 : BitVec 1 := Scalar.andi v1065 v1066
  let c13_i32_815 : BitVec 32 := 13#32
  let c0_i32_816 : BitVec 32 := 0#32
  let v1068 : BitVec 32 := Scalar.select v1067 c13_i32_815 c0_i32_816
  let v1069 : BitVec 32 := Scalar.addi v1064 v1068
  let c0_i32_817 : BitVec 32 := 0#32
  let v1070 : BitVec 1 := Scalar.cmpi .sgt v46 c0_i32_817
  let v63 : BitVec 32 := Scalar.addi v62 v43
  let c11_i32_818 : BitVec 32 := 11#32
  let v1071 : BitVec 1 := Scalar.cmpi .eq v63 c11_i32_818
  let v1072 : BitVec 1 := Scalar.andi v1070 v1071
  let c14_i32_819 : BitVec 32 := 14#32
  let c0_i32_820 : BitVec 32 := 0#32
  let v1073 : BitVec 32 := Scalar.select v1072 c14_i32_819 c0_i32_820
  let v1074 : BitVec 32 := Scalar.addi v1069 v1073
  let c0_i32_821 : BitVec 32 := 0#32
  let v1075 : BitVec 1 := Scalar.cmpi .sgt v49 c0_i32_821
  let v64 : BitVec 32 := Scalar.addi v63 v46
  let c11_i32_822 : BitVec 32 := 11#32
  let v1076 : BitVec 1 := Scalar.cmpi .eq v64 c11_i32_822
  let v1077 : BitVec 1 := Scalar.andi v1075 v1076
  let c15_i32_823 : BitVec 32 := 15#32
  let c0_i32_824 : BitVec 32 := 0#32
  let v1078 : BitVec 32 := Scalar.select v1077 c15_i32_823 c0_i32_824
  let v1079 : BitVec 32 := Scalar.addi v1074 v1078
  let c640_i32_2377 : BitVec 32 := 640#32
  let v3176 : BitVec 32 := Scalar.muli v1079 c640_i32_2377
  ![v1.toNat, v3176.toNat]
def k1_cond23 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c11_i32_825 : BitVec 32 := 11#32
  let v1080 : BitVec 1 := Scalar.cmpi .sgt v65 c11_i32_825
  let v1081 : BitVec 32 := Scalar.extui v1080
  let c0_i32_826 : BitVec 32 := 0#32
  let v1082 : BitVec 1 := Scalar.cmpi .ne v1081 c0_i32_826
  v1082

def k1_off52 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c7040_i32_2377 : BitVec 32 := 7040#32
  ![v1.toNat, 7040]
def k1_off53 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c7680_i32_2378 : BitVec 32 := 7680#32
  ![v1.toNat, 7680]
def k1_off54 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_833 : BitVec 32 := 0#32
  let c0_i32_829 : BitVec 32 := 0#32
  let v1086 : BitVec 1 := Scalar.cmpi .sgt v4 c0_i32_829
  let false_830 : BitVec 1 := 0#1
  let v1087 : BitVec 1 := Scalar.andi v1086 false_830
  let c0_i32_831 : BitVec 32 := 0#32
  let c0_i32_832 : BitVec 32 := 0#32
  let v1088 : BitVec 32 := Scalar.select v1087 c0_i32_831 c0_i32_832
  let v1089 : BitVec 32 := Scalar.addi c0_i32_833 v1088
  let c0_i32_834 : BitVec 32 := 0#32
  let v1090 : BitVec 1 := Scalar.cmpi .sgt v7 c0_i32_834
  let c0_i32_2 : BitVec 32 := 0#32
  let v50 : BitVec 32 := Scalar.addi c0_i32_2 v4
  let c12_i32_835 : BitVec 32 := 12#32
  let v1091 : BitVec 1 := Scalar.cmpi .eq v50 c12_i32_835
  let v1092 : BitVec 1 := Scalar.andi v1090 v1091
  let c1_i32_836 : BitVec 32 := 1#32
  let c0_i32_837 : BitVec 32 := 0#32
  let v1093 : BitVec 32 := Scalar.select v1092 c1_i32_836 c0_i32_837
  let v1094 : BitVec 32 := Scalar.addi v1089 v1093
  let c0_i32_838 : BitVec 32 := 0#32
  let v1095 : BitVec 1 := Scalar.cmpi .sgt v10 c0_i32_838
  let v51 : BitVec 32 := Scalar.addi v50 v7
  let c12_i32_839 : BitVec 32 := 12#32
  let v1096 : BitVec 1 := Scalar.cmpi .eq v51 c12_i32_839
  let v1097 : BitVec 1 := Scalar.andi v1095 v1096
  let c2_i32_840 : BitVec 32 := 2#32
  let c0_i32_841 : BitVec 32 := 0#32
  let v1098 : BitVec 32 := Scalar.select v1097 c2_i32_840 c0_i32_841
  let v1099 : BitVec 32 := Scalar.addi v1094 v1098
  let c0_i32_842 : BitVec 32 := 0#32
  let v1100 : BitVec 1 := Scalar.cmpi .sgt v13 c0_i32_842
  let v52 : BitVec 32 := Scalar.addi v51 v10
  let c12_i32_843 : BitVec 32 := 12#32
  let v1101 : BitVec 1 := Scalar.cmpi .eq v52 c12_i32_843
  let v1102 : BitVec 1 := Scalar.andi v1100 v1101
  let c3_i32_844 : BitVec 32 := 3#32
  let c0_i32_845 : BitVec 32 := 0#32
  let v1103 : BitVec 32 := Scalar.select v1102 c3_i32_844 c0_i32_845
  let v1104 : BitVec 32 := Scalar.addi v1099 v1103
  let c0_i32_846 : BitVec 32 := 0#32
  let v1105 : BitVec 1 := Scalar.cmpi .sgt v16 c0_i32_846
  let v53 : BitVec 32 := Scalar.addi v52 v13
  let c12_i32_847 : BitVec 32 := 12#32
  let v1106 : BitVec 1 := Scalar.cmpi .eq v53 c12_i32_847
  let v1107 : BitVec 1 := Scalar.andi v1105 v1106
  let c4_i32_848 : BitVec 32 := 4#32
  let c0_i32_849 : BitVec 32 := 0#32
  let v1108 : BitVec 32 := Scalar.select v1107 c4_i32_848 c0_i32_849
  let v1109 : BitVec 32 := Scalar.addi v1104 v1108
  let c0_i32_850 : BitVec 32 := 0#32
  let v1110 : BitVec 1 := Scalar.cmpi .sgt v19 c0_i32_850
  let v54 : BitVec 32 := Scalar.addi v53 v16
  let c12_i32_851 : BitVec 32 := 12#32
  let v1111 : BitVec 1 := Scalar.cmpi .eq v54 c12_i32_851
  let v1112 : BitVec 1 := Scalar.andi v1110 v1111
  let c5_i32_852 : BitVec 32 := 5#32
  let c0_i32_853 : BitVec 32 := 0#32
  let v1113 : BitVec 32 := Scalar.select v1112 c5_i32_852 c0_i32_853
  let v1114 : BitVec 32 := Scalar.addi v1109 v1113
  let c0_i32_854 : BitVec 32 := 0#32
  let v1115 : BitVec 1 := Scalar.cmpi .sgt v22 c0_i32_854
  let v55 : BitVec 32 := Scalar.addi v54 v19
  let c12_i32_855 : BitVec 32 := 12#32
  let v1116 : BitVec 1 := Scalar.cmpi .eq v55 c12_i32_855
  let v1117 : BitVec 1 := Scalar.andi v1115 v1116
  let c6_i32_856 : BitVec 32 := 6#32
  let c0_i32_857 : BitVec 32 := 0#32
  let v1118 : BitVec 32 := Scalar.select v1117 c6_i32_856 c0_i32_857
  let v1119 : BitVec 32 := Scalar.addi v1114 v1118
  let c0_i32_858 : BitVec 32 := 0#32
  let v1120 : BitVec 1 := Scalar.cmpi .sgt v25 c0_i32_858
  let v56 : BitVec 32 := Scalar.addi v55 v22
  let c12_i32_859 : BitVec 32 := 12#32
  let v1121 : BitVec 1 := Scalar.cmpi .eq v56 c12_i32_859
  let v1122 : BitVec 1 := Scalar.andi v1120 v1121
  let c7_i32_860 : BitVec 32 := 7#32
  let c0_i32_861 : BitVec 32 := 0#32
  let v1123 : BitVec 32 := Scalar.select v1122 c7_i32_860 c0_i32_861
  let v1124 : BitVec 32 := Scalar.addi v1119 v1123
  let c0_i32_862 : BitVec 32 := 0#32
  let v1125 : BitVec 1 := Scalar.cmpi .sgt v28 c0_i32_862
  let v57 : BitVec 32 := Scalar.addi v56 v25
  let c12_i32_863 : BitVec 32 := 12#32
  let v1126 : BitVec 1 := Scalar.cmpi .eq v57 c12_i32_863
  let v1127 : BitVec 1 := Scalar.andi v1125 v1126
  let c8_i32_864 : BitVec 32 := 8#32
  let c0_i32_865 : BitVec 32 := 0#32
  let v1128 : BitVec 32 := Scalar.select v1127 c8_i32_864 c0_i32_865
  let v1129 : BitVec 32 := Scalar.addi v1124 v1128
  let c0_i32_866 : BitVec 32 := 0#32
  let v1130 : BitVec 1 := Scalar.cmpi .sgt v31 c0_i32_866
  let v58 : BitVec 32 := Scalar.addi v57 v28
  let c12_i32_867 : BitVec 32 := 12#32
  let v1131 : BitVec 1 := Scalar.cmpi .eq v58 c12_i32_867
  let v1132 : BitVec 1 := Scalar.andi v1130 v1131
  let c9_i32_868 : BitVec 32 := 9#32
  let c0_i32_869 : BitVec 32 := 0#32
  let v1133 : BitVec 32 := Scalar.select v1132 c9_i32_868 c0_i32_869
  let v1134 : BitVec 32 := Scalar.addi v1129 v1133
  let c0_i32_870 : BitVec 32 := 0#32
  let v1135 : BitVec 1 := Scalar.cmpi .sgt v34 c0_i32_870
  let v59 : BitVec 32 := Scalar.addi v58 v31
  let c12_i32_871 : BitVec 32 := 12#32
  let v1136 : BitVec 1 := Scalar.cmpi .eq v59 c12_i32_871
  let v1137 : BitVec 1 := Scalar.andi v1135 v1136
  let c10_i32_872 : BitVec 32 := 10#32
  let c0_i32_873 : BitVec 32 := 0#32
  let v1138 : BitVec 32 := Scalar.select v1137 c10_i32_872 c0_i32_873
  let v1139 : BitVec 32 := Scalar.addi v1134 v1138
  let c0_i32_874 : BitVec 32 := 0#32
  let v1140 : BitVec 1 := Scalar.cmpi .sgt v37 c0_i32_874
  let v60 : BitVec 32 := Scalar.addi v59 v34
  let c12_i32_875 : BitVec 32 := 12#32
  let v1141 : BitVec 1 := Scalar.cmpi .eq v60 c12_i32_875
  let v1142 : BitVec 1 := Scalar.andi v1140 v1141
  let c11_i32_876 : BitVec 32 := 11#32
  let c0_i32_877 : BitVec 32 := 0#32
  let v1143 : BitVec 32 := Scalar.select v1142 c11_i32_876 c0_i32_877
  let v1144 : BitVec 32 := Scalar.addi v1139 v1143
  let c0_i32_878 : BitVec 32 := 0#32
  let v1145 : BitVec 1 := Scalar.cmpi .sgt v40 c0_i32_878
  let v61 : BitVec 32 := Scalar.addi v60 v37
  let c12_i32_879 : BitVec 32 := 12#32
  let v1146 : BitVec 1 := Scalar.cmpi .eq v61 c12_i32_879
  let v1147 : BitVec 1 := Scalar.andi v1145 v1146
  let c12_i32_880 : BitVec 32 := 12#32
  let c0_i32_881 : BitVec 32 := 0#32
  let v1148 : BitVec 32 := Scalar.select v1147 c12_i32_880 c0_i32_881
  let v1149 : BitVec 32 := Scalar.addi v1144 v1148
  let c0_i32_882 : BitVec 32 := 0#32
  let v1150 : BitVec 1 := Scalar.cmpi .sgt v43 c0_i32_882
  let v62 : BitVec 32 := Scalar.addi v61 v40
  let c12_i32_883 : BitVec 32 := 12#32
  let v1151 : BitVec 1 := Scalar.cmpi .eq v62 c12_i32_883
  let v1152 : BitVec 1 := Scalar.andi v1150 v1151
  let c13_i32_884 : BitVec 32 := 13#32
  let c0_i32_885 : BitVec 32 := 0#32
  let v1153 : BitVec 32 := Scalar.select v1152 c13_i32_884 c0_i32_885
  let v1154 : BitVec 32 := Scalar.addi v1149 v1153
  let c0_i32_886 : BitVec 32 := 0#32
  let v1155 : BitVec 1 := Scalar.cmpi .sgt v46 c0_i32_886
  let v63 : BitVec 32 := Scalar.addi v62 v43
  let c12_i32_887 : BitVec 32 := 12#32
  let v1156 : BitVec 1 := Scalar.cmpi .eq v63 c12_i32_887
  let v1157 : BitVec 1 := Scalar.andi v1155 v1156
  let c14_i32_888 : BitVec 32 := 14#32
  let c0_i32_889 : BitVec 32 := 0#32
  let v1158 : BitVec 32 := Scalar.select v1157 c14_i32_888 c0_i32_889
  let v1159 : BitVec 32 := Scalar.addi v1154 v1158
  let c0_i32_890 : BitVec 32 := 0#32
  let v1160 : BitVec 1 := Scalar.cmpi .sgt v49 c0_i32_890
  let v64 : BitVec 32 := Scalar.addi v63 v46
  let c12_i32_891 : BitVec 32 := 12#32
  let v1161 : BitVec 1 := Scalar.cmpi .eq v64 c12_i32_891
  let v1162 : BitVec 1 := Scalar.andi v1160 v1161
  let c15_i32_892 : BitVec 32 := 15#32
  let c0_i32_893 : BitVec 32 := 0#32
  let v1163 : BitVec 32 := Scalar.select v1162 c15_i32_892 c0_i32_893
  let v1164 : BitVec 32 := Scalar.addi v1159 v1163
  let c640_i32_2377 : BitVec 32 := 640#32
  let v3176 : BitVec 32 := Scalar.muli v1164 c640_i32_2377
  ![v1.toNat, v3176.toNat]
def k1_cond25 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c12_i32_894 : BitVec 32 := 12#32
  let v1165 : BitVec 1 := Scalar.cmpi .sgt v65 c12_i32_894
  let v1166 : BitVec 32 := Scalar.extui v1165
  let c0_i32_895 : BitVec 32 := 0#32
  let v1167 : BitVec 1 := Scalar.cmpi .ne v1166 c0_i32_895
  v1167

def k1_off55 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c7680_i32_2377 : BitVec 32 := 7680#32
  ![v1.toNat, 7680]
def k1_off56 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8320_i32_2378 : BitVec 32 := 8320#32
  ![v1.toNat, 8320]
def k1_off57 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_902 : BitVec 32 := 0#32
  let c0_i32_898 : BitVec 32 := 0#32
  let v1171 : BitVec 1 := Scalar.cmpi .sgt v4 c0_i32_898
  let false_899 : BitVec 1 := 0#1
  let v1172 : BitVec 1 := Scalar.andi v1171 false_899
  let c0_i32_900 : BitVec 32 := 0#32
  let c0_i32_901 : BitVec 32 := 0#32
  let v1173 : BitVec 32 := Scalar.select v1172 c0_i32_900 c0_i32_901
  let v1174 : BitVec 32 := Scalar.addi c0_i32_902 v1173
  let c0_i32_903 : BitVec 32 := 0#32
  let v1175 : BitVec 1 := Scalar.cmpi .sgt v7 c0_i32_903
  let c0_i32_2 : BitVec 32 := 0#32
  let v50 : BitVec 32 := Scalar.addi c0_i32_2 v4
  let c13_i32_904 : BitVec 32 := 13#32
  let v1176 : BitVec 1 := Scalar.cmpi .eq v50 c13_i32_904
  let v1177 : BitVec 1 := Scalar.andi v1175 v1176
  let c1_i32_905 : BitVec 32 := 1#32
  let c0_i32_906 : BitVec 32 := 0#32
  let v1178 : BitVec 32 := Scalar.select v1177 c1_i32_905 c0_i32_906
  let v1179 : BitVec 32 := Scalar.addi v1174 v1178
  let c0_i32_907 : BitVec 32 := 0#32
  let v1180 : BitVec 1 := Scalar.cmpi .sgt v10 c0_i32_907
  let v51 : BitVec 32 := Scalar.addi v50 v7
  let c13_i32_908 : BitVec 32 := 13#32
  let v1181 : BitVec 1 := Scalar.cmpi .eq v51 c13_i32_908
  let v1182 : BitVec 1 := Scalar.andi v1180 v1181
  let c2_i32_909 : BitVec 32 := 2#32
  let c0_i32_910 : BitVec 32 := 0#32
  let v1183 : BitVec 32 := Scalar.select v1182 c2_i32_909 c0_i32_910
  let v1184 : BitVec 32 := Scalar.addi v1179 v1183
  let c0_i32_911 : BitVec 32 := 0#32
  let v1185 : BitVec 1 := Scalar.cmpi .sgt v13 c0_i32_911
  let v52 : BitVec 32 := Scalar.addi v51 v10
  let c13_i32_912 : BitVec 32 := 13#32
  let v1186 : BitVec 1 := Scalar.cmpi .eq v52 c13_i32_912
  let v1187 : BitVec 1 := Scalar.andi v1185 v1186
  let c3_i32_913 : BitVec 32 := 3#32
  let c0_i32_914 : BitVec 32 := 0#32
  let v1188 : BitVec 32 := Scalar.select v1187 c3_i32_913 c0_i32_914
  let v1189 : BitVec 32 := Scalar.addi v1184 v1188
  let c0_i32_915 : BitVec 32 := 0#32
  let v1190 : BitVec 1 := Scalar.cmpi .sgt v16 c0_i32_915
  let v53 : BitVec 32 := Scalar.addi v52 v13
  let c13_i32_916 : BitVec 32 := 13#32
  let v1191 : BitVec 1 := Scalar.cmpi .eq v53 c13_i32_916
  let v1192 : BitVec 1 := Scalar.andi v1190 v1191
  let c4_i32_917 : BitVec 32 := 4#32
  let c0_i32_918 : BitVec 32 := 0#32
  let v1193 : BitVec 32 := Scalar.select v1192 c4_i32_917 c0_i32_918
  let v1194 : BitVec 32 := Scalar.addi v1189 v1193
  let c0_i32_919 : BitVec 32 := 0#32
  let v1195 : BitVec 1 := Scalar.cmpi .sgt v19 c0_i32_919
  let v54 : BitVec 32 := Scalar.addi v53 v16
  let c13_i32_920 : BitVec 32 := 13#32
  let v1196 : BitVec 1 := Scalar.cmpi .eq v54 c13_i32_920
  let v1197 : BitVec 1 := Scalar.andi v1195 v1196
  let c5_i32_921 : BitVec 32 := 5#32
  let c0_i32_922 : BitVec 32 := 0#32
  let v1198 : BitVec 32 := Scalar.select v1197 c5_i32_921 c0_i32_922
  let v1199 : BitVec 32 := Scalar.addi v1194 v1198
  let c0_i32_923 : BitVec 32 := 0#32
  let v1200 : BitVec 1 := Scalar.cmpi .sgt v22 c0_i32_923
  let v55 : BitVec 32 := Scalar.addi v54 v19
  let c13_i32_924 : BitVec 32 := 13#32
  let v1201 : BitVec 1 := Scalar.cmpi .eq v55 c13_i32_924
  let v1202 : BitVec 1 := Scalar.andi v1200 v1201
  let c6_i32_925 : BitVec 32 := 6#32
  let c0_i32_926 : BitVec 32 := 0#32
  let v1203 : BitVec 32 := Scalar.select v1202 c6_i32_925 c0_i32_926
  let v1204 : BitVec 32 := Scalar.addi v1199 v1203
  let c0_i32_927 : BitVec 32 := 0#32
  let v1205 : BitVec 1 := Scalar.cmpi .sgt v25 c0_i32_927
  let v56 : BitVec 32 := Scalar.addi v55 v22
  let c13_i32_928 : BitVec 32 := 13#32
  let v1206 : BitVec 1 := Scalar.cmpi .eq v56 c13_i32_928
  let v1207 : BitVec 1 := Scalar.andi v1205 v1206
  let c7_i32_929 : BitVec 32 := 7#32
  let c0_i32_930 : BitVec 32 := 0#32
  let v1208 : BitVec 32 := Scalar.select v1207 c7_i32_929 c0_i32_930
  let v1209 : BitVec 32 := Scalar.addi v1204 v1208
  let c0_i32_931 : BitVec 32 := 0#32
  let v1210 : BitVec 1 := Scalar.cmpi .sgt v28 c0_i32_931
  let v57 : BitVec 32 := Scalar.addi v56 v25
  let c13_i32_932 : BitVec 32 := 13#32
  let v1211 : BitVec 1 := Scalar.cmpi .eq v57 c13_i32_932
  let v1212 : BitVec 1 := Scalar.andi v1210 v1211
  let c8_i32_933 : BitVec 32 := 8#32
  let c0_i32_934 : BitVec 32 := 0#32
  let v1213 : BitVec 32 := Scalar.select v1212 c8_i32_933 c0_i32_934
  let v1214 : BitVec 32 := Scalar.addi v1209 v1213
  let c0_i32_935 : BitVec 32 := 0#32
  let v1215 : BitVec 1 := Scalar.cmpi .sgt v31 c0_i32_935
  let v58 : BitVec 32 := Scalar.addi v57 v28
  let c13_i32_936 : BitVec 32 := 13#32
  let v1216 : BitVec 1 := Scalar.cmpi .eq v58 c13_i32_936
  let v1217 : BitVec 1 := Scalar.andi v1215 v1216
  let c9_i32_937 : BitVec 32 := 9#32
  let c0_i32_938 : BitVec 32 := 0#32
  let v1218 : BitVec 32 := Scalar.select v1217 c9_i32_937 c0_i32_938
  let v1219 : BitVec 32 := Scalar.addi v1214 v1218
  let c0_i32_939 : BitVec 32 := 0#32
  let v1220 : BitVec 1 := Scalar.cmpi .sgt v34 c0_i32_939
  let v59 : BitVec 32 := Scalar.addi v58 v31
  let c13_i32_940 : BitVec 32 := 13#32
  let v1221 : BitVec 1 := Scalar.cmpi .eq v59 c13_i32_940
  let v1222 : BitVec 1 := Scalar.andi v1220 v1221
  let c10_i32_941 : BitVec 32 := 10#32
  let c0_i32_942 : BitVec 32 := 0#32
  let v1223 : BitVec 32 := Scalar.select v1222 c10_i32_941 c0_i32_942
  let v1224 : BitVec 32 := Scalar.addi v1219 v1223
  let c0_i32_943 : BitVec 32 := 0#32
  let v1225 : BitVec 1 := Scalar.cmpi .sgt v37 c0_i32_943
  let v60 : BitVec 32 := Scalar.addi v59 v34
  let c13_i32_944 : BitVec 32 := 13#32
  let v1226 : BitVec 1 := Scalar.cmpi .eq v60 c13_i32_944
  let v1227 : BitVec 1 := Scalar.andi v1225 v1226
  let c11_i32_945 : BitVec 32 := 11#32
  let c0_i32_946 : BitVec 32 := 0#32
  let v1228 : BitVec 32 := Scalar.select v1227 c11_i32_945 c0_i32_946
  let v1229 : BitVec 32 := Scalar.addi v1224 v1228
  let c0_i32_947 : BitVec 32 := 0#32
  let v1230 : BitVec 1 := Scalar.cmpi .sgt v40 c0_i32_947
  let v61 : BitVec 32 := Scalar.addi v60 v37
  let c13_i32_948 : BitVec 32 := 13#32
  let v1231 : BitVec 1 := Scalar.cmpi .eq v61 c13_i32_948
  let v1232 : BitVec 1 := Scalar.andi v1230 v1231
  let c12_i32_949 : BitVec 32 := 12#32
  let c0_i32_950 : BitVec 32 := 0#32
  let v1233 : BitVec 32 := Scalar.select v1232 c12_i32_949 c0_i32_950
  let v1234 : BitVec 32 := Scalar.addi v1229 v1233
  let c0_i32_951 : BitVec 32 := 0#32
  let v1235 : BitVec 1 := Scalar.cmpi .sgt v43 c0_i32_951
  let v62 : BitVec 32 := Scalar.addi v61 v40
  let c13_i32_952 : BitVec 32 := 13#32
  let v1236 : BitVec 1 := Scalar.cmpi .eq v62 c13_i32_952
  let v1237 : BitVec 1 := Scalar.andi v1235 v1236
  let c13_i32_953 : BitVec 32 := 13#32
  let c0_i32_954 : BitVec 32 := 0#32
  let v1238 : BitVec 32 := Scalar.select v1237 c13_i32_953 c0_i32_954
  let v1239 : BitVec 32 := Scalar.addi v1234 v1238
  let c0_i32_955 : BitVec 32 := 0#32
  let v1240 : BitVec 1 := Scalar.cmpi .sgt v46 c0_i32_955
  let v63 : BitVec 32 := Scalar.addi v62 v43
  let c13_i32_956 : BitVec 32 := 13#32
  let v1241 : BitVec 1 := Scalar.cmpi .eq v63 c13_i32_956
  let v1242 : BitVec 1 := Scalar.andi v1240 v1241
  let c14_i32_957 : BitVec 32 := 14#32
  let c0_i32_958 : BitVec 32 := 0#32
  let v1243 : BitVec 32 := Scalar.select v1242 c14_i32_957 c0_i32_958
  let v1244 : BitVec 32 := Scalar.addi v1239 v1243
  let c0_i32_959 : BitVec 32 := 0#32
  let v1245 : BitVec 1 := Scalar.cmpi .sgt v49 c0_i32_959
  let v64 : BitVec 32 := Scalar.addi v63 v46
  let c13_i32_960 : BitVec 32 := 13#32
  let v1246 : BitVec 1 := Scalar.cmpi .eq v64 c13_i32_960
  let v1247 : BitVec 1 := Scalar.andi v1245 v1246
  let c15_i32_961 : BitVec 32 := 15#32
  let c0_i32_962 : BitVec 32 := 0#32
  let v1248 : BitVec 32 := Scalar.select v1247 c15_i32_961 c0_i32_962
  let v1249 : BitVec 32 := Scalar.addi v1244 v1248
  let c640_i32_2377 : BitVec 32 := 640#32
  let v3176 : BitVec 32 := Scalar.muli v1249 c640_i32_2377
  ![v1.toNat, v3176.toNat]
def k1_cond27 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c13_i32_963 : BitVec 32 := 13#32
  let v1250 : BitVec 1 := Scalar.cmpi .sgt v65 c13_i32_963
  let v1251 : BitVec 32 := Scalar.extui v1250
  let c0_i32_964 : BitVec 32 := 0#32
  let v1252 : BitVec 1 := Scalar.cmpi .ne v1251 c0_i32_964
  v1252

def k1_off58 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8320_i32_2377 : BitVec 32 := 8320#32
  ![v1.toNat, 8320]
def k1_off59 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8960_i32_2378 : BitVec 32 := 8960#32
  ![v1.toNat, 8960]
def k1_off60 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_971 : BitVec 32 := 0#32
  let c0_i32_967 : BitVec 32 := 0#32
  let v1256 : BitVec 1 := Scalar.cmpi .sgt v4 c0_i32_967
  let false_968 : BitVec 1 := 0#1
  let v1257 : BitVec 1 := Scalar.andi v1256 false_968
  let c0_i32_969 : BitVec 32 := 0#32
  let c0_i32_970 : BitVec 32 := 0#32
  let v1258 : BitVec 32 := Scalar.select v1257 c0_i32_969 c0_i32_970
  let v1259 : BitVec 32 := Scalar.addi c0_i32_971 v1258
  let c0_i32_972 : BitVec 32 := 0#32
  let v1260 : BitVec 1 := Scalar.cmpi .sgt v7 c0_i32_972
  let c0_i32_2 : BitVec 32 := 0#32
  let v50 : BitVec 32 := Scalar.addi c0_i32_2 v4
  let c14_i32_973 : BitVec 32 := 14#32
  let v1261 : BitVec 1 := Scalar.cmpi .eq v50 c14_i32_973
  let v1262 : BitVec 1 := Scalar.andi v1260 v1261
  let c1_i32_974 : BitVec 32 := 1#32
  let c0_i32_975 : BitVec 32 := 0#32
  let v1263 : BitVec 32 := Scalar.select v1262 c1_i32_974 c0_i32_975
  let v1264 : BitVec 32 := Scalar.addi v1259 v1263
  let c0_i32_976 : BitVec 32 := 0#32
  let v1265 : BitVec 1 := Scalar.cmpi .sgt v10 c0_i32_976
  let v51 : BitVec 32 := Scalar.addi v50 v7
  let c14_i32_977 : BitVec 32 := 14#32
  let v1266 : BitVec 1 := Scalar.cmpi .eq v51 c14_i32_977
  let v1267 : BitVec 1 := Scalar.andi v1265 v1266
  let c2_i32_978 : BitVec 32 := 2#32
  let c0_i32_979 : BitVec 32 := 0#32
  let v1268 : BitVec 32 := Scalar.select v1267 c2_i32_978 c0_i32_979
  let v1269 : BitVec 32 := Scalar.addi v1264 v1268
  let c0_i32_980 : BitVec 32 := 0#32
  let v1270 : BitVec 1 := Scalar.cmpi .sgt v13 c0_i32_980
  let v52 : BitVec 32 := Scalar.addi v51 v10
  let c14_i32_981 : BitVec 32 := 14#32
  let v1271 : BitVec 1 := Scalar.cmpi .eq v52 c14_i32_981
  let v1272 : BitVec 1 := Scalar.andi v1270 v1271
  let c3_i32_982 : BitVec 32 := 3#32
  let c0_i32_983 : BitVec 32 := 0#32
  let v1273 : BitVec 32 := Scalar.select v1272 c3_i32_982 c0_i32_983
  let v1274 : BitVec 32 := Scalar.addi v1269 v1273
  let c0_i32_984 : BitVec 32 := 0#32
  let v1275 : BitVec 1 := Scalar.cmpi .sgt v16 c0_i32_984
  let v53 : BitVec 32 := Scalar.addi v52 v13
  let c14_i32_985 : BitVec 32 := 14#32
  let v1276 : BitVec 1 := Scalar.cmpi .eq v53 c14_i32_985
  let v1277 : BitVec 1 := Scalar.andi v1275 v1276
  let c4_i32_986 : BitVec 32 := 4#32
  let c0_i32_987 : BitVec 32 := 0#32
  let v1278 : BitVec 32 := Scalar.select v1277 c4_i32_986 c0_i32_987
  let v1279 : BitVec 32 := Scalar.addi v1274 v1278
  let c0_i32_988 : BitVec 32 := 0#32
  let v1280 : BitVec 1 := Scalar.cmpi .sgt v19 c0_i32_988
  let v54 : BitVec 32 := Scalar.addi v53 v16
  let c14_i32_989 : BitVec 32 := 14#32
  let v1281 : BitVec 1 := Scalar.cmpi .eq v54 c14_i32_989
  let v1282 : BitVec 1 := Scalar.andi v1280 v1281
  let c5_i32_990 : BitVec 32 := 5#32
  let c0_i32_991 : BitVec 32 := 0#32
  let v1283 : BitVec 32 := Scalar.select v1282 c5_i32_990 c0_i32_991
  let v1284 : BitVec 32 := Scalar.addi v1279 v1283
  let c0_i32_992 : BitVec 32 := 0#32
  let v1285 : BitVec 1 := Scalar.cmpi .sgt v22 c0_i32_992
  let v55 : BitVec 32 := Scalar.addi v54 v19
  let c14_i32_993 : BitVec 32 := 14#32
  let v1286 : BitVec 1 := Scalar.cmpi .eq v55 c14_i32_993
  let v1287 : BitVec 1 := Scalar.andi v1285 v1286
  let c6_i32_994 : BitVec 32 := 6#32
  let c0_i32_995 : BitVec 32 := 0#32
  let v1288 : BitVec 32 := Scalar.select v1287 c6_i32_994 c0_i32_995
  let v1289 : BitVec 32 := Scalar.addi v1284 v1288
  let c0_i32_996 : BitVec 32 := 0#32
  let v1290 : BitVec 1 := Scalar.cmpi .sgt v25 c0_i32_996
  let v56 : BitVec 32 := Scalar.addi v55 v22
  let c14_i32_997 : BitVec 32 := 14#32
  let v1291 : BitVec 1 := Scalar.cmpi .eq v56 c14_i32_997
  let v1292 : BitVec 1 := Scalar.andi v1290 v1291
  let c7_i32_998 : BitVec 32 := 7#32
  let c0_i32_999 : BitVec 32 := 0#32
  let v1293 : BitVec 32 := Scalar.select v1292 c7_i32_998 c0_i32_999
  let v1294 : BitVec 32 := Scalar.addi v1289 v1293
  let c0_i32_1000 : BitVec 32 := 0#32
  let v1295 : BitVec 1 := Scalar.cmpi .sgt v28 c0_i32_1000
  let v57 : BitVec 32 := Scalar.addi v56 v25
  let c14_i32_1001 : BitVec 32 := 14#32
  let v1296 : BitVec 1 := Scalar.cmpi .eq v57 c14_i32_1001
  let v1297 : BitVec 1 := Scalar.andi v1295 v1296
  let c8_i32_1002 : BitVec 32 := 8#32
  let c0_i32_1003 : BitVec 32 := 0#32
  let v1298 : BitVec 32 := Scalar.select v1297 c8_i32_1002 c0_i32_1003
  let v1299 : BitVec 32 := Scalar.addi v1294 v1298
  let c0_i32_1004 : BitVec 32 := 0#32
  let v1300 : BitVec 1 := Scalar.cmpi .sgt v31 c0_i32_1004
  let v58 : BitVec 32 := Scalar.addi v57 v28
  let c14_i32_1005 : BitVec 32 := 14#32
  let v1301 : BitVec 1 := Scalar.cmpi .eq v58 c14_i32_1005
  let v1302 : BitVec 1 := Scalar.andi v1300 v1301
  let c9_i32_1006 : BitVec 32 := 9#32
  let c0_i32_1007 : BitVec 32 := 0#32
  let v1303 : BitVec 32 := Scalar.select v1302 c9_i32_1006 c0_i32_1007
  let v1304 : BitVec 32 := Scalar.addi v1299 v1303
  let c0_i32_1008 : BitVec 32 := 0#32
  let v1305 : BitVec 1 := Scalar.cmpi .sgt v34 c0_i32_1008
  let v59 : BitVec 32 := Scalar.addi v58 v31
  let c14_i32_1009 : BitVec 32 := 14#32
  let v1306 : BitVec 1 := Scalar.cmpi .eq v59 c14_i32_1009
  let v1307 : BitVec 1 := Scalar.andi v1305 v1306
  let c10_i32_1010 : BitVec 32 := 10#32
  let c0_i32_1011 : BitVec 32 := 0#32
  let v1308 : BitVec 32 := Scalar.select v1307 c10_i32_1010 c0_i32_1011
  let v1309 : BitVec 32 := Scalar.addi v1304 v1308
  let c0_i32_1012 : BitVec 32 := 0#32
  let v1310 : BitVec 1 := Scalar.cmpi .sgt v37 c0_i32_1012
  let v60 : BitVec 32 := Scalar.addi v59 v34
  let c14_i32_1013 : BitVec 32 := 14#32
  let v1311 : BitVec 1 := Scalar.cmpi .eq v60 c14_i32_1013
  let v1312 : BitVec 1 := Scalar.andi v1310 v1311
  let c11_i32_1014 : BitVec 32 := 11#32
  let c0_i32_1015 : BitVec 32 := 0#32
  let v1313 : BitVec 32 := Scalar.select v1312 c11_i32_1014 c0_i32_1015
  let v1314 : BitVec 32 := Scalar.addi v1309 v1313
  let c0_i32_1016 : BitVec 32 := 0#32
  let v1315 : BitVec 1 := Scalar.cmpi .sgt v40 c0_i32_1016
  let v61 : BitVec 32 := Scalar.addi v60 v37
  let c14_i32_1017 : BitVec 32 := 14#32
  let v1316 : BitVec 1 := Scalar.cmpi .eq v61 c14_i32_1017
  let v1317 : BitVec 1 := Scalar.andi v1315 v1316
  let c12_i32_1018 : BitVec 32 := 12#32
  let c0_i32_1019 : BitVec 32 := 0#32
  let v1318 : BitVec 32 := Scalar.select v1317 c12_i32_1018 c0_i32_1019
  let v1319 : BitVec 32 := Scalar.addi v1314 v1318
  let c0_i32_1020 : BitVec 32 := 0#32
  let v1320 : BitVec 1 := Scalar.cmpi .sgt v43 c0_i32_1020
  let v62 : BitVec 32 := Scalar.addi v61 v40
  let c14_i32_1021 : BitVec 32 := 14#32
  let v1321 : BitVec 1 := Scalar.cmpi .eq v62 c14_i32_1021
  let v1322 : BitVec 1 := Scalar.andi v1320 v1321
  let c13_i32_1022 : BitVec 32 := 13#32
  let c0_i32_1023 : BitVec 32 := 0#32
  let v1323 : BitVec 32 := Scalar.select v1322 c13_i32_1022 c0_i32_1023
  let v1324 : BitVec 32 := Scalar.addi v1319 v1323
  let c0_i32_1024 : BitVec 32 := 0#32
  let v1325 : BitVec 1 := Scalar.cmpi .sgt v46 c0_i32_1024
  let v63 : BitVec 32 := Scalar.addi v62 v43
  let c14_i32_1025 : BitVec 32 := 14#32
  let v1326 : BitVec 1 := Scalar.cmpi .eq v63 c14_i32_1025
  let v1327 : BitVec 1 := Scalar.andi v1325 v1326
  let c14_i32_1026 : BitVec 32 := 14#32
  let c0_i32_1027 : BitVec 32 := 0#32
  let v1328 : BitVec 32 := Scalar.select v1327 c14_i32_1026 c0_i32_1027
  let v1329 : BitVec 32 := Scalar.addi v1324 v1328
  let c0_i32_1028 : BitVec 32 := 0#32
  let v1330 : BitVec 1 := Scalar.cmpi .sgt v49 c0_i32_1028
  let v64 : BitVec 32 := Scalar.addi v63 v46
  let c14_i32_1029 : BitVec 32 := 14#32
  let v1331 : BitVec 1 := Scalar.cmpi .eq v64 c14_i32_1029
  let v1332 : BitVec 1 := Scalar.andi v1330 v1331
  let c15_i32_1030 : BitVec 32 := 15#32
  let c0_i32_1031 : BitVec 32 := 0#32
  let v1333 : BitVec 32 := Scalar.select v1332 c15_i32_1030 c0_i32_1031
  let v1334 : BitVec 32 := Scalar.addi v1329 v1333
  let c640_i32_2377 : BitVec 32 := 640#32
  let v3176 : BitVec 32 := Scalar.muli v1334 c640_i32_2377
  ![v1.toNat, v3176.toNat]
def k1_cond29 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c14_i32_1032 : BitVec 32 := 14#32
  let v1335 : BitVec 1 := Scalar.cmpi .sgt v65 c14_i32_1032
  let v1336 : BitVec 32 := Scalar.extui v1335
  let c0_i32_1033 : BitVec 32 := 0#32
  let v1337 : BitVec 1 := Scalar.cmpi .ne v1336 c0_i32_1033
  v1337

def k1_off61 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c8960_i32_2377 : BitVec 32 := 8960#32
  ![v1.toNat, 8960]
def k1_off62 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9600_i32_2378 : BitVec 32 := 9600#32
  ![v1.toNat, 9600]
def k1_off63 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_1040 : BitVec 32 := 0#32
  let c0_i32_1036 : BitVec 32 := 0#32
  let v1341 : BitVec 1 := Scalar.cmpi .sgt v4 c0_i32_1036
  let false_1037 : BitVec 1 := 0#1
  let v1342 : BitVec 1 := Scalar.andi v1341 false_1037
  let c0_i32_1038 : BitVec 32 := 0#32
  let c0_i32_1039 : BitVec 32 := 0#32
  let v1343 : BitVec 32 := Scalar.select v1342 c0_i32_1038 c0_i32_1039
  let v1344 : BitVec 32 := Scalar.addi c0_i32_1040 v1343
  let c0_i32_1041 : BitVec 32 := 0#32
  let v1345 : BitVec 1 := Scalar.cmpi .sgt v7 c0_i32_1041
  let c0_i32_2 : BitVec 32 := 0#32
  let v50 : BitVec 32 := Scalar.addi c0_i32_2 v4
  let c15_i32_1042 : BitVec 32 := 15#32
  let v1346 : BitVec 1 := Scalar.cmpi .eq v50 c15_i32_1042
  let v1347 : BitVec 1 := Scalar.andi v1345 v1346
  let c1_i32_1043 : BitVec 32 := 1#32
  let c0_i32_1044 : BitVec 32 := 0#32
  let v1348 : BitVec 32 := Scalar.select v1347 c1_i32_1043 c0_i32_1044
  let v1349 : BitVec 32 := Scalar.addi v1344 v1348
  let c0_i32_1045 : BitVec 32 := 0#32
  let v1350 : BitVec 1 := Scalar.cmpi .sgt v10 c0_i32_1045
  let v51 : BitVec 32 := Scalar.addi v50 v7
  let c15_i32_1046 : BitVec 32 := 15#32
  let v1351 : BitVec 1 := Scalar.cmpi .eq v51 c15_i32_1046
  let v1352 : BitVec 1 := Scalar.andi v1350 v1351
  let c2_i32_1047 : BitVec 32 := 2#32
  let c0_i32_1048 : BitVec 32 := 0#32
  let v1353 : BitVec 32 := Scalar.select v1352 c2_i32_1047 c0_i32_1048
  let v1354 : BitVec 32 := Scalar.addi v1349 v1353
  let c0_i32_1049 : BitVec 32 := 0#32
  let v1355 : BitVec 1 := Scalar.cmpi .sgt v13 c0_i32_1049
  let v52 : BitVec 32 := Scalar.addi v51 v10
  let c15_i32_1050 : BitVec 32 := 15#32
  let v1356 : BitVec 1 := Scalar.cmpi .eq v52 c15_i32_1050
  let v1357 : BitVec 1 := Scalar.andi v1355 v1356
  let c3_i32_1051 : BitVec 32 := 3#32
  let c0_i32_1052 : BitVec 32 := 0#32
  let v1358 : BitVec 32 := Scalar.select v1357 c3_i32_1051 c0_i32_1052
  let v1359 : BitVec 32 := Scalar.addi v1354 v1358
  let c0_i32_1053 : BitVec 32 := 0#32
  let v1360 : BitVec 1 := Scalar.cmpi .sgt v16 c0_i32_1053
  let v53 : BitVec 32 := Scalar.addi v52 v13
  let c15_i32_1054 : BitVec 32 := 15#32
  let v1361 : BitVec 1 := Scalar.cmpi .eq v53 c15_i32_1054
  let v1362 : BitVec 1 := Scalar.andi v1360 v1361
  let c4_i32_1055 : BitVec 32 := 4#32
  let c0_i32_1056 : BitVec 32 := 0#32
  let v1363 : BitVec 32 := Scalar.select v1362 c4_i32_1055 c0_i32_1056
  let v1364 : BitVec 32 := Scalar.addi v1359 v1363
  let c0_i32_1057 : BitVec 32 := 0#32
  let v1365 : BitVec 1 := Scalar.cmpi .sgt v19 c0_i32_1057
  let v54 : BitVec 32 := Scalar.addi v53 v16
  let c15_i32_1058 : BitVec 32 := 15#32
  let v1366 : BitVec 1 := Scalar.cmpi .eq v54 c15_i32_1058
  let v1367 : BitVec 1 := Scalar.andi v1365 v1366
  let c5_i32_1059 : BitVec 32 := 5#32
  let c0_i32_1060 : BitVec 32 := 0#32
  let v1368 : BitVec 32 := Scalar.select v1367 c5_i32_1059 c0_i32_1060
  let v1369 : BitVec 32 := Scalar.addi v1364 v1368
  let c0_i32_1061 : BitVec 32 := 0#32
  let v1370 : BitVec 1 := Scalar.cmpi .sgt v22 c0_i32_1061
  let v55 : BitVec 32 := Scalar.addi v54 v19
  let c15_i32_1062 : BitVec 32 := 15#32
  let v1371 : BitVec 1 := Scalar.cmpi .eq v55 c15_i32_1062
  let v1372 : BitVec 1 := Scalar.andi v1370 v1371
  let c6_i32_1063 : BitVec 32 := 6#32
  let c0_i32_1064 : BitVec 32 := 0#32
  let v1373 : BitVec 32 := Scalar.select v1372 c6_i32_1063 c0_i32_1064
  let v1374 : BitVec 32 := Scalar.addi v1369 v1373
  let c0_i32_1065 : BitVec 32 := 0#32
  let v1375 : BitVec 1 := Scalar.cmpi .sgt v25 c0_i32_1065
  let v56 : BitVec 32 := Scalar.addi v55 v22
  let c15_i32_1066 : BitVec 32 := 15#32
  let v1376 : BitVec 1 := Scalar.cmpi .eq v56 c15_i32_1066
  let v1377 : BitVec 1 := Scalar.andi v1375 v1376
  let c7_i32_1067 : BitVec 32 := 7#32
  let c0_i32_1068 : BitVec 32 := 0#32
  let v1378 : BitVec 32 := Scalar.select v1377 c7_i32_1067 c0_i32_1068
  let v1379 : BitVec 32 := Scalar.addi v1374 v1378
  let c0_i32_1069 : BitVec 32 := 0#32
  let v1380 : BitVec 1 := Scalar.cmpi .sgt v28 c0_i32_1069
  let v57 : BitVec 32 := Scalar.addi v56 v25
  let c15_i32_1070 : BitVec 32 := 15#32
  let v1381 : BitVec 1 := Scalar.cmpi .eq v57 c15_i32_1070
  let v1382 : BitVec 1 := Scalar.andi v1380 v1381
  let c8_i32_1071 : BitVec 32 := 8#32
  let c0_i32_1072 : BitVec 32 := 0#32
  let v1383 : BitVec 32 := Scalar.select v1382 c8_i32_1071 c0_i32_1072
  let v1384 : BitVec 32 := Scalar.addi v1379 v1383
  let c0_i32_1073 : BitVec 32 := 0#32
  let v1385 : BitVec 1 := Scalar.cmpi .sgt v31 c0_i32_1073
  let v58 : BitVec 32 := Scalar.addi v57 v28
  let c15_i32_1074 : BitVec 32 := 15#32
  let v1386 : BitVec 1 := Scalar.cmpi .eq v58 c15_i32_1074
  let v1387 : BitVec 1 := Scalar.andi v1385 v1386
  let c9_i32_1075 : BitVec 32 := 9#32
  let c0_i32_1076 : BitVec 32 := 0#32
  let v1388 : BitVec 32 := Scalar.select v1387 c9_i32_1075 c0_i32_1076
  let v1389 : BitVec 32 := Scalar.addi v1384 v1388
  let c0_i32_1077 : BitVec 32 := 0#32
  let v1390 : BitVec 1 := Scalar.cmpi .sgt v34 c0_i32_1077
  let v59 : BitVec 32 := Scalar.addi v58 v31
  let c15_i32_1078 : BitVec 32 := 15#32
  let v1391 : BitVec 1 := Scalar.cmpi .eq v59 c15_i32_1078
  let v1392 : BitVec 1 := Scalar.andi v1390 v1391
  let c10_i32_1079 : BitVec 32 := 10#32
  let c0_i32_1080 : BitVec 32 := 0#32
  let v1393 : BitVec 32 := Scalar.select v1392 c10_i32_1079 c0_i32_1080
  let v1394 : BitVec 32 := Scalar.addi v1389 v1393
  let c0_i32_1081 : BitVec 32 := 0#32
  let v1395 : BitVec 1 := Scalar.cmpi .sgt v37 c0_i32_1081
  let v60 : BitVec 32 := Scalar.addi v59 v34
  let c15_i32_1082 : BitVec 32 := 15#32
  let v1396 : BitVec 1 := Scalar.cmpi .eq v60 c15_i32_1082
  let v1397 : BitVec 1 := Scalar.andi v1395 v1396
  let c11_i32_1083 : BitVec 32 := 11#32
  let c0_i32_1084 : BitVec 32 := 0#32
  let v1398 : BitVec 32 := Scalar.select v1397 c11_i32_1083 c0_i32_1084
  let v1399 : BitVec 32 := Scalar.addi v1394 v1398
  let c0_i32_1085 : BitVec 32 := 0#32
  let v1400 : BitVec 1 := Scalar.cmpi .sgt v40 c0_i32_1085
  let v61 : BitVec 32 := Scalar.addi v60 v37
  let c15_i32_1086 : BitVec 32 := 15#32
  let v1401 : BitVec 1 := Scalar.cmpi .eq v61 c15_i32_1086
  let v1402 : BitVec 1 := Scalar.andi v1400 v1401
  let c12_i32_1087 : BitVec 32 := 12#32
  let c0_i32_1088 : BitVec 32 := 0#32
  let v1403 : BitVec 32 := Scalar.select v1402 c12_i32_1087 c0_i32_1088
  let v1404 : BitVec 32 := Scalar.addi v1399 v1403
  let c0_i32_1089 : BitVec 32 := 0#32
  let v1405 : BitVec 1 := Scalar.cmpi .sgt v43 c0_i32_1089
  let v62 : BitVec 32 := Scalar.addi v61 v40
  let c15_i32_1090 : BitVec 32 := 15#32
  let v1406 : BitVec 1 := Scalar.cmpi .eq v62 c15_i32_1090
  let v1407 : BitVec 1 := Scalar.andi v1405 v1406
  let c13_i32_1091 : BitVec 32 := 13#32
  let c0_i32_1092 : BitVec 32 := 0#32
  let v1408 : BitVec 32 := Scalar.select v1407 c13_i32_1091 c0_i32_1092
  let v1409 : BitVec 32 := Scalar.addi v1404 v1408
  let c0_i32_1093 : BitVec 32 := 0#32
  let v1410 : BitVec 1 := Scalar.cmpi .sgt v46 c0_i32_1093
  let v63 : BitVec 32 := Scalar.addi v62 v43
  let c15_i32_1094 : BitVec 32 := 15#32
  let v1411 : BitVec 1 := Scalar.cmpi .eq v63 c15_i32_1094
  let v1412 : BitVec 1 := Scalar.andi v1410 v1411
  let c14_i32_1095 : BitVec 32 := 14#32
  let c0_i32_1096 : BitVec 32 := 0#32
  let v1413 : BitVec 32 := Scalar.select v1412 c14_i32_1095 c0_i32_1096
  let v1414 : BitVec 32 := Scalar.addi v1409 v1413
  let c0_i32_1097 : BitVec 32 := 0#32
  let v1415 : BitVec 1 := Scalar.cmpi .sgt v49 c0_i32_1097
  let v64 : BitVec 32 := Scalar.addi v63 v46
  let c15_i32_1098 : BitVec 32 := 15#32
  let v1416 : BitVec 1 := Scalar.cmpi .eq v64 c15_i32_1098
  let v1417 : BitVec 1 := Scalar.andi v1415 v1416
  let c15_i32_1099 : BitVec 32 := 15#32
  let c0_i32_1100 : BitVec 32 := 0#32
  let v1418 : BitVec 32 := Scalar.select v1417 c15_i32_1099 c0_i32_1100
  let v1419 : BitVec 32 := Scalar.addi v1414 v1418
  let c640_i32_2377 : BitVec 32 := 640#32
  let v3176 : BitVec 32 := Scalar.muli v1419 c640_i32_2377
  ![v1.toNat, v3176.toNat]
def k1_cond31 (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : BitVec 1 :=
  let c0_i32_2 : BitVec 32 := 0#32
  let v50 : BitVec 32 := Scalar.addi c0_i32_2 v4
  let v51 : BitVec 32 := Scalar.addi v50 v7
  let v52 : BitVec 32 := Scalar.addi v51 v10
  let v53 : BitVec 32 := Scalar.addi v52 v13
  let v54 : BitVec 32 := Scalar.addi v53 v16
  let v55 : BitVec 32 := Scalar.addi v54 v19
  let v56 : BitVec 32 := Scalar.addi v55 v22
  let v57 : BitVec 32 := Scalar.addi v56 v25
  let v58 : BitVec 32 := Scalar.addi v57 v28
  let v59 : BitVec 32 := Scalar.addi v58 v31
  let v60 : BitVec 32 := Scalar.addi v59 v34
  let v61 : BitVec 32 := Scalar.addi v60 v37
  let v62 : BitVec 32 := Scalar.addi v61 v40
  let v63 : BitVec 32 := Scalar.addi v62 v43
  let v64 : BitVec 32 := Scalar.addi v63 v46
  let v65 : BitVec 32 := Scalar.addi v64 v49
  let c15_i32_1101 : BitVec 32 := 15#32
  let v1420 : BitVec 1 := Scalar.cmpi .sgt v65 c15_i32_1101
  let v1421 : BitVec 32 := Scalar.extui v1420
  let c0_i32_1102 : BitVec 32 := 0#32
  let v1422 : BitVec 1 := Scalar.cmpi .ne v1421 c0_i32_1102
  v1422

def k1_chk1 (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) : Prop :=
  (∀ (k1_h1 : k1_cond1 v4 v7 v10 v13 v16 v19 v22 v25 v28 v31 v34 v37 v40 v43 v46 v49 = 1#1), ∀ a, (k1_off18 i v4 v7 v10 v13 v16 v19 v22 v25 v28 v31 v34 v37 v40 v43 v46 v49) a + S1x640.size a ≤ S4x10240.size a) ∧
  (∀ (k1_h3 : k1_cond3 v4 v7 v10 v13 v16 v19 v22 v25 v28 v31 v34 v37 v40 v43 v46 v49 = 1#1), ∀ a, (k1_off21 i v4 v7 v10 v13 v16 v19 v22 v25 v28 v31 v34 v37 v40 v43 v46 v49) a + S1x640.size a ≤ S4x10240.size a) ∧
  (∀ (k1_h5 : k1_cond5 v4 v7 v10 v13 v16 v19 v22 v25 v28 v31 v34 v37 v40 v43 v46 v49 = 1#1), ∀ a, (k1_off24 i v4 v7 v10 v13 v16 v19 v22 v25 v28 v31 v34 v37 v40 v43 v46 v49) a + S1x640.size a ≤ S4x10240.size a) ∧
  (∀ (k1_h7 : k1_cond7 v4 v7 v10 v13 v16 v19 v22 v25 v28 v31 v34 v37 v40 v43 v46 v49 = 1#1), ∀ a, (k1_off27 i v4 v7 v10 v13 v16 v19 v22 v25 v28 v31 v34 v37 v40 v43 v46 v49) a + S1x640.size a ≤ S4x10240.size a) ∧
  (∀ (k1_h9 : k1_cond9 v4 v7 v10 v13 v16 v19 v22 v25 v28 v31 v34 v37 v40 v43 v46 v49 = 1#1), ∀ a, (k1_off30 i v4 v7 v10 v13 v16 v19 v22 v25 v28 v31 v34 v37 v40 v43 v46 v49) a + S1x640.size a ≤ S4x10240.size a) ∧
  (∀ (k1_h11 : k1_cond11 v4 v7 v10 v13 v16 v19 v22 v25 v28 v31 v34 v37 v40 v43 v46 v49 = 1#1), ∀ a, (k1_off33 i v4 v7 v10 v13 v16 v19 v22 v25 v28 v31 v34 v37 v40 v43 v46 v49) a + S1x640.size a ≤ S4x10240.size a) ∧
  (∀ (k1_h13 : k1_cond13 v4 v7 v10 v13 v16 v19 v22 v25 v28 v31 v34 v37 v40 v43 v46 v49 = 1#1), ∀ a, (k1_off36 i v4 v7 v10 v13 v16 v19 v22 v25 v28 v31 v34 v37 v40 v43 v46 v49) a + S1x640.size a ≤ S4x10240.size a) ∧
  (∀ (k1_h15 : k1_cond15 v4 v7 v10 v13 v16 v19 v22 v25 v28 v31 v34 v37 v40 v43 v46 v49 = 1#1), ∀ a, (k1_off39 i v4 v7 v10 v13 v16 v19 v22 v25 v28 v31 v34 v37 v40 v43 v46 v49) a + S1x640.size a ≤ S4x10240.size a) ∧
  (∀ (k1_h17 : k1_cond17 v4 v7 v10 v13 v16 v19 v22 v25 v28 v31 v34 v37 v40 v43 v46 v49 = 1#1), ∀ a, (k1_off42 i v4 v7 v10 v13 v16 v19 v22 v25 v28 v31 v34 v37 v40 v43 v46 v49) a + S1x640.size a ≤ S4x10240.size a) ∧
  (∀ (k1_h19 : k1_cond19 v4 v7 v10 v13 v16 v19 v22 v25 v28 v31 v34 v37 v40 v43 v46 v49 = 1#1), ∀ a, (k1_off45 i v4 v7 v10 v13 v16 v19 v22 v25 v28 v31 v34 v37 v40 v43 v46 v49) a + S1x640.size a ≤ S4x10240.size a) ∧
  (∀ (k1_h21 : k1_cond21 v4 v7 v10 v13 v16 v19 v22 v25 v28 v31 v34 v37 v40 v43 v46 v49 = 1#1), ∀ a, (k1_off48 i v4 v7 v10 v13 v16 v19 v22 v25 v28 v31 v34 v37 v40 v43 v46 v49) a + S1x640.size a ≤ S4x10240.size a) ∧
  (∀ (k1_h23 : k1_cond23 v4 v7 v10 v13 v16 v19 v22 v25 v28 v31 v34 v37 v40 v43 v46 v49 = 1#1), ∀ a, (k1_off51 i v4 v7 v10 v13 v16 v19 v22 v25 v28 v31 v34 v37 v40 v43 v46 v49) a + S1x640.size a ≤ S4x10240.size a) ∧
  (∀ (k1_h25 : k1_cond25 v4 v7 v10 v13 v16 v19 v22 v25 v28 v31 v34 v37 v40 v43 v46 v49 = 1#1), ∀ a, (k1_off54 i v4 v7 v10 v13 v16 v19 v22 v25 v28 v31 v34 v37 v40 v43 v46 v49) a + S1x640.size a ≤ S4x10240.size a) ∧
  (∀ (k1_h27 : k1_cond27 v4 v7 v10 v13 v16 v19 v22 v25 v28 v31 v34 v37 v40 v43 v46 v49 = 1#1), ∀ a, (k1_off57 i v4 v7 v10 v13 v16 v19 v22 v25 v28 v31 v34 v37 v40 v43 v46 v49) a + S1x640.size a ≤ S4x10240.size a) ∧
  (∀ (k1_h29 : k1_cond29 v4 v7 v10 v13 v16 v19 v22 v25 v28 v31 v34 v37 v40 v43 v46 v49 = 1#1), ∀ a, (k1_off60 i v4 v7 v10 v13 v16 v19 v22 v25 v28 v31 v34 v37 v40 v43 v46 v49) a + S1x640.size a ≤ S4x10240.size a) ∧
  (∀ (k1_h31 : k1_cond31 v4 v7 v10 v13 v16 v19 v22 v25 v28 v31 v34 v37 v40 v43 v46 v49 = 1#1), ∀ a, (k1_off63 i v4 v7 v10 v13 v16 v19 v22 v25 v28 v31 v34 v37 v40 v43 v46 v49) a + S1x640.size a ≤ S4x10240.size a)
theorem k1_off18_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h1 : k1_cond1 v4 v7 v10 v13 v16 v19 v22 v25 v28 v31 v34 v37 v40 v43 v46 v49 = 1#1), ∀ a, (k1_off18 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h1 => k1_hw1.1 k1_h1
theorem k1_off21_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h3 : k1_cond3 v4 v7 v10 v13 v16 v19 v22 v25 v28 v31 v34 v37 v40 v43 v46 v49 = 1#1), ∀ a, (k1_off21 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h3 => k1_hw1.2.1 k1_h3
theorem k1_off24_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h5 : k1_cond5 v4 v7 v10 v13 v16 v19 v22 v25 v28 v31 v34 v37 v40 v43 v46 v49 = 1#1), ∀ a, (k1_off24 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h5 => k1_hw1.2.2.1 k1_h5
theorem k1_off27_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h7 : k1_cond7 v4 v7 v10 v13 v16 v19 v22 v25 v28 v31 v34 v37 v40 v43 v46 v49 = 1#1), ∀ a, (k1_off27 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h7 => k1_hw1.2.2.2.1 k1_h7
theorem k1_off30_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h9 : k1_cond9 v4 v7 v10 v13 v16 v19 v22 v25 v28 v31 v34 v37 v40 v43 v46 v49 = 1#1), ∀ a, (k1_off30 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h9 => k1_hw1.2.2.2.2.1 k1_h9
theorem k1_off33_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h11 : k1_cond11 v4 v7 v10 v13 v16 v19 v22 v25 v28 v31 v34 v37 v40 v43 v46 v49 = 1#1), ∀ a, (k1_off33 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h11 => k1_hw1.2.2.2.2.2.1 k1_h11
theorem k1_off36_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h13 : k1_cond13 v4 v7 v10 v13 v16 v19 v22 v25 v28 v31 v34 v37 v40 v43 v46 v49 = 1#1), ∀ a, (k1_off36 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h13 => k1_hw1.2.2.2.2.2.2.1 k1_h13
theorem k1_off39_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h15 : k1_cond15 v4 v7 v10 v13 v16 v19 v22 v25 v28 v31 v34 v37 v40 v43 v46 v49 = 1#1), ∀ a, (k1_off39 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h15 => k1_hw1.2.2.2.2.2.2.2.1 k1_h15
theorem k1_off42_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h17 : k1_cond17 v4 v7 v10 v13 v16 v19 v22 v25 v28 v31 v34 v37 v40 v43 v46 v49 = 1#1), ∀ a, (k1_off42 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h17 => k1_hw1.2.2.2.2.2.2.2.2.1 k1_h17
theorem k1_off45_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h19 : k1_cond19 v4 v7 v10 v13 v16 v19 v22 v25 v28 v31 v34 v37 v40 v43 v46 v49 = 1#1), ∀ a, (k1_off45 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h19 => k1_hw1.2.2.2.2.2.2.2.2.2.1 k1_h19
theorem k1_off48_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h21 : k1_cond21 v4 v7 v10 v13 v16 v19 v22 v25 v28 v31 v34 v37 v40 v43 v46 v49 = 1#1), ∀ a, (k1_off48 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h21 => k1_hw1.2.2.2.2.2.2.2.2.2.2.1 k1_h21
theorem k1_off51_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h23 : k1_cond23 v4 v7 v10 v13 v16 v19 v22 v25 v28 v31 v34 v37 v40 v43 v46 v49 = 1#1), ∀ a, (k1_off51 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h23 => k1_hw1.2.2.2.2.2.2.2.2.2.2.2.1 k1_h23
theorem k1_off54_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h25 : k1_cond25 v4 v7 v10 v13 v16 v19 v22 v25 v28 v31 v34 v37 v40 v43 v46 v49 = 1#1), ∀ a, (k1_off54 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h25 => k1_hw1.2.2.2.2.2.2.2.2.2.2.2.2.1 k1_h25
theorem k1_off57_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h27 : k1_cond27 v4 v7 v10 v13 v16 v19 v22 v25 v28 v31 v34 v37 v40 v43 v46 v49 = 1#1), ∀ a, (k1_off57 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h27 => k1_hw1.2.2.2.2.2.2.2.2.2.2.2.2.2.1 k1_h27
theorem k1_off60_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h29 : k1_cond29 v4 v7 v10 v13 v16 v19 v22 v25 v28 v31 v34 v37 v40 v43 v46 v49 = 1#1), ∀ a, (k1_off60 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h29 => k1_hw1.2.2.2.2.2.2.2.2.2.2.2.2.2.2.1 k1_h29
theorem k1_off63_inb : ∀ (i : grid1.Coords) (v4 : BitVec 32) (v7 : BitVec 32) (v10 : BitVec 32) (v13 : BitVec 32) (v16 : BitVec 32) (v19 : BitVec 32) (v22 : BitVec 32) (v25 : BitVec 32) (v28 : BitVec 32) (v31 : BitVec 32) (v34 : BitVec 32) (v37 : BitVec 32) (v40 : BitVec 32) (v43 : BitVec 32) (v46 : BitVec 32) (v49 : BitVec 32) (k1_hw1 : k1_chk1 i v4 v7 v10 v13 v16 v19 v22 v25 v28 v31 v34 v37 v40 v43 v46 v49), ∀ (k1_h31 : k1_cond31 v4 v7 v10 v13 v16 v19 v22 v25 v28 v31 v34 v37 v40 v43 v46 v49 = 1#1), ∀ a, (k1_off63 i v4 v7 v10 v13 v16 v19 v22 v25 v28 v31 v34 v37 v40 v43 v46 v49) a + S1x640.size a ≤ S4x10240.size a := fun i v4 v7 v10 v13 v16 v19 v22 v25 v28 v31 v34 v37 v40 v43 v46 v49 k1_hw1 k1_h31 => k1_hw1.2.2.2.2.2.2.2.2.2.2.2.2.2.2.2 k1_h31

def k1_off64 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c9600_i32_2377 : BitVec 32 := 9600#32
  ![v1.toNat, 9600]
def k1_off65 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c10240_i32_2377 : BitVec 32 := 10240#32
  ![v1.toNat, 10240]
def k1_off66 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off67 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c10240_i32_2377 : BitVec 32 := 10240#32
  ![v1.toNat, 10240]
def k1_off68 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c10880_i32_2377 : BitVec 32 := 10880#32
  ![v1.toNat, 10880]
def k1_off69 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off70 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c10880_i32_2377 : BitVec 32 := 10880#32
  ![v1.toNat, 10880]
def k1_off71 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c11520_i32_2377 : BitVec 32 := 11520#32
  ![v1.toNat, 11520]
def k1_off72 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off73 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c11520_i32_2377 : BitVec 32 := 11520#32
  ![v1.toNat, 11520]
def k1_off74 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c12160_i32_2377 : BitVec 32 := 12160#32
  ![v1.toNat, 12160]
def k1_off75 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off76 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c12160_i32_2377 : BitVec 32 := 12160#32
  ![v1.toNat, 12160]
def k1_off77 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c12800_i32_2377 : BitVec 32 := 12800#32
  ![v1.toNat, 12800]
def k1_off78 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off79 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c12800_i32_2377 : BitVec 32 := 12800#32
  ![v1.toNat, 12800]
def k1_off80 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c13440_i32_2377 : BitVec 32 := 13440#32
  ![v1.toNat, 13440]
def k1_off81 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off82 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c13440_i32_2377 : BitVec 32 := 13440#32
  ![v1.toNat, 13440]
def k1_off83 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c14080_i32_2377 : BitVec 32 := 14080#32
  ![v1.toNat, 14080]
def k1_off84 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off85 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c14080_i32_2377 : BitVec 32 := 14080#32
  ![v1.toNat, 14080]
def k1_off86 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c14720_i32_2377 : BitVec 32 := 14720#32
  ![v1.toNat, 14720]
def k1_off87 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off88 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c14720_i32_2377 : BitVec 32 := 14720#32
  ![v1.toNat, 14720]
def k1_off89 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c15360_i32_2377 : BitVec 32 := 15360#32
  ![v1.toNat, 15360]
def k1_off90 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off91 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c15360_i32_2377 : BitVec 32 := 15360#32
  ![v1.toNat, 15360]
def k1_off92 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c16000_i32_2377 : BitVec 32 := 16000#32
  ![v1.toNat, 16000]
def k1_off93 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off94 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c16000_i32_2377 : BitVec 32 := 16000#32
  ![v1.toNat, 16000]
def k1_off95 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c16640_i32_2377 : BitVec 32 := 16640#32
  ![v1.toNat, 16640]
def k1_off96 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off97 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c16640_i32_2377 : BitVec 32 := 16640#32
  ![v1.toNat, 16640]
def k1_off98 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17280_i32_2377 : BitVec 32 := 17280#32
  ![v1.toNat, 17280]
def k1_off99 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off100 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17280_i32_2377 : BitVec 32 := 17280#32
  ![v1.toNat, 17280]
def k1_off101 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17920_i32_2377 : BitVec 32 := 17920#32
  ![v1.toNat, 17920]
def k1_off102 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off103 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c17920_i32_2377 : BitVec 32 := 17920#32
  ![v1.toNat, 17920]
def k1_off104 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c18560_i32_2377 : BitVec 32 := 18560#32
  ![v1.toNat, 18560]
def k1_off105 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off106 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c18560_i32_2377 : BitVec 32 := 18560#32
  ![v1.toNat, 18560]
def k1_off107 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c19200_i32_2377 : BitVec 32 := 19200#32
  ![v1.toNat, 19200]
def k1_off108 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off109 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c19200_i32_2377 : BitVec 32 := 19200#32
  ![v1.toNat, 19200]
def k1_off110 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c19840_i32_2377 : BitVec 32 := 19840#32
  ![v1.toNat, 19840]
def k1_off111 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_2378 : BitVec 32 := 0#32
  ![v1.toNat, 0]
def k1_off112 (i : grid1.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c19840_i32_2377 : BitVec 32 := 19840#32
  ![v1.toNat, 19840]
def k1_off113 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1524 : Index := Scalar.indexCast v1523
  let c0_i32_1155 : BitVec 32 := 0#32
  let v1525 : Index := Scalar.indexCast c0_i32_1155
  ![v1524.toNat, 0]
def k1_off114 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1527 : Index := Scalar.indexCast v1523
  let c1_i32_1156 : BitVec 32 := 1#32
  let v1528 : Index := Scalar.indexCast c1_i32_1156
  ![v1527.toNat, 1]
def k1_off115 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1530 : Index := Scalar.indexCast v1523
  let c2_i32_1157 : BitVec 32 := 2#32
  let v1531 : Index := Scalar.indexCast c2_i32_1157
  ![v1530.toNat, 2]
def k1_off116 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1533 : Index := Scalar.indexCast v1523
  let c3_i32_1158 : BitVec 32 := 3#32
  let v1534 : Index := Scalar.indexCast c3_i32_1158
  ![v1533.toNat, 3]
def k1_off117 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1536 : Index := Scalar.indexCast v1523
  let c4_i32_1159 : BitVec 32 := 4#32
  let v1537 : Index := Scalar.indexCast c4_i32_1159
  ![v1536.toNat, 4]
def k1_off118 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1539 : Index := Scalar.indexCast v1523
  let c5_i32_1160 : BitVec 32 := 5#32
  let v1540 : Index := Scalar.indexCast c5_i32_1160
  ![v1539.toNat, 5]
def k1_off119 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1542 : Index := Scalar.indexCast v1523
  let c6_i32_1161 : BitVec 32 := 6#32
  let v1543 : Index := Scalar.indexCast c6_i32_1161
  ![v1542.toNat, 6]
def k1_off120 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1545 : Index := Scalar.indexCast v1523
  let c7_i32_1162 : BitVec 32 := 7#32
  let v1546 : Index := Scalar.indexCast c7_i32_1162
  ![v1545.toNat, 7]
def k1_off121 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1548 : Index := Scalar.indexCast v1523
  let c8_i32_1163 : BitVec 32 := 8#32
  let v1549 : Index := Scalar.indexCast c8_i32_1163
  ![v1548.toNat, 8]
def k1_off122 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1551 : Index := Scalar.indexCast v1523
  let c9_i32_1164 : BitVec 32 := 9#32
  let v1552 : Index := Scalar.indexCast c9_i32_1164
  ![v1551.toNat, 9]
def k1_off123 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1554 : Index := Scalar.indexCast v1523
  let c10_i32_1165 : BitVec 32 := 10#32
  let v1555 : Index := Scalar.indexCast c10_i32_1165
  ![v1554.toNat, 10]
def k1_off124 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1557 : Index := Scalar.indexCast v1523
  let c11_i32_1166 : BitVec 32 := 11#32
  let v1558 : Index := Scalar.indexCast c11_i32_1166
  ![v1557.toNat, 11]
def k1_off125 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1560 : Index := Scalar.indexCast v1523
  let c12_i32_1167 : BitVec 32 := 12#32
  let v1561 : Index := Scalar.indexCast c12_i32_1167
  ![v1560.toNat, 12]
def k1_off126 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1563 : Index := Scalar.indexCast v1523
  let c13_i32_1168 : BitVec 32 := 13#32
  let v1564 : Index := Scalar.indexCast c13_i32_1168
  ![v1563.toNat, 13]
def k1_off127 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1566 : Index := Scalar.indexCast v1523
  let c14_i32_1169 : BitVec 32 := 14#32
  let v1567 : Index := Scalar.indexCast c14_i32_1169
  ![v1566.toNat, 14]
def k1_off128 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let v1569 : Index := Scalar.indexCast v1523
  let c15_i32_1170 : BitVec 32 := 15#32
  let v1570 : Index := Scalar.indexCast c15_i32_1170
  ![v1569.toNat, 15]
def k1_off129 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off130 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1176 : BitVec 32 := 0#32
  let c0_i32_1172 : BitVec 32 := 0#32
  let v1588 : BitVec 1 := Scalar.cmpi .sgt v1526 c0_i32_1172
  let true_1173 : BitVec 1 := 1#1
  let v1589 : BitVec 1 := Scalar.andi v1588 true_1173
  let c0_i32_1174 : BitVec 32 := 0#32
  let c0_i32_1175 : BitVec 32 := 0#32
  let v1590 : BitVec 32 := Scalar.select v1589 c0_i32_1174 c0_i32_1175
  let v1591 : BitVec 32 := Scalar.addi c0_i32_1176 v1590
  let c0_i32_1177 : BitVec 32 := 0#32
  let v1592 : BitVec 1 := Scalar.cmpi .sgt v1529 c0_i32_1177
  let c0_i32_1171 : BitVec 32 := 0#32
  let v1572 : BitVec 32 := Scalar.addi c0_i32_1171 v1526
  let c0_i32_1178 : BitVec 32 := 0#32
  let v1593 : BitVec 1 := Scalar.cmpi .eq v1572 c0_i32_1178
  let v1594 : BitVec 1 := Scalar.andi v1592 v1593
  let c1_i32_1179 : BitVec 32 := 1#32
  let c0_i32_1180 : BitVec 32 := 0#32
  let v1595 : BitVec 32 := Scalar.select v1594 c1_i32_1179 c0_i32_1180
  let v1596 : BitVec 32 := Scalar.addi v1591 v1595
  let c0_i32_1181 : BitVec 32 := 0#32
  let v1597 : BitVec 1 := Scalar.cmpi .sgt v1532 c0_i32_1181
  let v1573 : BitVec 32 := Scalar.addi v1572 v1529
  let c0_i32_1182 : BitVec 32 := 0#32
  let v1598 : BitVec 1 := Scalar.cmpi .eq v1573 c0_i32_1182
  let v1599 : BitVec 1 := Scalar.andi v1597 v1598
  let c2_i32_1183 : BitVec 32 := 2#32
  let c0_i32_1184 : BitVec 32 := 0#32
  let v1600 : BitVec 32 := Scalar.select v1599 c2_i32_1183 c0_i32_1184
  let v1601 : BitVec 32 := Scalar.addi v1596 v1600
  let c0_i32_1185 : BitVec 32 := 0#32
  let v1602 : BitVec 1 := Scalar.cmpi .sgt v1535 c0_i32_1185
  let v1574 : BitVec 32 := Scalar.addi v1573 v1532
  let c0_i32_1186 : BitVec 32 := 0#32
  let v1603 : BitVec 1 := Scalar.cmpi .eq v1574 c0_i32_1186
  let v1604 : BitVec 1 := Scalar.andi v1602 v1603
  let c3_i32_1187 : BitVec 32 := 3#32
  let c0_i32_1188 : BitVec 32 := 0#32
  let v1605 : BitVec 32 := Scalar.select v1604 c3_i32_1187 c0_i32_1188
  let v1606 : BitVec 32 := Scalar.addi v1601 v1605
  let c0_i32_1189 : BitVec 32 := 0#32
  let v1607 : BitVec 1 := Scalar.cmpi .sgt v1538 c0_i32_1189
  let v1575 : BitVec 32 := Scalar.addi v1574 v1535
  let c0_i32_1190 : BitVec 32 := 0#32
  let v1608 : BitVec 1 := Scalar.cmpi .eq v1575 c0_i32_1190
  let v1609 : BitVec 1 := Scalar.andi v1607 v1608
  let c4_i32_1191 : BitVec 32 := 4#32
  let c0_i32_1192 : BitVec 32 := 0#32
  let v1610 : BitVec 32 := Scalar.select v1609 c4_i32_1191 c0_i32_1192
  let v1611 : BitVec 32 := Scalar.addi v1606 v1610
  let c0_i32_1193 : BitVec 32 := 0#32
  let v1612 : BitVec 1 := Scalar.cmpi .sgt v1541 c0_i32_1193
  let v1576 : BitVec 32 := Scalar.addi v1575 v1538
  let c0_i32_1194 : BitVec 32 := 0#32
  let v1613 : BitVec 1 := Scalar.cmpi .eq v1576 c0_i32_1194
  let v1614 : BitVec 1 := Scalar.andi v1612 v1613
  let c5_i32_1195 : BitVec 32 := 5#32
  let c0_i32_1196 : BitVec 32 := 0#32
  let v1615 : BitVec 32 := Scalar.select v1614 c5_i32_1195 c0_i32_1196
  let v1616 : BitVec 32 := Scalar.addi v1611 v1615
  let c0_i32_1197 : BitVec 32 := 0#32
  let v1617 : BitVec 1 := Scalar.cmpi .sgt v1544 c0_i32_1197
  let v1577 : BitVec 32 := Scalar.addi v1576 v1541
  let c0_i32_1198 : BitVec 32 := 0#32
  let v1618 : BitVec 1 := Scalar.cmpi .eq v1577 c0_i32_1198
  let v1619 : BitVec 1 := Scalar.andi v1617 v1618
  let c6_i32_1199 : BitVec 32 := 6#32
  let c0_i32_1200 : BitVec 32 := 0#32
  let v1620 : BitVec 32 := Scalar.select v1619 c6_i32_1199 c0_i32_1200
  let v1621 : BitVec 32 := Scalar.addi v1616 v1620
  let c0_i32_1201 : BitVec 32 := 0#32
  let v1622 : BitVec 1 := Scalar.cmpi .sgt v1547 c0_i32_1201
  let v1578 : BitVec 32 := Scalar.addi v1577 v1544
  let c0_i32_1202 : BitVec 32 := 0#32
  let v1623 : BitVec 1 := Scalar.cmpi .eq v1578 c0_i32_1202
  let v1624 : BitVec 1 := Scalar.andi v1622 v1623
  let c7_i32_1203 : BitVec 32 := 7#32
  let c0_i32_1204 : BitVec 32 := 0#32
  let v1625 : BitVec 32 := Scalar.select v1624 c7_i32_1203 c0_i32_1204
  let v1626 : BitVec 32 := Scalar.addi v1621 v1625
  let c0_i32_1205 : BitVec 32 := 0#32
  let v1627 : BitVec 1 := Scalar.cmpi .sgt v1550 c0_i32_1205
  let v1579 : BitVec 32 := Scalar.addi v1578 v1547
  let c0_i32_1206 : BitVec 32 := 0#32
  let v1628 : BitVec 1 := Scalar.cmpi .eq v1579 c0_i32_1206
  let v1629 : BitVec 1 := Scalar.andi v1627 v1628
  let c8_i32_1207 : BitVec 32 := 8#32
  let c0_i32_1208 : BitVec 32 := 0#32
  let v1630 : BitVec 32 := Scalar.select v1629 c8_i32_1207 c0_i32_1208
  let v1631 : BitVec 32 := Scalar.addi v1626 v1630
  let c0_i32_1209 : BitVec 32 := 0#32
  let v1632 : BitVec 1 := Scalar.cmpi .sgt v1553 c0_i32_1209
  let v1580 : BitVec 32 := Scalar.addi v1579 v1550
  let c0_i32_1210 : BitVec 32 := 0#32
  let v1633 : BitVec 1 := Scalar.cmpi .eq v1580 c0_i32_1210
  let v1634 : BitVec 1 := Scalar.andi v1632 v1633
  let c9_i32_1211 : BitVec 32 := 9#32
  let c0_i32_1212 : BitVec 32 := 0#32
  let v1635 : BitVec 32 := Scalar.select v1634 c9_i32_1211 c0_i32_1212
  let v1636 : BitVec 32 := Scalar.addi v1631 v1635
  let c0_i32_1213 : BitVec 32 := 0#32
  let v1637 : BitVec 1 := Scalar.cmpi .sgt v1556 c0_i32_1213
  let v1581 : BitVec 32 := Scalar.addi v1580 v1553
  let c0_i32_1214 : BitVec 32 := 0#32
  let v1638 : BitVec 1 := Scalar.cmpi .eq v1581 c0_i32_1214
  let v1639 : BitVec 1 := Scalar.andi v1637 v1638
  let c10_i32_1215 : BitVec 32 := 10#32
  let c0_i32_1216 : BitVec 32 := 0#32
  let v1640 : BitVec 32 := Scalar.select v1639 c10_i32_1215 c0_i32_1216
  let v1641 : BitVec 32 := Scalar.addi v1636 v1640
  let c0_i32_1217 : BitVec 32 := 0#32
  let v1642 : BitVec 1 := Scalar.cmpi .sgt v1559 c0_i32_1217
  let v1582 : BitVec 32 := Scalar.addi v1581 v1556
  let c0_i32_1218 : BitVec 32 := 0#32
  let v1643 : BitVec 1 := Scalar.cmpi .eq v1582 c0_i32_1218
  let v1644 : BitVec 1 := Scalar.andi v1642 v1643
  let c11_i32_1219 : BitVec 32 := 11#32
  let c0_i32_1220 : BitVec 32 := 0#32
  let v1645 : BitVec 32 := Scalar.select v1644 c11_i32_1219 c0_i32_1220
  let v1646 : BitVec 32 := Scalar.addi v1641 v1645
  let c0_i32_1221 : BitVec 32 := 0#32
  let v1647 : BitVec 1 := Scalar.cmpi .sgt v1562 c0_i32_1221
  let v1583 : BitVec 32 := Scalar.addi v1582 v1559
  let c0_i32_1222 : BitVec 32 := 0#32
  let v1648 : BitVec 1 := Scalar.cmpi .eq v1583 c0_i32_1222
  let v1649 : BitVec 1 := Scalar.andi v1647 v1648
  let c12_i32_1223 : BitVec 32 := 12#32
  let c0_i32_1224 : BitVec 32 := 0#32
  let v1650 : BitVec 32 := Scalar.select v1649 c12_i32_1223 c0_i32_1224
  let v1651 : BitVec 32 := Scalar.addi v1646 v1650
  let c0_i32_1225 : BitVec 32 := 0#32
  let v1652 : BitVec 1 := Scalar.cmpi .sgt v1565 c0_i32_1225
  let v1584 : BitVec 32 := Scalar.addi v1583 v1562
  let c0_i32_1226 : BitVec 32 := 0#32
  let v1653 : BitVec 1 := Scalar.cmpi .eq v1584 c0_i32_1226
  let v1654 : BitVec 1 := Scalar.andi v1652 v1653
  let c13_i32_1227 : BitVec 32 := 13#32
  let c0_i32_1228 : BitVec 32 := 0#32
  let v1655 : BitVec 32 := Scalar.select v1654 c13_i32_1227 c0_i32_1228
  let v1656 : BitVec 32 := Scalar.addi v1651 v1655
  let c0_i32_1229 : BitVec 32 := 0#32
  let v1657 : BitVec 1 := Scalar.cmpi .sgt v1568 c0_i32_1229
  let v1585 : BitVec 32 := Scalar.addi v1584 v1565
  let c0_i32_1230 : BitVec 32 := 0#32
  let v1658 : BitVec 1 := Scalar.cmpi .eq v1585 c0_i32_1230
  let v1659 : BitVec 1 := Scalar.andi v1657 v1658
  let c14_i32_1231 : BitVec 32 := 14#32
  let c0_i32_1232 : BitVec 32 := 0#32
  let v1660 : BitVec 32 := Scalar.select v1659 c14_i32_1231 c0_i32_1232
  let v1661 : BitVec 32 := Scalar.addi v1656 v1660
  let c0_i32_1233 : BitVec 32 := 0#32
  let v1662 : BitVec 1 := Scalar.cmpi .sgt v1571 c0_i32_1233
  let v1586 : BitVec 32 := Scalar.addi v1585 v1568
  let c0_i32_1234 : BitVec 32 := 0#32
  let v1663 : BitVec 1 := Scalar.cmpi .eq v1586 c0_i32_1234
  let v1664 : BitVec 1 := Scalar.andi v1662 v1663
  let c15_i32_1235 : BitVec 32 := 15#32
  let c0_i32_1236 : BitVec 32 := 0#32
  let v1665 : BitVec 32 := Scalar.select v1664 c15_i32_1235 c0_i32_1236
  let v1666 : BitVec 32 := Scalar.addi v1661 v1665
  let c640_i32_2377 : BitVec 32 := 640#32
  let v3176 : BitVec 32 := Scalar.muli v1666 c640_i32_2377
  ![v1523.toNat, v3176.toNat]
def k1_cond65 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c0_i32_1237 : BitVec 32 := 0#32
  let v1667 : BitVec 1 := Scalar.cmpi .sgt v1587 c0_i32_1237
  let v1668 : BitVec 32 := Scalar.extui v1667
  let c0_i32_1238 : BitVec 32 := 0#32
  let v1669 : BitVec 1 := Scalar.cmpi .ne v1668 c0_i32_1238
  v1669

def k1_off131 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2377 : BitVec 32 := 0#32
  ![v1523.toNat, 0]
def k1_off132 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c640_i32_2378 : BitVec 32 := 640#32
  ![v1523.toNat, 640]
def k1_off133 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1245 : BitVec 32 := 0#32
  let c0_i32_1241 : BitVec 32 := 0#32
  let v1673 : BitVec 1 := Scalar.cmpi .sgt v1526 c0_i32_1241
  let false_1242 : BitVec 1 := 0#1
  let v1674 : BitVec 1 := Scalar.andi v1673 false_1242
  let c0_i32_1243 : BitVec 32 := 0#32
  let c0_i32_1244 : BitVec 32 := 0#32
  let v1675 : BitVec 32 := Scalar.select v1674 c0_i32_1243 c0_i32_1244
  let v1676 : BitVec 32 := Scalar.addi c0_i32_1245 v1675
  let c0_i32_1246 : BitVec 32 := 0#32
  let v1677 : BitVec 1 := Scalar.cmpi .sgt v1529 c0_i32_1246
  let c0_i32_1171 : BitVec 32 := 0#32
  let v1572 : BitVec 32 := Scalar.addi c0_i32_1171 v1526
  let c1_i32_1247 : BitVec 32 := 1#32
  let v1678 : BitVec 1 := Scalar.cmpi .eq v1572 c1_i32_1247
  let v1679 : BitVec 1 := Scalar.andi v1677 v1678
  let c1_i32_1248 : BitVec 32 := 1#32
  let c0_i32_1249 : BitVec 32 := 0#32
  let v1680 : BitVec 32 := Scalar.select v1679 c1_i32_1248 c0_i32_1249
  let v1681 : BitVec 32 := Scalar.addi v1676 v1680
  let c0_i32_1250 : BitVec 32 := 0#32
  let v1682 : BitVec 1 := Scalar.cmpi .sgt v1532 c0_i32_1250
  let v1573 : BitVec 32 := Scalar.addi v1572 v1529
  let c1_i32_1251 : BitVec 32 := 1#32
  let v1683 : BitVec 1 := Scalar.cmpi .eq v1573 c1_i32_1251
  let v1684 : BitVec 1 := Scalar.andi v1682 v1683
  let c2_i32_1252 : BitVec 32 := 2#32
  let c0_i32_1253 : BitVec 32 := 0#32
  let v1685 : BitVec 32 := Scalar.select v1684 c2_i32_1252 c0_i32_1253
  let v1686 : BitVec 32 := Scalar.addi v1681 v1685
  let c0_i32_1254 : BitVec 32 := 0#32
  let v1687 : BitVec 1 := Scalar.cmpi .sgt v1535 c0_i32_1254
  let v1574 : BitVec 32 := Scalar.addi v1573 v1532
  let c1_i32_1255 : BitVec 32 := 1#32
  let v1688 : BitVec 1 := Scalar.cmpi .eq v1574 c1_i32_1255
  let v1689 : BitVec 1 := Scalar.andi v1687 v1688
  let c3_i32_1256 : BitVec 32 := 3#32
  let c0_i32_1257 : BitVec 32 := 0#32
  let v1690 : BitVec 32 := Scalar.select v1689 c3_i32_1256 c0_i32_1257
  let v1691 : BitVec 32 := Scalar.addi v1686 v1690
  let c0_i32_1258 : BitVec 32 := 0#32
  let v1692 : BitVec 1 := Scalar.cmpi .sgt v1538 c0_i32_1258
  let v1575 : BitVec 32 := Scalar.addi v1574 v1535
  let c1_i32_1259 : BitVec 32 := 1#32
  let v1693 : BitVec 1 := Scalar.cmpi .eq v1575 c1_i32_1259
  let v1694 : BitVec 1 := Scalar.andi v1692 v1693
  let c4_i32_1260 : BitVec 32 := 4#32
  let c0_i32_1261 : BitVec 32 := 0#32
  let v1695 : BitVec 32 := Scalar.select v1694 c4_i32_1260 c0_i32_1261
  let v1696 : BitVec 32 := Scalar.addi v1691 v1695
  let c0_i32_1262 : BitVec 32 := 0#32
  let v1697 : BitVec 1 := Scalar.cmpi .sgt v1541 c0_i32_1262
  let v1576 : BitVec 32 := Scalar.addi v1575 v1538
  let c1_i32_1263 : BitVec 32 := 1#32
  let v1698 : BitVec 1 := Scalar.cmpi .eq v1576 c1_i32_1263
  let v1699 : BitVec 1 := Scalar.andi v1697 v1698
  let c5_i32_1264 : BitVec 32 := 5#32
  let c0_i32_1265 : BitVec 32 := 0#32
  let v1700 : BitVec 32 := Scalar.select v1699 c5_i32_1264 c0_i32_1265
  let v1701 : BitVec 32 := Scalar.addi v1696 v1700
  let c0_i32_1266 : BitVec 32 := 0#32
  let v1702 : BitVec 1 := Scalar.cmpi .sgt v1544 c0_i32_1266
  let v1577 : BitVec 32 := Scalar.addi v1576 v1541
  let c1_i32_1267 : BitVec 32 := 1#32
  let v1703 : BitVec 1 := Scalar.cmpi .eq v1577 c1_i32_1267
  let v1704 : BitVec 1 := Scalar.andi v1702 v1703
  let c6_i32_1268 : BitVec 32 := 6#32
  let c0_i32_1269 : BitVec 32 := 0#32
  let v1705 : BitVec 32 := Scalar.select v1704 c6_i32_1268 c0_i32_1269
  let v1706 : BitVec 32 := Scalar.addi v1701 v1705
  let c0_i32_1270 : BitVec 32 := 0#32
  let v1707 : BitVec 1 := Scalar.cmpi .sgt v1547 c0_i32_1270
  let v1578 : BitVec 32 := Scalar.addi v1577 v1544
  let c1_i32_1271 : BitVec 32 := 1#32
  let v1708 : BitVec 1 := Scalar.cmpi .eq v1578 c1_i32_1271
  let v1709 : BitVec 1 := Scalar.andi v1707 v1708
  let c7_i32_1272 : BitVec 32 := 7#32
  let c0_i32_1273 : BitVec 32 := 0#32
  let v1710 : BitVec 32 := Scalar.select v1709 c7_i32_1272 c0_i32_1273
  let v1711 : BitVec 32 := Scalar.addi v1706 v1710
  let c0_i32_1274 : BitVec 32 := 0#32
  let v1712 : BitVec 1 := Scalar.cmpi .sgt v1550 c0_i32_1274
  let v1579 : BitVec 32 := Scalar.addi v1578 v1547
  let c1_i32_1275 : BitVec 32 := 1#32
  let v1713 : BitVec 1 := Scalar.cmpi .eq v1579 c1_i32_1275
  let v1714 : BitVec 1 := Scalar.andi v1712 v1713
  let c8_i32_1276 : BitVec 32 := 8#32
  let c0_i32_1277 : BitVec 32 := 0#32
  let v1715 : BitVec 32 := Scalar.select v1714 c8_i32_1276 c0_i32_1277
  let v1716 : BitVec 32 := Scalar.addi v1711 v1715
  let c0_i32_1278 : BitVec 32 := 0#32
  let v1717 : BitVec 1 := Scalar.cmpi .sgt v1553 c0_i32_1278
  let v1580 : BitVec 32 := Scalar.addi v1579 v1550
  let c1_i32_1279 : BitVec 32 := 1#32
  let v1718 : BitVec 1 := Scalar.cmpi .eq v1580 c1_i32_1279
  let v1719 : BitVec 1 := Scalar.andi v1717 v1718
  let c9_i32_1280 : BitVec 32 := 9#32
  let c0_i32_1281 : BitVec 32 := 0#32
  let v1720 : BitVec 32 := Scalar.select v1719 c9_i32_1280 c0_i32_1281
  let v1721 : BitVec 32 := Scalar.addi v1716 v1720
  let c0_i32_1282 : BitVec 32 := 0#32
  let v1722 : BitVec 1 := Scalar.cmpi .sgt v1556 c0_i32_1282
  let v1581 : BitVec 32 := Scalar.addi v1580 v1553
  let c1_i32_1283 : BitVec 32 := 1#32
  let v1723 : BitVec 1 := Scalar.cmpi .eq v1581 c1_i32_1283
  let v1724 : BitVec 1 := Scalar.andi v1722 v1723
  let c10_i32_1284 : BitVec 32 := 10#32
  let c0_i32_1285 : BitVec 32 := 0#32
  let v1725 : BitVec 32 := Scalar.select v1724 c10_i32_1284 c0_i32_1285
  let v1726 : BitVec 32 := Scalar.addi v1721 v1725
  let c0_i32_1286 : BitVec 32 := 0#32
  let v1727 : BitVec 1 := Scalar.cmpi .sgt v1559 c0_i32_1286
  let v1582 : BitVec 32 := Scalar.addi v1581 v1556
  let c1_i32_1287 : BitVec 32 := 1#32
  let v1728 : BitVec 1 := Scalar.cmpi .eq v1582 c1_i32_1287
  let v1729 : BitVec 1 := Scalar.andi v1727 v1728
  let c11_i32_1288 : BitVec 32 := 11#32
  let c0_i32_1289 : BitVec 32 := 0#32
  let v1730 : BitVec 32 := Scalar.select v1729 c11_i32_1288 c0_i32_1289
  let v1731 : BitVec 32 := Scalar.addi v1726 v1730
  let c0_i32_1290 : BitVec 32 := 0#32
  let v1732 : BitVec 1 := Scalar.cmpi .sgt v1562 c0_i32_1290
  let v1583 : BitVec 32 := Scalar.addi v1582 v1559
  let c1_i32_1291 : BitVec 32 := 1#32
  let v1733 : BitVec 1 := Scalar.cmpi .eq v1583 c1_i32_1291
  let v1734 : BitVec 1 := Scalar.andi v1732 v1733
  let c12_i32_1292 : BitVec 32 := 12#32
  let c0_i32_1293 : BitVec 32 := 0#32
  let v1735 : BitVec 32 := Scalar.select v1734 c12_i32_1292 c0_i32_1293
  let v1736 : BitVec 32 := Scalar.addi v1731 v1735
  let c0_i32_1294 : BitVec 32 := 0#32
  let v1737 : BitVec 1 := Scalar.cmpi .sgt v1565 c0_i32_1294
  let v1584 : BitVec 32 := Scalar.addi v1583 v1562
  let c1_i32_1295 : BitVec 32 := 1#32
  let v1738 : BitVec 1 := Scalar.cmpi .eq v1584 c1_i32_1295
  let v1739 : BitVec 1 := Scalar.andi v1737 v1738
  let c13_i32_1296 : BitVec 32 := 13#32
  let c0_i32_1297 : BitVec 32 := 0#32
  let v1740 : BitVec 32 := Scalar.select v1739 c13_i32_1296 c0_i32_1297
  let v1741 : BitVec 32 := Scalar.addi v1736 v1740
  let c0_i32_1298 : BitVec 32 := 0#32
  let v1742 : BitVec 1 := Scalar.cmpi .sgt v1568 c0_i32_1298
  let v1585 : BitVec 32 := Scalar.addi v1584 v1565
  let c1_i32_1299 : BitVec 32 := 1#32
  let v1743 : BitVec 1 := Scalar.cmpi .eq v1585 c1_i32_1299
  let v1744 : BitVec 1 := Scalar.andi v1742 v1743
  let c14_i32_1300 : BitVec 32 := 14#32
  let c0_i32_1301 : BitVec 32 := 0#32
  let v1745 : BitVec 32 := Scalar.select v1744 c14_i32_1300 c0_i32_1301
  let v1746 : BitVec 32 := Scalar.addi v1741 v1745
  let c0_i32_1302 : BitVec 32 := 0#32
  let v1747 : BitVec 1 := Scalar.cmpi .sgt v1571 c0_i32_1302
  let v1586 : BitVec 32 := Scalar.addi v1585 v1568
  let c1_i32_1303 : BitVec 32 := 1#32
  let v1748 : BitVec 1 := Scalar.cmpi .eq v1586 c1_i32_1303
  let v1749 : BitVec 1 := Scalar.andi v1747 v1748
  let c15_i32_1304 : BitVec 32 := 15#32
  let c0_i32_1305 : BitVec 32 := 0#32
  let v1750 : BitVec 32 := Scalar.select v1749 c15_i32_1304 c0_i32_1305
  let v1751 : BitVec 32 := Scalar.addi v1746 v1750
  let c640_i32_2377 : BitVec 32 := 640#32
  let v3176 : BitVec 32 := Scalar.muli v1751 c640_i32_2377
  ![v1523.toNat, v3176.toNat]
def k1_cond67 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c1_i32_1306 : BitVec 32 := 1#32
  let v1752 : BitVec 1 := Scalar.cmpi .sgt v1587 c1_i32_1306
  let v1753 : BitVec 32 := Scalar.extui v1752
  let c0_i32_1307 : BitVec 32 := 0#32
  let v1754 : BitVec 1 := Scalar.cmpi .ne v1753 c0_i32_1307
  v1754

def k1_off134 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c640_i32_2377 : BitVec 32 := 640#32
  ![v1523.toNat, 640]
def k1_off135 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c1280_i32_2378 : BitVec 32 := 1280#32
  ![v1523.toNat, 1280]
def k1_off136 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1314 : BitVec 32 := 0#32
  let c0_i32_1310 : BitVec 32 := 0#32
  let v1758 : BitVec 1 := Scalar.cmpi .sgt v1526 c0_i32_1310
  let false_1311 : BitVec 1 := 0#1
  let v1759 : BitVec 1 := Scalar.andi v1758 false_1311
  let c0_i32_1312 : BitVec 32 := 0#32
  let c0_i32_1313 : BitVec 32 := 0#32
  let v1760 : BitVec 32 := Scalar.select v1759 c0_i32_1312 c0_i32_1313
  let v1761 : BitVec 32 := Scalar.addi c0_i32_1314 v1760
  let c0_i32_1315 : BitVec 32 := 0#32
  let v1762 : BitVec 1 := Scalar.cmpi .sgt v1529 c0_i32_1315
  let c0_i32_1171 : BitVec 32 := 0#32
  let v1572 : BitVec 32 := Scalar.addi c0_i32_1171 v1526
  let c2_i32_1316 : BitVec 32 := 2#32
  let v1763 : BitVec 1 := Scalar.cmpi .eq v1572 c2_i32_1316
  let v1764 : BitVec 1 := Scalar.andi v1762 v1763
  let c1_i32_1317 : BitVec 32 := 1#32
  let c0_i32_1318 : BitVec 32 := 0#32
  let v1765 : BitVec 32 := Scalar.select v1764 c1_i32_1317 c0_i32_1318
  let v1766 : BitVec 32 := Scalar.addi v1761 v1765
  let c0_i32_1319 : BitVec 32 := 0#32
  let v1767 : BitVec 1 := Scalar.cmpi .sgt v1532 c0_i32_1319
  let v1573 : BitVec 32 := Scalar.addi v1572 v1529
  let c2_i32_1320 : BitVec 32 := 2#32
  let v1768 : BitVec 1 := Scalar.cmpi .eq v1573 c2_i32_1320
  let v1769 : BitVec 1 := Scalar.andi v1767 v1768
  let c2_i32_1321 : BitVec 32 := 2#32
  let c0_i32_1322 : BitVec 32 := 0#32
  let v1770 : BitVec 32 := Scalar.select v1769 c2_i32_1321 c0_i32_1322
  let v1771 : BitVec 32 := Scalar.addi v1766 v1770
  let c0_i32_1323 : BitVec 32 := 0#32
  let v1772 : BitVec 1 := Scalar.cmpi .sgt v1535 c0_i32_1323
  let v1574 : BitVec 32 := Scalar.addi v1573 v1532
  let c2_i32_1324 : BitVec 32 := 2#32
  let v1773 : BitVec 1 := Scalar.cmpi .eq v1574 c2_i32_1324
  let v1774 : BitVec 1 := Scalar.andi v1772 v1773
  let c3_i32_1325 : BitVec 32 := 3#32
  let c0_i32_1326 : BitVec 32 := 0#32
  let v1775 : BitVec 32 := Scalar.select v1774 c3_i32_1325 c0_i32_1326
  let v1776 : BitVec 32 := Scalar.addi v1771 v1775
  let c0_i32_1327 : BitVec 32 := 0#32
  let v1777 : BitVec 1 := Scalar.cmpi .sgt v1538 c0_i32_1327
  let v1575 : BitVec 32 := Scalar.addi v1574 v1535
  let c2_i32_1328 : BitVec 32 := 2#32
  let v1778 : BitVec 1 := Scalar.cmpi .eq v1575 c2_i32_1328
  let v1779 : BitVec 1 := Scalar.andi v1777 v1778
  let c4_i32_1329 : BitVec 32 := 4#32
  let c0_i32_1330 : BitVec 32 := 0#32
  let v1780 : BitVec 32 := Scalar.select v1779 c4_i32_1329 c0_i32_1330
  let v1781 : BitVec 32 := Scalar.addi v1776 v1780
  let c0_i32_1331 : BitVec 32 := 0#32
  let v1782 : BitVec 1 := Scalar.cmpi .sgt v1541 c0_i32_1331
  let v1576 : BitVec 32 := Scalar.addi v1575 v1538
  let c2_i32_1332 : BitVec 32 := 2#32
  let v1783 : BitVec 1 := Scalar.cmpi .eq v1576 c2_i32_1332
  let v1784 : BitVec 1 := Scalar.andi v1782 v1783
  let c5_i32_1333 : BitVec 32 := 5#32
  let c0_i32_1334 : BitVec 32 := 0#32
  let v1785 : BitVec 32 := Scalar.select v1784 c5_i32_1333 c0_i32_1334
  let v1786 : BitVec 32 := Scalar.addi v1781 v1785
  let c0_i32_1335 : BitVec 32 := 0#32
  let v1787 : BitVec 1 := Scalar.cmpi .sgt v1544 c0_i32_1335
  let v1577 : BitVec 32 := Scalar.addi v1576 v1541
  let c2_i32_1336 : BitVec 32 := 2#32
  let v1788 : BitVec 1 := Scalar.cmpi .eq v1577 c2_i32_1336
  let v1789 : BitVec 1 := Scalar.andi v1787 v1788
  let c6_i32_1337 : BitVec 32 := 6#32
  let c0_i32_1338 : BitVec 32 := 0#32
  let v1790 : BitVec 32 := Scalar.select v1789 c6_i32_1337 c0_i32_1338
  let v1791 : BitVec 32 := Scalar.addi v1786 v1790
  let c0_i32_1339 : BitVec 32 := 0#32
  let v1792 : BitVec 1 := Scalar.cmpi .sgt v1547 c0_i32_1339
  let v1578 : BitVec 32 := Scalar.addi v1577 v1544
  let c2_i32_1340 : BitVec 32 := 2#32
  let v1793 : BitVec 1 := Scalar.cmpi .eq v1578 c2_i32_1340
  let v1794 : BitVec 1 := Scalar.andi v1792 v1793
  let c7_i32_1341 : BitVec 32 := 7#32
  let c0_i32_1342 : BitVec 32 := 0#32
  let v1795 : BitVec 32 := Scalar.select v1794 c7_i32_1341 c0_i32_1342
  let v1796 : BitVec 32 := Scalar.addi v1791 v1795
  let c0_i32_1343 : BitVec 32 := 0#32
  let v1797 : BitVec 1 := Scalar.cmpi .sgt v1550 c0_i32_1343
  let v1579 : BitVec 32 := Scalar.addi v1578 v1547
  let c2_i32_1344 : BitVec 32 := 2#32
  let v1798 : BitVec 1 := Scalar.cmpi .eq v1579 c2_i32_1344
  let v1799 : BitVec 1 := Scalar.andi v1797 v1798
  let c8_i32_1345 : BitVec 32 := 8#32
  let c0_i32_1346 : BitVec 32 := 0#32
  let v1800 : BitVec 32 := Scalar.select v1799 c8_i32_1345 c0_i32_1346
  let v1801 : BitVec 32 := Scalar.addi v1796 v1800
  let c0_i32_1347 : BitVec 32 := 0#32
  let v1802 : BitVec 1 := Scalar.cmpi .sgt v1553 c0_i32_1347
  let v1580 : BitVec 32 := Scalar.addi v1579 v1550
  let c2_i32_1348 : BitVec 32 := 2#32
  let v1803 : BitVec 1 := Scalar.cmpi .eq v1580 c2_i32_1348
  let v1804 : BitVec 1 := Scalar.andi v1802 v1803
  let c9_i32_1349 : BitVec 32 := 9#32
  let c0_i32_1350 : BitVec 32 := 0#32
  let v1805 : BitVec 32 := Scalar.select v1804 c9_i32_1349 c0_i32_1350
  let v1806 : BitVec 32 := Scalar.addi v1801 v1805
  let c0_i32_1351 : BitVec 32 := 0#32
  let v1807 : BitVec 1 := Scalar.cmpi .sgt v1556 c0_i32_1351
  let v1581 : BitVec 32 := Scalar.addi v1580 v1553
  let c2_i32_1352 : BitVec 32 := 2#32
  let v1808 : BitVec 1 := Scalar.cmpi .eq v1581 c2_i32_1352
  let v1809 : BitVec 1 := Scalar.andi v1807 v1808
  let c10_i32_1353 : BitVec 32 := 10#32
  let c0_i32_1354 : BitVec 32 := 0#32
  let v1810 : BitVec 32 := Scalar.select v1809 c10_i32_1353 c0_i32_1354
  let v1811 : BitVec 32 := Scalar.addi v1806 v1810
  let c0_i32_1355 : BitVec 32 := 0#32
  let v1812 : BitVec 1 := Scalar.cmpi .sgt v1559 c0_i32_1355
  let v1582 : BitVec 32 := Scalar.addi v1581 v1556
  let c2_i32_1356 : BitVec 32 := 2#32
  let v1813 : BitVec 1 := Scalar.cmpi .eq v1582 c2_i32_1356
  let v1814 : BitVec 1 := Scalar.andi v1812 v1813
  let c11_i32_1357 : BitVec 32 := 11#32
  let c0_i32_1358 : BitVec 32 := 0#32
  let v1815 : BitVec 32 := Scalar.select v1814 c11_i32_1357 c0_i32_1358
  let v1816 : BitVec 32 := Scalar.addi v1811 v1815
  let c0_i32_1359 : BitVec 32 := 0#32
  let v1817 : BitVec 1 := Scalar.cmpi .sgt v1562 c0_i32_1359
  let v1583 : BitVec 32 := Scalar.addi v1582 v1559
  let c2_i32_1360 : BitVec 32 := 2#32
  let v1818 : BitVec 1 := Scalar.cmpi .eq v1583 c2_i32_1360
  let v1819 : BitVec 1 := Scalar.andi v1817 v1818
  let c12_i32_1361 : BitVec 32 := 12#32
  let c0_i32_1362 : BitVec 32 := 0#32
  let v1820 : BitVec 32 := Scalar.select v1819 c12_i32_1361 c0_i32_1362
  let v1821 : BitVec 32 := Scalar.addi v1816 v1820
  let c0_i32_1363 : BitVec 32 := 0#32
  let v1822 : BitVec 1 := Scalar.cmpi .sgt v1565 c0_i32_1363
  let v1584 : BitVec 32 := Scalar.addi v1583 v1562
  let c2_i32_1364 : BitVec 32 := 2#32
  let v1823 : BitVec 1 := Scalar.cmpi .eq v1584 c2_i32_1364
  let v1824 : BitVec 1 := Scalar.andi v1822 v1823
  let c13_i32_1365 : BitVec 32 := 13#32
  let c0_i32_1366 : BitVec 32 := 0#32
  let v1825 : BitVec 32 := Scalar.select v1824 c13_i32_1365 c0_i32_1366
  let v1826 : BitVec 32 := Scalar.addi v1821 v1825
  let c0_i32_1367 : BitVec 32 := 0#32
  let v1827 : BitVec 1 := Scalar.cmpi .sgt v1568 c0_i32_1367
  let v1585 : BitVec 32 := Scalar.addi v1584 v1565
  let c2_i32_1368 : BitVec 32 := 2#32
  let v1828 : BitVec 1 := Scalar.cmpi .eq v1585 c2_i32_1368
  let v1829 : BitVec 1 := Scalar.andi v1827 v1828
  let c14_i32_1369 : BitVec 32 := 14#32
  let c0_i32_1370 : BitVec 32 := 0#32
  let v1830 : BitVec 32 := Scalar.select v1829 c14_i32_1369 c0_i32_1370
  let v1831 : BitVec 32 := Scalar.addi v1826 v1830
  let c0_i32_1371 : BitVec 32 := 0#32
  let v1832 : BitVec 1 := Scalar.cmpi .sgt v1571 c0_i32_1371
  let v1586 : BitVec 32 := Scalar.addi v1585 v1568
  let c2_i32_1372 : BitVec 32 := 2#32
  let v1833 : BitVec 1 := Scalar.cmpi .eq v1586 c2_i32_1372
  let v1834 : BitVec 1 := Scalar.andi v1832 v1833
  let c15_i32_1373 : BitVec 32 := 15#32
  let c0_i32_1374 : BitVec 32 := 0#32
  let v1835 : BitVec 32 := Scalar.select v1834 c15_i32_1373 c0_i32_1374
  let v1836 : BitVec 32 := Scalar.addi v1831 v1835
  let c640_i32_2377 : BitVec 32 := 640#32
  let v3176 : BitVec 32 := Scalar.muli v1836 c640_i32_2377
  ![v1523.toNat, v3176.toNat]
def k1_cond69 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c2_i32_1375 : BitVec 32 := 2#32
  let v1837 : BitVec 1 := Scalar.cmpi .sgt v1587 c2_i32_1375
  let v1838 : BitVec 32 := Scalar.extui v1837
  let c0_i32_1376 : BitVec 32 := 0#32
  let v1839 : BitVec 1 := Scalar.cmpi .ne v1838 c0_i32_1376
  v1839

def k1_off137 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c1280_i32_2377 : BitVec 32 := 1280#32
  ![v1523.toNat, 1280]
def k1_off138 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c1920_i32_2378 : BitVec 32 := 1920#32
  ![v1523.toNat, 1920]
def k1_off139 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1383 : BitVec 32 := 0#32
  let c0_i32_1379 : BitVec 32 := 0#32
  let v1843 : BitVec 1 := Scalar.cmpi .sgt v1526 c0_i32_1379
  let false_1380 : BitVec 1 := 0#1
  let v1844 : BitVec 1 := Scalar.andi v1843 false_1380
  let c0_i32_1381 : BitVec 32 := 0#32
  let c0_i32_1382 : BitVec 32 := 0#32
  let v1845 : BitVec 32 := Scalar.select v1844 c0_i32_1381 c0_i32_1382
  let v1846 : BitVec 32 := Scalar.addi c0_i32_1383 v1845
  let c0_i32_1384 : BitVec 32 := 0#32
  let v1847 : BitVec 1 := Scalar.cmpi .sgt v1529 c0_i32_1384
  let c0_i32_1171 : BitVec 32 := 0#32
  let v1572 : BitVec 32 := Scalar.addi c0_i32_1171 v1526
  let c3_i32_1385 : BitVec 32 := 3#32
  let v1848 : BitVec 1 := Scalar.cmpi .eq v1572 c3_i32_1385
  let v1849 : BitVec 1 := Scalar.andi v1847 v1848
  let c1_i32_1386 : BitVec 32 := 1#32
  let c0_i32_1387 : BitVec 32 := 0#32
  let v1850 : BitVec 32 := Scalar.select v1849 c1_i32_1386 c0_i32_1387
  let v1851 : BitVec 32 := Scalar.addi v1846 v1850
  let c0_i32_1388 : BitVec 32 := 0#32
  let v1852 : BitVec 1 := Scalar.cmpi .sgt v1532 c0_i32_1388
  let v1573 : BitVec 32 := Scalar.addi v1572 v1529
  let c3_i32_1389 : BitVec 32 := 3#32
  let v1853 : BitVec 1 := Scalar.cmpi .eq v1573 c3_i32_1389
  let v1854 : BitVec 1 := Scalar.andi v1852 v1853
  let c2_i32_1390 : BitVec 32 := 2#32
  let c0_i32_1391 : BitVec 32 := 0#32
  let v1855 : BitVec 32 := Scalar.select v1854 c2_i32_1390 c0_i32_1391
  let v1856 : BitVec 32 := Scalar.addi v1851 v1855
  let c0_i32_1392 : BitVec 32 := 0#32
  let v1857 : BitVec 1 := Scalar.cmpi .sgt v1535 c0_i32_1392
  let v1574 : BitVec 32 := Scalar.addi v1573 v1532
  let c3_i32_1393 : BitVec 32 := 3#32
  let v1858 : BitVec 1 := Scalar.cmpi .eq v1574 c3_i32_1393
  let v1859 : BitVec 1 := Scalar.andi v1857 v1858
  let c3_i32_1394 : BitVec 32 := 3#32
  let c0_i32_1395 : BitVec 32 := 0#32
  let v1860 : BitVec 32 := Scalar.select v1859 c3_i32_1394 c0_i32_1395
  let v1861 : BitVec 32 := Scalar.addi v1856 v1860
  let c0_i32_1396 : BitVec 32 := 0#32
  let v1862 : BitVec 1 := Scalar.cmpi .sgt v1538 c0_i32_1396
  let v1575 : BitVec 32 := Scalar.addi v1574 v1535
  let c3_i32_1397 : BitVec 32 := 3#32
  let v1863 : BitVec 1 := Scalar.cmpi .eq v1575 c3_i32_1397
  let v1864 : BitVec 1 := Scalar.andi v1862 v1863
  let c4_i32_1398 : BitVec 32 := 4#32
  let c0_i32_1399 : BitVec 32 := 0#32
  let v1865 : BitVec 32 := Scalar.select v1864 c4_i32_1398 c0_i32_1399
  let v1866 : BitVec 32 := Scalar.addi v1861 v1865
  let c0_i32_1400 : BitVec 32 := 0#32
  let v1867 : BitVec 1 := Scalar.cmpi .sgt v1541 c0_i32_1400
  let v1576 : BitVec 32 := Scalar.addi v1575 v1538
  let c3_i32_1401 : BitVec 32 := 3#32
  let v1868 : BitVec 1 := Scalar.cmpi .eq v1576 c3_i32_1401
  let v1869 : BitVec 1 := Scalar.andi v1867 v1868
  let c5_i32_1402 : BitVec 32 := 5#32
  let c0_i32_1403 : BitVec 32 := 0#32
  let v1870 : BitVec 32 := Scalar.select v1869 c5_i32_1402 c0_i32_1403
  let v1871 : BitVec 32 := Scalar.addi v1866 v1870
  let c0_i32_1404 : BitVec 32 := 0#32
  let v1872 : BitVec 1 := Scalar.cmpi .sgt v1544 c0_i32_1404
  let v1577 : BitVec 32 := Scalar.addi v1576 v1541
  let c3_i32_1405 : BitVec 32 := 3#32
  let v1873 : BitVec 1 := Scalar.cmpi .eq v1577 c3_i32_1405
  let v1874 : BitVec 1 := Scalar.andi v1872 v1873
  let c6_i32_1406 : BitVec 32 := 6#32
  let c0_i32_1407 : BitVec 32 := 0#32
  let v1875 : BitVec 32 := Scalar.select v1874 c6_i32_1406 c0_i32_1407
  let v1876 : BitVec 32 := Scalar.addi v1871 v1875
  let c0_i32_1408 : BitVec 32 := 0#32
  let v1877 : BitVec 1 := Scalar.cmpi .sgt v1547 c0_i32_1408
  let v1578 : BitVec 32 := Scalar.addi v1577 v1544
  let c3_i32_1409 : BitVec 32 := 3#32
  let v1878 : BitVec 1 := Scalar.cmpi .eq v1578 c3_i32_1409
  let v1879 : BitVec 1 := Scalar.andi v1877 v1878
  let c7_i32_1410 : BitVec 32 := 7#32
  let c0_i32_1411 : BitVec 32 := 0#32
  let v1880 : BitVec 32 := Scalar.select v1879 c7_i32_1410 c0_i32_1411
  let v1881 : BitVec 32 := Scalar.addi v1876 v1880
  let c0_i32_1412 : BitVec 32 := 0#32
  let v1882 : BitVec 1 := Scalar.cmpi .sgt v1550 c0_i32_1412
  let v1579 : BitVec 32 := Scalar.addi v1578 v1547
  let c3_i32_1413 : BitVec 32 := 3#32
  let v1883 : BitVec 1 := Scalar.cmpi .eq v1579 c3_i32_1413
  let v1884 : BitVec 1 := Scalar.andi v1882 v1883
  let c8_i32_1414 : BitVec 32 := 8#32
  let c0_i32_1415 : BitVec 32 := 0#32
  let v1885 : BitVec 32 := Scalar.select v1884 c8_i32_1414 c0_i32_1415
  let v1886 : BitVec 32 := Scalar.addi v1881 v1885
  let c0_i32_1416 : BitVec 32 := 0#32
  let v1887 : BitVec 1 := Scalar.cmpi .sgt v1553 c0_i32_1416
  let v1580 : BitVec 32 := Scalar.addi v1579 v1550
  let c3_i32_1417 : BitVec 32 := 3#32
  let v1888 : BitVec 1 := Scalar.cmpi .eq v1580 c3_i32_1417
  let v1889 : BitVec 1 := Scalar.andi v1887 v1888
  let c9_i32_1418 : BitVec 32 := 9#32
  let c0_i32_1419 : BitVec 32 := 0#32
  let v1890 : BitVec 32 := Scalar.select v1889 c9_i32_1418 c0_i32_1419
  let v1891 : BitVec 32 := Scalar.addi v1886 v1890
  let c0_i32_1420 : BitVec 32 := 0#32
  let v1892 : BitVec 1 := Scalar.cmpi .sgt v1556 c0_i32_1420
  let v1581 : BitVec 32 := Scalar.addi v1580 v1553
  let c3_i32_1421 : BitVec 32 := 3#32
  let v1893 : BitVec 1 := Scalar.cmpi .eq v1581 c3_i32_1421
  let v1894 : BitVec 1 := Scalar.andi v1892 v1893
  let c10_i32_1422 : BitVec 32 := 10#32
  let c0_i32_1423 : BitVec 32 := 0#32
  let v1895 : BitVec 32 := Scalar.select v1894 c10_i32_1422 c0_i32_1423
  let v1896 : BitVec 32 := Scalar.addi v1891 v1895
  let c0_i32_1424 : BitVec 32 := 0#32
  let v1897 : BitVec 1 := Scalar.cmpi .sgt v1559 c0_i32_1424
  let v1582 : BitVec 32 := Scalar.addi v1581 v1556
  let c3_i32_1425 : BitVec 32 := 3#32
  let v1898 : BitVec 1 := Scalar.cmpi .eq v1582 c3_i32_1425
  let v1899 : BitVec 1 := Scalar.andi v1897 v1898
  let c11_i32_1426 : BitVec 32 := 11#32
  let c0_i32_1427 : BitVec 32 := 0#32
  let v1900 : BitVec 32 := Scalar.select v1899 c11_i32_1426 c0_i32_1427
  let v1901 : BitVec 32 := Scalar.addi v1896 v1900
  let c0_i32_1428 : BitVec 32 := 0#32
  let v1902 : BitVec 1 := Scalar.cmpi .sgt v1562 c0_i32_1428
  let v1583 : BitVec 32 := Scalar.addi v1582 v1559
  let c3_i32_1429 : BitVec 32 := 3#32
  let v1903 : BitVec 1 := Scalar.cmpi .eq v1583 c3_i32_1429
  let v1904 : BitVec 1 := Scalar.andi v1902 v1903
  let c12_i32_1430 : BitVec 32 := 12#32
  let c0_i32_1431 : BitVec 32 := 0#32
  let v1905 : BitVec 32 := Scalar.select v1904 c12_i32_1430 c0_i32_1431
  let v1906 : BitVec 32 := Scalar.addi v1901 v1905
  let c0_i32_1432 : BitVec 32 := 0#32
  let v1907 : BitVec 1 := Scalar.cmpi .sgt v1565 c0_i32_1432
  let v1584 : BitVec 32 := Scalar.addi v1583 v1562
  let c3_i32_1433 : BitVec 32 := 3#32
  let v1908 : BitVec 1 := Scalar.cmpi .eq v1584 c3_i32_1433
  let v1909 : BitVec 1 := Scalar.andi v1907 v1908
  let c13_i32_1434 : BitVec 32 := 13#32
  let c0_i32_1435 : BitVec 32 := 0#32
  let v1910 : BitVec 32 := Scalar.select v1909 c13_i32_1434 c0_i32_1435
  let v1911 : BitVec 32 := Scalar.addi v1906 v1910
  let c0_i32_1436 : BitVec 32 := 0#32
  let v1912 : BitVec 1 := Scalar.cmpi .sgt v1568 c0_i32_1436
  let v1585 : BitVec 32 := Scalar.addi v1584 v1565
  let c3_i32_1437 : BitVec 32 := 3#32
  let v1913 : BitVec 1 := Scalar.cmpi .eq v1585 c3_i32_1437
  let v1914 : BitVec 1 := Scalar.andi v1912 v1913
  let c14_i32_1438 : BitVec 32 := 14#32
  let c0_i32_1439 : BitVec 32 := 0#32
  let v1915 : BitVec 32 := Scalar.select v1914 c14_i32_1438 c0_i32_1439
  let v1916 : BitVec 32 := Scalar.addi v1911 v1915
  let c0_i32_1440 : BitVec 32 := 0#32
  let v1917 : BitVec 1 := Scalar.cmpi .sgt v1571 c0_i32_1440
  let v1586 : BitVec 32 := Scalar.addi v1585 v1568
  let c3_i32_1441 : BitVec 32 := 3#32
  let v1918 : BitVec 1 := Scalar.cmpi .eq v1586 c3_i32_1441
  let v1919 : BitVec 1 := Scalar.andi v1917 v1918
  let c15_i32_1442 : BitVec 32 := 15#32
  let c0_i32_1443 : BitVec 32 := 0#32
  let v1920 : BitVec 32 := Scalar.select v1919 c15_i32_1442 c0_i32_1443
  let v1921 : BitVec 32 := Scalar.addi v1916 v1920
  let c640_i32_2377 : BitVec 32 := 640#32
  let v3176 : BitVec 32 := Scalar.muli v1921 c640_i32_2377
  ![v1523.toNat, v3176.toNat]
def k1_cond71 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c3_i32_1444 : BitVec 32 := 3#32
  let v1922 : BitVec 1 := Scalar.cmpi .sgt v1587 c3_i32_1444
  let v1923 : BitVec 32 := Scalar.extui v1922
  let c0_i32_1445 : BitVec 32 := 0#32
  let v1924 : BitVec 1 := Scalar.cmpi .ne v1923 c0_i32_1445
  v1924

def k1_off140 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c1920_i32_2377 : BitVec 32 := 1920#32
  ![v1523.toNat, 1920]
def k1_off141 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c2560_i32_2378 : BitVec 32 := 2560#32
  ![v1523.toNat, 2560]
def k1_off142 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1452 : BitVec 32 := 0#32
  let c0_i32_1448 : BitVec 32 := 0#32
  let v1928 : BitVec 1 := Scalar.cmpi .sgt v1526 c0_i32_1448
  let false_1449 : BitVec 1 := 0#1
  let v1929 : BitVec 1 := Scalar.andi v1928 false_1449
  let c0_i32_1450 : BitVec 32 := 0#32
  let c0_i32_1451 : BitVec 32 := 0#32
  let v1930 : BitVec 32 := Scalar.select v1929 c0_i32_1450 c0_i32_1451
  let v1931 : BitVec 32 := Scalar.addi c0_i32_1452 v1930
  let c0_i32_1453 : BitVec 32 := 0#32
  let v1932 : BitVec 1 := Scalar.cmpi .sgt v1529 c0_i32_1453
  let c0_i32_1171 : BitVec 32 := 0#32
  let v1572 : BitVec 32 := Scalar.addi c0_i32_1171 v1526
  let c4_i32_1454 : BitVec 32 := 4#32
  let v1933 : BitVec 1 := Scalar.cmpi .eq v1572 c4_i32_1454
  let v1934 : BitVec 1 := Scalar.andi v1932 v1933
  let c1_i32_1455 : BitVec 32 := 1#32
  let c0_i32_1456 : BitVec 32 := 0#32
  let v1935 : BitVec 32 := Scalar.select v1934 c1_i32_1455 c0_i32_1456
  let v1936 : BitVec 32 := Scalar.addi v1931 v1935
  let c0_i32_1457 : BitVec 32 := 0#32
  let v1937 : BitVec 1 := Scalar.cmpi .sgt v1532 c0_i32_1457
  let v1573 : BitVec 32 := Scalar.addi v1572 v1529
  let c4_i32_1458 : BitVec 32 := 4#32
  let v1938 : BitVec 1 := Scalar.cmpi .eq v1573 c4_i32_1458
  let v1939 : BitVec 1 := Scalar.andi v1937 v1938
  let c2_i32_1459 : BitVec 32 := 2#32
  let c0_i32_1460 : BitVec 32 := 0#32
  let v1940 : BitVec 32 := Scalar.select v1939 c2_i32_1459 c0_i32_1460
  let v1941 : BitVec 32 := Scalar.addi v1936 v1940
  let c0_i32_1461 : BitVec 32 := 0#32
  let v1942 : BitVec 1 := Scalar.cmpi .sgt v1535 c0_i32_1461
  let v1574 : BitVec 32 := Scalar.addi v1573 v1532
  let c4_i32_1462 : BitVec 32 := 4#32
  let v1943 : BitVec 1 := Scalar.cmpi .eq v1574 c4_i32_1462
  let v1944 : BitVec 1 := Scalar.andi v1942 v1943
  let c3_i32_1463 : BitVec 32 := 3#32
  let c0_i32_1464 : BitVec 32 := 0#32
  let v1945 : BitVec 32 := Scalar.select v1944 c3_i32_1463 c0_i32_1464
  let v1946 : BitVec 32 := Scalar.addi v1941 v1945
  let c0_i32_1465 : BitVec 32 := 0#32
  let v1947 : BitVec 1 := Scalar.cmpi .sgt v1538 c0_i32_1465
  let v1575 : BitVec 32 := Scalar.addi v1574 v1535
  let c4_i32_1466 : BitVec 32 := 4#32
  let v1948 : BitVec 1 := Scalar.cmpi .eq v1575 c4_i32_1466
  let v1949 : BitVec 1 := Scalar.andi v1947 v1948
  let c4_i32_1467 : BitVec 32 := 4#32
  let c0_i32_1468 : BitVec 32 := 0#32
  let v1950 : BitVec 32 := Scalar.select v1949 c4_i32_1467 c0_i32_1468
  let v1951 : BitVec 32 := Scalar.addi v1946 v1950
  let c0_i32_1469 : BitVec 32 := 0#32
  let v1952 : BitVec 1 := Scalar.cmpi .sgt v1541 c0_i32_1469
  let v1576 : BitVec 32 := Scalar.addi v1575 v1538
  let c4_i32_1470 : BitVec 32 := 4#32
  let v1953 : BitVec 1 := Scalar.cmpi .eq v1576 c4_i32_1470
  let v1954 : BitVec 1 := Scalar.andi v1952 v1953
  let c5_i32_1471 : BitVec 32 := 5#32
  let c0_i32_1472 : BitVec 32 := 0#32
  let v1955 : BitVec 32 := Scalar.select v1954 c5_i32_1471 c0_i32_1472
  let v1956 : BitVec 32 := Scalar.addi v1951 v1955
  let c0_i32_1473 : BitVec 32 := 0#32
  let v1957 : BitVec 1 := Scalar.cmpi .sgt v1544 c0_i32_1473
  let v1577 : BitVec 32 := Scalar.addi v1576 v1541
  let c4_i32_1474 : BitVec 32 := 4#32
  let v1958 : BitVec 1 := Scalar.cmpi .eq v1577 c4_i32_1474
  let v1959 : BitVec 1 := Scalar.andi v1957 v1958
  let c6_i32_1475 : BitVec 32 := 6#32
  let c0_i32_1476 : BitVec 32 := 0#32
  let v1960 : BitVec 32 := Scalar.select v1959 c6_i32_1475 c0_i32_1476
  let v1961 : BitVec 32 := Scalar.addi v1956 v1960
  let c0_i32_1477 : BitVec 32 := 0#32
  let v1962 : BitVec 1 := Scalar.cmpi .sgt v1547 c0_i32_1477
  let v1578 : BitVec 32 := Scalar.addi v1577 v1544
  let c4_i32_1478 : BitVec 32 := 4#32
  let v1963 : BitVec 1 := Scalar.cmpi .eq v1578 c4_i32_1478
  let v1964 : BitVec 1 := Scalar.andi v1962 v1963
  let c7_i32_1479 : BitVec 32 := 7#32
  let c0_i32_1480 : BitVec 32 := 0#32
  let v1965 : BitVec 32 := Scalar.select v1964 c7_i32_1479 c0_i32_1480
  let v1966 : BitVec 32 := Scalar.addi v1961 v1965
  let c0_i32_1481 : BitVec 32 := 0#32
  let v1967 : BitVec 1 := Scalar.cmpi .sgt v1550 c0_i32_1481
  let v1579 : BitVec 32 := Scalar.addi v1578 v1547
  let c4_i32_1482 : BitVec 32 := 4#32
  let v1968 : BitVec 1 := Scalar.cmpi .eq v1579 c4_i32_1482
  let v1969 : BitVec 1 := Scalar.andi v1967 v1968
  let c8_i32_1483 : BitVec 32 := 8#32
  let c0_i32_1484 : BitVec 32 := 0#32
  let v1970 : BitVec 32 := Scalar.select v1969 c8_i32_1483 c0_i32_1484
  let v1971 : BitVec 32 := Scalar.addi v1966 v1970
  let c0_i32_1485 : BitVec 32 := 0#32
  let v1972 : BitVec 1 := Scalar.cmpi .sgt v1553 c0_i32_1485
  let v1580 : BitVec 32 := Scalar.addi v1579 v1550
  let c4_i32_1486 : BitVec 32 := 4#32
  let v1973 : BitVec 1 := Scalar.cmpi .eq v1580 c4_i32_1486
  let v1974 : BitVec 1 := Scalar.andi v1972 v1973
  let c9_i32_1487 : BitVec 32 := 9#32
  let c0_i32_1488 : BitVec 32 := 0#32
  let v1975 : BitVec 32 := Scalar.select v1974 c9_i32_1487 c0_i32_1488
  let v1976 : BitVec 32 := Scalar.addi v1971 v1975
  let c0_i32_1489 : BitVec 32 := 0#32
  let v1977 : BitVec 1 := Scalar.cmpi .sgt v1556 c0_i32_1489
  let v1581 : BitVec 32 := Scalar.addi v1580 v1553
  let c4_i32_1490 : BitVec 32 := 4#32
  let v1978 : BitVec 1 := Scalar.cmpi .eq v1581 c4_i32_1490
  let v1979 : BitVec 1 := Scalar.andi v1977 v1978
  let c10_i32_1491 : BitVec 32 := 10#32
  let c0_i32_1492 : BitVec 32 := 0#32
  let v1980 : BitVec 32 := Scalar.select v1979 c10_i32_1491 c0_i32_1492
  let v1981 : BitVec 32 := Scalar.addi v1976 v1980
  let c0_i32_1493 : BitVec 32 := 0#32
  let v1982 : BitVec 1 := Scalar.cmpi .sgt v1559 c0_i32_1493
  let v1582 : BitVec 32 := Scalar.addi v1581 v1556
  let c4_i32_1494 : BitVec 32 := 4#32
  let v1983 : BitVec 1 := Scalar.cmpi .eq v1582 c4_i32_1494
  let v1984 : BitVec 1 := Scalar.andi v1982 v1983
  let c11_i32_1495 : BitVec 32 := 11#32
  let c0_i32_1496 : BitVec 32 := 0#32
  let v1985 : BitVec 32 := Scalar.select v1984 c11_i32_1495 c0_i32_1496
  let v1986 : BitVec 32 := Scalar.addi v1981 v1985
  let c0_i32_1497 : BitVec 32 := 0#32
  let v1987 : BitVec 1 := Scalar.cmpi .sgt v1562 c0_i32_1497
  let v1583 : BitVec 32 := Scalar.addi v1582 v1559
  let c4_i32_1498 : BitVec 32 := 4#32
  let v1988 : BitVec 1 := Scalar.cmpi .eq v1583 c4_i32_1498
  let v1989 : BitVec 1 := Scalar.andi v1987 v1988
  let c12_i32_1499 : BitVec 32 := 12#32
  let c0_i32_1500 : BitVec 32 := 0#32
  let v1990 : BitVec 32 := Scalar.select v1989 c12_i32_1499 c0_i32_1500
  let v1991 : BitVec 32 := Scalar.addi v1986 v1990
  let c0_i32_1501 : BitVec 32 := 0#32
  let v1992 : BitVec 1 := Scalar.cmpi .sgt v1565 c0_i32_1501
  let v1584 : BitVec 32 := Scalar.addi v1583 v1562
  let c4_i32_1502 : BitVec 32 := 4#32
  let v1993 : BitVec 1 := Scalar.cmpi .eq v1584 c4_i32_1502
  let v1994 : BitVec 1 := Scalar.andi v1992 v1993
  let c13_i32_1503 : BitVec 32 := 13#32
  let c0_i32_1504 : BitVec 32 := 0#32
  let v1995 : BitVec 32 := Scalar.select v1994 c13_i32_1503 c0_i32_1504
  let v1996 : BitVec 32 := Scalar.addi v1991 v1995
  let c0_i32_1505 : BitVec 32 := 0#32
  let v1997 : BitVec 1 := Scalar.cmpi .sgt v1568 c0_i32_1505
  let v1585 : BitVec 32 := Scalar.addi v1584 v1565
  let c4_i32_1506 : BitVec 32 := 4#32
  let v1998 : BitVec 1 := Scalar.cmpi .eq v1585 c4_i32_1506
  let v1999 : BitVec 1 := Scalar.andi v1997 v1998
  let c14_i32_1507 : BitVec 32 := 14#32
  let c0_i32_1508 : BitVec 32 := 0#32
  let v2000 : BitVec 32 := Scalar.select v1999 c14_i32_1507 c0_i32_1508
  let v2001 : BitVec 32 := Scalar.addi v1996 v2000
  let c0_i32_1509 : BitVec 32 := 0#32
  let v2002 : BitVec 1 := Scalar.cmpi .sgt v1571 c0_i32_1509
  let v1586 : BitVec 32 := Scalar.addi v1585 v1568
  let c4_i32_1510 : BitVec 32 := 4#32
  let v2003 : BitVec 1 := Scalar.cmpi .eq v1586 c4_i32_1510
  let v2004 : BitVec 1 := Scalar.andi v2002 v2003
  let c15_i32_1511 : BitVec 32 := 15#32
  let c0_i32_1512 : BitVec 32 := 0#32
  let v2005 : BitVec 32 := Scalar.select v2004 c15_i32_1511 c0_i32_1512
  let v2006 : BitVec 32 := Scalar.addi v2001 v2005
  let c640_i32_2377 : BitVec 32 := 640#32
  let v3176 : BitVec 32 := Scalar.muli v2006 c640_i32_2377
  ![v1523.toNat, v3176.toNat]
def k1_cond73 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c4_i32_1513 : BitVec 32 := 4#32
  let v2007 : BitVec 1 := Scalar.cmpi .sgt v1587 c4_i32_1513
  let v2008 : BitVec 32 := Scalar.extui v2007
  let c0_i32_1514 : BitVec 32 := 0#32
  let v2009 : BitVec 1 := Scalar.cmpi .ne v2008 c0_i32_1514
  v2009

def k1_off143 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c2560_i32_2377 : BitVec 32 := 2560#32
  ![v1523.toNat, 2560]
def k1_off144 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c3200_i32_2378 : BitVec 32 := 3200#32
  ![v1523.toNat, 3200]
def k1_off145 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1521 : BitVec 32 := 0#32
  let c0_i32_1517 : BitVec 32 := 0#32
  let v2013 : BitVec 1 := Scalar.cmpi .sgt v1526 c0_i32_1517
  let false_1518 : BitVec 1 := 0#1
  let v2014 : BitVec 1 := Scalar.andi v2013 false_1518
  let c0_i32_1519 : BitVec 32 := 0#32
  let c0_i32_1520 : BitVec 32 := 0#32
  let v2015 : BitVec 32 := Scalar.select v2014 c0_i32_1519 c0_i32_1520
  let v2016 : BitVec 32 := Scalar.addi c0_i32_1521 v2015
  let c0_i32_1522 : BitVec 32 := 0#32
  let v2017 : BitVec 1 := Scalar.cmpi .sgt v1529 c0_i32_1522
  let c0_i32_1171 : BitVec 32 := 0#32
  let v1572 : BitVec 32 := Scalar.addi c0_i32_1171 v1526
  let c5_i32_1523 : BitVec 32 := 5#32
  let v2018 : BitVec 1 := Scalar.cmpi .eq v1572 c5_i32_1523
  let v2019 : BitVec 1 := Scalar.andi v2017 v2018
  let c1_i32_1524 : BitVec 32 := 1#32
  let c0_i32_1525 : BitVec 32 := 0#32
  let v2020 : BitVec 32 := Scalar.select v2019 c1_i32_1524 c0_i32_1525
  let v2021 : BitVec 32 := Scalar.addi v2016 v2020
  let c0_i32_1526 : BitVec 32 := 0#32
  let v2022 : BitVec 1 := Scalar.cmpi .sgt v1532 c0_i32_1526
  let v1573 : BitVec 32 := Scalar.addi v1572 v1529
  let c5_i32_1527 : BitVec 32 := 5#32
  let v2023 : BitVec 1 := Scalar.cmpi .eq v1573 c5_i32_1527
  let v2024 : BitVec 1 := Scalar.andi v2022 v2023
  let c2_i32_1528 : BitVec 32 := 2#32
  let c0_i32_1529 : BitVec 32 := 0#32
  let v2025 : BitVec 32 := Scalar.select v2024 c2_i32_1528 c0_i32_1529
  let v2026 : BitVec 32 := Scalar.addi v2021 v2025
  let c0_i32_1530 : BitVec 32 := 0#32
  let v2027 : BitVec 1 := Scalar.cmpi .sgt v1535 c0_i32_1530
  let v1574 : BitVec 32 := Scalar.addi v1573 v1532
  let c5_i32_1531 : BitVec 32 := 5#32
  let v2028 : BitVec 1 := Scalar.cmpi .eq v1574 c5_i32_1531
  let v2029 : BitVec 1 := Scalar.andi v2027 v2028
  let c3_i32_1532 : BitVec 32 := 3#32
  let c0_i32_1533 : BitVec 32 := 0#32
  let v2030 : BitVec 32 := Scalar.select v2029 c3_i32_1532 c0_i32_1533
  let v2031 : BitVec 32 := Scalar.addi v2026 v2030
  let c0_i32_1534 : BitVec 32 := 0#32
  let v2032 : BitVec 1 := Scalar.cmpi .sgt v1538 c0_i32_1534
  let v1575 : BitVec 32 := Scalar.addi v1574 v1535
  let c5_i32_1535 : BitVec 32 := 5#32
  let v2033 : BitVec 1 := Scalar.cmpi .eq v1575 c5_i32_1535
  let v2034 : BitVec 1 := Scalar.andi v2032 v2033
  let c4_i32_1536 : BitVec 32 := 4#32
  let c0_i32_1537 : BitVec 32 := 0#32
  let v2035 : BitVec 32 := Scalar.select v2034 c4_i32_1536 c0_i32_1537
  let v2036 : BitVec 32 := Scalar.addi v2031 v2035
  let c0_i32_1538 : BitVec 32 := 0#32
  let v2037 : BitVec 1 := Scalar.cmpi .sgt v1541 c0_i32_1538
  let v1576 : BitVec 32 := Scalar.addi v1575 v1538
  let c5_i32_1539 : BitVec 32 := 5#32
  let v2038 : BitVec 1 := Scalar.cmpi .eq v1576 c5_i32_1539
  let v2039 : BitVec 1 := Scalar.andi v2037 v2038
  let c5_i32_1540 : BitVec 32 := 5#32
  let c0_i32_1541 : BitVec 32 := 0#32
  let v2040 : BitVec 32 := Scalar.select v2039 c5_i32_1540 c0_i32_1541
  let v2041 : BitVec 32 := Scalar.addi v2036 v2040
  let c0_i32_1542 : BitVec 32 := 0#32
  let v2042 : BitVec 1 := Scalar.cmpi .sgt v1544 c0_i32_1542
  let v1577 : BitVec 32 := Scalar.addi v1576 v1541
  let c5_i32_1543 : BitVec 32 := 5#32
  let v2043 : BitVec 1 := Scalar.cmpi .eq v1577 c5_i32_1543
  let v2044 : BitVec 1 := Scalar.andi v2042 v2043
  let c6_i32_1544 : BitVec 32 := 6#32
  let c0_i32_1545 : BitVec 32 := 0#32
  let v2045 : BitVec 32 := Scalar.select v2044 c6_i32_1544 c0_i32_1545
  let v2046 : BitVec 32 := Scalar.addi v2041 v2045
  let c0_i32_1546 : BitVec 32 := 0#32
  let v2047 : BitVec 1 := Scalar.cmpi .sgt v1547 c0_i32_1546
  let v1578 : BitVec 32 := Scalar.addi v1577 v1544
  let c5_i32_1547 : BitVec 32 := 5#32
  let v2048 : BitVec 1 := Scalar.cmpi .eq v1578 c5_i32_1547
  let v2049 : BitVec 1 := Scalar.andi v2047 v2048
  let c7_i32_1548 : BitVec 32 := 7#32
  let c0_i32_1549 : BitVec 32 := 0#32
  let v2050 : BitVec 32 := Scalar.select v2049 c7_i32_1548 c0_i32_1549
  let v2051 : BitVec 32 := Scalar.addi v2046 v2050
  let c0_i32_1550 : BitVec 32 := 0#32
  let v2052 : BitVec 1 := Scalar.cmpi .sgt v1550 c0_i32_1550
  let v1579 : BitVec 32 := Scalar.addi v1578 v1547
  let c5_i32_1551 : BitVec 32 := 5#32
  let v2053 : BitVec 1 := Scalar.cmpi .eq v1579 c5_i32_1551
  let v2054 : BitVec 1 := Scalar.andi v2052 v2053
  let c8_i32_1552 : BitVec 32 := 8#32
  let c0_i32_1553 : BitVec 32 := 0#32
  let v2055 : BitVec 32 := Scalar.select v2054 c8_i32_1552 c0_i32_1553
  let v2056 : BitVec 32 := Scalar.addi v2051 v2055
  let c0_i32_1554 : BitVec 32 := 0#32
  let v2057 : BitVec 1 := Scalar.cmpi .sgt v1553 c0_i32_1554
  let v1580 : BitVec 32 := Scalar.addi v1579 v1550
  let c5_i32_1555 : BitVec 32 := 5#32
  let v2058 : BitVec 1 := Scalar.cmpi .eq v1580 c5_i32_1555
  let v2059 : BitVec 1 := Scalar.andi v2057 v2058
  let c9_i32_1556 : BitVec 32 := 9#32
  let c0_i32_1557 : BitVec 32 := 0#32
  let v2060 : BitVec 32 := Scalar.select v2059 c9_i32_1556 c0_i32_1557
  let v2061 : BitVec 32 := Scalar.addi v2056 v2060
  let c0_i32_1558 : BitVec 32 := 0#32
  let v2062 : BitVec 1 := Scalar.cmpi .sgt v1556 c0_i32_1558
  let v1581 : BitVec 32 := Scalar.addi v1580 v1553
  let c5_i32_1559 : BitVec 32 := 5#32
  let v2063 : BitVec 1 := Scalar.cmpi .eq v1581 c5_i32_1559
  let v2064 : BitVec 1 := Scalar.andi v2062 v2063
  let c10_i32_1560 : BitVec 32 := 10#32
  let c0_i32_1561 : BitVec 32 := 0#32
  let v2065 : BitVec 32 := Scalar.select v2064 c10_i32_1560 c0_i32_1561
  let v2066 : BitVec 32 := Scalar.addi v2061 v2065
  let c0_i32_1562 : BitVec 32 := 0#32
  let v2067 : BitVec 1 := Scalar.cmpi .sgt v1559 c0_i32_1562
  let v1582 : BitVec 32 := Scalar.addi v1581 v1556
  let c5_i32_1563 : BitVec 32 := 5#32
  let v2068 : BitVec 1 := Scalar.cmpi .eq v1582 c5_i32_1563
  let v2069 : BitVec 1 := Scalar.andi v2067 v2068
  let c11_i32_1564 : BitVec 32 := 11#32
  let c0_i32_1565 : BitVec 32 := 0#32
  let v2070 : BitVec 32 := Scalar.select v2069 c11_i32_1564 c0_i32_1565
  let v2071 : BitVec 32 := Scalar.addi v2066 v2070
  let c0_i32_1566 : BitVec 32 := 0#32
  let v2072 : BitVec 1 := Scalar.cmpi .sgt v1562 c0_i32_1566
  let v1583 : BitVec 32 := Scalar.addi v1582 v1559
  let c5_i32_1567 : BitVec 32 := 5#32
  let v2073 : BitVec 1 := Scalar.cmpi .eq v1583 c5_i32_1567
  let v2074 : BitVec 1 := Scalar.andi v2072 v2073
  let c12_i32_1568 : BitVec 32 := 12#32
  let c0_i32_1569 : BitVec 32 := 0#32
  let v2075 : BitVec 32 := Scalar.select v2074 c12_i32_1568 c0_i32_1569
  let v2076 : BitVec 32 := Scalar.addi v2071 v2075
  let c0_i32_1570 : BitVec 32 := 0#32
  let v2077 : BitVec 1 := Scalar.cmpi .sgt v1565 c0_i32_1570
  let v1584 : BitVec 32 := Scalar.addi v1583 v1562
  let c5_i32_1571 : BitVec 32 := 5#32
  let v2078 : BitVec 1 := Scalar.cmpi .eq v1584 c5_i32_1571
  let v2079 : BitVec 1 := Scalar.andi v2077 v2078
  let c13_i32_1572 : BitVec 32 := 13#32
  let c0_i32_1573 : BitVec 32 := 0#32
  let v2080 : BitVec 32 := Scalar.select v2079 c13_i32_1572 c0_i32_1573
  let v2081 : BitVec 32 := Scalar.addi v2076 v2080
  let c0_i32_1574 : BitVec 32 := 0#32
  let v2082 : BitVec 1 := Scalar.cmpi .sgt v1568 c0_i32_1574
  let v1585 : BitVec 32 := Scalar.addi v1584 v1565
  let c5_i32_1575 : BitVec 32 := 5#32
  let v2083 : BitVec 1 := Scalar.cmpi .eq v1585 c5_i32_1575
  let v2084 : BitVec 1 := Scalar.andi v2082 v2083
  let c14_i32_1576 : BitVec 32 := 14#32
  let c0_i32_1577 : BitVec 32 := 0#32
  let v2085 : BitVec 32 := Scalar.select v2084 c14_i32_1576 c0_i32_1577
  let v2086 : BitVec 32 := Scalar.addi v2081 v2085
  let c0_i32_1578 : BitVec 32 := 0#32
  let v2087 : BitVec 1 := Scalar.cmpi .sgt v1571 c0_i32_1578
  let v1586 : BitVec 32 := Scalar.addi v1585 v1568
  let c5_i32_1579 : BitVec 32 := 5#32
  let v2088 : BitVec 1 := Scalar.cmpi .eq v1586 c5_i32_1579
  let v2089 : BitVec 1 := Scalar.andi v2087 v2088
  let c15_i32_1580 : BitVec 32 := 15#32
  let c0_i32_1581 : BitVec 32 := 0#32
  let v2090 : BitVec 32 := Scalar.select v2089 c15_i32_1580 c0_i32_1581
  let v2091 : BitVec 32 := Scalar.addi v2086 v2090
  let c640_i32_2377 : BitVec 32 := 640#32
  let v3176 : BitVec 32 := Scalar.muli v2091 c640_i32_2377
  ![v1523.toNat, v3176.toNat]
def k1_cond75 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c5_i32_1582 : BitVec 32 := 5#32
  let v2092 : BitVec 1 := Scalar.cmpi .sgt v1587 c5_i32_1582
  let v2093 : BitVec 32 := Scalar.extui v2092
  let c0_i32_1583 : BitVec 32 := 0#32
  let v2094 : BitVec 1 := Scalar.cmpi .ne v2093 c0_i32_1583
  v2094

def k1_off146 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c3200_i32_2377 : BitVec 32 := 3200#32
  ![v1523.toNat, 3200]
def k1_off147 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c3840_i32_2378 : BitVec 32 := 3840#32
  ![v1523.toNat, 3840]
def k1_off148 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1590 : BitVec 32 := 0#32
  let c0_i32_1586 : BitVec 32 := 0#32
  let v2098 : BitVec 1 := Scalar.cmpi .sgt v1526 c0_i32_1586
  let false_1587 : BitVec 1 := 0#1
  let v2099 : BitVec 1 := Scalar.andi v2098 false_1587
  let c0_i32_1588 : BitVec 32 := 0#32
  let c0_i32_1589 : BitVec 32 := 0#32
  let v2100 : BitVec 32 := Scalar.select v2099 c0_i32_1588 c0_i32_1589
  let v2101 : BitVec 32 := Scalar.addi c0_i32_1590 v2100
  let c0_i32_1591 : BitVec 32 := 0#32
  let v2102 : BitVec 1 := Scalar.cmpi .sgt v1529 c0_i32_1591
  let c0_i32_1171 : BitVec 32 := 0#32
  let v1572 : BitVec 32 := Scalar.addi c0_i32_1171 v1526
  let c6_i32_1592 : BitVec 32 := 6#32
  let v2103 : BitVec 1 := Scalar.cmpi .eq v1572 c6_i32_1592
  let v2104 : BitVec 1 := Scalar.andi v2102 v2103
  let c1_i32_1593 : BitVec 32 := 1#32
  let c0_i32_1594 : BitVec 32 := 0#32
  let v2105 : BitVec 32 := Scalar.select v2104 c1_i32_1593 c0_i32_1594
  let v2106 : BitVec 32 := Scalar.addi v2101 v2105
  let c0_i32_1595 : BitVec 32 := 0#32
  let v2107 : BitVec 1 := Scalar.cmpi .sgt v1532 c0_i32_1595
  let v1573 : BitVec 32 := Scalar.addi v1572 v1529
  let c6_i32_1596 : BitVec 32 := 6#32
  let v2108 : BitVec 1 := Scalar.cmpi .eq v1573 c6_i32_1596
  let v2109 : BitVec 1 := Scalar.andi v2107 v2108
  let c2_i32_1597 : BitVec 32 := 2#32
  let c0_i32_1598 : BitVec 32 := 0#32
  let v2110 : BitVec 32 := Scalar.select v2109 c2_i32_1597 c0_i32_1598
  let v2111 : BitVec 32 := Scalar.addi v2106 v2110
  let c0_i32_1599 : BitVec 32 := 0#32
  let v2112 : BitVec 1 := Scalar.cmpi .sgt v1535 c0_i32_1599
  let v1574 : BitVec 32 := Scalar.addi v1573 v1532
  let c6_i32_1600 : BitVec 32 := 6#32
  let v2113 : BitVec 1 := Scalar.cmpi .eq v1574 c6_i32_1600
  let v2114 : BitVec 1 := Scalar.andi v2112 v2113
  let c3_i32_1601 : BitVec 32 := 3#32
  let c0_i32_1602 : BitVec 32 := 0#32
  let v2115 : BitVec 32 := Scalar.select v2114 c3_i32_1601 c0_i32_1602
  let v2116 : BitVec 32 := Scalar.addi v2111 v2115
  let c0_i32_1603 : BitVec 32 := 0#32
  let v2117 : BitVec 1 := Scalar.cmpi .sgt v1538 c0_i32_1603
  let v1575 : BitVec 32 := Scalar.addi v1574 v1535
  let c6_i32_1604 : BitVec 32 := 6#32
  let v2118 : BitVec 1 := Scalar.cmpi .eq v1575 c6_i32_1604
  let v2119 : BitVec 1 := Scalar.andi v2117 v2118
  let c4_i32_1605 : BitVec 32 := 4#32
  let c0_i32_1606 : BitVec 32 := 0#32
  let v2120 : BitVec 32 := Scalar.select v2119 c4_i32_1605 c0_i32_1606
  let v2121 : BitVec 32 := Scalar.addi v2116 v2120
  let c0_i32_1607 : BitVec 32 := 0#32
  let v2122 : BitVec 1 := Scalar.cmpi .sgt v1541 c0_i32_1607
  let v1576 : BitVec 32 := Scalar.addi v1575 v1538
  let c6_i32_1608 : BitVec 32 := 6#32
  let v2123 : BitVec 1 := Scalar.cmpi .eq v1576 c6_i32_1608
  let v2124 : BitVec 1 := Scalar.andi v2122 v2123
  let c5_i32_1609 : BitVec 32 := 5#32
  let c0_i32_1610 : BitVec 32 := 0#32
  let v2125 : BitVec 32 := Scalar.select v2124 c5_i32_1609 c0_i32_1610
  let v2126 : BitVec 32 := Scalar.addi v2121 v2125
  let c0_i32_1611 : BitVec 32 := 0#32
  let v2127 : BitVec 1 := Scalar.cmpi .sgt v1544 c0_i32_1611
  let v1577 : BitVec 32 := Scalar.addi v1576 v1541
  let c6_i32_1612 : BitVec 32 := 6#32
  let v2128 : BitVec 1 := Scalar.cmpi .eq v1577 c6_i32_1612
  let v2129 : BitVec 1 := Scalar.andi v2127 v2128
  let c6_i32_1613 : BitVec 32 := 6#32
  let c0_i32_1614 : BitVec 32 := 0#32
  let v2130 : BitVec 32 := Scalar.select v2129 c6_i32_1613 c0_i32_1614
  let v2131 : BitVec 32 := Scalar.addi v2126 v2130
  let c0_i32_1615 : BitVec 32 := 0#32
  let v2132 : BitVec 1 := Scalar.cmpi .sgt v1547 c0_i32_1615
  let v1578 : BitVec 32 := Scalar.addi v1577 v1544
  let c6_i32_1616 : BitVec 32 := 6#32
  let v2133 : BitVec 1 := Scalar.cmpi .eq v1578 c6_i32_1616
  let v2134 : BitVec 1 := Scalar.andi v2132 v2133
  let c7_i32_1617 : BitVec 32 := 7#32
  let c0_i32_1618 : BitVec 32 := 0#32
  let v2135 : BitVec 32 := Scalar.select v2134 c7_i32_1617 c0_i32_1618
  let v2136 : BitVec 32 := Scalar.addi v2131 v2135
  let c0_i32_1619 : BitVec 32 := 0#32
  let v2137 : BitVec 1 := Scalar.cmpi .sgt v1550 c0_i32_1619
  let v1579 : BitVec 32 := Scalar.addi v1578 v1547
  let c6_i32_1620 : BitVec 32 := 6#32
  let v2138 : BitVec 1 := Scalar.cmpi .eq v1579 c6_i32_1620
  let v2139 : BitVec 1 := Scalar.andi v2137 v2138
  let c8_i32_1621 : BitVec 32 := 8#32
  let c0_i32_1622 : BitVec 32 := 0#32
  let v2140 : BitVec 32 := Scalar.select v2139 c8_i32_1621 c0_i32_1622
  let v2141 : BitVec 32 := Scalar.addi v2136 v2140
  let c0_i32_1623 : BitVec 32 := 0#32
  let v2142 : BitVec 1 := Scalar.cmpi .sgt v1553 c0_i32_1623
  let v1580 : BitVec 32 := Scalar.addi v1579 v1550
  let c6_i32_1624 : BitVec 32 := 6#32
  let v2143 : BitVec 1 := Scalar.cmpi .eq v1580 c6_i32_1624
  let v2144 : BitVec 1 := Scalar.andi v2142 v2143
  let c9_i32_1625 : BitVec 32 := 9#32
  let c0_i32_1626 : BitVec 32 := 0#32
  let v2145 : BitVec 32 := Scalar.select v2144 c9_i32_1625 c0_i32_1626
  let v2146 : BitVec 32 := Scalar.addi v2141 v2145
  let c0_i32_1627 : BitVec 32 := 0#32
  let v2147 : BitVec 1 := Scalar.cmpi .sgt v1556 c0_i32_1627
  let v1581 : BitVec 32 := Scalar.addi v1580 v1553
  let c6_i32_1628 : BitVec 32 := 6#32
  let v2148 : BitVec 1 := Scalar.cmpi .eq v1581 c6_i32_1628
  let v2149 : BitVec 1 := Scalar.andi v2147 v2148
  let c10_i32_1629 : BitVec 32 := 10#32
  let c0_i32_1630 : BitVec 32 := 0#32
  let v2150 : BitVec 32 := Scalar.select v2149 c10_i32_1629 c0_i32_1630
  let v2151 : BitVec 32 := Scalar.addi v2146 v2150
  let c0_i32_1631 : BitVec 32 := 0#32
  let v2152 : BitVec 1 := Scalar.cmpi .sgt v1559 c0_i32_1631
  let v1582 : BitVec 32 := Scalar.addi v1581 v1556
  let c6_i32_1632 : BitVec 32 := 6#32
  let v2153 : BitVec 1 := Scalar.cmpi .eq v1582 c6_i32_1632
  let v2154 : BitVec 1 := Scalar.andi v2152 v2153
  let c11_i32_1633 : BitVec 32 := 11#32
  let c0_i32_1634 : BitVec 32 := 0#32
  let v2155 : BitVec 32 := Scalar.select v2154 c11_i32_1633 c0_i32_1634
  let v2156 : BitVec 32 := Scalar.addi v2151 v2155
  let c0_i32_1635 : BitVec 32 := 0#32
  let v2157 : BitVec 1 := Scalar.cmpi .sgt v1562 c0_i32_1635
  let v1583 : BitVec 32 := Scalar.addi v1582 v1559
  let c6_i32_1636 : BitVec 32 := 6#32
  let v2158 : BitVec 1 := Scalar.cmpi .eq v1583 c6_i32_1636
  let v2159 : BitVec 1 := Scalar.andi v2157 v2158
  let c12_i32_1637 : BitVec 32 := 12#32
  let c0_i32_1638 : BitVec 32 := 0#32
  let v2160 : BitVec 32 := Scalar.select v2159 c12_i32_1637 c0_i32_1638
  let v2161 : BitVec 32 := Scalar.addi v2156 v2160
  let c0_i32_1639 : BitVec 32 := 0#32
  let v2162 : BitVec 1 := Scalar.cmpi .sgt v1565 c0_i32_1639
  let v1584 : BitVec 32 := Scalar.addi v1583 v1562
  let c6_i32_1640 : BitVec 32 := 6#32
  let v2163 : BitVec 1 := Scalar.cmpi .eq v1584 c6_i32_1640
  let v2164 : BitVec 1 := Scalar.andi v2162 v2163
  let c13_i32_1641 : BitVec 32 := 13#32
  let c0_i32_1642 : BitVec 32 := 0#32
  let v2165 : BitVec 32 := Scalar.select v2164 c13_i32_1641 c0_i32_1642
  let v2166 : BitVec 32 := Scalar.addi v2161 v2165
  let c0_i32_1643 : BitVec 32 := 0#32
  let v2167 : BitVec 1 := Scalar.cmpi .sgt v1568 c0_i32_1643
  let v1585 : BitVec 32 := Scalar.addi v1584 v1565
  let c6_i32_1644 : BitVec 32 := 6#32
  let v2168 : BitVec 1 := Scalar.cmpi .eq v1585 c6_i32_1644
  let v2169 : BitVec 1 := Scalar.andi v2167 v2168
  let c14_i32_1645 : BitVec 32 := 14#32
  let c0_i32_1646 : BitVec 32 := 0#32
  let v2170 : BitVec 32 := Scalar.select v2169 c14_i32_1645 c0_i32_1646
  let v2171 : BitVec 32 := Scalar.addi v2166 v2170
  let c0_i32_1647 : BitVec 32 := 0#32
  let v2172 : BitVec 1 := Scalar.cmpi .sgt v1571 c0_i32_1647
  let v1586 : BitVec 32 := Scalar.addi v1585 v1568
  let c6_i32_1648 : BitVec 32 := 6#32
  let v2173 : BitVec 1 := Scalar.cmpi .eq v1586 c6_i32_1648
  let v2174 : BitVec 1 := Scalar.andi v2172 v2173
  let c15_i32_1649 : BitVec 32 := 15#32
  let c0_i32_1650 : BitVec 32 := 0#32
  let v2175 : BitVec 32 := Scalar.select v2174 c15_i32_1649 c0_i32_1650
  let v2176 : BitVec 32 := Scalar.addi v2171 v2175
  let c640_i32_2377 : BitVec 32 := 640#32
  let v3176 : BitVec 32 := Scalar.muli v2176 c640_i32_2377
  ![v1523.toNat, v3176.toNat]
def k1_cond77 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c6_i32_1651 : BitVec 32 := 6#32
  let v2177 : BitVec 1 := Scalar.cmpi .sgt v1587 c6_i32_1651
  let v2178 : BitVec 32 := Scalar.extui v2177
  let c0_i32_1652 : BitVec 32 := 0#32
  let v2179 : BitVec 1 := Scalar.cmpi .ne v2178 c0_i32_1652
  v2179

def k1_off149 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c3840_i32_2377 : BitVec 32 := 3840#32
  ![v1523.toNat, 3840]
def k1_off150 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c4480_i32_2378 : BitVec 32 := 4480#32
  ![v1523.toNat, 4480]
def k1_off151 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1659 : BitVec 32 := 0#32
  let c0_i32_1655 : BitVec 32 := 0#32
  let v2183 : BitVec 1 := Scalar.cmpi .sgt v1526 c0_i32_1655
  let false_1656 : BitVec 1 := 0#1
  let v2184 : BitVec 1 := Scalar.andi v2183 false_1656
  let c0_i32_1657 : BitVec 32 := 0#32
  let c0_i32_1658 : BitVec 32 := 0#32
  let v2185 : BitVec 32 := Scalar.select v2184 c0_i32_1657 c0_i32_1658
  let v2186 : BitVec 32 := Scalar.addi c0_i32_1659 v2185
  let c0_i32_1660 : BitVec 32 := 0#32
  let v2187 : BitVec 1 := Scalar.cmpi .sgt v1529 c0_i32_1660
  let c0_i32_1171 : BitVec 32 := 0#32
  let v1572 : BitVec 32 := Scalar.addi c0_i32_1171 v1526
  let c7_i32_1661 : BitVec 32 := 7#32
  let v2188 : BitVec 1 := Scalar.cmpi .eq v1572 c7_i32_1661
  let v2189 : BitVec 1 := Scalar.andi v2187 v2188
  let c1_i32_1662 : BitVec 32 := 1#32
  let c0_i32_1663 : BitVec 32 := 0#32
  let v2190 : BitVec 32 := Scalar.select v2189 c1_i32_1662 c0_i32_1663
  let v2191 : BitVec 32 := Scalar.addi v2186 v2190
  let c0_i32_1664 : BitVec 32 := 0#32
  let v2192 : BitVec 1 := Scalar.cmpi .sgt v1532 c0_i32_1664
  let v1573 : BitVec 32 := Scalar.addi v1572 v1529
  let c7_i32_1665 : BitVec 32 := 7#32
  let v2193 : BitVec 1 := Scalar.cmpi .eq v1573 c7_i32_1665
  let v2194 : BitVec 1 := Scalar.andi v2192 v2193
  let c2_i32_1666 : BitVec 32 := 2#32
  let c0_i32_1667 : BitVec 32 := 0#32
  let v2195 : BitVec 32 := Scalar.select v2194 c2_i32_1666 c0_i32_1667
  let v2196 : BitVec 32 := Scalar.addi v2191 v2195
  let c0_i32_1668 : BitVec 32 := 0#32
  let v2197 : BitVec 1 := Scalar.cmpi .sgt v1535 c0_i32_1668
  let v1574 : BitVec 32 := Scalar.addi v1573 v1532
  let c7_i32_1669 : BitVec 32 := 7#32
  let v2198 : BitVec 1 := Scalar.cmpi .eq v1574 c7_i32_1669
  let v2199 : BitVec 1 := Scalar.andi v2197 v2198
  let c3_i32_1670 : BitVec 32 := 3#32
  let c0_i32_1671 : BitVec 32 := 0#32
  let v2200 : BitVec 32 := Scalar.select v2199 c3_i32_1670 c0_i32_1671
  let v2201 : BitVec 32 := Scalar.addi v2196 v2200
  let c0_i32_1672 : BitVec 32 := 0#32
  let v2202 : BitVec 1 := Scalar.cmpi .sgt v1538 c0_i32_1672
  let v1575 : BitVec 32 := Scalar.addi v1574 v1535
  let c7_i32_1673 : BitVec 32 := 7#32
  let v2203 : BitVec 1 := Scalar.cmpi .eq v1575 c7_i32_1673
  let v2204 : BitVec 1 := Scalar.andi v2202 v2203
  let c4_i32_1674 : BitVec 32 := 4#32
  let c0_i32_1675 : BitVec 32 := 0#32
  let v2205 : BitVec 32 := Scalar.select v2204 c4_i32_1674 c0_i32_1675
  let v2206 : BitVec 32 := Scalar.addi v2201 v2205
  let c0_i32_1676 : BitVec 32 := 0#32
  let v2207 : BitVec 1 := Scalar.cmpi .sgt v1541 c0_i32_1676
  let v1576 : BitVec 32 := Scalar.addi v1575 v1538
  let c7_i32_1677 : BitVec 32 := 7#32
  let v2208 : BitVec 1 := Scalar.cmpi .eq v1576 c7_i32_1677
  let v2209 : BitVec 1 := Scalar.andi v2207 v2208
  let c5_i32_1678 : BitVec 32 := 5#32
  let c0_i32_1679 : BitVec 32 := 0#32
  let v2210 : BitVec 32 := Scalar.select v2209 c5_i32_1678 c0_i32_1679
  let v2211 : BitVec 32 := Scalar.addi v2206 v2210
  let c0_i32_1680 : BitVec 32 := 0#32
  let v2212 : BitVec 1 := Scalar.cmpi .sgt v1544 c0_i32_1680
  let v1577 : BitVec 32 := Scalar.addi v1576 v1541
  let c7_i32_1681 : BitVec 32 := 7#32
  let v2213 : BitVec 1 := Scalar.cmpi .eq v1577 c7_i32_1681
  let v2214 : BitVec 1 := Scalar.andi v2212 v2213
  let c6_i32_1682 : BitVec 32 := 6#32
  let c0_i32_1683 : BitVec 32 := 0#32
  let v2215 : BitVec 32 := Scalar.select v2214 c6_i32_1682 c0_i32_1683
  let v2216 : BitVec 32 := Scalar.addi v2211 v2215
  let c0_i32_1684 : BitVec 32 := 0#32
  let v2217 : BitVec 1 := Scalar.cmpi .sgt v1547 c0_i32_1684
  let v1578 : BitVec 32 := Scalar.addi v1577 v1544
  let c7_i32_1685 : BitVec 32 := 7#32
  let v2218 : BitVec 1 := Scalar.cmpi .eq v1578 c7_i32_1685
  let v2219 : BitVec 1 := Scalar.andi v2217 v2218
  let c7_i32_1686 : BitVec 32 := 7#32
  let c0_i32_1687 : BitVec 32 := 0#32
  let v2220 : BitVec 32 := Scalar.select v2219 c7_i32_1686 c0_i32_1687
  let v2221 : BitVec 32 := Scalar.addi v2216 v2220
  let c0_i32_1688 : BitVec 32 := 0#32
  let v2222 : BitVec 1 := Scalar.cmpi .sgt v1550 c0_i32_1688
  let v1579 : BitVec 32 := Scalar.addi v1578 v1547
  let c7_i32_1689 : BitVec 32 := 7#32
  let v2223 : BitVec 1 := Scalar.cmpi .eq v1579 c7_i32_1689
  let v2224 : BitVec 1 := Scalar.andi v2222 v2223
  let c8_i32_1690 : BitVec 32 := 8#32
  let c0_i32_1691 : BitVec 32 := 0#32
  let v2225 : BitVec 32 := Scalar.select v2224 c8_i32_1690 c0_i32_1691
  let v2226 : BitVec 32 := Scalar.addi v2221 v2225
  let c0_i32_1692 : BitVec 32 := 0#32
  let v2227 : BitVec 1 := Scalar.cmpi .sgt v1553 c0_i32_1692
  let v1580 : BitVec 32 := Scalar.addi v1579 v1550
  let c7_i32_1693 : BitVec 32 := 7#32
  let v2228 : BitVec 1 := Scalar.cmpi .eq v1580 c7_i32_1693
  let v2229 : BitVec 1 := Scalar.andi v2227 v2228
  let c9_i32_1694 : BitVec 32 := 9#32
  let c0_i32_1695 : BitVec 32 := 0#32
  let v2230 : BitVec 32 := Scalar.select v2229 c9_i32_1694 c0_i32_1695
  let v2231 : BitVec 32 := Scalar.addi v2226 v2230
  let c0_i32_1696 : BitVec 32 := 0#32
  let v2232 : BitVec 1 := Scalar.cmpi .sgt v1556 c0_i32_1696
  let v1581 : BitVec 32 := Scalar.addi v1580 v1553
  let c7_i32_1697 : BitVec 32 := 7#32
  let v2233 : BitVec 1 := Scalar.cmpi .eq v1581 c7_i32_1697
  let v2234 : BitVec 1 := Scalar.andi v2232 v2233
  let c10_i32_1698 : BitVec 32 := 10#32
  let c0_i32_1699 : BitVec 32 := 0#32
  let v2235 : BitVec 32 := Scalar.select v2234 c10_i32_1698 c0_i32_1699
  let v2236 : BitVec 32 := Scalar.addi v2231 v2235
  let c0_i32_1700 : BitVec 32 := 0#32
  let v2237 : BitVec 1 := Scalar.cmpi .sgt v1559 c0_i32_1700
  let v1582 : BitVec 32 := Scalar.addi v1581 v1556
  let c7_i32_1701 : BitVec 32 := 7#32
  let v2238 : BitVec 1 := Scalar.cmpi .eq v1582 c7_i32_1701
  let v2239 : BitVec 1 := Scalar.andi v2237 v2238
  let c11_i32_1702 : BitVec 32 := 11#32
  let c0_i32_1703 : BitVec 32 := 0#32
  let v2240 : BitVec 32 := Scalar.select v2239 c11_i32_1702 c0_i32_1703
  let v2241 : BitVec 32 := Scalar.addi v2236 v2240
  let c0_i32_1704 : BitVec 32 := 0#32
  let v2242 : BitVec 1 := Scalar.cmpi .sgt v1562 c0_i32_1704
  let v1583 : BitVec 32 := Scalar.addi v1582 v1559
  let c7_i32_1705 : BitVec 32 := 7#32
  let v2243 : BitVec 1 := Scalar.cmpi .eq v1583 c7_i32_1705
  let v2244 : BitVec 1 := Scalar.andi v2242 v2243
  let c12_i32_1706 : BitVec 32 := 12#32
  let c0_i32_1707 : BitVec 32 := 0#32
  let v2245 : BitVec 32 := Scalar.select v2244 c12_i32_1706 c0_i32_1707
  let v2246 : BitVec 32 := Scalar.addi v2241 v2245
  let c0_i32_1708 : BitVec 32 := 0#32
  let v2247 : BitVec 1 := Scalar.cmpi .sgt v1565 c0_i32_1708
  let v1584 : BitVec 32 := Scalar.addi v1583 v1562
  let c7_i32_1709 : BitVec 32 := 7#32
  let v2248 : BitVec 1 := Scalar.cmpi .eq v1584 c7_i32_1709
  let v2249 : BitVec 1 := Scalar.andi v2247 v2248
  let c13_i32_1710 : BitVec 32 := 13#32
  let c0_i32_1711 : BitVec 32 := 0#32
  let v2250 : BitVec 32 := Scalar.select v2249 c13_i32_1710 c0_i32_1711
  let v2251 : BitVec 32 := Scalar.addi v2246 v2250
  let c0_i32_1712 : BitVec 32 := 0#32
  let v2252 : BitVec 1 := Scalar.cmpi .sgt v1568 c0_i32_1712
  let v1585 : BitVec 32 := Scalar.addi v1584 v1565
  let c7_i32_1713 : BitVec 32 := 7#32
  let v2253 : BitVec 1 := Scalar.cmpi .eq v1585 c7_i32_1713
  let v2254 : BitVec 1 := Scalar.andi v2252 v2253
  let c14_i32_1714 : BitVec 32 := 14#32
  let c0_i32_1715 : BitVec 32 := 0#32
  let v2255 : BitVec 32 := Scalar.select v2254 c14_i32_1714 c0_i32_1715
  let v2256 : BitVec 32 := Scalar.addi v2251 v2255
  let c0_i32_1716 : BitVec 32 := 0#32
  let v2257 : BitVec 1 := Scalar.cmpi .sgt v1571 c0_i32_1716
  let v1586 : BitVec 32 := Scalar.addi v1585 v1568
  let c7_i32_1717 : BitVec 32 := 7#32
  let v2258 : BitVec 1 := Scalar.cmpi .eq v1586 c7_i32_1717
  let v2259 : BitVec 1 := Scalar.andi v2257 v2258
  let c15_i32_1718 : BitVec 32 := 15#32
  let c0_i32_1719 : BitVec 32 := 0#32
  let v2260 : BitVec 32 := Scalar.select v2259 c15_i32_1718 c0_i32_1719
  let v2261 : BitVec 32 := Scalar.addi v2256 v2260
  let c640_i32_2377 : BitVec 32 := 640#32
  let v3176 : BitVec 32 := Scalar.muli v2261 c640_i32_2377
  ![v1523.toNat, v3176.toNat]
def k1_cond79 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c7_i32_1720 : BitVec 32 := 7#32
  let v2262 : BitVec 1 := Scalar.cmpi .sgt v1587 c7_i32_1720
  let v2263 : BitVec 32 := Scalar.extui v2262
  let c0_i32_1721 : BitVec 32 := 0#32
  let v2264 : BitVec 1 := Scalar.cmpi .ne v2263 c0_i32_1721
  v2264

def k1_off152 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c4480_i32_2377 : BitVec 32 := 4480#32
  ![v1523.toNat, 4480]
def k1_off153 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c5120_i32_2378 : BitVec 32 := 5120#32
  ![v1523.toNat, 5120]
def k1_off154 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1728 : BitVec 32 := 0#32
  let c0_i32_1724 : BitVec 32 := 0#32
  let v2268 : BitVec 1 := Scalar.cmpi .sgt v1526 c0_i32_1724
  let false_1725 : BitVec 1 := 0#1
  let v2269 : BitVec 1 := Scalar.andi v2268 false_1725
  let c0_i32_1726 : BitVec 32 := 0#32
  let c0_i32_1727 : BitVec 32 := 0#32
  let v2270 : BitVec 32 := Scalar.select v2269 c0_i32_1726 c0_i32_1727
  let v2271 : BitVec 32 := Scalar.addi c0_i32_1728 v2270
  let c0_i32_1729 : BitVec 32 := 0#32
  let v2272 : BitVec 1 := Scalar.cmpi .sgt v1529 c0_i32_1729
  let c0_i32_1171 : BitVec 32 := 0#32
  let v1572 : BitVec 32 := Scalar.addi c0_i32_1171 v1526
  let c8_i32_1730 : BitVec 32 := 8#32
  let v2273 : BitVec 1 := Scalar.cmpi .eq v1572 c8_i32_1730
  let v2274 : BitVec 1 := Scalar.andi v2272 v2273
  let c1_i32_1731 : BitVec 32 := 1#32
  let c0_i32_1732 : BitVec 32 := 0#32
  let v2275 : BitVec 32 := Scalar.select v2274 c1_i32_1731 c0_i32_1732
  let v2276 : BitVec 32 := Scalar.addi v2271 v2275
  let c0_i32_1733 : BitVec 32 := 0#32
  let v2277 : BitVec 1 := Scalar.cmpi .sgt v1532 c0_i32_1733
  let v1573 : BitVec 32 := Scalar.addi v1572 v1529
  let c8_i32_1734 : BitVec 32 := 8#32
  let v2278 : BitVec 1 := Scalar.cmpi .eq v1573 c8_i32_1734
  let v2279 : BitVec 1 := Scalar.andi v2277 v2278
  let c2_i32_1735 : BitVec 32 := 2#32
  let c0_i32_1736 : BitVec 32 := 0#32
  let v2280 : BitVec 32 := Scalar.select v2279 c2_i32_1735 c0_i32_1736
  let v2281 : BitVec 32 := Scalar.addi v2276 v2280
  let c0_i32_1737 : BitVec 32 := 0#32
  let v2282 : BitVec 1 := Scalar.cmpi .sgt v1535 c0_i32_1737
  let v1574 : BitVec 32 := Scalar.addi v1573 v1532
  let c8_i32_1738 : BitVec 32 := 8#32
  let v2283 : BitVec 1 := Scalar.cmpi .eq v1574 c8_i32_1738
  let v2284 : BitVec 1 := Scalar.andi v2282 v2283
  let c3_i32_1739 : BitVec 32 := 3#32
  let c0_i32_1740 : BitVec 32 := 0#32
  let v2285 : BitVec 32 := Scalar.select v2284 c3_i32_1739 c0_i32_1740
  let v2286 : BitVec 32 := Scalar.addi v2281 v2285
  let c0_i32_1741 : BitVec 32 := 0#32
  let v2287 : BitVec 1 := Scalar.cmpi .sgt v1538 c0_i32_1741
  let v1575 : BitVec 32 := Scalar.addi v1574 v1535
  let c8_i32_1742 : BitVec 32 := 8#32
  let v2288 : BitVec 1 := Scalar.cmpi .eq v1575 c8_i32_1742
  let v2289 : BitVec 1 := Scalar.andi v2287 v2288
  let c4_i32_1743 : BitVec 32 := 4#32
  let c0_i32_1744 : BitVec 32 := 0#32
  let v2290 : BitVec 32 := Scalar.select v2289 c4_i32_1743 c0_i32_1744
  let v2291 : BitVec 32 := Scalar.addi v2286 v2290
  let c0_i32_1745 : BitVec 32 := 0#32
  let v2292 : BitVec 1 := Scalar.cmpi .sgt v1541 c0_i32_1745
  let v1576 : BitVec 32 := Scalar.addi v1575 v1538
  let c8_i32_1746 : BitVec 32 := 8#32
  let v2293 : BitVec 1 := Scalar.cmpi .eq v1576 c8_i32_1746
  let v2294 : BitVec 1 := Scalar.andi v2292 v2293
  let c5_i32_1747 : BitVec 32 := 5#32
  let c0_i32_1748 : BitVec 32 := 0#32
  let v2295 : BitVec 32 := Scalar.select v2294 c5_i32_1747 c0_i32_1748
  let v2296 : BitVec 32 := Scalar.addi v2291 v2295
  let c0_i32_1749 : BitVec 32 := 0#32
  let v2297 : BitVec 1 := Scalar.cmpi .sgt v1544 c0_i32_1749
  let v1577 : BitVec 32 := Scalar.addi v1576 v1541
  let c8_i32_1750 : BitVec 32 := 8#32
  let v2298 : BitVec 1 := Scalar.cmpi .eq v1577 c8_i32_1750
  let v2299 : BitVec 1 := Scalar.andi v2297 v2298
  let c6_i32_1751 : BitVec 32 := 6#32
  let c0_i32_1752 : BitVec 32 := 0#32
  let v2300 : BitVec 32 := Scalar.select v2299 c6_i32_1751 c0_i32_1752
  let v2301 : BitVec 32 := Scalar.addi v2296 v2300
  let c0_i32_1753 : BitVec 32 := 0#32
  let v2302 : BitVec 1 := Scalar.cmpi .sgt v1547 c0_i32_1753
  let v1578 : BitVec 32 := Scalar.addi v1577 v1544
  let c8_i32_1754 : BitVec 32 := 8#32
  let v2303 : BitVec 1 := Scalar.cmpi .eq v1578 c8_i32_1754
  let v2304 : BitVec 1 := Scalar.andi v2302 v2303
  let c7_i32_1755 : BitVec 32 := 7#32
  let c0_i32_1756 : BitVec 32 := 0#32
  let v2305 : BitVec 32 := Scalar.select v2304 c7_i32_1755 c0_i32_1756
  let v2306 : BitVec 32 := Scalar.addi v2301 v2305
  let c0_i32_1757 : BitVec 32 := 0#32
  let v2307 : BitVec 1 := Scalar.cmpi .sgt v1550 c0_i32_1757
  let v1579 : BitVec 32 := Scalar.addi v1578 v1547
  let c8_i32_1758 : BitVec 32 := 8#32
  let v2308 : BitVec 1 := Scalar.cmpi .eq v1579 c8_i32_1758
  let v2309 : BitVec 1 := Scalar.andi v2307 v2308
  let c8_i32_1759 : BitVec 32 := 8#32
  let c0_i32_1760 : BitVec 32 := 0#32
  let v2310 : BitVec 32 := Scalar.select v2309 c8_i32_1759 c0_i32_1760
  let v2311 : BitVec 32 := Scalar.addi v2306 v2310
  let c0_i32_1761 : BitVec 32 := 0#32
  let v2312 : BitVec 1 := Scalar.cmpi .sgt v1553 c0_i32_1761
  let v1580 : BitVec 32 := Scalar.addi v1579 v1550
  let c8_i32_1762 : BitVec 32 := 8#32
  let v2313 : BitVec 1 := Scalar.cmpi .eq v1580 c8_i32_1762
  let v2314 : BitVec 1 := Scalar.andi v2312 v2313
  let c9_i32_1763 : BitVec 32 := 9#32
  let c0_i32_1764 : BitVec 32 := 0#32
  let v2315 : BitVec 32 := Scalar.select v2314 c9_i32_1763 c0_i32_1764
  let v2316 : BitVec 32 := Scalar.addi v2311 v2315
  let c0_i32_1765 : BitVec 32 := 0#32
  let v2317 : BitVec 1 := Scalar.cmpi .sgt v1556 c0_i32_1765
  let v1581 : BitVec 32 := Scalar.addi v1580 v1553
  let c8_i32_1766 : BitVec 32 := 8#32
  let v2318 : BitVec 1 := Scalar.cmpi .eq v1581 c8_i32_1766
  let v2319 : BitVec 1 := Scalar.andi v2317 v2318
  let c10_i32_1767 : BitVec 32 := 10#32
  let c0_i32_1768 : BitVec 32 := 0#32
  let v2320 : BitVec 32 := Scalar.select v2319 c10_i32_1767 c0_i32_1768
  let v2321 : BitVec 32 := Scalar.addi v2316 v2320
  let c0_i32_1769 : BitVec 32 := 0#32
  let v2322 : BitVec 1 := Scalar.cmpi .sgt v1559 c0_i32_1769
  let v1582 : BitVec 32 := Scalar.addi v1581 v1556
  let c8_i32_1770 : BitVec 32 := 8#32
  let v2323 : BitVec 1 := Scalar.cmpi .eq v1582 c8_i32_1770
  let v2324 : BitVec 1 := Scalar.andi v2322 v2323
  let c11_i32_1771 : BitVec 32 := 11#32
  let c0_i32_1772 : BitVec 32 := 0#32
  let v2325 : BitVec 32 := Scalar.select v2324 c11_i32_1771 c0_i32_1772
  let v2326 : BitVec 32 := Scalar.addi v2321 v2325
  let c0_i32_1773 : BitVec 32 := 0#32
  let v2327 : BitVec 1 := Scalar.cmpi .sgt v1562 c0_i32_1773
  let v1583 : BitVec 32 := Scalar.addi v1582 v1559
  let c8_i32_1774 : BitVec 32 := 8#32
  let v2328 : BitVec 1 := Scalar.cmpi .eq v1583 c8_i32_1774
  let v2329 : BitVec 1 := Scalar.andi v2327 v2328
  let c12_i32_1775 : BitVec 32 := 12#32
  let c0_i32_1776 : BitVec 32 := 0#32
  let v2330 : BitVec 32 := Scalar.select v2329 c12_i32_1775 c0_i32_1776
  let v2331 : BitVec 32 := Scalar.addi v2326 v2330
  let c0_i32_1777 : BitVec 32 := 0#32
  let v2332 : BitVec 1 := Scalar.cmpi .sgt v1565 c0_i32_1777
  let v1584 : BitVec 32 := Scalar.addi v1583 v1562
  let c8_i32_1778 : BitVec 32 := 8#32
  let v2333 : BitVec 1 := Scalar.cmpi .eq v1584 c8_i32_1778
  let v2334 : BitVec 1 := Scalar.andi v2332 v2333
  let c13_i32_1779 : BitVec 32 := 13#32
  let c0_i32_1780 : BitVec 32 := 0#32
  let v2335 : BitVec 32 := Scalar.select v2334 c13_i32_1779 c0_i32_1780
  let v2336 : BitVec 32 := Scalar.addi v2331 v2335
  let c0_i32_1781 : BitVec 32 := 0#32
  let v2337 : BitVec 1 := Scalar.cmpi .sgt v1568 c0_i32_1781
  let v1585 : BitVec 32 := Scalar.addi v1584 v1565
  let c8_i32_1782 : BitVec 32 := 8#32
  let v2338 : BitVec 1 := Scalar.cmpi .eq v1585 c8_i32_1782
  let v2339 : BitVec 1 := Scalar.andi v2337 v2338
  let c14_i32_1783 : BitVec 32 := 14#32
  let c0_i32_1784 : BitVec 32 := 0#32
  let v2340 : BitVec 32 := Scalar.select v2339 c14_i32_1783 c0_i32_1784
  let v2341 : BitVec 32 := Scalar.addi v2336 v2340
  let c0_i32_1785 : BitVec 32 := 0#32
  let v2342 : BitVec 1 := Scalar.cmpi .sgt v1571 c0_i32_1785
  let v1586 : BitVec 32 := Scalar.addi v1585 v1568
  let c8_i32_1786 : BitVec 32 := 8#32
  let v2343 : BitVec 1 := Scalar.cmpi .eq v1586 c8_i32_1786
  let v2344 : BitVec 1 := Scalar.andi v2342 v2343
  let c15_i32_1787 : BitVec 32 := 15#32
  let c0_i32_1788 : BitVec 32 := 0#32
  let v2345 : BitVec 32 := Scalar.select v2344 c15_i32_1787 c0_i32_1788
  let v2346 : BitVec 32 := Scalar.addi v2341 v2345
  let c640_i32_2377 : BitVec 32 := 640#32
  let v3176 : BitVec 32 := Scalar.muli v2346 c640_i32_2377
  ![v1523.toNat, v3176.toNat]
def k1_cond81 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c8_i32_1789 : BitVec 32 := 8#32
  let v2347 : BitVec 1 := Scalar.cmpi .sgt v1587 c8_i32_1789
  let v2348 : BitVec 32 := Scalar.extui v2347
  let c0_i32_1790 : BitVec 32 := 0#32
  let v2349 : BitVec 1 := Scalar.cmpi .ne v2348 c0_i32_1790
  v2349

def k1_off155 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c5120_i32_2377 : BitVec 32 := 5120#32
  ![v1523.toNat, 5120]
def k1_off156 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c5760_i32_2378 : BitVec 32 := 5760#32
  ![v1523.toNat, 5760]
def k1_off157 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1797 : BitVec 32 := 0#32
  let c0_i32_1793 : BitVec 32 := 0#32
  let v2353 : BitVec 1 := Scalar.cmpi .sgt v1526 c0_i32_1793
  let false_1794 : BitVec 1 := 0#1
  let v2354 : BitVec 1 := Scalar.andi v2353 false_1794
  let c0_i32_1795 : BitVec 32 := 0#32
  let c0_i32_1796 : BitVec 32 := 0#32
  let v2355 : BitVec 32 := Scalar.select v2354 c0_i32_1795 c0_i32_1796
  let v2356 : BitVec 32 := Scalar.addi c0_i32_1797 v2355
  let c0_i32_1798 : BitVec 32 := 0#32
  let v2357 : BitVec 1 := Scalar.cmpi .sgt v1529 c0_i32_1798
  let c0_i32_1171 : BitVec 32 := 0#32
  let v1572 : BitVec 32 := Scalar.addi c0_i32_1171 v1526
  let c9_i32_1799 : BitVec 32 := 9#32
  let v2358 : BitVec 1 := Scalar.cmpi .eq v1572 c9_i32_1799
  let v2359 : BitVec 1 := Scalar.andi v2357 v2358
  let c1_i32_1800 : BitVec 32 := 1#32
  let c0_i32_1801 : BitVec 32 := 0#32
  let v2360 : BitVec 32 := Scalar.select v2359 c1_i32_1800 c0_i32_1801
  let v2361 : BitVec 32 := Scalar.addi v2356 v2360
  let c0_i32_1802 : BitVec 32 := 0#32
  let v2362 : BitVec 1 := Scalar.cmpi .sgt v1532 c0_i32_1802
  let v1573 : BitVec 32 := Scalar.addi v1572 v1529
  let c9_i32_1803 : BitVec 32 := 9#32
  let v2363 : BitVec 1 := Scalar.cmpi .eq v1573 c9_i32_1803
  let v2364 : BitVec 1 := Scalar.andi v2362 v2363
  let c2_i32_1804 : BitVec 32 := 2#32
  let c0_i32_1805 : BitVec 32 := 0#32
  let v2365 : BitVec 32 := Scalar.select v2364 c2_i32_1804 c0_i32_1805
  let v2366 : BitVec 32 := Scalar.addi v2361 v2365
  let c0_i32_1806 : BitVec 32 := 0#32
  let v2367 : BitVec 1 := Scalar.cmpi .sgt v1535 c0_i32_1806
  let v1574 : BitVec 32 := Scalar.addi v1573 v1532
  let c9_i32_1807 : BitVec 32 := 9#32
  let v2368 : BitVec 1 := Scalar.cmpi .eq v1574 c9_i32_1807
  let v2369 : BitVec 1 := Scalar.andi v2367 v2368
  let c3_i32_1808 : BitVec 32 := 3#32
  let c0_i32_1809 : BitVec 32 := 0#32
  let v2370 : BitVec 32 := Scalar.select v2369 c3_i32_1808 c0_i32_1809
  let v2371 : BitVec 32 := Scalar.addi v2366 v2370
  let c0_i32_1810 : BitVec 32 := 0#32
  let v2372 : BitVec 1 := Scalar.cmpi .sgt v1538 c0_i32_1810
  let v1575 : BitVec 32 := Scalar.addi v1574 v1535
  let c9_i32_1811 : BitVec 32 := 9#32
  let v2373 : BitVec 1 := Scalar.cmpi .eq v1575 c9_i32_1811
  let v2374 : BitVec 1 := Scalar.andi v2372 v2373
  let c4_i32_1812 : BitVec 32 := 4#32
  let c0_i32_1813 : BitVec 32 := 0#32
  let v2375 : BitVec 32 := Scalar.select v2374 c4_i32_1812 c0_i32_1813
  let v2376 : BitVec 32 := Scalar.addi v2371 v2375
  let c0_i32_1814 : BitVec 32 := 0#32
  let v2377 : BitVec 1 := Scalar.cmpi .sgt v1541 c0_i32_1814
  let v1576 : BitVec 32 := Scalar.addi v1575 v1538
  let c9_i32_1815 : BitVec 32 := 9#32
  let v2378 : BitVec 1 := Scalar.cmpi .eq v1576 c9_i32_1815
  let v2379 : BitVec 1 := Scalar.andi v2377 v2378
  let c5_i32_1816 : BitVec 32 := 5#32
  let c0_i32_1817 : BitVec 32 := 0#32
  let v2380 : BitVec 32 := Scalar.select v2379 c5_i32_1816 c0_i32_1817
  let v2381 : BitVec 32 := Scalar.addi v2376 v2380
  let c0_i32_1818 : BitVec 32 := 0#32
  let v2382 : BitVec 1 := Scalar.cmpi .sgt v1544 c0_i32_1818
  let v1577 : BitVec 32 := Scalar.addi v1576 v1541
  let c9_i32_1819 : BitVec 32 := 9#32
  let v2383 : BitVec 1 := Scalar.cmpi .eq v1577 c9_i32_1819
  let v2384 : BitVec 1 := Scalar.andi v2382 v2383
  let c6_i32_1820 : BitVec 32 := 6#32
  let c0_i32_1821 : BitVec 32 := 0#32
  let v2385 : BitVec 32 := Scalar.select v2384 c6_i32_1820 c0_i32_1821
  let v2386 : BitVec 32 := Scalar.addi v2381 v2385
  let c0_i32_1822 : BitVec 32 := 0#32
  let v2387 : BitVec 1 := Scalar.cmpi .sgt v1547 c0_i32_1822
  let v1578 : BitVec 32 := Scalar.addi v1577 v1544
  let c9_i32_1823 : BitVec 32 := 9#32
  let v2388 : BitVec 1 := Scalar.cmpi .eq v1578 c9_i32_1823
  let v2389 : BitVec 1 := Scalar.andi v2387 v2388
  let c7_i32_1824 : BitVec 32 := 7#32
  let c0_i32_1825 : BitVec 32 := 0#32
  let v2390 : BitVec 32 := Scalar.select v2389 c7_i32_1824 c0_i32_1825
  let v2391 : BitVec 32 := Scalar.addi v2386 v2390
  let c0_i32_1826 : BitVec 32 := 0#32
  let v2392 : BitVec 1 := Scalar.cmpi .sgt v1550 c0_i32_1826
  let v1579 : BitVec 32 := Scalar.addi v1578 v1547
  let c9_i32_1827 : BitVec 32 := 9#32
  let v2393 : BitVec 1 := Scalar.cmpi .eq v1579 c9_i32_1827
  let v2394 : BitVec 1 := Scalar.andi v2392 v2393
  let c8_i32_1828 : BitVec 32 := 8#32
  let c0_i32_1829 : BitVec 32 := 0#32
  let v2395 : BitVec 32 := Scalar.select v2394 c8_i32_1828 c0_i32_1829
  let v2396 : BitVec 32 := Scalar.addi v2391 v2395
  let c0_i32_1830 : BitVec 32 := 0#32
  let v2397 : BitVec 1 := Scalar.cmpi .sgt v1553 c0_i32_1830
  let v1580 : BitVec 32 := Scalar.addi v1579 v1550
  let c9_i32_1831 : BitVec 32 := 9#32
  let v2398 : BitVec 1 := Scalar.cmpi .eq v1580 c9_i32_1831
  let v2399 : BitVec 1 := Scalar.andi v2397 v2398
  let c9_i32_1832 : BitVec 32 := 9#32
  let c0_i32_1833 : BitVec 32 := 0#32
  let v2400 : BitVec 32 := Scalar.select v2399 c9_i32_1832 c0_i32_1833
  let v2401 : BitVec 32 := Scalar.addi v2396 v2400
  let c0_i32_1834 : BitVec 32 := 0#32
  let v2402 : BitVec 1 := Scalar.cmpi .sgt v1556 c0_i32_1834
  let v1581 : BitVec 32 := Scalar.addi v1580 v1553
  let c9_i32_1835 : BitVec 32 := 9#32
  let v2403 : BitVec 1 := Scalar.cmpi .eq v1581 c9_i32_1835
  let v2404 : BitVec 1 := Scalar.andi v2402 v2403
  let c10_i32_1836 : BitVec 32 := 10#32
  let c0_i32_1837 : BitVec 32 := 0#32
  let v2405 : BitVec 32 := Scalar.select v2404 c10_i32_1836 c0_i32_1837
  let v2406 : BitVec 32 := Scalar.addi v2401 v2405
  let c0_i32_1838 : BitVec 32 := 0#32
  let v2407 : BitVec 1 := Scalar.cmpi .sgt v1559 c0_i32_1838
  let v1582 : BitVec 32 := Scalar.addi v1581 v1556
  let c9_i32_1839 : BitVec 32 := 9#32
  let v2408 : BitVec 1 := Scalar.cmpi .eq v1582 c9_i32_1839
  let v2409 : BitVec 1 := Scalar.andi v2407 v2408
  let c11_i32_1840 : BitVec 32 := 11#32
  let c0_i32_1841 : BitVec 32 := 0#32
  let v2410 : BitVec 32 := Scalar.select v2409 c11_i32_1840 c0_i32_1841
  let v2411 : BitVec 32 := Scalar.addi v2406 v2410
  let c0_i32_1842 : BitVec 32 := 0#32
  let v2412 : BitVec 1 := Scalar.cmpi .sgt v1562 c0_i32_1842
  let v1583 : BitVec 32 := Scalar.addi v1582 v1559
  let c9_i32_1843 : BitVec 32 := 9#32
  let v2413 : BitVec 1 := Scalar.cmpi .eq v1583 c9_i32_1843
  let v2414 : BitVec 1 := Scalar.andi v2412 v2413
  let c12_i32_1844 : BitVec 32 := 12#32
  let c0_i32_1845 : BitVec 32 := 0#32
  let v2415 : BitVec 32 := Scalar.select v2414 c12_i32_1844 c0_i32_1845
  let v2416 : BitVec 32 := Scalar.addi v2411 v2415
  let c0_i32_1846 : BitVec 32 := 0#32
  let v2417 : BitVec 1 := Scalar.cmpi .sgt v1565 c0_i32_1846
  let v1584 : BitVec 32 := Scalar.addi v1583 v1562
  let c9_i32_1847 : BitVec 32 := 9#32
  let v2418 : BitVec 1 := Scalar.cmpi .eq v1584 c9_i32_1847
  let v2419 : BitVec 1 := Scalar.andi v2417 v2418
  let c13_i32_1848 : BitVec 32 := 13#32
  let c0_i32_1849 : BitVec 32 := 0#32
  let v2420 : BitVec 32 := Scalar.select v2419 c13_i32_1848 c0_i32_1849
  let v2421 : BitVec 32 := Scalar.addi v2416 v2420
  let c0_i32_1850 : BitVec 32 := 0#32
  let v2422 : BitVec 1 := Scalar.cmpi .sgt v1568 c0_i32_1850
  let v1585 : BitVec 32 := Scalar.addi v1584 v1565
  let c9_i32_1851 : BitVec 32 := 9#32
  let v2423 : BitVec 1 := Scalar.cmpi .eq v1585 c9_i32_1851
  let v2424 : BitVec 1 := Scalar.andi v2422 v2423
  let c14_i32_1852 : BitVec 32 := 14#32
  let c0_i32_1853 : BitVec 32 := 0#32
  let v2425 : BitVec 32 := Scalar.select v2424 c14_i32_1852 c0_i32_1853
  let v2426 : BitVec 32 := Scalar.addi v2421 v2425
  let c0_i32_1854 : BitVec 32 := 0#32
  let v2427 : BitVec 1 := Scalar.cmpi .sgt v1571 c0_i32_1854
  let v1586 : BitVec 32 := Scalar.addi v1585 v1568
  let c9_i32_1855 : BitVec 32 := 9#32
  let v2428 : BitVec 1 := Scalar.cmpi .eq v1586 c9_i32_1855
  let v2429 : BitVec 1 := Scalar.andi v2427 v2428
  let c15_i32_1856 : BitVec 32 := 15#32
  let c0_i32_1857 : BitVec 32 := 0#32
  let v2430 : BitVec 32 := Scalar.select v2429 c15_i32_1856 c0_i32_1857
  let v2431 : BitVec 32 := Scalar.addi v2426 v2430
  let c640_i32_2377 : BitVec 32 := 640#32
  let v3176 : BitVec 32 := Scalar.muli v2431 c640_i32_2377
  ![v1523.toNat, v3176.toNat]
def k1_cond83 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c9_i32_1858 : BitVec 32 := 9#32
  let v2432 : BitVec 1 := Scalar.cmpi .sgt v1587 c9_i32_1858
  let v2433 : BitVec 32 := Scalar.extui v2432
  let c0_i32_1859 : BitVec 32 := 0#32
  let v2434 : BitVec 1 := Scalar.cmpi .ne v2433 c0_i32_1859
  v2434

def k1_off158 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c5760_i32_2377 : BitVec 32 := 5760#32
  ![v1523.toNat, 5760]
def k1_off159 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c6400_i32_2378 : BitVec 32 := 6400#32
  ![v1523.toNat, 6400]
def k1_off160 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1866 : BitVec 32 := 0#32
  let c0_i32_1862 : BitVec 32 := 0#32
  let v2438 : BitVec 1 := Scalar.cmpi .sgt v1526 c0_i32_1862
  let false_1863 : BitVec 1 := 0#1
  let v2439 : BitVec 1 := Scalar.andi v2438 false_1863
  let c0_i32_1864 : BitVec 32 := 0#32
  let c0_i32_1865 : BitVec 32 := 0#32
  let v2440 : BitVec 32 := Scalar.select v2439 c0_i32_1864 c0_i32_1865
  let v2441 : BitVec 32 := Scalar.addi c0_i32_1866 v2440
  let c0_i32_1867 : BitVec 32 := 0#32
  let v2442 : BitVec 1 := Scalar.cmpi .sgt v1529 c0_i32_1867
  let c0_i32_1171 : BitVec 32 := 0#32
  let v1572 : BitVec 32 := Scalar.addi c0_i32_1171 v1526
  let c10_i32_1868 : BitVec 32 := 10#32
  let v2443 : BitVec 1 := Scalar.cmpi .eq v1572 c10_i32_1868
  let v2444 : BitVec 1 := Scalar.andi v2442 v2443
  let c1_i32_1869 : BitVec 32 := 1#32
  let c0_i32_1870 : BitVec 32 := 0#32
  let v2445 : BitVec 32 := Scalar.select v2444 c1_i32_1869 c0_i32_1870
  let v2446 : BitVec 32 := Scalar.addi v2441 v2445
  let c0_i32_1871 : BitVec 32 := 0#32
  let v2447 : BitVec 1 := Scalar.cmpi .sgt v1532 c0_i32_1871
  let v1573 : BitVec 32 := Scalar.addi v1572 v1529
  let c10_i32_1872 : BitVec 32 := 10#32
  let v2448 : BitVec 1 := Scalar.cmpi .eq v1573 c10_i32_1872
  let v2449 : BitVec 1 := Scalar.andi v2447 v2448
  let c2_i32_1873 : BitVec 32 := 2#32
  let c0_i32_1874 : BitVec 32 := 0#32
  let v2450 : BitVec 32 := Scalar.select v2449 c2_i32_1873 c0_i32_1874
  let v2451 : BitVec 32 := Scalar.addi v2446 v2450
  let c0_i32_1875 : BitVec 32 := 0#32
  let v2452 : BitVec 1 := Scalar.cmpi .sgt v1535 c0_i32_1875
  let v1574 : BitVec 32 := Scalar.addi v1573 v1532
  let c10_i32_1876 : BitVec 32 := 10#32
  let v2453 : BitVec 1 := Scalar.cmpi .eq v1574 c10_i32_1876
  let v2454 : BitVec 1 := Scalar.andi v2452 v2453
  let c3_i32_1877 : BitVec 32 := 3#32
  let c0_i32_1878 : BitVec 32 := 0#32
  let v2455 : BitVec 32 := Scalar.select v2454 c3_i32_1877 c0_i32_1878
  let v2456 : BitVec 32 := Scalar.addi v2451 v2455
  let c0_i32_1879 : BitVec 32 := 0#32
  let v2457 : BitVec 1 := Scalar.cmpi .sgt v1538 c0_i32_1879
  let v1575 : BitVec 32 := Scalar.addi v1574 v1535
  let c10_i32_1880 : BitVec 32 := 10#32
  let v2458 : BitVec 1 := Scalar.cmpi .eq v1575 c10_i32_1880
  let v2459 : BitVec 1 := Scalar.andi v2457 v2458
  let c4_i32_1881 : BitVec 32 := 4#32
  let c0_i32_1882 : BitVec 32 := 0#32
  let v2460 : BitVec 32 := Scalar.select v2459 c4_i32_1881 c0_i32_1882
  let v2461 : BitVec 32 := Scalar.addi v2456 v2460
  let c0_i32_1883 : BitVec 32 := 0#32
  let v2462 : BitVec 1 := Scalar.cmpi .sgt v1541 c0_i32_1883
  let v1576 : BitVec 32 := Scalar.addi v1575 v1538
  let c10_i32_1884 : BitVec 32 := 10#32
  let v2463 : BitVec 1 := Scalar.cmpi .eq v1576 c10_i32_1884
  let v2464 : BitVec 1 := Scalar.andi v2462 v2463
  let c5_i32_1885 : BitVec 32 := 5#32
  let c0_i32_1886 : BitVec 32 := 0#32
  let v2465 : BitVec 32 := Scalar.select v2464 c5_i32_1885 c0_i32_1886
  let v2466 : BitVec 32 := Scalar.addi v2461 v2465
  let c0_i32_1887 : BitVec 32 := 0#32
  let v2467 : BitVec 1 := Scalar.cmpi .sgt v1544 c0_i32_1887
  let v1577 : BitVec 32 := Scalar.addi v1576 v1541
  let c10_i32_1888 : BitVec 32 := 10#32
  let v2468 : BitVec 1 := Scalar.cmpi .eq v1577 c10_i32_1888
  let v2469 : BitVec 1 := Scalar.andi v2467 v2468
  let c6_i32_1889 : BitVec 32 := 6#32
  let c0_i32_1890 : BitVec 32 := 0#32
  let v2470 : BitVec 32 := Scalar.select v2469 c6_i32_1889 c0_i32_1890
  let v2471 : BitVec 32 := Scalar.addi v2466 v2470
  let c0_i32_1891 : BitVec 32 := 0#32
  let v2472 : BitVec 1 := Scalar.cmpi .sgt v1547 c0_i32_1891
  let v1578 : BitVec 32 := Scalar.addi v1577 v1544
  let c10_i32_1892 : BitVec 32 := 10#32
  let v2473 : BitVec 1 := Scalar.cmpi .eq v1578 c10_i32_1892
  let v2474 : BitVec 1 := Scalar.andi v2472 v2473
  let c7_i32_1893 : BitVec 32 := 7#32
  let c0_i32_1894 : BitVec 32 := 0#32
  let v2475 : BitVec 32 := Scalar.select v2474 c7_i32_1893 c0_i32_1894
  let v2476 : BitVec 32 := Scalar.addi v2471 v2475
  let c0_i32_1895 : BitVec 32 := 0#32
  let v2477 : BitVec 1 := Scalar.cmpi .sgt v1550 c0_i32_1895
  let v1579 : BitVec 32 := Scalar.addi v1578 v1547
  let c10_i32_1896 : BitVec 32 := 10#32
  let v2478 : BitVec 1 := Scalar.cmpi .eq v1579 c10_i32_1896
  let v2479 : BitVec 1 := Scalar.andi v2477 v2478
  let c8_i32_1897 : BitVec 32 := 8#32
  let c0_i32_1898 : BitVec 32 := 0#32
  let v2480 : BitVec 32 := Scalar.select v2479 c8_i32_1897 c0_i32_1898
  let v2481 : BitVec 32 := Scalar.addi v2476 v2480
  let c0_i32_1899 : BitVec 32 := 0#32
  let v2482 : BitVec 1 := Scalar.cmpi .sgt v1553 c0_i32_1899
  let v1580 : BitVec 32 := Scalar.addi v1579 v1550
  let c10_i32_1900 : BitVec 32 := 10#32
  let v2483 : BitVec 1 := Scalar.cmpi .eq v1580 c10_i32_1900
  let v2484 : BitVec 1 := Scalar.andi v2482 v2483
  let c9_i32_1901 : BitVec 32 := 9#32
  let c0_i32_1902 : BitVec 32 := 0#32
  let v2485 : BitVec 32 := Scalar.select v2484 c9_i32_1901 c0_i32_1902
  let v2486 : BitVec 32 := Scalar.addi v2481 v2485
  let c0_i32_1903 : BitVec 32 := 0#32
  let v2487 : BitVec 1 := Scalar.cmpi .sgt v1556 c0_i32_1903
  let v1581 : BitVec 32 := Scalar.addi v1580 v1553
  let c10_i32_1904 : BitVec 32 := 10#32
  let v2488 : BitVec 1 := Scalar.cmpi .eq v1581 c10_i32_1904
  let v2489 : BitVec 1 := Scalar.andi v2487 v2488
  let c10_i32_1905 : BitVec 32 := 10#32
  let c0_i32_1906 : BitVec 32 := 0#32
  let v2490 : BitVec 32 := Scalar.select v2489 c10_i32_1905 c0_i32_1906
  let v2491 : BitVec 32 := Scalar.addi v2486 v2490
  let c0_i32_1907 : BitVec 32 := 0#32
  let v2492 : BitVec 1 := Scalar.cmpi .sgt v1559 c0_i32_1907
  let v1582 : BitVec 32 := Scalar.addi v1581 v1556
  let c10_i32_1908 : BitVec 32 := 10#32
  let v2493 : BitVec 1 := Scalar.cmpi .eq v1582 c10_i32_1908
  let v2494 : BitVec 1 := Scalar.andi v2492 v2493
  let c11_i32_1909 : BitVec 32 := 11#32
  let c0_i32_1910 : BitVec 32 := 0#32
  let v2495 : BitVec 32 := Scalar.select v2494 c11_i32_1909 c0_i32_1910
  let v2496 : BitVec 32 := Scalar.addi v2491 v2495
  let c0_i32_1911 : BitVec 32 := 0#32
  let v2497 : BitVec 1 := Scalar.cmpi .sgt v1562 c0_i32_1911
  let v1583 : BitVec 32 := Scalar.addi v1582 v1559
  let c10_i32_1912 : BitVec 32 := 10#32
  let v2498 : BitVec 1 := Scalar.cmpi .eq v1583 c10_i32_1912
  let v2499 : BitVec 1 := Scalar.andi v2497 v2498
  let c12_i32_1913 : BitVec 32 := 12#32
  let c0_i32_1914 : BitVec 32 := 0#32
  let v2500 : BitVec 32 := Scalar.select v2499 c12_i32_1913 c0_i32_1914
  let v2501 : BitVec 32 := Scalar.addi v2496 v2500
  let c0_i32_1915 : BitVec 32 := 0#32
  let v2502 : BitVec 1 := Scalar.cmpi .sgt v1565 c0_i32_1915
  let v1584 : BitVec 32 := Scalar.addi v1583 v1562
  let c10_i32_1916 : BitVec 32 := 10#32
  let v2503 : BitVec 1 := Scalar.cmpi .eq v1584 c10_i32_1916
  let v2504 : BitVec 1 := Scalar.andi v2502 v2503
  let c13_i32_1917 : BitVec 32 := 13#32
  let c0_i32_1918 : BitVec 32 := 0#32
  let v2505 : BitVec 32 := Scalar.select v2504 c13_i32_1917 c0_i32_1918
  let v2506 : BitVec 32 := Scalar.addi v2501 v2505
  let c0_i32_1919 : BitVec 32 := 0#32
  let v2507 : BitVec 1 := Scalar.cmpi .sgt v1568 c0_i32_1919
  let v1585 : BitVec 32 := Scalar.addi v1584 v1565
  let c10_i32_1920 : BitVec 32 := 10#32
  let v2508 : BitVec 1 := Scalar.cmpi .eq v1585 c10_i32_1920
  let v2509 : BitVec 1 := Scalar.andi v2507 v2508
  let c14_i32_1921 : BitVec 32 := 14#32
  let c0_i32_1922 : BitVec 32 := 0#32
  let v2510 : BitVec 32 := Scalar.select v2509 c14_i32_1921 c0_i32_1922
  let v2511 : BitVec 32 := Scalar.addi v2506 v2510
  let c0_i32_1923 : BitVec 32 := 0#32
  let v2512 : BitVec 1 := Scalar.cmpi .sgt v1571 c0_i32_1923
  let v1586 : BitVec 32 := Scalar.addi v1585 v1568
  let c10_i32_1924 : BitVec 32 := 10#32
  let v2513 : BitVec 1 := Scalar.cmpi .eq v1586 c10_i32_1924
  let v2514 : BitVec 1 := Scalar.andi v2512 v2513
  let c15_i32_1925 : BitVec 32 := 15#32
  let c0_i32_1926 : BitVec 32 := 0#32
  let v2515 : BitVec 32 := Scalar.select v2514 c15_i32_1925 c0_i32_1926
  let v2516 : BitVec 32 := Scalar.addi v2511 v2515
  let c640_i32_2377 : BitVec 32 := 640#32
  let v3176 : BitVec 32 := Scalar.muli v2516 c640_i32_2377
  ![v1523.toNat, v3176.toNat]
def k1_cond85 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c10_i32_1927 : BitVec 32 := 10#32
  let v2517 : BitVec 1 := Scalar.cmpi .sgt v1587 c10_i32_1927
  let v2518 : BitVec 32 := Scalar.extui v2517
  let c0_i32_1928 : BitVec 32 := 0#32
  let v2519 : BitVec 1 := Scalar.cmpi .ne v2518 c0_i32_1928
  v2519

def k1_off161 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c6400_i32_2377 : BitVec 32 := 6400#32
  ![v1523.toNat, 6400]
def k1_off162 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c7040_i32_2378 : BitVec 32 := 7040#32
  ![v1523.toNat, 7040]
def k1_off163 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_1935 : BitVec 32 := 0#32
  let c0_i32_1931 : BitVec 32 := 0#32
  let v2523 : BitVec 1 := Scalar.cmpi .sgt v1526 c0_i32_1931
  let false_1932 : BitVec 1 := 0#1
  let v2524 : BitVec 1 := Scalar.andi v2523 false_1932
  let c0_i32_1933 : BitVec 32 := 0#32
  let c0_i32_1934 : BitVec 32 := 0#32
  let v2525 : BitVec 32 := Scalar.select v2524 c0_i32_1933 c0_i32_1934
  let v2526 : BitVec 32 := Scalar.addi c0_i32_1935 v2525
  let c0_i32_1936 : BitVec 32 := 0#32
  let v2527 : BitVec 1 := Scalar.cmpi .sgt v1529 c0_i32_1936
  let c0_i32_1171 : BitVec 32 := 0#32
  let v1572 : BitVec 32 := Scalar.addi c0_i32_1171 v1526
  let c11_i32_1937 : BitVec 32 := 11#32
  let v2528 : BitVec 1 := Scalar.cmpi .eq v1572 c11_i32_1937
  let v2529 : BitVec 1 := Scalar.andi v2527 v2528
  let c1_i32_1938 : BitVec 32 := 1#32
  let c0_i32_1939 : BitVec 32 := 0#32
  let v2530 : BitVec 32 := Scalar.select v2529 c1_i32_1938 c0_i32_1939
  let v2531 : BitVec 32 := Scalar.addi v2526 v2530
  let c0_i32_1940 : BitVec 32 := 0#32
  let v2532 : BitVec 1 := Scalar.cmpi .sgt v1532 c0_i32_1940
  let v1573 : BitVec 32 := Scalar.addi v1572 v1529
  let c11_i32_1941 : BitVec 32 := 11#32
  let v2533 : BitVec 1 := Scalar.cmpi .eq v1573 c11_i32_1941
  let v2534 : BitVec 1 := Scalar.andi v2532 v2533
  let c2_i32_1942 : BitVec 32 := 2#32
  let c0_i32_1943 : BitVec 32 := 0#32
  let v2535 : BitVec 32 := Scalar.select v2534 c2_i32_1942 c0_i32_1943
  let v2536 : BitVec 32 := Scalar.addi v2531 v2535
  let c0_i32_1944 : BitVec 32 := 0#32
  let v2537 : BitVec 1 := Scalar.cmpi .sgt v1535 c0_i32_1944
  let v1574 : BitVec 32 := Scalar.addi v1573 v1532
  let c11_i32_1945 : BitVec 32 := 11#32
  let v2538 : BitVec 1 := Scalar.cmpi .eq v1574 c11_i32_1945
  let v2539 : BitVec 1 := Scalar.andi v2537 v2538
  let c3_i32_1946 : BitVec 32 := 3#32
  let c0_i32_1947 : BitVec 32 := 0#32
  let v2540 : BitVec 32 := Scalar.select v2539 c3_i32_1946 c0_i32_1947
  let v2541 : BitVec 32 := Scalar.addi v2536 v2540
  let c0_i32_1948 : BitVec 32 := 0#32
  let v2542 : BitVec 1 := Scalar.cmpi .sgt v1538 c0_i32_1948
  let v1575 : BitVec 32 := Scalar.addi v1574 v1535
  let c11_i32_1949 : BitVec 32 := 11#32
  let v2543 : BitVec 1 := Scalar.cmpi .eq v1575 c11_i32_1949
  let v2544 : BitVec 1 := Scalar.andi v2542 v2543
  let c4_i32_1950 : BitVec 32 := 4#32
  let c0_i32_1951 : BitVec 32 := 0#32
  let v2545 : BitVec 32 := Scalar.select v2544 c4_i32_1950 c0_i32_1951
  let v2546 : BitVec 32 := Scalar.addi v2541 v2545
  let c0_i32_1952 : BitVec 32 := 0#32
  let v2547 : BitVec 1 := Scalar.cmpi .sgt v1541 c0_i32_1952
  let v1576 : BitVec 32 := Scalar.addi v1575 v1538
  let c11_i32_1953 : BitVec 32 := 11#32
  let v2548 : BitVec 1 := Scalar.cmpi .eq v1576 c11_i32_1953
  let v2549 : BitVec 1 := Scalar.andi v2547 v2548
  let c5_i32_1954 : BitVec 32 := 5#32
  let c0_i32_1955 : BitVec 32 := 0#32
  let v2550 : BitVec 32 := Scalar.select v2549 c5_i32_1954 c0_i32_1955
  let v2551 : BitVec 32 := Scalar.addi v2546 v2550
  let c0_i32_1956 : BitVec 32 := 0#32
  let v2552 : BitVec 1 := Scalar.cmpi .sgt v1544 c0_i32_1956
  let v1577 : BitVec 32 := Scalar.addi v1576 v1541
  let c11_i32_1957 : BitVec 32 := 11#32
  let v2553 : BitVec 1 := Scalar.cmpi .eq v1577 c11_i32_1957
  let v2554 : BitVec 1 := Scalar.andi v2552 v2553
  let c6_i32_1958 : BitVec 32 := 6#32
  let c0_i32_1959 : BitVec 32 := 0#32
  let v2555 : BitVec 32 := Scalar.select v2554 c6_i32_1958 c0_i32_1959
  let v2556 : BitVec 32 := Scalar.addi v2551 v2555
  let c0_i32_1960 : BitVec 32 := 0#32
  let v2557 : BitVec 1 := Scalar.cmpi .sgt v1547 c0_i32_1960
  let v1578 : BitVec 32 := Scalar.addi v1577 v1544
  let c11_i32_1961 : BitVec 32 := 11#32
  let v2558 : BitVec 1 := Scalar.cmpi .eq v1578 c11_i32_1961
  let v2559 : BitVec 1 := Scalar.andi v2557 v2558
  let c7_i32_1962 : BitVec 32 := 7#32
  let c0_i32_1963 : BitVec 32 := 0#32
  let v2560 : BitVec 32 := Scalar.select v2559 c7_i32_1962 c0_i32_1963
  let v2561 : BitVec 32 := Scalar.addi v2556 v2560
  let c0_i32_1964 : BitVec 32 := 0#32
  let v2562 : BitVec 1 := Scalar.cmpi .sgt v1550 c0_i32_1964
  let v1579 : BitVec 32 := Scalar.addi v1578 v1547
  let c11_i32_1965 : BitVec 32 := 11#32
  let v2563 : BitVec 1 := Scalar.cmpi .eq v1579 c11_i32_1965
  let v2564 : BitVec 1 := Scalar.andi v2562 v2563
  let c8_i32_1966 : BitVec 32 := 8#32
  let c0_i32_1967 : BitVec 32 := 0#32
  let v2565 : BitVec 32 := Scalar.select v2564 c8_i32_1966 c0_i32_1967
  let v2566 : BitVec 32 := Scalar.addi v2561 v2565
  let c0_i32_1968 : BitVec 32 := 0#32
  let v2567 : BitVec 1 := Scalar.cmpi .sgt v1553 c0_i32_1968
  let v1580 : BitVec 32 := Scalar.addi v1579 v1550
  let c11_i32_1969 : BitVec 32 := 11#32
  let v2568 : BitVec 1 := Scalar.cmpi .eq v1580 c11_i32_1969
  let v2569 : BitVec 1 := Scalar.andi v2567 v2568
  let c9_i32_1970 : BitVec 32 := 9#32
  let c0_i32_1971 : BitVec 32 := 0#32
  let v2570 : BitVec 32 := Scalar.select v2569 c9_i32_1970 c0_i32_1971
  let v2571 : BitVec 32 := Scalar.addi v2566 v2570
  let c0_i32_1972 : BitVec 32 := 0#32
  let v2572 : BitVec 1 := Scalar.cmpi .sgt v1556 c0_i32_1972
  let v1581 : BitVec 32 := Scalar.addi v1580 v1553
  let c11_i32_1973 : BitVec 32 := 11#32
  let v2573 : BitVec 1 := Scalar.cmpi .eq v1581 c11_i32_1973
  let v2574 : BitVec 1 := Scalar.andi v2572 v2573
  let c10_i32_1974 : BitVec 32 := 10#32
  let c0_i32_1975 : BitVec 32 := 0#32
  let v2575 : BitVec 32 := Scalar.select v2574 c10_i32_1974 c0_i32_1975
  let v2576 : BitVec 32 := Scalar.addi v2571 v2575
  let c0_i32_1976 : BitVec 32 := 0#32
  let v2577 : BitVec 1 := Scalar.cmpi .sgt v1559 c0_i32_1976
  let v1582 : BitVec 32 := Scalar.addi v1581 v1556
  let c11_i32_1977 : BitVec 32 := 11#32
  let v2578 : BitVec 1 := Scalar.cmpi .eq v1582 c11_i32_1977
  let v2579 : BitVec 1 := Scalar.andi v2577 v2578
  let c11_i32_1978 : BitVec 32 := 11#32
  let c0_i32_1979 : BitVec 32 := 0#32
  let v2580 : BitVec 32 := Scalar.select v2579 c11_i32_1978 c0_i32_1979
  let v2581 : BitVec 32 := Scalar.addi v2576 v2580
  let c0_i32_1980 : BitVec 32 := 0#32
  let v2582 : BitVec 1 := Scalar.cmpi .sgt v1562 c0_i32_1980
  let v1583 : BitVec 32 := Scalar.addi v1582 v1559
  let c11_i32_1981 : BitVec 32 := 11#32
  let v2583 : BitVec 1 := Scalar.cmpi .eq v1583 c11_i32_1981
  let v2584 : BitVec 1 := Scalar.andi v2582 v2583
  let c12_i32_1982 : BitVec 32 := 12#32
  let c0_i32_1983 : BitVec 32 := 0#32
  let v2585 : BitVec 32 := Scalar.select v2584 c12_i32_1982 c0_i32_1983
  let v2586 : BitVec 32 := Scalar.addi v2581 v2585
  let c0_i32_1984 : BitVec 32 := 0#32
  let v2587 : BitVec 1 := Scalar.cmpi .sgt v1565 c0_i32_1984
  let v1584 : BitVec 32 := Scalar.addi v1583 v1562
  let c11_i32_1985 : BitVec 32 := 11#32
  let v2588 : BitVec 1 := Scalar.cmpi .eq v1584 c11_i32_1985
  let v2589 : BitVec 1 := Scalar.andi v2587 v2588
  let c13_i32_1986 : BitVec 32 := 13#32
  let c0_i32_1987 : BitVec 32 := 0#32
  let v2590 : BitVec 32 := Scalar.select v2589 c13_i32_1986 c0_i32_1987
  let v2591 : BitVec 32 := Scalar.addi v2586 v2590
  let c0_i32_1988 : BitVec 32 := 0#32
  let v2592 : BitVec 1 := Scalar.cmpi .sgt v1568 c0_i32_1988
  let v1585 : BitVec 32 := Scalar.addi v1584 v1565
  let c11_i32_1989 : BitVec 32 := 11#32
  let v2593 : BitVec 1 := Scalar.cmpi .eq v1585 c11_i32_1989
  let v2594 : BitVec 1 := Scalar.andi v2592 v2593
  let c14_i32_1990 : BitVec 32 := 14#32
  let c0_i32_1991 : BitVec 32 := 0#32
  let v2595 : BitVec 32 := Scalar.select v2594 c14_i32_1990 c0_i32_1991
  let v2596 : BitVec 32 := Scalar.addi v2591 v2595
  let c0_i32_1992 : BitVec 32 := 0#32
  let v2597 : BitVec 1 := Scalar.cmpi .sgt v1571 c0_i32_1992
  let v1586 : BitVec 32 := Scalar.addi v1585 v1568
  let c11_i32_1993 : BitVec 32 := 11#32
  let v2598 : BitVec 1 := Scalar.cmpi .eq v1586 c11_i32_1993
  let v2599 : BitVec 1 := Scalar.andi v2597 v2598
  let c15_i32_1994 : BitVec 32 := 15#32
  let c0_i32_1995 : BitVec 32 := 0#32
  let v2600 : BitVec 32 := Scalar.select v2599 c15_i32_1994 c0_i32_1995
  let v2601 : BitVec 32 := Scalar.addi v2596 v2600
  let c640_i32_2377 : BitVec 32 := 640#32
  let v3176 : BitVec 32 := Scalar.muli v2601 c640_i32_2377
  ![v1523.toNat, v3176.toNat]
def k1_cond87 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c11_i32_1996 : BitVec 32 := 11#32
  let v2602 : BitVec 1 := Scalar.cmpi .sgt v1587 c11_i32_1996
  let v2603 : BitVec 32 := Scalar.extui v2602
  let c0_i32_1997 : BitVec 32 := 0#32
  let v2604 : BitVec 1 := Scalar.cmpi .ne v2603 c0_i32_1997
  v2604

def k1_off164 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c7040_i32_2377 : BitVec 32 := 7040#32
  ![v1523.toNat, 7040]
def k1_off165 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c7680_i32_2378 : BitVec 32 := 7680#32
  ![v1523.toNat, 7680]
def k1_off166 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2004 : BitVec 32 := 0#32
  let c0_i32_2000 : BitVec 32 := 0#32
  let v2608 : BitVec 1 := Scalar.cmpi .sgt v1526 c0_i32_2000
  let false_2001 : BitVec 1 := 0#1
  let v2609 : BitVec 1 := Scalar.andi v2608 false_2001
  let c0_i32_2002 : BitVec 32 := 0#32
  let c0_i32_2003 : BitVec 32 := 0#32
  let v2610 : BitVec 32 := Scalar.select v2609 c0_i32_2002 c0_i32_2003
  let v2611 : BitVec 32 := Scalar.addi c0_i32_2004 v2610
  let c0_i32_2005 : BitVec 32 := 0#32
  let v2612 : BitVec 1 := Scalar.cmpi .sgt v1529 c0_i32_2005
  let c0_i32_1171 : BitVec 32 := 0#32
  let v1572 : BitVec 32 := Scalar.addi c0_i32_1171 v1526
  let c12_i32_2006 : BitVec 32 := 12#32
  let v2613 : BitVec 1 := Scalar.cmpi .eq v1572 c12_i32_2006
  let v2614 : BitVec 1 := Scalar.andi v2612 v2613
  let c1_i32_2007 : BitVec 32 := 1#32
  let c0_i32_2008 : BitVec 32 := 0#32
  let v2615 : BitVec 32 := Scalar.select v2614 c1_i32_2007 c0_i32_2008
  let v2616 : BitVec 32 := Scalar.addi v2611 v2615
  let c0_i32_2009 : BitVec 32 := 0#32
  let v2617 : BitVec 1 := Scalar.cmpi .sgt v1532 c0_i32_2009
  let v1573 : BitVec 32 := Scalar.addi v1572 v1529
  let c12_i32_2010 : BitVec 32 := 12#32
  let v2618 : BitVec 1 := Scalar.cmpi .eq v1573 c12_i32_2010
  let v2619 : BitVec 1 := Scalar.andi v2617 v2618
  let c2_i32_2011 : BitVec 32 := 2#32
  let c0_i32_2012 : BitVec 32 := 0#32
  let v2620 : BitVec 32 := Scalar.select v2619 c2_i32_2011 c0_i32_2012
  let v2621 : BitVec 32 := Scalar.addi v2616 v2620
  let c0_i32_2013 : BitVec 32 := 0#32
  let v2622 : BitVec 1 := Scalar.cmpi .sgt v1535 c0_i32_2013
  let v1574 : BitVec 32 := Scalar.addi v1573 v1532
  let c12_i32_2014 : BitVec 32 := 12#32
  let v2623 : BitVec 1 := Scalar.cmpi .eq v1574 c12_i32_2014
  let v2624 : BitVec 1 := Scalar.andi v2622 v2623
  let c3_i32_2015 : BitVec 32 := 3#32
  let c0_i32_2016 : BitVec 32 := 0#32
  let v2625 : BitVec 32 := Scalar.select v2624 c3_i32_2015 c0_i32_2016
  let v2626 : BitVec 32 := Scalar.addi v2621 v2625
  let c0_i32_2017 : BitVec 32 := 0#32
  let v2627 : BitVec 1 := Scalar.cmpi .sgt v1538 c0_i32_2017
  let v1575 : BitVec 32 := Scalar.addi v1574 v1535
  let c12_i32_2018 : BitVec 32 := 12#32
  let v2628 : BitVec 1 := Scalar.cmpi .eq v1575 c12_i32_2018
  let v2629 : BitVec 1 := Scalar.andi v2627 v2628
  let c4_i32_2019 : BitVec 32 := 4#32
  let c0_i32_2020 : BitVec 32 := 0#32
  let v2630 : BitVec 32 := Scalar.select v2629 c4_i32_2019 c0_i32_2020
  let v2631 : BitVec 32 := Scalar.addi v2626 v2630
  let c0_i32_2021 : BitVec 32 := 0#32
  let v2632 : BitVec 1 := Scalar.cmpi .sgt v1541 c0_i32_2021
  let v1576 : BitVec 32 := Scalar.addi v1575 v1538
  let c12_i32_2022 : BitVec 32 := 12#32
  let v2633 : BitVec 1 := Scalar.cmpi .eq v1576 c12_i32_2022
  let v2634 : BitVec 1 := Scalar.andi v2632 v2633
  let c5_i32_2023 : BitVec 32 := 5#32
  let c0_i32_2024 : BitVec 32 := 0#32
  let v2635 : BitVec 32 := Scalar.select v2634 c5_i32_2023 c0_i32_2024
  let v2636 : BitVec 32 := Scalar.addi v2631 v2635
  let c0_i32_2025 : BitVec 32 := 0#32
  let v2637 : BitVec 1 := Scalar.cmpi .sgt v1544 c0_i32_2025
  let v1577 : BitVec 32 := Scalar.addi v1576 v1541
  let c12_i32_2026 : BitVec 32 := 12#32
  let v2638 : BitVec 1 := Scalar.cmpi .eq v1577 c12_i32_2026
  let v2639 : BitVec 1 := Scalar.andi v2637 v2638
  let c6_i32_2027 : BitVec 32 := 6#32
  let c0_i32_2028 : BitVec 32 := 0#32
  let v2640 : BitVec 32 := Scalar.select v2639 c6_i32_2027 c0_i32_2028
  let v2641 : BitVec 32 := Scalar.addi v2636 v2640
  let c0_i32_2029 : BitVec 32 := 0#32
  let v2642 : BitVec 1 := Scalar.cmpi .sgt v1547 c0_i32_2029
  let v1578 : BitVec 32 := Scalar.addi v1577 v1544
  let c12_i32_2030 : BitVec 32 := 12#32
  let v2643 : BitVec 1 := Scalar.cmpi .eq v1578 c12_i32_2030
  let v2644 : BitVec 1 := Scalar.andi v2642 v2643
  let c7_i32_2031 : BitVec 32 := 7#32
  let c0_i32_2032 : BitVec 32 := 0#32
  let v2645 : BitVec 32 := Scalar.select v2644 c7_i32_2031 c0_i32_2032
  let v2646 : BitVec 32 := Scalar.addi v2641 v2645
  let c0_i32_2033 : BitVec 32 := 0#32
  let v2647 : BitVec 1 := Scalar.cmpi .sgt v1550 c0_i32_2033
  let v1579 : BitVec 32 := Scalar.addi v1578 v1547
  let c12_i32_2034 : BitVec 32 := 12#32
  let v2648 : BitVec 1 := Scalar.cmpi .eq v1579 c12_i32_2034
  let v2649 : BitVec 1 := Scalar.andi v2647 v2648
  let c8_i32_2035 : BitVec 32 := 8#32
  let c0_i32_2036 : BitVec 32 := 0#32
  let v2650 : BitVec 32 := Scalar.select v2649 c8_i32_2035 c0_i32_2036
  let v2651 : BitVec 32 := Scalar.addi v2646 v2650
  let c0_i32_2037 : BitVec 32 := 0#32
  let v2652 : BitVec 1 := Scalar.cmpi .sgt v1553 c0_i32_2037
  let v1580 : BitVec 32 := Scalar.addi v1579 v1550
  let c12_i32_2038 : BitVec 32 := 12#32
  let v2653 : BitVec 1 := Scalar.cmpi .eq v1580 c12_i32_2038
  let v2654 : BitVec 1 := Scalar.andi v2652 v2653
  let c9_i32_2039 : BitVec 32 := 9#32
  let c0_i32_2040 : BitVec 32 := 0#32
  let v2655 : BitVec 32 := Scalar.select v2654 c9_i32_2039 c0_i32_2040
  let v2656 : BitVec 32 := Scalar.addi v2651 v2655
  let c0_i32_2041 : BitVec 32 := 0#32
  let v2657 : BitVec 1 := Scalar.cmpi .sgt v1556 c0_i32_2041
  let v1581 : BitVec 32 := Scalar.addi v1580 v1553
  let c12_i32_2042 : BitVec 32 := 12#32
  let v2658 : BitVec 1 := Scalar.cmpi .eq v1581 c12_i32_2042
  let v2659 : BitVec 1 := Scalar.andi v2657 v2658
  let c10_i32_2043 : BitVec 32 := 10#32
  let c0_i32_2044 : BitVec 32 := 0#32
  let v2660 : BitVec 32 := Scalar.select v2659 c10_i32_2043 c0_i32_2044
  let v2661 : BitVec 32 := Scalar.addi v2656 v2660
  let c0_i32_2045 : BitVec 32 := 0#32
  let v2662 : BitVec 1 := Scalar.cmpi .sgt v1559 c0_i32_2045
  let v1582 : BitVec 32 := Scalar.addi v1581 v1556
  let c12_i32_2046 : BitVec 32 := 12#32
  let v2663 : BitVec 1 := Scalar.cmpi .eq v1582 c12_i32_2046
  let v2664 : BitVec 1 := Scalar.andi v2662 v2663
  let c11_i32_2047 : BitVec 32 := 11#32
  let c0_i32_2048 : BitVec 32 := 0#32
  let v2665 : BitVec 32 := Scalar.select v2664 c11_i32_2047 c0_i32_2048
  let v2666 : BitVec 32 := Scalar.addi v2661 v2665
  let c0_i32_2049 : BitVec 32 := 0#32
  let v2667 : BitVec 1 := Scalar.cmpi .sgt v1562 c0_i32_2049
  let v1583 : BitVec 32 := Scalar.addi v1582 v1559
  let c12_i32_2050 : BitVec 32 := 12#32
  let v2668 : BitVec 1 := Scalar.cmpi .eq v1583 c12_i32_2050
  let v2669 : BitVec 1 := Scalar.andi v2667 v2668
  let c12_i32_2051 : BitVec 32 := 12#32
  let c0_i32_2052 : BitVec 32 := 0#32
  let v2670 : BitVec 32 := Scalar.select v2669 c12_i32_2051 c0_i32_2052
  let v2671 : BitVec 32 := Scalar.addi v2666 v2670
  let c0_i32_2053 : BitVec 32 := 0#32
  let v2672 : BitVec 1 := Scalar.cmpi .sgt v1565 c0_i32_2053
  let v1584 : BitVec 32 := Scalar.addi v1583 v1562
  let c12_i32_2054 : BitVec 32 := 12#32
  let v2673 : BitVec 1 := Scalar.cmpi .eq v1584 c12_i32_2054
  let v2674 : BitVec 1 := Scalar.andi v2672 v2673
  let c13_i32_2055 : BitVec 32 := 13#32
  let c0_i32_2056 : BitVec 32 := 0#32
  let v2675 : BitVec 32 := Scalar.select v2674 c13_i32_2055 c0_i32_2056
  let v2676 : BitVec 32 := Scalar.addi v2671 v2675
  let c0_i32_2057 : BitVec 32 := 0#32
  let v2677 : BitVec 1 := Scalar.cmpi .sgt v1568 c0_i32_2057
  let v1585 : BitVec 32 := Scalar.addi v1584 v1565
  let c12_i32_2058 : BitVec 32 := 12#32
  let v2678 : BitVec 1 := Scalar.cmpi .eq v1585 c12_i32_2058
  let v2679 : BitVec 1 := Scalar.andi v2677 v2678
  let c14_i32_2059 : BitVec 32 := 14#32
  let c0_i32_2060 : BitVec 32 := 0#32
  let v2680 : BitVec 32 := Scalar.select v2679 c14_i32_2059 c0_i32_2060
  let v2681 : BitVec 32 := Scalar.addi v2676 v2680
  let c0_i32_2061 : BitVec 32 := 0#32
  let v2682 : BitVec 1 := Scalar.cmpi .sgt v1571 c0_i32_2061
  let v1586 : BitVec 32 := Scalar.addi v1585 v1568
  let c12_i32_2062 : BitVec 32 := 12#32
  let v2683 : BitVec 1 := Scalar.cmpi .eq v1586 c12_i32_2062
  let v2684 : BitVec 1 := Scalar.andi v2682 v2683
  let c15_i32_2063 : BitVec 32 := 15#32
  let c0_i32_2064 : BitVec 32 := 0#32
  let v2685 : BitVec 32 := Scalar.select v2684 c15_i32_2063 c0_i32_2064
  let v2686 : BitVec 32 := Scalar.addi v2681 v2685
  let c640_i32_2377 : BitVec 32 := 640#32
  let v3176 : BitVec 32 := Scalar.muli v2686 c640_i32_2377
  ![v1523.toNat, v3176.toNat]
def k1_cond89 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c12_i32_2065 : BitVec 32 := 12#32
  let v2687 : BitVec 1 := Scalar.cmpi .sgt v1587 c12_i32_2065
  let v2688 : BitVec 32 := Scalar.extui v2687
  let c0_i32_2066 : BitVec 32 := 0#32
  let v2689 : BitVec 1 := Scalar.cmpi .ne v2688 c0_i32_2066
  v2689

def k1_off167 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c7680_i32_2377 : BitVec 32 := 7680#32
  ![v1523.toNat, 7680]
def k1_off168 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c8320_i32_2378 : BitVec 32 := 8320#32
  ![v1523.toNat, 8320]
def k1_off169 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2073 : BitVec 32 := 0#32
  let c0_i32_2069 : BitVec 32 := 0#32
  let v2693 : BitVec 1 := Scalar.cmpi .sgt v1526 c0_i32_2069
  let false_2070 : BitVec 1 := 0#1
  let v2694 : BitVec 1 := Scalar.andi v2693 false_2070
  let c0_i32_2071 : BitVec 32 := 0#32
  let c0_i32_2072 : BitVec 32 := 0#32
  let v2695 : BitVec 32 := Scalar.select v2694 c0_i32_2071 c0_i32_2072
  let v2696 : BitVec 32 := Scalar.addi c0_i32_2073 v2695
  let c0_i32_2074 : BitVec 32 := 0#32
  let v2697 : BitVec 1 := Scalar.cmpi .sgt v1529 c0_i32_2074
  let c0_i32_1171 : BitVec 32 := 0#32
  let v1572 : BitVec 32 := Scalar.addi c0_i32_1171 v1526
  let c13_i32_2075 : BitVec 32 := 13#32
  let v2698 : BitVec 1 := Scalar.cmpi .eq v1572 c13_i32_2075
  let v2699 : BitVec 1 := Scalar.andi v2697 v2698
  let c1_i32_2076 : BitVec 32 := 1#32
  let c0_i32_2077 : BitVec 32 := 0#32
  let v2700 : BitVec 32 := Scalar.select v2699 c1_i32_2076 c0_i32_2077
  let v2701 : BitVec 32 := Scalar.addi v2696 v2700
  let c0_i32_2078 : BitVec 32 := 0#32
  let v2702 : BitVec 1 := Scalar.cmpi .sgt v1532 c0_i32_2078
  let v1573 : BitVec 32 := Scalar.addi v1572 v1529
  let c13_i32_2079 : BitVec 32 := 13#32
  let v2703 : BitVec 1 := Scalar.cmpi .eq v1573 c13_i32_2079
  let v2704 : BitVec 1 := Scalar.andi v2702 v2703
  let c2_i32_2080 : BitVec 32 := 2#32
  let c0_i32_2081 : BitVec 32 := 0#32
  let v2705 : BitVec 32 := Scalar.select v2704 c2_i32_2080 c0_i32_2081
  let v2706 : BitVec 32 := Scalar.addi v2701 v2705
  let c0_i32_2082 : BitVec 32 := 0#32
  let v2707 : BitVec 1 := Scalar.cmpi .sgt v1535 c0_i32_2082
  let v1574 : BitVec 32 := Scalar.addi v1573 v1532
  let c13_i32_2083 : BitVec 32 := 13#32
  let v2708 : BitVec 1 := Scalar.cmpi .eq v1574 c13_i32_2083
  let v2709 : BitVec 1 := Scalar.andi v2707 v2708
  let c3_i32_2084 : BitVec 32 := 3#32
  let c0_i32_2085 : BitVec 32 := 0#32
  let v2710 : BitVec 32 := Scalar.select v2709 c3_i32_2084 c0_i32_2085
  let v2711 : BitVec 32 := Scalar.addi v2706 v2710
  let c0_i32_2086 : BitVec 32 := 0#32
  let v2712 : BitVec 1 := Scalar.cmpi .sgt v1538 c0_i32_2086
  let v1575 : BitVec 32 := Scalar.addi v1574 v1535
  let c13_i32_2087 : BitVec 32 := 13#32
  let v2713 : BitVec 1 := Scalar.cmpi .eq v1575 c13_i32_2087
  let v2714 : BitVec 1 := Scalar.andi v2712 v2713
  let c4_i32_2088 : BitVec 32 := 4#32
  let c0_i32_2089 : BitVec 32 := 0#32
  let v2715 : BitVec 32 := Scalar.select v2714 c4_i32_2088 c0_i32_2089
  let v2716 : BitVec 32 := Scalar.addi v2711 v2715
  let c0_i32_2090 : BitVec 32 := 0#32
  let v2717 : BitVec 1 := Scalar.cmpi .sgt v1541 c0_i32_2090
  let v1576 : BitVec 32 := Scalar.addi v1575 v1538
  let c13_i32_2091 : BitVec 32 := 13#32
  let v2718 : BitVec 1 := Scalar.cmpi .eq v1576 c13_i32_2091
  let v2719 : BitVec 1 := Scalar.andi v2717 v2718
  let c5_i32_2092 : BitVec 32 := 5#32
  let c0_i32_2093 : BitVec 32 := 0#32
  let v2720 : BitVec 32 := Scalar.select v2719 c5_i32_2092 c0_i32_2093
  let v2721 : BitVec 32 := Scalar.addi v2716 v2720
  let c0_i32_2094 : BitVec 32 := 0#32
  let v2722 : BitVec 1 := Scalar.cmpi .sgt v1544 c0_i32_2094
  let v1577 : BitVec 32 := Scalar.addi v1576 v1541
  let c13_i32_2095 : BitVec 32 := 13#32
  let v2723 : BitVec 1 := Scalar.cmpi .eq v1577 c13_i32_2095
  let v2724 : BitVec 1 := Scalar.andi v2722 v2723
  let c6_i32_2096 : BitVec 32 := 6#32
  let c0_i32_2097 : BitVec 32 := 0#32
  let v2725 : BitVec 32 := Scalar.select v2724 c6_i32_2096 c0_i32_2097
  let v2726 : BitVec 32 := Scalar.addi v2721 v2725
  let c0_i32_2098 : BitVec 32 := 0#32
  let v2727 : BitVec 1 := Scalar.cmpi .sgt v1547 c0_i32_2098
  let v1578 : BitVec 32 := Scalar.addi v1577 v1544
  let c13_i32_2099 : BitVec 32 := 13#32
  let v2728 : BitVec 1 := Scalar.cmpi .eq v1578 c13_i32_2099
  let v2729 : BitVec 1 := Scalar.andi v2727 v2728
  let c7_i32_2100 : BitVec 32 := 7#32
  let c0_i32_2101 : BitVec 32 := 0#32
  let v2730 : BitVec 32 := Scalar.select v2729 c7_i32_2100 c0_i32_2101
  let v2731 : BitVec 32 := Scalar.addi v2726 v2730
  let c0_i32_2102 : BitVec 32 := 0#32
  let v2732 : BitVec 1 := Scalar.cmpi .sgt v1550 c0_i32_2102
  let v1579 : BitVec 32 := Scalar.addi v1578 v1547
  let c13_i32_2103 : BitVec 32 := 13#32
  let v2733 : BitVec 1 := Scalar.cmpi .eq v1579 c13_i32_2103
  let v2734 : BitVec 1 := Scalar.andi v2732 v2733
  let c8_i32_2104 : BitVec 32 := 8#32
  let c0_i32_2105 : BitVec 32 := 0#32
  let v2735 : BitVec 32 := Scalar.select v2734 c8_i32_2104 c0_i32_2105
  let v2736 : BitVec 32 := Scalar.addi v2731 v2735
  let c0_i32_2106 : BitVec 32 := 0#32
  let v2737 : BitVec 1 := Scalar.cmpi .sgt v1553 c0_i32_2106
  let v1580 : BitVec 32 := Scalar.addi v1579 v1550
  let c13_i32_2107 : BitVec 32 := 13#32
  let v2738 : BitVec 1 := Scalar.cmpi .eq v1580 c13_i32_2107
  let v2739 : BitVec 1 := Scalar.andi v2737 v2738
  let c9_i32_2108 : BitVec 32 := 9#32
  let c0_i32_2109 : BitVec 32 := 0#32
  let v2740 : BitVec 32 := Scalar.select v2739 c9_i32_2108 c0_i32_2109
  let v2741 : BitVec 32 := Scalar.addi v2736 v2740
  let c0_i32_2110 : BitVec 32 := 0#32
  let v2742 : BitVec 1 := Scalar.cmpi .sgt v1556 c0_i32_2110
  let v1581 : BitVec 32 := Scalar.addi v1580 v1553
  let c13_i32_2111 : BitVec 32 := 13#32
  let v2743 : BitVec 1 := Scalar.cmpi .eq v1581 c13_i32_2111
  let v2744 : BitVec 1 := Scalar.andi v2742 v2743
  let c10_i32_2112 : BitVec 32 := 10#32
  let c0_i32_2113 : BitVec 32 := 0#32
  let v2745 : BitVec 32 := Scalar.select v2744 c10_i32_2112 c0_i32_2113
  let v2746 : BitVec 32 := Scalar.addi v2741 v2745
  let c0_i32_2114 : BitVec 32 := 0#32
  let v2747 : BitVec 1 := Scalar.cmpi .sgt v1559 c0_i32_2114
  let v1582 : BitVec 32 := Scalar.addi v1581 v1556
  let c13_i32_2115 : BitVec 32 := 13#32
  let v2748 : BitVec 1 := Scalar.cmpi .eq v1582 c13_i32_2115
  let v2749 : BitVec 1 := Scalar.andi v2747 v2748
  let c11_i32_2116 : BitVec 32 := 11#32
  let c0_i32_2117 : BitVec 32 := 0#32
  let v2750 : BitVec 32 := Scalar.select v2749 c11_i32_2116 c0_i32_2117
  let v2751 : BitVec 32 := Scalar.addi v2746 v2750
  let c0_i32_2118 : BitVec 32 := 0#32
  let v2752 : BitVec 1 := Scalar.cmpi .sgt v1562 c0_i32_2118
  let v1583 : BitVec 32 := Scalar.addi v1582 v1559
  let c13_i32_2119 : BitVec 32 := 13#32
  let v2753 : BitVec 1 := Scalar.cmpi .eq v1583 c13_i32_2119
  let v2754 : BitVec 1 := Scalar.andi v2752 v2753
  let c12_i32_2120 : BitVec 32 := 12#32
  let c0_i32_2121 : BitVec 32 := 0#32
  let v2755 : BitVec 32 := Scalar.select v2754 c12_i32_2120 c0_i32_2121
  let v2756 : BitVec 32 := Scalar.addi v2751 v2755
  let c0_i32_2122 : BitVec 32 := 0#32
  let v2757 : BitVec 1 := Scalar.cmpi .sgt v1565 c0_i32_2122
  let v1584 : BitVec 32 := Scalar.addi v1583 v1562
  let c13_i32_2123 : BitVec 32 := 13#32
  let v2758 : BitVec 1 := Scalar.cmpi .eq v1584 c13_i32_2123
  let v2759 : BitVec 1 := Scalar.andi v2757 v2758
  let c13_i32_2124 : BitVec 32 := 13#32
  let c0_i32_2125 : BitVec 32 := 0#32
  let v2760 : BitVec 32 := Scalar.select v2759 c13_i32_2124 c0_i32_2125
  let v2761 : BitVec 32 := Scalar.addi v2756 v2760
  let c0_i32_2126 : BitVec 32 := 0#32
  let v2762 : BitVec 1 := Scalar.cmpi .sgt v1568 c0_i32_2126
  let v1585 : BitVec 32 := Scalar.addi v1584 v1565
  let c13_i32_2127 : BitVec 32 := 13#32
  let v2763 : BitVec 1 := Scalar.cmpi .eq v1585 c13_i32_2127
  let v2764 : BitVec 1 := Scalar.andi v2762 v2763
  let c14_i32_2128 : BitVec 32 := 14#32
  let c0_i32_2129 : BitVec 32 := 0#32
  let v2765 : BitVec 32 := Scalar.select v2764 c14_i32_2128 c0_i32_2129
  let v2766 : BitVec 32 := Scalar.addi v2761 v2765
  let c0_i32_2130 : BitVec 32 := 0#32
  let v2767 : BitVec 1 := Scalar.cmpi .sgt v1571 c0_i32_2130
  let v1586 : BitVec 32 := Scalar.addi v1585 v1568
  let c13_i32_2131 : BitVec 32 := 13#32
  let v2768 : BitVec 1 := Scalar.cmpi .eq v1586 c13_i32_2131
  let v2769 : BitVec 1 := Scalar.andi v2767 v2768
  let c15_i32_2132 : BitVec 32 := 15#32
  let c0_i32_2133 : BitVec 32 := 0#32
  let v2770 : BitVec 32 := Scalar.select v2769 c15_i32_2132 c0_i32_2133
  let v2771 : BitVec 32 := Scalar.addi v2766 v2770
  let c640_i32_2377 : BitVec 32 := 640#32
  let v3176 : BitVec 32 := Scalar.muli v2771 c640_i32_2377
  ![v1523.toNat, v3176.toNat]
def k1_cond91 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c13_i32_2134 : BitVec 32 := 13#32
  let v2772 : BitVec 1 := Scalar.cmpi .sgt v1587 c13_i32_2134
  let v2773 : BitVec 32 := Scalar.extui v2772
  let c0_i32_2135 : BitVec 32 := 0#32
  let v2774 : BitVec 1 := Scalar.cmpi .ne v2773 c0_i32_2135
  v2774

def k1_off170 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c8320_i32_2377 : BitVec 32 := 8320#32
  ![v1523.toNat, 8320]
def k1_off171 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c8960_i32_2378 : BitVec 32 := 8960#32
  ![v1523.toNat, 8960]
def k1_off172 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2142 : BitVec 32 := 0#32
  let c0_i32_2138 : BitVec 32 := 0#32
  let v2778 : BitVec 1 := Scalar.cmpi .sgt v1526 c0_i32_2138
  let false_2139 : BitVec 1 := 0#1
  let v2779 : BitVec 1 := Scalar.andi v2778 false_2139
  let c0_i32_2140 : BitVec 32 := 0#32
  let c0_i32_2141 : BitVec 32 := 0#32
  let v2780 : BitVec 32 := Scalar.select v2779 c0_i32_2140 c0_i32_2141
  let v2781 : BitVec 32 := Scalar.addi c0_i32_2142 v2780
  let c0_i32_2143 : BitVec 32 := 0#32
  let v2782 : BitVec 1 := Scalar.cmpi .sgt v1529 c0_i32_2143
  let c0_i32_1171 : BitVec 32 := 0#32
  let v1572 : BitVec 32 := Scalar.addi c0_i32_1171 v1526
  let c14_i32_2144 : BitVec 32 := 14#32
  let v2783 : BitVec 1 := Scalar.cmpi .eq v1572 c14_i32_2144
  let v2784 : BitVec 1 := Scalar.andi v2782 v2783
  let c1_i32_2145 : BitVec 32 := 1#32
  let c0_i32_2146 : BitVec 32 := 0#32
  let v2785 : BitVec 32 := Scalar.select v2784 c1_i32_2145 c0_i32_2146
  let v2786 : BitVec 32 := Scalar.addi v2781 v2785
  let c0_i32_2147 : BitVec 32 := 0#32
  let v2787 : BitVec 1 := Scalar.cmpi .sgt v1532 c0_i32_2147
  let v1573 : BitVec 32 := Scalar.addi v1572 v1529
  let c14_i32_2148 : BitVec 32 := 14#32
  let v2788 : BitVec 1 := Scalar.cmpi .eq v1573 c14_i32_2148
  let v2789 : BitVec 1 := Scalar.andi v2787 v2788
  let c2_i32_2149 : BitVec 32 := 2#32
  let c0_i32_2150 : BitVec 32 := 0#32
  let v2790 : BitVec 32 := Scalar.select v2789 c2_i32_2149 c0_i32_2150
  let v2791 : BitVec 32 := Scalar.addi v2786 v2790
  let c0_i32_2151 : BitVec 32 := 0#32
  let v2792 : BitVec 1 := Scalar.cmpi .sgt v1535 c0_i32_2151
  let v1574 : BitVec 32 := Scalar.addi v1573 v1532
  let c14_i32_2152 : BitVec 32 := 14#32
  let v2793 : BitVec 1 := Scalar.cmpi .eq v1574 c14_i32_2152
  let v2794 : BitVec 1 := Scalar.andi v2792 v2793
  let c3_i32_2153 : BitVec 32 := 3#32
  let c0_i32_2154 : BitVec 32 := 0#32
  let v2795 : BitVec 32 := Scalar.select v2794 c3_i32_2153 c0_i32_2154
  let v2796 : BitVec 32 := Scalar.addi v2791 v2795
  let c0_i32_2155 : BitVec 32 := 0#32
  let v2797 : BitVec 1 := Scalar.cmpi .sgt v1538 c0_i32_2155
  let v1575 : BitVec 32 := Scalar.addi v1574 v1535
  let c14_i32_2156 : BitVec 32 := 14#32
  let v2798 : BitVec 1 := Scalar.cmpi .eq v1575 c14_i32_2156
  let v2799 : BitVec 1 := Scalar.andi v2797 v2798
  let c4_i32_2157 : BitVec 32 := 4#32
  let c0_i32_2158 : BitVec 32 := 0#32
  let v2800 : BitVec 32 := Scalar.select v2799 c4_i32_2157 c0_i32_2158
  let v2801 : BitVec 32 := Scalar.addi v2796 v2800
  let c0_i32_2159 : BitVec 32 := 0#32
  let v2802 : BitVec 1 := Scalar.cmpi .sgt v1541 c0_i32_2159
  let v1576 : BitVec 32 := Scalar.addi v1575 v1538
  let c14_i32_2160 : BitVec 32 := 14#32
  let v2803 : BitVec 1 := Scalar.cmpi .eq v1576 c14_i32_2160
  let v2804 : BitVec 1 := Scalar.andi v2802 v2803
  let c5_i32_2161 : BitVec 32 := 5#32
  let c0_i32_2162 : BitVec 32 := 0#32
  let v2805 : BitVec 32 := Scalar.select v2804 c5_i32_2161 c0_i32_2162
  let v2806 : BitVec 32 := Scalar.addi v2801 v2805
  let c0_i32_2163 : BitVec 32 := 0#32
  let v2807 : BitVec 1 := Scalar.cmpi .sgt v1544 c0_i32_2163
  let v1577 : BitVec 32 := Scalar.addi v1576 v1541
  let c14_i32_2164 : BitVec 32 := 14#32
  let v2808 : BitVec 1 := Scalar.cmpi .eq v1577 c14_i32_2164
  let v2809 : BitVec 1 := Scalar.andi v2807 v2808
  let c6_i32_2165 : BitVec 32 := 6#32
  let c0_i32_2166 : BitVec 32 := 0#32
  let v2810 : BitVec 32 := Scalar.select v2809 c6_i32_2165 c0_i32_2166
  let v2811 : BitVec 32 := Scalar.addi v2806 v2810
  let c0_i32_2167 : BitVec 32 := 0#32
  let v2812 : BitVec 1 := Scalar.cmpi .sgt v1547 c0_i32_2167
  let v1578 : BitVec 32 := Scalar.addi v1577 v1544
  let c14_i32_2168 : BitVec 32 := 14#32
  let v2813 : BitVec 1 := Scalar.cmpi .eq v1578 c14_i32_2168
  let v2814 : BitVec 1 := Scalar.andi v2812 v2813
  let c7_i32_2169 : BitVec 32 := 7#32
  let c0_i32_2170 : BitVec 32 := 0#32
  let v2815 : BitVec 32 := Scalar.select v2814 c7_i32_2169 c0_i32_2170
  let v2816 : BitVec 32 := Scalar.addi v2811 v2815
  let c0_i32_2171 : BitVec 32 := 0#32
  let v2817 : BitVec 1 := Scalar.cmpi .sgt v1550 c0_i32_2171
  let v1579 : BitVec 32 := Scalar.addi v1578 v1547
  let c14_i32_2172 : BitVec 32 := 14#32
  let v2818 : BitVec 1 := Scalar.cmpi .eq v1579 c14_i32_2172
  let v2819 : BitVec 1 := Scalar.andi v2817 v2818
  let c8_i32_2173 : BitVec 32 := 8#32
  let c0_i32_2174 : BitVec 32 := 0#32
  let v2820 : BitVec 32 := Scalar.select v2819 c8_i32_2173 c0_i32_2174
  let v2821 : BitVec 32 := Scalar.addi v2816 v2820
  let c0_i32_2175 : BitVec 32 := 0#32
  let v2822 : BitVec 1 := Scalar.cmpi .sgt v1553 c0_i32_2175
  let v1580 : BitVec 32 := Scalar.addi v1579 v1550
  let c14_i32_2176 : BitVec 32 := 14#32
  let v2823 : BitVec 1 := Scalar.cmpi .eq v1580 c14_i32_2176
  let v2824 : BitVec 1 := Scalar.andi v2822 v2823
  let c9_i32_2177 : BitVec 32 := 9#32
  let c0_i32_2178 : BitVec 32 := 0#32
  let v2825 : BitVec 32 := Scalar.select v2824 c9_i32_2177 c0_i32_2178
  let v2826 : BitVec 32 := Scalar.addi v2821 v2825
  let c0_i32_2179 : BitVec 32 := 0#32
  let v2827 : BitVec 1 := Scalar.cmpi .sgt v1556 c0_i32_2179
  let v1581 : BitVec 32 := Scalar.addi v1580 v1553
  let c14_i32_2180 : BitVec 32 := 14#32
  let v2828 : BitVec 1 := Scalar.cmpi .eq v1581 c14_i32_2180
  let v2829 : BitVec 1 := Scalar.andi v2827 v2828
  let c10_i32_2181 : BitVec 32 := 10#32
  let c0_i32_2182 : BitVec 32 := 0#32
  let v2830 : BitVec 32 := Scalar.select v2829 c10_i32_2181 c0_i32_2182
  let v2831 : BitVec 32 := Scalar.addi v2826 v2830
  let c0_i32_2183 : BitVec 32 := 0#32
  let v2832 : BitVec 1 := Scalar.cmpi .sgt v1559 c0_i32_2183
  let v1582 : BitVec 32 := Scalar.addi v1581 v1556
  let c14_i32_2184 : BitVec 32 := 14#32
  let v2833 : BitVec 1 := Scalar.cmpi .eq v1582 c14_i32_2184
  let v2834 : BitVec 1 := Scalar.andi v2832 v2833
  let c11_i32_2185 : BitVec 32 := 11#32
  let c0_i32_2186 : BitVec 32 := 0#32
  let v2835 : BitVec 32 := Scalar.select v2834 c11_i32_2185 c0_i32_2186
  let v2836 : BitVec 32 := Scalar.addi v2831 v2835
  let c0_i32_2187 : BitVec 32 := 0#32
  let v2837 : BitVec 1 := Scalar.cmpi .sgt v1562 c0_i32_2187
  let v1583 : BitVec 32 := Scalar.addi v1582 v1559
  let c14_i32_2188 : BitVec 32 := 14#32
  let v2838 : BitVec 1 := Scalar.cmpi .eq v1583 c14_i32_2188
  let v2839 : BitVec 1 := Scalar.andi v2837 v2838
  let c12_i32_2189 : BitVec 32 := 12#32
  let c0_i32_2190 : BitVec 32 := 0#32
  let v2840 : BitVec 32 := Scalar.select v2839 c12_i32_2189 c0_i32_2190
  let v2841 : BitVec 32 := Scalar.addi v2836 v2840
  let c0_i32_2191 : BitVec 32 := 0#32
  let v2842 : BitVec 1 := Scalar.cmpi .sgt v1565 c0_i32_2191
  let v1584 : BitVec 32 := Scalar.addi v1583 v1562
  let c14_i32_2192 : BitVec 32 := 14#32
  let v2843 : BitVec 1 := Scalar.cmpi .eq v1584 c14_i32_2192
  let v2844 : BitVec 1 := Scalar.andi v2842 v2843
  let c13_i32_2193 : BitVec 32 := 13#32
  let c0_i32_2194 : BitVec 32 := 0#32
  let v2845 : BitVec 32 := Scalar.select v2844 c13_i32_2193 c0_i32_2194
  let v2846 : BitVec 32 := Scalar.addi v2841 v2845
  let c0_i32_2195 : BitVec 32 := 0#32
  let v2847 : BitVec 1 := Scalar.cmpi .sgt v1568 c0_i32_2195
  let v1585 : BitVec 32 := Scalar.addi v1584 v1565
  let c14_i32_2196 : BitVec 32 := 14#32
  let v2848 : BitVec 1 := Scalar.cmpi .eq v1585 c14_i32_2196
  let v2849 : BitVec 1 := Scalar.andi v2847 v2848
  let c14_i32_2197 : BitVec 32 := 14#32
  let c0_i32_2198 : BitVec 32 := 0#32
  let v2850 : BitVec 32 := Scalar.select v2849 c14_i32_2197 c0_i32_2198
  let v2851 : BitVec 32 := Scalar.addi v2846 v2850
  let c0_i32_2199 : BitVec 32 := 0#32
  let v2852 : BitVec 1 := Scalar.cmpi .sgt v1571 c0_i32_2199
  let v1586 : BitVec 32 := Scalar.addi v1585 v1568
  let c14_i32_2200 : BitVec 32 := 14#32
  let v2853 : BitVec 1 := Scalar.cmpi .eq v1586 c14_i32_2200
  let v2854 : BitVec 1 := Scalar.andi v2852 v2853
  let c15_i32_2201 : BitVec 32 := 15#32
  let c0_i32_2202 : BitVec 32 := 0#32
  let v2855 : BitVec 32 := Scalar.select v2854 c15_i32_2201 c0_i32_2202
  let v2856 : BitVec 32 := Scalar.addi v2851 v2855
  let c640_i32_2377 : BitVec 32 := 640#32
  let v3176 : BitVec 32 := Scalar.muli v2856 c640_i32_2377
  ![v1523.toNat, v3176.toNat]
def k1_cond93 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c14_i32_2203 : BitVec 32 := 14#32
  let v2857 : BitVec 1 := Scalar.cmpi .sgt v1587 c14_i32_2203
  let v2858 : BitVec 32 := Scalar.extui v2857
  let c0_i32_2204 : BitVec 32 := 0#32
  let v2859 : BitVec 1 := Scalar.cmpi .ne v2858 c0_i32_2204
  v2859

def k1_off173 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c8960_i32_2377 : BitVec 32 := 8960#32
  ![v1523.toNat, 8960]
def k1_off174 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c9600_i32_2378 : BitVec 32 := 9600#32
  ![v1523.toNat, 9600]
def k1_off175 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2211 : BitVec 32 := 0#32
  let c0_i32_2207 : BitVec 32 := 0#32
  let v2863 : BitVec 1 := Scalar.cmpi .sgt v1526 c0_i32_2207
  let false_2208 : BitVec 1 := 0#1
  let v2864 : BitVec 1 := Scalar.andi v2863 false_2208
  let c0_i32_2209 : BitVec 32 := 0#32
  let c0_i32_2210 : BitVec 32 := 0#32
  let v2865 : BitVec 32 := Scalar.select v2864 c0_i32_2209 c0_i32_2210
  let v2866 : BitVec 32 := Scalar.addi c0_i32_2211 v2865
  let c0_i32_2212 : BitVec 32 := 0#32
  let v2867 : BitVec 1 := Scalar.cmpi .sgt v1529 c0_i32_2212
  let c0_i32_1171 : BitVec 32 := 0#32
  let v1572 : BitVec 32 := Scalar.addi c0_i32_1171 v1526
  let c15_i32_2213 : BitVec 32 := 15#32
  let v2868 : BitVec 1 := Scalar.cmpi .eq v1572 c15_i32_2213
  let v2869 : BitVec 1 := Scalar.andi v2867 v2868
  let c1_i32_2214 : BitVec 32 := 1#32
  let c0_i32_2215 : BitVec 32 := 0#32
  let v2870 : BitVec 32 := Scalar.select v2869 c1_i32_2214 c0_i32_2215
  let v2871 : BitVec 32 := Scalar.addi v2866 v2870
  let c0_i32_2216 : BitVec 32 := 0#32
  let v2872 : BitVec 1 := Scalar.cmpi .sgt v1532 c0_i32_2216
  let v1573 : BitVec 32 := Scalar.addi v1572 v1529
  let c15_i32_2217 : BitVec 32 := 15#32
  let v2873 : BitVec 1 := Scalar.cmpi .eq v1573 c15_i32_2217
  let v2874 : BitVec 1 := Scalar.andi v2872 v2873
  let c2_i32_2218 : BitVec 32 := 2#32
  let c0_i32_2219 : BitVec 32 := 0#32
  let v2875 : BitVec 32 := Scalar.select v2874 c2_i32_2218 c0_i32_2219
  let v2876 : BitVec 32 := Scalar.addi v2871 v2875
  let c0_i32_2220 : BitVec 32 := 0#32
  let v2877 : BitVec 1 := Scalar.cmpi .sgt v1535 c0_i32_2220
  let v1574 : BitVec 32 := Scalar.addi v1573 v1532
  let c15_i32_2221 : BitVec 32 := 15#32
  let v2878 : BitVec 1 := Scalar.cmpi .eq v1574 c15_i32_2221
  let v2879 : BitVec 1 := Scalar.andi v2877 v2878
  let c3_i32_2222 : BitVec 32 := 3#32
  let c0_i32_2223 : BitVec 32 := 0#32
  let v2880 : BitVec 32 := Scalar.select v2879 c3_i32_2222 c0_i32_2223
  let v2881 : BitVec 32 := Scalar.addi v2876 v2880
  let c0_i32_2224 : BitVec 32 := 0#32
  let v2882 : BitVec 1 := Scalar.cmpi .sgt v1538 c0_i32_2224
  let v1575 : BitVec 32 := Scalar.addi v1574 v1535
  let c15_i32_2225 : BitVec 32 := 15#32
  let v2883 : BitVec 1 := Scalar.cmpi .eq v1575 c15_i32_2225
  let v2884 : BitVec 1 := Scalar.andi v2882 v2883
  let c4_i32_2226 : BitVec 32 := 4#32
  let c0_i32_2227 : BitVec 32 := 0#32
  let v2885 : BitVec 32 := Scalar.select v2884 c4_i32_2226 c0_i32_2227
  let v2886 : BitVec 32 := Scalar.addi v2881 v2885
  let c0_i32_2228 : BitVec 32 := 0#32
  let v2887 : BitVec 1 := Scalar.cmpi .sgt v1541 c0_i32_2228
  let v1576 : BitVec 32 := Scalar.addi v1575 v1538
  let c15_i32_2229 : BitVec 32 := 15#32
  let v2888 : BitVec 1 := Scalar.cmpi .eq v1576 c15_i32_2229
  let v2889 : BitVec 1 := Scalar.andi v2887 v2888
  let c5_i32_2230 : BitVec 32 := 5#32
  let c0_i32_2231 : BitVec 32 := 0#32
  let v2890 : BitVec 32 := Scalar.select v2889 c5_i32_2230 c0_i32_2231
  let v2891 : BitVec 32 := Scalar.addi v2886 v2890
  let c0_i32_2232 : BitVec 32 := 0#32
  let v2892 : BitVec 1 := Scalar.cmpi .sgt v1544 c0_i32_2232
  let v1577 : BitVec 32 := Scalar.addi v1576 v1541
  let c15_i32_2233 : BitVec 32 := 15#32
  let v2893 : BitVec 1 := Scalar.cmpi .eq v1577 c15_i32_2233
  let v2894 : BitVec 1 := Scalar.andi v2892 v2893
  let c6_i32_2234 : BitVec 32 := 6#32
  let c0_i32_2235 : BitVec 32 := 0#32
  let v2895 : BitVec 32 := Scalar.select v2894 c6_i32_2234 c0_i32_2235
  let v2896 : BitVec 32 := Scalar.addi v2891 v2895
  let c0_i32_2236 : BitVec 32 := 0#32
  let v2897 : BitVec 1 := Scalar.cmpi .sgt v1547 c0_i32_2236
  let v1578 : BitVec 32 := Scalar.addi v1577 v1544
  let c15_i32_2237 : BitVec 32 := 15#32
  let v2898 : BitVec 1 := Scalar.cmpi .eq v1578 c15_i32_2237
  let v2899 : BitVec 1 := Scalar.andi v2897 v2898
  let c7_i32_2238 : BitVec 32 := 7#32
  let c0_i32_2239 : BitVec 32 := 0#32
  let v2900 : BitVec 32 := Scalar.select v2899 c7_i32_2238 c0_i32_2239
  let v2901 : BitVec 32 := Scalar.addi v2896 v2900
  let c0_i32_2240 : BitVec 32 := 0#32
  let v2902 : BitVec 1 := Scalar.cmpi .sgt v1550 c0_i32_2240
  let v1579 : BitVec 32 := Scalar.addi v1578 v1547
  let c15_i32_2241 : BitVec 32 := 15#32
  let v2903 : BitVec 1 := Scalar.cmpi .eq v1579 c15_i32_2241
  let v2904 : BitVec 1 := Scalar.andi v2902 v2903
  let c8_i32_2242 : BitVec 32 := 8#32
  let c0_i32_2243 : BitVec 32 := 0#32
  let v2905 : BitVec 32 := Scalar.select v2904 c8_i32_2242 c0_i32_2243
  let v2906 : BitVec 32 := Scalar.addi v2901 v2905
  let c0_i32_2244 : BitVec 32 := 0#32
  let v2907 : BitVec 1 := Scalar.cmpi .sgt v1553 c0_i32_2244
  let v1580 : BitVec 32 := Scalar.addi v1579 v1550
  let c15_i32_2245 : BitVec 32 := 15#32
  let v2908 : BitVec 1 := Scalar.cmpi .eq v1580 c15_i32_2245
  let v2909 : BitVec 1 := Scalar.andi v2907 v2908
  let c9_i32_2246 : BitVec 32 := 9#32
  let c0_i32_2247 : BitVec 32 := 0#32
  let v2910 : BitVec 32 := Scalar.select v2909 c9_i32_2246 c0_i32_2247
  let v2911 : BitVec 32 := Scalar.addi v2906 v2910
  let c0_i32_2248 : BitVec 32 := 0#32
  let v2912 : BitVec 1 := Scalar.cmpi .sgt v1556 c0_i32_2248
  let v1581 : BitVec 32 := Scalar.addi v1580 v1553
  let c15_i32_2249 : BitVec 32 := 15#32
  let v2913 : BitVec 1 := Scalar.cmpi .eq v1581 c15_i32_2249
  let v2914 : BitVec 1 := Scalar.andi v2912 v2913
  let c10_i32_2250 : BitVec 32 := 10#32
  let c0_i32_2251 : BitVec 32 := 0#32
  let v2915 : BitVec 32 := Scalar.select v2914 c10_i32_2250 c0_i32_2251
  let v2916 : BitVec 32 := Scalar.addi v2911 v2915
  let c0_i32_2252 : BitVec 32 := 0#32
  let v2917 : BitVec 1 := Scalar.cmpi .sgt v1559 c0_i32_2252
  let v1582 : BitVec 32 := Scalar.addi v1581 v1556
  let c15_i32_2253 : BitVec 32 := 15#32
  let v2918 : BitVec 1 := Scalar.cmpi .eq v1582 c15_i32_2253
  let v2919 : BitVec 1 := Scalar.andi v2917 v2918
  let c11_i32_2254 : BitVec 32 := 11#32
  let c0_i32_2255 : BitVec 32 := 0#32
  let v2920 : BitVec 32 := Scalar.select v2919 c11_i32_2254 c0_i32_2255
  let v2921 : BitVec 32 := Scalar.addi v2916 v2920
  let c0_i32_2256 : BitVec 32 := 0#32
  let v2922 : BitVec 1 := Scalar.cmpi .sgt v1562 c0_i32_2256
  let v1583 : BitVec 32 := Scalar.addi v1582 v1559
  let c15_i32_2257 : BitVec 32 := 15#32
  let v2923 : BitVec 1 := Scalar.cmpi .eq v1583 c15_i32_2257
  let v2924 : BitVec 1 := Scalar.andi v2922 v2923
  let c12_i32_2258 : BitVec 32 := 12#32
  let c0_i32_2259 : BitVec 32 := 0#32
  let v2925 : BitVec 32 := Scalar.select v2924 c12_i32_2258 c0_i32_2259
  let v2926 : BitVec 32 := Scalar.addi v2921 v2925
  let c0_i32_2260 : BitVec 32 := 0#32
  let v2927 : BitVec 1 := Scalar.cmpi .sgt v1565 c0_i32_2260
  let v1584 : BitVec 32 := Scalar.addi v1583 v1562
  let c15_i32_2261 : BitVec 32 := 15#32
  let v2928 : BitVec 1 := Scalar.cmpi .eq v1584 c15_i32_2261
  let v2929 : BitVec 1 := Scalar.andi v2927 v2928
  let c13_i32_2262 : BitVec 32 := 13#32
  let c0_i32_2263 : BitVec 32 := 0#32
  let v2930 : BitVec 32 := Scalar.select v2929 c13_i32_2262 c0_i32_2263
  let v2931 : BitVec 32 := Scalar.addi v2926 v2930
  let c0_i32_2264 : BitVec 32 := 0#32
  let v2932 : BitVec 1 := Scalar.cmpi .sgt v1568 c0_i32_2264
  let v1585 : BitVec 32 := Scalar.addi v1584 v1565
  let c15_i32_2265 : BitVec 32 := 15#32
  let v2933 : BitVec 1 := Scalar.cmpi .eq v1585 c15_i32_2265
  let v2934 : BitVec 1 := Scalar.andi v2932 v2933
  let c14_i32_2266 : BitVec 32 := 14#32
  let c0_i32_2267 : BitVec 32 := 0#32
  let v2935 : BitVec 32 := Scalar.select v2934 c14_i32_2266 c0_i32_2267
  let v2936 : BitVec 32 := Scalar.addi v2931 v2935
  let c0_i32_2268 : BitVec 32 := 0#32
  let v2937 : BitVec 1 := Scalar.cmpi .sgt v1571 c0_i32_2268
  let v1586 : BitVec 32 := Scalar.addi v1585 v1568
  let c15_i32_2269 : BitVec 32 := 15#32
  let v2938 : BitVec 1 := Scalar.cmpi .eq v1586 c15_i32_2269
  let v2939 : BitVec 1 := Scalar.andi v2937 v2938
  let c15_i32_2270 : BitVec 32 := 15#32
  let c0_i32_2271 : BitVec 32 := 0#32
  let v2940 : BitVec 32 := Scalar.select v2939 c15_i32_2270 c0_i32_2271
  let v2941 : BitVec 32 := Scalar.addi v2936 v2940
  let c640_i32_2377 : BitVec 32 := 640#32
  let v3176 : BitVec 32 := Scalar.muli v2941 c640_i32_2377
  ![v1523.toNat, v3176.toNat]
def k1_cond95 (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : BitVec 1 :=
  let c0_i32_1171 : BitVec 32 := 0#32
  let v1572 : BitVec 32 := Scalar.addi c0_i32_1171 v1526
  let v1573 : BitVec 32 := Scalar.addi v1572 v1529
  let v1574 : BitVec 32 := Scalar.addi v1573 v1532
  let v1575 : BitVec 32 := Scalar.addi v1574 v1535
  let v1576 : BitVec 32 := Scalar.addi v1575 v1538
  let v1577 : BitVec 32 := Scalar.addi v1576 v1541
  let v1578 : BitVec 32 := Scalar.addi v1577 v1544
  let v1579 : BitVec 32 := Scalar.addi v1578 v1547
  let v1580 : BitVec 32 := Scalar.addi v1579 v1550
  let v1581 : BitVec 32 := Scalar.addi v1580 v1553
  let v1582 : BitVec 32 := Scalar.addi v1581 v1556
  let v1583 : BitVec 32 := Scalar.addi v1582 v1559
  let v1584 : BitVec 32 := Scalar.addi v1583 v1562
  let v1585 : BitVec 32 := Scalar.addi v1584 v1565
  let v1586 : BitVec 32 := Scalar.addi v1585 v1568
  let v1587 : BitVec 32 := Scalar.addi v1586 v1571
  let c15_i32_2272 : BitVec 32 := 15#32
  let v2942 : BitVec 1 := Scalar.cmpi .sgt v1587 c15_i32_2272
  let v2943 : BitVec 32 := Scalar.extui v2942
  let c0_i32_2273 : BitVec 32 := 0#32
  let v2944 : BitVec 1 := Scalar.cmpi .ne v2943 c0_i32_2273
  v2944

def k1_chk2 (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) : Prop :=
  (∀ (k1_h65 : k1_cond65 v1526 v1529 v1532 v1535 v1538 v1541 v1544 v1547 v1550 v1553 v1556 v1559 v1562 v1565 v1568 v1571 = 1#1), ∀ a, (k1_off130 i v1526 v1529 v1532 v1535 v1538 v1541 v1544 v1547 v1550 v1553 v1556 v1559 v1562 v1565 v1568 v1571) a + S1x640.size a ≤ S4x10240.size a) ∧
  (∀ (k1_h67 : k1_cond67 v1526 v1529 v1532 v1535 v1538 v1541 v1544 v1547 v1550 v1553 v1556 v1559 v1562 v1565 v1568 v1571 = 1#1), ∀ a, (k1_off133 i v1526 v1529 v1532 v1535 v1538 v1541 v1544 v1547 v1550 v1553 v1556 v1559 v1562 v1565 v1568 v1571) a + S1x640.size a ≤ S4x10240.size a) ∧
  (∀ (k1_h69 : k1_cond69 v1526 v1529 v1532 v1535 v1538 v1541 v1544 v1547 v1550 v1553 v1556 v1559 v1562 v1565 v1568 v1571 = 1#1), ∀ a, (k1_off136 i v1526 v1529 v1532 v1535 v1538 v1541 v1544 v1547 v1550 v1553 v1556 v1559 v1562 v1565 v1568 v1571) a + S1x640.size a ≤ S4x10240.size a) ∧
  (∀ (k1_h71 : k1_cond71 v1526 v1529 v1532 v1535 v1538 v1541 v1544 v1547 v1550 v1553 v1556 v1559 v1562 v1565 v1568 v1571 = 1#1), ∀ a, (k1_off139 i v1526 v1529 v1532 v1535 v1538 v1541 v1544 v1547 v1550 v1553 v1556 v1559 v1562 v1565 v1568 v1571) a + S1x640.size a ≤ S4x10240.size a) ∧
  (∀ (k1_h73 : k1_cond73 v1526 v1529 v1532 v1535 v1538 v1541 v1544 v1547 v1550 v1553 v1556 v1559 v1562 v1565 v1568 v1571 = 1#1), ∀ a, (k1_off142 i v1526 v1529 v1532 v1535 v1538 v1541 v1544 v1547 v1550 v1553 v1556 v1559 v1562 v1565 v1568 v1571) a + S1x640.size a ≤ S4x10240.size a) ∧
  (∀ (k1_h75 : k1_cond75 v1526 v1529 v1532 v1535 v1538 v1541 v1544 v1547 v1550 v1553 v1556 v1559 v1562 v1565 v1568 v1571 = 1#1), ∀ a, (k1_off145 i v1526 v1529 v1532 v1535 v1538 v1541 v1544 v1547 v1550 v1553 v1556 v1559 v1562 v1565 v1568 v1571) a + S1x640.size a ≤ S4x10240.size a) ∧
  (∀ (k1_h77 : k1_cond77 v1526 v1529 v1532 v1535 v1538 v1541 v1544 v1547 v1550 v1553 v1556 v1559 v1562 v1565 v1568 v1571 = 1#1), ∀ a, (k1_off148 i v1526 v1529 v1532 v1535 v1538 v1541 v1544 v1547 v1550 v1553 v1556 v1559 v1562 v1565 v1568 v1571) a + S1x640.size a ≤ S4x10240.size a) ∧
  (∀ (k1_h79 : k1_cond79 v1526 v1529 v1532 v1535 v1538 v1541 v1544 v1547 v1550 v1553 v1556 v1559 v1562 v1565 v1568 v1571 = 1#1), ∀ a, (k1_off151 i v1526 v1529 v1532 v1535 v1538 v1541 v1544 v1547 v1550 v1553 v1556 v1559 v1562 v1565 v1568 v1571) a + S1x640.size a ≤ S4x10240.size a) ∧
  (∀ (k1_h81 : k1_cond81 v1526 v1529 v1532 v1535 v1538 v1541 v1544 v1547 v1550 v1553 v1556 v1559 v1562 v1565 v1568 v1571 = 1#1), ∀ a, (k1_off154 i v1526 v1529 v1532 v1535 v1538 v1541 v1544 v1547 v1550 v1553 v1556 v1559 v1562 v1565 v1568 v1571) a + S1x640.size a ≤ S4x10240.size a) ∧
  (∀ (k1_h83 : k1_cond83 v1526 v1529 v1532 v1535 v1538 v1541 v1544 v1547 v1550 v1553 v1556 v1559 v1562 v1565 v1568 v1571 = 1#1), ∀ a, (k1_off157 i v1526 v1529 v1532 v1535 v1538 v1541 v1544 v1547 v1550 v1553 v1556 v1559 v1562 v1565 v1568 v1571) a + S1x640.size a ≤ S4x10240.size a) ∧
  (∀ (k1_h85 : k1_cond85 v1526 v1529 v1532 v1535 v1538 v1541 v1544 v1547 v1550 v1553 v1556 v1559 v1562 v1565 v1568 v1571 = 1#1), ∀ a, (k1_off160 i v1526 v1529 v1532 v1535 v1538 v1541 v1544 v1547 v1550 v1553 v1556 v1559 v1562 v1565 v1568 v1571) a + S1x640.size a ≤ S4x10240.size a) ∧
  (∀ (k1_h87 : k1_cond87 v1526 v1529 v1532 v1535 v1538 v1541 v1544 v1547 v1550 v1553 v1556 v1559 v1562 v1565 v1568 v1571 = 1#1), ∀ a, (k1_off163 i v1526 v1529 v1532 v1535 v1538 v1541 v1544 v1547 v1550 v1553 v1556 v1559 v1562 v1565 v1568 v1571) a + S1x640.size a ≤ S4x10240.size a) ∧
  (∀ (k1_h89 : k1_cond89 v1526 v1529 v1532 v1535 v1538 v1541 v1544 v1547 v1550 v1553 v1556 v1559 v1562 v1565 v1568 v1571 = 1#1), ∀ a, (k1_off166 i v1526 v1529 v1532 v1535 v1538 v1541 v1544 v1547 v1550 v1553 v1556 v1559 v1562 v1565 v1568 v1571) a + S1x640.size a ≤ S4x10240.size a) ∧
  (∀ (k1_h91 : k1_cond91 v1526 v1529 v1532 v1535 v1538 v1541 v1544 v1547 v1550 v1553 v1556 v1559 v1562 v1565 v1568 v1571 = 1#1), ∀ a, (k1_off169 i v1526 v1529 v1532 v1535 v1538 v1541 v1544 v1547 v1550 v1553 v1556 v1559 v1562 v1565 v1568 v1571) a + S1x640.size a ≤ S4x10240.size a) ∧
  (∀ (k1_h93 : k1_cond93 v1526 v1529 v1532 v1535 v1538 v1541 v1544 v1547 v1550 v1553 v1556 v1559 v1562 v1565 v1568 v1571 = 1#1), ∀ a, (k1_off172 i v1526 v1529 v1532 v1535 v1538 v1541 v1544 v1547 v1550 v1553 v1556 v1559 v1562 v1565 v1568 v1571) a + S1x640.size a ≤ S4x10240.size a) ∧
  (∀ (k1_h95 : k1_cond95 v1526 v1529 v1532 v1535 v1538 v1541 v1544 v1547 v1550 v1553 v1556 v1559 v1562 v1565 v1568 v1571 = 1#1), ∀ a, (k1_off175 i v1526 v1529 v1532 v1535 v1538 v1541 v1544 v1547 v1550 v1553 v1556 v1559 v1562 v1565 v1568 v1571) a + S1x640.size a ≤ S4x10240.size a)
theorem k1_off130_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h65 : k1_cond65 v1526 v1529 v1532 v1535 v1538 v1541 v1544 v1547 v1550 v1553 v1556 v1559 v1562 v1565 v1568 v1571 = 1#1), ∀ a, (k1_off130 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h65 => k1_hw2.1 k1_h65
theorem k1_off133_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h67 : k1_cond67 v1526 v1529 v1532 v1535 v1538 v1541 v1544 v1547 v1550 v1553 v1556 v1559 v1562 v1565 v1568 v1571 = 1#1), ∀ a, (k1_off133 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h67 => k1_hw2.2.1 k1_h67
theorem k1_off136_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h69 : k1_cond69 v1526 v1529 v1532 v1535 v1538 v1541 v1544 v1547 v1550 v1553 v1556 v1559 v1562 v1565 v1568 v1571 = 1#1), ∀ a, (k1_off136 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h69 => k1_hw2.2.2.1 k1_h69
theorem k1_off139_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h71 : k1_cond71 v1526 v1529 v1532 v1535 v1538 v1541 v1544 v1547 v1550 v1553 v1556 v1559 v1562 v1565 v1568 v1571 = 1#1), ∀ a, (k1_off139 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h71 => k1_hw2.2.2.2.1 k1_h71
theorem k1_off142_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h73 : k1_cond73 v1526 v1529 v1532 v1535 v1538 v1541 v1544 v1547 v1550 v1553 v1556 v1559 v1562 v1565 v1568 v1571 = 1#1), ∀ a, (k1_off142 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h73 => k1_hw2.2.2.2.2.1 k1_h73
theorem k1_off145_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h75 : k1_cond75 v1526 v1529 v1532 v1535 v1538 v1541 v1544 v1547 v1550 v1553 v1556 v1559 v1562 v1565 v1568 v1571 = 1#1), ∀ a, (k1_off145 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h75 => k1_hw2.2.2.2.2.2.1 k1_h75
theorem k1_off148_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h77 : k1_cond77 v1526 v1529 v1532 v1535 v1538 v1541 v1544 v1547 v1550 v1553 v1556 v1559 v1562 v1565 v1568 v1571 = 1#1), ∀ a, (k1_off148 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h77 => k1_hw2.2.2.2.2.2.2.1 k1_h77
theorem k1_off151_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h79 : k1_cond79 v1526 v1529 v1532 v1535 v1538 v1541 v1544 v1547 v1550 v1553 v1556 v1559 v1562 v1565 v1568 v1571 = 1#1), ∀ a, (k1_off151 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h79 => k1_hw2.2.2.2.2.2.2.2.1 k1_h79
theorem k1_off154_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h81 : k1_cond81 v1526 v1529 v1532 v1535 v1538 v1541 v1544 v1547 v1550 v1553 v1556 v1559 v1562 v1565 v1568 v1571 = 1#1), ∀ a, (k1_off154 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h81 => k1_hw2.2.2.2.2.2.2.2.2.1 k1_h81
theorem k1_off157_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h83 : k1_cond83 v1526 v1529 v1532 v1535 v1538 v1541 v1544 v1547 v1550 v1553 v1556 v1559 v1562 v1565 v1568 v1571 = 1#1), ∀ a, (k1_off157 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h83 => k1_hw2.2.2.2.2.2.2.2.2.2.1 k1_h83
theorem k1_off160_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h85 : k1_cond85 v1526 v1529 v1532 v1535 v1538 v1541 v1544 v1547 v1550 v1553 v1556 v1559 v1562 v1565 v1568 v1571 = 1#1), ∀ a, (k1_off160 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h85 => k1_hw2.2.2.2.2.2.2.2.2.2.2.1 k1_h85
theorem k1_off163_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h87 : k1_cond87 v1526 v1529 v1532 v1535 v1538 v1541 v1544 v1547 v1550 v1553 v1556 v1559 v1562 v1565 v1568 v1571 = 1#1), ∀ a, (k1_off163 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h87 => k1_hw2.2.2.2.2.2.2.2.2.2.2.2.1 k1_h87
theorem k1_off166_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h89 : k1_cond89 v1526 v1529 v1532 v1535 v1538 v1541 v1544 v1547 v1550 v1553 v1556 v1559 v1562 v1565 v1568 v1571 = 1#1), ∀ a, (k1_off166 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h89 => k1_hw2.2.2.2.2.2.2.2.2.2.2.2.2.1 k1_h89
theorem k1_off169_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h91 : k1_cond91 v1526 v1529 v1532 v1535 v1538 v1541 v1544 v1547 v1550 v1553 v1556 v1559 v1562 v1565 v1568 v1571 = 1#1), ∀ a, (k1_off169 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h91 => k1_hw2.2.2.2.2.2.2.2.2.2.2.2.2.2.1 k1_h91
theorem k1_off172_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h93 : k1_cond93 v1526 v1529 v1532 v1535 v1538 v1541 v1544 v1547 v1550 v1553 v1556 v1559 v1562 v1565 v1568 v1571 = 1#1), ∀ a, (k1_off172 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h93 => k1_hw2.2.2.2.2.2.2.2.2.2.2.2.2.2.2.1 k1_h93
theorem k1_off175_inb : ∀ (i : grid1.Coords) (v1526 : BitVec 32) (v1529 : BitVec 32) (v1532 : BitVec 32) (v1535 : BitVec 32) (v1538 : BitVec 32) (v1541 : BitVec 32) (v1544 : BitVec 32) (v1547 : BitVec 32) (v1550 : BitVec 32) (v1553 : BitVec 32) (v1556 : BitVec 32) (v1559 : BitVec 32) (v1562 : BitVec 32) (v1565 : BitVec 32) (v1568 : BitVec 32) (v1571 : BitVec 32) (k1_hw2 : k1_chk2 i v1526 v1529 v1532 v1535 v1538 v1541 v1544 v1547 v1550 v1553 v1556 v1559 v1562 v1565 v1568 v1571), ∀ (k1_h95 : k1_cond95 v1526 v1529 v1532 v1535 v1538 v1541 v1544 v1547 v1550 v1553 v1556 v1559 v1562 v1565 v1568 v1571 = 1#1), ∀ a, (k1_off175 i v1526 v1529 v1532 v1535 v1538 v1541 v1544 v1547 v1550 v1553 v1556 v1559 v1562 v1565 v1568 v1571) a + S1x640.size a ≤ S4x10240.size a := fun i v1526 v1529 v1532 v1535 v1538 v1541 v1544 v1547 v1550 v1553 v1556 v1559 v1562 v1565 v1568 v1571 k1_hw2 k1_h95 => k1_hw2.2.2.2.2.2.2.2.2.2.2.2.2.2.2.2 k1_h95

def k1_off176 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c9600_i32_2377 : BitVec 32 := 9600#32
  ![v1523.toNat, 9600]
def k1_off177 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c10240_i32_2377 : BitVec 32 := 10240#32
  ![v1523.toNat, 10240]
def k1_off178 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off179 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c10240_i32_2377 : BitVec 32 := 10240#32
  ![v1523.toNat, 10240]
def k1_off180 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c10880_i32_2377 : BitVec 32 := 10880#32
  ![v1523.toNat, 10880]
def k1_off181 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off182 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c10880_i32_2377 : BitVec 32 := 10880#32
  ![v1523.toNat, 10880]
def k1_off183 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c11520_i32_2377 : BitVec 32 := 11520#32
  ![v1523.toNat, 11520]
def k1_off184 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off185 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c11520_i32_2377 : BitVec 32 := 11520#32
  ![v1523.toNat, 11520]
def k1_off186 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c12160_i32_2377 : BitVec 32 := 12160#32
  ![v1523.toNat, 12160]
def k1_off187 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off188 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c12160_i32_2377 : BitVec 32 := 12160#32
  ![v1523.toNat, 12160]
def k1_off189 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c12800_i32_2377 : BitVec 32 := 12800#32
  ![v1523.toNat, 12800]
def k1_off190 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off191 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c12800_i32_2377 : BitVec 32 := 12800#32
  ![v1523.toNat, 12800]
def k1_off192 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c13440_i32_2377 : BitVec 32 := 13440#32
  ![v1523.toNat, 13440]
def k1_off193 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off194 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c13440_i32_2377 : BitVec 32 := 13440#32
  ![v1523.toNat, 13440]
def k1_off195 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c14080_i32_2377 : BitVec 32 := 14080#32
  ![v1523.toNat, 14080]
def k1_off196 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off197 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c14080_i32_2377 : BitVec 32 := 14080#32
  ![v1523.toNat, 14080]
def k1_off198 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c14720_i32_2377 : BitVec 32 := 14720#32
  ![v1523.toNat, 14720]
def k1_off199 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off200 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c14720_i32_2377 : BitVec 32 := 14720#32
  ![v1523.toNat, 14720]
def k1_off201 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c15360_i32_2377 : BitVec 32 := 15360#32
  ![v1523.toNat, 15360]
def k1_off202 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off203 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c15360_i32_2377 : BitVec 32 := 15360#32
  ![v1523.toNat, 15360]
def k1_off204 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c16000_i32_2377 : BitVec 32 := 16000#32
  ![v1523.toNat, 16000]
def k1_off205 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off206 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c16000_i32_2377 : BitVec 32 := 16000#32
  ![v1523.toNat, 16000]
def k1_off207 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c16640_i32_2377 : BitVec 32 := 16640#32
  ![v1523.toNat, 16640]
def k1_off208 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off209 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c16640_i32_2377 : BitVec 32 := 16640#32
  ![v1523.toNat, 16640]
def k1_off210 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c17280_i32_2377 : BitVec 32 := 17280#32
  ![v1523.toNat, 17280]
def k1_off211 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off212 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c17280_i32_2377 : BitVec 32 := 17280#32
  ![v1523.toNat, 17280]
def k1_off213 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c17920_i32_2377 : BitVec 32 := 17920#32
  ![v1523.toNat, 17920]
def k1_off214 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off215 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c17920_i32_2377 : BitVec 32 := 17920#32
  ![v1523.toNat, 17920]
def k1_off216 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c18560_i32_2377 : BitVec 32 := 18560#32
  ![v1523.toNat, 18560]
def k1_off217 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off218 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c18560_i32_2377 : BitVec 32 := 18560#32
  ![v1523.toNat, 18560]
def k1_off219 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c19200_i32_2377 : BitVec 32 := 19200#32
  ![v1523.toNat, 19200]
def k1_off220 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off221 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c19200_i32_2377 : BitVec 32 := 19200#32
  ![v1523.toNat, 19200]
def k1_off222 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c19840_i32_2377 : BitVec 32 := 19840#32
  ![v1523.toNat, 19840]
def k1_off223 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c0_i32_2378 : BitVec 32 := 0#32
  ![v1523.toNat, 0]
def k1_off224 (i : grid1.Coords) : Fin 2 → Nat :=
  let arg0 : BitVec 32 := BitVec.ofNat 32 (i 0).val
  let c2_i32_1153 : BitVec 32 := 2#32
  let v1522 : BitVec 32 := Scalar.muli arg0 c2_i32_1153
  let c1_i32_1154 : BitVec 32 := 1#32
  let v1523 : BitVec 32 := Scalar.addi v1522 c1_i32_1154
  let c19840_i32_2377 : BitVec 32 := 19840#32
  ![v1523.toNat, 19840]
def k1_off225 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c0_i32_2342 : BitVec 32 := 0#32
  ![v3045.toNat, 0]
def k1_off226 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c640_i32 : BitVec 32 := 640#32
  ![v3045.toNat, 640]
def k1_off227 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c1280_i32 : BitVec 32 := 1280#32
  ![v3045.toNat, 1280]
def k1_off228 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c1920_i32 : BitVec 32 := 1920#32
  ![v3045.toNat, 1920]
def k1_off229 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c2560_i32 : BitVec 32 := 2560#32
  ![v3045.toNat, 2560]
def k1_off230 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c3200_i32 : BitVec 32 := 3200#32
  ![v3045.toNat, 3200]
def k1_off231 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c3840_i32 : BitVec 32 := 3840#32
  ![v3045.toNat, 3840]
def k1_off232 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c4480_i32 : BitVec 32 := 4480#32
  ![v3045.toNat, 4480]
def k1_off233 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c5120_i32 : BitVec 32 := 5120#32
  ![v3045.toNat, 5120]
def k1_off234 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c5760_i32 : BitVec 32 := 5760#32
  ![v3045.toNat, 5760]
def k1_off235 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c6400_i32 : BitVec 32 := 6400#32
  ![v3045.toNat, 6400]
def k1_off236 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c7040_i32 : BitVec 32 := 7040#32
  ![v3045.toNat, 7040]
def k1_off237 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c7680_i32 : BitVec 32 := 7680#32
  ![v3045.toNat, 7680]
def k1_off238 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c8320_i32 : BitVec 32 := 8320#32
  ![v3045.toNat, 8320]
def k1_off239 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c8960_i32 : BitVec 32 := 8960#32
  ![v3045.toNat, 8960]
def k1_off240 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c9600_i32 : BitVec 32 := 9600#32
  ![v3045.toNat, 9600]
def k1_off241 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c10240_i32 : BitVec 32 := 10240#32
  ![v3045.toNat, 10240]
def k1_off242 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c10880_i32 : BitVec 32 := 10880#32
  ![v3045.toNat, 10880]
def k1_off243 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c11520_i32 : BitVec 32 := 11520#32
  ![v3045.toNat, 11520]
def k1_off244 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c12160_i32 : BitVec 32 := 12160#32
  ![v3045.toNat, 12160]
def k1_off245 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c12800_i32 : BitVec 32 := 12800#32
  ![v3045.toNat, 12800]
def k1_off246 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c13440_i32 : BitVec 32 := 13440#32
  ![v3045.toNat, 13440]
def k1_off247 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c14080_i32 : BitVec 32 := 14080#32
  ![v3045.toNat, 14080]
def k1_off248 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c14720_i32 : BitVec 32 := 14720#32
  ![v3045.toNat, 14720]
def k1_off249 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c15360_i32 : BitVec 32 := 15360#32
  ![v3045.toNat, 15360]
def k1_off250 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c16000_i32 : BitVec 32 := 16000#32
  ![v3045.toNat, 16000]
def k1_off251 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c16640_i32 : BitVec 32 := 16640#32
  ![v3045.toNat, 16640]
def k1_off252 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c17280_i32 : BitVec 32 := 17280#32
  ![v3045.toNat, 17280]
def k1_off253 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c17920_i32 : BitVec 32 := 17920#32
  ![v3045.toNat, 17920]
def k1_off254 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c18560_i32 : BitVec 32 := 18560#32
  ![v3045.toNat, 18560]
def k1_off255 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c19200_i32 : BitVec 32 := 19200#32
  ![v3045.toNat, 19200]
def k1_off256 (i : grid1.Coords) (c0_i32_2341 : BitVec 32) : Fin 2 → Nat :=
  let arg0 : BitVec 32 := BitVec.ofNat 32 (i 0).val
  let c2_i32_2340 : BitVec 32 := 2#32
  let v3044 : BitVec 32 := Scalar.muli arg0 c2_i32_2340
  let v3045 : BitVec 32 := Scalar.addi v3044 c0_i32_2341
  let c19840_i32 : BitVec 32 := 19840#32
  ![v3045.toNat, 19840]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x16x640 : Shape := ⟨3, ![4, 16, 640]⟩
abbrev S4x16x640x16x16 : Shape := ⟨5, ![4, 16, 640, 16, 16]⟩
abbrev S4x16 : Shape := ⟨2, ![4, 16]⟩
abbrev S4x32x640 : Shape := ⟨3, ![4, 32, 640]⟩
abbrev S4x32x640x16x16 : Shape := ⟨5, ![4, 32, 640, 16, 16]⟩
abbrev S4x32 : Shape := ⟨2, ![4, 32]⟩
abbrev S4 : Shape := ⟨1, ![4]⟩
abbrev S32 : Shape := ⟨1, ![32]⟩
abbrev S1x32 : Shape := ⟨2, ![1, 32]⟩
abbrev S_ : Shape := ⟨0, ![]⟩
abbrev S4x1 : Shape := ⟨2, ![4, 1]⟩
abbrev S4x1x640x16x16 : Shape := ⟨5, ![4, 1, 640, 16, 16]⟩
abbrev S4x1x1x1x1 : Shape := ⟨5, ![4, 1, 1, 1, 1]⟩
abbrev S4x1x640 : Shape := ⟨3, ![4, 1, 640]⟩
abbrev S4x32x1 : Shape := ⟨3, ![4, 32, 1]⟩
abbrev S4x32x1x1x1 : Shape := ⟨5, ![4, 32, 1, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S4x16x640, .f32⟩
  | .hbm, ⟨1, _⟩ => ⟨S4x16x640x16x16, .f32⟩
  | .hbm, ⟨2, _⟩ => ⟨S4x16, .i1⟩
  | .hbm, ⟨3, _⟩ => ⟨S4x32x640, .f32⟩
  | .hbm, ⟨4, _⟩ => ⟨S4x32x640x16x16, .f32⟩
  | .hbm, ⟨5, _⟩ => ⟨S4x32, .i1⟩
  | .hbm, ⟨6, _⟩ => ⟨S4, .i32⟩
  | .hbm, ⟨7, _⟩ => ⟨S32, .i32⟩
  | .hbm, ⟨8, _⟩ => ⟨S1x32, .i32⟩
  | .hbm, ⟨9, _⟩ => ⟨S_, .i1⟩
  | .hbm, ⟨10, _⟩ => ⟨S4x1, .i1⟩
  | .hbm, ⟨11, _⟩ => ⟨S4x1x640x16x16, .f32⟩
  | .hbm, ⟨12, _⟩ => ⟨S4x1, .i32⟩
  | .hbm, ⟨13, _⟩ => ⟨S_, .i32⟩
  | .hbm, ⟨14, _⟩ => ⟨S_, .i32⟩
  | .hbm, ⟨15, _⟩ => ⟨S4x16, .i1⟩
  | .hbm, ⟨16, _⟩ => ⟨S4x16x640x16x16, .f32⟩
  | .hbm, ⟨17, _⟩ => ⟨S1x32, .i32⟩
  | .hbm, ⟨18, _⟩ => ⟨S4x16x640, .f32⟩
  | .hbm, ⟨19, _⟩ => ⟨S_, .i32⟩
  | .hbm, ⟨20, _⟩ => ⟨S_, .i32⟩
  | .hbm, ⟨21, _⟩ => ⟨S4x1, .i1⟩
  | .hbm, ⟨22, _⟩ => ⟨S4x1x640x16x16, .f32⟩
  | .hbm, ⟨23, _⟩ => ⟨S4x32x640, .f32⟩
  | .hbm, ⟨24, _⟩ => ⟨S4x32x640x16x16, .f32⟩
  | .hbm, ⟨25, _⟩ => ⟨S4x32, .i1⟩
  | .hbm, ⟨26, _⟩ => ⟨S4x1, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S4x1, .i1⟩
  | .hbm, ⟨39, _⟩ => ⟨S4x1, .i1⟩
  | .hbm, ⟨40, _⟩ => ⟨S4x1, .i1⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S4x1x640x16x16, .f32⟩
  | .hbm, ⟨52, _⟩ => ⟨S4x1x1x1x1, .i1⟩
  | .hbm, ⟨53, _⟩ => ⟨S4x1x640x16x16, .i1⟩
  | .hbm, ⟨54, _⟩ => ⟨S4x1x640x16x16, .f32⟩
  | .hbm, ⟨55, _⟩ => ⟨S_, .i32⟩
  | .hbm, ⟨56, _⟩ => ⟨S4x1, .i32⟩
  | .hbm, ⟨57, _⟩ => ⟨S4x1, .i32⟩
  | .hbm, ⟨58, _⟩ => ⟨S4x32, .i32⟩
  | .hbm, ⟨59, _⟩ => ⟨S4x32, .i32⟩
  | .hbm, ⟨60, _⟩ => ⟨S4x32, .i1⟩
  | .hbm, ⟨61, _⟩ => ⟨S4x32, .i1⟩
  | .hbm, ⟨62, _⟩ => ⟨S4x32, .i1⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S4x1x640, .f32⟩
  | .hbm, ⟨72, _⟩ => ⟨S4x32x1, .i1⟩
  | .hbm, ⟨73, _⟩ => ⟨S4x32x640, .i1⟩
  | .hbm, ⟨74, _⟩ => ⟨S4x32x640, .f32⟩
  | .hbm, ⟨75, _⟩ => ⟨S4x32x640, .f32⟩
  | .hbm, ⟨76, _⟩ => ⟨S4x32x1x1x1, .i1⟩
  | .hbm, ⟨77, _⟩ => ⟨S4x32x640x16x16, .i1⟩
  | .hbm, ⟨78, _⟩ => ⟨S4x32x640x16x16, .f32⟩
  | .hbm, ⟨79, _⟩ => ⟨S4x32x640x16x16, .f32⟩
  | .hbm, ⟨80, _⟩ => ⟨S4x1, .i1⟩
  | .hbm, ⟨81, _⟩ => ⟨S4x32, .i1⟩
  | .hbm, ⟨82, _⟩ => ⟨S4x1, .i32⟩
  | .hbm, ⟨83, _⟩ => ⟨S4x1, .i32⟩
  | .hbm, ⟨84, _⟩ => ⟨S_, .i32⟩
  | .hbm, ⟨85, _⟩ => ⟨S_, .i32⟩
  | .hbm, ⟨86, _⟩ => ⟨S4, .i32⟩
  | _, _ => ⟨S4x16x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_c_1 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev main_v5_6 : Ref sig .tc := ⟨.hbm, 21, rfl⟩
abbrev main_v5_7 : Ref sig .tc := ⟨.hbm, 22, rfl⟩
abbrev main_v5_8 : Ref sig .tc := ⟨.hbm, 23, rfl⟩
abbrev main_v5_9 : Ref sig .tc := ⟨.hbm, 24, rfl⟩
abbrev main_v5_10 : Ref sig .tc := ⟨.hbm, 25, rfl⟩
abbrev main_v5_11 : Ref sig .tc := ⟨.hbm, 26, rfl⟩
abbrev main_while0c_c_13 : Ref sig .tc := ⟨.hbm, 27, rfl⟩
abbrev main_while0c_v7 : Ref sig .tc := ⟨.hbm, 28, rfl⟩
abbrev main_while0b_c_13 : Ref sig .tc := ⟨.hbm, 29, rfl⟩
abbrev main_while0b_v7 : Ref sig .tc := ⟨.hbm, 30, rfl⟩
abbrev main_while0b_c_14 : Ref sig .tc := ⟨.hbm, 31, rfl⟩
abbrev main_while0b_v8 : Ref sig .tc := ⟨.hbm, 32, rfl⟩
abbrev main_while0b_v9 : Ref sig .tc := ⟨.hbm, 33, rfl⟩
abbrev main_while0b_c_15 : Ref sig .tc := ⟨.hbm, 34, rfl⟩
abbrev main_while0b_v10 : Ref sig .tc := ⟨.hbm, 35, rfl⟩
abbrev main_while0b_v11 : Ref sig .tc := ⟨.hbm, 36, rfl⟩
abbrev main_while0b_c_16 : Ref sig .tc := ⟨.hbm, 37, rfl⟩
abbrev main_while0b_v12 : Ref sig .tc := ⟨.hbm, 38, rfl⟩
abbrev main_while0b_v13 : Ref sig .tc := ⟨.hbm, 39, rfl⟩
abbrev main_while0b_v14 : Ref sig .tc := ⟨.hbm, 40, rfl⟩
abbrev main_while0b_c_17 : Ref sig .tc := ⟨.hbm, 41, rfl⟩
abbrev main_while0b_v15 : Ref sig .tc := ⟨.hbm, 42, rfl⟩
abbrev main_while0b_v16 : Ref sig .tc := ⟨.hbm, 43, rfl⟩
abbrev main_while0b_c_18 : Ref sig .tc := ⟨.hbm, 44, rfl⟩
abbrev main_while0b_v17 : Ref sig .tc := ⟨.hbm, 45, rfl⟩
abbrev main_while0b_v18 : Ref sig .tc := ⟨.hbm, 46, rfl⟩
abbrev main_while0b_c_19 : Ref sig .tc := ⟨.hbm, 47, rfl⟩
abbrev main_while0b_c_20 : Ref sig .tc := ⟨.hbm, 48, rfl⟩
abbrev main_while0b_c_21 : Ref sig .tc := ⟨.hbm, 49, rfl⟩
abbrev main_while0b_c_22 : Ref sig .tc := ⟨.hbm, 50, rfl⟩
abbrev main_while0b_v19 : Ref sig .tc := ⟨.hbm, 51, rfl⟩
abbrev main_while0b_v20 : Ref sig .tc := ⟨.hbm, 52, rfl⟩
abbrev main_while0b_v21 : Ref sig .tc := ⟨.hbm, 53, rfl⟩
abbrev main_while0b_v22 : Ref sig .tc := ⟨.hbm, 54, rfl⟩
abbrev main_while0b_c_23 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_v28 : Ref sig .tc := ⟨.hbm, 61, rfl⟩
abbrev main_while0b_v29 : Ref sig .tc := ⟨.hbm, 62, rfl⟩
abbrev main_while0b_c_24 : Ref sig .tc := ⟨.hbm, 63, rfl⟩
abbrev main_while0b_v30 : Ref sig .tc := ⟨.hbm, 64, rfl⟩
abbrev main_while0b_v31 : Ref sig .tc := ⟨.hbm, 65, rfl⟩
abbrev main_while0b_c_25 : Ref sig .tc := ⟨.hbm, 66, rfl⟩
abbrev main_while0b_v32 : Ref sig .tc := ⟨.hbm, 67, rfl⟩
abbrev main_while0b_v33 : Ref sig .tc := ⟨.hbm, 68, rfl⟩
abbrev main_while0b_c_26 : Ref sig .tc := ⟨.hbm, 69, rfl⟩
abbrev main_while0b_c_27 : Ref sig .tc := ⟨.hbm, 70, rfl⟩
abbrev main_while0b_v34 : Ref sig .tc := ⟨.hbm, 71, rfl⟩
abbrev main_while0b_v35 : Ref sig .tc := ⟨.hbm, 72, rfl⟩
abbrev main_while0b_v36 : Ref sig .tc := ⟨.hbm, 73, rfl⟩
abbrev main_while0b_v37 : Ref sig .tc := ⟨.hbm, 74, rfl⟩
abbrev main_while0b_v38 : Ref sig .tc := ⟨.hbm, 75, rfl⟩
abbrev main_while0b_v39 : Ref sig .tc := ⟨.hbm, 76, rfl⟩
abbrev main_while0b_v40 : Ref sig .tc := ⟨.hbm, 77, rfl⟩
abbrev main_while0b_v41 : Ref sig .tc := ⟨.hbm, 78, rfl⟩
abbrev main_while0b_v42 : Ref sig .tc := ⟨.hbm, 79, rfl⟩
abbrev main_while0b_v43 : Ref sig .tc := ⟨.hbm, 80, rfl⟩
abbrev main_while0b_v44 : Ref sig .tc := ⟨.hbm, 81, rfl⟩
abbrev main_while0b_v45 : Ref sig .tc := ⟨.hbm, 82, rfl⟩
abbrev main_while0b_v46 : Ref sig .tc := ⟨.hbm, 83, rfl⟩
abbrev main_while0b_c_28 : Ref sig .tc := ⟨.hbm, 84, rfl⟩
abbrev main_while0b_v47 : Ref sig .tc := ⟨.hbm, 85, rfl⟩
abbrev main_v6 : Ref sig .tc := ⟨.hbm, 86, rfl⟩

abbrev nD : Nat := 1
abbrev τ : Topo := Topo.v7x

variable {F : FTy → Type} [FloatOps F]

abbrev main_while0_count : Scf.Loop 32 := ⟨0#32, 16#32, 1#32⟩
-- ==== Proof.ScBody.lean ====
module

public import proofs.«01_k».proof.Proof.Gen.KernelIdeal

/-!
# The SparseCore body as a fold over its slots

The scalar subcore's body is printed statement by statement. It is restated here as what it is: two
batches, each a row of words read, a check, and thirty-two slots filled by one of two copies; then
sixty-four waits.
-/

@[expose] public section

noncomputable section

namespace Proof.Sc

open Idealize.ShloMosaic Idealize.SL.Sem
open Cert.KernelIdeal
open Cert.KernelIdeal.Facts₀ Cert.KernelIdeal.Facts

variable {F : FTy → Type} [FloatOps F]

/-! ## The words' arithmetic -/

/-- The running count of the first `r + 1` words. -/
def pre (v : Fin 16 → BitVec 32) : Fin 16 → BitVec 32
  | 0 => Scalar.addi 0#32 (v 0)
  | 1 => Scalar.addi (Scalar.addi 0#32 (v 0)) (v 1)
  | 2 => Scalar.addi (Scalar.addi (Scalar.addi 0#32 (v 0)) (v 1)) (v 2)
  | 3 => Scalar.addi (Scalar.addi (Scalar.addi (Scalar.addi 0#32 (v 0)) (v 1)) (v 2)) (v 3)
  | 4 => Scalar.addi (Scalar.addi (Scalar.addi (Scalar.addi (Scalar.addi 0#32 (v 0)) (v 1)) (v 2)) (v 3)) (v 4)
  | 5 => Scalar.addi (Scalar.addi (Scalar.addi (Scalar.addi (Scalar.addi (Scalar.addi 0#32 (v 0)) (v 1)) (v 2)) (v 3)) (v 4)) (v 5)
  | 6 => Scalar.addi (Scalar.addi (Scalar.addi (Scalar.addi (Scalar.addi (Scalar.addi (Scalar.addi 0#32 (v 0)) (v 1)) (v 2)) (v 3)) (v 4)) (v 5)) (v 6)
  | 7 => Scalar.addi (Scalar.addi (Scalar.addi (Scalar.addi (Scalar.addi (Scalar.addi (Scalar.addi (Scalar.addi 0#32 (v 0)) (v 1)) (v 2)) (v 3)) (v 4)) (v 5)) (v 6)) (v 7)
  | 8 => Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)
  | 9 => Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)
  | 10 => Scalar.addi (Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)) (v 10)
  | 11 => Scalar.addi (Scalar.addi (Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)) (v 10)) (v 11)
  | 12 => Scalar.addi (Scalar.addi (Scalar.addi (Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)) (v 10)) (v 11)) (v 12)
  | 13 => Scalar.addi (Scalar.addi (Scalar.addi (Scalar.addi (Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)) (v 10)) (v 11)) (v 12)) (v 13)
  | 14 => Scalar.addi (Scalar.addi (Scalar.addi (Scalar.addi (Scalar.addi (Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)) (v 10)) (v 11)) (v 12)) (v 13)) (v 14)
  | 15 => Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 (v 0)) (v 1)) (v 2)) (v 3)) (v 4)) (v 5)) (v 6)) (v 7)) (v 8)) (v 9)) (v 10)) (v 11)) (v 12)) (v 13)) (v 14)) (v 15)
  | ⟨_ + 16, _⟩ => 0#32

/-- The number of valid rows. -/
abbrev nv (v : Fin 16 → BitVec 32) : BitVec 32 := pre v 15

/-- Whether the first word counts for slot `j`: as the printed program spells it. -/
def zeroAt : ℕ → BitVec 1
  | 0 => 1#1
  | _ + 1 => 0#1

/-- One term of the source row's sum. -/
def pick (w p : BitVec 32) (j : ℕ) (r : BitVec 32) : BitVec 32 :=
  Scalar.select (Scalar.andi (Scalar.cmpi .sgt w 0#32) (Scalar.cmpi .eq p (BitVec.ofNat 32 j))) r 0#32

/-- The source row of slot `j`: the sum of the rows that are valid and have `j` valid rows before them. -/
def srj (v : Fin 16 → BitVec 32) (j : ℕ) : BitVec 32 :=
  Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 (Scalar.select (Scalar.andi (Scalar.cmpi .sgt (v 0) 0#32) (zeroAt j)) 0#32 0#32))
    (pick (v 1) (pre v 0) j 1#32))
    (pick (v 2) (pre v 1) j 2#32))
    (pick (v 3) (pre v 2) j 3#32))
    (pick (v 4) (pre v 3) j 4#32))
    (pick (v 5) (pre v 4) j 5#32))
    (pick (v 6) (pre v 5) j 6#32))
    (pick (v 7) (pre v 6) j 7#32))
    (pick (v 8) (pre v 7) j 8#32))
    (pick (v 9) (pre v 8) j 9#32))
    (pick (v 10) (pre v 9) j 10#32))
    (pick (v 11) (pre v 10) j 11#32))
    (pick (v 12) (pre v 11) j 12#32))
    (pick (v 13) (pre v 12) j 13#32))
    (pick (v 14) (pre v 13) j 14#32))
    (pick (v 15) (pre v 14) j 15#32)

/-- Slot `j` takes a key row. -/
def kc (v : Fin 16 → BitVec 32) (j : ℕ) : BitVec 1 :=
  Scalar.cmpi .ne (Scalar.extui (Scalar.cmpi .sgt (nv v) (BitVec.ofNat 32 j))) 0#32

/-- Slot `j` takes the zero row. -/
def zc (v : Fin 16 → BitVec 32) (j : ℕ) : BitVec 1 :=
  Scalar.cmpi .ne (Scalar.extui (Scalar.cmpi .sle (nv v) (BitVec.ofNat 32 j))) 0#32

/-! ## The offsets -/

/-- The batch a core works on in its round `b`. -/
def row (i : grid1.Coords) (b : ℕ) : BitVec 32 :=
  Scalar.addi (Scalar.muli (BitVec.ofNat 32 (i 0).val) 2#32) (BitVec.ofNat 32 b)

/-- A word's place in the flags. -/
def wOff (i : grid1.Coords) (b r : ℕ) : Fin 2 → ℕ := ![(Scalar.indexCast (row i b)).toNat, r]

/-- A slot's place in the result. -/
def dOff (i : grid1.Coords) (b j : ℕ) : Fin 2 → ℕ := ![(row i b).toNat, 640 * j]

/-- A slot's source among the keys. -/
def sOff (i : grid1.Coords) (b : ℕ) (v : Fin 16 → BitVec 32) (j : ℕ) : Fin 2 → ℕ :=
  ![(row i b).toNat, if j < 16 then (Scalar.muli (srj v j) 640#32).toNat else 0]

theorem core_lt (i : grid1.Coords) : (i 0).val < 2 := (i 0).isLt

theorem row_toNat (i : grid1.Coords) {b : ℕ} (hb : b < 2) :
    (row i b).toNat = (i 0).val * 2 + b := by
  have := core_lt i
  simp only [row, Scalar.addi, Scalar.muli, IntOp.addi, IntOp.muli, BitVec.toNat_add, BitVec.toNat_mul,
    BitVec.toNat_ofNat]
  omega

theorem wOff_inb (i : grid1.Coords) {b r : ℕ} (hb : b < 2) (hr : r < 16) :
    ∀ a, wOff i b r a + S1x1.size a ≤ S4x16.size a := by
  have h := row_toNat i hb
  have := core_lt i
  intro a
  match a with
  | 0 => show (row i b).toNat + 1 ≤ 4; omega
  | 1 => show r + 1 ≤ 16; omega

theorem dOff_inb (i : grid1.Coords) {b j : ℕ} (hb : b < 2) (hj : j < 32) :
    ∀ a, dOff i b j a + S1x640.size a ≤ S4x20480.size a := by
  have h := row_toNat i hb
  have := core_lt i
  intro a
  match a with
  | 0 => show (row i b).toNat + 1 ≤ 4; omega
  | 1 => show 640 * j + 640 ≤ 20480; omega

theorem sOff_inb_hi (i : grid1.Coords) {b : ℕ} (hb : b < 2) (v : Fin 16 → BitVec 32) {j : ℕ} (hj : ¬ j < 16) :
    ∀ a, sOff i b v j a + S1x640.size a ≤ S4x10240.size a := by
  have h := row_toNat i hb
  have := core_lt i
  intro a
  match a with
  | 0 => show (row i b).toNat + 1 ≤ 4; omega
  | 1 =>
    show (if j < 16 then (Scalar.muli (srj v j) 640#32).toNat else 0) + 640 ≤ 10240
    rw [if_neg hj]; omega

/-- A place in the keys that the copy of slot `j` may read. -/
abbrev SrcOk (i : grid1.Coords) (b : ℕ) (v : Fin 16 → BitVec 32) (j : ℕ) : Prop :=
  ∀ a, sOff i b v j a + S1x640.size a ≤ S4x10240.size a

/-! ## The body by slots -/

/-- The programs of a core's scalar subcore. -/
abbrev SProg (F : FTy → Type) (i : grid1.Coords) : Type 1 :=
  Prog (TpuEff nD τ sig (Elt F) Λ₀ (.scScalar ((i 0).castLE hcore1))) PUnit

section body

variable (i : grid1.Coords) (arg1 : Memref sig .scScalar .hbm S4x10240 .f32) (harg1 : arg1.IsWhole)
  (arg2 : Memref sig .scScalar .hbm S4x16 .i32) (harg2 : arg2.IsWhole)
  (arg3 : Memref sig .scScalar .hbm S640 .f32) (harg3 : arg3.IsWhole)
  (arg4 : Memref sig .scScalar .hbm S4x20480 .f32) (harg4 : arg4.IsWhole)
  (arg5 : Memref sig .scScalar .smem S4x16 .i32) (harg5 : arg5.IsWhole)
  (arg6 : DmaSems sig S_) (r0 : DmaSems sig S_)

/-- Slot `j` of the result's row, as a flat view. -/
abbrev dstV (b : Fin 2) (j : Fin 32) : Memref sig .scScalar .hbm S640 .f32 :=
  (arg4.slice (Rect.unit (s := S4x20480) (dOff i b.val j.val) S1x640.size (dOff_inb i b.isLt j.isLt)) (fun _ => rfl)).squeeze
    S640 squeezes_S1x640_S640

/-- The key row slot `j` takes, as a flat view. -/
abbrev srcV (b : Fin 2) (v : Fin 16 → BitVec 32) (j : Fin 32) (h : SrcOk i b.val v j.val) :
    Memref sig .scScalar .hbm S640 .f32 :=
  (arg1.slice (Rect.unit (s := S4x10240) (sOff i b.val v j.val) S1x640.size h) (fun _ => rfl)).squeeze
    S640 squeezes_S1x640_S640

/-- The second half of a slot: the zero row's copy, if the slot takes it. -/
def zslot (b : Fin 2) (v : Fin 16 → BitVec 32) (j : Fin 32) (K : SProg F i) : SProg F i :=
  if zc v j.val = 1#1 then
    .op (.enqueueDma arg3 (.here (dstV i arg4 b j)) (.dma arg6.sem) harg3.wordExact
      ((View.wordExact_bits rfl).reshape _ _) ⟨Or.inl rfl, trivial⟩) fun _ => K
  else K

/-- A slot: the key row's copy, if the slot takes one, then the zero row's. -/
def slot (b : Fin 2) (v : Fin 16 → BitVec 32) (j : Fin 32) (hs : kc v j.val = 1#1 → SrcOk i b.val v j.val)
    (K : SProg F i) : SProg F i :=
  if h : kc v j.val = 1#1 then
    .op (.enqueueDma (srcV i arg1 b v j (hs h)) (.here (dstV i arg4 b j)) (.dma arg6.sem)
      ((View.wordExact_bits rfl).reshape _ _) ((View.wordExact_bits rfl).reshape _ _) ⟨Or.inl rfl, trivial⟩)
      fun _ => zslot i arg3 harg3 arg4 arg6 b v j K
  else zslot i arg3 harg3 arg4 arg6 b v j K

/-- The slots of a list, in order. -/
def slots (b : Fin 2) (v : Fin 16 → BitVec 32) (hs : ∀ j : Fin 32, kc v j.val = 1#1 → SrcOk i b.val v j.val) :
    List (Fin 32) → SProg F i → SProg F i
  | [], K => K
  | j :: l, K => slot i arg1 arg3 harg3 arg4 arg6 b v j (hs j) (slots b v hs l K)

/-- The waits of a list of slots, in order. -/
def waits (b : Fin 2) : List (Fin 32) → SProg F i → SProg F i
  | [], K => K
  | j :: l, K =>
    .op (.waitDma2 arg6.sem arg3 (dstV i arg4 b j) harg3.wordExact ((View.wordExact_bits rfl).reshape _ _))
      fun _ => waits b l K

/-- The thirty-two slots, in order. -/
abbrev all : List (Fin 32) :=
  [⟨0, by decide⟩, ⟨1, by decide⟩, ⟨2, by decide⟩, ⟨3, by decide⟩, ⟨4, by decide⟩, ⟨5, by decide⟩, ⟨6, by decide⟩, ⟨7, by decide⟩, ⟨8, by decide⟩, ⟨9, by decide⟩, ⟨10, by decide⟩, ⟨11, by decide⟩, ⟨12, by decide⟩, ⟨13, by decide⟩, ⟨14, by decide⟩, ⟨15, by decide⟩, ⟨16, by decide⟩, ⟨17, by decide⟩, ⟨18, by decide⟩, ⟨19, by decide⟩, ⟨20, by decide⟩, ⟨21, by decide⟩, ⟨22, by decide⟩, ⟨23, by decide⟩, ⟨24, by decide⟩, ⟨25, by decide⟩, ⟨26, by decide⟩, ⟨27, by decide⟩, ⟨28, by decide⟩, ⟨29, by decide⟩, ⟨30, by decide⟩, ⟨31, by decide⟩]

/-- One word of the flags' row. -/
abbrev ldw (b : Fin 2) (r : Fin 16) :
    Prog (TpuEff nD τ sig (Elt F) Λ₀ (.scScalar ((i 0).castLE hcore1))) (BitVec 32) :=
  smemLoad (Val := Elt F) (e := .i32) arg5 (Rect.unit (s := S4x16) (wOff i b.val r.val) S1x1.size (wOff_inb i b.isLt r.isLt)) numel1_S1x1 rfl

/-- A batch: its row of words, the check, its slots. -/
def batch (b : Fin 2) (P : (Fin 16 → BitVec 32) → Prop) (dec : ∀ v, Decidable (P v))
    (hP : ∀ v, P v → ∀ j : Fin 32, kc v j.val = 1#1 → SrcOk i b.val v j.val) (K : SProg F i) : SProg F i :=
  (ldw i arg5 b ⟨0, by decide⟩).bind fun w0 =>
  (ldw i arg5 b ⟨1, by decide⟩).bind fun w1 =>
  (ldw i arg5 b ⟨2, by decide⟩).bind fun w2 =>
  (ldw i arg5 b ⟨3, by decide⟩).bind fun w3 =>
  (ldw i arg5 b ⟨4, by decide⟩).bind fun w4 =>
  (ldw i arg5 b ⟨5, by decide⟩).bind fun w5 =>
  (ldw i arg5 b ⟨6, by decide⟩).bind fun w6 =>
  (ldw i arg5 b ⟨7, by decide⟩).bind fun w7 =>
  (ldw i arg5 b ⟨8, by decide⟩).bind fun w8 =>
  (ldw i arg5 b ⟨9, by decide⟩).bind fun w9 =>
  (ldw i arg5 b ⟨10, by decide⟩).bind fun w10 =>
  (ldw i arg5 b ⟨11, by decide⟩).bind fun w11 =>
  (ldw i arg5 b ⟨12, by decide⟩).bind fun w12 =>
  (ldw i arg5 b ⟨13, by decide⟩).bind fun w13 =>
  (ldw i arg5 b ⟨14, by decide⟩).bind fun w14 =>
  (ldw i arg5 b ⟨15, by decide⟩).bind fun w15 =>
  .op (.assume (P ![w0, w1, w2, w3, w4, w5, w6, w7, w8, w9, w10, w11, w12, w13, w14, w15])
    (dec ![w0, w1, w2, w3, w4, w5, w6, w7, w8, w9, w10, w11, w12, w13, w14, w15])) fun h =>
  slots i arg1 arg3 harg3 arg4 arg6 b ![w0, w1, w2, w3, w4, w5, w6, w7, w8, w9, w10, w11, w12, w13, w14, w15]
    (hP _ h.down) all K

/-- The check of round 0, of a row of words. -/
def chk0 (v : Fin 16 → BitVec 32) : Prop :=
  k1_chk1 i (v 0) (v 1) (v 2) (v 3) (v 4) (v 5) (v 6) (v 7) (v 8) (v 9) (v 10) (v 11) (v 12) (v 13) (v 14) (v 15)

/-- The check of round 1, of a row of words. -/
def chk1 (v : Fin 16 → BitVec 32) : Prop :=
  k1_chk2 i (v 0) (v 1) (v 2) (v 3) (v 4) (v 5) (v 6) (v 7) (v 8) (v 9) (v 10) (v 11) (v 12) (v 13) (v 14) (v 15)

theorem chk0_ok (v : Fin 16 → BitVec 32) (h : chk0 i v) (j : Fin 32) (hk : kc v j.val = 1#1) : SrcOk i 0 v j.val := by
  by_cases hj : j.val < 16
  · obtain ⟨h0, h1, h2, h3, h4, h5, h6, h7, h8, h9, h10, h11, h12, h13, h14, h15⟩ := h
    obtain ⟨j, hj'⟩ := j
    replace hj : j < 16 := hj
    match j, hj with
    | 0, _ => exact h0 hk
    | 1, _ => exact h1 hk
    | 2, _ => exact h2 hk
    | 3, _ => exact h3 hk
    | 4, _ => exact h4 hk
    | 5, _ => exact h5 hk
    | 6, _ => exact h6 hk
    | 7, _ => exact h7 hk
    | 8, _ => exact h8 hk
    | 9, _ => exact h9 hk
    | 10, _ => exact h10 hk
    | 11, _ => exact h11 hk
    | 12, _ => exact h12 hk
    | 13, _ => exact h13 hk
    | 14, _ => exact h14 hk
    | 15, _ => exact h15 hk
    | n + 16, hn => exact absurd hn (by omega)
  · exact sOff_inb_hi i (by decide) v hj

theorem chk1_ok (v : Fin 16 → BitVec 32) (h : chk1 i v) (j : Fin 32) (hk : kc v j.val = 1#1) : SrcOk i 1 v j.val := by
  by_cases hj : j.val < 16
  · obtain ⟨h0, h1, h2, h3, h4, h5, h6, h7, h8, h9, h10, h11, h12, h13, h14, h15⟩ := h
    obtain ⟨j, hj'⟩ := j
    replace hj : j < 16 := hj
    match j, hj with
    | 0, _ => exact h0 hk
    | 1, _ => exact h1 hk
    | 2, _ => exact h2 hk
    | 3, _ => exact h3 hk
    | 4, _ => exact h4 hk
    | 5, _ => exact h5 hk
    | 6, _ => exact h6 hk
    | 7, _ => exact h7 hk
    | 8, _ => exact h8 hk
    | 9, _ => exact h9 hk
    | 10, _ => exact h10 hk
    | 11, _ => exact h11 hk
    | 12, _ => exact h12 hk
    | 13, _ => exact h13 hk
    | 14, _ => exact h14 hk
    | 15, _ => exact h15 hk
    | n + 16, hn => exact absurd hn (by omega)
  · exact sOff_inb_hi i (by decide) v hj

/-- The whole body: the flags in, the two batches, all the waits. -/
def body : SProg F i :=
  .op (.enqueueDma arg2 (.here arg5) (.dma r0.sem) harg2.wordExact harg5.wordExact ⟨Or.inl rfl, trivial⟩) fun _ =>
  .op (.waitDma2 r0.sem arg2 arg5 harg2.wordExact harg5.wordExact) fun _ =>
  batch i arg1 arg3 harg3 arg4 arg5 arg6 0 (chk0 i) (fun v => k1_chk1.dec i (v 0) (v 1) (v 2) (v 3) (v 4) (v 5) (v 6) (v 7) (v 8) (v 9) (v 10) (v 11) (v 12) (v 13) (v 14) (v 15)) (chk0_ok i) <|
  batch i arg1 arg3 harg3 arg4 arg5 arg6 1 (chk1 i) (fun v => k1_chk2.dec i (v 0) (v 1) (v 2) (v 3) (v 4) (v 5) (v 6) (v 7) (v 8) (v 9) (v 10) (v 11) (v 12) (v 13) (v 14) (v 15)) (chk1_ok i) <|
  waits i arg3 harg3 arg4 arg6 0 all <|
  waits i arg3 harg3 arg4 arg6 1 all <|
  .ret ⟨⟩

end body

end Proof.Sc
-- ==== Proof.TcBody.lean ====
module

public import proofs.«01_k».proof.Proof.ScBody

/-!
# The TensorCore body as a fold

The body of the TensorCore's call, statement by statement as printed, restated as what it is: four batches,
each two readings of a row of flags, the count, a row of bits and the copy of one value row; the zero row;
the four copies' waits; a copy to every place of the result; those copies' waits.
-/

@[expose] public section

noncomputable section

namespace Proof.Tc

open Idealize.ShloMosaic Idealize.SL.Sem
open Cert.KernelIdeal
open Cert.KernelIdeal.Facts₀ Cert.KernelIdeal.Facts
open Proof.Sc (pre nv all)

variable {F : FTy → Type} [FloatOps F]

/-- The number of valid rows, as this body spells it. -/
def nvT (v : Fin 16 → BitVec 32) : BitVec 32 :=
  Scalar.addi (Scalar.addi (Scalar.addi (Scalar.addi (Scalar.addi (Scalar.addi (Scalar.addi (Scalar.addi (Scalar.addi (Scalar.addi (Scalar.addi (Scalar.addi (Scalar.addi (Scalar.addi (Scalar.addi (v 0) (v 1)) (v 2)) (v 3)) (v 4)) (v 5)) (v 6)) (v 7)) (v 8)) (v 9)) (v 10)) (v 11)) (v 12)) (v 13)) (v 14)) (v 15)

theorem nvT_eq (v : Fin 16 → BitVec 32) : nvT v = nv v := by
  have h : Scalar.addi 0#32 (v 0) = v 0 := BitVec.zero_add _
  unfold nv pre nvT
  rw [h]

/-- The first valid row: rows tried from the last, an earlier one winning. -/
def fv (v : Fin 16 → BitVec 32) : BitVec 32 :=
  Scalar.select (Scalar.cmpi .sgt (v 0) 0#32) 0#32
    (Scalar.select (Scalar.cmpi .sgt (v 1) 0#32) 1#32
    (Scalar.select (Scalar.cmpi .sgt (v 2) 0#32) 2#32
    (Scalar.select (Scalar.cmpi .sgt (v 3) 0#32) 3#32
    (Scalar.select (Scalar.cmpi .sgt (v 4) 0#32) 4#32
    (Scalar.select (Scalar.cmpi .sgt (v 5) 0#32) 5#32
    (Scalar.select (Scalar.cmpi .sgt (v 6) 0#32) 6#32
    (Scalar.select (Scalar.cmpi .sgt (v 7) 0#32) 7#32
    (Scalar.select (Scalar.cmpi .sgt (v 8) 0#32) 8#32
    (Scalar.select (Scalar.cmpi .sgt (v 9) 0#32) 9#32
    (Scalar.select (Scalar.cmpi .sgt (v 10) 0#32) 10#32
    (Scalar.select (Scalar.cmpi .sgt (v 11) 0#32) 11#32
    (Scalar.select (Scalar.cmpi .sgt (v 12) 0#32) 12#32
    (Scalar.select (Scalar.cmpi .sgt (v 13) 0#32) 13#32
    (Scalar.select (Scalar.cmpi .sgt (v 14) 0#32) 14#32
    (Scalar.select (Scalar.cmpi .sgt (v 15) 0#32) 15#32 0#32)))))))))))))))

/-- The row of the scratch that place `j` of a batch is copied from. -/
def rw' (b : ℕ) (v : Fin 16 → BitVec 32) (j : ℕ) : BitVec 32 :=
  Scalar.select (Scalar.cmpi .sgt (nvT v) (BitVec.ofNat 32 j)) (BitVec.ofNat 32 b) 4#32

/-- The bit of place `j`. -/
def bit (v : Fin 16 → BitVec 32) (j : ℕ) : BitVec 32 :=
  Scalar.select (Scalar.cmpi .sgt (nvT v) (BitVec.ofNat 32 j)) 1#32 0#32

theorem select_toNat_lt {c : BitVec 1} {x y : BitVec 32} {n : ℕ} (hx : x.toNat < n) (hy : y.toNat < n) :
    (Scalar.select c x y).toNat < n := by
  unfold Scalar.select; split <;> assumption

theorem fv_lt (v : Fin 16 → BitVec 32) : (fv v).toNat < 16 := by
  unfold fv
  iterate 16 refine select_toNat_lt (by decide) ?_
  decide

theorem rw_lt {b : ℕ} (hb : b < 4) (v : Fin 16 → BitVec 32) (j : ℕ) : (rw' b v j).toNat < 5 := by
  refine select_toNat_lt ?_ (by decide)
  rw [BitVec.toNat_ofNat, Nat.mod_eq_of_lt (by omega)]; omega

/-! ## The offsets -/

theorem sOff_inb {b : ℕ} (hb : b < 4) (v : Fin 16 → BitVec 32) :
    ∀ a, (![b, (fv v).toNat, 0, 0] : Fin 4 → ℕ) a + S1x1x256x640.size a ≤ S4x16x256x640.size a := by
  have := fv_lt v
  intro a
  match a with
  | 0 => show b + 1 ≤ 4; omega
  | 1 => show (fv v).toNat + 1 ≤ 16; omega
  | 2 => show 0 + 256 ≤ 256; omega
  | 3 => show 0 + 640 ≤ 640; omega

theorem rOff_inb {n : ℕ} (hn : n < 5) :
    ∀ a, (![n, 0, 0] : Fin 3 → ℕ) a + S1x256x640.size a ≤ S5x256x640.size a := by
  intro a
  match a with
  | 0 => show n + 1 ≤ 5; omega
  | 1 => show 0 + 256 ≤ 256; omega
  | 2 => show 0 + 640 ≤ 640; omega

theorem dOff_inb {b j : ℕ} (hb : b < 4) (hj : j < 32) :
    ∀ a, (![b, j, 0, 0] : Fin 4 → ℕ) a + S1x1x256x640.size a ≤ S4x32x256x640.size a := by
  intro a
  match a with
  | 0 => show b + 1 ≤ 4; omega
  | 1 => show j + 1 ≤ 32; omega
  | 2 => show 0 + 256 ≤ 256; omega
  | 3 => show 0 + 640 ≤ 640; omega

theorem qOff_inb {b j : ℕ} (hb : b < 4) (hj : j < 16) :
    ∀ a, (![b, j, 0, 0] : Fin 4 → ℕ) a + S1x1x256x640.size a ≤ S4x16x256x640.size a := by
  intro a
  match a with
  | 0 => show b + 1 ≤ 4; omega
  | 1 => show j + 1 ≤ 16; omega
  | 2 => show 0 + 256 ≤ 256; omega
  | 3 => show 0 + 640 ≤ 640; omega

theorem wOff_inb {b r : ℕ} (hb : b < 4) (hr : r < 16) :
    ∀ a, (![b, r] : Fin 2 → ℕ) a + S1x1.size a ≤ S4x16.size a := by
  intro a
  match a with
  | 0 => show b + 1 ≤ 4; omega
  | 1 => show r + 1 ≤ 16; omega

theorem bOff_inb {b j : ℕ} (hb : b < 4) (hj : j < 32) :
    ∀ a, (![b, j] : Fin 2 → ℕ) a + S1x1.size a ≤ S4x32.size a := by
  intro a
  match a with
  | 0 => show b + 1 ≤ 4; omega
  | 1 => show j + 1 ≤ 32; omega

theorem cOff_inb {b : ℕ} (hb : b < 4) : ∀ a, (![b] : Fin 1 → ℕ) a + S1.size a ≤ S4.size a := by
  intro a
  match a with
  | 0 => show b + 1 ≤ 4; omega

/-! ## The body -/

/-- The programs of a TensorCore. -/
abbrev TProg (F : FTy → Type) (α : Type) : Type 1 := Prog (TpuEff nD τ sig (Elt F) Λ₀ .tc) α

section body

variable (arg0 : Memref sig .tc .smem S4x16 .i32) (harg0 : arg0.IsWhole)
  (arg1 : Memref sig .tc .hbm S4x16x256x640 .f32) (harg1 : arg1.IsWhole)
  (arg2 : Memref sig .tc .hbm S4x32x256x640 .f32) (harg2 : arg2.IsWhole)
  (arg3 : Memref sig .tc .smem S4x32 .i32) (harg3 : arg3.IsWhole)
  (arg4 : Memref sig .tc .smem S4 .i32) (harg4 : arg4.IsWhole)
  (arg5 : Memref sig .tc .vmem S5x256x640 .f32) (harg5 : arg5.IsWhole)
  (arg6 : DmaSems sig S_) (arg7 : DmaSems sig S_)

/-- A row of the scratch. -/
abbrev rowV (n : ℕ) (hn : n < 5) : Memref sig .tc .vmem S256x640 .f32 :=
  (arg5.slice (Rect.unit (s := S5x256x640) ![n, 0, 0] S1x256x640.size (rOff_inb hn)) (fun _ => rfl)).squeeze
    S256x640 squeezes_S1x256x640_S256x640

/-- The value row of a batch that the flags choose. -/
abbrev valV (b : Fin 4) (v : Fin 16 → BitVec 32) : Memref sig .tc .hbm S256x640 .f32 :=
  (arg1.slice (Rect.unit (s := S4x16x256x640) ![b.val, (fv v).toNat, 0, 0] S1x1x256x640.size (sOff_inb b.isLt v))
    (fun _ => rfl)).squeeze S256x640 squeezes_S1x1x256x640_S256x640

/-- The first value row of a batch, which the waits name. -/
abbrev val0V (b : Fin 4) : Memref sig .tc .hbm S256x640 .f32 :=
  (arg1.slice (Rect.unit (s := S4x16x256x640) ![b.val, 0, 0, 0] S1x1x256x640.size (qOff_inb b.isLt (by decide)))
    (fun _ => rfl)).squeeze S256x640 squeezes_S1x1x256x640_S256x640

/-- A place of the result. -/
abbrev outV (b : Fin 4) (j : Fin 32) : Memref sig .tc .hbm S256x640 .f32 :=
  (arg2.slice (Rect.unit (s := S4x32x256x640) ![b.val, j.val, 0, 0] S1x1x256x640.size (dOff_inb b.isLt j.isLt))
    (fun _ => rfl)).squeeze S256x640 squeezes_S1x1x256x640_S256x640

/-- One flag. -/
abbrev ldw (b : Fin 4) (r : Fin 16) : TProg F (BitVec 32) :=
  smemLoad (Val := Elt F) (e := .i32) arg0 (Rect.unit (s := S4x16) ![b.val, r.val] S1x1.size (wOff_inb b.isLt r.isLt))
    numel1_S1x1 rfl

/-- The bits of a list of places. -/
def bits (b : Fin 4) (v : Fin 16 → BitVec 32) : List (Fin 32) → TProg F PUnit → TProg F PUnit
  | [], K => K
  | j :: l, K =>
    (smemLoad (Val := Elt F) (e := .i32) arg3 (Rect.unit (s := S4x32) ![b.val, j.val] S1x1.size (bOff_inb b.isLt j.isLt))
      numel1_S1x1 rfl).bind fun _ =>
    .op (.store arg3 (Rect.unit (s := S4x32) ![b.val, j.val] S1x1.size (bOff_inb b.isLt j.isLt)) (fun _ => bit v j.val)
      Finset.univ (View.stores_smem_one rfl numel1_S1x1) (.inl rfl)) fun _ => bits b v l K

/-- A batch: two readings of its flags, its count, its bits, the copy of its value row. -/
def batch (b : Fin 4) (P Q : (Fin 16 → BitVec 32) → Prop) (decP : ∀ v, Decidable (P v)) (decQ : ∀ v, Decidable (Q v))
    (K : (Fin 16 → BitVec 32) → TProg F PUnit) : TProg F PUnit :=
  (ldw arg0 b ⟨0, by decide⟩).bind fun w0 =>
  (ldw arg0 b ⟨1, by decide⟩).bind fun w1 =>
  (ldw arg0 b ⟨2, by decide⟩).bind fun w2 =>
  (ldw arg0 b ⟨3, by decide⟩).bind fun w3 =>
  (ldw arg0 b ⟨4, by decide⟩).bind fun w4 =>
  (ldw arg0 b ⟨5, by decide⟩).bind fun w5 =>
  (ldw arg0 b ⟨6, by decide⟩).bind fun w6 =>
  (ldw arg0 b ⟨7, by decide⟩).bind fun w7 =>
  (ldw arg0 b ⟨8, by decide⟩).bind fun w8 =>
  (ldw arg0 b ⟨9, by decide⟩).bind fun w9 =>
  (ldw arg0 b ⟨10, by decide⟩).bind fun w10 =>
  (ldw arg0 b ⟨11, by decide⟩).bind fun w11 =>
  (ldw arg0 b ⟨12, by decide⟩).bind fun w12 =>
  (ldw arg0 b ⟨13, by decide⟩).bind fun w13 =>
  (ldw arg0 b ⟨14, by decide⟩).bind fun w14 =>
  (ldw arg0 b ⟨15, by decide⟩).bind fun w15 =>
  .op (.assume (P ![w0, w1, w2, w3, w4, w5, w6, w7, w8, w9, w10, w11, w12, w13, w14, w15])
    (decP ![w0, w1, w2, w3, w4, w5, w6, w7, w8, w9, w10, w11, w12, w13, w14, w15])) fun _ =>
  (ldw arg0 b ⟨15, by decide⟩).bind fun u15 =>
  (ldw arg0 b ⟨14, by decide⟩).bind fun u14 =>
  (ldw arg0 b ⟨13, by decide⟩).bind fun u13 =>
  (ldw arg0 b ⟨12, by decide⟩).bind fun u12 =>
  (ldw arg0 b ⟨11, by decide⟩).bind fun u11 =>
  (ldw arg0 b ⟨10, by decide⟩).bind fun u10 =>
  (ldw arg0 b ⟨9, by decide⟩).bind fun u9 =>
  (ldw arg0 b ⟨8, by decide⟩).bind fun u8 =>
  (ldw arg0 b ⟨7, by decide⟩).bind fun u7 =>
  (ldw arg0 b ⟨6, by decide⟩).bind fun u6 =>
  (ldw arg0 b ⟨5, by decide⟩).bind fun u5 =>
  (ldw arg0 b ⟨4, by decide⟩).bind fun u4 =>
  (ldw arg0 b ⟨3, by decide⟩).bind fun u3 =>
  (ldw arg0 b ⟨2, by decide⟩).bind fun u2 =>
  (ldw arg0 b ⟨1, by decide⟩).bind fun u1 =>
  (ldw arg0 b ⟨0, by decide⟩).bind fun u0 =>
  .op (.assume (Q ![u0, u1, u2, u3, u4, u5, u6, u7, u8, u9, u10, u11, u12, u13, u14, u15])
    (decQ ![u0, u1, u2, u3, u4, u5, u6, u7, u8, u9, u10, u11, u12, u13, u14, u15])) fun _ =>
  (smemLoad (Val := Elt F) (e := .i32) arg4 (Rect.unit (s := S4) ![b.val] S1.size (cOff_inb b.isLt)) numel1_S1 rfl).bind fun _ =>
  .op (.store arg4 (Rect.unit (s := S4) ![b.val] S1.size (cOff_inb b.isLt)) (fun _ => nvT ![w0, w1, w2, w3, w4, w5, w6, w7, w8, w9, w10, w11, w12, w13, w14, w15])
    Finset.univ (View.stores_smem_one rfl numel1_S1) (.inl rfl)) fun _ =>
  bits arg3 b ![w0, w1, w2, w3, w4, w5, w6, w7, w8, w9, w10, w11, w12, w13, w14, w15] all <|
  .op (.enqueueDma (valV arg1 b ![u0, u1, u2, u3, u4, u5, u6, u7, u8, u9, u10, u11, u12, u13, u14, u15]) (.here (rowV arg5 b.val (by omega)))
    (.dma arg6.sem) ((View.wordExact_bits rfl).reshape _ _) ((View.wordExact_bits rfl).reshape _ _) ⟨Or.inl rfl, trivial⟩)
    fun _ => K ![w0, w1, w2, w3, w4, w5, w6, w7, w8, w9, w10, w11, w12, w13, w14, w15]

/-- The zero row's store. -/
def zero (K : TProg F PUnit) : TProg F PUnit :=
  .op (.load arg5 (Rect.unit (s := S5x256x640) ![4, 0, 0] S1x256x640.size (rOff_inb (by decide))).toLoadRect
    (View.loadsAt_vmem h_S1x256x640)) fun _ =>
  .op (.store arg5 (Rect.unit (s := S5x256x640) ![4, 0, 0] S1x256x640.size (rOff_inb (by decide)))
    (shapeCast S1x256x640 (broadcast S256x640 (Scalar.ofBits .f32 0x00000000#32 : F .f32) : FVec F S256x640 .f32)
      shapeCasts_S256x640_S1x256x640)
    Finset.univ (View.stores_vmem_bits_univ h_S1x256x640 rfl) (.inl rfl)) fun _ => K

/-- The waits of the value rows' copies. -/
def waitsF : List (Fin 4) → TProg F PUnit → TProg F PUnit
  | [], K => K
  | b :: l, K =>
    .op (.waitDma2 arg6.sem (val0V arg1 b) (rowV arg5 b.val (by omega)) ((View.wordExact_bits rfl).reshape _ _)
      ((View.wordExact_bits rfl).reshape _ _)) fun _ => waitsF l K

/-- The copies to a list of places of a batch. -/
def outs (b : Fin 4) (v : Fin 16 → BitVec 32) : List (Fin 32) → TProg F PUnit → TProg F PUnit
  | [], K => K
  | j :: l, K =>
    .op (.enqueueDma (rowV arg5 (rw' b.val v j.val).toNat (rw_lt b.isLt v j.val)) (.here (outV arg2 b j)) (.dma arg7.sem)
      ((View.wordExact_bits rfl).reshape _ _) ((View.wordExact_bits rfl).reshape _ _) ⟨Or.inl rfl, trivial⟩)
      fun _ => outs b v l K

/-- The waits of the copies to a list of places of a batch. -/
def waitsW (b : Fin 4) : List (Fin 32) → TProg F PUnit → TProg F PUnit
  | [], K => K
  | j :: l, K =>
    .op (.waitDma2 arg7.sem (rowV arg5 4 (by decide)) (outV arg2 b j) ((View.wordExact_bits rfl).reshape _ _)
      ((View.wordExact_bits rfl).reshape _ _)) fun _ => waitsW b l K

/-- The whole body. -/
def body : TProg F PUnit :=
  batch arg0 arg1 arg3 arg4 arg5 arg6 0
    (fun v => k0_chk5 (v 0) (v 1) (v 2) (v 3) (v 4) (v 5) (v 6) (v 7) (v 8) (v 9) (v 10) (v 11) (v 12) (v 13) (v 14) (v 15))
    (fun v => k0_chk1 (v 15) (v 14) (v 13) (v 12) (v 11) (v 10) (v 9) (v 8) (v 7) (v 6) (v 5) (v 4) (v 3) (v 2) (v 1) (v 0))
    (fun v => k0_chk5.dec (v 0) (v 1) (v 2) (v 3) (v 4) (v 5) (v 6) (v 7) (v 8) (v 9) (v 10) (v 11) (v 12) (v 13) (v 14) (v 15))
    (fun v => k0_chk1.dec (v 15) (v 14) (v 13) (v 12) (v 11) (v 10) (v 9) (v 8) (v 7) (v 6) (v 5) (v 4) (v 3) (v 2) (v 1) (v 0)) fun v0 =>
  batch arg0 arg1 arg3 arg4 arg5 arg6 1
    (fun v => k0_chk6 (v 0) (v 1) (v 2) (v 3) (v 4) (v 5) (v 6) (v 7) (v 8) (v 9) (v 10) (v 11) (v 12) (v 13) (v 14) (v 15))
    (fun v => k0_chk2 (v 15) (v 14) (v 13) (v 12) (v 11) (v 10) (v 9) (v 8) (v 7) (v 6) (v 5) (v 4) (v 3) (v 2) (v 1) (v 0))
    (fun v => k0_chk6.dec (v 0) (v 1) (v 2) (v 3) (v 4) (v 5) (v 6) (v 7) (v 8) (v 9) (v 10) (v 11) (v 12) (v 13) (v 14) (v 15))
    (fun v => k0_chk2.dec (v 15) (v 14) (v 13) (v 12) (v 11) (v 10) (v 9) (v 8) (v 7) (v 6) (v 5) (v 4) (v 3) (v 2) (v 1) (v 0)) fun v1 =>
  batch arg0 arg1 arg3 arg4 arg5 arg6 2
    (fun v => k0_chk7 (v 0) (v 1) (v 2) (v 3) (v 4) (v 5) (v 6) (v 7) (v 8) (v 9) (v 10) (v 11) (v 12) (v 13) (v 14) (v 15))
    (fun v => k0_chk3 (v 15) (v 14) (v 13) (v 12) (v 11) (v 10) (v 9) (v 8) (v 7) (v 6) (v 5) (v 4) (v 3) (v 2) (v 1) (v 0))
    (fun v => k0_chk7.dec (v 0) (v 1) (v 2) (v 3) (v 4) (v 5) (v 6) (v 7) (v 8) (v 9) (v 10) (v 11) (v 12) (v 13) (v 14) (v 15))
    (fun v => k0_chk3.dec (v 15) (v 14) (v 13) (v 12) (v 11) (v 10) (v 9) (v 8) (v 7) (v 6) (v 5) (v 4) (v 3) (v 2) (v 1) (v 0)) fun v2 =>
  batch arg0 arg1 arg3 arg4 arg5 arg6 3
    (fun v => k0_chk8 (v 0) (v 1) (v 2) (v 3) (v 4) (v 5) (v 6) (v 7) (v 8) (v 9) (v 10) (v 11) (v 12) (v 13) (v 14) (v 15))
    (fun v => k0_chk4 (v 15) (v 14) (v 13) (v 12) (v 11) (v 10) (v 9) (v 8) (v 7) (v 6) (v 5) (v 4) (v 3) (v 2) (v 1) (v 0))
    (fun v => k0_chk8.dec (v 0) (v 1) (v 2) (v 3) (v 4) (v 5) (v 6) (v 7) (v 8) (v 9) (v 10) (v 11) (v 12) (v 13) (v 14) (v 15))
    (fun v => k0_chk4.dec (v 15) (v 14) (v 13) (v 12) (v 11) (v 10) (v 9) (v 8) (v 7) (v 6) (v 5) (v 4) (v 3) (v 2) (v 1) (v 0)) fun v3 =>
  zero arg5 <| waitsF arg1 arg5 arg6 [⟨0, by decide⟩, ⟨1, by decide⟩, ⟨2, by decide⟩, ⟨3, by decide⟩] <|
  outs arg2 arg5 arg7 0 v0 all <|
  outs arg2 arg5 arg7 1 v1 all <|
  outs arg2 arg5 arg7 2 v2 all <|
  outs arg2 arg5 arg7 3 v3 all <|
  waitsW arg2 arg5 arg7 0 all <|
  waitsW arg2 arg5 arg7 1 all <|
  waitsW arg2 arg5 arg7 2 all <|
  waitsW arg2 arg5 arg7 3 all <|
  .ret ⟨⟩

end body

end Proof.Tc
-- ==== Proof.ScEq.lean ====
module

public import proofs.«01_k».proof.Proof.ScBody

/-!
# The printed SparseCore body is the fold

Each lemma moves one statement from the head of the printed body, which lies under up to two binds of its
windows, to the head of the fold.
-/

@[expose] public section

noncomputable section

namespace Proof.ScEq

open Idealize.ShloMosaic Idealize.SL.Sem

universe v

variable {E : Type → Type v} {α β γ δ ε : Type}

/-! ## One statement -/

theorem op0 {e : E α} {k : α → Prog E β} {q : α → Prog E β} (h : ∀ x, k x = q x) :
    (Prog.lift e).bind k = .op e q := congrArg (Prog.op e) (funext h)

theorem op1 {e : E α} {k : α → Prog E β} {k1 : β → Prog E γ} {q : α → Prog E γ}
    (h : ∀ x, (k x).bind k1 = q x) : ((Prog.lift e).bind k).bind k1 = .op e q := congrArg (Prog.op e) (funext h)

theorem op2 {e : E α} {k : α → Prog E β} {k1 : β → Prog E γ} {k2 : γ → Prog E δ} {q : α → Prog E δ}
    (h : ∀ x, ((k x).bind k1).bind k2 = q x) :
    (((Prog.lift e).bind k).bind k1).bind k2 = .op e q := congrArg (Prog.op e) (funext h)

theorem ret1 {a : α} {k : α → Prog E β} {q : Prog E β} (h : k a = q) : (Prog.ret a).bind k = q := h

theorem ret2 {a : α} {k : α → Prog E β} {k1 : β → Prog E γ} {q : Prog E γ} (h : (k a).bind k1 = q) :
    ((Prog.ret a).bind k).bind k1 = q := h

/-! ## One branch -/

theorem if0 {c : Prop} [Decidable c] {e : c → E α} {J : Prog E β} {q : Prog E β} (h : J = q) :
    (dite c (fun h => (Prog.lift (e h)).bind fun _ => J) fun _ => J) =
      dite c (fun h => .op (e h) fun _ => q) fun _ => q := by
  subst h; rfl

theorem if1 {c : Prop} [Decidable c] {e : c → E α} {J : Prog E β} {k1 : β → Prog E γ} {q : Prog E γ}
    (h : J.bind k1 = q) :
    (dite c (fun h => (Prog.lift (e h)).bind fun _ => J) fun _ => J).bind k1 =
      dite c (fun h => .op (e h) fun _ => q) fun _ => q := by
  subst h; split <;> rfl

theorem if2 {c : Prop} [Decidable c] {e : c → E α} {J : Prog E β} {k1 : β → Prog E γ} {k2 : γ → Prog E δ}
    {q : Prog E δ} (h : (J.bind k1).bind k2 = q) :
    ((dite c (fun h => (Prog.lift (e h)).bind fun _ => J) fun _ => J).bind k1).bind k2 =
      dite c (fun h => .op (e h) fun _ => q) fun _ => q := by
  subst h; split <;> rfl

theorem ite1 {c : Prop} [Decidable c] {e : E α} {J : Prog E β} {k1 : β → Prog E γ} {q : Prog E γ}
    (h : J.bind k1 = q) :
    (ite c ((Prog.lift e).bind fun _ => J) J).bind k1 = ite c (.op e fun _ => q) q := by
  subst h; split <;> rfl

theorem ite2 {c : Prop} [Decidable c] {e : E α} {J : Prog E β} {k1 : β → Prog E γ} {k2 : γ → Prog E δ}
    {q : Prog E δ} (h : (J.bind k1).bind k2 = q) :
    ((ite c ((Prog.lift e).bind fun _ => J) J).bind k1).bind k2 = ite c (.op e fun _ => q) q := by
  subst h; split <;> rfl

/-- A plain condition where the fold's slot names its proof. -/
theorem idte2 {c : Prop} [Decidable c] {e : E α} {J : Prog E β} {k1 : β → Prog E γ} {k2 : γ → Prog E δ}
    {q : Prog E δ} (h : (J.bind k1).bind k2 = q) :
    ((ite c ((Prog.lift e).bind fun _ => J) J).bind k1).bind k2 = dite c (fun _ => .op e fun _ => q) fun _ => q := by
  subst h; split <;> rfl

/-! ## One word -/

theorem ld2 {p : Proc Cert.KernelIdeal.τ} {nD : ℕ} {sig : RefSig} {Val : EltTy → Type} {Λ : Labels} {s : Shape} {e : EltTy}
    {m : Memref sig p.kind .smem s e} {r : Rect s} {h1 : r.shape.numel = 1} {hp : e.packing = 1}
    {k : Val e → Prog (TpuEff nD Cert.KernelIdeal.τ sig Val Λ p) β} {k1 : β → Prog (TpuEff nD Cert.KernelIdeal.τ sig Val Λ p) γ}
    {k2 : γ → Prog (TpuEff nD Cert.KernelIdeal.τ sig Val Λ p) δ} {q : Val e → Prog (TpuEff nD Cert.KernelIdeal.τ sig Val Λ p) δ}
    (h : ∀ x, ((k x).bind k1).bind k2 = q x) :
    (((smemLoad m r h1 hp).bind k).bind k1).bind k2 = (smemLoad m r h1 hp).bind q :=
  congrArg (Prog.op _) (funext fun f => h _)

open Cert.KernelIdeal

variable {F : FTy → Type} [FloatOps F]

-- one unification per statement of a long body
set_option maxRecDepth 100000 in
set_option maxHeartbeats 40000000 in
/-- The printed body, statement by statement. -/
theorem cc1_body_eq (i : grid1.Coords) (arg1 : Memref sig .scScalar .hbm S4x10240 .f32) (harg1 : arg1.IsWhole)
  (arg2 : Memref sig .scScalar .hbm S4x16 .i32) (harg2 : arg2.IsWhole)
  (arg3 : Memref sig .scScalar .hbm S640 .f32) (harg3 : arg3.IsWhole)
  (arg4 : Memref sig .scScalar .hbm S4x20480 .f32) (harg4 : arg4.IsWhole)
  (arg5 : Memref sig .scScalar .smem S4x16 .i32) (harg5 : arg5.IsWhole)
  (arg6 : DmaSems sig S_) (r0 : DmaSems sig S_) :
    cc1_body (F := F) i arg1 harg1 arg2 harg2 arg3 harg3 arg4 harg4 arg5 harg5 arg6 r0 =
      Sc.body i arg1 arg2 harg2 arg3 harg3 arg4 arg5 harg5 arg6 r0 := by
  refine op2 fun _ => op2 fun _ => ld2 fun _ => ld2 fun _ => ld2 fun _ => ld2 fun _ => ld2 fun _ => ld2 fun _ => ?_
  refine ld2 fun _ => ld2 fun _ => ld2 fun _ => ld2 fun _ => ld2 fun _ => ld2 fun _ => ld2 fun _ => ret2 <| ?_
  refine ld2 fun _ => ld2 fun _ => ld2 fun _ => op2 fun _ => ret2 <| ret2 <| if2 <| ret2 <| ?_
  refine ite2 <| ret2 <| ret2 <| if2 <| ite2 <| ret2 <| ret2 <| ret2 <| ?_
  refine if2 <| ite2 <| ret2 <| ret2 <| if2 <| ite2 <| ret2 <| ret2 <| ?_
  refine ret2 <| if2 <| ite2 <| ret2 <| ret2 <| if2 <| ret2 <| ite2 <| ?_
  refine ret2 <| ret2 <| if2 <| ite2 <| ret2 <| ret2 <| ret2 <| if2 <| ?_
  refine ite2 <| ret2 <| ret2 <| if2 <| ite2 <| ret2 <| ret2 <| ret2 <| ?_
  refine if2 <| ite2 <| ret2 <| ret2 <| if2 <| ret2 <| ite2 <| ret2 <| ?_
  refine ret2 <| if2 <| ite2 <| ret2 <| ret2 <| ret2 <| if2 <| ite2 <| ?_
  refine ret2 <| ret2 <| if2 <| ite2 <| ret2 <| ret2 <| ret2 <| if2 <| ?_
  refine ite2 <| ret2 <| ret2 <| if2 <| ret2 <| ite2 <| idte2 <| ite2 <| ?_
  refine idte2 <| ite2 <| idte2 <| ite2 <| idte2 <| ite2 <| idte2 <| ret2 <| ?_
  refine ite2 <| idte2 <| ite2 <| idte2 <| ite2 <| idte2 <| ite2 <| idte2 <| ?_
  refine ite2 <| idte2 <| ret2 <| ite2 <| idte2 <| ite2 <| idte2 <| ite2 <| ?_
  refine idte2 <| ite2 <| idte2 <| ite2 <| idte2 <| ret2 <| ite2 <| idte2 <| ?_
  refine ite2 <| ld2 fun _ => ld2 fun _ => ld2 fun _ => ld2 fun _ => ld2 fun _ => ld2 fun _ => ld2 fun _ => ?_
  refine ld2 fun _ => ld2 fun _ => ret2 <| ld2 fun _ => ld2 fun _ => ld2 fun _ => ld2 fun _ => ld2 fun _ => ?_
  refine ld2 fun _ => ld2 fun _ => op2 fun _ => ret2 <| ret2 <| ret2 <| if2 <| ite2 <| ?_
  refine ret2 <| ret2 <| if2 <| ite2 <| ret2 <| ret2 <| ret2 <| if2 <| ?_
  refine ite2 <| ret2 <| ret2 <| ret2 <| if2 <| ite2 <| ret2 <| ret2 <| ?_
  refine ret1 <| if2 <| ite2 <| ret2 <| ret2 <| ret2 <| if2 <| ite2 <| ?_
  refine ret2 <| ret2 <| if2 <| ite2 <| ret2 <| ret2 <| ret2 <| if2 <| ?_
  refine ite2 <| ret2 <| ret2 <| ret2 <| if2 <| ite2 <| ret2 <| ret2 <| ?_
  refine if2 <| ite2 <| ret2 <| ret2 <| ret2 <| if2 <| ite2 <| ret2 <| ?_
  refine ret2 <| if2 <| ite2 <| ret2 <| ret2 <| ret2 <| if2 <| ite2 <| ?_
  refine ret2 <| ret2 <| ret2 <| if2 <| ite2 <| ret2 <| ret2 <| if2 <| ?_
  refine ite2 <| ret2 <| ret2 <| ret2 <| if2 <| ite2 <| idte2 <| ite2 <| ?_
  refine idte2 <| ite2 <| idte2 <| ite2 <| ret2 <| idte2 <| ite2 <| idte2 <| ?_
  refine ite2 <| idte2 <| ite2 <| idte2 <| ite2 <| idte2 <| ite2 <| ret2 <| ?_
  refine idte2 <| ite2 <| idte2 <| ite2 <| idte2 <| ite2 <| idte2 <| ite2 <| ?_
  refine idte2 <| ite2 <| ret2 <| idte2 <| ite2 <| idte2 <| ite2 <| idte2 <| ?_
  refine ite2 <| op2 fun _ => op2 fun _ => op2 fun _ => op2 fun _ => op2 fun _ => op2 fun _ => ret2 <| ?_
  refine op2 fun _ => op2 fun _ => op2 fun _ => op2 fun _ => op2 fun _ => op2 fun _ => op2 fun _ => op2 fun _ => ?_
  refine op2 fun _ => op2 fun _ => op2 fun _ => op2 fun _ => op2 fun _ => op2 fun _ => op2 fun _ => ret2 <| ?_
  refine op2 fun _ => op2 fun _ => op2 fun _ => op2 fun _ => op2 fun _ => op2 fun _ => op2 fun _ => op2 fun _ => ?_
  refine op2 fun _ => op2 fun _ => op2 fun _ => op2 fun _ => op2 fun _ => op2 fun _ => ret2 <| op2 fun _ => ?_
  refine op2 fun _ => op2 fun _ => op2 fun _ => op2 fun _ => op2 fun _ => op2 fun _ => op2 fun _ => op2 fun _ => ?_
  refine op2 fun _ => op2 fun _ => op2 fun _ => op2 fun _ => op2 fun _ => op2 fun _ => ret2 <| op1 fun _ => ?_
  refine op1 fun _ => op1 fun _ => op1 fun _ => op1 fun _ => op1 fun _ => ret1 <| op0 fun _ => op0 fun _ => ?_
  refine op0 fun _ => op0 fun _ => op0 fun _ => op0 fun _ => op0 fun _ => op0 fun _ => ?_
  rfl

end Proof.ScEq
-- ==== Proof.TcEq.lean ====
module

public import proofs.«01_k».proof.Proof.TcBody
public import proofs.«01_k».proof.Proof.ScEq

/-!
# The printed TensorCore body is the fold
-/

@[expose] public section

noncomputable section

namespace Proof.TcEq

open Idealize.ShloMosaic Idealize.SL.Sem
open Cert.KernelIdeal
open Proof.ScEq (op0 op1 op2 ret1 ret2)

variable {F : FTy → Type} [FloatOps F]

/-- A word's load at the head. -/
theorem ldT {β γ δ : Type} {s : Shape} {m : Memref sig .tc .smem s .i32} {r : Rect s} {h1 : r.shape.numel = 1}
    {hp : EltTy.i32.packing = 1} {k : Elt F .i32 → Tc.TProg F β} {k1 : β → Tc.TProg F γ} {k2 : γ → Tc.TProg F δ}
    {q : Elt F .i32 → Tc.TProg F δ} (h : ∀ x, ((k x).bind k1).bind k2 = q x) :
    (((smemLoad (Val := Elt F) m r h1 hp).bind k).bind k1).bind k2 = (smemLoad (Val := Elt F) m r h1 hp).bind q :=
  congrArg (Prog.op _) (funext fun _ => h _)

/-- A row's copy at the head of the copies to a list of places: the row's place is the only part that is spelt differently. -/
theorem enqT {β γ : Type} {arg2 : Memref sig .tc .hbm S4x32x256x640 .f32} {arg5 : Memref sig .tc .vmem S5x256x640 .f32}
    {arg7 : DmaSems sig S_} {b : Fin 4} {v : Fin 16 → BitVec 32} {j : Fin 32} {l : List (Fin 32)} {K : Tc.TProg F PUnit}
    {a : Fin 3 → ℕ} {ha h1 h3 p1 p2 p3} {k : PUnit → Tc.TProg F β} {k1 : β → Tc.TProg F γ} {k2 : γ → Tc.TProg F PUnit}
    (e : a = ![(Tc.rw' b.val v j.val).toNat, 0, 0])
    (h : ∀ x, ((k x).bind k1).bind k2 = Tc.outs arg2 arg5 arg7 b v l K) :
    Tc.outs arg2 arg5 arg7 b v (j :: l) K =
    (((Prog.lift (.enqueueDma ((arg5.slice (Rect.unit (s := S5x256x640) a S1x256x640.size ha) h1).squeeze S256x640 h3)
      (.here (Tc.outV arg2 b j)) (.dma arg7.sem) p1 p2 p3) : Tc.TProg F PUnit).bind k).bind k1).bind k2 := by
  subst e; exact (congrArg (Prog.op _) (funext h)).symm

/-- No more places. -/
theorem nilO {arg2 : Memref sig .tc .hbm S4x32x256x640 .f32} {arg5 : Memref sig .tc .vmem S5x256x640 .f32}
    {arg7 : DmaSems sig S_} {b : Fin 4} {v : Fin 16 → BitVec 32} {X K : Tc.TProg F PUnit} (h : X = K) :
    X = Tc.outs arg2 arg5 arg7 b v [] K := h

section waits

variable {β γ : Type} {arg2 : Memref sig .tc .hbm S4x32x256x640 .f32} {arg5 : Memref sig .tc .vmem S5x256x640 .f32}
    {arg7 : DmaSems sig S_} {b : Fin 4} {j : Fin 32} {l : List (Fin 32)} {K : Tc.TProg F PUnit} {p1 p2}

/-- A wait at the head of the waits of a list of places, under two continuations. -/
theorem wai2 {k : PUnit → Tc.TProg F β} {k1 : β → Tc.TProg F γ} {k2 : γ → Tc.TProg F PUnit}
    (h : ∀ x, ((k x).bind k1).bind k2 = Tc.waitsW arg2 arg5 arg7 b l K) :
    Tc.waitsW arg2 arg5 arg7 b (j :: l) K =
    (((Prog.lift (.waitDma2 arg7.sem (Tc.rowV arg5 4 (by decide)) (Tc.outV arg2 b j) p1 p2) : Tc.TProg F PUnit).bind k).bind k1).bind k2 :=
  (congrArg (Prog.op _) (funext h)).symm

/-- Under one. -/
theorem wai1 {k : PUnit → Tc.TProg F β} {k1 : β → Tc.TProg F PUnit}
    (h : ∀ x, (k x).bind k1 = Tc.waitsW arg2 arg5 arg7 b l K) :
    Tc.waitsW arg2 arg5 arg7 b (j :: l) K =
    ((Prog.lift (.waitDma2 arg7.sem (Tc.rowV arg5 4 (by decide)) (Tc.outV arg2 b j) p1 p2) : Tc.TProg F PUnit).bind k).bind k1 :=
  (congrArg (Prog.op _) (funext h)).symm

/-- Under none. -/
theorem wai0 {k : PUnit → Tc.TProg F PUnit}
    (h : ∀ x, k x = Tc.waitsW arg2 arg5 arg7 b l K) :
    Tc.waitsW arg2 arg5 arg7 b (j :: l) K =
    (Prog.lift (.waitDma2 arg7.sem (Tc.rowV arg5 4 (by decide)) (Tc.outV arg2 b j) p1 p2) : Tc.TProg F PUnit).bind k := (congrArg (Prog.op _) (funext h)).symm

/-- No more places. -/
theorem nilW {X : Tc.TProg F PUnit} (h : X = K) : X = Tc.waitsW arg2 arg5 arg7 b [] K := h

/-- A wait at the head of the value rows' waits. -/
theorem wtF {arg1 : Memref sig .tc .hbm S4x16x256x640 .f32} {arg6 : DmaSems sig S_} {c : Fin 4} {m : List (Fin 4)} {p1 p2}
    {k : PUnit → Tc.TProg F β} {k1 : β → Tc.TProg F γ} {k2 : γ → Tc.TProg F PUnit}
    (h : ∀ x, ((k x).bind k1).bind k2 = Tc.waitsF arg1 arg5 arg6 m K) :
    Tc.waitsF arg1 arg5 arg6 (c :: m) K =
    (((Prog.lift (.waitDma2 arg6.sem (Tc.val0V arg1 c) (Tc.rowV arg5 c.val (Nat.lt_succ_of_lt c.isLt)) p1 p2) : Tc.TProg F PUnit).bind k).bind k1).bind k2 :=
  (congrArg (Prog.op _) (funext h)).symm

/-- No more rows. -/
theorem nilF {arg1 : Memref sig .tc .hbm S4x16x256x640 .f32} {arg6 : DmaSems sig S_} {X : Tc.TProg F PUnit} (h : X = K) :
    X = Tc.waitsF arg1 arg5 arg6 [] K := h

end waits

-- one unification per statement of a long body
set_option maxRecDepth 100000 in
set_option maxHeartbeats 40000000 in
/-- The printed body, statement by statement. -/
theorem cc0_body_eq (arg0 : Memref sig .tc .smem S4x16 .i32) (harg0 : arg0.IsWhole)
  (arg1 : Memref sig .tc .hbm S4x16x256x640 .f32) (harg1 : arg1.IsWhole)
  (arg2 : Memref sig .tc .hbm S4x32x256x640 .f32) (harg2 : arg2.IsWhole)
  (arg3 : Memref sig .tc .smem S4x32 .i32) (harg3 : arg3.IsWhole)
  (arg4 : Memref sig .tc .smem S4 .i32) (harg4 : arg4.IsWhole)
  (arg5 : Memref sig .tc .vmem S5x256x640 .f32) (harg5 : arg5.IsWhole)
  (arg6 : DmaSems sig S_) (arg7 : DmaSems sig S_) :
    cc0_body (F := F) arg0 harg0 arg1 harg1 arg2 harg2 arg3 harg3 arg4 harg4 arg5 harg5 arg6 arg7 =
      Tc.body arg0 arg1 arg2 arg3 arg4 arg5 arg6 arg7 := by
  delta cc0_body k0_part93 k0_part1
  refine ldT fun _ => ldT fun _ => ldT fun _ => ldT fun _ => ldT fun _ => ldT fun _ => ldT fun _ => ldT fun _ => ?_
  refine ldT fun _ => ldT fun _ => ldT fun _ => ldT fun _ => ldT fun _ => ldT fun _ => ldT fun _ => ret2 <| ?_
  refine ldT fun _ => op2 fun _ => ldT fun _ => ldT fun _ => ldT fun _ => ldT fun _ => ldT fun _ => ldT fun _ => ?_
  refine ldT fun _ => ldT fun _ => ret2 <| ldT fun _ => ldT fun _ => ldT fun _ => ldT fun _ => ldT fun _ => ?_
  refine ldT fun _ => ldT fun _ => ldT fun _ => op2 fun _ => ldT fun _ => ret2 <| op2 fun _ => ldT fun _ => ?_
  refine op2 fun _ => ldT fun _ => op2 fun _ => ldT fun _ => op2 fun _ => ldT fun _ => op2 fun _ => ldT fun _ => ?_
  refine op2 fun _ => ldT fun _ => op2 fun _ => ret2 <| ldT fun _ => op2 fun _ => ldT fun _ => op2 fun _ => ?_
  refine ldT fun _ => op2 fun _ => ldT fun _ => op2 fun _ => ldT fun _ => op2 fun _ => ldT fun _ => op2 fun _ => ?_
  refine ldT fun _ => op2 fun _ => ret2 <| ldT fun _ => op2 fun _ => ldT fun _ => op2 fun _ => ldT fun _ => ?_
  refine op2 fun _ => ldT fun _ => op2 fun _ => ldT fun _ => op2 fun _ => ldT fun _ => op2 fun _ => ldT fun _ => ?_
  refine ret2 <| op2 fun _ => ldT fun _ => op2 fun _ => ldT fun _ => op2 fun _ => ldT fun _ => op2 fun _ => ?_
  refine ldT fun _ => op2 fun _ => ldT fun _ => op2 fun _ => ldT fun _ => op2 fun _ => ret2 <| ldT fun _ => ?_
  refine op2 fun _ => ldT fun _ => op2 fun _ => ldT fun _ => op2 fun _ => ldT fun _ => op2 fun _ => ldT fun _ => ?_
  refine op2 fun _ => ldT fun _ => op2 fun _ => op2 fun _ => ret2 <| ldT fun _ => ldT fun _ => ldT fun _ => ?_
  refine ldT fun _ => ldT fun _ => ldT fun _ => ldT fun _ => ldT fun _ => ldT fun _ => ldT fun _ => ldT fun _ => ?_
  refine ldT fun _ => ldT fun _ => ldT fun _ => ldT fun _ => ret2 <| ldT fun _ => op2 fun _ => ldT fun _ => ?_
  refine ldT fun _ => ldT fun _ => ldT fun _ => ldT fun _ => ldT fun _ => ldT fun _ => ldT fun _ => ret2 <| ?_
  refine ldT fun _ => ldT fun _ => ldT fun _ => ldT fun _ => ldT fun _ => ldT fun _ => ldT fun _ => ldT fun _ => ?_
  refine op2 fun _ => ldT fun _ => ret2 <| op2 fun _ => ldT fun _ => op2 fun _ => ldT fun _ => op2 fun _ => ?_
  refine ldT fun _ => op2 fun _ => ldT fun _ => op2 fun _ => ldT fun _ => op2 fun _ => ldT fun _ => op2 fun _ => ?_
  refine ret2 <| ldT fun _ => op2 fun _ => ldT fun _ => op2 fun _ => ldT fun _ => op2 fun _ => ldT fun _ => ?_
  refine op2 fun _ => ldT fun _ => op2 fun _ => ldT fun _ => op2 fun _ => ldT fun _ => op2 fun _ => ret2 <| ?_
  refine ldT fun _ => op2 fun _ => ldT fun _ => op2 fun _ => ldT fun _ => op2 fun _ => ldT fun _ => op2 fun _ => ?_
  refine ldT fun _ => op2 fun _ => ldT fun _ => op2 fun _ => ldT fun _ => ret2 <| op2 fun _ => ldT fun _ => ?_
  refine op2 fun _ => ldT fun _ => op2 fun _ => ldT fun _ => op2 fun _ => ldT fun _ => op2 fun _ => ldT fun _ => ?_
  refine op2 fun _ => ldT fun _ => op2 fun _ => ret2 <| ldT fun _ => op2 fun _ => ldT fun _ => op2 fun _ => ?_
  refine ldT fun _ => op2 fun _ => ldT fun _ => op2 fun _ => ldT fun _ => op2 fun _ => ldT fun _ => op2 fun _ => ?_
  refine op2 fun _ => ret2 <| ldT fun _ => ldT fun _ => ldT fun _ => ldT fun _ => ldT fun _ => ldT fun _ => ?_
  refine ldT fun _ => ldT fun _ => ldT fun _ => ldT fun _ => ldT fun _ => ldT fun _ => ldT fun _ => ldT fun _ => ?_
  refine ldT fun _ => ret2 <| ldT fun _ => op2 fun _ => ldT fun _ => ldT fun _ => ldT fun _ => ldT fun _ => ?_
  refine ldT fun _ => ldT fun _ => ldT fun _ => ldT fun _ => ret2 <| ldT fun _ => ldT fun _ => ldT fun _ => ?_
  refine ldT fun _ => ldT fun _ => ldT fun _ => ldT fun _ => ldT fun _ => op2 fun _ => ldT fun _ => ret2 <| ?_
  refine op2 fun _ => ldT fun _ => op2 fun _ => ldT fun _ => op2 fun _ => ldT fun _ => op2 fun _ => ldT fun _ => ?_
  refine op2 fun _ => ldT fun _ => op2 fun _ => ldT fun _ => op2 fun _ => ret2 <| ldT fun _ => op2 fun _ => ?_
  refine ldT fun _ => op2 fun _ => ldT fun _ => op2 fun _ => ldT fun _ => op2 fun _ => ldT fun _ => op2 fun _ => ?_
  refine ldT fun _ => op2 fun _ => ldT fun _ => op2 fun _ => ret2 <| ldT fun _ => op2 fun _ => ldT fun _ => ?_
  refine op2 fun _ => ldT fun _ => op2 fun _ => ldT fun _ => op2 fun _ => ldT fun _ => op2 fun _ => ldT fun _ => ?_
  refine op2 fun _ => ldT fun _ => ret2 <| op2 fun _ => ldT fun _ => op2 fun _ => ldT fun _ => op2 fun _ => ?_
  refine ldT fun _ => op2 fun _ => ldT fun _ => op2 fun _ => ldT fun _ => op2 fun _ => ldT fun _ => op2 fun _ => ?_
  refine ret2 <| ldT fun _ => op2 fun _ => ldT fun _ => op2 fun _ => ldT fun _ => op2 fun _ => ldT fun _ => ?_
  refine op2 fun _ => ldT fun _ => op2 fun _ => ldT fun _ => op2 fun _ => op2 fun _ => ret2 <| ldT fun _ => ?_
  refine ldT fun _ => ldT fun _ => ldT fun _ => ldT fun _ => ldT fun _ => ldT fun _ => ldT fun _ => ldT fun _ => ?_
  refine ldT fun _ => ldT fun _ => ldT fun _ => ldT fun _ => ldT fun _ => ldT fun _ => ret2 <| ldT fun _ => ?_
  refine op2 fun _ => ldT fun _ => ldT fun _ => ldT fun _ => ldT fun _ => ldT fun _ => ldT fun _ => ldT fun _ => ?_
  refine ldT fun _ => ret2 <| ldT fun _ => ldT fun _ => ldT fun _ => ldT fun _ => ldT fun _ => ldT fun _ => ?_
  refine ldT fun _ => ldT fun _ => op2 fun _ => ldT fun _ => ret2 <| op2 fun _ => ldT fun _ => op2 fun _ => ?_
  refine ldT fun _ => op2 fun _ => ldT fun _ => op2 fun _ => ldT fun _ => op2 fun _ => ldT fun _ => op2 fun _ => ?_
  refine ldT fun _ => op2 fun _ => ret2 <| ldT fun _ => op2 fun _ => ldT fun _ => op2 fun _ => ldT fun _ => ?_
  refine op2 fun _ => ldT fun _ => op2 fun _ => ldT fun _ => op2 fun _ => ldT fun _ => op2 fun _ => ldT fun _ => ?_
  refine op2 fun _ => ret2 <| ldT fun _ => op2 fun _ => ldT fun _ => op2 fun _ => ldT fun _ => op2 fun _ => ?_
  refine ldT fun _ => op2 fun _ => ldT fun _ => op2 fun _ => ldT fun _ => op2 fun _ => ldT fun _ => ret2 <| ?_
  refine op2 fun _ => ldT fun _ => op2 fun _ => ldT fun _ => op2 fun _ => ldT fun _ => op2 fun _ => ldT fun _ => ?_
  refine op2 fun _ => ldT fun _ => op2 fun _ => ldT fun _ => op2 fun _ => ret2 <| ldT fun _ => op2 fun _ => ?_
  refine ldT fun _ => op2 fun _ => ldT fun _ => op2 fun _ => ldT fun _ => op2 fun _ => ldT fun _ => op2 fun _ => ?_
  refine ldT fun _ => op2 fun _ => op2 fun _ => ret2 <| op2 fun _ => op2 fun _ => Eq.symm <| wtF fun _ => Eq.symm <| wtF fun _ => ?_
  refine Eq.symm <| wtF fun _ => Eq.symm <| wtF fun _ => nilF <| ret2 <| Eq.symm <| enqT rfl fun _ => Eq.symm <| enqT rfl fun _ => Eq.symm <| enqT rfl fun _ => ret2 <| ?_
  refine Eq.symm <| enqT rfl fun _ => Eq.symm <| enqT rfl fun _ => Eq.symm <| enqT rfl fun _ => Eq.symm <| enqT rfl fun _ => ret2 <| Eq.symm <| enqT rfl fun _ => Eq.symm <| enqT rfl fun _ => Eq.symm <| enqT rfl fun _ => ?_
  refine Eq.symm <| enqT rfl fun _ => ret2 <| Eq.symm <| enqT rfl fun _ => Eq.symm <| enqT rfl fun _ => Eq.symm <| enqT rfl fun _ => Eq.symm <| enqT rfl fun _ => ret2 <| Eq.symm <| enqT rfl fun _ => ?_
  refine Eq.symm <| enqT rfl fun _ => Eq.symm <| enqT rfl fun _ => ret2 <| Eq.symm <| enqT rfl fun _ => Eq.symm <| enqT rfl fun _ => Eq.symm <| enqT rfl fun _ => Eq.symm <| enqT rfl fun _ => ret2 <| ?_
  refine Eq.symm <| enqT rfl fun _ => Eq.symm <| enqT rfl fun _ => Eq.symm <| enqT rfl fun _ => Eq.symm <| enqT rfl fun _ => ret2 <| Eq.symm <| enqT rfl fun _ => Eq.symm <| enqT rfl fun _ => Eq.symm <| enqT rfl fun _ => ?_
  refine Eq.symm <| enqT rfl fun _ => ret2 <| Eq.symm <| enqT rfl fun _ => Eq.symm <| enqT rfl fun _ => nilO <| Eq.symm <| enqT rfl fun _ => ret2 <| Eq.symm <| enqT rfl fun _ => ?_
  refine Eq.symm <| enqT rfl fun _ => Eq.symm <| enqT rfl fun _ => Eq.symm <| enqT rfl fun _ => ret2 <| Eq.symm <| enqT rfl fun _ => Eq.symm <| enqT rfl fun _ => Eq.symm <| enqT rfl fun _ => Eq.symm <| enqT rfl fun _ => ?_
  refine ret2 <| Eq.symm <| enqT rfl fun _ => Eq.symm <| enqT rfl fun _ => Eq.symm <| enqT rfl fun _ => Eq.symm <| enqT rfl fun _ => ret2 <| Eq.symm <| enqT rfl fun _ => Eq.symm <| enqT rfl fun _ => ?_
  refine Eq.symm <| enqT rfl fun _ => ret2 <| Eq.symm <| enqT rfl fun _ => Eq.symm <| enqT rfl fun _ => Eq.symm <| enqT rfl fun _ => Eq.symm <| enqT rfl fun _ => ret2 <| Eq.symm <| enqT rfl fun _ => ?_
  refine Eq.symm <| enqT rfl fun _ => Eq.symm <| enqT rfl fun _ => Eq.symm <| enqT rfl fun _ => ret2 <| Eq.symm <| enqT rfl fun _ => Eq.symm <| enqT rfl fun _ => Eq.symm <| enqT rfl fun _ => Eq.symm <| enqT rfl fun _ => ?_
  refine ret2 <| Eq.symm <| enqT rfl fun _ => Eq.symm <| enqT rfl fun _ => Eq.symm <| enqT rfl fun _ => ret2 <| Eq.symm <| enqT rfl fun _ => nilO <| Eq.symm <| enqT rfl fun _ => ?_
  refine Eq.symm <| enqT rfl fun _ => Eq.symm <| enqT rfl fun _ => ret2 <| Eq.symm <| enqT rfl fun _ => Eq.symm <| enqT rfl fun _ => Eq.symm <| enqT rfl fun _ => Eq.symm <| enqT rfl fun _ => ret2 <| ?_
  refine Eq.symm <| enqT rfl fun _ => Eq.symm <| enqT rfl fun _ => Eq.symm <| enqT rfl fun _ => Eq.symm <| enqT rfl fun _ => ret2 <| Eq.symm <| enqT rfl fun _ => Eq.symm <| enqT rfl fun _ => Eq.symm <| enqT rfl fun _ => ?_
  refine ret2 <| Eq.symm <| enqT rfl fun _ => Eq.symm <| enqT rfl fun _ => Eq.symm <| enqT rfl fun _ => Eq.symm <| enqT rfl fun _ => ret2 <| Eq.symm <| enqT rfl fun _ => Eq.symm <| enqT rfl fun _ => ?_
  refine Eq.symm <| enqT rfl fun _ => Eq.symm <| enqT rfl fun _ => ret2 <| Eq.symm <| enqT rfl fun _ => Eq.symm <| enqT rfl fun _ => Eq.symm <| enqT rfl fun _ => Eq.symm <| enqT rfl fun _ => ret2 <| ?_
  refine Eq.symm <| enqT rfl fun _ => Eq.symm <| enqT rfl fun _ => Eq.symm <| enqT rfl fun _ => ret2 <| Eq.symm <| enqT rfl fun _ => Eq.symm <| enqT rfl fun _ => Eq.symm <| enqT rfl fun _ => nilO <| ?_
  refine Eq.symm <| enqT rfl fun _ => ret2 <| Eq.symm <| enqT rfl fun _ => Eq.symm <| enqT rfl fun _ => Eq.symm <| enqT rfl fun _ => Eq.symm <| enqT rfl fun _ => ret2 <| ret1 <| ?_
  refine Eq.symm <| enqT rfl fun _ => Eq.symm <| enqT rfl fun _ => Eq.symm <| enqT rfl fun _ => Eq.symm <| enqT rfl fun _ => ret2 <| Eq.symm <| enqT rfl fun _ => Eq.symm <| enqT rfl fun _ => Eq.symm <| enqT rfl fun _ => ?_
  refine ret2 <| Eq.symm <| enqT rfl fun _ => Eq.symm <| enqT rfl fun _ => Eq.symm <| enqT rfl fun _ => Eq.symm <| enqT rfl fun _ => ret2 <| Eq.symm <| enqT rfl fun _ => Eq.symm <| enqT rfl fun _ => ?_
  refine Eq.symm <| enqT rfl fun _ => Eq.symm <| enqT rfl fun _ => ret2 <| Eq.symm <| enqT rfl fun _ => Eq.symm <| enqT rfl fun _ => Eq.symm <| enqT rfl fun _ => Eq.symm <| enqT rfl fun _ => ret2 <| ?_
  refine Eq.symm <| enqT rfl fun _ => Eq.symm <| enqT rfl fun _ => Eq.symm <| enqT rfl fun _ => ret2 <| Eq.symm <| enqT rfl fun _ => Eq.symm <| enqT rfl fun _ => Eq.symm <| enqT rfl fun _ => Eq.symm <| enqT rfl fun _ => ?_
  refine ret2 <| Eq.symm <| enqT rfl fun _ => nilO <| Eq.symm <| wai2 fun _ => Eq.symm <| wai2 fun _ => Eq.symm <| wai2 fun _ => Eq.symm <| wai2 fun _ => ret2 <| ?_
  refine Eq.symm <| wai2 fun _ => Eq.symm <| wai2 fun _ => Eq.symm <| wai2 fun _ => Eq.symm <| wai2 fun _ => Eq.symm <| wai2 fun _ => ret2 <| Eq.symm <| wai2 fun _ => Eq.symm <| wai2 fun _ => ?_
  refine Eq.symm <| wai2 fun _ => Eq.symm <| wai2 fun _ => Eq.symm <| wai2 fun _ => ret2 <| Eq.symm <| wai2 fun _ => Eq.symm <| wai2 fun _ => Eq.symm <| wai2 fun _ => Eq.symm <| wai2 fun _ => ?_
  refine Eq.symm <| wai2 fun _ => ret2 <| Eq.symm <| wai2 fun _ => Eq.symm <| wai2 fun _ => Eq.symm <| wai2 fun _ => Eq.symm <| wai2 fun _ => Eq.symm <| wai2 fun _ => ret2 <| ?_
  refine Eq.symm <| wai2 fun _ => Eq.symm <| wai2 fun _ => Eq.symm <| wai2 fun _ => Eq.symm <| wai2 fun _ => Eq.symm <| wai2 fun _ => ret2 <| Eq.symm <| wai2 fun _ => Eq.symm <| wai2 fun _ => ?_
  refine Eq.symm <| wai2 fun _ => nilW <| Eq.symm <| wai2 fun _ => Eq.symm <| wai2 fun _ => ret2 <| Eq.symm <| wai2 fun _ => Eq.symm <| wai2 fun _ => Eq.symm <| wai2 fun _ => ?_
  refine Eq.symm <| wai2 fun _ => Eq.symm <| wai2 fun _ => ret2 <| Eq.symm <| wai2 fun _ => Eq.symm <| wai2 fun _ => Eq.symm <| wai2 fun _ => Eq.symm <| wai2 fun _ => Eq.symm <| wai2 fun _ => ?_
  refine ret2 <| Eq.symm <| wai2 fun _ => Eq.symm <| wai2 fun _ => Eq.symm <| wai2 fun _ => Eq.symm <| wai2 fun _ => Eq.symm <| wai2 fun _ => ret2 <| Eq.symm <| wai2 fun _ => ?_
  refine Eq.symm <| wai2 fun _ => Eq.symm <| wai2 fun _ => Eq.symm <| wai2 fun _ => Eq.symm <| wai2 fun _ => ret2 <| Eq.symm <| wai2 fun _ => Eq.symm <| wai2 fun _ => Eq.symm <| wai2 fun _ => ?_
  refine Eq.symm <| wai2 fun _ => Eq.symm <| wai2 fun _ => ret2 <| Eq.symm <| wai2 fun _ => Eq.symm <| wai2 fun _ => Eq.symm <| wai2 fun _ => Eq.symm <| wai2 fun _ => Eq.symm <| wai2 fun _ => ?_
  refine nilW <| ret2 <| Eq.symm <| wai2 fun _ => Eq.symm <| wai2 fun _ => Eq.symm <| wai2 fun _ => Eq.symm <| wai2 fun _ => Eq.symm <| wai2 fun _ => ret2 <| ?_
  refine Eq.symm <| wai2 fun _ => Eq.symm <| wai2 fun _ => Eq.symm <| wai2 fun _ => Eq.symm <| wai2 fun _ => Eq.symm <| wai2 fun _ => ret2 <| Eq.symm <| wai2 fun _ => Eq.symm <| wai2 fun _ => ?_
  refine Eq.symm <| wai2 fun _ => Eq.symm <| wai2 fun _ => Eq.symm <| wai2 fun _ => ret2 <| Eq.symm <| wai2 fun _ => Eq.symm <| wai2 fun _ => Eq.symm <| wai2 fun _ => Eq.symm <| wai2 fun _ => ?_
  refine Eq.symm <| wai2 fun _ => ret2 <| Eq.symm <| wai2 fun _ => Eq.symm <| wai2 fun _ => Eq.symm <| wai2 fun _ => Eq.symm <| wai2 fun _ => Eq.symm <| wai2 fun _ => ret2 <| ?_
  refine Eq.symm <| wai2 fun _ => Eq.symm <| wai2 fun _ => Eq.symm <| wai2 fun _ => Eq.symm <| wai2 fun _ => Eq.symm <| wai2 fun _ => ret2 <| Eq.symm <| wai2 fun _ => Eq.symm <| wai2 fun _ => ?_
  refine nilW <| Eq.symm <| wai2 fun _ => Eq.symm <| wai2 fun _ => Eq.symm <| wai2 fun _ => ret2 <| Eq.symm <| wai2 fun _ => Eq.symm <| wai2 fun _ => Eq.symm <| wai2 fun _ => ?_
  refine Eq.symm <| wai2 fun _ => Eq.symm <| wai2 fun _ => ret2 <| Eq.symm <| wai2 fun _ => Eq.symm <| wai2 fun _ => Eq.symm <| wai2 fun _ => Eq.symm <| wai2 fun _ => Eq.symm <| wai2 fun _ => ?_
  refine ret2 <| Eq.symm <| wai2 fun _ => Eq.symm <| wai2 fun _ => Eq.symm <| wai2 fun _ => Eq.symm <| wai2 fun _ => Eq.symm <| wai2 fun _ => ret2 <| Eq.symm <| wai2 fun _ => ?_
  refine Eq.symm <| wai2 fun _ => Eq.symm <| wai2 fun _ => Eq.symm <| wai2 fun _ => Eq.symm <| wai2 fun _ => ret2 <| Eq.symm <| wai2 fun _ => Eq.symm <| wai2 fun _ => Eq.symm <| wai2 fun _ => ?_
  refine Eq.symm <| wai2 fun _ => Eq.symm <| wai2 fun _ => ret2 <| Eq.symm <| wai1 fun _ => Eq.symm <| wai1 fun _ => ret1 <| Eq.symm <| wai0 fun _ => Eq.symm <| wai0 fun _ => ?_
  refine nilW <| ?_
  rfl

end Proof.TcEq
-- ==== Proof.Common.lean ====
module

public import proofs.«01_k».proof.Proof.ScEq
public import Idealize.ShloMosaic.Lib.SparseCore.Quiescent
public import Idealize.ShloMosaic.Lib.StableHlo.Run
public import Idealize.ShloMosaic.Lib.Pipeline.Regions
public import Idealize.ShloMosaic.Lib.Batch
public import Idealize.ShloMosaic.Lib.ValueLayout
public import Idealize.ShloMosaic.Lib.Tactic

/-!
# The launch's set-up

The program as the launch theorem sees it, and the resource algebra: the handshakes' rounds, the TensorCore
region's rounds and the copies' counters.
-/

@[expose] public section

noncomputable section

namespace Proof.Co

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-- The program's labels. -/
abbrev ΛP : Labels := Pipeline.Sig Λ₀ (Fin 1) fun p => (pcfgs (F := F) p).Adm
/-- The launch's configuration. -/
abbrev K : SparseCore.Cfg τ sig (ΛP (F := F)) 1 := sc (F := F)
/-- The TensorCore's definitions. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The region's rounds. -/
abbrev UP : Type := URounds (GSem nD τ sig) Unit
/-- The user algebra. -/
abbrev UU : Type := UH × (UP × Counters)

/-- The machine's algebra. -/
abbrev MM (F : FTy → Type) : Type := MT nD τ sig (HIx 1) (Elt F) ℕ UU ℕ

/-- Where the handshakes' rounds lie. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
/-- Where the region's rounds lie. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- Where the copies' counters lie. -/
def EC : UEmb Counters (MT nD τ sig (HIx 1) (Elt F) ℕ UU ℕ) :=
  countersEmb (nD := nD) (τ := τ) (sig := sig) (Ix := HIx 1) (Val := Elt F) (Name := ℕ) (U := UU) (Lvl := ℕ)

instance EH_landsIn : (EH : Emb UH (MM F)).LandsIn (upEmb : UEmb _ (MM F)) := by unfold EH; infer_instance
instance EP_landsIn : (EP : Emb UP (MM F)).LandsIn (upEmb : UEmb _ (MM F)) := by unfold EP; infer_instance
instance EC_landsIn : (EC : UEmb Counters (MM F)).LandsIn (upEmb : UEmb _ (MM F)) := by unfold EC; infer_instance

end Proof.Co
-- ==== Proof.ScWords.lean ====
module

public import proofs.«01_k».proof.Proof.Common

/-!
# The words of a row of flags

A row of sixteen flags, each zero or one: its running count and the source row of a slot, as numbers.
-/

@[expose] public section

noncomputable section

namespace Proof.Sc

open Idealize.ShloMosaic

/-- Every word is zero or one. -/
def Flags (v : Fin 16 → BitVec 32) : Prop := ∀ r, v r = 0#32 ∨ v r = 1#32

/-- Row `n` is valid. -/
def On (v : Fin 16 → BitVec 32) (n : ℕ) : Prop := ∃ h : n < 16, v ⟨n, h⟩ = 1#32

instance (v : Fin 16 → BitVec 32) (n : ℕ) : Decidable (On v n) := by unfold On; infer_instance

/-- How many of the first `n` rows are valid. -/
def cn (v : Fin 16 → BitVec 32) : ℕ → ℕ
  | 0 => 0
  | n + 1 => cn v n + if On v n then 1 else 0

/-- The sum, over the first `n` rows, of the valid ones with `j` valid rows before them. -/
def so (v : Fin 16 → BitVec 32) (j : ℕ) : ℕ → ℕ
  | 0 => 0
  | n + 1 => so v j n + if On v n ∧ cn v n = j then n else 0

theorem cn_le (v : Fin 16 → BitVec 32) (n : ℕ) : cn v n ≤ n := by
  induction n with
  | zero => exact le_rfl
  | succ n ih => simp only [cn]; split <;> omega

theorem cn_mono (v : Fin 16 → BitVec 32) {n k : ℕ} (h : n ≤ k) : cn v n ≤ cn v k := by
  induction h with
  | refl => exact le_rfl
  | step _ ih => exact ih.trans (by simp only [cn]; omega)

theorem so_facts (v : Fin 16 → BitVec 32) (j n : ℕ) : (cn v n ≤ j → so v j n = 0) ∧ so v j n ≤ n - 1 := by
  induction n with
  | zero => exact ⟨fun _ => rfl, le_rfl⟩
  | succ n ih =>
    obtain ⟨h0, h1⟩ := ih
    simp only [cn, so]
    by_cases hc : On v n ∧ cn v n = j
    · have := h0 hc.2.le
      rw [if_pos hc, if_pos hc.1]
      omega
    · rw [if_neg hc]
      refine ⟨fun h => ?_, by omega⟩
      have := h0 (by omega)
      omega

/-- The sum is the one valid row with `j` valid rows before it. -/
theorem so_eq (v : Fin 16 → BitVec 32) {j r : ℕ} (hr : On v r) (hc : cn v r = j) {n : ℕ} (hn : r < n) : so v j n = r := by
  induction n with
  | zero => omega
  | succ n ih =>
    by_cases h : r = n
    · subst h
      simp only [so, if_pos (And.intro hr hc), (so_facts v j r).1 hc.le, Nat.zero_add]
    · have hlt : r < n := by omega
      have : cn v (r + 1) ≤ cn v n := cn_mono v hlt
      simp only [cn, if_pos hr] at this
      simp only [so, ih hlt]
      rw [if_neg (fun h => by omega)]; rfl

theorem On_iff {v : Fin 16 → BitVec 32} {n : ℕ} (h : n < 16) : On v n ↔ v ⟨n, h⟩ = 1#32 :=
  ⟨fun ⟨_, e⟩ => e, fun e => ⟨h, e⟩⟩

theorem flag_toNat {v : Fin 16 → BitVec 32} (hv : Flags v) {n : ℕ} (h : n < 16) :
    (v ⟨n, h⟩).toNat = if On v n then 1 else 0 := by
  rcases hv ⟨n, h⟩ with e | e
  · rw [if_neg (by rw [On_iff h, e]; decide), e]; rfl
  · rw [if_pos ((On_iff h).mpr e), e]; rfl

/-- One more row of the count. -/
theorem cn_step {v : Fin 16 → BitVec 32} (hv : Flags v) {n : ℕ} (h : n < 16) {p : BitVec 32} (hp : p.toNat = cn v n) :
    (Scalar.addi p (v ⟨n, h⟩)).toNat = cn v (n + 1) := by
  have := cn_le v n
  have hf := flag_toNat hv h
  show (p + v ⟨n, h⟩).toNat = cn v n + if On v n then 1 else 0
  rw [BitVec.toNat_add, hp, hf]
  exact Nat.mod_eq_of_lt (by split <;> omega)

theorem pre_toNat {v : Fin 16 → BitVec 32} (hv : Flags v) : ∀ {n : ℕ} (h : n < 16), (pre v ⟨n, h⟩).toNat = cn v (n + 1)
  | 0, h => cn_step hv h rfl
  | 1, h => cn_step hv h (pre_toNat hv (n := 0) (by decide))
  | 2, h => cn_step hv h (pre_toNat hv (n := 1) (by decide))
  | 3, h => cn_step hv h (pre_toNat hv (n := 2) (by decide))
  | 4, h => cn_step hv h (pre_toNat hv (n := 3) (by decide))
  | 5, h => cn_step hv h (pre_toNat hv (n := 4) (by decide))
  | 6, h => cn_step hv h (pre_toNat hv (n := 5) (by decide))
  | 7, h => cn_step hv h (pre_toNat hv (n := 6) (by decide))
  | 8, h => cn_step hv h (pre_toNat hv (n := 7) (by decide))
  | 9, h => cn_step hv h (pre_toNat hv (n := 8) (by decide))
  | 10, h => cn_step hv h (pre_toNat hv (n := 9) (by decide))
  | 11, h => cn_step hv h (pre_toNat hv (n := 10) (by decide))
  | 12, h => cn_step hv h (pre_toNat hv (n := 11) (by decide))
  | 13, h => cn_step hv h (pre_toNat hv (n := 12) (by decide))
  | 14, h => cn_step hv h (pre_toNat hv (n := 13) (by decide))
  | 15, h => cn_step hv h (pre_toNat hv (n := 14) (by decide))
  | n + 16, h => absurd h (by omega)

theorem nv_toNat {v : Fin 16 → BitVec 32} (hv : Flags v) : (nv v).toNat = cn v 16 := pre_toNat hv (n := 15) (by decide)

/-- One more row of the sum. -/
theorem so_step {v : Fin 16 → BitVec 32} (hv : Flags v) {j : ℕ} (hj : j < 16) {n : ℕ} (h : n < 16) {p s : BitVec 32}
    (hp : p.toNat = cn v n) (hs : s.toNat = so v j n) :
    (Scalar.addi s (pick (v ⟨n, h⟩) p j (BitVec.ofNat 32 n))).toNat = so v j (n + 1) := by
  have hle := (so_facts v j n).2
  have he : (pick (v ⟨n, h⟩) p j (BitVec.ofNat 32 n)) = if On v n ∧ cn v n = j then BitVec.ofNat 32 n else 0#32 := by
    have hpj : (p == BitVec.ofNat 32 j) = decide (cn v n = j) := by
      rw [Bool.eq_iff_iff, beq_iff_eq, decide_eq_true_eq, ← hp, ← BitVec.toNat_inj, BitVec.toNat_ofNat,
        Nat.mod_eq_of_lt (by omega)]
    unfold pick
    show Scalar.select (IntOp.andi (IntOp.cmpi .sgt _ _) (BitVec.ofBool (p == BitVec.ofNat 32 j))) _ _ = _
    rw [hpj]
    rcases hv ⟨n, h⟩ with e | e
    · rw [if_neg (fun c => by have := (On_iff h).mp c.1; rw [e] at this; exact absurd this (by decide)), e]
      by_cases hc : cn v n = j
      · rw [decide_eq_true hc]; rfl
      · rw [decide_eq_false hc]; rfl
    · by_cases hc : cn v n = j
      · rw [if_pos ⟨(On_iff h).mpr e, hc⟩, e, decide_eq_true hc]; rfl
      · rw [if_neg (fun c => hc c.2), e, decide_eq_false hc]; rfl
  rw [he]
  show (s + _).toNat = so v j n + if On v n ∧ cn v n = j then n else 0
  rw [BitVec.toNat_add, hs]
  split
  · rw [BitVec.toNat_ofNat]; omega
  · show (so v j n + 0) % _ = _; omega

theorem pick_zero {v : Fin 16 → BitVec 32} (j : ℕ) (z : BitVec 1) :
    (Scalar.addi 0#32 (Scalar.select (Scalar.andi (Scalar.cmpi .sgt (v 0) 0#32) z) 0#32 0#32)).toNat = so v j 1 := by
  have : so v j 1 = 0 := by have := (so_facts v j 1).2; omega
  rw [this]
  unfold Scalar.select
  split <;> rfl

theorem srj_toNat {v : Fin 16 → BitVec 32} (hv : Flags v) {j : ℕ} (hj : j < 16) : (srj v j).toNat = so v j 16 :=
  so_step hv hj (n := 15) (by decide) (pre_toNat hv (n := 14) (by decide)) <|
  so_step hv hj (n := 14) (by decide) (pre_toNat hv (n := 13) (by decide)) <|
  so_step hv hj (n := 13) (by decide) (pre_toNat hv (n := 12) (by decide)) <|
  so_step hv hj (n := 12) (by decide) (pre_toNat hv (n := 11) (by decide)) <|
  so_step hv hj (n := 11) (by decide) (pre_toNat hv (n := 10) (by decide)) <|
  so_step hv hj (n := 10) (by decide) (pre_toNat hv (n := 9) (by decide)) <|
  so_step hv hj (n := 9) (by decide) (pre_toNat hv (n := 8) (by decide)) <|
  so_step hv hj (n := 8) (by decide) (pre_toNat hv (n := 7) (by decide)) <|
  so_step hv hj (n := 7) (by decide) (pre_toNat hv (n := 6) (by decide)) <|
  so_step hv hj (n := 6) (by decide) (pre_toNat hv (n := 5) (by decide)) <|
  so_step hv hj (n := 5) (by decide) (pre_toNat hv (n := 4) (by decide)) <|
  so_step hv hj (n := 4) (by decide) (pre_toNat hv (n := 3) (by decide)) <|
  so_step hv hj (n := 3) (by decide) (pre_toNat hv (n := 2) (by decide)) <|
  so_step hv hj (n := 2) (by decide) (pre_toNat hv (n := 1) (by decide)) <|
  so_step hv hj (n := 1) (by decide) (pre_toNat hv (n := 0) (by decide)) <|
  pick_zero j _

theorem srj_le {v : Fin 16 → BitVec 32} (hv : Flags v) {j : ℕ} (hj : j < 16) : (srj v j).toNat ≤ 15 := by
  rw [srj_toNat hv hj]; exact (so_facts v j 16).2

/-- The place of a slot's source. -/
theorem off_toNat {v : Fin 16 → BitVec 32} (hv : Flags v) {j : ℕ} (hj : j < 16) :
    (Scalar.muli (srj v j) 640#32).toNat = so v j 16 * 640 := by
  have := srj_le hv hj
  have e := srj_toNat hv hj
  show (srj v j * 640#32).toNat = _
  rw [BitVec.toNat_mul, BitVec.toNat_ofNat]
  omega

/-- Signed comparison of small words. -/
theorem slt_small {x y : BitVec 32} (hx : x.toNat < 2 ^ 31) (hy : y.toNat < 2 ^ 31) : x.slt y = decide (x.toNat < y.toNat) := by
  rw [BitVec.slt, BitVec.toInt_eq_toNat_of_lt (by omega), BitVec.toInt_eq_toNat_of_lt (by omega)]
  simp only [Nat.cast_lt]

theorem sgt_nv {v : Fin 16 → BitVec 32} (hv : Flags v) {j : ℕ} (hj : j < 32) :
    Scalar.cmpi .sgt (nv v) (BitVec.ofNat 32 j) = BitVec.ofBool (decide (j < cn v 16)) := by
  have := cn_le v 16
  have e := nv_toNat hv
  show BitVec.ofBool ((BitVec.ofNat 32 j).slt (nv v)) = _
  have hj' : (BitVec.ofNat 32 j).toNat = j := by rw [BitVec.toNat_ofNat]; omega
  rw [slt_small (by omega) (by omega), hj', e]

theorem kc_iff {v : Fin 16 → BitVec 32} (hv : Flags v) {j : ℕ} (hj : j < 32) : kc v j = 1#1 ↔ j < cn v 16 := by
  unfold kc
  rw [sgt_nv hv hj]
  by_cases h : j < cn v 16
  · rw [decide_eq_true h]; exact iff_of_true rfl h
  · rw [decide_eq_false h]; exact iff_of_false (by decide) h

theorem zc_iff (v : Fin 16 → BitVec 32) (j : ℕ) : zc v j = 1#1 ↔ ¬ kc v j = 1#1 := by
  have : (nv v).sle (BitVec.ofNat 32 j) = !((BitVec.ofNat 32 j).slt (nv v)) := by
    rw [BitVec.sle, BitVec.slt, ← decide_not]; exact decide_eq_decide.mpr (by omega)
  unfold zc kc
  show Scalar.cmpi .ne (Scalar.extui (BitVec.ofBool ((nv v).sle (BitVec.ofNat 32 j)))) 0#32 = 1#1 ↔
    ¬ Scalar.cmpi .ne (Scalar.extui (BitVec.ofBool ((BitVec.ofNat 32 j).slt (nv v)))) 0#32 = 1#1
  rw [this]
  generalize (BitVec.ofNat 32 j).slt (nv v) = x
  cases x <;> decide

/-- Every slot's source lies in the keys. -/
theorem srcOk (i : Cert.KernelIdeal.grid1.Coords) {b : ℕ} (hb : b < 2) {v : Fin 16 → BitVec 32} (hv : Flags v) (j : ℕ) :
    SrcOk i b v j := by
  by_cases hj : j < 16
  · have h := row_toNat i hb
    have := core_lt i
    have hs := off_toNat hv hj
    have := (so_facts v j 16).2
    intro a
    match a with
    | 0 => show (row i b).toNat + 1 ≤ 4; omega
    | 1 =>
      show (if j < 16 then (Scalar.muli (srj v j) 640#32).toNat else 0) + 640 ≤ 10240
      rw [if_pos hj]; omega
  · exact sOff_inb_hi i hb v hj

theorem chk0_of (i : Cert.KernelIdeal.grid1.Coords) {v : Fin 16 → BitVec 32} (hv : Flags v) : chk0 i v :=
  have h (j : ℕ) := srcOk i (b := 0) (by decide) hv j
  ⟨fun _ => h 0, fun _ => h 1, fun _ => h 2, fun _ => h 3, fun _ => h 4, fun _ => h 5, fun _ => h 6, fun _ => h 7,
    fun _ => h 8, fun _ => h 9, fun _ => h 10, fun _ => h 11, fun _ => h 12, fun _ => h 13, fun _ => h 14, fun _ => h 15⟩

theorem chk1_of (i : Cert.KernelIdeal.grid1.Coords) {v : Fin 16 → BitVec 32} (hv : Flags v) : chk1 i v :=
  have h (j : ℕ) := srcOk i (b := 1) (by decide) hv j
  ⟨fun _ => h 0, fun _ => h 1, fun _ => h 2, fun _ => h 3, fun _ => h 4, fun _ => h 5, fun _ => h 6, fun _ => h 7,
    fun _ => h 8, fun _ => h 9, fun _ => h 10, fun _ => h 11, fun _ => h 12, fun _ => h 13, fun _ => h 14, fun _ => h 15⟩

end Proof.Sc
-- ==== Proof.Waits.lean ====
module

public import proofs.«01_k».proof.Proof.Common

/-!
# The waits of a batch of copies

A batch of `n` equal copies on one semaphore, waited for one by one.
-/

@[expose] public section

noncomputable section

namespace Proof.Co

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-- What a thread owes, at waits taken since `W`. -/
def Owe (c : Thread nD τ) (O : CellTallies nD τ sig (HIx 1)) (W : Waits sig (HIx 1)) : sProp (MM F) :=
  iprop(∃ W', ⌜∀ p ∈ W', p ∈ W ∨ p.2 = none⌝ ∗ owes c O W')

theorem owe_intro {c : Thread nD τ} {O : CellTallies nD τ sig (HIx 1)} {W : Waits sig (HIx 1)} :
    (owes c O W : sProp (MM F)) ⊢ Owe c O W := by
  unfold Owe
  iintro H; iexists W; isplitr
  · ipureintro; exact fun p hp => .inl hp
  · iexact H

theorem insert_ok {W W' : Waits sig (HIx 1)} (h : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact h p hp

/-- A batch of `n` copies with `t` of its waits done: its results once all are. -/
def Waited (c : Thread nD τ) (sem : DmaSem sig) (n N : ℕ) (R : Fin n → sProp (MM F)) (t : ℕ) : sProp (MM F) :=
  if t < n then Batch EC c (.dma sem) none N R n (t * N) else iprop(bigSep Finset.univ R ∗ semVal (c, .dma sem) 0)

section

variable {Λ : Labels} {defs : Defs nD τ sig (Elt F) Λ} (𝒱 : Variants) (c : Thread nD τ) (bd : Option 𝒱.V) {α : Type}
  {Q : α → sProp (MM F)} {sp sp' : Space} {s : Shape} {e : EltTy}

/-- One wait of a batch. -/
theorem wp_waited {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ c.2) α} {n N : ℕ} (hN : dstw.view.dmaCredit = N) (hN0 : 0 < N)
    {R : Fin n → sProp (MM F)} {t : ℕ} (ht : t < n) {O : CellTallies nD τ sig (HIx 1)} {W : Waits sig (HIx 1)} :
    iprop(Waited c sem n N R t ∗ Owe c O W ∗ MayWait c (.dma sem) none O)
      ⊢ iprop((iprop(Waited c sem n N R (t + 1) ∗ Owe c O W) -∗ wp frame (wpE defs 𝒱 c bd) Set.univ (k ⟨⟩) Q)
          -∗ wp frame (wpE defs 𝒱 c bd) Set.univ (.op (.waitDma2 sem srcw dstw hsrc hdst) k) Q) := by
  have e1 : (Waited c sem n N R t : sProp (MM F)) = Batch EC c (.dma sem) none N R n (t * N) := if_pos ht
  rw [e1]
  iintro ⟨HB, HO, #Hm⟩ Hk
  unfold Owe
  icases HO with ⟨%W', %hW', HO⟩
  by_cases h : t + 1 < n
  · have e2 : (Waited c sem n N R (t + 1) : sProp (MM F)) = Batch EC c (.dma sem) none N R n (t * N + N) := by
      unfold Waited; rw [if_pos h, Nat.succ_mul]
    rw [e2]
    have hu : t * N + N < N * n := by
      have := Nat.mul_lt_mul_of_pos_right h hN0
      rw [Nat.succ_mul] at this; rwa [Nat.mul_comm N n]
    iapply (wp_waitBatchO EC 𝒱 c bd none hN hu) $$ [HB HO]
    · isplitl [HB]; · iexact HB
      isplitl [HO]; · iexact HO
      iexact Hm
    iintro ⟨HB, HO⟩
    iapply Hk
    isplitl [HB]; · iexact HB
    iexists (insert (SemLoc.dma sem, none) W'); isplitr
    · ipureintro; exact insert_ok hW' _
    iexact HO
  · have e2 : (Waited c sem n N R (t + 1) : sProp (MM F)) = iprop(bigSep Finset.univ R ∗ semVal (c, .dma sem) 0) := if_neg h
    rw [e2]
    have hu : t * N + N = N * n := by
      have : n = t + 1 := by omega
      rw [this, Nat.mul_comm N, Nat.succ_mul]
    iapply (wp_waitBatchLastO EC 𝒱 c bd none hN hN0 hu) $$ [HB HO]
    · isplitl [HB]; · iexact HB
      isplitl [HO]; · iexact HO
      iexact Hm
    iintro ⟨HR, Hs, HO⟩
    iapply Hk
    isplitl [HR Hs]
    · isplitl [HR]; · iexact HR
      iexact Hs
    iexists (insert (SemLoc.dma sem, none) W'); isplitr
    · ipureintro; exact insert_ok hW' _
    iexact HO

end

/-- A list's members count on from `n` up to `k`. -/
def From {k : ℕ} : ℕ → List (Fin k) → Prop
  | n, [] => n = k
  | n, j :: l => j.val = n ∧ From (n + 1) l

end Proof.Co
-- ==== Proof.ScRun.lean ====
module

public import proofs.«01_k».proof.Proof.ScWords
public import proofs.«01_k».proof.Proof.Waits

/-!
# The SparseCore kernel on one scalar subcore
-/

@[expose] public section

noncomputable section

namespace Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Proof.Co
open Cert.KernelIdeal.Facts

variable {F : FTy → Type} [FloatOps F]

abbrev kM : Memref sig .scScalar .hbm S4x10240 .f32 := Memref.whole main_v1_scs
abbrev wM : Memref sig .scScalar .hbm S4x16 .i32 := Memref.whole main_v0_scs
abbrev zM : Memref sig .scScalar .hbm S640 .f32 := Memref.whole main_v2_scs
abbrev oM : Memref sig .scScalar .hbm S4x20480 .f32 := Memref.whole main_v6_scs
abbrev sM : Memref sig .scScalar .smem S4x16 .i32 := Memref.whole cc1_scratch0

/-- The key rows, the flags, the zero row and the call's result. -/
abbrev kLoc (d : Dev nD) : Loc nD τ sig := (SparseCore.T d).loc main_v1
abbrev wLoc (d : Dev nD) : Loc nD τ sig := (SparseCore.T d).loc main_v0
abbrev zLoc (d : Dev nD) : Loc nD τ sig := (SparseCore.T d).loc main_v2
abbrev oLoc (d : Dev nD) : Loc nD τ sig := (SparseCore.T d).loc main_v6

/-! ## What the call leaves -/

/-- A batch's row of flags. -/
def rowW (fw : S4x16.Idx → BitVec 32) (b : Fin 4) : Fin 16 → BitVec 32 := fun r => fw (ix2 b r)

/-- Where in its batch's keys a slot's source starts. -/
def srcAt (v : Fin 16 → BitVec 32) (j : ℕ) : ℕ := if j < 16 then (Scalar.muli (srj v j) 640#32).toNat else 0

/-- A slot's contents: a key row, or the zero row. -/
def slotVal (fk : S4x10240.Idx → Elt F .f32) (fz : S640.Idx → Elt F .f32) (b : Fin 4) (v : Fin 16 → BitVec 32) (j x : ℕ) : Elt F .f32 :=
  if kc v j = 1#1 then fk (ix2 b ⟨(srcAt v j + x) % 10240, Nat.mod_lt _ (by decide)⟩)
  else fz (ix1 ⟨x % 640, Nat.mod_lt _ (by decide)⟩)

/-- The result: slot by slot. -/
def scOut (fk : S4x10240.Idx → Elt F .f32) (fw : S4x16.Idx → BitVec 32) (fz : S640.Idx → Elt F .f32) : S4x20480.Idx → Elt F .f32 :=
  fun y => slotVal fk fz (y 0) (rowW fw (y 0)) ((y 1).val / 640) ((y 1).val % 640)

/-! ## The slots' places -/

section run

variable (d : Dev nD) (i : grid1.Coords)

/-- The thread. -/
abbrev thr : Thread nD τ := S d ((i 0).castLE Facts₀.hcore1)

/-- The batch of a round. -/
def bat (b : Fin 2) : Fin 4 := ⟨(i 0).val * 2 + b.val, by have := core_lt i; omega⟩

theorem flat_emb {off : Fin 2 → ℕ} {n : ℕ} (h : ∀ a, off a + S1x640.size a ≤ (⟨2, ![4, n]⟩ : Shape).size a) (x : S640.Idx)
    (r : Fin 4) (c : Fin n) (hr : off 0 = r.val) (hc : off 1 + (x 0).val = c.val) :
    (Rect.unit (s := ⟨2, ![4, n]⟩) off S1x640.size h).emb (Shape.reshapeEquiv (Facts₀.squeezes_S1x640_S640.numel_eq) x) = ix2 r c := by
  have e : Shape.reshapeEquiv (Facts₀.squeezes_S1x640_S640.numel_eq) x = (ix2 (⟨0, by decide⟩ : Fin 1) (x 0) : S1x640.Idx) := by
    refine Shape.reshapeEquiv_eq_of_rowMajor _ ?_
    rw [Shape.rowMajor_val_one, Shape.rowMajor_val_two]
    show 0 * 640 + (x 0).val = (x 0).val
    omega
  rw [e]
  funext a
  refine Fin.ext ?_
  rw [Rect.emb_apply]
  match a with
  | 0 => show off 0 + 1 * 0 = r.val; omega
  | 1 => show off 1 + 1 * (x 0).val = c.val; omega

theorem dst_emb (b : Fin 2) (j : Fin 32) (x : S640.Idx) :
    (dstV i oM b j).view.emb x = (ix2 (bat i b) ⟨640 * j.val + (x 0).val, by have := (x 0).isLt; show _ < 20480; change _ < 640 at this; omega⟩ : S4x20480.Idx) :=
  flat_emb (dOff_inb i b.isLt j.isLt) x (bat i b) _ (row_toNat i b.isLt) rfl

theorem src_emb (b : Fin 2) (v : Fin 16 → BitVec 32) (j : Fin 32) (h : SrcOk i b.val v j.val) (x : S640.Idx) :
    (srcV i kM b v j h).view.emb x = (ix2 (bat i b) ⟨(srcAt v j.val + (x 0).val) % 10240, Nat.mod_lt _ (by decide)⟩ : S4x10240.Idx) := by
  have h1 : srcAt v j.val + 640 ≤ 10240 := h 1
  have hx : (x 0).val < 640 := (x 0).isLt
  refine flat_emb h x (bat i b) _ (row_toNat i b.isLt) ?_
  show srcAt v j.val + (x 0).val = (srcAt v j.val + (x 0).val) % 10240
  omega

/-- Slot `t` of the core's sixty-four. -/
def slotSet (t : ℕ) : Finset S4x20480.Idx :=
  Finset.univ.filter fun y => (y 0).val = (i 0).val * 2 + t / 32 ∧ (y 1).val / 640 = t % 32

/-- The core's slots from `t` on. -/
def rest (t : ℕ) : Finset S4x20480.Idx :=
  Finset.univ.filter fun y => (y 0).val / 2 = (i 0).val ∧ t ≤ ((y 0).val - (i 0).val * 2) * 32 + (y 1).val / 640

theorem y1_lt (y : S4x20480.Idx) : (y 1).val / 640 < 32 := by
  have : (y 1).val < 20480 := (y 1).isLt
  omega

theorem slot_sub_rest {t : ℕ} (ht : t < 64) : slotSet i t ⊆ rest i t := by
  intro y hy
  simp only [slotSet, rest, Finset.mem_filter, Finset.mem_univ, true_and] at hy ⊢
  omega

theorem rest_sdiff {t : ℕ} (ht : t < 64) : rest i t \ slotSet i t = rest i (t + 1) := by
  ext y
  have := y1_lt y
  simp only [slotSet, rest, Finset.mem_filter, Finset.mem_univ, true_and, Finset.mem_sdiff]
  omega

theorem slots_disj {t t' : ℕ} (h : t ≠ t') : Disjoint (slotSet i t) (slotSet i t') := by
  rw [Finset.disjoint_left]
  intro y hy hy'
  simp only [slotSet, Finset.mem_filter, Finset.mem_univ, true_and] at hy hy'
  omega

theorem slots_union : (Finset.univ : Finset (Fin 64)).biUnion (fun t => slotSet i t.val) = rest i 0 := by
  ext y
  have := y1_lt y
  simp only [slotSet, rest, Finset.mem_biUnion, Finset.mem_filter, Finset.mem_univ, true_and]
  constructor
  · rintro ⟨t, h⟩
    have := t.isLt
    omega
  · intro h
    have := (y 0).isLt
    refine ⟨⟨((y 0).val - (i 0).val * 2) * 32 + (y 1).val / 640, by omega⟩, ?_⟩
    dsimp only
    omega

theorem dst_mem (b : Fin 2) (j : Fin 32) : (dstV i oM b j).view.set ⊆ slotSet i (b.val * 32 + j.val) := by
  intro y hy
  obtain ⟨x, -, rfl⟩ := Finset.mem_map.mp hy
  have hx : (x 0).val < 640 := (x 0).isLt
  have := j.isLt
  rw [dst_emb]
  simp only [slotSet, Finset.mem_filter, Finset.mem_univ, true_and]
  show (i 0).val * 2 + b.val = _ ∧ (640 * j.val + (x 0).val) / 640 = _
  omega

theorem of_mem_slot {b : Fin 2} {j : Fin 32} {y : S4x20480.Idx} (hy : y ∈ slotSet i (b.val * 32 + j.val)) :
    ∃ x : S640.Idx, y = (dstV i oM b j).view.emb x := by
  have h1 : (y 1).val < 20480 := (y 1).isLt
  have := j.isLt
  simp only [slotSet, Finset.mem_filter, Finset.mem_univ, true_and] at hy
  refine ⟨ix1 ⟨(y 1).val % 640, Nat.mod_lt _ (by decide)⟩, ?_⟩
  rw [dst_emb]
  funext a
  refine Fin.ext ?_
  match a with
  | 0 => show (y 0).val = (i 0).val * 2 + b.val; omega
  | 1 => show (y 1).val = 640 * j.val + (y 1).val % 640; omega

/-! ## The slots' copies -/

/-- What a copy credits. -/
abbrev NC : ℕ := (zM : Memref sig .scScalar .hbm S640 .f32).view.ref.dmaCredit S640 .f32

/-- The call's read-only buffers, at some share. -/
def Reads (fk : Buf (Elt F) (kLoc d)) (fz : Buf (Elt F) (zLoc d)) : sProp (MM F) :=
  iprop((∃ q, kLoc d ↦{q} fk) ∗ ∃ q, zLoc d ↦{q} fz)

/-- What a slot's copy brings. -/
def slotRes (fo : Buf (Elt F) (oLoc d)) (t : Fin 64) : sProp (MM F) := oLoc d ↦[slotSet i t.val]{fullShare} fo

/-- The slots from `t` on still to be written, the copies before `t` in flight. -/
def Slots (fo f1 : Buf (Elt F) (oLoc d)) (t : ℕ) : sProp (MM F) :=
  iprop((oLoc d ↦[rest i t]{fullShare} fo) ∗ Batch EC (thr d i) (.dma cc1_scratch1.sem) none NC (slotRes (F := F) d i f1) t 0)

variable {α : Type} {Q : α → sProp (MM F)}

/-- One slot's copy. -/
theorem wp_copy {src : Memref sig .scScalar .hbm S640 .f32} {b : Fin 2} {j : Fin 32} {q : PosShare TreeShare}
    {fs : Buf (Elt F) (src.view.loc (thr d i))} {fo f1 : Buf (Elt F) (oLoc d)} {hsrc hdst hsem}
    {k : PUnit → Prog (TpuEff nD τ sig (Elt F) Λ₀ (thr d i).2) α}
    (hv : ∀ x, src.view.read (Elt F) fs x = f1 ((dstV i oM b j).view.emb x)) :
    iprop((src.view.loc (thr d i) ↦[src.view.set]{q} fs) ∗ Slots (F := F) d i fo f1 (b.val * 32 + j.val))
      ⊢ iprop((Slots (F := F) d i fo f1 (b.val * 32 + j.val + 1) -∗ wp frame (wpE defs₀ 𝒱₀ (thr d i) none) Set.univ (k ⟨⟩) Q)
          -∗ wp frame (wpE defs₀ 𝒱₀ (thr d i) none) Set.univ
            (.op (.enqueueDma src (.here (dstV i oM b j)) (.dma cc1_scratch1.sem) hsrc hdst hsem) k) Q) := by
  have ht : b.val * 32 + j.val < 64 := by omega
  unfold Slots
  iintro ⟨Hs, Ho, HB⟩ Hk
  ihave Ho' := (pointsTo_split_subset (slot_sub_rest i ht)).1 $$ Ho
  icases Ho' with ⟨Hd, Hr⟩
  rw [rest_sdiff i ht]
  iapply (wp_dmaBatch EC 𝒱₀ (thr d i) none (D := slotRes (F := F) d i f1) none NC rfl (dst_mem i b j) ht (Nat.zero_le _) ?hD) $$ [Hs Hd HB]
  case hD =>
    refine sep_elim_left.trans (Entails.of_eq ?_)
    refine pointsTo_congr fun y hy => ?_
    obtain ⟨x, rfl⟩ := of_mem_slot i hy
    rw [View.write_emb, if_pos (Finset.mem_univ _)]
    exact hv x
  · isplitl [Hs]; · iexact Hs
    isplitl [Hd]; · iexact Hd
    iexact HB
  iintro HB
  iapply Hk
  isplitl [Hr]; · iexact Hr
  iexact HB

end run

end Proof.Sc
-- ==== Proof.TcPlaces.lean ====
module

public import proofs.«01_k».proof.Proof.TcBody
public import proofs.«01_k».proof.Proof.ScRun

/-!
# What the TensorCore's call leaves, and where
-/

@[expose] public section

noncomputable section

namespace Proof.Tc

open Cert.KernelIdeal Cert.KernelIdeal.Gen
open Idealize.ShloMosaic
open Idealize.SL Idealize.SL.RA Idealize.SL.BI
open scoped Idealize.SL.BI
open Idealize.ShloMosaic.ValueIdx
open Proof.Co
open Proof.Sc (rowW)

variable {F : FTy → Type} [FloatOps F]

abbrev M0 : Memref sig .tc .smem S4x16 .i32 := Memref.whole cc0_stg0_0
abbrev M1 : Memref sig .tc .hbm S4x16x256x640 .f32 := Memref.whole main_v4
abbrev M2 : Memref sig .tc .hbm S4x32x256x640 .f32 := Memref.whole main_v5_0
abbrev M3 : Memref sig .tc .smem S4x32 .i32 := Memref.whole cc0_stg1_0
abbrev M4 : Memref sig .tc .smem S4 .i32 := Memref.whole cc0_stg2_0
abbrev M5 : Memref sig .tc .vmem S5x256x640 .f32 := Memref.whole cc0_scratch0

/-! ## The values -/

/-- The count of a batch. -/
def cntOut (fw : S4x16.Idx → BitVec 32) : S4.Idx → BitVec 32 := fun y => nvT (rowW fw (y 0))

/-- The bits. -/
def bitOut (fw : S4x16.Idx → BitVec 32) : S4x32.Idx → BitVec 32 := fun y => bit (rowW fw (y 0)) (y 1).val

/-- The zero of the row of zeros. -/
abbrev zf : Elt F .f32 := (Scalar.ofBits .f32 0x00000000#32 : F .f32)

/-- The scratch: the value row of each batch, and the row of zeros. -/
def scr (f1 : S4x16x256x640.Idx → Elt F .f32) (fw : S4x16.Idx → BitVec 32) : S5x256x640.Idx → Elt F .f32 := fun y =>
  if h : (y 0).val < 4 then f1 (ix4 ⟨(y 0).val, h⟩ ⟨(fv (rowW fw ⟨(y 0).val, h⟩)).toNat, fv_lt _⟩ (y 1) (y 2)) else zf

/-- The values: a row of the scratch at every place. -/
def valOut (f1 : S4x16x256x640.Idx → Elt F .f32) (fw : S4x16.Idx → BitVec 32) : S4x32x256x640.Idx → Elt F .f32 := fun y =>
  scr f1 fw (ix3 ⟨(rw' (y 0).val (rowW fw (y 0)) (y 1).val).toNat, rw_lt (y 0).isLt _ _⟩ (y 2) (y 3))

/-! ## The places -/

theorem flat3 (x : S256x640.Idx) : Shape.reshapeEquiv (Facts₀.squeezes_S1x256x640_S256x640.numel_eq) x
    = (ix3 (⟨0, by decide⟩ : Fin 1) (x 0) (x 1) : S1x256x640.Idx) := by
  refine Shape.reshapeEquiv_eq_of_rowMajor _ ?_
  rw [Shape.rowMajor_val_two, Shape.rowMajor_val_three]
  show (0 * 256 + (x 0).val) * 640 + (x 1).val = (x 0).val * 640 + (x 1).val
  omega

theorem flat4 (x : S256x640.Idx) : Shape.reshapeEquiv (Facts₀.squeezes_S1x1x256x640_S256x640.numel_eq) x
    = (ix4 (⟨0, by decide⟩ : Fin 1) (⟨0, by decide⟩ : Fin 1) (x 0) (x 1) : S1x1x256x640.Idx) := by
  refine Shape.reshapeEquiv_eq_of_rowMajor _ ?_
  rw [Shape.rowMajor_val_two, Shape.rowMajor_val_four]
  show ((0 * 1 + 0) * 256 + (x 0).val) * 640 + (x 1).val = (x 0).val * 640 + (x 1).val
  omega

theorem row_emb {n : ℕ} (hn : n < 5) (x : S256x640.Idx) :
    (rowV M5 n hn).view.emb x = (ix3 ⟨n, hn⟩ (x 0) (x 1) : S5x256x640.Idx) := by
  show (Rect.unit (s := S5x256x640) ![n, 0, 0] S1x256x640.size (rOff_inb hn)).emb (Shape.reshapeEquiv (Facts₀.squeezes_S1x256x640_S256x640.numel_eq) x) = _
  rw [flat3]
  funext a
  refine Fin.ext ?_
  rw [Rect.emb_apply]
  match a with
  | 0 => show n + 1 * 0 = n; omega
  | 1 => show 0 + 1 * (x 0).val = (x 0).val; omega
  | 2 => show 0 + 1 * (x 1).val = (x 1).val; omega

theorem val_emb (b : Fin 4) (v : Fin 16 → BitVec 32) (x : S256x640.Idx) :
    (valV M1 b v).view.emb x = (ix4 b ⟨(fv v).toNat, fv_lt v⟩ (x 0) (x 1) : S4x16x256x640.Idx) := by
  show (Rect.unit (s := S4x16x256x640) ![b.val, (fv v).toNat, 0, 0] S1x1x256x640.size (sOff_inb b.isLt v)).emb
    (Shape.reshapeEquiv (Facts₀.squeezes_S1x1x256x640_S256x640.numel_eq) x) = _
  rw [flat4]
  funext a
  refine Fin.ext ?_
  rw [Rect.emb_apply]
  match a with
  | 0 => show b.val + 1 * 0 = b.val; omega
  | 1 => show (fv v).toNat + 1 * 0 = (fv v).toNat; omega
  | 2 => show 0 + 1 * (x 0).val = (x 0).val; omega
  | 3 => show 0 + 1 * (x 1).val = (x 1).val; omega

theorem out_emb (b : Fin 4) (j : Fin 32) (x : S256x640.Idx) :
    (outV M2 b j).view.emb x = (ix4 b j (x 0) (x 1) : S4x32x256x640.Idx) := by
  show (Rect.unit (s := S4x32x256x640) ![b.val, j.val, 0, 0] S1x1x256x640.size (dOff_inb b.isLt j.isLt)).emb
    (Shape.reshapeEquiv (Facts₀.squeezes_S1x1x256x640_S256x640.numel_eq) x) = _
  rw [flat4]
  funext a
  refine Fin.ext ?_
  rw [Rect.emb_apply]
  match a with
  | 0 => show b.val + 1 * 0 = b.val; omega
  | 1 => show j.val + 1 * 0 = j.val; omega
  | 2 => show 0 + 1 * (x 0).val = (x 0).val; omega
  | 3 => show 0 + 1 * (x 1).val = (x 1).val; omega

/-- A row of the scratch, and the rows from one on. -/
def rSet (n : ℕ) : Finset S5x256x640.Idx := Finset.univ.filter fun y => (y 0).val = n
def rFrom (n : ℕ) : Finset S5x256x640.Idx := Finset.univ.filter fun y => n ≤ (y 0).val

/-- A place of the result, counted through the batches, and the places from one on. -/
def oSet (t : ℕ) : Finset S4x32x256x640.Idx := Finset.univ.filter fun y => (y 0).val * 32 + (y 1).val = t
def oFrom (t : ℕ) : Finset S4x32x256x640.Idx := Finset.univ.filter fun y => t ≤ (y 0).val * 32 + (y 1).val

theorem rFrom_zero : rFrom 0 = Finset.univ := Finset.filter_true_of_mem fun _ _ => Nat.zero_le _
theorem oFrom_zero : oFrom 0 = Finset.univ := Finset.filter_true_of_mem fun _ _ => Nat.zero_le _

theorem rSet_sub (n : ℕ) : rSet n ⊆ rFrom n := by
  intro y hy
  simp only [rSet, rFrom, Finset.mem_filter, Finset.mem_univ, true_and] at hy ⊢
  omega

theorem oSet_sub (t : ℕ) : oSet t ⊆ oFrom t := by
  intro y hy
  simp only [oSet, oFrom, Finset.mem_filter, Finset.mem_univ, true_and] at hy ⊢
  omega

theorem rFrom_sdiff (n : ℕ) : rFrom n \ rSet n = rFrom (n + 1) := by
  ext y
  simp only [rSet, rFrom, Finset.mem_filter, Finset.mem_univ, true_and, Finset.mem_sdiff]
  omega

theorem oFrom_sdiff (t : ℕ) : oFrom t \ oSet t = oFrom (t + 1) := by
  ext y
  simp only [oSet, oFrom, Finset.mem_filter, Finset.mem_univ, true_and, Finset.mem_sdiff]
  omega

theorem rSet_disj {t t' : ℕ} (h : t ≠ t') : Disjoint (rSet t) (rSet t') := by
  rw [Finset.disjoint_left]
  intro y hy hy'
  simp only [rSet, Finset.mem_filter, Finset.mem_univ, true_and] at hy hy'
  omega

theorem oSet_disj {t t' : ℕ} (h : t ≠ t') : Disjoint (oSet t) (oSet t') := by
  rw [Finset.disjoint_left]
  intro y hy hy'
  simp only [oSet, Finset.mem_filter, Finset.mem_univ, true_and] at hy hy'
  omega

theorem oSet_union : (Finset.univ : Finset (Fin 128)).biUnion (fun t => oSet t.val) = Finset.univ := by
  ext y
  have h0 : (y 0).val < 4 := (y 0).isLt
  have h1 : (y 1).val < 32 := (y 1).isLt
  simp only [oSet, Finset.mem_biUnion, Finset.mem_filter, Finset.mem_univ, true_and, iff_true]
  exact ⟨⟨(y 0).val * 32 + (y 1).val, by omega⟩, rfl⟩

theorem rSet_union : (Finset.univ : Finset (Fin 4)).biUnion (fun t => rSet t.val) = Finset.univ \ rFrom 4 := by
  ext y
  simp only [rSet, rFrom, Finset.mem_biUnion, Finset.mem_filter, Finset.mem_univ, true_and, Finset.mem_sdiff]
  constructor
  · rintro ⟨t, h⟩
    have := t.isLt
    omega
  · intro h
    exact ⟨⟨(y 0).val, by omega⟩, rfl⟩

theorem row_set {n : ℕ} (hn : n < 5) : (rowV M5 n hn).view.set = rSet n := by
  refine Finset.ext fun (y : S5x256x640.Idx) => ?_
  constructor
  · intro h
    obtain ⟨x, -, hx⟩ := Finset.mem_map.mp h
    have e : y = (ix3 ⟨n, hn⟩ (x 0) (x 1) : S5x256x640.Idx) := hx.symm.trans (row_emb hn x)
    rw [e]
    exact Finset.mem_filter.mpr ⟨Finset.mem_univ _, rfl⟩
  · intro h
    have h0 : (y 0).val = n := (Finset.mem_filter.mp h).2
    refine Finset.mem_map.mpr ⟨ix2 (y 1) (y 2), Finset.mem_univ _, (row_emb hn _).trans ?_⟩
    funext a
    match a with
    | 0 => exact Fin.ext h0.symm
    | 1 => rfl
    | 2 => rfl

theorem out_sub (b : Fin 4) (j : Fin 32) : (outV M2 b j).view.set ⊆ oSet (b.val * 32 + j.val) := by
  intro y hy
  obtain ⟨x, -, rfl⟩ := Finset.mem_map.mp hy
  rw [out_emb]
  simp only [oSet, Finset.mem_filter, Finset.mem_univ, true_and]

theorem of_mem_row {n : ℕ} (hn : n < 5) {y : S5x256x640.Idx} (hy : y ∈ rSet n) : ∃ x : S256x640.Idx, y = (rowV M5 n hn).view.emb x := by
  rw [← row_set hn] at hy
  obtain ⟨x, -, h⟩ := Finset.mem_map.mp hy
  exact ⟨x, h.symm⟩

theorem of_mem_out {b : Fin 4} {j : Fin 32} {y : S4x32x256x640.Idx} (hy : y ∈ oSet (b.val * 32 + j.val)) :
    ∃ x : S256x640.Idx, y = (outV M2 b j).view.emb x := by
  have h1 : (y 1).val < 32 := (y 1).isLt
  have := j.isLt
  simp only [oSet, Finset.mem_filter, Finset.mem_univ, true_and] at hy
  refine ⟨ix2 (y 2) (y 3), ?_⟩
  rw [out_emb]
  funext a
  match a with
  | 0 => refine Fin.ext ?_; show (y 0).val = b.val; omega
  | 1 => refine Fin.ext ?_; show (y 1).val = j.val; omega
  | 2 => rfl
  | 3 => rfl

theorem b5 (b : Fin 4) : b.val < 5 := by omega

/-- A copy of a value row lands as the scratch has it. -/
theorem scr_row {f1 : S4x16x256x640.Idx → Elt F .f32} {fw : S4x16.Idx → BitVec 32} (b : Fin 4) (x : S256x640.Idx) :
    scr f1 fw ((rowV M5 b.val (b5 b)).view.emb x : S5x256x640.Idx) = f1 ((valV M1 b (rowW fw b)).view.emb x) := by
  rw [row_emb, val_emb]
  exact dif_pos b.isLt

/-- A copy of a scratch row lands as the result has it. -/
theorem val_row {f1 : S4x16x256x640.Idx → Elt F .f32} {fw : S4x16.Idx → BitVec 32} (b : Fin 4) (j : Fin 32) (x : S256x640.Idx) :
    valOut f1 fw ((outV M2 b j).view.emb x)
      = scr f1 fw ((rowV M5 (rw' b.val (rowW fw b) j.val).toNat (rw_lt b.isLt _ _)).view.emb x) := by
  rw [row_emb, out_emb]; rfl

end Proof.Tc
-- ==== Proof.ScSlots.lean ====
module

public import proofs.«01_k».proof.Proof.ScRun

/-!
# A batch of slots on the SparseCore
-/

@[expose] public section

noncomputable section

namespace Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Proof.Co
open Cert.KernelIdeal.Facts

variable {F : FTy → Type} [FloatOps F] (d : Dev nD) (i : grid1.Coords) {Q : PUnit → sProp (MM F)}

/-- The words' scratch. -/
abbrev sLoc : Loc nD τ sig := sM.view.loc (thr d i)

/-- One of the flags' words. -/
theorem wp_ldw {fs : Buf (Elt F) (sLoc d i)} {b : Fin 2} {r : Fin 16} {k : BitVec 32 → SProg F i} :
    (sLoc d i ↦{fullShare} fs : sProp (MM F))
      ⊢ iprop(((sLoc d i ↦{fullShare} fs) -∗ wp frame (wpE defs₀ 𝒱₀ (thr d i) none) Set.univ (k ((fs : S4x16.Idx → BitVec 32) (ix2 (bat i b) r))) Q)
        -∗ wp frame (wpE defs₀ 𝒱₀ (thr d i) none) Set.univ ((ldw i sM b r).bind k) Q) := by
  have e : ∀ x, ((sM.access (Rect.unit (s := S4x16) (wOff i b.val r.val) S1x1.size (wOff_inb i b.isLt r.isLt))).read (Elt F) fs x : BitVec 32)
      = (fs : S4x16.Idx → BitVec 32) (ix2 (bat i b) r) := by
    intro x
    refine congrArg (fs : S4x16.Idx → BitVec 32) ?_
    funext a
    refine Fin.ext ?_
    have h := row_toNat i b.isLt
    have h0 : (x 0).val < 1 := (x 0).isLt
    have h1 : (x 1).val < 1 := (x 1).isLt
    match a with
    | 0 => show (row i b.val).toNat + 1 * (x 0).val = (i 0).val * 2 + b.val; omega
    | 1 => show r.val + 1 * (x 1).val = r.val; omega
  show _ ⊢ iprop(_ -∗ wp frame (wpE defs₀ 𝒱₀ (thr d i) none) Set.univ (smemLoadElt sM (Rect.unit (s := S4x16) (wOff i b.val r.val) S1x1.size (wOff_inb i b.isLt r.isLt))
    (View.loads_smem_one rfl Facts₀.numel1_S1x1) (Shape.Idx.first (Facts₀.numel1_S1x1.symm ▸ Nat.one_pos)) k) Q)
  iintro Hw Hk
  iapply (wp_smemLoadElt 𝒱₀ (thr d i) none Set.univ (m := sM) (S := Finset.univ) (q := fullShare) (f := fs)
    (r := Rect.unit (s := S4x16) (wOff i b.val r.val) S1x1.size (wOff_inb i b.isLt r.isLt)) (Finset.subset_univ _)) $$ Hw
  iintro Hw
  rw [e]
  iapply Hk; iexact Hw

/-- The second half of a slot. -/
theorem wp_zslot {fk : Buf (Elt F) (kLoc d)} {fz : Buf (Elt F) (zLoc d)} {fo : Buf (Elt F) (oLoc d)} {fw : S4x16.Idx → BitVec 32}
    {b : Fin 2} {j : Fin 32} {K : SProg F i} (h : zc (rowW fw (bat i b)) j.val = 1#1) :
    iprop(Reads d fk fz ∗ Slots d i fo (scOut fk fw fz) (b.val * 32 + j.val))
      ⊢ iprop((iprop(Reads d fk fz ∗ Slots d i fo (scOut fk fw fz) (b.val * 32 + j.val + 1)) -∗ wp frame (wpE defs₀ 𝒱₀ (thr d i) none) Set.univ K Q)
        -∗ wp frame (wpE defs₀ 𝒱₀ (thr d i) none) Set.univ
          (zslot i zM (Memref.isWhole_whole _) oM cc1_scratch1 b (rowW fw (bat i b)) j K) Q) := by
  unfold zslot
  rw [if_pos h]
  have hk : ¬ kc (rowW fw (bat i b)) j.val = 1#1 := (zc_iff _ _).mp h
  unfold Reads
  iintro ⟨⟨Hk, %q, Hz⟩, Hs⟩ Hc
  ihave Hz' := (pointsTo_share (PosShare.mem_left_op_right q)).1 $$ Hz
  icases Hz' with ⟨Hz, Hz2⟩
  iapply (wp_copy d i (src := zM) (b := b) (j := j) (fs := fz) (f1 := scOut fk fw fz) ?hv) $$ [Hz2 Hs]
  case hv =>
    intro x
    rw [dst_emb]
    have hx : (x 0).val < 640 := (x 0).isLt
    show (fz : S640.Idx → Elt F .f32) x = slotVal fk fz (bat i b) (rowW fw (bat i b)) ((640 * j.val + (x 0).val) / 640) ((640 * j.val + (x 0).val) % 640)
    rw [show (640 * j.val + (x 0).val) / 640 = j.val by omega, show (640 * j.val + (x 0).val) % 640 = (x 0).val by omega]
    unfold slotVal
    rw [if_neg hk]
    refine congrArg (fz : S640.Idx → Elt F .f32) ?_
    funext a
    refine Fin.ext ?_
    match a with
    | 0 => show (x 0).val = (x 0).val % 640; omega
  · isplitl [Hz2]
    · simp only [Memref.view_whole, View.set_whole]
      iexact Hz2
    · iexact Hs
  iintro Hs
  iapply Hc
  isplitr [Hs]
  · isplitl [Hk]; · iexact Hk
    iexists q.left; iexact Hz
  · iexact Hs

/-- A slot. -/
theorem wp_slot {fk : Buf (Elt F) (kLoc d)} {fz : Buf (Elt F) (zLoc d)} {fo : Buf (Elt F) (oLoc d)} {fw : S4x16.Idx → BitVec 32}
    {b : Fin 2} {j : Fin 32} {K : SProg F i} (hs : kc (rowW fw (bat i b)) j.val = 1#1 → SrcOk i b.val (rowW fw (bat i b)) j.val) :
    iprop(Reads d fk fz ∗ Slots d i fo (scOut fk fw fz) (b.val * 32 + j.val))
      ⊢ iprop((iprop(Reads d fk fz ∗ Slots d i fo (scOut fk fw fz) (b.val * 32 + j.val + 1)) -∗ wp frame (wpE defs₀ 𝒱₀ (thr d i) none) Set.univ K Q)
        -∗ wp frame (wpE defs₀ 𝒱₀ (thr d i) none) Set.univ
          (slot i kM zM (Memref.isWhole_whole _) oM cc1_scratch1 b (rowW fw (bat i b)) j hs K) Q) := by
  unfold slot
  by_cases h : kc (rowW fw (bat i b)) j.val = 1#1
  · rw [dif_pos h]
    unfold Reads
    iintro ⟨⟨⟨%q, Hk⟩, Hz⟩, Hs⟩ Hc
    ihave Hk' := (pointsTo_share (PosShare.mem_left_op_right q)).1 $$ Hk
    icases Hk' with ⟨Hk, Hk2⟩
    ihave Hk3 := (pointsTo_split_subset (Finset.subset_univ (srcV i kM b (rowW fw (bat i b)) j (hs h)).view.set)).1 $$ Hk2
    icases Hk3 with ⟨Hk3, -⟩
    iapply (wp_copy d i (src := srcV i kM b (rowW fw (bat i b)) j (hs h)) (b := b) (j := j) (fs := fk) (f1 := scOut fk fw fz) ?hv) $$ [Hk3 Hs]
    case hv =>
      intro x
      rw [dst_emb]
      have hx : (x 0).val < 640 := (x 0).isLt
      show (fk : S4x10240.Idx → Elt F .f32) ((srcV i kM b (rowW fw (bat i b)) j (hs h)).view.emb x) =
        slotVal fk fz (bat i b) (rowW fw (bat i b)) ((640 * j.val + (x 0).val) / 640) ((640 * j.val + (x 0).val) % 640)
      rw [src_emb, show (640 * j.val + (x 0).val) / 640 = j.val by omega, show (640 * j.val + (x 0).val) % 640 = (x 0).val by omega]
      unfold slotVal
      rw [if_pos h]
    · isplitl [Hk3]; · iexact Hk3
      iexact Hs
    iintro Hs
    unfold zslot
    rw [if_neg fun hz => (zc_iff _ _).mp hz h]
    iapply Hc
    isplitr [Hs]
    · isplitl [Hk]
      · iexists q.left; iexact Hk
      · iexact Hz
    · iexact Hs
  · rw [dif_neg h]
    exact wp_zslot d i ((zc_iff _ _).mpr h)

/-- The slots of a list. -/
theorem wp_slots {fk : Buf (Elt F) (kLoc d)} {fz : Buf (Elt F) (zLoc d)} {fo : Buf (Elt F) (oLoc d)} {fw : S4x16.Idx → BitVec 32}
    {b : Fin 2} {K : SProg F i} (v : Fin 16 → BitVec 32) (ev : v = rowW fw (bat i b)) (hs : ∀ j : Fin 32, kc v j.val = 1#1 → SrcOk i b.val v j.val) (l : List (Fin 32)) :
    ∀ n, From n l →
    iprop(Reads d fk fz ∗ Slots d i fo (scOut fk fw fz) (b.val * 32 + n))
      ⊢ iprop((iprop(Reads d fk fz ∗ Slots d i fo (scOut fk fw fz) (b.val * 32 + 32)) -∗ wp frame (wpE defs₀ 𝒱₀ (thr d i) none) Set.univ K Q)
        -∗ wp frame (wpE defs₀ 𝒱₀ (thr d i) none) Set.univ
          (slots i kM zM (Memref.isWhole_whole _) oM cc1_scratch1 b v hs l K) Q) := by
  subst ev
  induction l with
  | nil =>
    intro n hn
    obtain rfl : n = 32 := hn
    iintro H Hc
    iapply Hc; iexact H
  | cons j l ih =>
    intro n hn
    obtain ⟨rfl, hl⟩ := hn
    iintro H Hc
    iapply (wp_slot d i (hs j)) $$ H
    iintro H
    iapply (ih _ hl) $$ H
    iexact Hc

/-- The words of a batch's row, as the list the body makes of them. -/
theorem words_eq (v : Fin 16 → BitVec 32) :
    ![v ⟨0, by decide⟩, v ⟨1, by decide⟩, v ⟨2, by decide⟩, v ⟨3, by decide⟩, v ⟨4, by decide⟩, v ⟨5, by decide⟩, v ⟨6, by decide⟩, v ⟨7, by decide⟩,
      v ⟨8, by decide⟩, v ⟨9, by decide⟩, v ⟨10, by decide⟩, v ⟨11, by decide⟩, v ⟨12, by decide⟩, v ⟨13, by decide⟩, v ⟨14, by decide⟩, v ⟨15, by decide⟩] = v := by
  funext r
  fin_cases r <;> rfl

/-- A batch. -/
theorem wp_batch {fk : Buf (Elt F) (kLoc d)} {fz : Buf (Elt F) (zLoc d)} {fo : Buf (Elt F) (oLoc d)} {fs : Buf (Elt F) (sLoc d i)}
    {b : Fin 2} {P : (Fin 16 → BitVec 32) → Prop} {dec : ∀ v, Decidable (P v)}
    {hP : ∀ v, P v → ∀ j : Fin 32, kc v j.val = 1#1 → SrcOk i b.val v j.val} {K : SProg F i}
    (h : P (rowW fs (bat i b))) :
    iprop((sLoc d i ↦{fullShare} fs) ∗ Reads d fk fz ∗ Slots d i fo (scOut fk fs fz) (b.val * 32))
      ⊢ iprop((iprop((sLoc d i ↦{fullShare} fs) ∗ Reads d fk fz ∗ Slots d i fo (scOut fk fs fz) (b.val * 32 + 32)) -∗ wp frame (wpE defs₀ 𝒱₀ (thr d i) none) Set.univ K Q)
        -∗ wp frame (wpE defs₀ 𝒱₀ (thr d i) none) Set.univ
          (batch i kM zM (Memref.isWhole_whole _) oM sM cc1_scratch1 b P dec hP K) Q) := by
  have ev := words_eq (rowW (fs : S4x16.Idx → BitVec 32) (bat i b))
  unfold batch
  iintro ⟨Hw, H⟩ Hc
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_ldw d i) $$ Hw; iintro Hw
  iapply (wp_assume 𝒱₀ (thr d i) none Set.univ (show P _ from ev ▸ h))
  iapply (wp_slots d i (fk := fk) (fz := fz) (fo := fo) (fw := fs) (b := b) _ ev _ all 0 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) $$ H
  iintro H
  iapply Hc
  isplitl [Hw]; · iexact Hw
  iexact H

/-- The waits of a list of slots. -/
theorem wp_waits {b : Fin 2} {K : SProg F i} {O : CellTallies nD τ sig (HIx 1)} {W : Waits sig (HIx 1)} {R : Fin 64 → sProp (MM F)} (l : List (Fin 32)) :
    ∀ n, From n l →
    iprop(Waited (thr d i) cc1_scratch1.sem 64 NC R (b.val * 32 + n) ∗ Owe (thr d i) O W ∗ MayWait (thr d i) (.dma cc1_scratch1.sem) none O)
      ⊢ iprop((iprop(Waited (thr d i) cc1_scratch1.sem 64 NC R (b.val * 32 + 32) ∗ Owe (thr d i) O W) -∗ wp frame (wpE defs₀ 𝒱₀ (thr d i) none) Set.univ K Q)
        -∗ wp frame (wpE defs₀ 𝒱₀ (thr d i) none) Set.univ
          (waits i zM (Memref.isWhole_whole _) oM cc1_scratch1 b l K) Q) := by
  induction l with
  | nil =>
    intro n hn
    obtain rfl : n = 32 := hn
    iintro ⟨H, HO, -⟩ Hc
    iapply Hc
    isplitl [H] <;> iassumption
  | cons j l ih =>
    intro n hn
    obtain ⟨rfl, hl⟩ := hn
    iintro ⟨H, HO, #Hm⟩ Hc
    unfold waits
    have hN : (dstV i oM b j).view.dmaCredit = NC := rfl
    have hN0 : 0 < NC := by decide
    iapply (wp_waited (n := 64) (N := NC) (R := R) 𝒱₀ (thr d i) none hN hN0 (show b.val * 32 + j.val < 64 by omega)) $$ [H HO]
    · isplitl [H]; · iexact H
      isplitl [HO]; · iexact HO
      iexact Hm
    iintro ⟨H, HO⟩
    iapply (ih _ hl) $$ [H HO]
    · isplitl [H]; · iexact H
      isplitl [HO]; · iexact HO
      iexact Hm
    iexact Hc

end Proof.Sc
-- ==== Proof.TcRun.lean ====
module

public import proofs.«01_k».proof.Proof.TcPlaces
public import proofs.«01_k».proof.Proof.ScSlots

/-!
# The TensorCore's body, run: the batches
-/

@[expose] public section

noncomputable section

namespace Proof.Tc

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Transfers
open Idealize.ShloMosaic.ValueIdx
open Proof.Co
open Proof.Sc (rowW all)

variable {F : FTy → Type} [FloatOps F] (d : Dev nD) {Q : PUnit → sProp (MM F)}

/-- The thread. -/
abbrev tc : Thread nD τ := SparseCore.T d

abbrev l0 : Loc nD τ sig := (M0).view.loc (tc d)
abbrev l1 : Loc nD τ sig := (M1).view.loc (tc d)
abbrev l2 : Loc nD τ sig := (M2).view.loc (tc d)
abbrev l3 : Loc nD τ sig := (M3).view.loc (tc d)
abbrev l4 : Loc nD τ sig := (M4).view.loc (tc d)
abbrev l5 : Loc nD τ sig := (M5).view.loc (tc d)

/-- A program of the thread, run. -/
abbrev run (p : TProg F PUnit) (Q : PUnit → sProp (MM F)) : sProp (MM F) := wp frame (wpE defs₀ 𝒱₀ (tc d) none) Set.univ p Q

/-- One flag. -/
theorem wp_ldw {fw : Buf (Elt F) (l0 d)} {b : Fin 4} {r : Fin 16} {k : BitVec 32 → TProg F PUnit} :
    (l0 d ↦{fullShare} fw : sProp (MM F))
      ⊢ iprop(((l0 d ↦{fullShare} fw) -∗ run d (k (rowW fw b r)) Q) -∗ run d ((ldw M0 b r).bind k) Q) := by
  have e : ∀ x, ((M0.access (Rect.unit (s := S4x16) ![b.val, r.val] S1x1.size (wOff_inb b.isLt r.isLt))).read (Elt F) fw x : BitVec 32)
      = rowW fw b r := by
    intro x
    refine congrArg (fw : S4x16.Idx → BitVec 32) ?_
    funext a
    refine Fin.ext ?_
    have h0 : (x 0).val < 1 := (x 0).isLt
    have h1 : (x 1).val < 1 := (x 1).isLt
    match a with
    | 0 => show b.val + 1 * (x 0).val = b.val; omega
    | 1 => show r.val + 1 * (x 1).val = r.val; omega
  show _ ⊢ iprop(_ -∗ wp frame (wpE defs₀ 𝒱₀ (tc d) none) Set.univ (smemLoadElt M0 (Rect.unit (s := S4x16) ![b.val, r.val] S1x1.size (wOff_inb b.isLt r.isLt))
    (View.loads_smem_one rfl Facts₀.numel1_S1x1) (Shape.Idx.first (Facts₀.numel1_S1x1.symm ▸ Nat.one_pos)) k) Q)
  iintro Hw Hk
  iapply (wp_smemLoadElt 𝒱₀ (tc d) none Set.univ (m := M0) (S := Finset.univ) (q := fullShare) (f := fw)
    (r := Rect.unit (s := S4x16) ![b.val, r.val] S1x1.size (wOff_inb b.isLt r.isLt)) (Finset.subset_univ _)) $$ Hw
  iintro Hw
  rw [e]
  iapply Hk; iexact Hw

/-! ## The bits -/

/-- The bits with those before the `n`-th written. -/
def bitsAt (fw : S4x16.Idx → BitVec 32) (f : S4x32.Idx → BitVec 32) (n : ℕ) : S4x32.Idx → BitVec 32 := fun y =>
  if (y 0).val * 32 + (y 1).val < n then bitOut fw y else f y

theorem bit_step {fw : S4x16.Idx → BitVec 32} {f : S4x32.Idx → BitVec 32} (b : Fin 4) (j : Fin 32) :
    (M3.access (Rect.unit (s := S4x32) ![b.val, j.val] S1x1.size (bOff_inb b.isLt j.isLt))).write (Elt F)
      (bitsAt fw f (b.val * 32 + j.val)) (fun _ => bit (rowW fw b) j.val) Finset.univ = bitsAt fw f (b.val * 32 + j.val + 1) := by
  have e : ∀ x, ((M3.access (Rect.unit (s := S4x32) ![b.val, j.val] S1x1.size (bOff_inb b.isLt j.isLt))).emb x : S4x32.Idx) = ix2 b j := by
    intro x
    funext a
    refine Fin.ext ?_
    have h0 : (x 0).val < 1 := (x 0).isLt
    have h1 : (x 1).val < 1 := (x 1).isLt
    match a with
    | 0 => show b.val + 1 * (x 0).val = b.val; omega
    | 1 => show j.val + 1 * (x 1).val = j.val; omega
  funext (y : S4x32.Idx)
  have hj := j.isLt
  have hy1 : (y 1).val < 32 := (y 1).isLt
  by_cases hy : y = ix2 b j
  · have e' := View.write_emb_of_mem (Val := Elt F) (v := M3.access (Rect.unit (s := S4x32) ![b.val, j.val] S1x1.size (bOff_inb b.isLt j.isLt)))
      (bitsAt fw f (b.val * 32 + j.val)) (fun _ => bit (rowW fw b) j.val) (Finset.mem_univ (ix2 (⟨0, by decide⟩ : Fin 1) (⟨0, by decide⟩ : Fin 1) : S1x1.Idx))
    rw [e, ← hy] at e'
    refine e'.trans ?_
    subst hy
    show bit (rowW fw b) j.val = bitsAt fw f (b.val * 32 + j.val + 1) (ix2 b j)
    unfold bitsAt
    rw [if_pos (show b.val * 32 + j.val < b.val * 32 + j.val + 1 by omega)]
    rfl
  · refine (View.write_of_not_mem _ _ _ ?_).trans ?_
    · intro h
      obtain ⟨x, -, hx⟩ := Finset.mem_map.mp h
      exact hy (hx.symm.trans (e x))
    · show bitsAt fw f (b.val * 32 + j.val) y = bitsAt fw f (b.val * 32 + j.val + 1) y
      unfold bitsAt
      have hne : (y 0).val * 32 + (y 1).val ≠ b.val * 32 + j.val := by
        intro h
        refine hy ?_
        funext a
        match a with
        | 0 => refine Fin.ext ?_; show (y 0).val = b.val; omega
        | 1 => refine Fin.ext ?_; show (y 1).val = j.val; omega
      by_cases h : (y 0).val * 32 + (y 1).val < b.val * 32 + j.val
      · rw [if_pos h, if_pos (by omega)]
      · rw [if_neg h, if_neg (by omega)]

theorem from_all : From 0 all :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem wp_bits {fw : S4x16.Idx → BitVec 32} {f : S4x32.Idx → BitVec 32} {b : Fin 4} {K : TProg F PUnit}
    (v : Fin 16 → BitVec 32) (ev : v = rowW fw b) (l : List (Fin 32)) :
    ∀ n, From n l →
    (l3 d ↦{fullShare} (bitsAt fw f (b.val * 32 + n) : Buf (Elt F) (l3 d)) : sProp (MM F))
      ⊢ iprop(((l3 d ↦{fullShare} (bitsAt fw f (b.val * 32 + 32) : Buf (Elt F) (l3 d))) -∗ run d K Q)
        -∗ run d (bits M3 b v l K) Q) := by
  subst ev
  induction l with
  | nil =>
    intro n hn
    obtain rfl : n = 32 := hn
    iintro H Hc
    iapply Hc; iexact H
  | cons j l ih =>
    intro n hn
    obtain ⟨rfl, hl⟩ := hn
    show _ ⊢ iprop(_ -∗ wp frame (wpE defs₀ 𝒱₀ (tc d) none) Set.univ (smemLoadElt M3 (Rect.unit (s := S4x32) ![b.val, j.val] S1x1.size (bOff_inb b.isLt j.isLt))
      (View.loads_smem_one rfl Facts₀.numel1_S1x1) (Shape.Idx.first (Facts₀.numel1_S1x1.symm ▸ Nat.one_pos))
      fun _ => .op (.store M3 (Rect.unit (s := S4x32) ![b.val, j.val] S1x1.size (bOff_inb b.isLt j.isLt)) (fun _ => bit (rowW fw b) j.val)
      Finset.univ (View.stores_smem_one rfl Facts₀.numel1_S1x1) (.inl rfl)) fun _ => bits M3 b (rowW fw b) l K) Q)
    iintro H Hc
    iapply (wp_smemLoadElt 𝒱₀ (tc d) none Set.univ (m := M3) (S := Finset.univ) (q := fullShare) (f := bitsAt fw f (b.val * 32 + j.val))
      (r := Rect.unit (s := S4x32) ![b.val, j.val] S1x1.size (bOff_inb b.isLt j.isLt)) (Finset.subset_univ _)) $$ H
    iintro H
    iapply (wp_store 𝒱₀ (tc d) none Set.univ (m := M3) (S := Finset.univ) (f := bitsAt fw f (b.val * 32 + j.val))
      (r := Rect.unit (s := S4x32) ![b.val, j.val] S1x1.size (bOff_inb b.isLt j.isLt)) (Finset.subset_univ _)) $$ H
    iintro H
    rw [bit_step]
    iapply (ih _ hl) $$ H
    iexact Hc

/-! ## The count -/

/-- The counts with those of the batches before the `n`-th written. -/
def cntAt (fw : S4x16.Idx → BitVec 32) (f : S4.Idx → BitVec 32) (n : ℕ) : S4.Idx → BitVec 32 := fun y =>
  if (y 0).val < n then cntOut fw y else f y

theorem cnt_step {fw : S4x16.Idx → BitVec 32} {f : S4.Idx → BitVec 32} (b : Fin 4) :
    (M4.access (Rect.unit (s := S4) ![b.val] S1.size (cOff_inb b.isLt))).write (Elt F)
      (cntAt fw f b.val) (fun _ => nvT (rowW fw b)) Finset.univ = cntAt fw f (b.val + 1) := by
  have e : ∀ x, ((M4.access (Rect.unit (s := S4) ![b.val] S1.size (cOff_inb b.isLt))).emb x : S4.Idx) = ix1 b := by
    intro x
    funext a
    refine Fin.ext ?_
    have h0 : (x 0).val < 1 := (x 0).isLt
    match a with
    | 0 => show b.val + 1 * (x 0).val = b.val; omega
  funext (y : S4.Idx)
  by_cases hy : y = ix1 b
  · have e' := View.write_emb_of_mem (Val := Elt F) (v := M4.access (Rect.unit (s := S4) ![b.val] S1.size (cOff_inb b.isLt)))
      (cntAt fw f b.val) (fun _ => nvT (rowW fw b)) (Finset.mem_univ (ix1 (⟨0, by decide⟩ : Fin 1) : S1.Idx))
    rw [e, ← hy] at e'
    refine e'.trans ?_
    subst hy
    show nvT (rowW fw b) = cntAt fw f (b.val + 1) (ix1 b)
    unfold cntAt
    rw [if_pos (show b.val < b.val + 1 by omega)]
    rfl
  · refine (View.write_of_not_mem _ _ _ ?_).trans ?_
    · intro h
      obtain ⟨x, -, hx⟩ := Finset.mem_map.mp h
      exact hy (hx.symm.trans (e x))
    · show cntAt fw f b.val y = cntAt fw f (b.val + 1) y
      unfold cntAt
      have hne : (y 0).val ≠ b.val := by
        intro h
        refine hy ?_
        funext a
        match a with
        | 0 => refine Fin.ext ?_; show (y 0).val = b.val; omega
      by_cases h : (y 0).val < b.val
      · rw [if_pos h, if_pos (by omega)]
      · rw [if_neg h, if_neg (by omega)]

/-! ## The value rows' copies -/

/-- What a value row's copy credits. -/
abbrev NF : ℕ := (M5 : Memref sig .tc .vmem S5x256x640 .f32).view.ref.dmaCredit S256x640 .f32

/-- What a value row's copy brings. -/
def fRes (f5 : Buf (Elt F) (l5 d)) (b : Fin 4) : sProp (MM F) := l5 d ↦[rSet b.val]{fullShare} f5

instance (f5 : Buf (Elt F) (l5 d)) (b : Fin 4) : Storable (upEmb : UEmb _ (MM F)) (fRes d f5 b) := by unfold fRes; infer_instance

/-- The rows from `n` on still to be written, the copies before in flight, the values at some share. -/
def Rows (f1 : Buf (Elt F) (l1 d)) (f5 g5 : Buf (Elt F) (l5 d)) (n : ℕ) : sProp (MM F) :=
  iprop((l5 d ↦[rFrom n]{fullShare} f5) ∗ Batch EC (tc d) (.dma cc0_scratch1.sem) none NF (fRes (F := F) d g5) n 0 ∗ ∃ q, l1 d ↦{q} f1)

theorem wp_rowcopy {f1 : Buf (Elt F) (l1 d)} {f5 : Buf (Elt F) (l5 d)} {fw : S4x16.Idx → BitVec 32} {b : Fin 4} {K : PUnit → TProg F PUnit}
    {v : Fin 16 → BitVec 32} (ev : v = rowW fw b) {hb : b.val < 5} {h1 h2 h3} :
    Rows d f1 f5 (scr f1 fw) b.val
      ⊢ iprop((Rows d f1 f5 (scr f1 fw) (b.val + 1) -∗ run d (K ⟨⟩) Q)
        -∗ run d (.op (.enqueueDma (valV M1 b v) (.here (rowV M5 b.val hb)) (.dma cc0_scratch1.sem) h1 h2 h3) K) Q) := by
  subst ev
  unfold Rows
  iintro ⟨Ho, HB, %q, Hs⟩ Hk
  ihave Hs' := (pointsTo_share (PosShare.mem_left_op_right q)).1 $$ Hs
  icases Hs' with ⟨Hs, Hs2⟩
  ihave Hs3 := (pointsTo_split_subset (Finset.subset_univ (valV M1 b (rowW fw b)).view.set)).1 $$ Hs2
  icases Hs3 with ⟨Hs3, -⟩
  ihave Ho' := (pointsTo_split_subset (rSet_sub b.val)).1 $$ Ho
  icases Ho' with ⟨Hd, Hr⟩
  rw [rFrom_sdiff]
  have hset : (rowV M5 b.val hb).view.set ⊆ rSet b.val := (row_set hb).le
  iapply (wp_dmaBatch EC 𝒱₀ (tc d) none (D := fRes (F := F) d (scr f1 fw)) none NF rfl hset b.isLt (Nat.zero_le _) ?hD) $$ [Hs3 Hd HB]
  case hD =>
    refine sep_elim_left.trans (Entails.of_eq ?_)
    refine pointsTo_congr fun y hy => ?_
    obtain ⟨x, rfl⟩ := of_mem_row hb hy
    rw [View.write_emb, if_pos (Finset.mem_univ _)]
    exact (scr_row b x).symm
  · isplitl [Hs3]; · iexact Hs3
    isplitl [Hd]; · iexact Hd
    iexact HB
  iintro HB
  iapply Hk
  isplitl [Hr]; · iexact Hr
  isplitl [HB]; · iexact HB
  iexists q.left; iexact Hs

/-! ## A batch -/

/-- A batch's copy. -/
def enq (b : Fin 4) (v : Fin 16 → BitVec 32) (K : (Fin 16 → BitVec 32) → TProg F PUnit) : TProg F PUnit :=
  .op (.enqueueDma (valV M1 b v) (.here (rowV M5 b.val (b5 b))) (.dma cc0_scratch1.sem) ((View.wordExact_bits rfl).reshape _ _) ((View.wordExact_bits rfl).reshape _ _) ⟨Or.inl rfl, trivial⟩) fun _ => K v

/-- A batch from its count on. -/
def rest (b : Fin 4) (v : Fin 16 → BitVec 32) (K : (Fin 16 → BitVec 32) → TProg F PUnit) : TProg F PUnit :=
  (smemLoad (Val := Elt F) (e := .i32) M4 (Rect.unit (s := S4) ![b.val] S1.size (cOff_inb b.isLt)) Facts₀.numel1_S1 rfl).bind fun _ =>
  .op (.store M4 (Rect.unit (s := S4) ![b.val] S1.size (cOff_inb b.isLt)) (fun _ => nvT v)
    Finset.univ (View.stores_smem_one rfl Facts₀.numel1_S1) (.inl rfl)) fun _ =>
  bits M3 b v all <|
  enq b v K

theorem wp_rest {f1 : Buf (Elt F) (l1 d)} {f5 : Buf (Elt F) (l5 d)} {fw : Buf (Elt F) (l0 d)} {f3 : S4x32.Idx → BitVec 32} {f4 : S4.Idx → BitVec 32}
    {b : Fin 4} {v : Fin 16 → BitVec 32} (ev : v = rowW fw b) {K : (Fin 16 → BitVec 32) → TProg F PUnit} :
    iprop((l3 d ↦{fullShare} (bitsAt fw f3 (b.val * 32) : Buf (Elt F) (l3 d))) ∗ (l4 d ↦{fullShare} (cntAt fw f4 b.val : Buf (Elt F) (l4 d)))
        ∗ Rows d f1 f5 (scr f1 fw) b.val)
      ⊢ iprop((iprop((l3 d ↦{fullShare} (bitsAt fw f3 (b.val * 32 + 32) : Buf (Elt F) (l3 d))) ∗ (l4 d ↦{fullShare} (cntAt fw f4 (b.val + 1) : Buf (Elt F) (l4 d)))
          ∗ Rows d f1 f5 (scr f1 fw) (b.val + 1)) -∗ run d (K (rowW fw b)) Q)
        -∗ run d (rest b v K) Q) := by
  subst ev
  show _ ⊢ iprop(_ -∗ wp frame (wpE defs₀ 𝒱₀ (tc d) none) Set.univ (smemLoadElt M4 (Rect.unit (s := S4) ![b.val] S1.size (cOff_inb b.isLt))
    (View.loads_smem_one rfl Facts₀.numel1_S1) (Shape.Idx.first (Facts₀.numel1_S1.symm ▸ Nat.one_pos))
    fun _ => .op (.store M4 (Rect.unit (s := S4) ![b.val] S1.size (cOff_inb b.isLt)) (fun _ => nvT (rowW fw b))
    Finset.univ (View.stores_smem_one rfl Facts₀.numel1_S1) (.inl rfl)) fun _ =>
  bits M3 b (rowW fw b) all <|
  enq b (rowW fw b) K) Q)
  iintro ⟨H3, H4, HR⟩ Hc
  iapply (wp_smemLoadElt 𝒱₀ (tc d) none Set.univ (m := M4) (S := Finset.univ) (q := fullShare) (f := cntAt fw f4 b.val)
    (r := Rect.unit (s := S4) ![b.val] S1.size (cOff_inb b.isLt)) (Finset.subset_univ _)) $$ H4
  iintro H4
  iapply (wp_store 𝒱₀ (tc d) none Set.univ (m := M4) (S := Finset.univ) (f := cntAt fw f4 b.val)
    (r := Rect.unit (s := S4) ![b.val] S1.size (cOff_inb b.isLt)) (Finset.subset_univ _)) $$ H4
  iintro H4
  rw [cnt_step]
  have e := wp_bits (Q := Q) d (fw := fw) (f := f3) (b := b) (K := enq b (rowW fw b) K) (rowW fw b) rfl all 0 from_all
  rw [Nat.add_zero] at e
  iapply e $$ H3
  iintro H3
  unfold enq
  iapply (wp_rowcopy d (fw := fw) (b := b) rfl) $$ HR
  iintro HR
  iapply Hc
  isplitl [H3]; · iexact H3
  isplitl [H4]; · iexact H4
  iexact HR

theorem wp_batch {f1 : Buf (Elt F) (l1 d)} {f5 : Buf (Elt F) (l5 d)} {fw : Buf (Elt F) (l0 d)} {f3 : S4x32.Idx → BitVec 32} {f4 : S4.Idx → BitVec 32}
    {b : Fin 4} {P P' : (Fin 16 → BitVec 32) → Prop} {dec : ∀ v, Decidable (P v)} {dec' : ∀ v, Decidable (P' v)}
    {K : (Fin 16 → BitVec 32) → TProg F PUnit} (hP : P (rowW fw b)) (hP' : P' (rowW fw b)) :
    iprop((l0 d ↦{fullShare} fw) ∗ (l3 d ↦{fullShare} (bitsAt fw f3 (b.val * 32) : Buf (Elt F) (l3 d))) ∗ (l4 d ↦{fullShare} (cntAt fw f4 b.val : Buf (Elt F) (l4 d)))
        ∗ Rows d f1 f5 (scr f1 fw) b.val)
      ⊢ iprop((iprop((l0 d ↦{fullShare} fw) ∗ (l3 d ↦{fullShare} (bitsAt fw f3 (b.val * 32 + 32) : Buf (Elt F) (l3 d))) ∗ (l4 d ↦{fullShare} (cntAt fw f4 (b.val + 1) : Buf (Elt F) (l4 d)))
          ∗ Rows d f1 f5 (scr f1 fw) (b.val + 1)) -∗ run d (K (rowW fw b)) Q)
        -∗ run d (batch M0 M1 M3 M4 M5 cc0_scratch1 b P P' dec dec' K) Q) := by
  have ev := Proof.Sc.words_eq (rowW (fw : S4x16.Idx → BitVec 32) b)
  unfold batch
  iintro ⟨Hw, H3, H4, HR⟩ Hc
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_assume 𝒱₀ (tc d) none Set.univ (show P _ from ev.symm ▸ hP))
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_ldw d) $$ Hw; iintro Hw
  iapply (wp_assume 𝒱₀ (tc d) none Set.univ (show P' _ from ev.symm ▸ hP'))
  iapply (wp_rest d (fw := fw) (f3 := f3) (f4 := f4) (K := K) ev) $$ [H3 H4 HR]
  · isplitl [H3]; · iexact H3
    isplitl [H4]; · iexact H4
    iexact HR
  iintro ⟨H3, H4, HR⟩
  iapply Hc
  isplitl [Hw]; · iexact Hw
  isplitl [H3]; · iexact H3
  isplitl [H4]; · iexact H4
  iexact HR

end Proof.Tc
-- ==== Proof.TcOut.lean ====
module

public import proofs.«01_k».proof.Proof.TcRun

/-!
# The TensorCore's body, run: the copies out, and the whole
-/

@[expose] public section

noncomputable section

namespace Proof.Tc

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Transfers
open Idealize.ShloMosaic.ValueIdx
open Proof.Co
open Proof.Sc (rowW all)

variable {F : FTy → Type} [FloatOps F] (d : Dev nD) {Q : PUnit → sProp (MM F)}

/-! ## The row of zeros -/

/-- The row of zeros' place. -/
abbrev zR : Rect S5x256x640 := Rect.unit (s := S5x256x640) ![4, 0, 0] S1x256x640.size (rOff_inb (by decide))

theorem zero_write {f1 : S4x16x256x640.Idx → Elt F .f32} {fw : S4x16.Idx → BitVec 32} {f5 : S5x256x640.Idx → Elt F .f32} {y : S5x256x640.Idx} (hy : y ∈ rFrom 4) :
    (M5.access zR).write (Elt F) f5
      (shapeCast S1x256x640 (broadcast S256x640 (Scalar.ofBits .f32 0x00000000#32 : F .f32) : FVec F S256x640 .f32)
        Facts₀.shapeCasts_S256x640_S1x256x640) Finset.univ y = scr f1 fw y := by
  have hy4 : 4 ≤ (y 0).val := (Finset.mem_filter.mp hy).2
  have h5 : (y 0).val < 5 := (y 0).isLt
  have e : y = ((M5.access zR).emb
      (ix3 (0 : Fin 1) (y 1) (y 2) : S1x256x640.Idx) : S5x256x640.Idx) := by
    funext a
    refine Fin.ext ?_
    match a with
    | 0 => show (y 0).val = 4 + 1 * 0; omega
    | 1 => show (y 1).val = 0 + 1 * (y 1).val; omega
    | 2 => show (y 2).val = 0 + 1 * (y 2).val; omega
  have er : scr f1 fw y = zf := dif_neg (by omega)
  rw [er]
  have e' := View.write_emb_of_mem (Val := Elt F) (v := M5.access zR)
      f5 (shapeCast S1x256x640 (broadcast S256x640 (Scalar.ofBits .f32 0x00000000#32 : F .f32) : FVec F S256x640 .f32)
        Facts₀.shapeCasts_S256x640_S1x256x640) (Finset.mem_univ (ix3 (0 : Fin 1) (y 1) (y 2) : S1x256x640.Idx))
  rw [← e] at e'
  exact e'.trans rfl

theorem zero_sub : ((M5.access zR).set : Finset S5x256x640.Idx) ⊆ rFrom 4 := by
  intro y hy
  obtain ⟨x, -, rfl⟩ := Finset.mem_map.mp hy
  refine Finset.mem_filter.mpr ⟨Finset.mem_univ _, ?_⟩
  show 4 ≤ 4 + 1 * (x 0).val
  omega

theorem wp_zero {f1 : Buf (Elt F) (l1 d)} {fw : S4x16.Idx → BitVec 32} {f5 : Buf (Elt F) (l5 d)} {K : TProg F PUnit} :
    (l5 d ↦[rFrom 4]{fullShare} f5 : sProp (MM F))
      ⊢ iprop(((l5 d ↦[rFrom 4]{fullShare} (scr f1 fw : Buf (Elt F) (l5 d))) -∗ run d K Q) -∗ run d (zero M5 K) Q) := by
  unfold zero
  iintro H Hk
  iapply (wp_load_rect 𝒱₀ (tc d) none Set.univ (m := M5) (r := zR) (S := rFrom 4) (f := f5) zero_sub) $$ H
  iintro H
  iapply (wp_store 𝒱₀ (tc d) none Set.univ (m := M5) (S := rFrom 4) (f := f5)
    (r := zR) zero_sub) $$ H
  iintro H
  iapply Hk
  have e : (l5 d ↦[rFrom 4]{fullShare} ((M5.access zR).write (Elt F) f5
      (shapeCast S1x256x640 (broadcast S256x640 (Scalar.ofBits .f32 0x00000000#32 : F .f32) : FVec F S256x640 .f32)
        Facts₀.shapeCasts_S256x640_S1x256x640) Finset.univ) : sProp (MM F)) = (l5 d ↦[rFrom 4]{fullShare} (scr f1 fw : Buf (Elt F) (l5 d))) :=
    pointsTo_congr fun y hy => zero_write hy
  rw [← e]
  iexact H

/-! ## The value rows' waits -/

theorem wp_waitsF {K : TProg F PUnit} {O : CellTallies nD τ sig (HIx 1)} {W : Waits sig (HIx 1)} {R : Fin 4 → sProp (MM F)} (l : List (Fin 4)) :
    ∀ n, From n l →
    iprop(Waited (tc d) cc0_scratch1.sem 4 NF R n ∗ Owe (tc d) O W ∗ MayWait (tc d) (.dma cc0_scratch1.sem) none O)
      ⊢ iprop((iprop(Waited (tc d) cc0_scratch1.sem 4 NF R 4 ∗ Owe (tc d) O W) -∗ run d K Q)
        -∗ run d (waitsF M1 M5 cc0_scratch1 l K) Q) := by
  induction l with
  | nil =>
    intro n hn
    obtain rfl : n = 4 := hn
    iintro ⟨H, HO, -⟩ Hc
    iapply Hc
    isplitl [H] <;> iassumption
  | cons j l ih =>
    intro n hn
    obtain ⟨rfl, hl⟩ := hn
    iintro ⟨H, HO, #Hm⟩ Hc
    unfold waitsF
    have hN : (rowV M5 j.val (b5 j)).view.dmaCredit = NF := rfl
    have hN0 : 0 < NF := by decide
    iapply (wp_waited (n := 4) (N := NF) (R := R) 𝒱₀ (tc d) none hN hN0 j.isLt) $$ [H HO]
    · isplitl [H]; · iexact H
      isplitl [HO]; · iexact HO
      iexact Hm
    iintro ⟨H, HO⟩
    iapply (ih _ hl) $$ [H HO]
    · isplitl [H]; · iexact H
      isplitl [HO]; · iexact HO
      iexact Hm
    iexact Hc

/-! ## The copies out -/

/-- What a copy out credits. -/
abbrev NW : ℕ := (M2 : Memref sig .tc .hbm S4x32x256x640 .f32).view.ref.dmaCredit S256x640 .f32

/-- The share of the scratch left before the `t`-th copy. -/
def qs : ℕ → PosShare TreeShare
  | 0 => fullShare
  | t + 1 => (qs t).left

/-- The scratch's row that goes to a place. -/
def srow (fw : S4x16.Idx → BitVec 32) (t : Fin 128) : ℕ := (rw' (t.val / 32) (rowW fw ⟨t.val / 32, by omega⟩) (t.val % 32)).toNat

theorem srow_eq {fw : S4x16.Idx → BitVec 32} {b : Fin 4} {j : Fin 32} (h : b.val * 32 + j.val < 128) :
    srow fw ⟨b.val * 32 + j.val, h⟩ = (rw' b.val (rowW fw b) j.val).toNat := by
  have h1 : (b.val * 32 + j.val) / 32 = b.val := by have := j.isLt; omega
  have h2 : (b.val * 32 + j.val) % 32 = j.val := by have := j.isLt; omega
  have hb : (⟨(b.val * 32 + j.val) / 32, by omega⟩ : Fin 4) = b := Fin.ext h1
  unfold srow
  rw [hb]
  show (rw' ((b.val * 32 + j.val) / 32) (rowW fw b) ((b.val * 32 + j.val) % 32)).toNat = _
  rw [h1, h2]

/-- What the `t`-th copy holds of the scratch. -/
def piece (fw : S4x16.Idx → BitVec 32) (g : Buf (Elt F) (l5 d)) (t : Fin 128) : sProp (MM F) := l5 d ↦[rSet (srow fw t)]{(qs t.val).right} g

/-- What it brings. -/
def wRes (fw : S4x16.Idx → BitVec 32) (g : Buf (Elt F) (l5 d)) (f : Buf (Elt F) (l2 d)) (t : Fin 128) : sProp (MM F) :=
  iprop((l2 d ↦[oSet t.val]{fullShare} f) ∗ piece d fw g t)

instance (fw : S4x16.Idx → BitVec 32) (g : Buf (Elt F) (l5 d)) (f : Buf (Elt F) (l2 d)) (t : Fin 128) : Storable (upEmb : UEmb _ (MM F)) (wRes d fw g f t) := by
  unfold wRes piece; infer_instance

/-- The copies below `t`. -/
def below (t : ℕ) : Finset (Fin 128) := Finset.univ.filter fun s => s.val < t

theorem below_succ {t : ℕ} (h : t < 128) : below (t + 1) = insert ⟨t, h⟩ (below t) := by
  ext s
  simp only [below, Finset.mem_filter, Finset.mem_univ, true_and, Finset.mem_insert, Fin.ext_iff]
  omega

theorem not_mem_below {t : ℕ} (h : t < 128) : (⟨t, h⟩ : Fin 128) ∉ below t := by
  simp only [below, Finset.mem_filter, Finset.mem_univ, true_and, lt_irrefl, not_false_eq_true]

/-- The scratch at the share left, and what its return needs. -/
def SrcSt (fw : S4x16.Idx → BitVec 32) (g : Buf (Elt F) (l5 d)) (t : ℕ) : sProp (MM F) :=
  iprop((l5 d ↦{qs t} g) ∗ (iprop((l5 d ↦{qs t} g) ∗ bigSep (below t) (piece d fw g)) -∗ (l5 d ↦{fullShare} g)))

theorem src_zero {fw : S4x16.Idx → BitVec 32} {g : Buf (Elt F) (l5 d)} : (l5 d ↦{fullShare} g : sProp (MM F)) ⊢ SrcSt d fw g 0 := by
  unfold SrcSt
  iintro H
  isplitl [H]; · iexact H
  iintro ⟨H, -⟩
  iexact H

theorem src_step {fw : S4x16.Idx → BitVec 32} {g : Buf (Elt F) (l5 d)} {t : ℕ} (h : t < 128) :
    SrcSt d fw g t ⊢ iprop(piece d fw g ⟨t, h⟩ ∗ SrcSt d fw g (t + 1)) := by
  have ep : (piece d fw g ⟨t, h⟩ : sProp (MM F)) = (l5 d ↦[rSet (srow fw ⟨t, h⟩)]{(qs t).right} g) := rfl
  have eb : (bigSep (below (t + 1)) (piece d fw g) : sProp (MM F)) = iprop((l5 d ↦[rSet (srow fw ⟨t, h⟩)]{(qs t).right} g) ∗ bigSep (below t) (piece d fw g)) := by
    rw [below_succ h, SparseCore.bigSep_insert' (not_mem_below h)]; rfl
  unfold SrcSt
  iintro ⟨H, Hw⟩
  ihave H' := (pointsTo_share (PosShare.mem_left_op_right (qs t))).1 $$ H
  icases H' with ⟨Hl, Hr⟩
  ihave Hr' := (pointsTo_split_subset (Finset.subset_univ (rSet (srow fw ⟨t, h⟩)))).1 $$ Hr
  icases Hr' with ⟨Hp, Hn⟩
  rw [ep]
  isplitl [Hp]; · iexact Hp
  isplitl [Hl]; · iexact Hl
  iintro ⟨Hl, Hb⟩
  ihave Hb' := (Entails.of_eq eb) $$ Hb
  icases Hb' with ⟨Hp, Hb⟩
  iapply Hw
  isplitr [Hb]
  · iapply (pointsTo_share (PosShare.mem_left_op_right (qs t))).2
    isplitl [Hl]; · iexact Hl
    iapply (pointsTo_split_subset (Finset.subset_univ (rSet (srow fw ⟨t, h⟩)))).2
    isplitl [Hp]; · iexact Hp
    iexact Hn
  · iexact Hb

/-- The places from `n` on still to be written. -/
def Outs (fw : S4x16.Idx → BitVec 32) (g : Buf (Elt F) (l5 d)) (f2 f : Buf (Elt F) (l2 d)) (n : ℕ) : sProp (MM F) :=
  iprop((l2 d ↦[oFrom n]{fullShare} f2) ∗ Batch EC (tc d) (.dma cc0_scratch2.sem) none NW (wRes (F := F) d fw g f) n 0 ∗ SrcSt d fw g n)

theorem wp_outcopy {f1 : Buf (Elt F) (l1 d)} {f2 : Buf (Elt F) (l2 d)} {fw : S4x16.Idx → BitVec 32} {b : Fin 4} {j : Fin 32} {K : PUnit → TProg F PUnit} {h1 h2 h3} :
    Outs d fw (scr f1 fw) f2 (valOut f1 fw) (b.val * 32 + j.val)
      ⊢ iprop((Outs d fw (scr f1 fw) f2 (valOut f1 fw) (b.val * 32 + j.val + 1) -∗ run d (K ⟨⟩) Q)
        -∗ run d (.op (.enqueueDma (rowV M5 (rw' b.val (rowW fw b) j.val).toNat (rw_lt b.isLt (rowW fw b) j.val)) (.here (outV M2 b j)) (.dma cc0_scratch2.sem) h1 h2 h3) K) Q) := by
  have ht : b.val * 32 + j.val < 128 := by omega
  have ep : (piece d fw (scr f1 fw) ⟨b.val * 32 + j.val, ht⟩ : sProp (MM F))
      = (l5 d ↦[(rowV M5 (rw' b.val (rowW fw b) j.val).toNat (rw_lt b.isLt (rowW fw b) j.val)).view.set]{(qs (b.val * 32 + j.val)).right} (scr f1 fw : Buf (Elt F) (l5 d))) := by
    unfold piece
    rw [srow_eq ht, row_set]
  unfold Outs
  iintro ⟨Ho, HB, Hs⟩ Hk
  ihave Hs' := (src_step d ht) $$ Hs
  icases Hs' with ⟨Hp, Hs⟩
  ihave Hp' := (Entails.of_eq ep) $$ Hp
  ihave Ho' := (pointsTo_split_subset (oSet_sub (b.val * 32 + j.val))).1 $$ Ho
  icases Ho' with ⟨Hd, Hr⟩
  rw [oFrom_sdiff]
  iapply (wp_dmaBatch EC 𝒱₀ (tc d) none (D := wRes (F := F) d fw (scr f1 fw) (valOut f1 fw)) none NW rfl (out_sub b j) ht (Nat.zero_le _) ?hD) $$ [Hp' Hd HB]
  case hD =>
    refine sep_mono (Entails.of_eq ?_) (Entails.of_eq ep.symm)
    refine pointsTo_congr fun y hy => ?_
    obtain ⟨x, rfl⟩ := of_mem_out hy
    rw [View.write_emb, if_pos (Finset.mem_univ _)]
    exact (val_row b j x).symm
  · isplitl [Hp']; · iexact Hp'
    isplitl [Hd]; · iexact Hd
    iexact HB
  iintro HB
  iapply Hk
  isplitl [Hr]; · iexact Hr
  isplitl [HB]; · iexact HB
  iexact Hs

theorem wp_outs {f1 : Buf (Elt F) (l1 d)} {f2 : Buf (Elt F) (l2 d)} {fw : S4x16.Idx → BitVec 32} {b : Fin 4} {K : TProg F PUnit} (l : List (Fin 32)) :
    ∀ n, From n l →
    Outs d fw (scr f1 fw) f2 (valOut f1 fw) (b.val * 32 + n)
      ⊢ iprop((Outs d fw (scr f1 fw) f2 (valOut f1 fw) (b.val * 32 + 32) -∗ run d K Q)
        -∗ run d (outs M2 M5 cc0_scratch2 b (rowW fw b) l K) Q) := by
  induction l with
  | nil =>
    intro n hn
    obtain rfl : n = 32 := hn
    iintro H Hc
    iapply Hc; iexact H
  | cons j l ih =>
    intro n hn
    obtain ⟨rfl, hl⟩ := hn
    iintro H Hc
    unfold outs
    iapply (wp_outcopy d) $$ H
    iintro H
    iapply (ih _ hl) $$ H
    iexact Hc

theorem wp_waitsW {b : Fin 4} {K : TProg F PUnit} {O : CellTallies nD τ sig (HIx 1)} {W : Waits sig (HIx 1)} {R : Fin 128 → sProp (MM F)} (l : List (Fin 32)) :
    ∀ n, From n l →
    iprop(Waited (tc d) cc0_scratch2.sem 128 NW R (b.val * 32 + n) ∗ Owe (tc d) O W ∗ MayWait (tc d) (.dma cc0_scratch2.sem) none O)
      ⊢ iprop((iprop(Waited (tc d) cc0_scratch2.sem 128 NW R (b.val * 32 + 32) ∗ Owe (tc d) O W) -∗ run d K Q)
        -∗ run d (waitsW M2 M5 cc0_scratch2 b l K) Q) := by
  induction l with
  | nil =>
    intro n hn
    obtain rfl : n = 32 := hn
    iintro ⟨H, HO, -⟩ Hc
    iapply Hc
    isplitl [H] <;> iassumption
  | cons j l ih =>
    intro n hn
    obtain ⟨rfl, hl⟩ := hn
    iintro ⟨H, HO, #Hm⟩ Hc
    unfold waitsW
    have hN : (outV M2 b j).view.dmaCredit = NW := rfl
    have hN0 : 0 < NW := by decide
    iapply (wp_waited (n := 128) (N := NW) (R := R) 𝒱₀ (tc d) none hN hN0 (show b.val * 32 + j.val < 128 by omega)) $$ [H HO]
    · isplitl [H]; · iexact H
      isplitl [HO]; · iexact HO
      iexact Hm
    iintro ⟨H, HO⟩
    iapply (ih _ hl) $$ [H HO]
    · isplitl [H]; · iexact H
      isplitl [HO]; · iexact HO
      iexact Hm
    iexact Hc

end Proof.Tc
-- ==== Proof.TcTail.lean ====
module

public import proofs.«01_k».proof.Proof.TcOut

/-!
# The TensorCore's body, run: the whole
-/

@[expose] public section

noncomputable section

namespace Proof.Tc

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Transfers
open Idealize.ShloMosaic.ValueIdx
open Proof.Co
open Proof.Sc (rowW all)

variable {F : FTy → Type} [FloatOps F] (d : Dev nD) {Q : PUnit → sProp (MM F)}

/-! ## The bounds the body assumes -/

theorem c5 (v : Fin 16 → BitVec 32) : k0_chk5 (v 0) (v 1) (v 2) (v 3) (v 4) (v 5) (v 6) (v 7) (v 8) (v 9) (v 10) (v 11) (v 12) (v 13) (v 14) (v 15) :=
  fun r => rOff_inb (rw_lt (b := 0) (by decide) v r.val)

theorem c1 (v : Fin 16 → BitVec 32) : k0_chk1 (v 15) (v 14) (v 13) (v 12) (v 11) (v 10) (v 9) (v 8) (v 7) (v 6) (v 5) (v 4) (v 3) (v 2) (v 1) (v 0) :=
  sOff_inb (b := 0) (by decide) v

theorem c6 (v : Fin 16 → BitVec 32) : k0_chk6 (v 0) (v 1) (v 2) (v 3) (v 4) (v 5) (v 6) (v 7) (v 8) (v 9) (v 10) (v 11) (v 12) (v 13) (v 14) (v 15) :=
  fun r => rOff_inb (rw_lt (b := 1) (by decide) v r.val)

theorem c2 (v : Fin 16 → BitVec 32) : k0_chk2 (v 15) (v 14) (v 13) (v 12) (v 11) (v 10) (v 9) (v 8) (v 7) (v 6) (v 5) (v 4) (v 3) (v 2) (v 1) (v 0) :=
  sOff_inb (b := 1) (by decide) v

theorem c7 (v : Fin 16 → BitVec 32) : k0_chk7 (v 0) (v 1) (v 2) (v 3) (v 4) (v 5) (v 6) (v 7) (v 8) (v 9) (v 10) (v 11) (v 12) (v 13) (v 14) (v 15) :=
  fun r => rOff_inb (rw_lt (b := 2) (by decide) v r.val)

theorem c3 (v : Fin 16 → BitVec 32) : k0_chk3 (v 15) (v 14) (v 13) (v 12) (v 11) (v 10) (v 9) (v 8) (v 7) (v 6) (v 5) (v 4) (v 3) (v 2) (v 1) (v 0) :=
  sOff_inb (b := 2) (by decide) v

theorem c8 (v : Fin 16 → BitVec 32) : k0_chk8 (v 0) (v 1) (v 2) (v 3) (v 4) (v 5) (v 6) (v 7) (v 8) (v 9) (v 10) (v 11) (v 12) (v 13) (v 14) (v 15) :=
  fun r => rOff_inb (rw_lt (b := 3) (by decide) v r.val)

theorem c4 (v : Fin 16 → BitVec 32) : k0_chk4 (v 15) (v 14) (v 13) (v 12) (v 11) (v 10) (v 9) (v 8) (v 7) (v 6) (v 5) (v 4) (v 3) (v 2) (v 1) (v 0) :=
  sOff_inb (b := 3) (by decide) v

/-! ## The whole -/

theorem bitsAt_zero {fw : S4x16.Idx → BitVec 32} {f : S4x32.Idx → BitVec 32} : bitsAt fw f 0 = f := by
  funext y; exact if_neg (Nat.not_lt_zero _)

theorem bitsAt_all {fw : S4x16.Idx → BitVec 32} {f : S4x32.Idx → BitVec 32} : bitsAt fw f 128 = bitOut fw := by
  funext y
  have h0 : (y 0).val < 4 := (y 0).isLt
  have h1 : (y 1).val < 32 := (y 1).isLt
  exact if_pos (by omega)

theorem cntAt_zero {fw : S4x16.Idx → BitVec 32} {f : S4.Idx → BitVec 32} : cntAt fw f 0 = f := by
  funext y; exact if_neg (Nat.not_lt_zero _)

theorem cntAt_all {fw : S4x16.Idx → BitVec 32} {f : S4.Idx → BitVec 32} : cntAt fw f 4 = cntOut fw := by
  funext y
  have h0 : (y 0).val < 4 := (y 0).isLt
  exact if_pos h0

variable {f1 : Buf (Elt F) (l1 d)} {f2 : Buf (Elt F) (l2 d)} {f3 : Buf (Elt F) (l3 d)} {f4 : Buf (Elt F) (l4 d)} {f5 : Buf (Elt F) (l5 d)}
  {fw : Buf (Elt F) (l0 d)}

/-- What the batches hand on from one to the next. -/
def BatchSt (fw : Buf (Elt F) (l0 d)) (f1 : Buf (Elt F) (l1 d)) (f3 : S4x32.Idx → BitVec 32) (f4 : S4.Idx → BitVec 32) (f5 : Buf (Elt F) (l5 d)) (b : ℕ) : sProp (MM F) :=
  iprop((l0 d ↦{fullShare} fw) ∗ (l3 d ↦{fullShare} (bitsAt fw f3 (b * 32) : Buf (Elt F) (l3 d))) ∗ (l4 d ↦{fullShare} (cntAt fw f4 b : Buf (Elt F) (l4 d)))
        ∗ Rows d f1 f5 (scr f1 fw) b)

theorem wp_batch' {b : Fin 4} {P P' : (Fin 16 → BitVec 32) → Prop} {dec : ∀ v, Decidable (P v)} {dec' : ∀ v, Decidable (P' v)}
    {K : (Fin 16 → BitVec 32) → TProg F PUnit} (hP : ∀ v, P v) (hP' : ∀ v, P' v) :
    BatchSt d fw f1 f3 f4 f5 b.val
      ⊢ iprop((BatchSt d fw f1 f3 f4 f5 (b.val + 1) -∗ run d (K (rowW fw b)) Q)
        -∗ run d (batch M0 M1 M3 M4 M5 cc0_scratch1 b P P' dec dec' K) Q) := by
  unfold BatchSt
  rw [Nat.succ_mul]
  exact wp_batch d (hP _) (hP' _)

/-- What the body leaves. -/
def Post (fw : Buf (Elt F) (l0 d)) (f1 : Buf (Elt F) (l1 d)) (O : CellTallies nD τ sig (HIx 1)) (W : Waits sig (HIx 1)) : sProp (MM F) :=
  iprop((l0 d ↦{fullShare} fw) ∗ (l3 d ↦{fullShare} (bitOut fw : Buf (Elt F) (l3 d))) ∗ (l4 d ↦{fullShare} (cntOut fw : Buf (Elt F) (l4 d)))
    ∗ (l5 d ↦{fullShare} (scr f1 fw : Buf (Elt F) (l5 d))) ∗ (l2 d ↦{fullShare} (valOut f1 fw : Buf (Elt F) (l2 d)))
    ∗ semVal (tc d, .dma cc0_scratch1.sem) 0 ∗ semVal (tc d, .dma cc0_scratch2.sem) 0 ∗ Owe (tc d) O W)

/-- The body from its copies out on. -/
theorem wp_tail {O : CellTallies nD τ sig (HIx 1)} {W : Waits sig (HIx 1)} (hO : ∀ g, O g none = 0) :
    iprop(levAts (K (F := F)).L (K (F := F)).lev ∗ (l5 d ↦{fullShare} (scr f1 fw : Buf (Elt F) (l5 d))) ∗ (l2 d ↦{fullShare} f2)
        ∗ semVal (tc d, .dma cc0_scratch2.sem) 0 ∗ Owe (tc d) O W)
      ⊢ iprop((iprop((l5 d ↦{fullShare} (scr f1 fw : Buf (Elt F) (l5 d))) ∗ (l2 d ↦{fullShare} (valOut f1 fw : Buf (Elt F) (l2 d)))
          ∗ semVal (tc d, .dma cc0_scratch2.sem) 0 ∗ Owe (tc d) O W) -∗ Q ⟨⟩)
        -∗ run d (outs M2 M5 cc0_scratch2 0 (rowW fw 0) all <| outs M2 M5 cc0_scratch2 1 (rowW fw 1) all <|
          outs M2 M5 cc0_scratch2 2 (rowW fw 2) all <| outs M2 M5 cc0_scratch2 3 (rowW fw 3) all <|
          waitsW M2 M5 cc0_scratch2 0 all <| waitsW M2 M5 cc0_scratch2 1 all <| waitsW M2 M5 cc0_scratch2 2 all <|
          waitsW M2 M5 cc0_scratch2 3 all <| .ret ⟨⟩) Q) := by
  iintro ⟨#Hlv, H5, H2, Hs, HO⟩ Hk
  imod (batch_alloc' EC (c := tc d) (sm := .dma cc0_scratch2.sem) none NW (wRes d fw (scr f1 fw) (valOut f1 fw))) $$ Hs with HB
  have e0 : (iprop((l2 d ↦[oFrom 0]{fullShare} f2) ∗ Batch EC (tc d) (.dma cc0_scratch2.sem) none NW (wRes (F := F) d fw (scr f1 fw) (valOut f1 fw)) 0 0
      ∗ SrcSt d fw (scr f1 fw) 0) : sProp (MM F)) ⊢ Outs d fw (scr f1 fw) f2 (valOut f1 fw) ((0 : Fin 4).val * 32 + 0) := Entails.of_eq rfl
  rw [oFrom_zero] at e0
  ihave Hsrc := (src_zero d (fw := fw)) $$ H5
  ihave HS := e0 $$ [H2 HB Hsrc]
  · isplitl [H2]; · iexact H2
    isplitl [HB]; · iexact HB
    iexact Hsrc
  have o0 := fun K => wp_outs (Q := Q) d (f1 := f1) (f2 := f2) (fw := fw) (b := 0) (K := K) all 0 from_all
  have o1 := fun K => wp_outs (Q := Q) d (f1 := f1) (f2 := f2) (fw := fw) (b := 1) (K := K) all 0 from_all
  have o2 := fun K => wp_outs (Q := Q) d (f1 := f1) (f2 := f2) (fw := fw) (b := 2) (K := K) all 0 from_all
  have o3 := fun K => wp_outs (Q := Q) d (f1 := f1) (f2 := f2) (fw := fw) (b := 3) (K := K) all 0 from_all
  iapply (o0 _) $$ HS
  iintro HS
  iapply (o1 _) $$ HS
  iintro HS
  iapply (o2 _) $$ HS
  iintro HS
  iapply (o3 _) $$ HS
  iintro HS
  unfold Outs
  icases HS with ⟨-, HB, Hsrc⟩
  ihave HB' := (Entails.of_eq (show Batch EC (tc d) (.dma cc0_scratch2.sem) none NW (wRes (F := F) d fw (scr f1 fw) (valOut f1 fw)) (Fin.val (3 : Fin 4) * 32 + 32) 0
      = Waited (tc d) cc0_scratch2.sem 128 NW (wRes (F := F) d fw (scr f1 fw) (valOut f1 fw)) 0 from by
    unfold Waited; rw [if_pos (by decide), Nat.zero_mul]; rfl)) $$ HB
  have w0 := fun K => wp_waitsW (Q := Q) d (b := 0) (K := K) (O := O) (W := W) (R := wRes d fw (scr f1 fw) (valOut f1 fw)) all 0 from_all
  have w1 := fun K => wp_waitsW (Q := Q) d (b := 1) (K := K) (O := O) (W := W) (R := wRes d fw (scr f1 fw) (valOut f1 fw)) all 0 from_all
  have w2 := fun K => wp_waitsW (Q := Q) d (b := 2) (K := K) (O := O) (W := W) (R := wRes d fw (scr f1 fw) (valOut f1 fw)) all 0 from_all
  have w3 := fun K => wp_waitsW (Q := Q) d (b := 3) (K := K) (O := O) (W := W) (R := wRes d fw (scr f1 fw) (valOut f1 fw)) all 0 from_all
  iapply (w0 _) $$ [HB' HO]
  · isplitl [HB']; · iexact HB'
    isplitl [HO]; · iexact HO
    iapply ((K (F := F)).mayWait_none (SemLoc.dma cc0_scratch2.sem) hO); iexact Hlv
  iintro ⟨HB, HO⟩
  iapply (w1 _) $$ [HB HO]
  · isplitl [HB]; · iexact HB
    isplitl [HO]; · iexact HO
    iapply ((K (F := F)).mayWait_none (SemLoc.dma cc0_scratch2.sem) hO); iexact Hlv
  iintro ⟨HB, HO⟩
  iapply (w2 _) $$ [HB HO]
  · isplitl [HB]; · iexact HB
    isplitl [HO]; · iexact HO
    iapply ((K (F := F)).mayWait_none (SemLoc.dma cc0_scratch2.sem) hO); iexact Hlv
  iintro ⟨HB, HO⟩
  iapply (w3 _) $$ [HB HO]
  · isplitl [HB]; · iexact HB
    isplitl [HO]; · iexact HO
    iapply ((K (F := F)).mayWait_none (SemLoc.dma cc0_scratch2.sem) hO); iexact Hlv
  iintro ⟨HB, HO⟩
  have eW : Waited (tc d) cc0_scratch2.sem 128 NW (wRes (F := F) d fw (scr f1 fw) (valOut f1 fw)) (Fin.val (3 : Fin 4) * 32 + 32)
      = iprop((bigSep Finset.univ (fun t : Fin 128 => l2 d ↦[oSet t.val]{fullShare} (valOut f1 fw : Buf (Elt F) (l2 d))) ∗ bigSep Finset.univ (piece (F := F) d fw (scr f1 fw)))
        ∗ semVal (tc d, .dma cc0_scratch2.sem) 0) := by
    refine (if_neg (by decide)).trans ?_
    refine congrArg (fun x => iprop(x ∗ semVal (tc d, .dma cc0_scratch2.sem) 0)) ?_
    exact BI.bigSep_sep _ _ _
  ihave HB' := (Entails.of_eq eW) $$ HB
  icases HB' with ⟨⟨HR, Hp⟩, Hs⟩
  have eR : (l2 d ↦{fullShare} (valOut f1 fw : Buf (Elt F) (l2 d)) : sProp (MM F))
      = bigSep Finset.univ (fun t : Fin 128 => l2 d ↦[oSet t.val]{fullShare} (valOut f1 fw : Buf (Elt F) (l2 d))) := by
    rw [← oSet_union]
    exact pointsTo_biUnion _ _ fun a _ b _ h => oSet_disj fun e => h (Fin.ext e)
  have eb : below 128 = Finset.univ := Finset.filter_true_of_mem fun s _ => s.isLt
  have eS : (SrcSt d fw (scr f1 fw) (Fin.val (3 : Fin 4) * 32 + 32) : sProp (MM F)) =
      iprop((l5 d ↦{qs 128} (scr f1 fw : Buf (Elt F) (l5 d))) ∗ (iprop((l5 d ↦{qs 128} (scr f1 fw : Buf (Elt F) (l5 d))) ∗ bigSep Finset.univ (piece (F := F) d fw (scr f1 fw))) -∗ (l5 d ↦{fullShare} (scr f1 fw : Buf (Elt F) (l5 d))))) := by
    rw [← eb]; rfl
  ihave Hsrc' := (Entails.of_eq eS) $$ Hsrc
  icases Hsrc' with ⟨Hq, Hw⟩
  unfold run
  rw [wp_ret]; imodintro
  iapply Hk
  isplitl [Hq Hw Hp]
  · iapply Hw
    isplitl [Hq]; · iexact Hq
    iexact Hp
  isplitl [HR]; · rw [eR]; iexact HR
  isplitl [Hs]; · iexact Hs
  iexact HO

end Proof.Tc
-- ==== Proof.TcAll.lean ====
module

public import proofs.«01_k».proof.Proof.TcTail

/-!
# The TensorCore's body, run: the whole
-/

@[expose] public section

noncomputable section

namespace Proof.Tc

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Transfers
open Idealize.ShloMosaic.ValueIdx
open Proof.Co
open Proof.Sc (rowW all)

variable {F : FTy → Type} [FloatOps F] (d : Dev nD) {Q : PUnit → sProp (MM F)}

variable {f1 : Buf (Elt F) (l1 d)} {f2 : Buf (Elt F) (l2 d)} {f3 : Buf (Elt F) (l3 d)} {f4 : Buf (Elt F) (l4 d)} {f5 : Buf (Elt F) (l5 d)}
  {fw : Buf (Elt F) (l0 d)}

/-- The waits of the value rows' copies: the scratch is then whole. -/
theorem wp_mid {O : CellTallies nD τ sig (HIx 1)} {W : Waits sig (HIx 1)} (hO : ∀ g, O g none = 0) {K : TProg F PUnit} :
    iprop(levAts (Co.K (F := F)).L (Co.K (F := F)).lev ∗ Rows d f1 f5 (scr f1 fw) 4 ∗ Owe (tc d) O W)
      ⊢ iprop((iprop((l5 d ↦{fullShare} (scr f1 fw : Buf (Elt F) (l5 d))) ∗ semVal (tc d, .dma cc0_scratch1.sem) 0 ∗ Owe (tc d) O W) -∗ run d K Q)
        -∗ run d (zero M5 <| waitsF M1 M5 cc0_scratch1 [⟨0, by decide⟩, ⟨1, by decide⟩, ⟨2, by decide⟩, ⟨3, by decide⟩] K) Q) := by
  unfold Rows
  iintro ⟨#Hlv, ⟨H5, HB, -⟩, HO⟩ Hk
  iapply (wp_zero d (f1 := f1) (fw := fw)) $$ H5
  iintro H5
  ihave HB' := (Entails.of_eq (show Batch EC (tc d) (.dma cc0_scratch1.sem) none NF (fRes (F := F) d (scr f1 fw)) 4 0
      = Waited (tc d) cc0_scratch1.sem 4 NF (fRes (F := F) d (scr f1 fw)) 0 from by
    unfold Waited; rw [if_pos (by decide), Nat.zero_mul])) $$ HB
  have w := wp_waitsF (Q := Q) d (K := K) (O := O) (W := W) (R := fRes d (scr f1 fw)) [⟨0, by decide⟩, ⟨1, by decide⟩, ⟨2, by decide⟩, ⟨3, by decide⟩] 0
    ⟨rfl, rfl, rfl, rfl, rfl⟩
  iapply w $$ [HB' HO]
  · isplitl [HB']; · iexact HB'
    isplitl [HO]; · iexact HO
    iapply ((Co.K (F := F)).mayWait_none (SemLoc.dma cc0_scratch1.sem) hO); iexact Hlv
  iintro ⟨HB, HO⟩
  have eW : Waited (tc d) cc0_scratch1.sem 4 NF (fRes (F := F) d (scr f1 fw)) 4
      = iprop(bigSep Finset.univ (fRes (F := F) d (scr f1 fw)) ∗ semVal (tc d, .dma cc0_scratch1.sem) 0) := if_neg (by decide)
  ihave HB' := (Entails.of_eq eW) $$ HB
  icases HB' with ⟨HR, Hs⟩
  have eR : (l5 d ↦[Finset.univ \ rFrom 4]{fullShare} (scr f1 fw : Buf (Elt F) (l5 d)) : sProp (MM F)) = bigSep Finset.univ (fRes (F := F) d (scr f1 fw)) := by
    rw [← rSet_union]
    exact pointsTo_biUnion _ _ fun a _ b _ h => rSet_disj fun e => h (Fin.ext e)
  ihave HR' := (Entails.of_eq eR.symm) $$ HR
  iapply Hk
  isplitl [H5 HR']
  · iapply (pointsTo_split_subset (Finset.subset_univ (rFrom 4))).2
    isplitl [H5]; · iexact H5
    iexact HR'
  isplitl [Hs]; · iexact Hs
  iexact HO

/-- The whole body. -/
theorem body_run {O : CellTallies nD τ sig (HIx 1)} {W : Waits sig (HIx 1)} (hO : ∀ g, O g none = 0) :
    iprop(levAts (Co.K (F := F)).L (Co.K (F := F)).lev ∗ (l0 d ↦{fullShare} fw) ∗ (l3 d ↦{fullShare} f3) ∗ (l4 d ↦{fullShare} f4) ∗ (l5 d ↦{fullShare} f5)
        ∗ (l1 d ↦{fullShare} f1) ∗ (l2 d ↦{fullShare} f2) ∗ semVal (tc d, .dma cc0_scratch1.sem) 0 ∗ semVal (tc d, .dma cc0_scratch2.sem) 0 ∗ Owe (tc d) O W)
      ⊢ iprop((Post d fw f1 O W -∗ Q ⟨⟩) -∗ run d (body M0 M1 M2 M3 M4 M5 cc0_scratch1 cc0_scratch2) Q) := by
  iintro ⟨#Hlv, H0, H3, H4, H5, H1, H2, Hs1, Hs2, HO⟩ Hk
  imod (batch_alloc' EC (c := tc d) (sm := .dma cc0_scratch1.sem) none NF (fRes d (scr f1 fw))) $$ Hs1 with HB
  have e0 : (iprop((l0 d ↦{fullShare} fw) ∗ (l3 d ↦{fullShare} (bitsAt fw f3 0 : Buf (Elt F) (l3 d))) ∗ (l4 d ↦{fullShare} (cntAt fw f4 0 : Buf (Elt F) (l4 d)))
        ∗ (l5 d ↦[rFrom 0]{fullShare} f5) ∗ Batch EC (tc d) (.dma cc0_scratch1.sem) none NF (fRes (F := F) d (scr f1 fw)) 0 0 ∗ ∃ q, l1 d ↦{q} f1) : sProp (MM F))
      ⊢ BatchSt d fw f1 f3 f4 f5 ((0 : Fin 4).val) := Entails.of_eq rfl
  rw [rFrom_zero, bitsAt_zero, cntAt_zero] at e0
  ihave HS := e0 $$ [H0 H3 H4 H5 HB H1]
  · isplitl [H0]; · iexact H0
    isplitl [H3]; · iexact H3
    isplitl [H4]; · iexact H4
    isplitl [H5]; · iexact H5
    isplitl [HB]; · iexact HB
    iexists fullShare; iexact H1
  unfold body
  iapply (wp_batch' d c5 c1) $$ HS
  iintro HS
  ihave HS := (Entails.of_eq (show BatchSt d fw f1 f3 f4 f5 ((0 : Fin 4).val + 1) = BatchSt d fw f1 f3 f4 f5 (1 : Fin 4).val from rfl)) $$ HS
  iapply (wp_batch' d (b := 1) c6 c2) $$ HS
  iintro HS
  ihave HS := (Entails.of_eq (show BatchSt d fw f1 f3 f4 f5 ((1 : Fin 4).val + 1) = BatchSt d fw f1 f3 f4 f5 (2 : Fin 4).val from rfl)) $$ HS
  iapply (wp_batch' d (b := 2) c7 c3) $$ HS
  iintro HS
  ihave HS := (Entails.of_eq (show BatchSt d fw f1 f3 f4 f5 ((2 : Fin 4).val + 1) = BatchSt d fw f1 f3 f4 f5 (3 : Fin 4).val from rfl)) $$ HS
  iapply (wp_batch' d (b := 3) c8 c4) $$ HS
  iintro HS
  have e4 : BatchSt d fw f1 f3 f4 f5 ((3 : Fin 4).val + 1) ⊢ iprop((l0 d ↦{fullShare} fw) ∗ (l3 d ↦{fullShare} (bitsAt fw f3 128 : Buf (Elt F) (l3 d))) ∗ (l4 d ↦{fullShare} (cntAt fw f4 4 : Buf (Elt F) (l4 d)))
        ∗ Rows d f1 f5 (scr f1 fw) 4) := Entails.of_eq rfl
  rw [bitsAt_all, cntAt_all] at e4
  ihave HS' := e4 $$ HS
  icases HS' with ⟨H0, H3, H4, HR⟩
  iapply (wp_mid d (fw := fw) (f1 := f1) (f5 := f5) (O := O) (W := W) hO) $$ [HR HO]
  · isplitr; · iexact Hlv
    isplitl [HR]; · iexact HR
    iexact HO
  iintro ⟨H5, Hs1, HO⟩
  iapply (wp_tail d (f1 := f1) (f2 := f2) (fw := fw) (O := O) (W := W) hO) $$ [H5 H2 Hs2 HO]
  · isplitr; · iexact Hlv
    isplitl [H5]; · iexact H5
    isplitl [H2]; · iexact H2
    isplitl [Hs2]; · iexact Hs2
    iexact HO
  iintro ⟨H5, H2, Hs2, HO⟩
  iapply Hk
  unfold Post
  isplitl [H0]; · iexact H0
  isplitl [H3]; · iexact H3
  isplitl [H4]; · iexact H4
  isplitl [H5]; · iexact H5
  isplitl [H2]; · iexact H2
  isplitl [Hs1]; · iexact Hs1
  isplitl [Hs2]; · iexact Hs2
  iexact HO

end Proof.Tc
-- ==== Proof.TcRegion.lean ====
module

public import proofs.«01_k».proof.Proof.TcEq
public import proofs.«01_k».proof.Proof.TcAll
public import proofs.«01_k».proof.Proof.Gen.KernelIdeal.Launch
public import proofs.«01_k».proof.Proof.Gen.KernelIdeal.Points

/-!
# The TensorCore's call as a region of @main
-/

@[expose] public section

noncomputable section

namespace Proof.Re

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay)
open Idealize.ShloMosaic.Pipeline (Dat BodyObligation)
open Proof.Co Proof.Tc

variable {F : FTy → Type} [FloatOps F]

/-- No table is prefetched. -/
abbrev adm : (p : Fin 1) → (pcfgs (F := F) p).Adm := fun p => (cfgs p).toPCfg_adm

abbrev a0 (c : Dev nD) : Loc nD τ sig := (SparseCore.T c).loc main_v0
abbrev a1 (c : Dev nD) : Loc nD τ sig := (SparseCore.T c).loc main_v5_1
abbrev a2 (c : Dev nD) : Loc nD τ sig := (SparseCore.T c).loc main_v5_2

/-- The semaphores of the kernel. -/
abbrev osem : Fin 2 → SemLoc sig := fun k => if k = 0 then .dma cc0_scratch1.sem else .dma cc0_scratch2.sem

theorem ownSemFacts : Pipeline.OwnSemFacts spec0 osem := by decide

abbrev sems (c : Dev nD) : sProp (MM F) := iprop(semVal (tc c, .dma cc0_scratch1.sem) 0 ∗ semVal (tc c, .dma cc0_scratch2.sem) 0)

theorem ownSems0_eq (c : Dev nD) :
    (Pipeline.ownSems0 (Ix := HIx 1) (Name := ℕ) (U := UU) (Lvl := ℕ) (Val := Elt F) (τ := τ) osem c : sProp (MM F)) = sems c :=
  Pipeline.ownSems0_eq_of_list c osem [0, 1] (by decide) (by decide)

abbrev lvs : sProp (MM F) := levAts (Co.K (F := F)).L (Co.K (F := F)).lev

variable (fw : (c : Dev nD) → Buf (Elt F) (a0 c)) (f1 : (c : Dev nD) → Buf (Elt F) (l1 c)) (f2 : (c : Dev nD) → Buf (Elt F) (l2 c))
  (g1 : (c : Dev nD) → Buf (Elt F) (a1 c)) (g2 : (c : Dev nD) → Buf (Elt F) (a2 c))

/-- The invariant before the point and after it. -/
def inv (c : Dev nD) (n : ℕ) : sProp (MM F) :=
  if n = 0 then iprop(lvs ∗ (l1 c ↦{fullShare} f1 c) ∗ (l2 c ↦{fullShare} f2 c) ∗ sems c ∗ ∃ f, l5 c ↦{fullShare} f)
  else iprop((l2 c ↦{fullShare} (valOut (f1 c) (fw c) : Buf (Elt F) (l2 c))) ∗ sems c ∗ ∃ f, l5 c ↦{fullShare} f)

/-- The waits recorded so far. -/
def recd (c : Dev nD) : Set (SemLoc sig × HIx 1) := {p | (Co.K (F := F)).lev (tc c, p.1) p.2 ≤ 0}

/-- The proof data. -/
def dat (c : Dev nD) : Dat τ (Elt F) (HIx 1) ℕ UU ℕ cfg0 c where
  A w := match w with
    | ⟨0, _⟩ => fw c
    | ⟨1, _⟩ => g1 c
    | ⟨2, _⟩ => g2 c
  after w _ := match w with
    | ⟨0, _⟩ => (fw c : S4x16.Idx → BitVec 32)
    | ⟨1, _⟩ => bitOut (fw c)
    | ⟨2, _⟩ => cntOut (fw c)
  Φ t := inv fw f1 f2 c t.val
  q _ := fullShare
  owed _ := (Co.K (F := F)).Otc c 0
  recorded _ := recd (F := F) c

abbrev dats : (p : Fin 1) → (c : Dev nD) → Dat τ (Elt F) (HIx 1) ℕ UU ℕ (Pipeline.pin (pcfgs (F := F)) adm p) c :=
  fun _ c => dat fw f1 f2 g1 g2 c

theorem blk_emb (w : Fin cfg0.W) (x : ((cfg0.win w).xblock (cfg0.grid.coords t0_0)).Idx) (a : Fin (cfg0.win w).shape.rank) :
    (((cfg0.win w).rect t0_0).emb x a).val = (x a).val := by
  match w with
  | 0 => show 0 * _ + 1 * (x a).val = _; omega
  | 1 => show 0 * _ + 1 * (x a).val = _; omega
  | 2 => show 0 * _ + 1 * (x a).val = _; omega

theorem before_in (c : Dev nD) (d : (cfg0.win 0).block.Idx → Elt F (cfg0.win 0).elt) : (dat fw f1 f2 g1 g2 c).before 0 t0_0 d = (fw c : S4x16.Idx → BitVec 32) := by
  unfold Dat.before; rw [if_pos (by decide)]
  show ((cfg0.win 0).blk t0_0).view.read (Elt F) (fw c) = _
  funext x
  refine congrArg (fw c : S4x16.Idx → BitVec 32) ?_
  funext a
  exact Fin.ext (blk_emb 0 x a)

/-- The results' arrays after the region. -/
theorem arr_bits (c : Dev nD) : (dat fw f1 f2 g1 g2 c).arrAt 1 cfg0.N = (bitOut (fw c) : Buf (Elt F) (a1 c)) := by
  rw [show cfg0.N = 0 + 1 from N_0]
  unfold Dat.arrAt
  rw [dif_pos (by decide), if_pos (flush0_1 _)]
  funext y
  have e : ((cfg0.win 1).blk t0_0).view.emb y = y := funext fun a => Fin.ext (blk_emb 1 y a)
  exact (congrArg _ e.symm).trans ((View.write_emb _ _ _ _).trans (if_pos (Finset.mem_univ _)))

theorem arr_cnt (c : Dev nD) : (dat fw f1 f2 g1 g2 c).arrAt 2 cfg0.N = (cntOut (fw c) : Buf (Elt F) (a2 c)) := by
  rw [show cfg0.N = 0 + 1 from N_0]
  unfold Dat.arrAt
  rw [dif_pos (by decide), if_pos (flush0_2 _)]
  funext y
  have e : ((cfg0.win 2).blk t0_0).view.emb y = y := funext fun a => Fin.ext (blk_emb 2 y a)
  exact (congrArg _ e.symm).trans ((View.write_emb _ _ _ _).trans (if_pos (Finset.mem_univ _)))

theorem arr_in (c : Dev nD) : (dat fw f1 f2 g1 g2 c).arrAt 0 cfg0.N = fw c :=
  (dat fw f1 f2 g1 g2 c).arrAt_in 0 rfl _

theorem otc_none (c : Dev nD) : ∀ g, (Co.K (F := F)).Otc (N := 1) c 0 g none = 0 := fun g => by
  by_contra h
  have := (Co.K (F := F)).lev_of_Otc_pos (N := 1) (Nat.pos_of_ne_zero h)
  rw [SparseCore.Cfg.lev_none] at this
  omega

/-- The region's body, as the run has it. -/
theorem prog_eq : defs₀ (F := F) .tc cfg0.body (cfg0.bodyArgs t0_0 (cfg0.slots t0_0)) = body M0 M1 M2 M3 M4 M5 cc0_scratch1 cc0_scratch2 :=
  (show _ = bodyAt0 t0_0 from rfl).trans
    (TcEq.cc0_body_eq _ _ _ _ _ _ _ _ _ _ _ _ _ _)

/-- A wait at no owed signal stays recorded. -/
theorem recd_none (c : Dev nD) {p : SemLoc sig × HIx 1} (h : p.2 = none) : p ∈ recd (F := F) c := by
  show (Co.K (F := F)).lev _ p.2 ≤ 0
  rw [h, SparseCore.Cfg.lev_none]

theorem waitPairs_none {p : SemLoc sig × HIx 1} (h : p ∈ cfg0.waitPairs none) : p.2 = none := by
  obtain ⟨w, i, rfl⟩ := h
  rfl

theorem body_obligation (c : Dev nD) : BodyObligation (dat fw f1 f2 g1 g2 c) (defs₀ (F := F)) 𝒱₀ none Set.univ := fun t => by
  obtain rfl := fin_N0 t
  rw [bigSep_W0, bigSep_W0]
  simp only [owns_whole_eq]
  rw [show (dat fw f1 f2 g1 g2 c).Φ t0_0.castSucc = inv fw f1 f2 c 0 from rfl, show (dat fw f1 f2 g1 g2 c).Φ t0_0.succ = inv fw f1 f2 c 1 from rfl]
  rw [show inv fw f1 f2 c 0 = iprop(lvs ∗ (l1 c ↦{fullShare} f1 c) ∗ (l2 c ↦{fullShare} f2 c) ∗ sems c ∗ ∃ f, l5 c ↦{fullShare} f) from if_pos rfl,
    show inv fw f1 f2 c 1 = iprop((l2 c ↦{fullShare} (valOut (f1 c) (fw c) : Buf (Elt F) (l2 c))) ∗ sems c ∗ ∃ f, l5 c ↦{fullShare} f) from if_neg (by decide)]
  unfold Dat.owesAt Pipeline.owesWithin
  rw [show (dat fw f1 f2 g1 g2 c).owed t0_0.castSucc = (Co.K (F := F)).Otc c 0 from rfl, show (dat fw f1 f2 g1 g2 c).owed t0_0.succ = (Co.K (F := F)).Otc c 0 from rfl]
  rw [prog_eq]
  iintro ⟨⟨#Hlv, H1, H2, ⟨Hs1, Hs2⟩, ⟨%f5, H5⟩⟩, ⟨%W, %hW, HO⟩, ⟨%d0, %h0, %hf0, H0⟩, ⟨%d1, %h3, -, H3⟩, ⟨%d2, %h4, -, H4⟩⟩
  rw [before_in] at hf0
  subst hf0
  ihave HO' := owe_intro $$ HO
  have e := fun Q => body_run c (Q := Q) (fw := fw c) (f1 := f1 c) (f2 := f2 c) (f3 := h3) (f4 := h4) (f5 := f5) (O := (Co.K (F := F)).Otc c 0) (W := W) (otc_none c)
  iapply (e _) $$ [H0 H1 H2 H3 H4 H5 Hs1 Hs2 HO']
  · isplitr; · iexact Hlv
    isplitl [H0]; · iexact H0
    isplitl [H3]; · iexact H3
    isplitl [H4]; · iexact H4
    isplitl [H5]; · iexact H5
    isplitl [H1]; · iexact H1
    isplitl [H2]; · iexact H2
    isplitl [Hs1]; · iexact Hs1
    isplitl [Hs2]; · iexact Hs2
    iexact HO'
  unfold Post Owe
  iintro ⟨H0, H3, H4, H5, H2, Hs1, Hs2, ⟨%W', %hW', HO⟩⟩
  isplitl [H2 Hs1 Hs2 H5]
  · isplitl [H2]; · iexact H2
    isplitl [Hs1 Hs2]
    · isplitl [Hs1]; · iexact Hs1
      iexact Hs2
    iexists _; iexact H5
  isplitl [HO]
  · iexists W'; isplitr
    · ipureintro
      intro p hp
      rcases hW' p hp with h | h
      · exact hW h
      · exact .inl (recd_none c h)
    iexact HO
  isplitl [H0]
  · iexists _; isplitr; swap; (· iexact H0); ipureintro; dsimp only [dat]
  isplitl [H3]
  · iexists _; isplitr; swap; (· iexact H3); ipureintro; dsimp only [dat]
  iexists _; isplitr; swap; (· iexact H4); ipureintro; dsimp only [dat]

/-- What the TensorCore owes, and no wait recorded above the ground. -/
abbrev Own0 (c : Dev nD) : sProp (MM F) :=
  iprop(∃ W, ⌜∀ p ∈ W, (Co.K (F := F)).lev (tc c, p.1) p.2 ≤ 0⌝ ∗ owes (tc c) ((Co.K (F := F)).Otc c 0) W)

/-- What the region takes. -/
abbrev Pre (c : Dev nD) : sProp (MM F) :=
  iprop((a0 c ↦{fullShare} fw c) ∗ (a1 c ↦{fullShare} g1 c) ∗ (a2 c ↦{fullShare} g2 c) ∗ (l1 c ↦{fullShare} f1 c) ∗ (l2 c ↦{fullShare} f2 c) ∗ Own0 c)

/-- What the region leaves. -/
abbrev End (c : Dev nD) : sProp (MM F) :=
  iprop((a0 c ↦{fullShare} fw c) ∗ (a1 c ↦{fullShare} (bitOut (fw c) : Buf (Elt F) (a1 c))) ∗ (a2 c ↦{fullShare} (cntOut (fw c) : Buf (Elt F) (a2 c)))
    ∗ (l2 c ↦{fullShare} (valOut (f1 c) (fw c) : Buf (Elt F) (l2 c))) ∗ Own0 c)

theorem arrays_eq (c : Dev nD) (X : (w : Fin cfg0.W) → Buf (Elt F) ((cfg0.win w).arr.view.loc (c : Thread nD τ))) :
    (dat fw f1 f2 g1 g2 c).arrays X = iprop((a0 c ↦{fullShare} X 0) ∗ (a1 c ↦{fullShare} X 1) ∗ (a2 c ↦{fullShare} X 2)) := by
  have h := Pipeline.arrays_eq (Pipeline.pin (pcfgs (F := F)) adm) (dats fw f1 f2 g1 g2) 0 c launch0.arr_whole ((dats fw f1 f2 g1 g2 0 c).share_full fun _ => rfl) X
  rw [bigSep_W0] at h
  exact h

set_option backward.isDefEq.respectTransparency.types false in
/-- The region. -/
def reg : Pipeline.RegionSeg (pcfgs (F := F)) adm (dats fw f1 f2 g1 g2) (none : HIx 1) defs₀ 𝒱₀ (Co.K (F := F)).L (Co.K (F := F)).lev 0 where
  win := launch0.win.to₀
  block_pos := launch0.block_pos
  stage_whole := launch0.stage_whole
  K := Fin 2
  osem := osem
  ho := ownSemFacts
  hbody c := (body_obligation fw f1 f2 g1 g2 c).loose
  hwaits c := Pipeline.cellsWaits_intro _ _ _ 0 c fun w s t => (Co.K (F := F)).mayWait_none _ (otc_none c)
  pre c := Pre fw f1 f2 g1 g2 c
  post c := End fw f1 c
  X c := iprop(lvs ∗ (l1 c ↦{fullShare} f1 c) ∗ (l2 c ↦{fullShare} f2 c) ∗ sems c)
  Y c := iprop(l2 c ↦{fullShare} (valOut (f1 c) (fw c) : Buf (Elt F) (l2 c)))
  Z c := iprop(emp)
  hentry c := by
    rw [ownSems0_eq]
    have ea := Entails.of_eq (arrays_eq fw f1 f2 g1 g2 c ((dat fw f1 f2 g1 g2 c).arrAt · 0)).symm
    iintro ⟨⟨H0, H1, H2, Hv, Ho, ⟨%W, %hW, HO⟩⟩, Hos, #Hlv⟩
    imodintro
    isplitl [H0 H1 H2]
    · iapply ea
      isplitl [H0]; · iexact H0
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => .inl (hW p hp)
      iexact HO
    isplitl
    · isplitr; · iexact Hlv
      isplitl [Hv]; · iexact Hv
      isplitl [Ho]; · iexact Ho
      iexact Hos
    iempintro
  hin c := by
    rw [show (dats fw f1 f2 g1 g2 0 c).Φ 0 = inv fw f1 f2 c 0 from rfl, show inv fw f1 f2 c 0 = iprop(lvs ∗ (l1 c ↦{fullShare} f1 c) ∗ (l2 c ↦{fullShare} f2 c) ∗ sems c ∗ ∃ f, l5 c ↦{fullShare} f) from if_pos rfl]
    iintro ⟨⟨Hlv, Hv, Ho, Hs⟩, -, Hr⟩
    ihave Hr' := (Entails.of_eq (scopedRest0_eq c)) $$ Hr
    isplitl [Hlv]; · iexact Hlv
    isplitl [Hv]; · iexact Hv
    isplitl [Ho]; · iexact Ho
    isplitl [Hs]; · iexact Hs
    iexact Hr'
  hout c := by
    rw [ownSems0_eq, show (dats fw f1 f2 g1 g2 0 c).Φ (Fin.last cfg0.N) = inv fw f1 f2 c 1 from rfl, show inv fw f1 f2 c 1 = iprop((l2 c ↦{fullShare} (valOut (f1 c) (fw c) : Buf (Elt F) (l2 c))) ∗ sems c ∗ ∃ f, l5 c ↦{fullShare} f) from if_neg (by decide)]
    iintro ⟨Ho, Hs, Hr⟩
    isplitl [Ho]; · iexact Ho
    isplitl [Hs]; · iexact Hs
    ihave Hr' := (Entails.of_eq (scopedRest0_eq c).symm) $$ Hr
    iexact Hr'
  hexit c := by
    have ea := Entails.of_eq (arrays_eq fw f1 f2 g1 g2 c ((dat fw f1 f2 g1 g2 c).arrAt · cfg0.N))
    rw [arr_in, arr_bits, arr_cnt] at ea
    iintro ⟨Ha, HO, HY, -⟩
    ihave Ha' := ea $$ Ha
    icases Ha' with ⟨H0, H1, H2⟩
    imodintro
    isplitl [H0]; · iexact H0
    isplitl [H1]; · iexact H1
    isplitl [H2]; · iexact H2
    isplitl [HY]; · iexact HY
    unfold Pipeline.Dat.owesAt Pipeline.owesWithin
    icases HO with ⟨%W, %hW, HO⟩
    iexists W; isplitr
    · ipureintro
      intro p hp
      rcases hW hp with h | h
      · exact h
      · exact recd_none c (waitPairs_none h)
    iexact HO

end Proof.Re
-- ==== Proof.ScObl.lean ====
module

public import proofs.«01_k».proof.Proof.ScSlots

/-!
# The SparseCore body, run
-/

@[expose] public section

noncomputable section

namespace Proof.Sc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers
open Proof.Co
open Cert.KernelIdeal.Facts

variable {F : FTy → Type} [FloatOps F] (d : Dev nD) (i : grid1.Coords)

instance (fo : Buf (Elt F) (oLoc d)) (t : Fin 64) : Storable (upEmb : UEmb _ (MM F)) (slotRes d i fo t) := by
  unfold slotRes; infer_instance

/-- The core's semaphores: the copies' and the flags'. -/
abbrev cK : GSem nD τ sig := (thr d i, SemLoc.dma cc1_scratch1.sem)
abbrev cW : GSem nD τ sig := (thr d i, SemLoc.dma cc1_scoped0.sem)

theorem own_sems : (SparseCore.Cfg.ownSems0 (thr d i) : sProp (MM F))
    = iprop(semVal (cK d i) 0 ∗ semVal (cW d i) 0
        ∗ bigSep (((SparseCore.Cfg.ownCells (thr d i)).erase (cK d i)).erase (cW d i)) fun g => semVal g 0) := by
  unfold SparseCore.Cfg.ownSems0
  rw [SparseCore.bigSep_erase' (SparseCore.Cfg.mem_ownCells.mpr ⟨rfl, by show (SemLoc.dma cc1_scratch1.sem : SemLoc sig).isScoped .scScalar = true; decide⟩ : cK d i ∈ SparseCore.Cfg.ownCells (thr d i)),
    SparseCore.bigSep_erase' (show cW d i ∈ (SparseCore.Cfg.ownCells (thr d i)).erase (cK d i) from
      Finset.mem_erase.mpr ⟨fun e => absurd (congrArg (fun g : GSem nD τ sig => g.2) e) (by show (SemLoc.dma cc1_scoped0.sem : SemLoc sig) ≠ SemLoc.dma cc1_scratch1.sem; decide),
        SparseCore.Cfg.mem_ownCells.mpr ⟨rfl, by show (SemLoc.dma cc1_scoped0.sem : SemLoc sig).isScoped .scScalar = true; decide⟩⟩)]

/-- The scratch in the core's scoped buffers. -/
abbrev sRef : DevRef τ sig := (thr d i).2.devRef cc1_scratch0

theorem scoped_bufs : (scopedBufs (thr d i) : sProp (MM F))
    = iprop((∃ f, sLoc d i ↦{fullShare} f) ∗ bigSep ((scopedRefs sig (thr d i).2).erase (sRef d i)) fun b => iprop(∃ f, ((thr d i).1, b) ↦{fullShare} f)) := by
  unfold scopedBufs
  have h : sRef d i ∈ scopedRefs sig (thr d i).2 :=
    mem_scopedRefs.mpr ⟨SparseCore.Cfg.scopes_scScalar.mpr (.inr ⟨(thr d i).2, rfl, by simp [Proc.inScope]⟩), rfl⟩
  rw [SparseCore.bigSep_erase' h]

variable {fk : Buf (Elt F) (kLoc d)} {fz : Buf (Elt F) (zLoc d)} {fw : Buf (Elt F) (wLoc d)} {fo : Buf (Elt F) (oLoc d)}

theorem body_run {O : CellTallies nD τ sig (HIx 1)} {W : Waits sig (HIx 1)} (hO : ∀ g, O g none = 0)
    (hv : ∀ b, Flags (rowW fw b)) :
    iprop(levAts (K (F := F)).L (K (F := F)).lev
        ∗ (Reads d fk fz ∗ (∃ q, wLoc d ↦{q} fw) ∗ (oLoc d ↦[rest i 0]{fullShare} fo))
        ∗ scopedBufs (thr d i) ∗ scopedSems0 (thr d i) ∗ owes (thr d i) O W)
      ⊢ wp frame (wpE defs₀ 𝒱₀ (thr d i) none) Set.univ
          (body i kM wM (Memref.isWhole_whole _) zM (Memref.isWhole_whole _) oM sM (Memref.isWhole_whole _) cc1_scratch1 cc1_scoped0)
          fun _ => iprop((oLoc d ↦[rest i 0]{fullShare} (scOut fk fw fz : Buf (Elt F) (oLoc d))) ∗ scopedBufs (thr d i) ∗ scopedSems0 (thr d i)
            ∗ ∃ W', ⌜∀ p ∈ W', p ∈ W ∨ p.2 = none⌝ ∗ owes (thr d i) O W') := by
  unfold body
  iintro ⟨#Hlv, ⟨Hr, ⟨%q, Hw⟩, Ho⟩, Hsb, Hss, HO⟩
  ihave Hss' := (SparseCore.Cfg.scopedSems0_S_elim (Val := Elt F) d ((i 0).castLE Facts₀.hcore1)) $$ Hss
  icases Hss' with ⟨Hown, Hsubs⟩
  ihave Hown' := (Entails.of_eq (own_sems (F := F) d i)) $$ Hown
  icases Hown' with ⟨HcK, HcW, Hrest⟩
  ihave Hsb' := (Entails.of_eq (scoped_bufs (F := F) d i)) $$ Hsb
  icases Hsb' with ⟨⟨%fs, Hs⟩, Hbrest⟩
  have hN0 : 0 < (sM : Memref sig .scScalar .smem S4x16 .i32).view.ref.dmaCredit S4x16 .i32 := by decide
  iapply (wp_dmaLocal EC 𝒱₀ (thr d i) none (src := wM) (dst := sM) (fs := fw) (fd := fs) (q := q) (Sd := Finset.univ) none ((sM : Memref sig .scScalar .smem S4x16 .i32).view.ref.dmaCredit S4x16 .i32) rfl hN0 (Finset.subset_univ _)) $$ [Hw Hs HcW]
  · isplitl [Hw]
    · simp only [Memref.view_whole, View.set_whole]
      iexact Hw
    isplitl [Hs]; · iexact Hs
    iexact HcW
  iintro HF
  iapply (wp_waitLocalO EC 𝒱₀ (thr d i) none none rfl) $$ [HF HO]
  · isplitl [HF]; · iexact HF
    isplitl [HO]; · iexact HO
    iapply ((K (F := F)).mayWait_none (SemLoc.dma cc1_scoped0.sem) hO); iexact Hlv
  iintro ⟨⟨Hs, -⟩, HcW, HO⟩
  have es : ∀ f, sM.view.write (Elt F) f (ReadAs.same.apply (wM.view.read (Elt F) fw)) Finset.univ = fw :=
    fun f => (View.write_whole_univ (Val := Elt F) cc1_scratch0 f _).trans rfl
  rw [es]
  imod (batch_alloc' EC (c := thr d i) (sm := .dma cc1_scratch1.sem) none NC (slotRes d i (scOut fk fw fz))) $$ HcK with HB
  iapply (wp_batch d i (b := 0) (fk := fk) (fz := fz) (fo := fo) (fs := fw) (chk0_of i (hv _))) $$ [Hs Hr Ho HB]
  · isplitl [Hs]; · iexact Hs
    isplitl [Hr]; · iexact Hr
    unfold Slots
    isplitl [Ho]; · iexact Ho
    iexact HB
  iintro ⟨Hs, Hr, HS⟩
  iapply (wp_batch d i (b := 1) (fk := fk) (fz := fz) (fo := fo) (fs := fw) (chk1_of i (hv _))) $$ [Hs Hr HS]
  · isplitl [Hs]; · iexact Hs
    isplitl [Hr]; · iexact Hr
    iexact HS
  iintro ⟨Hs, Hr, HS⟩
  unfold Slots
  icases HS with ⟨-, HB⟩
  ihave HB' := (Entails.of_eq (show Batch EC (thr d i) (.dma cc1_scratch1.sem) none NC (slotRes (F := F) d i (scOut fk fw fz)) (Fin.val (1 : Fin 2) * 32 + 32) 0
      = Waited (thr d i) cc1_scratch1.sem 64 NC (slotRes (F := F) d i (scOut fk fw fz)) 0 from by
    unfold Waited; rw [if_pos (by decide), Nat.zero_mul]; rfl)) $$ HB
  ihave HO' := owe_intro $$ HO
  iapply (wp_waits d i (b := 0) (O := O) (R := slotRes d i (scOut fk fw fz)) all 0 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) $$ [HB' HO']
  · isplitl [HB']; · iexact HB'
    isplitl [HO']; · iexact HO'
    iapply ((K (F := F)).mayWait_none (SemLoc.dma cc1_scratch1.sem) hO); iexact Hlv
  iintro ⟨HB, HO⟩
  iapply (wp_waits d i (b := 1) (O := O) (R := slotRes d i (scOut fk fw fz)) all 0 ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩) $$ [HB HO]
  · isplitl [HB]; · iexact HB
    isplitl [HO]; · iexact HO
    iapply ((K (F := F)).mayWait_none (SemLoc.dma cc1_scratch1.sem) hO); iexact Hlv
  iintro ⟨HB, HO⟩
  have eW : Waited (thr d i) cc1_scratch1.sem 64 NC (slotRes (F := F) d i (scOut fk fw fz)) (Fin.val (1 : Fin 2) * 32 + 32)
      = iprop(bigSep Finset.univ (slotRes (F := F) d i (scOut fk fw fz)) ∗ semVal (thr d i, .dma cc1_scratch1.sem) 0) := if_neg (by decide)
  ihave HB' := (Entails.of_eq eW) $$ HB
  icases HB' with ⟨HR, HcK⟩
  have eR : (oLoc d ↦[rest i 0]{fullShare} (scOut fk fw fz : Buf (Elt F) (oLoc d)) : sProp (MM F)) = bigSep Finset.univ (slotRes (F := F) d i (scOut fk fw fz)) := by
    rw [← slots_union]
    exact pointsTo_biUnion _ _ fun a _ b _ h => slots_disj i fun e => h (Fin.ext e)
  rw [wp_ret]; imodintro
  isplitl [HR]; · rw [eR]; iexact HR
  isplitl [Hs Hbrest]
  · rw [scoped_bufs]
    isplitl [Hs]
    · iexists fw; iexact Hs
    · iexact Hbrest
  isplitl [HcK HcW Hrest Hsubs]
  · iapply (SparseCore.Cfg.scopedSems0_S_intro (Val := Elt F) d ((i 0).castLE Facts₀.hcore1))
    isplitr [Hsubs]
    · rw [own_sems]
      isplitl [HcK]; · iexact HcK
      isplitl [HcW] <;> iassumption
    · iexact Hsubs
  unfold Owe
  icases HO with ⟨%W', %hW, HO⟩
  iexists W'; isplitr
  · ipureintro; intro p hp
    rcases hW p hp with h | h
    · rcases Finset.mem_insert.mp h with rfl | h
      · exact .inr rfl
      · exact .inl h
    · exact .inr h
  iexact HO

end Proof.Sc
-- ==== Proof.Launch.lean ====
module

public import proofs.«01_k».proof.Proof.TcRegion
public import proofs.«01_k».proof.Proof.ScObl

/-!
# The SparseCore call at launch
-/

@[expose] public section

noncomputable section

namespace Proof.La

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx
open Proof.Co
open Cert.KernelIdeal.Facts

variable {F : FTy → Type} [FloatOps F]

/-! ## The arrays of @main -/

abbrev arg0' : DevRef τ sig := Proc.devRef .tc (main_arg0 : Ref sig .tc)
abbrev arg1' : DevRef τ sig := Proc.devRef .tc (main_arg1 : Ref sig .tc)
abbrev arg2' : DevRef τ sig := Proc.devRef .tc (main_arg2 : Ref sig .tc)
abbrev arg3' : DevRef τ sig := Proc.devRef .tc (main_arg3 : Ref sig .tc)
abbrev arg4' : DevRef τ sig := Proc.devRef .tc (main_arg4 : Ref sig .tc)
abbrev arg5' : DevRef τ sig := Proc.devRef .tc (main_arg5 : Ref sig .tc)
abbrev arg6' : DevRef τ sig := Proc.devRef .tc (main_arg6 : Ref sig .tc)
abbrev v0' : DevRef τ sig := Proc.devRef .tc (main_v0 : Ref sig .tc)
abbrev v1' : DevRef τ sig := Proc.devRef .tc (main_v1 : Ref sig .tc)
abbrev cst' : DevRef τ sig := Proc.devRef .tc (main_cst : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5_0' : DevRef τ sig := Proc.devRef .tc (main_v5_0 : Ref sig .tc)
abbrev v5_1' : DevRef τ sig := Proc.devRef .tc (main_v5_1 : Ref sig .tc)
abbrev v5_2' : DevRef τ sig := Proc.devRef .tc (main_v5_2 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev c' : DevRef τ sig := Proc.devRef .tc (main_c : Ref sig .tc)
abbrev v10' : DevRef τ sig := Proc.devRef .tc (main_v10 : Ref sig .tc)
abbrev v11' : DevRef τ sig := Proc.devRef .tc (main_v11 : Ref sig .tc)
abbrev v12' : DevRef τ sig := Proc.devRef .tc (main_v12 : Ref sig .tc)

/-! ## Its operations before the calls, and after them -/

abbrev o0 : HloOp τ sig (Elt F) := StableHlo.unary main_arg2 main_v0 ((extui 32 · Facts₀.natLt_1_32) : (⟨S4x16, .i1⟩ : BufTy).Contents (Elt F) → (⟨S4x16, .i32⟩ : BufTy).Contents (Elt F))
abbrev o1 : HloOp τ sig (Elt F) := StableHlo.reshape main_arg0 main_v1 (rfl : (.f32 : EltTy) = .f32) Facts₀.shapeCasts_S4x16x640_S4x10240
abbrev o2 : HloOp τ sig (Elt F) := StableHlo.nullary main_cst (constant S_ .f32 0x00000000#32)
abbrev o3 : HloOp τ sig (Elt F) := StableHlo.unary main_cst main_v2 (broadcastInDim S640 ![] Facts₀.bcast_S_S640 : (⟨S_, .f32⟩ : BufTy).Contents (Elt F) → (⟨S640, .f32⟩ : BufTy).Contents (Elt F))
abbrev o4 : HloOp τ sig (Elt F) := StableHlo.unary main_arg1 main_v3 ((transpose S4x16x16x16x640 [0, 1, 3, 4, 2] · Facts₀.transposes_S4x16x640x16x16_S4x16x16x16x640_0_1_3_4_2) : (⟨S4x16x640x16x16, .f32⟩ : BufTy).Contents (Elt F) → (⟨S4x16x16x16x640, .f32⟩ : BufTy).Contents (Elt F))
abbrev o5 : HloOp τ sig (Elt F) := StableHlo.reshape main_v3 main_v4 (rfl : (.f32 : EltTy) = .f32) Facts₀.shapeCasts_S4x16x16x16x640_S4x16x256x640

abbrev p0 : HloOp τ sig (Elt F) := StableHlo.reshape main_v5_0 main_v7 (rfl : (.f32 : EltTy) = .f32) Facts₀.shapeCasts_S4x32x256x640_S4x32x16x16x640
abbrev p1 : HloOp τ sig (Elt F) := StableHlo.unary main_v7 main_v8 ((transpose S4x32x640x16x16 [0, 1, 4, 2, 3] · Facts₀.transposes_S4x32x16x16x640_S4x32x640x16x16_0_1_4_2_3) : (⟨S4x32x16x16x640, .f32⟩ : BufTy).Contents (Elt F) → (⟨S4x32x640x16x16, .f32⟩ : BufTy).Contents (Elt F))
abbrev p2 : HloOp τ sig (Elt F) := StableHlo.reshape main_v6 main_v9 (rfl : (.f32 : EltTy) = .f32) Facts₀.shapeCasts_S4x20480_S4x32x640
abbrev p3 : HloOp τ sig (Elt F) := StableHlo.nullary main_c (constantI S_ 32 0#32)
abbrev p4 : HloOp τ sig (Elt F) := StableHlo.unary main_c main_v10 (broadcastInDim S4x32 ![] Facts₀.bcast_S_S4x32 : (⟨S_, .i32⟩ : BufTy).Contents (Elt F) → (⟨S4x32, .i32⟩ : BufTy).Contents (Elt F))
abbrev p5 : HloOp τ sig (Elt F) := StableHlo.binary main_v5_1 main_v10 main_v11 (cmpi .ne : (⟨S4x32, .i32⟩ : BufTy).Contents (Elt F) → (⟨S4x32, .i32⟩ : BufTy).Contents (Elt F) → (⟨S4x32, .i1⟩ : BufTy).Contents (Elt F))
abbrev p6 : HloOp τ sig (Elt F) := StableHlo.unary main_v11 main_v12 (id : (⟨S4x32, .i1⟩ : BufTy).Contents (Elt F) → (⟨S4x32, .i1⟩ : BufTy).Contents (Elt F))

variable (m : (ℓ : Loc nD τ sig) → Buf (Elt F) ℓ)

/-- The arrays as launched. -/
def V0 (d : Dev nD) : Valuation τ sig (Elt F) := fun b => m (d, b)
/-- The arrays before the calls. -/
def V6 (d : Dev nD) : Valuation τ sig (Elt F) := (o5 (F := F)).result (o4.result (o3.result (o2.result (o1.result (o0.result (V0 m d))))))

/-- The flags, the key rows, the zero row and the value rows as the calls find them. -/
def fw (d : Dev nD) : Buf (Elt F) (Sc.wLoc d) := V6 m d v0'
def fk (d : Dev nD) : Buf (Elt F) (Sc.kLoc d) := V6 m d v1'
def fz (d : Dev nD) : Buf (Elt F) (Sc.zLoc d) := V6 m d v2'
def f4 (d : Dev nD) : Buf (Elt F) (Tc.l1 d) := V6 m d v4'

theorem V6_not (d : Dev nD) {b : DevRef τ sig} (h : b ∉ ({v0', v1', cst', v2', v3', v4'} : Finset (DevRef τ sig))) : V6 m d b = m (d, b) := by
  simp only [Finset.mem_insert, Finset.mem_singleton, not_or] at h
  obtain ⟨h0, h1, h2, h3, h4, h5⟩ := h
  unfold V6
  rw [(o5 (F := F)).result_of_not_mem _ (show b ∉ ({v4'} : Finset (DevRef τ sig)) by simpa using h5),
    (o4 (F := F)).result_of_not_mem _ (show b ∉ ({v3'} : Finset (DevRef τ sig)) by simpa using h4),
    (o3 (F := F)).result_of_not_mem _ (show b ∉ ({v2'} : Finset (DevRef τ sig)) by simpa using h3),
    (o2 (F := F)).result_of_not_mem _ (show b ∉ ({cst'} : Finset (DevRef τ sig)) by simpa using h2),
    (o1 (F := F)).result_of_not_mem _ (show b ∉ ({v1'} : Finset (DevRef τ sig)) by simpa using h1),
    (o0 (F := F)).result_of_not_mem _ (show b ∉ ({v0'} : Finset (DevRef τ sig)) by simpa using h0)]
  rfl

theorem fw_eq (d : Dev nD) : fw m d = (extui 32 (m (d, arg2') : S4x16.Idx → BitVec 1) Facts₀.natLt_1_32 : S4x16.Idx → BitVec 32) := by
  unfold fw V6
  rw [(o5 (F := F)).result_of_not_mem _ (show v0' ∉ ({v4'} : Finset (DevRef τ sig)) by decide),
    (o4 (F := F)).result_of_not_mem _ (show v0' ∉ ({v3'} : Finset (DevRef τ sig)) by decide),
    (o3 (F := F)).result_of_not_mem _ (show v0' ∉ ({v2'} : Finset (DevRef τ sig)) by decide),
    (o2 (F := F)).result_of_not_mem _ (show v0' ∉ ({cst'} : Finset (DevRef τ sig)) by decide),
    (o1 (F := F)).result_of_not_mem _ (show v0' ∉ ({v1'} : Finset (DevRef τ sig)) by decide)]
  exact StableHlo.unary_result _ _ _ _ _ _

theorem ext_flag : ∀ x : BitVec 1, BitVec.setWidth 32 x = 0#32 ∨ BitVec.setWidth 32 x = 1#32 := by decide

theorem flags (d : Dev nD) (b : Fin 4) : Proof.Sc.Flags (Sc.rowW (fw m d) b) := fun r => by
  rw [fw_eq]
  exact ext_flag _

/-! ## What the SparseCore call carries -/

/-- The grid's coordinates of a core. -/
def coordsS (c : Fin (grid1.bound 0)) : grid1.Coords := fun | 0 => c | ⟨_ + 1, h⟩ => absurd h (Nat.not_lt.2 (Nat.le_add_left _ _))

/-- The keys the call leaves. -/
abbrev keyRows (d : Dev nD) : Buf (Elt F) (Sc.oLoc d) := Sc.scOut (fk m d) (fw m d) (fz m d)

/-- A core of the call. -/
abbrev coreS (c : Fin ((K (F := F)).nCore 0)) : grid1.Coords := coordsS ⟨((K (F := F)).core 0 c).val, c.isLt⟩

/-- Call 0 lends each core the rows and the flags to read, and its batches' part of the result to write. -/
def lent (d : Dev nD) (c : Fin ((K (F := F)).nCore 0)) : sProp (MM F) :=
  iprop(Sc.Reads d (fk m d) (fz m d) ∗ (∃ q, Sc.wLoc d ↦{q} fw m d) ∗ (Sc.oLoc d ↦[Sc.rest (coreS c) 0]{fullShare} (V6 m d v6' : Buf (Elt F) (Sc.oLoc d))))
/-- It gets back the part written. -/
def back (d : Dev nD) (c : Fin ((K (F := F)).nCore 0)) : sProp (MM F) :=
  iprop(Sc.oLoc d ↦[Sc.rest (coreS c) 0]{fullShare} keyRows m d)

instance (d : Dev nD) (c : Fin ((K (F := F)).nCore 0)) : BI.Storable (upEmb : UEmb _ (MM F)) (lent m d c) := by
  unfold lent Sc.Reads; infer_instance
instance (d : Dev nD) (c : Fin ((K (F := F)).nCore 0)) : BI.Storable (upEmb : UEmb _ (MM F)) (back m d c) := by
  unfold back; infer_instance

/-- What the handshakes carry. -/
def P : (K (F := F)).Pay (nD := nD) (Val := Elt F) (Name := ℕ) (U := UU) where
  st := fun q => match q with | 0 => lent m
  dn := fun q => match q with | 0 => back m
  go := fun _ _ _ _ => iprop(emp)
  td := fun _ _ _ _ => iprop(emp)
  x := fun _ _ => iprop(emp)

instance P_storable : (P (F := F) m).IsStorable where
  st q d c := match q, c with | 0, c => (inferInstance : BI.Storable (upEmb : UEmb _ (MM F)) (lent m d c))
  dn q d c := match q, c with | 0, c => (inferInstance : BI.Storable (upEmb : UEmb _ (MM F)) (back m d c))
  go _ _ _ _ := (inferInstance : BI.Storable (upEmb : UEmb _ (MM F)) (iprop(emp) : sProp (MM F)))
  td _ _ _ _ := (inferInstance : BI.Storable (upEmb : UEmb _ (MM F)) (iprop(emp) : sProp (MM F)))

theorem defs₀_scalar (c : Fin τ.nSC) :
    defs₀ (F := F) (.scScalar c) 1 ()
      = SparseCore.onCore Facts₀.hcore1 (fun c => cc1_body (coordsS c) Sc.kM (Memref.isWhole_whole _) Sc.wM (Memref.isWhole_whole _) Sc.zM (Memref.isWhole_whole _)
          Sc.oM (Memref.isWhole_whole _) Sc.sM (Memref.isWhole_whole _) cc1_scratch1 cc1_scoped0) ⟨⟩ c := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem pre_emp {A B C D : sProp (MM F)} : iprop(A ∗ emp ∗ B ∗ C ∗ D) ⊢ iprop(A ∗ B ∗ C ∗ D) := by
  iintro ⟨HA, -, HB, HC, HD⟩
  isplitl [HA]; · iexact HA
  isplitl [HB]; · iexact HB
  isplitl [HC]; · iexact HC
  iexact HD

theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_scalar]; simp only [SparseCore.onCore, hc, ↓reduceDIte]
  rw [Proof.ScEq.cc1_body_eq]
  show iprop(_ ∗ emp ∗ lent m d c ∗ _ ∗ _ ∗ _) ⊢ _
  refine BI.Entails.trans ?_ ((Sc.body_run d (coreS c) (fk := fk m d) (fz := fz m d) (fw := fw m d) (fo := V6 m d v6') (O := O) (W := W) hO (flags m d)).trans (wp_mono frame _ _ fun _ => obl_post))
  unfold lent
  exact pre_emp

end Proof.La
-- ==== Proof.Ghost.lean ====
module

public import proofs.«01_k».proof.Proof.Launch

/-!
# The launch state, and the region in @main
-/

@[expose] public section

noncomputable section

namespace Proof.La

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx
open Proof.Co
open Cert.KernelIdeal.Facts

variable {F : FTy → Type} [FloatOps F]

variable (m : (ℓ : Loc nD τ sig) → Buf (Elt F) ℓ)

/-! ## The launch's ghost state -/

/-- The region's rounds for a device. -/
def regGhost (d : Dev nD) : sProp (MM F) :=
  iprop(Pipeline.cellsGhost (Pipeline.pin (pcfgs (F := F)) Re.adm) EP 0 d ∗ Pipeline.toksInit (Pipeline.pin (pcfgs (F := F)) Re.adm) EP 0 d)

/-- What the launch is made of. -/
def u₀ : UU := (initOf (K (F := F)).hsCells (K (F := F)).hsToks,
  (initOf (Pipeline.cells (Pipeline.pin (pcfgs (F := F)) Re.adm) cellOf_inj) (Pipeline.launchToks (Pipeline.pin (pcfgs (F := F)) Re.adm) cellOf_inj), 1))

omit [FloatOps F] in
theorem ownU_split (a : UH) (b : UP) : (ownU (a, (b, 1)) : sProp (MM F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem px_emp : (bigSep Finset.univ fun thr : Thread nD τ => bigSep Finset.univ fun q : Fin 1 => (P (F := F) m).x q thr) = (iprop(emp) : sProp (MM F)) := by
  show (bigSep Finset.univ fun _ : Thread nD τ => bigSep Finset.univ fun _ : Fin 1 => (iprop(emp) : sProp (MM F))) = _
  rw [show (fun _ : Thread nD τ => bigSep Finset.univ fun _ : Fin 1 => (iprop(emp) : sProp (MM F))) = fun _ => iprop(emp) from
    funext fun _ => bigSep_emp_const _]
  exact bigSep_emp_const _

theorem ghost_c : (bigSep Finset.univ fun c : Dev nD => bigSep Finset.univ fun p : Fin 1 => (Pipeline.cellsGhost (Pipeline.pin (pcfgs (F := F)) Re.adm) EP p c : sProp (MM F)))
    ⊢ bigSep Finset.univ fun c : Dev nD => (Pipeline.cellsGhost (Pipeline.pin (pcfgs (F := F)) Re.adm) EP 0 c : sProp (MM F)) :=
  Entails.of_eq (congrArg _ (funext fun c => bigSep_univ_of_subsingleton (0 : Fin 1)))

theorem ghost_t : (bigSep Finset.univ fun c : Dev nD => bigSep Finset.univ fun p : Fin 1 => (Pipeline.toksInit (Pipeline.pin (pcfgs (F := F)) Re.adm) EP p c : sProp (MM F)))
    ⊢ bigSep Finset.univ fun c : Dev nD => (Pipeline.toksInit (Pipeline.pin (pcfgs (F := F)) Re.adm) EP 0 c : sProp (MM F)) :=
  Entails.of_eq (congrArg _ (funext fun c => bigSep_univ_of_subsingleton (0 : Fin 1)))

theorem hu₀ : (ownU (u₀ (F := F)) : sProp (MM F))
    ⊢ |={Set.univ}=> iprop(BI.own (EH (initOf (K (F := F)).hsCells (K (F := F)).hsToks)) ∗ (bigSep Finset.univ fun d : Dev nD => regGhost d)
        ∗ bigSep Finset.univ fun thr : Thread nD τ => bigSep Finset.univ fun q : Fin 1 => (P m).x q thr) := by
  unfold u₀
  rw [px_emp]
  iintro Hu
  ihave H := (ownU_split _ _) $$ Hu
  icases H with ⟨HH, HP⟩
  imod (Pipeline.fund_ghost (Pipeline.pin (pcfgs (F := F)) Re.adm) EP cellOf_inj) $$ HP with ⟨Hc, Ht⟩
  imodintro
  isplitl [HH]; · iexact HH
  isplitl
  · unfold regGhost
    rw [show (bigSep Finset.univ fun d : Dev nD => iprop(Pipeline.cellsGhost (Pipeline.pin (pcfgs (F := F)) Re.adm) EP 0 d ∗ Pipeline.toksInit (Pipeline.pin (pcfgs (F := F)) Re.adm) EP 0 d))
      = iprop((bigSep Finset.univ fun d : Dev nD => Pipeline.cellsGhost (Pipeline.pin (pcfgs (F := F)) Re.adm) EP 0 d) ∗ (bigSep Finset.univ fun d : Dev nD => Pipeline.toksInit (Pipeline.pin (pcfgs (F := F)) Re.adm) EP 0 d)) from BI.bigSep_sep _ _ _]
    isplitl [Hc]
    · iapply (ghost_c (F := F)); iexact Hc
    · iapply (ghost_t (F := F)); iexact Ht
  iempintro

/-! ## The region in @main -/

abbrev g1 (d : Dev nD) : Buf (Elt F) (Re.a1 d) := V6 m d v5_1'
abbrev g2 (d : Dev nD) : Buf (Elt F) (Re.a2 d) := V6 m d v5_2'
abbrev f5 (d : Dev nD) : Buf (Elt F) (Tc.l2 d) := V6 m d v5_0'

set_option backward.isDefEq.respectTransparency.types false in
theorem reg_wp (d : Dev nD) (Q : PUnit → sProp (MM F)) :
    iprop((iprop(boundary (T d) ∗ Re.End (fw m) (f4 m) d) -∗ wp Idealize.ShloMosaic.frame (wpE (D (F := F)) 𝒱 (T d) none) Set.univ (.ret ⟨⟩) Q)
        ∗ boundary (T d) ∗ Re.Pre (fw m) (f4 m) (f5 m) (g1 m) (g2 m) d ∗ Re.lvs ∗ regGhost d)
      ⊢ wp Idealize.ShloMosaic.frame (wpE (D (F := F)) 𝒱 (T d) none) Set.univ (.op (.customCall (Pipeline.entry 0) ()) fun _ => .ret ⟨⟩) Q := by
  unfold regGhost
  exact Pipeline.RegionSeg.wp (pcfgs (F := F)) Re.adm (Re.dats (fw m) (f4 m) (f5 m) (g1 m) (g2 m)) none cellOf_inj EP defs₀ 𝒱₀ (K (F := F)).L (K (F := F)).lev
    (Re.reg (fw m) (f4 m) (f5 m) (g1 m) (g2 m)) d none (fun _ h => nomatch h) (fun _ => .ret ⟨⟩) Q

/-- The call alone. -/
abbrev callP : Prog (TpuEff nD τ sig (Elt F) (ΛP (F := F)) .tc) PUnit := .op (.customCall (Pipeline.entry 0) ()) fun _ => .ret ⟨⟩

theorem wp_region (d : Dev nD) (Q : PUnit → sProp (MM F)) :
    iprop(boundary (T d) ∗ Re.Pre (fw m) (f4 m) (f5 m) (g1 m) (g2 m) d ∗ Re.lvs ∗ regGhost d)
      ⊢ iprop((iprop(boundary (T d) ∗ Re.End (fw m) (f4 m) d) -∗ Q ⟨⟩)
        -∗ wp Idealize.ShloMosaic.frame (wpE ((K (F := F)).defs (D (F := F))) 𝒱 (T d) none) Set.univ (Prog.lift (.customCall (SparseCore.inner (Pipeline.entry 0)) ())) Q) := by
  have e2 := (K (F := F)).wp_liftProg (D (F := F)) 𝒱 (T d) (Name := ℕ) (U := UU) Set.univ none (callP (F := F)) Q
  have e := (reg_wp m d Q).trans e2
  iintro ⟨Hb, Hp, Hl, Hc⟩ Hk
  iapply e
  isplitl [Hk]
  · iintro H
    rw [wp_ret]; imodintro
    iapply Hk
    iexact H
  isplitl [Hb]; · iexact Hb
  isplitl [Hp]; · iexact Hp
  isplitl [Hl]; · iexact Hl
  iexact Hc

end Proof.La
-- ==== Proof.Walk.lean ====
module

public import proofs.«01_k».proof.Proof.Ghost

/-!
# The walk of @main
-/

@[expose] public section

noncomputable section

namespace Proof.La

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx
open Proof.Co
open Cert.KernelIdeal.Facts

variable {F : FTy → Type} [FloatOps F]

variable (m : (ℓ : Loc nD τ sig) → Buf (Elt F) ℓ) (ρ : Dev nD → PrngReg)

/-! ## The arrays held -/

/-- Every array of the TensorCore that is no scratch. -/
abbrev U : Finset (DevRef τ sig) := (StableHlo.tcRefs τ sig).filter fun b => ¬ b.isScoped

/-- The calls' arrays. -/
abbrev A1 : Finset (DevRef τ sig) := {v0', v1', v2', v4', v5_0', v5_1', v5_2', v6'}
/-- The arguments. -/
abbrev A2 : Finset (DevRef τ sig) := {arg0', arg1', arg2', arg3', arg4', arg5', arg6'}
/-- What the operations after the calls write. -/
abbrev A3 : Finset (DevRef τ sig) := {v7', v8', v9', c', v10', v11', v12'}
/-- What the operations after the calls touch. -/
abbrev A4 : Finset (DevRef τ sig) := {v5_0', v5_1', v6', v7', v8', v9', c', v10', v11', v12'}

theorem unscoped_held (d : Dev nD) : (unscopedBufs d (fun b => m ((SparseCore.T d).loc b)) : sProp (MM F)) = held (T d) U (V0 m d) := by
  unfold unscopedBufs StableHlo.held U StableHlo.tcRefs
  rw [Finset.filter_map, bigSep_map]; rfl

theorem h1 : A1 ⊆ U := by decide
theorem h2 : A2 ⊆ U \ A1 := by decide
theorem h3 : A3 ⊆ (U \ A1) \ A2 := by decide

/-- The arrays after the calls. -/
def V8 (d : Dev nD) : Valuation τ sig (Elt F) :=
  Function.update (Function.update (Function.update (V6 m d) v5_0' (Tc.valOut (f4 m d) (fw m d))) v5_1' (Tc.bitOut (fw m d))) v6' (keyRows m d)
/-- The arrays at the end. -/
def V15 (d : Dev nD) : Valuation τ sig (Elt F) :=
  (p6 (F := F)).result (p5.result (p4.result (p3.result (p2.result (p1.result (p0.result (V8 m d)))))))

theorem held_A1 (d : Dev nD) (W : Valuation τ sig (Elt F)) :
    (held (T d) A1 W : sProp (MM F)) = iprop((Re.a0 d ↦{fullShare} W v0') ∗ (Sc.kLoc d ↦{fullShare} W v1') ∗ (Sc.zLoc d ↦{fullShare} W v2') ∗ (Tc.l1 d ↦{fullShare} W v4')
      ∗ (Tc.l2 d ↦{fullShare} W v5_0') ∗ (Re.a1 d ↦{fullShare} W v5_1') ∗ (Re.a2 d ↦{fullShare} W v5_2') ∗ (Sc.oLoc d ↦{fullShare} W v6')) := by
  unfold held A1
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem held_A2 (d : Dev nD) (W : Valuation τ sig (Elt F)) :
    (held (T d) A2 W : sProp (MM F)) = iprop(((SparseCore.T d).loc main_arg0 ↦{fullShare} W arg0') ∗ ((SparseCore.T d).loc main_arg1 ↦{fullShare} W arg1') ∗ ((SparseCore.T d).loc main_arg2 ↦{fullShare} W arg2')
      ∗ ((SparseCore.T d).loc main_arg3 ↦{fullShare} W arg3') ∗ ((SparseCore.T d).loc main_arg4 ↦{fullShare} W arg4') ∗ ((SparseCore.T d).loc main_arg5 ↦{fullShare} W arg5') ∗ ((SparseCore.T d).loc main_arg6 ↦{fullShare} W arg6')) := by
  unfold held A2
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem held_A3 (d : Dev nD) (W : Valuation τ sig (Elt F)) :
    (held (T d) A4 W : sProp (MM F)) = iprop((Tc.l2 d ↦{fullShare} W v5_0') ∗ (Re.a1 d ↦{fullShare} W v5_1') ∗ (Sc.oLoc d ↦{fullShare} W v6') ∗ held (T d) A3 W) := by
  unfold held A4
  rw [SparseCore.bigSep_insert' (by decide), SparseCore.bigSep_insert' (by decide), SparseCore.bigSep_insert' (by decide)]

theorem held_A4 (d : Dev nD) (W : Valuation τ sig (Elt F)) :
    (held (T d) A3 W : sProp (MM F)) = iprop(((SparseCore.T d).loc main_v7 ↦{fullShare} W v7') ∗ ((SparseCore.T d).loc main_v8 ↦{fullShare} W v8') ∗ ((SparseCore.T d).loc main_v9 ↦{fullShare} W v9')
      ∗ ((SparseCore.T d).loc main_c ↦{fullShare} W c') ∗ ((SparseCore.T d).loc main_v10 ↦{fullShare} W v10') ∗ ((SparseCore.T d).loc main_v11 ↦{fullShare} W v11') ∗ ((SparseCore.T d).loc main_v12 ↦{fullShare} W v12')) := by
  unfold held A3
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem V8_A3 (d : Dev nD) : ∀ b ∈ A3, V8 m d b = V6 m d b := fun b hb => by
  unfold V8
  rw [Function.update_of_ne (by rintro rfl; revert hb; decide), Function.update_of_ne (by rintro rfl; revert hb; decide), Function.update_of_ne (by rintro rfl; revert hb; decide)]

/-! ## The SparseCore call's payloads -/

theorem halves {ℓ : Loc nD τ sig} (f : Buf (Elt F) ℓ) : (ℓ ↦{fullShare} f : sProp (MM F)) ⊢ bigSep (Finset.univ : Finset (Fin 2)) fun _ => iprop(∃ q, ℓ ↦{q} f) := by
  refine BIBase.Entails.trans ?_ (Entails.of_eq (show iprop((∃ q, ℓ ↦{q} f) ∗ (∃ q, ℓ ↦{q} f)) = _ from (BI.bigSep_fin_two fun _ => iprop(∃ q, ℓ ↦{q} f)).symm))
  iintro H
  ihave H' := (pointsTo_share (PosShare.mem_left_op_right fullShare)).1 $$ H
  icases H' with ⟨HL, HR⟩
  isplitl [HL]
  · iexists _; iexact HL
  · iexists _; iexact HR

theorem rest_cover : (Finset.univ : Finset (Fin ((K (F := F)).nCore 0))).biUnion (fun c => Sc.rest (coreS c) 0) = Finset.univ := by
  ext y
  simp only [Finset.mem_biUnion, Finset.mem_univ, true_and, iff_true, Sc.rest, Finset.mem_filter]
  have h : (y 0).val < 4 := (y 0).isLt
  exact ⟨(⟨(y 0).val / 2, by omega⟩ : Fin 2), rfl, Nat.zero_le _⟩

theorem rest_disj (c c' : Fin ((K (F := F)).nCore 0)) (h : c ≠ c') : Disjoint (Sc.rest (coreS (F := F) c) 0) (Sc.rest (coreS (F := F) c') 0) := by
  rw [Finset.disjoint_left]
  intro y hy hy'
  simp only [Sc.rest, Finset.mem_filter, Finset.mem_univ, true_and] at hy hy'
  exact h (Fin.ext (hy.1.symm.trans hy'.1))

theorem parts (d : Dev nD) (f : Buf (Elt F) (Sc.oLoc d)) : (Sc.oLoc d ↦{fullShare} f : sProp (MM F))
    = bigSep (Finset.univ : Finset (Fin ((K (F := F)).nCore 0))) fun c => Sc.oLoc d ↦[Sc.rest (coreS c) 0]{fullShare} f := by
  rw [← pointsTo_biUnion _ _ fun a _ b _ h => rest_disj a b h, rest_cover]

theorem deal {ι : Type} [DecidableEq ι] (s : Finset ι) (A B C E : ι → sProp (MM F)) : (bigSep s fun c => iprop((A c ∗ B c) ∗ C c ∗ E c))
    = iprop((bigSep s A ∗ bigSep s B) ∗ bigSep s C ∗ bigSep s E) :=
  (BI.bigSep_sep s (fun c => iprop(A c ∗ B c)) fun c => iprop(C c ∗ E c)).trans (congrArg₂ BI.sep (BI.bigSep_sep _ _ _) (BI.bigSep_sep _ _ _))

theorem st_intro (d : Dev nD) : iprop((Sc.kLoc d ↦{fullShare} fk m d) ∗ (Sc.zLoc d ↦{fullShare} fz m d) ∗ (Sc.wLoc d ↦{fullShare} fw m d) ∗ (Sc.oLoc d ↦{fullShare} (V6 m d v6' : Buf (Elt F) (Sc.oLoc d))))
    ⊢ bigSep Finset.univ fun c : Fin ((K (F := F)).nCore 0) => (P m).st 0 d c := by
  rw [parts]
  show _ ⊢ bigSep Finset.univ fun c : Fin ((K (F := F)).nCore 0) => lent m d c
  unfold lent Sc.Reads
  refine BIBase.Entails.trans ?_ (Entails.of_eq (deal _ _ _ _ _).symm)
  iintro ⟨Hk, Hz, Hw, Ho⟩
  isplitl [Hk Hz]
  · isplitl [Hk]
    · iapply (halves (F := F)); iexact Hk
    · iapply (halves (F := F)); iexact Hz
  isplitl [Hw]
  · iapply (halves (F := F)); iexact Hw
  iexact Ho

theorem dn_elim (d : Dev nD) : (bigSep Finset.univ fun c : Fin ((K (F := F)).nCore 0) => (P m).dn 0 d c) ⊢ (Sc.oLoc d ↦{fullShare} keyRows m d : sProp (MM F)) := by
  rw [parts]
  exact .rfl

/-! ## What the TensorCore owes, opened and closed -/

/-- The rest of the TensorCore's state before the call. -/
def Idle (d : Dev nD) : sProp (MM F) :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) : (K (F := F)).tcSt EH d 0 = iprop(Re.Own0 d ∗ Idle (F := F) d) := rfl

end Proof.La
-- ==== Proof.Main.lean ====
module

public import proofs.«01_k».proof.Proof.Walk

/-!
# The run of @main
-/

@[expose] public section

noncomputable section

namespace Proof.La

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx
open Proof.Co
open Cert.KernelIdeal.Facts

variable {F : FTy → Type} [FloatOps F]

variable (m : (ℓ : Loc nD τ sig) → Buf (Elt F) ℓ) (ρ : Dev nD → PrngReg)

theorem bo0 : (o0 (F := F)).bufs ⊆ U := show ({arg2', v0'} : Finset (DevRef τ sig)) ⊆ U by decide
theorem bo1 : (o1 (F := F)).bufs ⊆ U := show ({arg0', v1'} : Finset (DevRef τ sig)) ⊆ U by decide
theorem bo2 : (o2 (F := F)).bufs ⊆ U := show ({cst'} : Finset (DevRef τ sig)) ⊆ U by decide
theorem bo3 : (o3 (F := F)).bufs ⊆ U := show ({cst', v2'} : Finset (DevRef τ sig)) ⊆ U by decide
theorem bo4 : (o4 (F := F)).bufs ⊆ U := show ({arg1', v3'} : Finset (DevRef τ sig)) ⊆ U by decide
theorem bo5 : (o5 (F := F)).bufs ⊆ U := show ({v3', v4'} : Finset (DevRef τ sig)) ⊆ U by decide
theorem bp0 : (p0 (F := F)).bufs ⊆ A4 := show ({v5_0', v7'} : Finset (DevRef τ sig)) ⊆ A4 by decide
theorem bp1 : (p1 (F := F)).bufs ⊆ A4 := show ({v7', v8'} : Finset (DevRef τ sig)) ⊆ A4 by decide
theorem bp2 : (p2 (F := F)).bufs ⊆ A4 := show ({v6', v9'} : Finset (DevRef τ sig)) ⊆ A4 by decide
theorem bp3 : (p3 (F := F)).bufs ⊆ A4 := show ({c'} : Finset (DevRef τ sig)) ⊆ A4 by decide
theorem bp4 : (p4 (F := F)).bufs ⊆ A4 := show ({c', v10'} : Finset (DevRef τ sig)) ⊆ A4 by decide
theorem bp5 : (p5 (F := F)).bufs ⊆ A4 := show ({v5_1', v10', v11'} : Finset (DevRef τ sig)) ⊆ A4 by decide
theorem bp6 : (p6 (F := F)).bufs ⊆ A4 := show ({v11', v12'} : Finset (DevRef τ sig)) ⊆ A4 by decide

/-- The arguments at the end. -/
abbrev Args (d : Dev nD) : sProp (MM F) :=
  iprop(((SparseCore.T d).loc main_arg0 ↦{fullShare} m ((SparseCore.T d).loc main_arg0))
      ∗ ((SparseCore.T d).loc main_arg1 ↦{fullShare} m ((SparseCore.T d).loc main_arg1))
      ∗ ((SparseCore.T d).loc main_arg2 ↦{fullShare} m ((SparseCore.T d).loc main_arg2))
      ∗ ((SparseCore.T d).loc main_arg3 ↦{fullShare} m ((SparseCore.T d).loc main_arg3))
      ∗ ((SparseCore.T d).loc main_arg4 ↦{fullShare} m ((SparseCore.T d).loc main_arg4))
      ∗ ((SparseCore.T d).loc main_arg5 ↦{fullShare} m ((SparseCore.T d).loc main_arg5))
      ∗ ((SparseCore.T d).loc main_arg6 ↦{fullShare} m ((SparseCore.T d).loc main_arg6)))

/-- What @main leaves the claims. -/
abbrev FIN (d : Dev nD) : sProp (MM F) :=
  iprop(((SparseCore.T d).loc main_v9 ↦{fullShare} V15 m d v9') ∗ ((SparseCore.T d).loc main_v8 ↦{fullShare} V15 m d v8') ∗ ((SparseCore.T d).loc main_v12 ↦{fullShare} V15 m d v12')
    ∗ (Re.a2 d ↦{fullShare} (Tc.cntOut (fw m d) : Buf (Elt F) (Re.a2 d))) ∗ Args m d)

theorem args_eq (d : Dev nD) : (held (T d) A2 (V6 m d) : sProp (MM F)) = Args m d := by
  rw [held_A2, V6_not m d (b := arg0') (by decide), V6_not m d (b := arg1') (by decide), V6_not m d (b := arg2') (by decide), V6_not m d (b := arg3') (by decide),
    V6_not m d (b := arg4') (by decide), V6_not m d (b := arg5') (by decide), V6_not m d (b := arg6') (by decide)]

theorem V8_v6 (d : Dev nD) : V8 m d v6' = keyRows m d := Function.update_self _ _ _
theorem V8_v5_1 (d : Dev nD) : V8 m d v5_1' = Tc.bitOut (fw m d) := (Function.update_of_ne (by decide) _ _).trans (Function.update_self _ _ _)
theorem V8_v5_0 (d : Dev nD) : V8 m d v5_0' = Tc.valOut (f4 m d) (fw m d) :=
  (Function.update_of_ne (by decide) _ _).trans ((Function.update_of_ne (by decide) _ _).trans (Function.update_self _ _ _))

theorem tail_intro (d : Dev nD) : iprop((Tc.l2 d ↦{fullShare} (Tc.valOut (f4 m d) (fw m d) : Buf (Elt F) (Tc.l2 d))) ∗ (Re.a1 d ↦{fullShare} (Tc.bitOut (fw m d) : Buf (Elt F) (Re.a1 d)))
      ∗ (Sc.oLoc d ↦{fullShare} keyRows m d) ∗ held (T d) A3 (V6 m d)) ⊢ (held (T d) A4 (V8 m d) : sProp (MM F)) := by
  rw [held_A3, StableHlo.held_congr (T d) (V8_A3 m d), V8_v6, V8_v5_1, V8_v5_0]

theorem pick3 {A B C D E G H I J M : sProp (MM F)} : iprop(A ∗ B ∗ C ∗ D ∗ E ∗ G ∗ H ∗ I ∗ J ∗ M) ⊢ iprop(G ∗ E ∗ M) := by
  iintro ⟨-, -, -, -, H8, H9, -, -, -, H12⟩
  isplitl [H9]; · iexact H9
  isplitl [H8]; · iexact H8
  iexact H12

theorem end_elim (d : Dev nD) (W : Valuation τ sig (Elt F)) : (held (T d) A4 W : sProp (MM F)) ⊢ iprop(((SparseCore.T d).loc main_v9 ↦{fullShare} W v9') ∗ ((SparseCore.T d).loc main_v8 ↦{fullShare} W v8')
      ∗ ((SparseCore.T d).loc main_v12 ↦{fullShare} W v12')) :=
  (Entails.of_eq ((held_A3 d W).trans (by rw [held_A4]))).trans pick3

theorem to_V6 (d : Dev nD) : (held (T d) U ((o5 (F := F)).result (o4.result (o3.result (o2.result (o1.result (o0.result (V0 m d))))))) : sProp (MM F))
    ⊢ held (T d) U (V6 m d) := Entails.of_eq rfl

theorem to_V15 (d : Dev nD) : (held (T d) A4 ((p6 (F := F)).result (p5.result (p4.result (p3.result (p2.result (p1.result (p0.result (V8 m d)))))))) : sProp (MM F))
    ⊢ held (T d) A4 (V15 m d) := Entails.of_eq rfl

theorem split_U (d : Dev nD) : (held (T d) U (V6 m d) : sProp (MM F)) ⊢ iprop(held (T d) A1 (V6 m d) ∗ held (T d) A2 (V6 m d) ∗ held (T d) A3 (V6 m d)) := by
  rw [StableHlo.held_sub_split (T d) h1, StableHlo.held_sub_split (T d) h2, StableHlo.held_sub_split (T d) h3]
  iintro ⟨H1, H2, H3, -⟩
  isplitl [H1]; · iexact H1
  isplitl [H2]; · iexact H2
  iexact H3

/-- @main on a device's TensorCore. -/
theorem hmain (κ : GSem nD τ sig → ℕ) (d : Dev nD) :
    iprop((K (F := F)).ctx EH (P m) κ ∗ (K (F := F)).tcSt EH d 0 ∗ (K (F := F)).tcRes m ρ d ∗ regGhost d)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := o0) (S := U) bo0 (V := V0 m d)) $$ [Hb Hheld]
  · isplitl [Hb] <;> iassumption
  iintro ⟨Hb, Hheld⟩
  rw [wp_ret]; imodintro
  iapply (wp_hlo_within 𝒱 (SparseCore.T d) none Set.univ (op := o1) (S := U) bo1 (V := (o0 (F := F)).result (V0 m d))) $$ [Hb Hheld]
  · isplitl [Hb] <;> iassumption
  iintro ⟨Hb, Hheld⟩
  rw [wp_ret]; imodintro
  iapply (wp_hlo_within 𝒱 (SparseCore.T d) none Set.univ (op := o2) (S := U) bo2 (V := (o1 (F := F)).result ((o0 (F := F)).result (V0 m d)))) $$ [Hb Hheld]
  · isplitl [Hb] <;> iassumption
  iintro ⟨Hb, Hheld⟩
  rw [wp_ret]; imodintro
  iapply (wp_hlo_within 𝒱 (SparseCore.T d) none Set.univ (op := o3) (S := U) bo3 (V := (o2 (F := F)).result ((o1 (F := F)).result ((o0 (F := F)).result (V0 m d))))) $$ [Hb Hheld]
  · isplitl [Hb] <;> iassumption
  iintro ⟨Hb, Hheld⟩
  rw [wp_ret]; imodintro
  iapply (wp_hlo_within 𝒱 (SparseCore.T d) none Set.univ (op := o4) (S := U) bo4 (V := (o3 (F := F)).result ((o2 (F := F)).result ((o1 (F := F)).result ((o0 (F := F)).result (V0 m d)))))) $$ [Hb Hheld]
  · isplitl [Hb] <;> iassumption
  iintro ⟨Hb, Hheld⟩
  rw [wp_ret]; imodintro
  iapply (wp_hlo_within 𝒱 (SparseCore.T d) none Set.univ (op := o5) (S := U) bo5 (V := (o4 (F := F)).result ((o3 (F := F)).result ((o2 (F := F)).result ((o1 (F := F)).result ((o0 (F := F)).result (V0 m d))))))) $$ [Hb Hheld]
  · isplitl [Hb] <;> iassumption
  iintro ⟨Hb, Hheld⟩
  rw [wp_ret]; imodintro
  ihave Hheld := (to_V6 m d) $$ Hheld
  ihave Hh := (split_U m d) $$ Hheld
  icases Hh with ⟨H1, H2, H3⟩
  ihave H1' := (Entails.of_eq (held_A1 d (V6 m d))) $$ H1
  icases H1' with ⟨Hw, Hk, Hz, Hv, Ho, Hbit, Hcnt, Hkey⟩
  ihave Hst' := (Entails.of_eq (tcSt_eq (F := F) d)) $$ Hst
  icases Hst' with ⟨HO, Hidle⟩
  iapply (wp_region m d _) $$ [Hb Hw Hv Ho Hbit Hcnt HO HG]
  · isplitl [Hb]; · iexact Hb
    isplitl [Hw Hv Ho Hbit Hcnt HO]
    · isplitl [Hw]; · iexact Hw
      isplitl [Hbit]; · iexact Hbit
      isplitl [Hcnt]; · iexact Hcnt
      isplitl [Hv]; · iexact Hv
      isplitl [Ho]; · iexact Ho
      iexact HO
    isplitr
    · iapply ((K (F := F)).ctx_levAts κ); iexact Hctx
    iexact HG
  iintro ⟨Hb, ⟨Hw, Hbit, Hcnt, Ho, HO⟩⟩
  ihave Hst := (Entails.of_eq (tcSt_eq (F := F) d).symm) $$ [HO Hidle]
  · isplitl [HO] <;> iassumption
  iapply ((K (F := F)).wp_run (D (F := F)) 𝒱 (EH := EH) (P := P m) κ d 0) $$ [Hst Hk Hz Hw Hkey Hb Hbit Hcnt Ho H2 H3 Hts]
  isplitr; · iexact Hctx
  isplitl [Hst]; · iexact Hst
  isplitl [Hk Hz Hw Hkey]
  · iapply (st_intro m d)
    isplitl [Hk]; · iexact Hk
    isplitl [Hz]; · iexact Hz
    isplitl [Hw]; · iexact Hw
    iexact Hkey
  iintro ⟨Hst, Hdn⟩
  ihave Hkey := (dn_elim m d) $$ Hdn
  ihave Hheld := (tail_intro m d) $$ [Ho Hbit Hkey H3]
  · isplitl [Ho]; · iexact Ho
    isplitl [Hbit]; · iexact Hbit
    isplitl [Hkey]; · iexact Hkey
    iexact H3
  iapply (wp_hlo_within 𝒱 (SparseCore.T d) none Set.univ (op := p0) (S := A4) bp0 (V := V8 m d)) $$ [Hb Hheld]
  · isplitl [Hb] <;> iassumption
  iintro ⟨Hb, Hheld⟩
  rw [wp_ret]; imodintro
  iapply (wp_hlo_within 𝒱 (SparseCore.T d) none Set.univ (op := p1) (S := A4) bp1 (V := (p0 (F := F)).result (V8 m d))) $$ [Hb Hheld]
  · isplitl [Hb] <;> iassumption
  iintro ⟨Hb, Hheld⟩
  rw [wp_ret]; imodintro
  iapply (wp_hlo_within 𝒱 (SparseCore.T d) none Set.univ (op := p2) (S := A4) bp2 (V := (p1 (F := F)).result ((p0 (F := F)).result (V8 m d)))) $$ [Hb Hheld]
  · isplitl [Hb] <;> iassumption
  iintro ⟨Hb, Hheld⟩
  rw [wp_ret]; imodintro
  iapply (wp_hlo_within 𝒱 (SparseCore.T d) none Set.univ (op := p3) (S := A4) bp3 (V := (p2 (F := F)).result ((p1 (F := F)).result ((p0 (F := F)).result (V8 m d))))) $$ [Hb Hheld]
  · isplitl [Hb] <;> iassumption
  iintro ⟨Hb, Hheld⟩
  rw [wp_ret]; imodintro
  iapply (wp_hlo_within 𝒱 (SparseCore.T d) none Set.univ (op := p4) (S := A4) bp4 (V := (p3 (F := F)).result ((p2 (F := F)).result ((p1 (F := F)).result ((p0 (F := F)).result (V8 m d)))))) $$ [Hb Hheld]
  · isplitl [Hb] <;> iassumption
  iintro ⟨Hb, Hheld⟩
  rw [wp_ret]; imodintro
  iapply (wp_hlo_within 𝒱 (SparseCore.T d) none Set.univ (op := p5) (S := A4) bp5 (V := (p4 (F := F)).result ((p3 (F := F)).result ((p2 (F := F)).result ((p1 (F := F)).result ((p0 (F := F)).result (V8 m d))))))) $$ [Hb Hheld]
  · isplitl [Hb] <;> iassumption
  iintro ⟨Hb, Hheld⟩
  rw [wp_ret]; imodintro
  iapply (wp_hlo_within 𝒱 (SparseCore.T d) none Set.univ (op := p6) (S := A4) bp6 (V := (p5 (F := F)).result ((p4 (F := F)).result ((p3 (F := F)).result ((p2 (F := F)).result ((p1 (F := F)).result ((p0 (F := F)).result (V8 m d)))))))) $$ [Hb Hheld]
  · isplitl [Hb] <;> iassumption
  iintro ⟨Hb, Hheld⟩
  rw [wp_ret]; imodintro
  imodintro
  ihave Hheld := (to_V15 m d) $$ Hheld
  ihave He := (end_elim d (V15 m d)) $$ Hheld
  icases He with ⟨H9, H8, H12⟩
  ihave Ha := (Entails.of_eq (args_eq m d)) $$ H2
  isplitl [Hst]; · iexact Hst
  isplitr [Hb Hts]
  · isplitl [H9]; · iexact H9
    isplitl [H8]; · iexact H8
    isplitl [H12]; · iexact H12
    isplitl [Hcnt]; · iexact Hcnt
    iexact Ha
  isplitl [Hb] <;> iassumption

end Proof.La
-- ==== Proof.RunAll.lean ====
module

public import proofs.«01_k».proof.Defs
public import proofs.«01_k».proof.Proof.Main

/-!
# Every run of the kernel
-/

@[expose] public section

noncomputable section

namespace Proof.La

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.ValueIdx
open Proof.Co
open Cert.KernelIdeal.Facts

variable {F : FTy → Type} [FloatOps F]

variable (m : (ℓ : Loc nD τ sig) → Buf (Elt F) ℓ) (ρ : Dev nD → PrngReg)

/-- What the claims read of a device's final memory. -/
def Fin' (d : Dev nD) (M : (ℓ : Loc nD τ sig) → Buf (Elt F) ℓ) : Prop :=
  M ((SparseCore.T d).loc main_v9) = V15 m d v9'
    ∧ M ((SparseCore.T d).loc main_v8) = V15 m d v8'
    ∧ M ((SparseCore.T d).loc main_v12) = V15 m d v12'
    ∧ M ((SparseCore.T d).loc main_v5_2) = Tc.cntOut (fw m d)
    ∧ M ((SparseCore.T d).loc main_arg0) = m ((SparseCore.T d).loc main_arg0)
    ∧ M ((SparseCore.T d).loc main_arg1) = m ((SparseCore.T d).loc main_arg1)
    ∧ M ((SparseCore.T d).loc main_arg2) = m ((SparseCore.T d).loc main_arg2)
    ∧ M ((SparseCore.T d).loc main_arg3) = m ((SparseCore.T d).loc main_arg3)
    ∧ M ((SparseCore.T d).loc main_arg4) = m ((SparseCore.T d).loc main_arg4)
    ∧ M ((SparseCore.T d).loc main_arg5) = m ((SparseCore.T d).loc main_arg5)
    ∧ M ((SparseCore.T d).loc main_arg6) = m ((SparseCore.T d).loc main_arg6)

theorem keep {s' : Phys nD τ sig (Elt F)} {ℓ : Loc nD τ sig} {f : Buf (Elt F) ℓ} :
    iprop((ℓ ↦{fullShare} f) ∗ SI s') ⊢ (iprop(⌜s'.mem.mem ℓ = f⌝ ∗ SI s') : sProp (MM F)) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜Fin' m d s'.mem.mem⌝ : sProp (MM F)) := by
  iintro ⟨⟨H0, H1, H2, H3, H4, H5, H6, H7, H8, H9, H10⟩, HSI⟩
  ihave HK := (keep (F := F)) $$ [H0 HSI]
  · isplitl [H0] <;> iassumption
  icases HK with ⟨%h0, HSI⟩
  ihave HK := (keep (F := F)) $$ [H1 HSI]
  · isplitl [H1] <;> iassumption
  icases HK with ⟨%h1, HSI⟩
  ihave HK := (keep (F := F)) $$ [H2 HSI]
  · isplitl [H2] <;> iassumption
  icases HK with ⟨%h2, HSI⟩
  ihave HK := (keep (F := F)) $$ [H3 HSI]
  · isplitl [H3] <;> iassumption
  icases HK with ⟨%h3, HSI⟩
  ihave HK := (keep (F := F)) $$ [H4 HSI]
  · isplitl [H4] <;> iassumption
  icases HK with ⟨%h4, HSI⟩
  ihave HK := (keep (F := F)) $$ [H5 HSI]
  · isplitl [H5] <;> iassumption
  icases HK with ⟨%h5, HSI⟩
  ihave HK := (keep (F := F)) $$ [H6 HSI]
  · isplitl [H6] <;> iassumption
  icases HK with ⟨%h6, HSI⟩
  ihave HK := (keep (F := F)) $$ [H7 HSI]
  · isplitl [H7] <;> iassumption
  icases HK with ⟨%h7, HSI⟩
  ihave HK := (keep (F := F)) $$ [H8 HSI]
  · isplitl [H8] <;> iassumption
  icases HK with ⟨%h8, HSI⟩
  ihave HK := (keep (F := F)) $$ [H9 HSI]
  · isplitl [H9] <;> iassumption
  icases HK with ⟨%h9, HSI⟩
  ihave HK := (keep (F := F)) $$ [H10 HSI]
  · isplitl [H10] <;> iassumption
  icases HK with ⟨%h10, HSI⟩
  ipureintro
  exact ⟨h0, h1, h2, h3, h4, h5, h6, h7, h8, h9, h10⟩

/-- What every final state has. -/
def QC : PUnit × MemSt nD τ sig (Elt F) → Prop := fun r => (∀ c : Dev nD, Fin' m c r.2.mem) ∧ r.2.sem = fun _ => 0

/-- Every run of the program ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main regGhost (FIN m) (u₀ (F := F)) (sep_elim_left.trans (hu₀ m)) (hmain m ρ) (Fin' m · ·.mem.mem) (hfin m) (QC m) (fun _ h hz => ⟨h, hz⟩)

/-- The idealized kernel's frame. -/
theorem frame_ideal : Cert.quiescent_KernelIdeal := fun m ρ _ =>
  (θ_run Cert.KernelIdeal.defs _ _).mono (fun _ h => ⟨fun c => (h.1 c).2.2.2.2, h.2⟩) (run_main (F := Ideal) m ρ)

end Proof.La
-- ==== Proof.Other.lean ====
module

public import proofs.«01_k».proof.Proof.Gen.Kernel
public import proofs.«01_k».proof.Proof.RunAll

/-!
# The kernel before it is read over the extended reals

The two programs have one text, so a run of the one is a run of the other.
-/

@[expose] public section

noncomputable section

namespace Proof.La

open Idealize.ShloMosaic Idealize.ShloMosaic.TcCoe Idealize.SL.Sem

theorem tc_same : Cert.Kernel.cc0_body (F := Bits) = Cert.KernelIdeal.cc0_body (F := Bits) := rfl

set_option maxHeartbeats 1000000 in
theorem sc_same : Cert.Kernel.cc1_body (F := Bits) = Cert.KernelIdeal.cc1_body (F := Bits) := rfl

set_option smartUnfolding false in
set_option maxHeartbeats 1000000 in
theorem bodies_same : Cert.Kernel.defs₀ (F := Bits) = Cert.KernelIdeal.defs₀ (F := Bits) := by
  funext p l a
  match p, l, a with
  | .tc, 0, (t, s) =>
    unfold Cert.Kernel.defs₀ Cert.KernelIdeal.defs₀
    dsimp only
    rw [tc_same]
    rfl
  | .tc, 1, _ => rfl
  | .scScalar c, 0, _ => rfl
  | .scScalar c, 1, _ =>
    unfold Cert.Kernel.defs₀ Cert.KernelIdeal.defs₀
    dsimp only
    rw [sc_same]
    rfl
  | .scVector c t, 0, _ => rfl
  | .scVector c t, 1, _ => rfl

set_option smartUnfolding false in
theorem tables_same : Cert.Kernel.defs (F := Bits) = Cert.KernelIdeal.defs (F := Bits) := by
  unfold Cert.Kernel.defs Cert.KernelIdeal.defs
  rw [bodies_same]
  rfl

set_option smartUnfolding false in
set_option maxHeartbeats 1000000 in
theorem main_same : Cert.Kernel.main (F := Bits) = Cert.KernelIdeal.main (F := Bits) := rfl

set_option smartUnfolding false in
theorem threads_same : Cert.Kernel.threads (F := Bits) = Cert.KernelIdeal.threads (F := Bits) := by
  unfold Cert.Kernel.threads Cert.KernelIdeal.threads
  rw [main_same]
  rfl

/-- The kernel's frame. -/
theorem frame_kernel : Cert.quiescent_Kernel := by
  intro m ρ _
  rw [tables_same, threads_same]
  exact (θ_run Cert.KernelIdeal.defs _ _).mono (fun _ h => ⟨fun c => (h.1 c).2.2.2.2, h.2⟩) (run_main (F := Bits) m ρ)

end Proof.La

end
-- ==== Proof.RefRun.lean ====
module

public import proofs.«01_k».proof.Proof.ScWords
public import proofs.«01_k».proof.Proof.Gen.ReferenceIdeal.Step

/-!
# The reference, state by state

After `n` references, batch `b` has stored as many rows as its first `n` flags count; slot `j` holds the key of the
flagged reference with `j` flagged ones before it, and the value of the first flagged one.
-/

@[expose] public section

noncomputable section

namespace Proof.Rf

open Cert.ReferenceIdeal Cert.ReferenceIdeal.Gen Cert.ReferenceIdeal.Step
open Idealize.ShloMosaic
open Idealize.ShloMosaic.ValueIdx
open Proof.Sc (Flags On cn so cn_le cn_mono so_facts so_eq)

variable {F : FTy → Type} [FloatOps F]

/-! ## Slices at the loop's index -/

/-- The start of a trip's slice: the index, which is not negative, kept inside the array. -/
def start (n : ℕ) : ℕ :=
  (min (max (Scalar.select (IntOp.cmpi .slt (BitVec.ofNat 32 n) 0#32) (IntOp.addi (BitVec.ofNat 32 n) 16#32) (BitVec.ofNat 32 n)).toInt 0)
    ((16 - 1 : Nat) : Int)).toNat

theorem start_eq : ∀ n : Fin 16, start n.val = n.val := by decide

theorem flag_at (s : State F) (n : Fin 16) (y : S4x1.Idx) : b9 n.val s y = s.main_v5_0 (ix2 (y 0) n) := by
  unfold b9 Host.dynamicSlice
  refine congrArg s.main_v5_0 (funext fun a => Fin.ext ?_)
  match a with
  | ⟨0, _⟩ => exact Nat.zero_add _
  | ⟨1, _⟩ =>
    have h : (y 1).val < 1 := (y 1).isLt
    show start n.val + (y 1).val = n.val
    rw [start_eq]; omega

theorem value_at (s : State F) (n : Fin 16) (y : S4x1x640x16x16.Idx) :
    b22 n.val s y = s.main_v5_1 (ix5 (y 0) n (y 2) (y 3) (y 4)) := by
  unfold b22 Host.dynamicSlice
  refine congrArg s.main_v5_1 (funext fun a => Fin.ext ?_)
  match a with
  | ⟨0, _⟩ => exact Nat.zero_add _
  | ⟨1, _⟩ =>
    have h : (y 1).val < 1 := (y 1).isLt
    show start n.val + (y 1).val = n.val
    rw [start_eq]; omega
  | ⟨2, _⟩ => exact Nat.zero_add _
  | ⟨3, _⟩ => exact Nat.zero_add _
  | ⟨4, _⟩ => exact Nat.zero_add _

theorem key_at (s : State F) (n : Fin 16) (y : S4x1x640.Idx) : b42 n.val s y = s.main_v5_3 (ix3 (y 0) n (y 2)) := by
  unfold b42 Host.dynamicSlice
  refine congrArg s.main_v5_3 (funext fun a => Fin.ext ?_)
  match a with
  | ⟨0, _⟩ => exact Nat.zero_add _
  | ⟨1, _⟩ =>
    have h : (y 1).val < 1 := (y 1).isLt
    show start n.val + (y 1).val = n.val
    rw [start_eq]; omega
  | ⟨2, _⟩ => exact Nat.zero_add _

/-! ## The masks at a place -/

theorem first_mask (s : State F) (n : ℕ) (y : S4x1x640x16x16.Idx) : b24 n s y = b11 n s (ix2 (y 0) (0 : Fin 1)) := by
  unfold b24 b23 broadcastInDim shapeCast
  refine congrArg (b11 n s) (Shape.reshapeEquiv_eq_of_rowMajor _ ?_)
  rw [Shape.rowMajor_val_two, Shape.rowMajor_val_five]
  show (y 0).val * 1 + 0 = ((((y 0).val * 1 + 0) * 1 + 0) * 1 + 0) * 1 + 0
  omega

theorem key_mask (s : State F) (n : ℕ) (y : S4x32x640.Idx) : b44 n s y = b33 n s (ix2 (y 0) (y 1)) := by
  unfold b44 b43 broadcastInDim shapeCast
  refine congrArg (b33 n s) (Shape.reshapeEquiv_eq_of_rowMajor _ ?_)
  rw [Shape.rowMajor_val_two, Shape.rowMajor_val_three]
  show (y 0).val * 32 + (y 1).val = ((y 0).val * 32 + (y 1).val) * 1 + 0
  omega

theorem value_mask (s : State F) (n : ℕ) (y : S4x32x640x16x16.Idx) : b48 n s y = b33 n s (ix2 (y 0) (y 1)) := by
  unfold b48 b47 broadcastInDim shapeCast
  refine congrArg (b33 n s) (Shape.reshapeEquiv_eq_of_rowMajor _ ?_)
  rw [Shape.rowMajor_val_two, Shape.rowMajor_val_five]
  show (y 0).val * 32 + (y 1).val = ((((y 0).val * 32 + (y 1).val) * 1 + 0) * 1 + 0) * 1 + 0
  omega

theorem key_row (s : State F) (n : ℕ) (y : S4x32x640.Idx) : b45 n s y = b42 n s (ix3 (y 0) (0 : Fin 1) (y 2)) := by
  unfold b45 broadcastInDim
  refine congrArg (b42 n s) (funext fun a => Fin.ext ?_)
  match a with
  | ⟨0, _⟩ => rfl
  | ⟨1, _⟩ => rfl
  | ⟨2, _⟩ => rfl

theorem value_row (s : State F) (n : ℕ) (y : S4x32x640x16x16.Idx) :
    b49 n s y = b25 n s (ix5 (y 0) (0 : Fin 1) (y 2) (y 3) (y 4)) := by
  unfold b49 broadcastInDim
  refine congrArg (b25 n s) (funext fun a => Fin.ext ?_)
  match a with
  | ⟨0, _⟩ => rfl
  | ⟨1, _⟩ => rfl
  | ⟨2, _⟩ => rfl
  | ⟨3, _⟩ => rfl
  | ⟨4, _⟩ => rfl

theorem write_mask (s : State F) (n : ℕ) (y : S4x32.Idx) :
    b33 n s y = IntOp.andi (IntOp.cmpi .eq (BitVec.ofNat 32 (y 1).val) (IntOp.remsi .host (s.main_v5_11 (ix2 (y 0) (0 : Fin 1))) 32#32))
      (b9 n s (ix2 (y 0) (0 : Fin 1))) := by
  unfold b33 b31 b32 b30 b29 b28 b27 b26 K_main_v1 K_main_v0 andi cmpi broadcastInDim
  refine congrArg₂ IntOp.andi (congrArg₂ (IntOp.cmpi .eq) rfl (congrArg (fun w => IntOp.remsi .host w 32#32) (congrArg s.main_v5_11 ?_))) (congrArg (b9 n s) ?_)
  · funext a; match a with | ⟨0, _⟩ => rfl | ⟨1, _⟩ => rfl
  · funext a; match a with | ⟨0, _⟩ => rfl | ⟨1, _⟩ => rfl

/-! ## Bits -/

theorem bit_cases : ∀ x : BitVec 1, x = 0#1 ∨ x = 1#1 := by decide

theorem and_bits (p q : Bool) : IntOp.andi (BitVec.ofBool p) (BitVec.ofBool q) = BitVec.ofBool (p && q) := by
  cases p <;> cases q <;> rfl

theorem or_bits (p q : Bool) : IntOp.ori (BitVec.ofBool p) (BitVec.ofBool q) = BitVec.ofBool (p || q) := by
  cases p <;> cases q <;> rfl

theorem not_bit (p : Bool) : ~~~ (BitVec.ofBool p) = BitVec.ofBool (!p) := by cases p <;> rfl

theorem select_bit {α : Type} (p : Prop) [Decidable p] (x y : α) :
    Scalar.select (BitVec.ofBool (decide p)) x y = if p then x else y := by
  by_cases h : p
  · rw [if_pos h, decide_eq_true h]; rfl
  · rw [if_neg h, decide_eq_false h]; rfl

theorem rem_small : ∀ c : Fin 17, IntOp.remsi .host (BitVec.ofNat 32 c.val) 32#32 = BitVec.ofNat 32 c.val := by decide

theorem eq_small {j c : ℕ} (hj : j < 32) (hc : c ≤ 16) :
    IntOp.cmpi .eq (BitVec.ofNat 32 j) (BitVec.ofNat 32 c) = BitVec.ofBool (decide (c = j)) := by
  show BitVec.ofBool (BitVec.ofNat 32 j == BitVec.ofNat 32 c) = _
  congr 1
  rw [Bool.eq_iff_iff, beq_iff_eq, decide_eq_true_eq, ← BitVec.toNat_inj, BitVec.toNat_ofNat, BitVec.toNat_ofNat,
    Nat.mod_eq_of_lt (by omega), Nat.mod_eq_of_lt (by omega)]
  exact eq_comm

/-! ## The flags of a batch -/

/-- A batch's flags, as words. -/
def fl (a2 : S4x16.Idx → BitVec 1) (b : Fin 4) : Fin 16 → BitVec 32 := fun r => (a2 (ix2 b r)).setWidth 32

theorem fl_flags (a2 : S4x16.Idx → BitVec 1) (b : Fin 4) : Flags (fl a2 b) := fun r => by
  unfold fl
  rcases bit_cases (a2 (ix2 b r)) with h | h <;> rw [h]
  · exact .inl rfl
  · exact .inr rfl

theorem fl_bit (a2 : S4x16.Idx → BitVec 1) (b : Fin 4) (n : Fin 16) :
    a2 (ix2 b n) = BitVec.ofBool (decide (On (fl a2 b) n.val)) := by
  have e : On (fl a2 b) n.val ↔ (a2 (ix2 b n)).setWidth 32 = 1#32 := Sc.On_iff n.isLt
  rcases bit_cases (a2 (ix2 b n)) with h | h <;> rw [h] at e ⊢
  · rw [decide_eq_false (fun c => absurd (e.mp c) (by decide))]; rfl
  · rw [decide_eq_true (e.mpr (by decide))]; rfl

/-- The flagged reference, of the first `n`, with `j` flagged ones before it. -/
def row (v : Fin 16 → BitVec 32) (j n : ℕ) : Fin 16 := ⟨so v j n % 16, Nat.mod_lt _ (by decide)⟩

theorem row_new {v : Fin 16 → BitVec 32} {j : ℕ} (n : Fin 16) (h : On v n.val ∧ cn v n.val = j) : row v j (n.val + 1) = n := by
  refine Fin.ext ?_
  show so v j (n.val + 1) % 16 = n.val
  rw [so_eq v h.1 h.2 (Nat.lt_succ_self _), Nat.mod_eq_of_lt n.isLt]

theorem row_old {v : Fin 16 → BitVec 32} {j n : ℕ} (h : ¬ (On v n ∧ cn v n = j)) : row v j (n + 1) = row v j n := by
  unfold row
  simp only [so, if_neg h, Nat.add_zero]

theorem cn_new {v : Fin 16 → BitVec 32} {j n : ℕ} (h : On v n ∧ cn v n = j) : j < cn v (n + 1) := by
  simp only [cn, if_pos h.1]; omega

theorem cn_old {v : Fin 16 → BitVec 32} {j n : ℕ} (h : ¬ (On v n ∧ cn v n = j)) : j < cn v (n + 1) ↔ j < cn v n := by
  simp only [cn]
  by_cases ho : On v n
  · have : cn v n ≠ j := fun c => h ⟨ho, c⟩
    rw [if_pos ho]; omega
  · rw [if_neg ho]; omega

/-! ## The states -/

section states

variable (a0 : S4x16x640.Idx → Elt F .f32) (a1 : S4x16x640x16x16.Idx → Elt F .f32) (a2 : S4x16.Idx → BitVec 1)
  (a3 : S4x32x640.Idx → Elt F .f32) (a4 : S4x32x640x16x16.Idx → Elt F .f32)

/-- What the state holds after `n` references. -/
structure Inv (n : ℕ) (s : State F) : Prop where
  keys : s.main_v5_3 = a0
  values : s.main_v5_1 = a1
  flags : s.main_v5_0 = a2
  found : ∀ y, s.main_v5_6 y = BitVec.ofBool (decide (0 < cn (fl a2 (y 0)) n))
  first : ∀ y, s.main_v5_7 y = a1 (ix5 (y 0) (row (fl a2 (y 0)) 0 n) (y 2) (y 3) (y 4))
  key : ∀ y, s.main_v5_8 y = if (y 1).val < cn (fl a2 (y 0)) n then a0 (ix3 (y 0) (row (fl a2 (y 0)) (y 1).val n) (y 2)) else a3 y
  value : ∀ y, s.main_v5_9 y = if (y 1).val < cn (fl a2 (y 0)) n then a1 (ix5 (y 0) (row (fl a2 (y 0)) 0 n) (y 2) (y 3) (y 4)) else a4 y
  valid : ∀ y, s.main_v5_10 y = BitVec.ofBool (decide ((y 1).val < cn (fl a2 (y 0)) n))
  count : ∀ y, s.main_v5_11 y = BitVec.ofNat 32 (cn (fl a2 (y 0)) n)

variable {a0 a1 a2 a3 a4} {n : Fin 16} {s : State F} (h : Inv a0 a1 a2 a3 a4 n.val s)
include h

theorem flag_bit (y : S4x1.Idx) : b9 n.val s y = BitVec.ofBool (decide (On (fl a2 (y 0)) n.val)) := by
  rw [flag_at, h.flags]
  exact fl_bit a2 (y 0) n

theorem write_bit (y : S4x32.Idx) :
    b33 n.val s y = BitVec.ofBool (decide (On (fl a2 (y 0)) n.val ∧ cn (fl a2 (y 0)) n.val = (y 1).val)) := by
  have hc := cn_le (fl a2 (y 0)) n.val
  have hr := rem_small ⟨cn (fl a2 (y 0)) n.val, by omega⟩
  rw [write_mask, h.count, flag_bit h]
  show IntOp.andi (IntOp.cmpi .eq _ (IntOp.remsi .host (BitVec.ofNat 32 (cn (fl a2 (y 0)) n.val)) 32#32)) (BitVec.ofBool (decide (On (fl a2 (y 0)) n.val))) = _
  rw [hr, eq_small (y 1).isLt (by omega), and_bits]
  congr 1
  rw [Bool.and_comm]
  exact (Bool.decide_and _ _).symm

theorem first_step (y : S4x1x640x16x16.Idx) :
    b25 n.val s y = a1 (ix5 (y 0) (row (fl a2 (y 0)) 0 (n.val + 1)) (y 2) (y 3) (y 4)) := by
  have hm : b11 n.val s (ix2 (y 0) (0 : Fin 1)) = BitVec.ofBool (decide (On (fl a2 (y 0)) n.val ∧ cn (fl a2 (y 0)) n.val = 0)) := by
    show IntOp.andi (b9 n.val s _) (~~~ (s.main_v5_6 _)) = _
    rw [flag_bit h, h.found, not_bit, and_bits]
    congr 1
    rw [Bool.decide_and]
    congr 1
    rw [← decide_not]
    exact decide_eq_decide.mpr (by show ¬ 0 < cn (fl a2 (y 0)) n.val ↔ _; omega)
  show Scalar.select (b24 n.val s y) (b22 n.val s y) (s.main_v5_7 y) = _
  rw [first_mask, hm, select_bit, value_at, h.first, h.values]
  by_cases hw : On (fl a2 (y 0)) n.val ∧ cn (fl a2 (y 0)) n.val = 0
  · rw [if_pos hw, row_new n hw]
  · rw [if_neg hw, row_old hw]

theorem key_step (y : S4x32x640.Idx) : b46 n.val s y
    = if (y 1).val < cn (fl a2 (y 0)) (n.val + 1) then a0 (ix3 (y 0) (row (fl a2 (y 0)) (y 1).val (n.val + 1)) (y 2)) else a3 y := by
  show Scalar.select (b44 n.val s y) (b45 n.val s y) (s.main_v5_8 y) = _
  rw [key_mask, write_bit h, select_bit, key_row, key_at, h.key, h.keys]
  show (if On (fl a2 (y 0)) n.val ∧ cn (fl a2 (y 0)) n.val = (y 1).val then a0 (ix3 (y 0) n (y 2)) else _) = _
  by_cases hw : On (fl a2 (y 0)) n.val ∧ cn (fl a2 (y 0)) n.val = (y 1).val
  · rw [if_pos hw, if_pos (cn_new hw), row_new n hw]
  · rw [if_neg hw, row_old hw]
    simp only [cn_old hw]

theorem value_step (y : S4x32x640x16x16.Idx) : b50 n.val s y
    = if (y 1).val < cn (fl a2 (y 0)) (n.val + 1) then a1 (ix5 (y 0) (row (fl a2 (y 0)) 0 (n.val + 1)) (y 2) (y 3) (y 4)) else a4 y := by
  show Scalar.select (b48 n.val s y) (b49 n.val s y) (s.main_v5_9 y) = _
  rw [value_mask, write_bit h, select_bit, value_row, first_step h, h.value]
  show (if On (fl a2 (y 0)) n.val ∧ cn (fl a2 (y 0)) n.val = (y 1).val then
    a1 (ix5 (y 0) (row (fl a2 (y 0)) 0 (n.val + 1)) (y 2) (y 3) (y 4)) else _) = _
  by_cases hw : On (fl a2 (y 0)) n.val ∧ cn (fl a2 (y 0)) n.val = (y 1).val
  · rw [if_pos hw, if_pos (cn_new hw)]
  · rw [if_neg hw]
    simp only [cn_old hw]
    by_cases hj : (y 1).val < cn (fl a2 (y 0)) n.val
    · rw [if_pos hj, if_pos hj, row_old (fun c => by omega)]
    · rw [if_neg hj, if_neg hj]

theorem step_inv : Inv a0 a1 a2 a3 a4 (n.val + 1) (step n.val s) where
  keys := h.keys
  values := h.values
  flags := h.flags
  found := fun y => by
    show IntOp.ori (s.main_v5_6 y) (b9 n.val s y) = _
    rw [h.found, flag_bit h, or_bits]
    congr 1
    rw [← Bool.decide_or]
    refine decide_eq_decide.mpr ?_
    simp only [cn]
    by_cases ho : On (fl a2 (y 0)) n.val
    · simp only [ho, or_true, if_true, true_iff]; omega
    · simp only [ho, or_false, if_false, Nat.add_zero]
  first := first_step h
  key := key_step h
  value := value_step h
  valid := fun y => by
    show IntOp.ori (s.main_v5_10 y) (b33 n.val s y) = _
    rw [h.valid, write_bit h, or_bits]
    congr 1
    rw [← Bool.decide_or]
    refine decide_eq_decide.mpr ?_
    by_cases hw : On (fl a2 (y 0)) n.val ∧ cn (fl a2 (y 0)) n.val = (y 1).val
    · exact iff_of_true (.inr hw) (cn_new hw)
    · rw [cn_old hw]; exact or_iff_left hw
  count := fun y => by
    show s.main_v5_11 y + (b9 n.val s y).setWidth 32 = _
    rw [h.count, flag_bit h]
    simp only [cn]
    by_cases ho : On (fl a2 (y 0)) n.val
    · rw [if_pos ho, decide_eq_true ho, BitVec.ofNat_add]; rfl
    · rw [if_neg ho, decide_eq_false ho, BitVec.ofNat_add]; rfl

end states

/-! ## From the arguments -/

/-- The states of the loop. -/
def it (a0 : S4x16x640.Idx → Elt F .f32) (a1 : S4x16x640x16x16.Idx → Elt F .f32) (a2 : S4x16.Idx → BitVec 1)
    (a3 : S4x32x640.Idx → Elt F .f32) (a4 : S4x32x640x16x16.Idx → Elt F .f32) (a5 : S4x32.Idx → BitVec 1) (a6 : S4.Idx → BitVec 32) : ℕ → State F
  | 0 => init a3 a4 a5 a2 a1 a0 a6
  | n + 1 => step n (it a0 a1 a2 a3 a4 a5 a6 n)

theorem it_inv {a0 : S4x16x640.Idx → Elt F .f32} {a1 : S4x16x640x16x16.Idx → Elt F .f32} {a2 : S4x16.Idx → BitVec 1}
    {a3 : S4x32x640.Idx → Elt F .f32} {a4 : S4x32x640x16x16.Idx → Elt F .f32} {a5 : S4x32.Idx → BitVec 1} {a6 : S4.Idx → BitVec 32}
    (h5 : ∀ y, a5 y = 0#1) (h6 : ∀ y, a6 y = 0#32) : ∀ n, n ≤ 16 → Inv a0 a1 a2 a3 a4 n (it a0 a1 a2 a3 a4 a5 a6 n)
  | 0, _ => {
      keys := rfl
      values := rfl
      flags := rfl
      found := fun _ => rfl
      first := fun y => by
        show A_main_v3 a1 a6 y = _
        unfold A_main_v3 extractStridedSlice
        refine congrArg a1 (funext fun a => Fin.ext ?_)
        match a with
        | ⟨0, _⟩ => exact Nat.zero_add _
        | ⟨1, _⟩ => have h : (y 1).val < 1 := (y 1).isLt; show 0 + (y 1).val = 0; omega
        | ⟨2, _⟩ => exact Nat.zero_add _
        | ⟨3, _⟩ => exact Nat.zero_add _
        | ⟨4, _⟩ => exact Nat.zero_add _
      key := fun _ => rfl
      value := fun _ => rfl
      valid := fun y => h5 y
      count := fun y => by
        show A_main_v4 a1 a6 y = _
        unfold A_main_v4 broadcastInDim
        rw [h6]; rfl }
  | n + 1, hn => step_inv (n := ⟨n, by omega⟩) (it_inv h5 h6 n (by omega))

end Proof.Rf

end
-- ==== Proof.Values.lean ====
module

public import proofs.«01_k».proof.Proof.RefRun
public import proofs.«01_k».proof.Proof.Main

/-!
# The kernel's results, place by place
-/

@[expose] public section

noncomputable section

namespace Proof.La

open Cert.KernelIdeal Cert.KernelIdeal.Gen
open Idealize.ShloMosaic Idealize.ShloMosaic.TcCoe
open Idealize.ShloMosaic.ValueIdx
open Proof.Co
open Proof.Rf (fl row select_bit)
open Proof.Sc (Flags On cn so)

variable {F : FTy → Type} [FloatOps F]

/-! ## The words -/

/-- One more row tried for the first valid one. -/
theorem first_more {v : Fin 16 → BitVec 32} (hv : Flags v) {k : ℕ} (hk : k < 16) {x : BitVec 32}
    (hx : cn v (k + 1) = 0 → x.toNat = so v 0 16) (h : cn v k = 0) :
    (Scalar.select (Scalar.cmpi .sgt (v ⟨k, hk⟩) 0#32) (BitVec.ofNat 32 k) x).toNat = so v 0 16 := by
  rcases hv ⟨k, hk⟩ with e | e
  · rw [e]
    refine hx ?_
    have : ¬ On v k := fun c => by have := (Sc.On_iff hk).mp c; rw [e] at this; exact absurd this (by decide)
    simp only [cn, h, if_neg this]
  · rw [e, Sc.so_eq v ((Sc.On_iff hk).mpr e) h hk]
    show (BitVec.ofNat 32 k).toNat = k
    rw [BitVec.toNat_ofNat]; omega

theorem first_valid {v : Fin 16 → BitVec 32} (hv : Flags v) : (Tc.fv v).toNat = so v 0 16 :=
  first_more hv (k := 0) (by decide) (first_more hv (k := 1) (by decide) (first_more hv (k := 2) (by decide)
  (first_more hv (k := 3) (by decide) (first_more hv (k := 4) (by decide) (first_more hv (k := 5) (by decide)
  (first_more hv (k := 6) (by decide) (first_more hv (k := 7) (by decide) (first_more hv (k := 8) (by decide)
  (first_more hv (k := 9) (by decide) (first_more hv (k := 10) (by decide) (first_more hv (k := 11) (by decide)
  (first_more hv (k := 12) (by decide) (first_more hv (k := 13) (by decide) (first_more hv (k := 14) (by decide)
  (first_more hv (k := 15) (by decide) (fun h => ((Sc.so_facts v 0 16).1 h.le).symm)))))))))))))))) rfl

theorem more_than {v : Fin 16 → BitVec 32} (hv : Flags v) {j : ℕ} (hj : j < 32) :
    Scalar.cmpi .sgt (Tc.nvT v) (BitVec.ofNat 32 j) = BitVec.ofBool (decide (j < cn v 16)) := by
  rw [Tc.nvT_eq, Sc.sgt_nv hv hj]

theorem source_row {v : Fin 16 → BitVec 32} (hv : Flags v) (b : ℕ) {j : ℕ} (hj : j < 32) :
    Tc.rw' b v j = if j < cn v 16 then BitVec.ofNat 32 b else 4#32 := by
  unfold Tc.rw'
  rw [more_than hv hj, select_bit]

theorem bit_word {v : Fin 16 → BitVec 32} (hv : Flags v) {j : ℕ} (hj : j < 32) :
    IntOp.cmpi .ne (Tc.bit v j) 0#32 = BitVec.ofBool (decide (j < cn v 16)) := by
  unfold Tc.bit
  rw [more_than hv hj, select_bit]
  by_cases h : j < cn v 16
  · rw [if_pos h, decide_eq_true h]; rfl
  · rw [if_neg h, decide_eq_false h]; rfl

theorem count_word {v : Fin 16 → BitVec 32} (hv : Flags v) : Tc.nvT v = BitVec.ofNat 32 (cn v 16) := by
  have := Sc.cn_le v 16
  rw [Tc.nvT_eq, ← BitVec.toNat_inj, Sc.nv_toNat hv, BitVec.toNat_ofNat]
  omega

theorem first_row {v : Fin 16 → BitVec 32} (hv : Flags v) (h : (Tc.fv v).toNat < 16) : (⟨(Tc.fv v).toNat, h⟩ : Fin 16) = row v 0 16 := by
  refine Fin.ext ?_
  show (Tc.fv v).toNat = so v 0 16 % 16
  rw [first_valid hv] at h ⊢
  omega

/-! ## The TensorCore call's results -/

theorem scr_row (f1 : S4x16x256x640.Idx → Elt F .f32) (fw : S4x16.Idx → BitVec 32) (b : Fin 4) (z : S5x256x640.Idx) (hz : (z 0).val = b.val) :
    Tc.scr f1 fw z = f1 (ix4 b ⟨(Tc.fv (Sc.rowW fw b)).toNat, Tc.fv_lt _⟩ (z 1) (z 2)) := by
  unfold Tc.scr
  refine (dif_pos (by omega)).trans ?_
  exact congrArg (fun c : Fin 4 => f1 (ix4 c ⟨(Tc.fv (Sc.rowW fw c)).toNat, Tc.fv_lt _⟩ (z 1) (z 2))) (Fin.ext hz)

theorem scr_zero (f1 : S4x16x256x640.Idx → Elt F .f32) (fw : S4x16.Idx → BitVec 32) (z : S5x256x640.Idx) (hz : (z 0).val = 4) :
    Tc.scr f1 fw z = Tc.zf := by
  unfold Tc.scr
  exact dif_neg (by omega)

theorem values_at (f1 : S4x16x256x640.Idx → Elt F .f32) (fw : S4x16.Idx → BitVec 32) (hv : ∀ b, Flags (Sc.rowW fw b)) (y : S4x32x256x640.Idx) :
    Tc.valOut f1 fw y = if (y 1).val < cn (Sc.rowW fw (y 0)) 16 then f1 (ix4 (y 0) (row (Sc.rowW fw (y 0)) 0 16) (y 2) (y 3)) else Tc.zf := by
  have hr := source_row (hv (y 0)) (y 0).val (y 1).isLt
  have h0 : (y 0).val < 4 := (y 0).isLt
  by_cases h : (y 1).val < cn (Sc.rowW fw (y 0)) 16
  · rw [if_pos h] at hr ⊢
    refine (scr_row f1 fw (y 0) _ ?_).trans ?_
    · show (Tc.rw' (y 0).val (Sc.rowW fw (y 0)) (y 1).val).toNat = (y 0).val
      rw [hr, BitVec.toNat_ofNat]; omega
    · exact congrArg (fun r => f1 (ix4 (y 0) r (y 2) (y 3))) (first_row (hv (y 0)) _)
  · rw [if_neg h] at hr ⊢
    refine scr_zero f1 fw _ ?_
    show (Tc.rw' (y 0).val (Sc.rowW fw (y 0)) (y 1).val).toNat = 4
    rw [hr]; rfl

theorem bits_at (fw : S4x16.Idx → BitVec 32) (hv : ∀ b, Flags (Sc.rowW fw b)) (y : S4x32.Idx) :
    IntOp.cmpi .ne (Tc.bitOut fw y) 0#32 = BitVec.ofBool (decide ((y 1).val < cn (Sc.rowW fw (y 0)) 16)) :=
  bit_word (hv (y 0)) (y 1).isLt

theorem counts_at (fw : S4x16.Idx → BitVec 32) (hv : ∀ b, Flags (Sc.rowW fw b)) (y : S4.Idx) :
    Tc.cntOut fw y = BitVec.ofNat 32 (cn (Sc.rowW fw (y 0)) 16) :=
  count_word (hv (y 0))

/-! ## The SparseCore call's result -/

theorem slot_at (fk : S4x10240.Idx → Elt F .f32) (fz : S640.Idx → Elt F .f32) (b : Fin 4) {v : Fin 16 → BitVec 32} (hv : Flags v)
    {j x : ℕ} (hj : j < 32) (hx : x < 640) : Sc.slotVal fk fz b v j x
      = if j < cn v 16 then fk (ix2 b ⟨(row v j 16).val * 640 + x, by have := (row v j 16).isLt; omega⟩) else fz (ix1 ⟨x, hx⟩) := by
  unfold Sc.slotVal
  by_cases h : j < cn v 16
  · have hc := Sc.cn_le v 16
    rw [if_pos h, if_pos ((Sc.kc_iff hv hj).mpr h)]
    have hs := (Sc.so_facts v j 16).2
    refine congrArg fk (congrArg (ix2 b) (Fin.ext ?_))
    show (Sc.srcAt v j + x) % 10240 = so v j 16 % 16 * 640 + x
    unfold Sc.srcAt
    rw [if_pos (by omega), Sc.off_toNat hv (by omega)]
    omega
  · rw [if_neg h, if_neg (fun c => h ((Sc.kc_iff hv hj).mp c))]
    exact congrArg fz (congrArg ix1 (Fin.ext (Nat.mod_eq_of_lt hx)))

/-! ## What the calls find -/

variable (m : (ℓ : Loc nD τ sig) → Buf (Elt F) ℓ) (d : Dev nD)

abbrev A0 : S4x16x640.Idx → Elt F .f32 := m (d, arg0')
abbrev A1' : S4x16x640x16x16.Idx → Elt F .f32 := m (d, arg1')
abbrev A2' : S4x16.Idx → BitVec 1 := m (d, arg2')

theorem rows_eq (b : Fin 4) : Sc.rowW (fw m d) b = fl (A2' m d) b := by
  rw [fw_eq]; rfl

theorem fk_eq : fk m d = (shapeCast S4x10240 (A0 m d) Facts₀.shapeCasts_S4x16x640_S4x10240 : S4x10240.Idx → Elt F .f32) := by
  unfold fk V6
  rw [(o5 (F := F)).result_of_not_mem _ (show v1' ∉ ({v4'} : Finset (DevRef τ sig)) by decide),
    (o4 (F := F)).result_of_not_mem _ (show v1' ∉ ({v3'} : Finset (DevRef τ sig)) by decide),
    (o3 (F := F)).result_of_not_mem _ (show v1' ∉ ({v2'} : Finset (DevRef τ sig)) by decide),
    (o2 (F := F)).result_of_not_mem _ (show v1' ∉ ({cst'} : Finset (DevRef τ sig)) by decide)]
  refine (StableHlo.reshape_result _ _ _ _ _ _ _).trans ?_
  rw [(o0 (F := F)).result_of_not_mem _ (show arg0' ∉ ({v0'} : Finset (DevRef τ sig)) by decide)]
  rfl

theorem fz_eq : fz m d = fun _ => Tc.zf := by
  unfold fz V6
  rw [(o5 (F := F)).result_of_not_mem _ (show v2' ∉ ({v4'} : Finset (DevRef τ sig)) by decide),
    (o4 (F := F)).result_of_not_mem _ (show v2' ∉ ({v3'} : Finset (DevRef τ sig)) by decide)]
  refine (StableHlo.unary_result _ _ _ _ _ _).trans ?_
  rw [StableHlo.nullary_result]
  rfl

theorem f4_eq : f4 m d = (shapeCast S4x16x256x640 (transpose S4x16x16x16x640 [0, 1, 3, 4, 2] (A1' m d)
    Facts₀.transposes_S4x16x640x16x16_S4x16x16x16x640_0_1_3_4_2) Facts₀.shapeCasts_S4x16x16x16x640_S4x16x256x640 : S4x16x256x640.Idx → Elt F .f32) := by
  unfold f4 V6
  refine (StableHlo.reshape_result _ _ _ _ _ _ _).trans ?_
  rw [StableHlo.unary_result, (o3 (F := F)).result_of_not_mem _ (show arg1' ∉ ({v2'} : Finset (DevRef τ sig)) by decide),
    (o2 (F := F)).result_of_not_mem _ (show arg1' ∉ ({cst'} : Finset (DevRef τ sig)) by decide),
    (o1 (F := F)).result_of_not_mem _ (show arg1' ∉ ({v1'} : Finset (DevRef τ sig)) by decide),
    (o0 (F := F)).result_of_not_mem _ (show arg1' ∉ ({v0'} : Finset (DevRef τ sig)) by decide)]
  rfl

theorem fk_at (b : Fin 4) (r : Fin 16) (x : Fin 640) (h : r.val * 640 + x.val < 10240) : fk m d (ix2 b ⟨r.val * 640 + x.val, h⟩) = A0 m d (ix3 b r x) := by
  rw [fk_eq]
  unfold shapeCast
  refine congrArg (A0 m d) (Shape.reshapeEquiv_eq_of_rowMajor _ ?_)
  rw [Shape.rowMajor_val_two, Shape.rowMajor_val_three]
  show (b.val * 16 + r.val) * 640 + x.val = b.val * 10240 + (r.val * 640 + x.val)
  omega

theorem f4_at (b : Fin 4) (r : Fin 16) (p q : Fin 16) (c : Fin 640) (h : p.val * 16 + q.val < 256) :
    f4 m d (ix4 b r ⟨p.val * 16 + q.val, h⟩ c) = A1' m d (ix5 b r c p q) := by
  rw [f4_eq]
  unfold shapeCast
  refine (congrArg _ (Shape.reshapeEquiv_eq_of_rowMajor _ (y := (ix5 b r p q c : S4x16x16x16x640.Idx)) ?_)).trans ?_
  · rw [Shape.rowMajor_val_four, Shape.rowMajor_val_five]
    show (((b.val * 16 + r.val) * 16 + p.val) * 16 + q.val) * 640 + c.val = ((b.val * 16 + r.val) * 256 + (p.val * 16 + q.val)) * 640 + c.val
    omega
  · refine transpose_apply _ _ _ _ _ fun a => ?_
    match a with
    | ⟨0, _⟩ => rfl
    | ⟨1, _⟩ => rfl
    | ⟨2, _⟩ => rfl
    | ⟨3, _⟩ => rfl
    | ⟨4, _⟩ => rfl

/-! ## After the calls -/

variable (W : Valuation τ sig (Elt F))

/-- The arrays after the last host operations. -/
abbrev tail : Valuation τ sig (Elt F) := (p6 (F := F)).result (p5.result (p4.result (p3.result (p2.result (p1.result (p0.result W))))))

theorem tail_keys : tail W v9' = (shapeCast S4x32x640 (W v6' : S4x20480.Idx → Elt F .f32) Facts₀.shapeCasts_S4x20480_S4x32x640 : S4x32x640.Idx → Elt F .f32) := by
  unfold tail
  rw [(p6 (F := F)).result_of_not_mem _ (show v9' ∉ ({v12'} : Finset (DevRef τ sig)) by decide),
    (p5 (F := F)).result_of_not_mem _ (show v9' ∉ ({v11'} : Finset (DevRef τ sig)) by decide),
    (p4 (F := F)).result_of_not_mem _ (show v9' ∉ ({v10'} : Finset (DevRef τ sig)) by decide),
    (p3 (F := F)).result_of_not_mem _ (show v9' ∉ ({c'} : Finset (DevRef τ sig)) by decide)]
  refine (StableHlo.reshape_result _ _ _ _ _ _ _).trans ?_
  rw [(p1 (F := F)).result_of_not_mem _ (show v6' ∉ ({v8'} : Finset (DevRef τ sig)) by decide),
    (p0 (F := F)).result_of_not_mem _ (show v6' ∉ ({v7'} : Finset (DevRef τ sig)) by decide)]
  rfl

theorem tail_values : tail W v8' = (transpose S4x32x640x16x16 [0, 1, 4, 2, 3] (shapeCast S4x32x16x16x640 (W v5_0' : S4x32x256x640.Idx → Elt F .f32)
    Facts₀.shapeCasts_S4x32x256x640_S4x32x16x16x640) Facts₀.transposes_S4x32x16x16x640_S4x32x640x16x16_0_1_4_2_3 : S4x32x640x16x16.Idx → Elt F .f32) := by
  unfold tail
  rw [(p6 (F := F)).result_of_not_mem _ (show v8' ∉ ({v12'} : Finset (DevRef τ sig)) by decide),
    (p5 (F := F)).result_of_not_mem _ (show v8' ∉ ({v11'} : Finset (DevRef τ sig)) by decide),
    (p4 (F := F)).result_of_not_mem _ (show v8' ∉ ({v10'} : Finset (DevRef τ sig)) by decide),
    (p3 (F := F)).result_of_not_mem _ (show v8' ∉ ({c'} : Finset (DevRef τ sig)) by decide),
    (p2 (F := F)).result_of_not_mem _ (show v8' ∉ ({v9'} : Finset (DevRef τ sig)) by decide)]
  refine (StableHlo.unary_result _ _ _ _ _ _).trans ?_
  rw [StableHlo.reshape_result]
  rfl

theorem tail_bits (y : S4x32.Idx) : (tail W v12' : S4x32.Idx → BitVec 1) y = IntOp.cmpi .ne ((W v5_1' : S4x32.Idx → BitVec 32) y) 0#32 := by
  unfold tail
  rw [StableHlo.unary_result, StableHlo.binary_result, StableHlo.unary_result, StableHlo.nullary_result,
    (p4 (F := F)).result_of_not_mem _ (show v5_1' ∉ ({v10'} : Finset (DevRef τ sig)) by decide),
    (p3 (F := F)).result_of_not_mem _ (show v5_1' ∉ ({c'} : Finset (DevRef τ sig)) by decide),
    (p2 (F := F)).result_of_not_mem _ (show v5_1' ∉ ({v9'} : Finset (DevRef τ sig)) by decide),
    (p1 (F := F)).result_of_not_mem _ (show v5_1' ∉ ({v8'} : Finset (DevRef τ sig)) by decide),
    (p0 (F := F)).result_of_not_mem _ (show v5_1' ∉ ({v7'} : Finset (DevRef τ sig)) by decide)]
  rfl

/-! ## The results -/

theorem key_at (y : S4x32x640.Idx) : (V15 m d v9' : S4x32x640.Idx → Elt F .f32) y
    = if (y 1).val < cn (fl (A2' m d) (y 0)) 16 then A0 m d (ix3 (y 0) (row (fl (A2' m d) (y 0)) (y 1).val 16) (y 2)) else Tc.zf := by
  have h2 : (y 2).val < 640 := (y 2).isLt
  have h1 : (y 1).val < 32 := (y 1).isLt
  have hl : (y 1).val * 640 + (y 2).val < 20480 := by omega
  have e : (V15 m d v9' : S4x32x640.Idx → Elt F .f32) y = (V8 m d v6' : S4x20480.Idx → Elt F .f32) (ix2 (y 0) ⟨(y 1).val * 640 + (y 2).val, hl⟩) := by
    refine (congrFun (tail_keys (V8 m d)) y).trans ?_
    unfold shapeCast
    refine congrArg _ (Shape.reshapeEquiv_eq_of_rowMajor _ ?_)
    show (S4x20480.rowMajor (ix2 (y 0) ⟨(y 1).val * 640 + (y 2).val, hl⟩)).val = (S4x32x640.rowMajor y).val
    rw [Shape.rowMajor_val_two, Shape.rowMajor_val_three]
    show (y 0).val * 20480 + ((y 1).val * 640 + (y 2).val) = ((y 0).val * 32 + (y 1).val) * 640 + (y 2).val
    omega
  rw [e, V8_v6]
  show Sc.slotVal (fk m d) (fz m d) (y 0) (Sc.rowW (fw m d) (y 0)) (((y 1).val * 640 + (y 2).val) / 640) (((y 1).val * 640 + (y 2).val) % 640) = _
  rw [show ((y 1).val * 640 + (y 2).val) / 640 = (y 1).val by omega, show ((y 1).val * 640 + (y 2).val) % 640 = (y 2).val by omega]
  refine (slot_at (fk m d) (fz m d) (y 0) (flags m d (y 0)) h1 h2).trans ?_
  refine if_congr (iff_of_eq (congrArg (fun v => (y 1).val < cn v 16) (rows_eq m d (y 0)))) ?_ (congrFun (fz_eq m d) _)
  refine (fk_at m d (y 0) _ (y 2) _).trans ?_
  exact congrArg (fun v => A0 m d (ix3 (y 0) (row v (y 1).val 16) (y 2))) (rows_eq m d (y 0))

theorem value_at (y : S4x32x640x16x16.Idx) : (V15 m d v8' : S4x32x640x16x16.Idx → Elt F .f32) y
    = if (y 1).val < cn (fl (A2' m d) (y 0)) 16 then A1' m d (ix5 (y 0) (row (fl (A2' m d) (y 0)) 0 16) (y 2) (y 3) (y 4)) else Tc.zf := by
  have h3 : (y 3).val < 16 := (y 3).isLt
  have h4 : (y 4).val < 16 := (y 4).isLt
  have hl : (y 3).val * 16 + (y 4).val < 256 := by omega
  have e : (V15 m d v8' : S4x32x640x16x16.Idx → Elt F .f32) y
      = (V8 m d v5_0' : S4x32x256x640.Idx → Elt F .f32) (ix4 (y 0) (y 1) ⟨(y 3).val * 16 + (y 4).val, hl⟩ (y 2)) := by
    refine (congrFun (tail_values (V8 m d)) y).trans ?_
    refine (transpose_apply _ _ _ _ (ix5 (y 0) (y 1) (y 3) (y 4) (y 2) : S4x32x16x16x640.Idx) fun a => ?_).trans ?_
    · match a with
      | ⟨0, _⟩ => rfl
      | ⟨1, _⟩ => rfl
      | ⟨2, _⟩ => rfl
      | ⟨3, _⟩ => rfl
      | ⟨4, _⟩ => rfl
    · unfold shapeCast
      refine congrArg _ (Shape.reshapeEquiv_eq_of_rowMajor _ ?_)
      show (S4x32x256x640.rowMajor (ix4 (y 0) (y 1) ⟨(y 3).val * 16 + (y 4).val, hl⟩ (y 2))).val
        = (S4x32x16x16x640.rowMajor (ix5 (y 0) (y 1) (y 3) (y 4) (y 2))).val
      rw [Shape.rowMajor_val_four, Shape.rowMajor_val_five]
      show (((y 0).val * 32 + (y 1).val) * 256 + ((y 3).val * 16 + (y 4).val)) * 640 + (y 2).val
        = ((((y 0).val * 32 + (y 1).val) * 16 + (y 3).val) * 16 + (y 4).val) * 640 + (y 2).val
      omega
  rw [e, V8_v5_0]
  refine (values_at (f4 m d) (fw m d) (flags m d) _).trans ?_
  refine if_congr (iff_of_eq (congrArg (fun v => (y 1).val < cn v 16) (rows_eq m d (y 0)))) ?_ rfl
  refine (f4_at m d (y 0) _ (y 3) (y 4) (y 2) hl).trans ?_
  exact congrArg (fun v => A1' m d (ix5 (y 0) (row v 0 16) (y 2) (y 3) (y 4))) (rows_eq m d (y 0))

theorem valid_at (y : S4x32.Idx) : (V15 m d v12' : S4x32.Idx → BitVec 1) y = BitVec.ofBool (decide ((y 1).val < cn (fl (A2' m d) (y 0)) 16)) := by
  refine (tail_bits (V8 m d) y).trans ?_
  rw [V8_v5_1]
  refine (bits_at (fw m d) (flags m d) y).trans ?_
  exact congrArg (fun v => BitVec.ofBool (decide ((y 1).val < cn v 16))) (rows_eq m d (y 0))

theorem count_at (y : S4.Idx) : Tc.cntOut (fw m d) y = BitVec.ofNat 32 (cn (fl (A2' m d) (y 0)) 16) :=
  (counts_at (fw m d) (flags m d) y).trans (congrArg (fun v => BitVec.ofNat 32 (cn v 16)) (rows_eq m d (y 0)))

end Proof.La

end
-- ==== Proof.Agree.lean ====
module

public import proofs.«01_k».proof.Defs
public import proofs.«01_k».proof.Proof.Gen.ReferenceIdeal.StepRun
public import proofs.«01_k».proof.Proof.Values
public import proofs.«01_k».proof.Proof.RunAll

/-!
# The kernel's results are the reference's

Place by place, the arrays the kernel leaves are the arrays the sixteen trips of the reference's loop leave, when the memory starts
empty: both hold, per batch row, the valid rows of the arguments in order, then zeros.
-/

@[expose] public section

noncomputable section

namespace Proof.La

open Cert.KernelIdeal
open Idealize.ShloMosaic Idealize.ShloMosaic.TcCoe Idealize.SL.Sem
open Idealize.ShloMosaic.ValueIdx
open Proof.Co
open Proof.Rf (fl row it it_inv)

variable {F : FTy → Type} [FloatOps F]

section
variable (m : (ℓ : Loc nD τ sig) → Buf (Elt F) ℓ) (d : Dev nD)

/-- The reference's last state, of the kernel's arguments. -/
abbrev last (a3 : S4x32x640.Idx → Elt F .f32) (a4 : S4x32x640x16x16.Idx → Elt F .f32) (a5 : S4x32.Idx → BitVec 1) (a6 : S4.Idx → BitVec 32) :
    Cert.ReferenceIdeal.Step.State F := it (A0 m d) (A1' m d) (A2' m d) a3 a4 a5 a6 16

variable {a3 : S4x32x640.Idx → Elt F .f32} {a4 : S4x32x640x16x16.Idx → Elt F .f32} {a5 : S4x32.Idx → BitVec 1} {a6 : S4.Idx → BitVec 32}
variable (h3 : ∀ y, a3 y = Tc.zf) (h4 : ∀ y, a4 y = Tc.zf) (h5 : ∀ y, a5 y = 0#1) (h6 : ∀ y, a6 y = 0#32)

include h3 h5 h6 in
theorem keys_agree : ((last m d a3 a4 a5 a6).main_v5_8 : S4x32x640.Idx → Elt F .f32) = V15 m d v9' := funext fun y =>
  ((it_inv h5 h6 16 le_rfl).key y).trans ((if_congr Iff.rfl rfl (h3 y)).trans (key_at m d y).symm)

include h4 h5 h6 in
theorem values_agree : ((last m d a3 a4 a5 a6).main_v5_9 : S4x32x640x16x16.Idx → Elt F .f32) = V15 m d v8' := funext fun y =>
  ((it_inv h5 h6 16 le_rfl).value y).trans ((if_congr Iff.rfl rfl (h4 y)).trans (value_at m d y).symm)

include h5 h6 in
theorem valid_agree : ((last m d a3 a4 a5 a6).main_v5_10 : S4x32.Idx → BitVec 1) = V15 m d v12' := funext fun y =>
  ((it_inv h5 h6 16 le_rfl).valid y).trans (valid_at m d y).symm

include h5 h6 in
theorem count_agree : (Cert.ReferenceIdeal.Step.R_main_v6 (last m d a3 a4 a5 a6) : S4.Idx → BitVec 32) = Tc.cntOut (fw m d) := funext fun y => by
  refine Eq.trans ?_ (count_at m d y).symm
  unfold Cert.ReferenceIdeal.Step.R_main_v6 shapeCast
  refine (congrArg _ (Shape.reshapeEquiv_eq_of_rowMajor _ (y := (ix2 (y 0) (0 : Fin 1) : Cert.ReferenceIdeal.S4x1.Idx)) ?_)).trans
    ((it_inv h5 h6 16 le_rfl).count _)
  show (Cert.ReferenceIdeal.S4x1.rowMajor (ix2 (y 0) (0 : Fin 1))).val = (S4.rowMajor y).val
  rw [Shape.rowMajor_val_two, Shape.rowMajor_val_one]
  show (y 0).val * 1 + 0 = (y 0).val
  omega

theorem it_congr {a0 b0 : S4x16x640.Idx → Elt F .f32} {a1 b1 : S4x16x640x16x16.Idx → Elt F .f32} {a2 b2 : S4x16.Idx → BitVec 1}
    (e0 : a0 = b0) (e1 : a1 = b1) (e2 : a2 = b2) : it a0 a1 a2 a3 a4 a5 a6 16 = it b0 b1 b2 a3 a4 a5 a6 16 := by
  rw [e0, e1, e2]

end

/-- The sixteen trips of the reference, of a memory. -/
abbrev trips (m' : (ℓ : Loc Cert.ReferenceIdeal.nD Cert.ReferenceIdeal.τ Cert.ReferenceIdeal.sig) → Buf (Elt F) ℓ) (c : Dev Cert.ReferenceIdeal.nD) :
    ℕ → Cert.ReferenceIdeal.Step.State F :=
  it (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))

/-- Every run of the reference ends with the arrays the kernel leaves. -/
theorem run_reference (m : (ℓ : Loc nD τ sig) → Buf (Elt F) ℓ)
    (m' : (ℓ : Loc Cert.ReferenceIdeal.nD Cert.ReferenceIdeal.τ Cert.ReferenceIdeal.sig) → Buf (Elt F) ℓ) (ρ' : Dev Cert.ReferenceIdeal.nD → PrngReg)
    (e0 : ∀ c : Dev nD, m' ((c.tc : Thread Cert.ReferenceIdeal.nD Cert.ReferenceIdeal.τ).loc Cert.ReferenceIdeal.main_arg0) = A0 m c)
    (e1 : ∀ c : Dev nD, m' ((c.tc : Thread Cert.ReferenceIdeal.nD Cert.ReferenceIdeal.τ).loc Cert.ReferenceIdeal.main_arg1) = A1' m c)
    (e2 : ∀ c : Dev nD, m' ((c.tc : Thread Cert.ReferenceIdeal.nD Cert.ReferenceIdeal.τ).loc Cert.ReferenceIdeal.main_arg2) = A2' m c)
    (h3 : ∀ (c : Dev nD) (y : S4x32x640.Idx),
      (m' ((c.tc : Thread Cert.ReferenceIdeal.nD Cert.ReferenceIdeal.τ).loc Cert.ReferenceIdeal.main_arg3) : S4x32x640.Idx → Elt F .f32) y = Tc.zf)
    (h4 : ∀ (c : Dev nD) (y : S4x32x640x16x16.Idx),
      (m' ((c.tc : Thread Cert.ReferenceIdeal.nD Cert.ReferenceIdeal.τ).loc Cert.ReferenceIdeal.main_arg4) : S4x32x640x16x16.Idx → Elt F .f32) y = Tc.zf)
    (h5 : ∀ (c : Dev nD) (y : S4x32.Idx),
      (m' ((c.tc : Thread Cert.ReferenceIdeal.nD Cert.ReferenceIdeal.τ).loc Cert.ReferenceIdeal.main_arg5) : S4x32.Idx → BitVec 1) y = 0#1)
    (h6 : ∀ (c : Dev nD) (y : S4.Idx),
      (m' ((c.tc : Thread Cert.ReferenceIdeal.nD Cert.ReferenceIdeal.τ).loc Cert.ReferenceIdeal.main_arg6) : S4.Idx → BitVec 32) y = 0#32) :
    θ_run (Cert.ReferenceIdeal.defs (F := F)) (onTc (τ := Cert.ReferenceIdeal.τ) (Cert.ReferenceIdeal.main (F := F))) ⟨m', fun _ => 0, ρ'⟩ fun r =>
      ∀ c : Dev Cert.ReferenceIdeal.nD,
      r.2.mem ((c.tc : Thread Cert.ReferenceIdeal.nD Cert.ReferenceIdeal.τ).loc Cert.ReferenceIdeal.main_v5_8) = V15 m c v9'
      ∧ r.2.mem ((c.tc : Thread Cert.ReferenceIdeal.nD Cert.ReferenceIdeal.τ).loc Cert.ReferenceIdeal.main_v5_9) = V15 m c v8'
      ∧ r.2.mem ((c.tc : Thread Cert.ReferenceIdeal.nD Cert.ReferenceIdeal.τ).loc Cert.ReferenceIdeal.main_v5_10) = V15 m c v12'
      ∧ r.2.mem ((c.tc : Thread Cert.ReferenceIdeal.nD Cert.ReferenceIdeal.τ).loc Cert.ReferenceIdeal.main_v6) = Tc.cntOut (fw m c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) := by
  refine (θ_run _ _ _).mono (fun r h c => ?_) (Cert.ReferenceIdeal.StepRun.run_iter (F := F) m' ρ' (trips m') (fun _ => rfl) (fun _ _ => rfl))
  have e := it_congr (a3 := m' ((c.tc : Thread Cert.ReferenceIdeal.nD Cert.ReferenceIdeal.τ).loc Cert.ReferenceIdeal.main_arg3))
    (a4 := m' ((c.tc : Thread Cert.ReferenceIdeal.nD Cert.ReferenceIdeal.τ).loc Cert.ReferenceIdeal.main_arg4))
    (a5 := m' ((c.tc : Thread Cert.ReferenceIdeal.nD Cert.ReferenceIdeal.τ).loc Cert.ReferenceIdeal.main_arg5))
    (a6 := m' ((c.tc : Thread Cert.ReferenceIdeal.nD Cert.ReferenceIdeal.τ).loc Cert.ReferenceIdeal.main_arg6)) (e0 c) (e1 c) (e2 c)
  refine ⟨?_, ?_, ?_, ?_, (h c).2.2.2.2⟩
  · exact ((h c).1.trans (congrArg (fun s => s.main_v5_8) e)).trans (keys_agree m c (h3 c) (h5 c) (h6 c))
  · exact ((h c).2.1.trans (congrArg (fun s => s.main_v5_9) e)).trans (values_agree m c (h4 c) (h5 c) (h6 c))
  · exact ((h c).2.2.1.trans (congrArg (fun s => s.main_v5_10) e)).trans (valid_agree m c (h5 c) (h6 c))
  · exact ((h c).2.2.2.1.trans (congrArg Cert.ReferenceIdeal.Step.R_main_v6 e)).trans (count_agree m c (h5 c) (h6 c))

/-- The idealized reference's frame. -/
theorem frame_reference : Cert.quiescent_ReferenceIdeal := fun m' ρ' _ =>
  (θ_run Cert.ReferenceIdeal.defs _ _).mono (fun r h => ⟨fun c => (h c).2.2.2.2, sem_eq_zero_of_no_sems (by decide) r.2⟩)
    (Cert.ReferenceIdeal.StepRun.run_iter (F := Ideal) m' ρ' (trips m') (fun _ => rfl) (fun _ _ => rfl))

end Proof.La

end
-- ==== Proof.Empty.lean ====
module

public import proofs.«01_k».proof.Proof.Agree

/-!
# The claim over the extended reals

The precondition says that the memory starts empty; there the comparison with zero is equality with zero.
-/

@[expose] public section

noncomputable section

namespace Proof.La

open Idealize.ShloMosaic Idealize.ShloMosaic.TcCoe Idealize.SL.Sem

theorem holds_pre : Cert.Pre_empty_memory.Facts where
  bcast_S_S4x32x640 := by decide
  bcast_S_S4x32x640x16x16 := by decide
  bcast_S_S4 := by decide

theorem of_bool {p : Prop} [Decidable p] (h : BitVec.ofBool (decide p) = 1#1) : p := by
  by_contra c
  rw [decide_eq_false c] at h
  exact absurd h (by decide)

theorem eq_of_oeq {x y : Ideal .f32} (h : FloatOps.cmpf .oeq x y = 1#1) : x = y := by
  exact of_bool h

theorem eq_of_eq {x y : BitVec 32} (h : IntOp.cmpi .eq x y = 1#1) : x = y := by
  have : BitVec.ofBool (x == y) = 1#1 := h
  by_contra c
  rw [beq_false_of_ne c] at this
  exact absurd this (by decide)

theorem zero_of_not : ∀ x : BitVec 1, ~~~x = 1#1 → x = 0#1 := by decide

theorem algebraic : Cert.algebraic_KernelIdeal_ReferenceIdeal_pre_empty_memory (hPre_empty_memory := holds_pre) := by
  intro m g m' g' hp ha
  refine ⟨fun c => V15 m c v9', fun c => V15 m c v8', fun c => V15 m c v12', fun c => Tc.cntOut (fw m c), ?_, ?_⟩
  · exact (θ_run Cert.KernelIdeal.defs _ _).mono (fun _ h => h.1) (run_main (F := Ideal) m g)
  · refine run_reference m m' g' (fun c => (ha c).1) (fun c => (ha c).2.1) (fun c => (ha c).2.2.1) (fun c y => ?_) (fun c y => ?_) (fun c y => ?_) (fun c y => ?_)
    · exact (congrFun (ha c).2.2.2.1 y).trans (eq_of_oeq (congrFun (hp c).1 y))
    · exact (congrFun (ha c).2.2.2.2.1 y).trans (eq_of_oeq (congrFun (hp c).2.1 y))
    · exact (congrFun (ha c).2.2.2.2.2.1 y).trans (zero_of_not _ (congrFun (hp c).2.2.1 y))
    · exact (congrFun (ha c).2.2.2.2.2.2 y).trans (eq_of_eq (congrFun (hp c).2.2.2 y))

end Proof.La

end
-- ==== Proof.Words.lean ====
module

public import proofs.«01_k».proof.Proof.Gen.Reference
public import proofs.«01_k».proof.Proof.Other
public import proofs.«01_k».proof.Proof.Empty

/-!
# The claim over the words

The kernel and the reference before either is read over the extended reals: the same text, so the same runs, over words.
-/

@[expose] public section

noncomputable section

namespace Proof.La

open Idealize.ShloMosaic Idealize.ShloMosaic.TcCoe Idealize.SL.Sem

set_option smartUnfolding false in
set_option maxHeartbeats 1000000 in
theorem ref_tables_same : Cert.Reference.defs (F := Bits) = Cert.ReferenceIdeal.defs (F := Bits) := rfl

set_option smartUnfolding false in
set_option maxHeartbeats 1000000 in
theorem ref_main_same : Cert.Reference.main (F := Bits) = Cert.ReferenceIdeal.main (F := Bits) := rfl

theorem holds_blank : Cert.Pre_blank_memory.Facts where
  bcast_S_S4x32x640 := by decide
  bcast_S_S4x32x640x16x16 := by decide
  bcast_S_S4 := by decide

/-- The reference's frame. -/
theorem frame_reference_words : Cert.quiescent_Reference (hPre_blank_memory := holds_blank) := by
  intro m' ρ' _
  rw [ref_tables_same, ref_main_same]
  exact (θ_run Cert.ReferenceIdeal.defs _ _).mono (fun r h => ⟨fun c => (h c).2.2.2.2, sem_eq_zero_of_no_sems (by decide) r.2⟩)
    (Cert.ReferenceIdeal.StepRun.run_iter (F := Bits) m' ρ' (trips m') (fun _ => rfl) (fun _ _ => rfl))

theorem bitexact : Cert.bitexact_Kernel_Reference_pre_blank_memory (hPre_blank_memory := holds_blank) := by
  intro m g m' g' hp ha
  refine ⟨fun c => V15 m c v9', fun c => V15 m c v8', fun c => V15 m c v12', fun c => Tc.cntOut (fw m c), ?_, ?_⟩
  · rw [tables_same, threads_same]
    exact (θ_run Cert.KernelIdeal.defs _ _).mono (fun _ h => h.1) (run_main (F := Bits) m g)
  · rw [ref_tables_same, ref_main_same]
    refine run_reference (F := Bits) m m' g' (fun c => (ha c).1) (fun c => (ha c).2.1) (fun c => (ha c).2.2.1) (fun c y => ?_) (fun c y => ?_) (fun c y => ?_) (fun c y => ?_)
    · exact (congrFun (ha c).2.2.2.1 y).trans (eq_of_eq (congrFun (hp c).1 y))
    · exact (congrFun (ha c).2.2.2.2.1 y).trans (eq_of_eq (congrFun (hp c).2.1 y))
    · exact (congrFun (ha c).2.2.2.2.2.1 y).trans (zero_of_not _ (congrFun (hp c).2.2.1 y))
    · exact (congrFun (ha c).2.2.2.2.2.2 y).trans (eq_of_eq (congrFun (hp c).2.2.2 y))

end Proof.La

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Reference
public import proofs.«01_k».proof.Proof.Gen.ReferenceIdeal
public import proofs.«01_k».proof.Proof.Gen.ReferenceIdeal.StepRun
public import proofs.«01_k».proof.Proof.Words
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  Proof.La.holds_blank, Proof.La.holds_pre,
  Proof.La.frame_kernel, fun m g _ => Proof.La.frame_kernel m g trivial,
  Proof.La.frame_ideal, fun m g _ => Proof.La.frame_ideal m g trivial,
  Proof.La.frame_reference, fun m g _ => Proof.La.frame_reference m g trivial,
  Proof.La.frame_reference_words, trivial, Proof.La.algebraic, Proof.La.bitexact⟩

end Cert.Proof

end
